-- ==== Defs.lean ====
def Pre_FoxBwd (m : (ℓ : Loc Cert.FoxBwd.nD Cert.FoxBwd.τ Cert.FoxBwd.sig) → Buf (Elt Bits) ℓ) : Prop :=
  True

def Pre_FoxBwdIdeal (m : (ℓ : Loc Cert.FoxBwdIdeal.nD Cert.FoxBwdIdeal.τ Cert.FoxBwdIdeal.sig) → Buf (Elt Ideal) ℓ) : Prop :=
  True

def Pre_FoxBwdIdeal_fox_finite [hPre_fox_finite : Cert.Pre_fox_finite.Facts] (m : (ℓ : Loc Cert.FoxBwdIdeal.nD Cert.FoxBwdIdeal.τ Cert.FoxBwdIdeal.sig) → Buf (Elt Ideal) ℓ) : Prop :=
  ∀ c : Dev Cert.FoxBwdIdeal.nD,
    (Cert.Pre_fox_finite.fn (F := Ideal) (m ((c.tc : Thread Cert.FoxBwdIdeal.nD Cert.FoxBwdIdeal.τ).loc Cert.FoxBwdIdeal.main_arg0)) (m ((c.tc : Thread Cert.FoxBwdIdeal.nD Cert.FoxBwdIdeal.τ).loc Cert.FoxBwdIdeal.main_arg1)) (m ((c.tc : Thread Cert.FoxBwdIdeal.nD Cert.FoxBwdIdeal.τ).loc Cert.FoxBwdIdeal.main_arg2))) = (fun _ => 1#1)

def Pre_FoxRefIdeal (m : (ℓ : Loc Cert.FoxRefIdeal.nD Cert.FoxRefIdeal.τ Cert.FoxRefIdeal.sig) → Buf (Elt Ideal) ℓ) : Prop :=
  True

def Pre_FoxRefIdeal_fox_finite [hPre_fox_finite : Cert.Pre_fox_finite.Facts] (m : (ℓ : Loc Cert.FoxRefIdeal.nD Cert.FoxRefIdeal.τ Cert.FoxRefIdeal.sig) → Buf (Elt Ideal) ℓ) : Prop :=
  ∀ c : Dev Cert.FoxRefIdeal.nD,
    (Cert.Pre_fox_finite.fn (F := Ideal) (m ((c.tc : Thread Cert.FoxRefIdeal.nD Cert.FoxRefIdeal.τ).loc Cert.FoxRefIdeal.main_arg0)) (m ((c.tc : Thread Cert.FoxRefIdeal.nD Cert.FoxRefIdeal.τ).loc Cert.FoxRefIdeal.main_arg1)) (m ((c.tc : Thread Cert.FoxRefIdeal.nD Cert.FoxRefIdeal.τ).loc Cert.FoxRefIdeal.main_arg2))) = (fun _ => 1#1)

def Pre_MergeBwd (m : (ℓ : Loc Cert.MergeBwd.nD Cert.MergeBwd.τ Cert.MergeBwd.sig) → Buf (Elt Bits) ℓ) : Prop :=
  True

def Pre_MergeBwdIdeal (m : (ℓ : Loc Cert.MergeBwdIdeal.nD Cert.MergeBwdIdeal.τ Cert.MergeBwdIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_DAct (m : (ℓ : Loc Cert.DAct.nD Cert.DAct.τ Cert.DAct.sig) → Buf (Elt Bits) ℓ) : Prop :=
  True

def Pre_DActIdeal (m : (ℓ : Loc Cert.DActIdeal.nD Cert.DActIdeal.τ Cert.DActIdeal.sig) → Buf (Elt Ideal) ℓ) : Prop :=
  True

def Pre_DActRefIdeal (m : (ℓ : Loc Cert.DActRefIdeal.nD Cert.DActRefIdeal.τ Cert.DActRefIdeal.sig) → Buf (Elt Ideal) ℓ) : Prop :=
  True

def Pre_DHn2 (m : (ℓ : Loc Cert.DHn2.nD Cert.DHn2.τ Cert.DHn2.sig) → Buf (Elt Bits) ℓ) : Prop :=
  True

def Pre_DHn2Ideal (m : (ℓ : Loc Cert.DHn2Ideal.nD Cert.DHn2Ideal.τ Cert.DHn2Ideal.sig) → Buf (Elt Ideal) ℓ) : Prop :=
  True

def Pre_DHn2RefIdeal (m : (ℓ : Loc Cert.DHn2RefIdeal.nD Cert.DHn2RefIdeal.τ Cert.DHn2RefIdeal.sig) → Buf (Elt Ideal) ℓ) : Prop :=
  True

def Pre_DBranch (m : (ℓ : Loc Cert.DBranch.nD Cert.DBranch.τ Cert.DBranch.sig) → Buf (Elt Bits) ℓ) : Prop :=
  True

def Pre_DBranchIdeal (m : (ℓ : Loc Cert.DBranchIdeal.nD Cert.DBranchIdeal.τ Cert.DBranchIdeal.sig) → Buf (Elt Ideal) ℓ) : Prop :=
  True

def Pre_DBranchRefIdeal (m : (ℓ : Loc Cert.DBranchRefIdeal.nD Cert.DBranchRefIdeal.τ Cert.DBranchRefIdeal.sig) → Buf (Elt Ideal) ℓ) : Prop :=
  True

def Pre_DHFox (m : (ℓ : Loc Cert.DHFox.nD Cert.DHFox.τ Cert.DHFox.sig) → Buf (Elt Bits) ℓ) : Prop :=
  True

def Pre_DHFoxIdeal (m : (ℓ : Loc Cert.DHFoxIdeal.nD Cert.DHFoxIdeal.τ Cert.DHFoxIdeal.sig) → Buf (Elt Ideal) ℓ) : Prop :=
  True

def Pre_DHFoxRefIdeal (m : (ℓ : Loc Cert.DHFoxRefIdeal.nD Cert.DHFoxRefIdeal.τ Cert.DHFoxRefIdeal.sig) → Buf (Elt Ideal) ℓ) : Prop :=
  True

def Pre_DHQkv (m : (ℓ : Loc Cert.DHQkv.nD Cert.DHQkv.τ Cert.DHQkv.sig) → Buf (Elt Bits) ℓ) : Prop :=
  True

def Pre_DHQkvIdeal (m : (ℓ : Loc Cert.DHQkvIdeal.nD Cert.DHQkvIdeal.τ Cert.DHQkvIdeal.sig) → Buf (Elt Ideal) ℓ) : Prop :=
  True

def Pre_DHQkvRefIdeal (m : (ℓ : Loc Cert.DHQkvRefIdeal.nD Cert.DHQkvRefIdeal.τ Cert.DHQkvRefIdeal.sig) → Buf (Elt Ideal) ℓ) : Prop :=
  True

def Pre_DHGates (m : (ℓ : Loc Cert.DHGates.nD Cert.DHGates.τ Cert.DHGates.sig) → Buf (Elt Bits) ℓ) : Prop :=
  True

def Pre_DHGatesIdeal (m : (ℓ : Loc Cert.DHGatesIdeal.nD Cert.DHGatesIdeal.τ Cert.DHGatesIdeal.sig) → Buf (Elt Ideal) ℓ) : Prop :=
  True

def Pre_DHGatesRefIdeal (m : (ℓ : Loc Cert.DHGatesRefIdeal.nD Cert.DHGatesRefIdeal.τ Cert.DHGatesRefIdeal.sig) → Buf (Elt Ideal) ℓ) : Prop :=
  True

def Pre_DHGz (m : (ℓ : Loc Cert.DHGz.nD Cert.DHGz.τ Cert.DHGz.sig) → Buf (Elt Bits) ℓ) : Prop :=
  True

def Pre_DHGzIdeal (m : (ℓ : Loc Cert.DHGzIdeal.nD Cert.DHGzIdeal.τ Cert.DHGzIdeal.sig) → Buf (Elt Ideal) ℓ) : Prop :=
  True

def Pre_DHGzRefIdeal (m : (ℓ : Loc Cert.DHGzRefIdeal.nD Cert.DHGzRefIdeal.τ Cert.DHGzRefIdeal.sig) → Buf (Elt Ideal) ℓ) : Prop :=
  True

def Pre_DwDown (m : (ℓ : Loc Cert.DwDown.nD Cert.DwDown.τ Cert.DwDown.sig) → Buf (Elt Bits) ℓ) : Prop :=
  True

def Pre_DwDownIdeal (m : (ℓ : Loc Cert.DwDownIdeal.nD Cert.DwDownIdeal.τ Cert.DwDownIdeal.sig) → Buf (Elt Ideal) ℓ) : Prop :=
  True

def Pre_DwDownRefIdeal (m : (ℓ : Loc Cert.DwDownRefIdeal.nD Cert.DwDownRefIdeal.τ Cert.DwDownRefIdeal.sig) → Buf (Elt Ideal) ℓ) : Prop :=
  True

def Pre_DwUp (m : (ℓ : Loc Cert.DwUp.nD Cert.DwUp.τ Cert.DwUp.sig) → Buf (Elt Bits) ℓ) : Prop :=
  True

def Pre_DwUpIdeal (m : (ℓ : Loc Cert.DwUpIdeal.nD Cert.DwUpIdeal.τ Cert.DwUpIdeal.sig) → Buf (Elt Ideal) ℓ) : Prop :=
  True

def Pre_DwUpRefIdeal (m : (ℓ : Loc Cert.DwUpRefIdeal.nD Cert.DwUpRefIdeal.τ Cert.DwUpRefIdeal.sig) → Buf (Elt Ideal) ℓ) : Prop :=
  True

def Pre_DwOut (m : (ℓ : Loc Cert.DwOut.nD Cert.DwOut.τ Cert.DwOut.sig) → Buf (Elt Bits) ℓ) : Prop :=
  True

def Pre_DwOutIdeal (m : (ℓ : Loc Cert.DwOutIdeal.nD Cert.DwOutIdeal.τ Cert.DwOutIdeal.sig) → Buf (Elt Ideal) ℓ) : Prop :=
  True

def Pre_DwOutRefIdeal (m : (ℓ : Loc Cert.DwOutRefIdeal.nD Cert.DwOutRefIdeal.τ Cert.DwOutRefIdeal.sig) → Buf (Elt Ideal) ℓ) : Prop :=
  True

def Pre_DwQkv (m : (ℓ : Loc Cert.DwQkv.nD Cert.DwQkv.τ Cert.DwQkv.sig) → Buf (Elt Bits) ℓ) : Prop :=
  True

def Pre_DwQkvIdeal (m : (ℓ : Loc Cert.DwQkvIdeal.nD Cert.DwQkvIdeal.τ Cert.DwQkvIdeal.sig) → Buf (Elt Ideal) ℓ) : Prop :=
  True

def Pre_DwQkvRefIdeal (m : (ℓ : Loc Cert.DwQkvRefIdeal.nD Cert.DwQkvRefIdeal.τ Cert.DwQkvRefIdeal.sig) → Buf (Elt Ideal) ℓ) : Prop :=
  True

def Pre_DwGates (m : (ℓ : Loc Cert.DwGates.nD Cert.DwGates.τ Cert.DwGates.sig) → Buf (Elt Bits) ℓ) : Prop :=
  True

def Pre_DwGatesIdeal (m : (ℓ : Loc Cert.DwGatesIdeal.nD Cert.DwGatesIdeal.τ Cert.DwGatesIdeal.sig) → Buf (Elt Ideal) ℓ) : Prop :=
  True

def Pre_DwGatesRefIdeal (m : (ℓ : Loc Cert.DwGatesRefIdeal.nD Cert.DwGatesRefIdeal.τ Cert.DwGatesRefIdeal.sig) → Buf (Elt Ideal) ℓ) : Prop :=
  True

def Pre_DwGz (m : (ℓ : Loc Cert.DwGz.nD Cert.DwGz.τ Cert.DwGz.sig) → Buf (Elt Bits) ℓ) : Prop :=
  True

def Pre_DwGzIdeal (m : (ℓ : Loc Cert.DwGzIdeal.nD Cert.DwGzIdeal.τ Cert.DwGzIdeal.sig) → Buf (Elt Ideal) ℓ) : Prop :=
  True

def Pre_DwGzRefIdeal (m : (ℓ : Loc Cert.DwGzRefIdeal.nD Cert.DwGzRefIdeal.τ Cert.DwGzRefIdeal.sig) → Buf (Elt Ideal) ℓ) : Prop :=
  True

def Pre_ProjFox (m : (ℓ : Loc Cert.ProjFox.nD Cert.ProjFox.τ Cert.ProjFox.sig) → Buf (Elt Bits) ℓ) : Prop :=
  True

def Pre_ProjFoxIdeal (m : (ℓ : Loc Cert.ProjFoxIdeal.nD Cert.ProjFoxIdeal.τ Cert.ProjFoxIdeal.sig) → Buf (Elt Ideal) ℓ) : Prop :=
  True

def Pre_ProjFoxRefIdeal (m : (ℓ : Loc Cert.ProjFoxRefIdeal.nD Cert.ProjFoxRefIdeal.τ Cert.ProjFoxRefIdeal.sig) → Buf (Elt Ideal) ℓ) : Prop :=
  True

def Pre_ProjQkv (m : (ℓ : Loc Cert.ProjQkv.nD Cert.ProjQkv.τ Cert.ProjQkv.sig) → Buf (Elt Bits) ℓ) : Prop :=
  True

def Pre_ProjQkvIdeal (m : (ℓ : Loc Cert.ProjQkvIdeal.nD Cert.ProjQkvIdeal.τ Cert.ProjQkvIdeal.sig) → Buf (Elt Ideal) ℓ) : Prop :=
  True

def Pre_ProjQkvRefIdeal (m : (ℓ : Loc Cert.ProjQkvRefIdeal.nD Cert.ProjQkvRefIdeal.τ Cert.ProjQkvRefIdeal.sig) → Buf (Elt Ideal) ℓ) : Prop :=
  True

def Pre_ProjGates (m : (ℓ : Loc Cert.ProjGates.nD Cert.ProjGates.τ Cert.ProjGates.sig) → Buf (Elt Bits) ℓ) : Prop :=
  True

def Pre_ProjGatesIdeal (m : (ℓ : Loc Cert.ProjGatesIdeal.nD Cert.ProjGatesIdeal.τ Cert.ProjGatesIdeal.sig) → Buf (Elt Ideal) ℓ) : Prop :=
  True

def Pre_ProjGatesRefIdeal (m : (ℓ : Loc Cert.ProjGatesRefIdeal.nD Cert.ProjGatesRefIdeal.τ Cert.ProjGatesRefIdeal.sig) → Buf (Elt Ideal) ℓ) : Prop :=
  True

def Pre_ProjGz (m : (ℓ : Loc Cert.ProjGz.nD Cert.ProjGz.τ Cert.ProjGz.sig) → Buf (Elt Bits) ℓ) : Prop :=
  True

def Pre_ProjGzIdeal (m : (ℓ : Loc Cert.ProjGzIdeal.nD Cert.ProjGzIdeal.τ Cert.ProjGzIdeal.sig) → Buf (Elt Ideal) ℓ) : Prop :=
  True

def Pre_ProjGzRefIdeal (m : (ℓ : Loc Cert.ProjGzRefIdeal.nD Cert.ProjGzRefIdeal.τ Cert.ProjGzRefIdeal.sig) → Buf (Elt Ideal) ℓ) : Prop :=
  True

def Pre_Branch (m : (ℓ : Loc Cert.Branch.nD Cert.Branch.τ Cert.Branch.sig) → Buf (Elt Bits) ℓ) : Prop :=
  True

def Pre_BranchIdeal (m : (ℓ : Loc Cert.BranchIdeal.nD Cert.BranchIdeal.τ Cert.BranchIdeal.sig) → Buf (Elt Ideal) ℓ) : Prop :=
  True

def Pre_BranchRefIdeal (m : (ℓ : Loc Cert.BranchRefIdeal.nD Cert.BranchRefIdeal.τ Cert.BranchRefIdeal.sig) → Buf (Elt Ideal) ℓ) : Prop :=
  True

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpRefIdeal (m : (ℓ : Loc Cert.UpRefIdeal.nD Cert.UpRefIdeal.τ Cert.UpRefIdeal.sig) → Buf (Elt Ideal) ℓ) : Prop :=
  True

def Pre_AdamNorm (m : (ℓ : Loc Cert.AdamNorm.nD Cert.AdamNorm.τ Cert.AdamNorm.sig) → Buf (Elt Bits) ℓ) : Prop :=
  True

def Pre_AdamNormIdeal (m : (ℓ : Loc Cert.AdamNormIdeal.nD Cert.AdamNormIdeal.τ Cert.AdamNormIdeal.sig) → Buf (Elt Ideal) ℓ) : Prop :=
  True

def Pre_AdamNormRefIdeal (m : (ℓ : Loc Cert.AdamNormRefIdeal.nD Cert.AdamNormRefIdeal.τ Cert.AdamNormRefIdeal.sig) → Buf (Elt Ideal) ℓ) : Prop :=
  True

def Pre_AdamIn (m : (ℓ : Loc Cert.AdamIn.nD Cert.AdamIn.τ Cert.AdamIn.sig) → Buf (Elt Bits) ℓ) : Prop :=
  True

def Pre_AdamInIdeal (m : (ℓ : Loc Cert.AdamInIdeal.nD Cert.AdamInIdeal.τ Cert.AdamInIdeal.sig) → Buf (Elt Ideal) ℓ) : Prop :=
  True

def Pre_AdamInRefIdeal (m : (ℓ : Loc Cert.AdamInRefIdeal.nD Cert.AdamInRefIdeal.τ Cert.AdamInRefIdeal.sig) → Buf (Elt Ideal) ℓ) : Prop :=
  True

def Pre_AdamHead (m : (ℓ : Loc Cert.AdamHead.nD Cert.AdamHead.τ Cert.AdamHead.sig) → Buf (Elt Bits) ℓ) : Prop :=
  True

def Pre_AdamHeadIdeal (m : (ℓ : Loc Cert.AdamHeadIdeal.nD Cert.AdamHeadIdeal.τ Cert.AdamHeadIdeal.sig) → Buf (Elt Ideal) ℓ) : Prop :=
  True

def Pre_AdamHeadRefIdeal (m : (ℓ : Loc Cert.AdamHeadRefIdeal.nD Cert.AdamHeadRefIdeal.τ Cert.AdamHeadRefIdeal.sig) → Buf (Elt Ideal) ℓ) : Prop :=
  True

def Pre_AdamConv (m : (ℓ : Loc Cert.AdamConv.nD Cert.AdamConv.τ Cert.AdamConv.sig) → Buf (Elt Bits) ℓ) : Prop :=
  True

def Pre_AdamConvIdeal (m : (ℓ : Loc Cert.AdamConvIdeal.nD Cert.AdamConvIdeal.τ Cert.AdamConvIdeal.sig) → Buf (Elt Ideal) ℓ) : Prop :=
  True

def Pre_AdamConvRefIdeal (m : (ℓ : Loc Cert.AdamConvRefIdeal.nD Cert.AdamConvRefIdeal.τ Cert.AdamConvRefIdeal.sig) → Buf (Elt Ideal) ℓ) : Prop :=
  True

def Pre_AdamGnorm (m : (ℓ : Loc Cert.AdamGnorm.nD Cert.AdamGnorm.τ Cert.AdamGnorm.sig) → Buf (Elt Bits) ℓ) : Prop :=
  True

def Pre_AdamGnormIdeal (m : (ℓ : Loc Cert.AdamGnormIdeal.nD Cert.AdamGnormIdeal.τ Cert.AdamGnormIdeal.sig) → Buf (Elt Ideal) ℓ) : Prop :=
  True

def Pre_AdamGnormRefIdeal (m : (ℓ : Loc Cert.AdamGnormRefIdeal.nD Cert.AdamGnormRefIdeal.τ Cert.AdamGnormRefIdeal.sig) → Buf (Elt Ideal) ℓ) : Prop :=
  True

def Pre_AdamOut (m : (ℓ : Loc Cert.AdamOut.nD Cert.AdamOut.τ Cert.AdamOut.sig) → Buf (Elt Bits) ℓ) : Prop :=
  True

def Pre_AdamOutIdeal (m : (ℓ : Loc Cert.AdamOutIdeal.nD Cert.AdamOutIdeal.τ Cert.AdamOutIdeal.sig) → Buf (Elt Ideal) ℓ) : Prop :=
  True

def Pre_AdamOutRefIdeal (m : (ℓ : Loc Cert.AdamOutRefIdeal.nD Cert.AdamOutRefIdeal.τ Cert.AdamOutRefIdeal.sig) → Buf (Elt Ideal) ℓ) : Prop :=
  True

def Pre_AdamUp (m : (ℓ : Loc Cert.AdamUp.nD Cert.AdamUp.τ Cert.AdamUp.sig) → Buf (Elt Bits) ℓ) : Prop :=
  True

def Pre_AdamUpIdeal (m : (ℓ : Loc Cert.AdamUpIdeal.nD Cert.AdamUpIdeal.τ Cert.AdamUpIdeal.sig) → Buf (Elt Ideal) ℓ) : Prop :=
  True

def Pre_AdamUpRefIdeal (m : (ℓ : Loc Cert.AdamUpRefIdeal.nD Cert.AdamUpRefIdeal.τ Cert.AdamUpRefIdeal.sig) → Buf (Elt Ideal) ℓ) : Prop :=
  True

def Pre_AdamFconv (m : (ℓ : Loc Cert.AdamFconv.nD Cert.AdamFconv.τ Cert.AdamFconv.sig) → Buf (Elt Bits) ℓ) : Prop :=
  True

def Pre_AdamFconvIdeal (m : (ℓ : Loc Cert.AdamFconvIdeal.nD Cert.AdamFconvIdeal.τ Cert.AdamFconvIdeal.sig) → Buf (Elt Ideal) ℓ) : Prop :=
  True

def Pre_AdamFconvRefIdeal (m : (ℓ : Loc Cert.AdamFconvRefIdeal.nD Cert.AdamFconvRefIdeal.τ Cert.AdamFconvRefIdeal.sig) → Buf (Elt Ideal) ℓ) : Prop :=
  True

def Pre_AdamDown (m : (ℓ : Loc Cert.AdamDown.nD Cert.AdamDown.τ Cert.AdamDown.sig) → Buf (Elt Bits) ℓ) : Prop :=
  True

def Pre_AdamDownIdeal (m : (ℓ : Loc Cert.AdamDownIdeal.nD Cert.AdamDownIdeal.τ Cert.AdamDownIdeal.sig) → Buf (Elt Ideal) ℓ) : Prop :=
  True

def Pre_AdamDownRefIdeal (m : (ℓ : Loc Cert.AdamDownRefIdeal.nD Cert.AdamDownRefIdeal.τ Cert.AdamDownRefIdeal.sig) → Buf (Elt Ideal) ℓ) : Prop :=
  True

def Pre_GradX (m : (ℓ : Loc Cert.GradX.nD Cert.GradX.τ Cert.GradX.sig) → Buf (Elt Bits) ℓ) : Prop :=
  True

def Pre_GradXIdeal (m : (ℓ : Loc Cert.GradXIdeal.nD Cert.GradXIdeal.τ Cert.GradXIdeal.sig) → Buf (Elt Ideal) ℓ) : Prop :=
  True

def Pre_GradXRefIdeal (m : (ℓ : Loc Cert.GradXRefIdeal.nD Cert.GradXRefIdeal.τ Cert.GradXRefIdeal.sig) → Buf (Elt Ideal) ℓ) : Prop :=
  True

def Pre_DH1 (m : (ℓ : Loc Cert.DH1.nD Cert.DH1.τ Cert.DH1.sig) → Buf (Elt Bits) ℓ) : Prop :=
  True

def Pre_DH1Ideal (m : (ℓ : Loc Cert.DH1Ideal.nD Cert.DH1Ideal.τ Cert.DH1Ideal.sig) → Buf (Elt Ideal) ℓ) : Prop :=
  True

def Pre_DH1RefIdeal (m : (ℓ : Loc Cert.DH1RefIdeal.nD Cert.DH1RefIdeal.τ Cert.DH1RefIdeal.sig) → Buf (Elt Ideal) ℓ) : Prop :=
  True

def Pre_DwSmall (m : (ℓ : Loc Cert.DwSmall.nD Cert.DwSmall.τ Cert.DwSmall.sig) → Buf (Elt Bits) ℓ) : Prop :=
  True

def Pre_DwSmallIdeal (m : (ℓ : Loc Cert.DwSmallIdeal.nD Cert.DwSmallIdeal.τ Cert.DwSmallIdeal.sig) → Buf (Elt Ideal) ℓ) : Prop :=
  True

def Pre_DwSmallRefIdeal (m : (ℓ : Loc Cert.DwSmallRefIdeal.nD Cert.DwSmallRefIdeal.τ Cert.DwSmallRefIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjRefIdeal (m : (ℓ : Loc Cert.OutProjRefIdeal.nD Cert.OutProjRefIdeal.τ Cert.OutProjRefIdeal.sig) → Buf (Elt Ideal) ℓ) : Prop :=
  True

def Pre_BranchMerge (m : (ℓ : Loc Cert.BranchMerge.nD Cert.BranchMerge.τ Cert.BranchMerge.sig) → Buf (Elt Bits) ℓ) : Prop :=
  True

def Pre_BranchMergeIdeal (m : (ℓ : Loc Cert.BranchMergeIdeal.nD Cert.BranchMergeIdeal.τ Cert.BranchMergeIdeal.sig) → Buf (Elt Ideal) ℓ) : Prop :=
  True

def Pre_BranchMergeRefIdeal (m : (ℓ : Loc Cert.BranchMergeRefIdeal.nD Cert.BranchMergeRefIdeal.τ Cert.BranchMergeRefIdeal.sig) → Buf (Elt Ideal) ℓ) : Prop :=
  True

def Pre_ProjSmall (m : (ℓ : Loc Cert.ProjSmall.nD Cert.ProjSmall.τ Cert.ProjSmall.sig) → Buf (Elt Bits) ℓ) : Prop :=
  True

def Pre_ProjSmallIdeal (m : (ℓ : Loc Cert.ProjSmallIdeal.nD Cert.ProjSmallIdeal.τ Cert.ProjSmallIdeal.sig) → Buf (Elt Ideal) ℓ) : Prop :=
  True

def Pre_ProjSmallRefIdeal (m : (ℓ : Loc Cert.ProjSmallRefIdeal.nD Cert.ProjSmallRefIdeal.τ Cert.ProjSmallRefIdeal.sig) → Buf (Elt Ideal) ℓ) : Prop :=
  True

def Pre_NormMix (m : (ℓ : Loc Cert.NormMix.nD Cert.NormMix.τ Cert.NormMix.sig) → Buf (Elt Bits) ℓ) : Prop :=
  True

def Pre_NormMixIdeal (m : (ℓ : Loc Cert.NormMixIdeal.nD Cert.NormMixIdeal.τ Cert.NormMixIdeal.sig) → Buf (Elt Ideal) ℓ) : Prop :=
  True

def Pre_NormMixRefIdeal (m : (ℓ : Loc Cert.NormMixRefIdeal.nD Cert.NormMixRefIdeal.τ Cert.NormMixRefIdeal.sig) → Buf (Elt Ideal) ℓ) : Prop :=
  True

def Pre_Gate (m : (ℓ : Loc Cert.Gate.nD Cert.Gate.τ Cert.Gate.sig) → Buf (Elt Bits) ℓ) : Prop :=
  True

def Pre_GateIdeal (m : (ℓ : Loc Cert.GateIdeal.nD Cert.GateIdeal.τ Cert.GateIdeal.sig) → Buf (Elt Ideal) ℓ) : Prop :=
  True

def Pre_GateRefIdeal (m : (ℓ : Loc Cert.GateRefIdeal.nD Cert.GateRefIdeal.τ Cert.GateRefIdeal.sig) → Buf (Elt Ideal) ℓ) : Prop :=
  True

def quiescent_FoxBwd [hFoxBwd : Cert.FoxBwd.Facts] : Prop :=
  ∀ (m : (ℓ : Loc Cert.FoxBwd.nD Cert.FoxBwd.τ Cert.FoxBwd.sig) → Buf (Elt Bits) ℓ) (g : Dev Cert.FoxBwd.nD → PrngReg), Pre_FoxBwd m →
    θ_run (Cert.FoxBwd.defs (F := Bits)) (onTc (τ := Cert.FoxBwd.τ) (Cert.FoxBwd.main (F := Bits))) ⟨m, fun _ => 0, g⟩ (fun r => (∀ c : Dev Cert.FoxBwd.nD,
      r.2.mem ((c.tc : Thread Cert.FoxBwd.nD Cert.FoxBwd.τ).loc Cert.FoxBwd.main_arg0) = m ((c.tc : Thread Cert.FoxBwd.nD Cert.FoxBwd.τ).loc Cert.FoxBwd.main_arg0)
      ∧ r.2.mem ((c.tc : Thread Cert.FoxBwd.nD Cert.FoxBwd.τ).loc Cert.FoxBwd.main_arg1) = m ((c.tc : Thread Cert.FoxBwd.nD Cert.FoxBwd.τ).loc Cert.FoxBwd.main_arg1)
      ∧ r.2.mem ((c.tc : Thread Cert.FoxBwd.nD Cert.FoxBwd.τ).loc Cert.FoxBwd.main_arg2) = m ((c.tc : Thread Cert.FoxBwd.nD Cert.FoxBwd.τ).loc Cert.FoxBwd.main_arg2))
      ∧ r.2.sem = fun _ => 0)

def quiescent_FoxBwdIdeal [hFoxBwdIdeal : Cert.FoxBwdIdeal.Facts] : Prop :=
  ∀ (m : (ℓ : Loc Cert.FoxBwdIdeal.nD Cert.FoxBwdIdeal.τ Cert.FoxBwdIdeal.sig) → Buf (Elt Ideal) ℓ) (g : Dev Cert.FoxBwdIdeal.nD → PrngReg), Pre_FoxBwdIdeal m →
    θ_run (Cert.FoxBwdIdeal.defs (F := Ideal)) (onTc (τ := Cert.FoxBwdIdeal.τ) (Cert.FoxBwdIdeal.main (F := Ideal))) ⟨m, fun _ => 0, g⟩ (fun r => (∀ c : Dev Cert.FoxBwdIdeal.nD,
      r.2.mem ((c.tc : Thread Cert.FoxBwdIdeal.nD Cert.FoxBwdIdeal.τ).loc Cert.FoxBwdIdeal.main_arg0) = m ((c.tc : Thread Cert.FoxBwdIdeal.nD Cert.FoxBwdIdeal.τ).loc Cert.FoxBwdIdeal.main_arg0)
      ∧ r.2.mem ((c.tc : Thread Cert.FoxBwdIdeal.nD Cert.FoxBwdIdeal.τ).loc Cert.FoxBwdIdeal.main_arg1) = m ((c.tc : Thread Cert.FoxBwdIdeal.nD Cert.FoxBwdIdeal.τ).loc Cert.FoxBwdIdeal.main_arg1)
      ∧ r.2.mem ((c.tc : Thread Cert.FoxBwdIdeal.nD Cert.FoxBwdIdeal.τ).loc Cert.FoxBwdIdeal.main_arg2) = m ((c.tc : Thread Cert.FoxBwdIdeal.nD Cert.FoxBwdIdeal.τ).loc Cert.FoxBwdIdeal.main_arg2))
      ∧ r.2.sem = fun _ => 0)

def quiescent_FoxBwdIdeal_pre_fox_finite [hFoxBwdIdeal : Cert.FoxBwdIdeal.Facts] [hPre_fox_finite : Cert.Pre_fox_finite.Facts] : Prop :=
  ∀ (m : (ℓ : Loc Cert.FoxBwdIdeal.nD Cert.FoxBwdIdeal.τ Cert.FoxBwdIdeal.sig) → Buf (Elt Ideal) ℓ) (g : Dev Cert.FoxBwdIdeal.nD → PrngReg), Pre_FoxBwdIdeal_fox_finite m →
    θ_run (Cert.FoxBwdIdeal.defs (F := Ideal)) (onTc (τ := Cert.FoxBwdIdeal.τ) (Cert.FoxBwdIdeal.main (F := Ideal))) ⟨m, fun _ => 0, g⟩ (fun r => (∀ c : Dev Cert.FoxBwdIdeal.nD,
      r.2.mem ((c.tc : Thread Cert.FoxBwdIdeal.nD Cert.FoxBwdIdeal.τ).loc Cert.FoxBwdIdeal.main_arg0) = m ((c.tc : Thread Cert.FoxBwdIdeal.nD Cert.FoxBwdIdeal.τ).loc Cert.FoxBwdIdeal.main_arg0)
      ∧ r.2.mem ((c.tc : Thread Cert.FoxBwdIdeal.nD Cert.FoxBwdIdeal.τ).loc Cert.FoxBwdIdeal.main_arg1) = m ((c.tc : Thread Cert.FoxBwdIdeal.nD Cert.FoxBwdIdeal.τ).loc Cert.FoxBwdIdeal.main_arg1)
      ∧ r.2.mem ((c.tc : Thread Cert.FoxBwdIdeal.nD Cert.FoxBwdIdeal.τ).loc Cert.FoxBwdIdeal.main_arg2) = m ((c.tc : Thread Cert.FoxBwdIdeal.nD Cert.FoxBwdIdeal.τ).loc Cert.FoxBwdIdeal.main_arg2))
      ∧ r.2.sem = fun _ => 0)

def quiescent_FoxRefIdeal [hFoxRefIdeal : Cert.FoxRefIdeal.Facts] : Prop :=
  ∀ (m : (ℓ : Loc Cert.FoxRefIdeal.nD Cert.FoxRefIdeal.τ Cert.FoxRefIdeal.sig) → Buf (Elt Ideal) ℓ) (g : Dev Cert.FoxRefIdeal.nD → PrngReg), Pre_FoxRefIdeal m →
    θ_run (Cert.FoxRefIdeal.defs (F := Ideal)) (onTc (τ := Cert.FoxRefIdeal.τ) (Cert.FoxRefIdeal.main (F := Ideal))) ⟨m, fun _ => 0, g⟩ (fun r => (∀ c : Dev Cert.FoxRefIdeal.nD,
      r.2.mem ((c.tc : Thread Cert.FoxRefIdeal.nD Cert.FoxRefIdeal.τ).loc Cert.FoxRefIdeal.main_arg0) = m ((c.tc : Thread Cert.FoxRefIdeal.nD Cert.FoxRefIdeal.τ).loc Cert.FoxRefIdeal.main_arg0)
      ∧ r.2.mem ((c.tc : Thread Cert.FoxRefIdeal.nD Cert.FoxRefIdeal.τ).loc Cert.FoxRefIdeal.main_arg1) = m ((c.tc : Thread Cert.FoxRefIdeal.nD Cert.FoxRefIdeal.τ).loc Cert.FoxRefIdeal.main_arg1)
      ∧ r.2.mem ((c.tc : Thread Cert.FoxRefIdeal.nD Cert.FoxRefIdeal.τ).loc Cert.FoxRefIdeal.main_arg2) = m ((c.tc : Thread Cert.FoxRefIdeal.nD Cert.FoxRefIdeal.τ).loc Cert.FoxRefIdeal.main_arg2))
      ∧ r.2.sem = fun _ => 0)

def quiescent_FoxRefIdeal_pre_fox_finite [hFoxRefIdeal : Cert.FoxRefIdeal.Facts] [hPre_fox_finite : Cert.Pre_fox_finite.Facts] : Prop :=
  ∀ (m : (ℓ : Loc Cert.FoxRefIdeal.nD Cert.FoxRefIdeal.τ Cert.FoxRefIdeal.sig) → Buf (Elt Ideal) ℓ) (g : Dev Cert.FoxRefIdeal.nD → PrngReg), Pre_FoxRefIdeal_fox_finite m →
    θ_run (Cert.FoxRefIdeal.defs (F := Ideal)) (onTc (τ := Cert.FoxRefIdeal.τ) (Cert.FoxRefIdeal.main (F := Ideal))) ⟨m, fun _ => 0, g⟩ (fun r => (∀ c : Dev Cert.FoxRefIdeal.nD,
      r.2.mem ((c.tc : Thread Cert.FoxRefIdeal.nD Cert.FoxRefIdeal.τ).loc Cert.FoxRefIdeal.main_arg0) = m ((c.tc : Thread Cert.FoxRefIdeal.nD Cert.FoxRefIdeal.τ).loc Cert.FoxRefIdeal.main_arg0)
      ∧ r.2.mem ((c.tc : Thread Cert.FoxRefIdeal.nD Cert.FoxRefIdeal.τ).loc Cert.FoxRefIdeal.main_arg1) = m ((c.tc : Thread Cert.FoxRefIdeal.nD Cert.FoxRefIdeal.τ).loc Cert.FoxRefIdeal.main_arg1)
      ∧ r.2.mem ((c.tc : Thread Cert.FoxRefIdeal.nD Cert.FoxRefIdeal.τ).loc Cert.FoxRefIdeal.main_arg2) = m ((c.tc : Thread Cert.FoxRefIdeal.nD Cert.FoxRefIdeal.τ).loc Cert.FoxRefIdeal.main_arg2))
      ∧ r.2.sem = fun _ => 0)

def quiescent_MergeBwd [hMergeBwd : Cert.MergeBwd.Facts] : Prop :=
  ∀ (m : (ℓ : Loc Cert.MergeBwd.nD Cert.MergeBwd.τ Cert.MergeBwd.sig) → Buf (Elt Bits) ℓ) (g : Dev Cert.MergeBwd.nD → PrngReg), Pre_MergeBwd m →
    θ_run (Cert.MergeBwd.defs (F := Bits)) (onTc (τ := Cert.MergeBwd.τ) (Cert.MergeBwd.main (F := Bits))) ⟨m, fun _ => 0, g⟩ (fun r => (∀ c : Dev Cert.MergeBwd.nD,
      r.2.mem ((c.tc : Thread Cert.MergeBwd.nD Cert.MergeBwd.τ).loc Cert.MergeBwd.main_arg0) = m ((c.tc : Thread Cert.MergeBwd.nD Cert.MergeBwd.τ).loc Cert.MergeBwd.main_arg0)
      ∧ r.2.mem ((c.tc : Thread Cert.MergeBwd.nD Cert.MergeBwd.τ).loc Cert.MergeBwd.main_arg1) = m ((c.tc : Thread Cert.MergeBwd.nD Cert.MergeBwd.τ).loc Cert.MergeBwd.main_arg1)
      ∧ r.2.mem ((c.tc : Thread Cert.MergeBwd.nD Cert.MergeBwd.τ).loc Cert.MergeBwd.main_arg2) = m ((c.tc : Thread Cert.MergeBwd.nD Cert.MergeBwd.τ).loc Cert.MergeBwd.main_arg2)
      ∧ r.2.mem ((c.tc : Thread Cert.MergeBwd.nD Cert.MergeBwd.τ).loc Cert.MergeBwd.main_arg3) = m ((c.tc : Thread Cert.MergeBwd.nD Cert.MergeBwd.τ).loc Cert.MergeBwd.main_arg3)
      ∧ r.2.mem ((c.tc : Thread Cert.MergeBwd.nD Cert.MergeBwd.τ).loc Cert.MergeBwd.main_arg4) = m ((c.tc : Thread Cert.MergeBwd.nD Cert.MergeBwd.τ).loc Cert.MergeBwd.main_arg4))
      ∧ r.2.sem = fun _ => 0)

def quiescent_MergeBwdIdeal [hMergeBwdIdeal : Cert.MergeBwdIdeal.Facts] : Prop :=
  ∀ (m : (ℓ : Loc Cert.MergeBwdIdeal.nD Cert.MergeBwdIdeal.τ Cert.MergeBwdIdeal.sig) → Buf (Elt Ideal) ℓ) (g : Dev Cert.MergeBwdIdeal.nD → PrngReg), Pre_MergeBwdIdeal m →
    θ_run (Cert.MergeBwdIdeal.defs (F := Ideal)) (onTc (τ := Cert.MergeBwdIdeal.τ) (Cert.MergeBwdIdeal.main (F := Ideal))) ⟨m, fun _ => 0, g⟩ (fun r => (∀ c : Dev Cert.MergeBwdIdeal.nD,
      r.2.mem ((c.tc : Thread Cert.MergeBwdIdeal.nD Cert.MergeBwdIdeal.τ).loc Cert.MergeBwdIdeal.main_arg0) = m ((c.tc : Thread Cert.MergeBwdIdeal.nD Cert.MergeBwdIdeal.τ).loc Cert.MergeBwdIdeal.main_arg0)
      ∧ r.2.mem ((c.tc : Thread Cert.MergeBwdIdeal.nD Cert.MergeBwdIdeal.τ).loc Cert.MergeBwdIdeal.main_arg1) = m ((c.tc : Thread Cert.MergeBwdIdeal.nD Cert.MergeBwdIdeal.τ).loc Cert.MergeBwdIdeal.main_arg1)
      ∧ r.2.mem ((c.tc : Thread Cert.MergeBwdIdeal.nD Cert.MergeBwdIdeal.τ).loc Cert.MergeBwdIdeal.main_arg2) = m ((c.tc : Thread Cert.MergeBwdIdeal.nD Cert.MergeBwdIdeal.τ).loc Cert.MergeBwdIdeal.main_arg2)
      ∧ r.2.mem ((c.tc : Thread Cert.MergeBwdIdeal.nD Cert.MergeBwdIdeal.τ).loc Cert.MergeBwdIdeal.main_arg3) = m ((c.tc : Thread Cert.MergeBwdIdeal.nD Cert.MergeBwdIdeal.τ).loc Cert.MergeBwdIdeal.main_arg3)
      ∧ r.2.mem ((c.tc : Thread Cert.MergeBwdIdeal.nD Cert.MergeBwdIdeal.τ).loc Cert.MergeBwdIdeal.main_arg4) = m ((c.tc : Thread Cert.MergeBwdIdeal.nD Cert.MergeBwdIdeal.τ).loc Cert.MergeBwdIdeal.main_arg4))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4))
      ∧ r.2.sem = fun _ => 0)

def quiescent_DAct [hDAct : Cert.DAct.Facts] : Prop :=
  ∀ (m : (ℓ : Loc Cert.DAct.nD Cert.DAct.τ Cert.DAct.sig) → Buf (Elt Bits) ℓ) (g : Dev Cert.DAct.nD → PrngReg), Pre_DAct m →
    θ_run (Cert.DAct.defs (F := Bits)) (onTc (τ := Cert.DAct.τ) (Cert.DAct.main (F := Bits))) ⟨m, fun _ => 0, g⟩ (fun r => (∀ c : Dev Cert.DAct.nD,
      r.2.mem ((c.tc : Thread Cert.DAct.nD Cert.DAct.τ).loc Cert.DAct.main_arg0) = m ((c.tc : Thread Cert.DAct.nD Cert.DAct.τ).loc Cert.DAct.main_arg0)
      ∧ r.2.mem ((c.tc : Thread Cert.DAct.nD Cert.DAct.τ).loc Cert.DAct.main_arg1) = m ((c.tc : Thread Cert.DAct.nD Cert.DAct.τ).loc Cert.DAct.main_arg1))
      ∧ r.2.sem = fun _ => 0)

def quiescent_DActIdeal [hDActIdeal : Cert.DActIdeal.Facts] : Prop :=
  ∀ (m : (ℓ : Loc Cert.DActIdeal.nD Cert.DActIdeal.τ Cert.DActIdeal.sig) → Buf (Elt Ideal) ℓ) (g : Dev Cert.DActIdeal.nD → PrngReg), Pre_DActIdeal m →
    θ_run (Cert.DActIdeal.defs (F := Ideal)) (onTc (τ := Cert.DActIdeal.τ) (Cert.DActIdeal.main (F := Ideal))) ⟨m, fun _ => 0, g⟩ (fun r => (∀ c : Dev Cert.DActIdeal.nD,
      r.2.mem ((c.tc : Thread Cert.DActIdeal.nD Cert.DActIdeal.τ).loc Cert.DActIdeal.main_arg0) = m ((c.tc : Thread Cert.DActIdeal.nD Cert.DActIdeal.τ).loc Cert.DActIdeal.main_arg0)
      ∧ r.2.mem ((c.tc : Thread Cert.DActIdeal.nD Cert.DActIdeal.τ).loc Cert.DActIdeal.main_arg1) = m ((c.tc : Thread Cert.DActIdeal.nD Cert.DActIdeal.τ).loc Cert.DActIdeal.main_arg1))
      ∧ r.2.sem = fun _ => 0)

def quiescent_DActRefIdeal [hDActRefIdeal : Cert.DActRefIdeal.Facts] : Prop :=
  ∀ (m : (ℓ : Loc Cert.DActRefIdeal.nD Cert.DActRefIdeal.τ Cert.DActRefIdeal.sig) → Buf (Elt Ideal) ℓ) (g : Dev Cert.DActRefIdeal.nD → PrngReg), Pre_DActRefIdeal m →
    θ_run (Cert.DActRefIdeal.defs (F := Ideal)) (onTc (τ := Cert.DActRefIdeal.τ) (Cert.DActRefIdeal.main (F := Ideal))) ⟨m, fun _ => 0, g⟩ (fun r => (∀ c : Dev Cert.DActRefIdeal.nD,
      r.2.mem ((c.tc : Thread Cert.DActRefIdeal.nD Cert.DActRefIdeal.τ).loc Cert.DActRefIdeal.main_arg0) = m ((c.tc : Thread Cert.DActRefIdeal.nD Cert.DActRefIdeal.τ).loc Cert.DActRefIdeal.main_arg0)
      ∧ r.2.mem ((c.tc : Thread Cert.DActRefIdeal.nD Cert.DActRefIdeal.τ).loc Cert.DActRefIdeal.main_arg1) = m ((c.tc : Thread Cert.DActRefIdeal.nD Cert.DActRefIdeal.τ).loc Cert.DActRefIdeal.main_arg1))
      ∧ r.2.sem = fun _ => 0)

def quiescent_DHn2 [hDHn2 : Cert.DHn2.Facts] : Prop :=
  ∀ (m : (ℓ : Loc Cert.DHn2.nD Cert.DHn2.τ Cert.DHn2.sig) → Buf (Elt Bits) ℓ) (g : Dev Cert.DHn2.nD → PrngReg), Pre_DHn2 m →
    θ_run (Cert.DHn2.defs (F := Bits)) (onTc (τ := Cert.DHn2.τ) (Cert.DHn2.main (F := Bits))) ⟨m, fun _ => 0, g⟩ (fun r => (∀ c : Dev Cert.DHn2.nD,
      r.2.mem ((c.tc : Thread Cert.DHn2.nD Cert.DHn2.τ).loc Cert.DHn2.main_arg0) = m ((c.tc : Thread Cert.DHn2.nD Cert.DHn2.τ).loc Cert.DHn2.main_arg0)
      ∧ r.2.mem ((c.tc : Thread Cert.DHn2.nD Cert.DHn2.τ).loc Cert.DHn2.main_arg1) = m ((c.tc : Thread Cert.DHn2.nD Cert.DHn2.τ).loc Cert.DHn2.main_arg1))
      ∧ r.2.sem = fun _ => 0)

def quiescent_DHn2Ideal [hDHn2Ideal : Cert.DHn2Ideal.Facts] : Prop :=
  ∀ (m : (ℓ : Loc Cert.DHn2Ideal.nD Cert.DHn2Ideal.τ Cert.DHn2Ideal.sig) → Buf (Elt Ideal) ℓ) (g : Dev Cert.DHn2Ideal.nD → PrngReg), Pre_DHn2Ideal m →
    θ_run (Cert.DHn2Ideal.defs (F := Ideal)) (onTc (τ := Cert.DHn2Ideal.τ) (Cert.DHn2Ideal.main (F := Ideal))) ⟨m, fun _ => 0, g⟩ (fun r => (∀ c : Dev Cert.DHn2Ideal.nD,
      r.2.mem ((c.tc : Thread Cert.DHn2Ideal.nD Cert.DHn2Ideal.τ).loc Cert.DHn2Ideal.main_arg0) = m ((c.tc : Thread Cert.DHn2Ideal.nD Cert.DHn2Ideal.τ).loc Cert.DHn2Ideal.main_arg0)
      ∧ r.2.mem ((c.tc : Thread Cert.DHn2Ideal.nD Cert.DHn2Ideal.τ).loc Cert.DHn2Ideal.main_arg1) = m ((c.tc : Thread Cert.DHn2Ideal.nD Cert.DHn2Ideal.τ).loc Cert.DHn2Ideal.main_arg1))
      ∧ r.2.sem = fun _ => 0)

def quiescent_DHn2RefIdeal [hDHn2RefIdeal : Cert.DHn2RefIdeal.Facts] : Prop :=
  ∀ (m : (ℓ : Loc Cert.DHn2RefIdeal.nD Cert.DHn2RefIdeal.τ Cert.DHn2RefIdeal.sig) → Buf (Elt Ideal) ℓ) (g : Dev Cert.DHn2RefIdeal.nD → PrngReg), Pre_DHn2RefIdeal m →
    θ_run (Cert.DHn2RefIdeal.defs (F := Ideal)) (onTc (τ := Cert.DHn2RefIdeal.τ) (Cert.DHn2RefIdeal.main (F := Ideal))) ⟨m, fun _ => 0, g⟩ (fun r => (∀ c : Dev Cert.DHn2RefIdeal.nD,
      r.2.mem ((c.tc : Thread Cert.DHn2RefIdeal.nD Cert.DHn2RefIdeal.τ).loc Cert.DHn2RefIdeal.main_arg0) = m ((c.tc : Thread Cert.DHn2RefIdeal.nD Cert.DHn2RefIdeal.τ).loc Cert.DHn2RefIdeal.main_arg0)
      ∧ r.2.mem ((c.tc : Thread Cert.DHn2RefIdeal.nD Cert.DHn2RefIdeal.τ).loc Cert.DHn2RefIdeal.main_arg1) = m ((c.tc : Thread Cert.DHn2RefIdeal.nD Cert.DHn2RefIdeal.τ).loc Cert.DHn2RefIdeal.main_arg1))
      ∧ r.2.sem = fun _ => 0)

def quiescent_DBranch [hDBranch : Cert.DBranch.Facts] : Prop :=
  ∀ (m : (ℓ : Loc Cert.DBranch.nD Cert.DBranch.τ Cert.DBranch.sig) → Buf (Elt Bits) ℓ) (g : Dev Cert.DBranch.nD → PrngReg), Pre_DBranch m →
    θ_run (Cert.DBranch.defs (F := Bits)) (onTc (τ := Cert.DBranch.τ) (Cert.DBranch.main (F := Bits))) ⟨m, fun _ => 0, g⟩ (fun r => (∀ c : Dev Cert.DBranch.nD,
      r.2.mem ((c.tc : Thread Cert.DBranch.nD Cert.DBranch.τ).loc Cert.DBranch.main_arg0) = m ((c.tc : Thread Cert.DBranch.nD Cert.DBranch.τ).loc Cert.DBranch.main_arg0)
      ∧ r.2.mem ((c.tc : Thread Cert.DBranch.nD Cert.DBranch.τ).loc Cert.DBranch.main_arg1) = m ((c.tc : Thread Cert.DBranch.nD Cert.DBranch.τ).loc Cert.DBranch.main_arg1))
      ∧ r.2.sem = fun _ => 0)

def quiescent_DBranchIdeal [hDBranchIdeal : Cert.DBranchIdeal.Facts] : Prop :=
  ∀ (m : (ℓ : Loc Cert.DBranchIdeal.nD Cert.DBranchIdeal.τ Cert.DBranchIdeal.sig) → Buf (Elt Ideal) ℓ) (g : Dev Cert.DBranchIdeal.nD → PrngReg), Pre_DBranchIdeal m →
    θ_run (Cert.DBranchIdeal.defs (F := Ideal)) (onTc (τ := Cert.DBranchIdeal.τ) (Cert.DBranchIdeal.main (F := Ideal))) ⟨m, fun _ => 0, g⟩ (fun r => (∀ c : Dev Cert.DBranchIdeal.nD,
      r.2.mem ((c.tc : Thread Cert.DBranchIdeal.nD Cert.DBranchIdeal.τ).loc Cert.DBranchIdeal.main_arg0) = m ((c.tc : Thread Cert.DBranchIdeal.nD Cert.DBranchIdeal.τ).loc Cert.DBranchIdeal.main_arg0)
      ∧ r.2.mem ((c.tc : Thread Cert.DBranchIdeal.nD Cert.DBranchIdeal.τ).loc Cert.DBranchIdeal.main_arg1) = m ((c.tc : Thread Cert.DBranchIdeal.nD Cert.DBranchIdeal.τ).loc Cert.DBranchIdeal.main_arg1))
      ∧ r.2.sem = fun _ => 0)

def quiescent_DBranchRefIdeal [hDBranchRefIdeal : Cert.DBranchRefIdeal.Facts] : Prop :=
  ∀ (m : (ℓ : Loc Cert.DBranchRefIdeal.nD Cert.DBranchRefIdeal.τ Cert.DBranchRefIdeal.sig) → Buf (Elt Ideal) ℓ) (g : Dev Cert.DBranchRefIdeal.nD → PrngReg), Pre_DBranchRefIdeal m →
    θ_run (Cert.DBranchRefIdeal.defs (F := Ideal)) (onTc (τ := Cert.DBranchRefIdeal.τ) (Cert.DBranchRefIdeal.main (F := Ideal))) ⟨m, fun _ => 0, g⟩ (fun r => (∀ c : Dev Cert.DBranchRefIdeal.nD,
      r.2.mem ((c.tc : Thread Cert.DBranchRefIdeal.nD Cert.DBranchRefIdeal.τ).loc Cert.DBranchRefIdeal.main_arg0) = m ((c.tc : Thread Cert.DBranchRefIdeal.nD Cert.DBranchRefIdeal.τ).loc Cert.DBranchRefIdeal.main_arg0)
      ∧ r.2.mem ((c.tc : Thread Cert.DBranchRefIdeal.nD Cert.DBranchRefIdeal.τ).loc Cert.DBranchRefIdeal.main_arg1) = m ((c.tc : Thread Cert.DBranchRefIdeal.nD Cert.DBranchRefIdeal.τ).loc Cert.DBranchRefIdeal.main_arg1))
      ∧ r.2.sem = fun _ => 0)

def quiescent_DHFox [hDHFox : Cert.DHFox.Facts] : Prop :=
  ∀ (m : (ℓ : Loc Cert.DHFox.nD Cert.DHFox.τ Cert.DHFox.sig) → Buf (Elt Bits) ℓ) (g : Dev Cert.DHFox.nD → PrngReg), Pre_DHFox m →
    θ_run (Cert.DHFox.defs (F := Bits)) (onTc (τ := Cert.DHFox.τ) (Cert.DHFox.main (F := Bits))) ⟨m, fun _ => 0, g⟩ (fun r => (∀ c : Dev Cert.DHFox.nD,
      r.2.mem ((c.tc : Thread Cert.DHFox.nD Cert.DHFox.τ).loc Cert.DHFox.main_arg0) = m ((c.tc : Thread Cert.DHFox.nD Cert.DHFox.τ).loc Cert.DHFox.main_arg0)
      ∧ r.2.mem ((c.tc : Thread Cert.DHFox.nD Cert.DHFox.τ).loc Cert.DHFox.main_arg1) = m ((c.tc : Thread Cert.DHFox.nD Cert.DHFox.τ).loc Cert.DHFox.main_arg1))
      ∧ r.2.sem = fun _ => 0)

def quiescent_DHFoxIdeal [hDHFoxIdeal : Cert.DHFoxIdeal.Facts] : Prop :=
  ∀ (m : (ℓ : Loc Cert.DHFoxIdeal.nD Cert.DHFoxIdeal.τ Cert.DHFoxIdeal.sig) → Buf (Elt Ideal) ℓ) (g : Dev Cert.DHFoxIdeal.nD → PrngReg), Pre_DHFoxIdeal m →
    θ_run (Cert.DHFoxIdeal.defs (F := Ideal)) (onTc (τ := Cert.DHFoxIdeal.τ) (Cert.DHFoxIdeal.main (F := Ideal))) ⟨m, fun _ => 0, g⟩ (fun r => (∀ c : Dev Cert.DHFoxIdeal.nD,
      r.2.mem ((c.tc : Thread Cert.DHFoxIdeal.nD Cert.DHFoxIdeal.τ).loc Cert.DHFoxIdeal.main_arg0) = m ((c.tc : Thread Cert.DHFoxIdeal.nD Cert.DHFoxIdeal.τ).loc Cert.DHFoxIdeal.main_arg0)
      ∧ r.2.mem ((c.tc : Thread Cert.DHFoxIdeal.nD Cert.DHFoxIdeal.τ).loc Cert.DHFoxIdeal.main_arg1) = m ((c.tc : Thread Cert.DHFoxIdeal.nD Cert.DHFoxIdeal.τ).loc Cert.DHFoxIdeal.main_arg1))
      ∧ r.2.sem = fun _ => 0)

def quiescent_DHFoxRefIdeal [hDHFoxRefIdeal : Cert.DHFoxRefIdeal.Facts] : Prop :=
  ∀ (m : (ℓ : Loc Cert.DHFoxRefIdeal.nD Cert.DHFoxRefIdeal.τ Cert.DHFoxRefIdeal.sig) → Buf (Elt Ideal) ℓ) (g : Dev Cert.DHFoxRefIdeal.nD → PrngReg), Pre_DHFoxRefIdeal m →
    θ_run (Cert.DHFoxRefIdeal.defs (F := Ideal)) (onTc (τ := Cert.DHFoxRefIdeal.τ) (Cert.DHFoxRefIdeal.main (F := Ideal))) ⟨m, fun _ => 0, g⟩ (fun r => (∀ c : Dev Cert.DHFoxRefIdeal.nD,
      r.2.mem ((c.tc : Thread Cert.DHFoxRefIdeal.nD Cert.DHFoxRefIdeal.τ).loc Cert.DHFoxRefIdeal.main_arg0) = m ((c.tc : Thread Cert.DHFoxRefIdeal.nD Cert.DHFoxRefIdeal.τ).loc Cert.DHFoxRefIdeal.main_arg0)
      ∧ r.2.mem ((c.tc : Thread Cert.DHFoxRefIdeal.nD Cert.DHFoxRefIdeal.τ).loc Cert.DHFoxRefIdeal.main_arg1) = m ((c.tc : Thread Cert.DHFoxRefIdeal.nD Cert.DHFoxRefIdeal.τ).loc Cert.DHFoxRefIdeal.main_arg1))
      ∧ r.2.sem = fun _ => 0)

def quiescent_DHQkv [hDHQkv : Cert.DHQkv.Facts] : Prop :=
  ∀ (m : (ℓ : Loc Cert.DHQkv.nD Cert.DHQkv.τ Cert.DHQkv.sig) → Buf (Elt Bits) ℓ) (g : Dev Cert.DHQkv.nD → PrngReg), Pre_DHQkv m →
    θ_run (Cert.DHQkv.defs (F := Bits)) (onTc (τ := Cert.DHQkv.τ) (Cert.DHQkv.main (F := Bits))) ⟨m, fun _ => 0, g⟩ (fun r => (∀ c : Dev Cert.DHQkv.nD,
      r.2.mem ((c.tc : Thread Cert.DHQkv.nD Cert.DHQkv.τ).loc Cert.DHQkv.main_arg0) = m ((c.tc : Thread Cert.DHQkv.nD Cert.DHQkv.τ).loc Cert.DHQkv.main_arg0)
      ∧ r.2.mem ((c.tc : Thread Cert.DHQkv.nD Cert.DHQkv.τ).loc Cert.DHQkv.main_arg1) = m ((c.tc : Thread Cert.DHQkv.nD Cert.DHQkv.τ).loc Cert.DHQkv.main_arg1)
      ∧ r.2.mem ((c.tc : Thread Cert.DHQkv.nD Cert.DHQkv.τ).loc Cert.DHQkv.main_arg2) = m ((c.tc : Thread Cert.DHQkv.nD Cert.DHQkv.τ).loc Cert.DHQkv.main_arg2))
      ∧ r.2.sem = fun _ => 0)

def quiescent_DHQkvIdeal [hDHQkvIdeal : Cert.DHQkvIdeal.Facts] : Prop :=
  ∀ (m : (ℓ : Loc Cert.DHQkvIdeal.nD Cert.DHQkvIdeal.τ Cert.DHQkvIdeal.sig) → Buf (Elt Ideal) ℓ) (g : Dev Cert.DHQkvIdeal.nD → PrngReg), Pre_DHQkvIdeal m →
    θ_run (Cert.DHQkvIdeal.defs (F := Ideal)) (onTc (τ := Cert.DHQkvIdeal.τ) (Cert.DHQkvIdeal.main (F := Ideal))) ⟨m, fun _ => 0, g⟩ (fun r => (∀ c : Dev Cert.DHQkvIdeal.nD,
      r.2.mem ((c.tc : Thread Cert.DHQkvIdeal.nD Cert.DHQkvIdeal.τ).loc Cert.DHQkvIdeal.main_arg0) = m ((c.tc : Thread Cert.DHQkvIdeal.nD Cert.DHQkvIdeal.τ).loc Cert.DHQkvIdeal.main_arg0)
      ∧ r.2.mem ((c.tc : Thread Cert.DHQkvIdeal.nD Cert.DHQkvIdeal.τ).loc Cert.DHQkvIdeal.main_arg1) = m ((c.tc : Thread Cert.DHQkvIdeal.nD Cert.DHQkvIdeal.τ).loc Cert.DHQkvIdeal.main_arg1)
      ∧ r.2.mem ((c.tc : Thread Cert.DHQkvIdeal.nD Cert.DHQkvIdeal.τ).loc Cert.DHQkvIdeal.main_arg2) = m ((c.tc : Thread Cert.DHQkvIdeal.nD Cert.DHQkvIdeal.τ).loc Cert.DHQkvIdeal.main_arg2))
      ∧ r.2.sem = fun _ => 0)

def quiescent_DHQkvRefIdeal [hDHQkvRefIdeal : Cert.DHQkvRefIdeal.Facts] : Prop :=
  ∀ (m : (ℓ : Loc Cert.DHQkvRefIdeal.nD Cert.DHQkvRefIdeal.τ Cert.DHQkvRefIdeal.sig) → Buf (Elt Ideal) ℓ) (g : Dev Cert.DHQkvRefIdeal.nD → PrngReg), Pre_DHQkvRefIdeal m →
    θ_run (Cert.DHQkvRefIdeal.defs (F := Ideal)) (onTc (τ := Cert.DHQkvRefIdeal.τ) (Cert.DHQkvRefIdeal.main (F := Ideal))) ⟨m, fun _ => 0, g⟩ (fun r => (∀ c : Dev Cert.DHQkvRefIdeal.nD,
      r.2.mem ((c.tc : Thread Cert.DHQkvRefIdeal.nD Cert.DHQkvRefIdeal.τ).loc Cert.DHQkvRefIdeal.main_arg0) = m ((c.tc : Thread Cert.DHQkvRefIdeal.nD Cert.DHQkvRefIdeal.τ).loc Cert.DHQkvRefIdeal.main_arg0)
      ∧ r.2.mem ((c.tc : Thread Cert.DHQkvRefIdeal.nD Cert.DHQkvRefIdeal.τ).loc Cert.DHQkvRefIdeal.main_arg1) = m ((c.tc : Thread Cert.DHQkvRefIdeal.nD Cert.DHQkvRefIdeal.τ).loc Cert.DHQkvRefIdeal.main_arg1)
      ∧ r.2.mem ((c.tc : Thread Cert.DHQkvRefIdeal.nD Cert.DHQkvRefIdeal.τ).loc Cert.DHQkvRefIdeal.main_arg2) = m ((c.tc : Thread Cert.DHQkvRefIdeal.nD Cert.DHQkvRefIdeal.τ).loc Cert.DHQkvRefIdeal.main_arg2))
      ∧ r.2.sem = fun _ => 0)

def quiescent_DHGates [hDHGates : Cert.DHGates.Facts] : Prop :=
  ∀ (m : (ℓ : Loc Cert.DHGates.nD Cert.DHGates.τ Cert.DHGates.sig) → Buf (Elt Bits) ℓ) (g : Dev Cert.DHGates.nD → PrngReg), Pre_DHGates m →
    θ_run (Cert.DHGates.defs (F := Bits)) (onTc (τ := Cert.DHGates.τ) (Cert.DHGates.main (F := Bits))) ⟨m, fun _ => 0, g⟩ (fun r => (∀ c : Dev Cert.DHGates.nD,
      r.2.mem ((c.tc : Thread Cert.DHGates.nD Cert.DHGates.τ).loc Cert.DHGates.main_arg0) = m ((c.tc : Thread Cert.DHGates.nD Cert.DHGates.τ).loc Cert.DHGates.main_arg0)
      ∧ r.2.mem ((c.tc : Thread Cert.DHGates.nD Cert.DHGates.τ).loc Cert.DHGates.main_arg1) = m ((c.tc : Thread Cert.DHGates.nD Cert.DHGates.τ).loc Cert.DHGates.main_arg1)
      ∧ r.2.mem ((c.tc : Thread Cert.DHGates.nD Cert.DHGates.τ).loc Cert.DHGates.main_arg2) = m ((c.tc : Thread Cert.DHGates.nD Cert.DHGates.τ).loc Cert.DHGates.main_arg2))
      ∧ r.2.sem = fun _ => 0)

def quiescent_DHGatesIdeal [hDHGatesIdeal : Cert.DHGatesIdeal.Facts] : Prop :=
  ∀ (m : (ℓ : Loc Cert.DHGatesIdeal.nD Cert.DHGatesIdeal.τ Cert.DHGatesIdeal.sig) → Buf (Elt Ideal) ℓ) (g : Dev Cert.DHGatesIdeal.nD → PrngReg), Pre_DHGatesIdeal m →
    θ_run (Cert.DHGatesIdeal.defs (F := Ideal)) (onTc (τ := Cert.DHGatesIdeal.τ) (Cert.DHGatesIdeal.main (F := Ideal))) ⟨m, fun _ => 0, g⟩ (fun r => (∀ c : Dev Cert.DHGatesIdeal.nD,
      r.2.mem ((c.tc : Thread Cert.DHGatesIdeal.nD Cert.DHGatesIdeal.τ).loc Cert.DHGatesIdeal.main_arg0) = m ((c.tc : Thread Cert.DHGatesIdeal.nD Cert.DHGatesIdeal.τ).loc Cert.DHGatesIdeal.main_arg0)
      ∧ r.2.mem ((c.tc : Thread Cert.DHGatesIdeal.nD Cert.DHGatesIdeal.τ).loc Cert.DHGatesIdeal.main_arg1) = m ((c.tc : Thread Cert.DHGatesIdeal.nD Cert.DHGatesIdeal.τ).loc Cert.DHGatesIdeal.main_arg1)
      ∧ r.2.mem ((c.tc : Thread Cert.DHGatesIdeal.nD Cert.DHGatesIdeal.τ).loc Cert.DHGatesIdeal.main_arg2) = m ((c.tc : Thread Cert.DHGatesIdeal.nD Cert.DHGatesIdeal.τ).loc Cert.DHGatesIdeal.main_arg2))
      ∧ r.2.sem = fun _ => 0)

def quiescent_DHGatesRefIdeal [hDHGatesRefIdeal : Cert.DHGatesRefIdeal.Facts] : Prop :=
  ∀ (m : (ℓ : Loc Cert.DHGatesRefIdeal.nD Cert.DHGatesRefIdeal.τ Cert.DHGatesRefIdeal.sig) → Buf (Elt Ideal) ℓ) (g : Dev Cert.DHGatesRefIdeal.nD → PrngReg), Pre_DHGatesRefIdeal m →
    θ_run (Cert.DHGatesRefIdeal.defs (F := Ideal)) (onTc (τ := Cert.DHGatesRefIdeal.τ) (Cert.DHGatesRefIdeal.main (F := Ideal))) ⟨m, fun _ => 0, g⟩ (fun r => (∀ c : Dev Cert.DHGatesRefIdeal.nD,
      r.2.mem ((c.tc : Thread Cert.DHGatesRefIdeal.nD Cert.DHGatesRefIdeal.τ).loc Cert.DHGatesRefIdeal.main_arg0) = m ((c.tc : Thread Cert.DHGatesRefIdeal.nD Cert.DHGatesRefIdeal.τ).loc Cert.DHGatesRefIdeal.main_arg0)
      ∧ r.2.mem ((c.tc : Thread Cert.DHGatesRefIdeal.nD Cert.DHGatesRefIdeal.τ).loc Cert.DHGatesRefIdeal.main_arg1) = m ((c.tc : Thread Cert.DHGatesRefIdeal.nD Cert.DHGatesRefIdeal.τ).loc Cert.DHGatesRefIdeal.main_arg1)
      ∧ r.2.mem ((c.tc : Thread Cert.DHGatesRefIdeal.nD Cert.DHGatesRefIdeal.τ).loc Cert.DHGatesRefIdeal.main_arg2) = m ((c.tc : Thread Cert.DHGatesRefIdeal.nD Cert.DHGatesRefIdeal.τ).loc Cert.DHGatesRefIdeal.main_arg2))
      ∧ r.2.sem = fun _ => 0)

def quiescent_DHGz [hDHGz : Cert.DHGz.Facts] : Prop :=
  ∀ (m : (ℓ : Loc Cert.DHGz.nD Cert.DHGz.τ Cert.DHGz.sig) → Buf (Elt Bits) ℓ) (g : Dev Cert.DHGz.nD → PrngReg), Pre_DHGz m →
    θ_run (Cert.DHGz.defs (F := Bits)) (onTc (τ := Cert.DHGz.τ) (Cert.DHGz.main (F := Bits))) ⟨m, fun _ => 0, g⟩ (fun r => (∀ c : Dev Cert.DHGz.nD,
      r.2.mem ((c.tc : Thread Cert.DHGz.nD Cert.DHGz.τ).loc Cert.DHGz.main_arg0) = m ((c.tc : Thread Cert.DHGz.nD Cert.DHGz.τ).loc Cert.DHGz.main_arg0)
      ∧ r.2.mem ((c.tc : Thread Cert.DHGz.nD Cert.DHGz.τ).loc Cert.DHGz.main_arg1) = m ((c.tc : Thread Cert.DHGz.nD Cert.DHGz.τ).loc Cert.DHGz.main_arg1)
      ∧ r.2.mem ((c.tc : Thread Cert.DHGz.nD Cert.DHGz.τ).loc Cert.DHGz.main_arg2) = m ((c.tc : Thread Cert.DHGz.nD Cert.DHGz.τ).loc Cert.DHGz.main_arg2))
      ∧ r.2.sem = fun _ => 0)

def quiescent_DHGzIdeal [hDHGzIdeal : Cert.DHGzIdeal.Facts] : Prop :=
  ∀ (m : (ℓ : Loc Cert.DHGzIdeal.nD Cert.DHGzIdeal.τ Cert.DHGzIdeal.sig) → Buf (Elt Ideal) ℓ) (g : Dev Cert.DHGzIdeal.nD → PrngReg), Pre_DHGzIdeal m →
    θ_run (Cert.DHGzIdeal.defs (F := Ideal)) (onTc (τ := Cert.DHGzIdeal.τ) (Cert.DHGzIdeal.main (F := Ideal))) ⟨m, fun _ => 0, g⟩ (fun r => (∀ c : Dev Cert.DHGzIdeal.nD,
      r.2.mem ((c.tc : Thread Cert.DHGzIdeal.nD Cert.DHGzIdeal.τ).loc Cert.DHGzIdeal.main_arg0) = m ((c.tc : Thread Cert.DHGzIdeal.nD Cert.DHGzIdeal.τ).loc Cert.DHGzIdeal.main_arg0)
      ∧ r.2.mem ((c.tc : Thread Cert.DHGzIdeal.nD Cert.DHGzIdeal.τ).loc Cert.DHGzIdeal.main_arg1) = m ((c.tc : Thread Cert.DHGzIdeal.nD Cert.DHGzIdeal.τ).loc Cert.DHGzIdeal.main_arg1)
      ∧ r.2.mem ((c.tc : Thread Cert.DHGzIdeal.nD Cert.DHGzIdeal.τ).loc Cert.DHGzIdeal.main_arg2) = m ((c.tc : Thread Cert.DHGzIdeal.nD Cert.DHGzIdeal.τ).loc Cert.DHGzIdeal.main_arg2))
      ∧ r.2.sem = fun _ => 0)

def quiescent_DHGzRefIdeal [hDHGzRefIdeal : Cert.DHGzRefIdeal.Facts] : Prop :=
  ∀ (m : (ℓ : Loc Cert.DHGzRefIdeal.nD Cert.DHGzRefIdeal.τ Cert.DHGzRefIdeal.sig) → Buf (Elt Ideal) ℓ) (g : Dev Cert.DHGzRefIdeal.nD → PrngReg), Pre_DHGzRefIdeal m →
    θ_run (Cert.DHGzRefIdeal.defs (F := Ideal)) (onTc (τ := Cert.DHGzRefIdeal.τ) (Cert.DHGzRefIdeal.main (F := Ideal))) ⟨m, fun _ => 0, g⟩ (fun r => (∀ c : Dev Cert.DHGzRefIdeal.nD,
      r.2.mem ((c.tc : Thread Cert.DHGzRefIdeal.nD Cert.DHGzRefIdeal.τ).loc Cert.DHGzRefIdeal.main_arg0) = m ((c.tc : Thread Cert.DHGzRefIdeal.nD Cert.DHGzRefIdeal.τ).loc Cert.DHGzRefIdeal.main_arg0)
      ∧ r.2.mem ((c.tc : Thread Cert.DHGzRefIdeal.nD Cert.DHGzRefIdeal.τ).loc Cert.DHGzRefIdeal.main_arg1) = m ((c.tc : Thread Cert.DHGzRefIdeal.nD Cert.DHGzRefIdeal.τ).loc Cert.DHGzRefIdeal.main_arg1)
      ∧ r.2.mem ((c.tc : Thread Cert.DHGzRefIdeal.nD Cert.DHGzRefIdeal.τ).loc Cert.DHGzRefIdeal.main_arg2) = m ((c.tc : Thread Cert.DHGzRefIdeal.nD Cert.DHGzRefIdeal.τ).loc Cert.DHGzRefIdeal.main_arg2))
      ∧ r.2.sem = fun _ => 0)

def quiescent_DwDown [hDwDown : Cert.DwDown.Facts] : Prop :=
  ∀ (m : (ℓ : Loc Cert.DwDown.nD Cert.DwDown.τ Cert.DwDown.sig) → Buf (Elt Bits) ℓ) (g : Dev Cert.DwDown.nD → PrngReg), Pre_DwDown m →
    θ_run (Cert.DwDown.defs (F := Bits)) (onTc (τ := Cert.DwDown.τ) (Cert.DwDown.main (F := Bits))) ⟨m, fun _ => 0, g⟩ (fun r => (∀ c : Dev Cert.DwDown.nD,
      r.2.mem ((c.tc : Thread Cert.DwDown.nD Cert.DwDown.τ).loc Cert.DwDown.main_arg0) = m ((c.tc : Thread Cert.DwDown.nD Cert.DwDown.τ).loc Cert.DwDown.main_arg0)
      ∧ r.2.mem ((c.tc : Thread Cert.DwDown.nD Cert.DwDown.τ).loc Cert.DwDown.main_arg1) = m ((c.tc : Thread Cert.DwDown.nD Cert.DwDown.τ).loc Cert.DwDown.main_arg1))
      ∧ r.2.sem = fun _ => 0)

def quiescent_DwDownIdeal [hDwDownIdeal : Cert.DwDownIdeal.Facts] : Prop :=
  ∀ (m : (ℓ : Loc Cert.DwDownIdeal.nD Cert.DwDownIdeal.τ Cert.DwDownIdeal.sig) → Buf (Elt Ideal) ℓ) (g : Dev Cert.DwDownIdeal.nD → PrngReg), Pre_DwDownIdeal m →
    θ_run (Cert.DwDownIdeal.defs (F := Ideal)) (onTc (τ := Cert.DwDownIdeal.τ) (Cert.DwDownIdeal.main (F := Ideal))) ⟨m, fun _ => 0, g⟩ (fun r => (∀ c : Dev Cert.DwDownIdeal.nD,
      r.2.mem ((c.tc : Thread Cert.DwDownIdeal.nD Cert.DwDownIdeal.τ).loc Cert.DwDownIdeal.main_arg0) = m ((c.tc : Thread Cert.DwDownIdeal.nD Cert.DwDownIdeal.τ).loc Cert.DwDownIdeal.main_arg0)
      ∧ r.2.mem ((c.tc : Thread Cert.DwDownIdeal.nD Cert.DwDownIdeal.τ).loc Cert.DwDownIdeal.main_arg1) = m ((c.tc : Thread Cert.DwDownIdeal.nD Cert.DwDownIdeal.τ).loc Cert.DwDownIdeal.main_arg1))
      ∧ r.2.sem = fun _ => 0)

def quiescent_DwDownRefIdeal [hDwDownRefIdeal : Cert.DwDownRefIdeal.Facts] : Prop :=
  ∀ (m : (ℓ : Loc Cert.DwDownRefIdeal.nD Cert.DwDownRefIdeal.τ Cert.DwDownRefIdeal.sig) → Buf (Elt Ideal) ℓ) (g : Dev Cert.DwDownRefIdeal.nD → PrngReg), Pre_DwDownRefIdeal m →
    θ_run (Cert.DwDownRefIdeal.defs (F := Ideal)) (onTc (τ := Cert.DwDownRefIdeal.τ) (Cert.DwDownRefIdeal.main (F := Ideal))) ⟨m, fun _ => 0, g⟩ (fun r => (∀ c : Dev Cert.DwDownRefIdeal.nD,
      r.2.mem ((c.tc : Thread Cert.DwDownRefIdeal.nD Cert.DwDownRefIdeal.τ).loc Cert.DwDownRefIdeal.main_arg0) = m ((c.tc : Thread Cert.DwDownRefIdeal.nD Cert.DwDownRefIdeal.τ).loc Cert.DwDownRefIdeal.main_arg0)
      ∧ r.2.mem ((c.tc : Thread Cert.DwDownRefIdeal.nD Cert.DwDownRefIdeal.τ).loc Cert.DwDownRefIdeal.main_arg1) = m ((c.tc : Thread Cert.DwDownRefIdeal.nD Cert.DwDownRefIdeal.τ).loc Cert.DwDownRefIdeal.main_arg1))
      ∧ r.2.sem = fun _ => 0)

def quiescent_DwUp [hDwUp : Cert.DwUp.Facts] : Prop :=
  ∀ (m : (ℓ : Loc Cert.DwUp.nD Cert.DwUp.τ Cert.DwUp.sig) → Buf (Elt Bits) ℓ) (g : Dev Cert.DwUp.nD → PrngReg), Pre_DwUp m →
    θ_run (Cert.DwUp.defs (F := Bits)) (onTc (τ := Cert.DwUp.τ) (Cert.DwUp.main (F := Bits))) ⟨m, fun _ => 0, g⟩ (fun r => (∀ c : Dev Cert.DwUp.nD,
      r.2.mem ((c.tc : Thread Cert.DwUp.nD Cert.DwUp.τ).loc Cert.DwUp.main_arg0) = m ((c.tc : Thread Cert.DwUp.nD Cert.DwUp.τ).loc Cert.DwUp.main_arg0)
      ∧ r.2.mem ((c.tc : Thread Cert.DwUp.nD Cert.DwUp.τ).loc Cert.DwUp.main_arg1) = m ((c.tc : Thread Cert.DwUp.nD Cert.DwUp.τ).loc Cert.DwUp.main_arg1))
      ∧ r.2.sem = fun _ => 0)

def quiescent_DwUpIdeal [hDwUpIdeal : Cert.DwUpIdeal.Facts] : Prop :=
  ∀ (m : (ℓ : Loc Cert.DwUpIdeal.nD Cert.DwUpIdeal.τ Cert.DwUpIdeal.sig) → Buf (Elt Ideal) ℓ) (g : Dev Cert.DwUpIdeal.nD → PrngReg), Pre_DwUpIdeal m →
    θ_run (Cert.DwUpIdeal.defs (F := Ideal)) (onTc (τ := Cert.DwUpIdeal.τ) (Cert.DwUpIdeal.main (F := Ideal))) ⟨m, fun _ => 0, g⟩ (fun r => (∀ c : Dev Cert.DwUpIdeal.nD,
      r.2.mem ((c.tc : Thread Cert.DwUpIdeal.nD Cert.DwUpIdeal.τ).loc Cert.DwUpIdeal.main_arg0) = m ((c.tc : Thread Cert.DwUpIdeal.nD Cert.DwUpIdeal.τ).loc Cert.DwUpIdeal.main_arg0)
      ∧ r.2.mem ((c.tc : Thread Cert.DwUpIdeal.nD Cert.DwUpIdeal.τ).loc Cert.DwUpIdeal.main_arg1) = m ((c.tc : Thread Cert.DwUpIdeal.nD Cert.DwUpIdeal.τ).loc Cert.DwUpIdeal.main_arg1))
      ∧ r.2.sem = fun _ => 0)

def quiescent_DwUpRefIdeal [hDwUpRefIdeal : Cert.DwUpRefIdeal.Facts] : Prop :=
  ∀ (m : (ℓ : Loc Cert.DwUpRefIdeal.nD Cert.DwUpRefIdeal.τ Cert.DwUpRefIdeal.sig) → Buf (Elt Ideal) ℓ) (g : Dev Cert.DwUpRefIdeal.nD → PrngReg), Pre_DwUpRefIdeal m →
    θ_run (Cert.DwUpRefIdeal.defs (F := Ideal)) (onTc (τ := Cert.DwUpRefIdeal.τ) (Cert.DwUpRefIdeal.main (F := Ideal))) ⟨m, fun _ => 0, g⟩ (fun r => (∀ c : Dev Cert.DwUpRefIdeal.nD,
      r.2.mem ((c.tc : Thread Cert.DwUpRefIdeal.nD Cert.DwUpRefIdeal.τ).loc Cert.DwUpRefIdeal.main_arg0) = m ((c.tc : Thread Cert.DwUpRefIdeal.nD Cert.DwUpRefIdeal.τ).loc Cert.DwUpRefIdeal.main_arg0)
      ∧ r.2.mem ((c.tc : Thread Cert.DwUpRefIdeal.nD Cert.DwUpRefIdeal.τ).loc Cert.DwUpRefIdeal.main_arg1) = m ((c.tc : Thread Cert.DwUpRefIdeal.nD Cert.DwUpRefIdeal.τ).loc Cert.DwUpRefIdeal.main_arg1))
      ∧ r.2.sem = fun _ => 0)

def quiescent_DwOut [hDwOut : Cert.DwOut.Facts] : Prop :=
  ∀ (m : (ℓ : Loc Cert.DwOut.nD Cert.DwOut.τ Cert.DwOut.sig) → Buf (Elt Bits) ℓ) (g : Dev Cert.DwOut.nD → PrngReg), Pre_DwOut m →
    θ_run (Cert.DwOut.defs (F := Bits)) (onTc (τ := Cert.DwOut.τ) (Cert.DwOut.main (F := Bits))) ⟨m, fun _ => 0, g⟩ (fun r => (∀ c : Dev Cert.DwOut.nD,
      r.2.mem ((c.tc : Thread Cert.DwOut.nD Cert.DwOut.τ).loc Cert.DwOut.main_arg0) = m ((c.tc : Thread Cert.DwOut.nD Cert.DwOut.τ).loc Cert.DwOut.main_arg0)
      ∧ r.2.mem ((c.tc : Thread Cert.DwOut.nD Cert.DwOut.τ).loc Cert.DwOut.main_arg1) = m ((c.tc : Thread Cert.DwOut.nD Cert.DwOut.τ).loc Cert.DwOut.main_arg1))
      ∧ r.2.sem = fun _ => 0)

def quiescent_DwOutIdeal [hDwOutIdeal : Cert.DwOutIdeal.Facts] : Prop :=
  ∀ (m : (ℓ : Loc Cert.DwOutIdeal.nD Cert.DwOutIdeal.τ Cert.DwOutIdeal.sig) → Buf (Elt Ideal) ℓ) (g : Dev Cert.DwOutIdeal.nD → PrngReg), Pre_DwOutIdeal m →
    θ_run (Cert.DwOutIdeal.defs (F := Ideal)) (onTc (τ := Cert.DwOutIdeal.τ) (Cert.DwOutIdeal.main (F := Ideal))) ⟨m, fun _ => 0, g⟩ (fun r => (∀ c : Dev Cert.DwOutIdeal.nD,
      r.2.mem ((c.tc : Thread Cert.DwOutIdeal.nD Cert.DwOutIdeal.τ).loc Cert.DwOutIdeal.main_arg0) = m ((c.tc : Thread Cert.DwOutIdeal.nD Cert.DwOutIdeal.τ).loc Cert.DwOutIdeal.main_arg0)
      ∧ r.2.mem ((c.tc : Thread Cert.DwOutIdeal.nD Cert.DwOutIdeal.τ).loc Cert.DwOutIdeal.main_arg1) = m ((c.tc : Thread Cert.DwOutIdeal.nD Cert.DwOutIdeal.τ).loc Cert.DwOutIdeal.main_arg1))
      ∧ r.2.sem = fun _ => 0)

def quiescent_DwOutRefIdeal [hDwOutRefIdeal : Cert.DwOutRefIdeal.Facts] : Prop :=
  ∀ (m : (ℓ : Loc Cert.DwOutRefIdeal.nD Cert.DwOutRefIdeal.τ Cert.DwOutRefIdeal.sig) → Buf (Elt Ideal) ℓ) (g : Dev Cert.DwOutRefIdeal.nD → PrngReg), Pre_DwOutRefIdeal m →
    θ_run (Cert.DwOutRefIdeal.defs (F := Ideal)) (onTc (τ := Cert.DwOutRefIdeal.τ) (Cert.DwOutRefIdeal.main (F := Ideal))) ⟨m, fun _ => 0, g⟩ (fun r => (∀ c : Dev Cert.DwOutRefIdeal.nD,
      r.2.mem ((c.tc : Thread Cert.DwOutRefIdeal.nD Cert.DwOutRefIdeal.τ).loc Cert.DwOutRefIdeal.main_arg0) = m ((c.tc : Thread Cert.DwOutRefIdeal.nD Cert.DwOutRefIdeal.τ).loc Cert.DwOutRefIdeal.main_arg0)
      ∧ r.2.mem ((c.tc : Thread Cert.DwOutRefIdeal.nD Cert.DwOutRefIdeal.τ).loc Cert.DwOutRefIdeal.main_arg1) = m ((c.tc : Thread Cert.DwOutRefIdeal.nD Cert.DwOutRefIdeal.τ).loc Cert.DwOutRefIdeal.main_arg1))
      ∧ r.2.sem = fun _ => 0)

def quiescent_DwQkv [hDwQkv : Cert.DwQkv.Facts] : Prop :=
  ∀ (m : (ℓ : Loc Cert.DwQkv.nD Cert.DwQkv.τ Cert.DwQkv.sig) → Buf (Elt Bits) ℓ) (g : Dev Cert.DwQkv.nD → PrngReg), Pre_DwQkv m →
    θ_run (Cert.DwQkv.defs (F := Bits)) (onTc (τ := Cert.DwQkv.τ) (Cert.DwQkv.main (F := Bits))) ⟨m, fun _ => 0, g⟩ (fun r => (∀ c : Dev Cert.DwQkv.nD,
      r.2.mem ((c.tc : Thread Cert.DwQkv.nD Cert.DwQkv.τ).loc Cert.DwQkv.main_arg0) = m ((c.tc : Thread Cert.DwQkv.nD Cert.DwQkv.τ).loc Cert.DwQkv.main_arg0)
      ∧ r.2.mem ((c.tc : Thread Cert.DwQkv.nD Cert.DwQkv.τ).loc Cert.DwQkv.main_arg1) = m ((c.tc : Thread Cert.DwQkv.nD Cert.DwQkv.τ).loc Cert.DwQkv.main_arg1))
      ∧ r.2.sem = fun _ => 0)

def quiescent_DwQkvIdeal [hDwQkvIdeal : Cert.DwQkvIdeal.Facts] : Prop :=
  ∀ (m : (ℓ : Loc Cert.DwQkvIdeal.nD Cert.DwQkvIdeal.τ Cert.DwQkvIdeal.sig) → Buf (Elt Ideal) ℓ) (g : Dev Cert.DwQkvIdeal.nD → PrngReg), Pre_DwQkvIdeal m →
    θ_run (Cert.DwQkvIdeal.defs (F := Ideal)) (onTc (τ := Cert.DwQkvIdeal.τ) (Cert.DwQkvIdeal.main (F := Ideal))) ⟨m, fun _ => 0, g⟩ (fun r => (∀ c : Dev Cert.DwQkvIdeal.nD,
      r.2.mem ((c.tc : Thread Cert.DwQkvIdeal.nD Cert.DwQkvIdeal.τ).loc Cert.DwQkvIdeal.main_arg0) = m ((c.tc : Thread Cert.DwQkvIdeal.nD Cert.DwQkvIdeal.τ).loc Cert.DwQkvIdeal.main_arg0)
      ∧ r.2.mem ((c.tc : Thread Cert.DwQkvIdeal.nD Cert.DwQkvIdeal.τ).loc Cert.DwQkvIdeal.main_arg1) = m ((c.tc : Thread Cert.DwQkvIdeal.nD Cert.DwQkvIdeal.τ).loc Cert.DwQkvIdeal.main_arg1))
      ∧ r.2.sem = fun _ => 0)

def quiescent_DwQkvRefIdeal [hDwQkvRefIdeal : Cert.DwQkvRefIdeal.Facts] : Prop :=
  ∀ (m : (ℓ : Loc Cert.DwQkvRefIdeal.nD Cert.DwQkvRefIdeal.τ Cert.DwQkvRefIdeal.sig) → Buf (Elt Ideal) ℓ) (g : Dev Cert.DwQkvRefIdeal.nD → PrngReg), Pre_DwQkvRefIdeal m →
    θ_run (Cert.DwQkvRefIdeal.defs (F := Ideal)) (onTc (τ := Cert.DwQkvRefIdeal.τ) (Cert.DwQkvRefIdeal.main (F := Ideal))) ⟨m, fun _ => 0, g⟩ (fun r => (∀ c : Dev Cert.DwQkvRefIdeal.nD,
      r.2.mem ((c.tc : Thread Cert.DwQkvRefIdeal.nD Cert.DwQkvRefIdeal.τ).loc Cert.DwQkvRefIdeal.main_arg0) = m ((c.tc : Thread Cert.DwQkvRefIdeal.nD Cert.DwQkvRefIdeal.τ).loc Cert.DwQkvRefIdeal.main_arg0)
      ∧ r.2.mem ((c.tc : Thread Cert.DwQkvRefIdeal.nD Cert.DwQkvRefIdeal.τ).loc Cert.DwQkvRefIdeal.main_arg1) = m ((c.tc : Thread Cert.DwQkvRefIdeal.nD Cert.DwQkvRefIdeal.τ).loc Cert.DwQkvRefIdeal.main_arg1))
      ∧ r.2.sem = fun _ => 0)

def quiescent_DwGates [hDwGates : Cert.DwGates.Facts] : Prop :=
  ∀ (m : (ℓ : Loc Cert.DwGates.nD Cert.DwGates.τ Cert.DwGates.sig) → Buf (Elt Bits) ℓ) (g : Dev Cert.DwGates.nD → PrngReg), Pre_DwGates m →
    θ_run (Cert.DwGates.defs (F := Bits)) (onTc (τ := Cert.DwGates.τ) (Cert.DwGates.main (F := Bits))) ⟨m, fun _ => 0, g⟩ (fun r => (∀ c : Dev Cert.DwGates.nD,
      r.2.mem ((c.tc : Thread Cert.DwGates.nD Cert.DwGates.τ).loc Cert.DwGates.main_arg0) = m ((c.tc : Thread Cert.DwGates.nD Cert.DwGates.τ).loc Cert.DwGates.main_arg0)
      ∧ r.2.mem ((c.tc : Thread Cert.DwGates.nD Cert.DwGates.τ).loc Cert.DwGates.main_arg1) = m ((c.tc : Thread Cert.DwGates.nD Cert.DwGates.τ).loc Cert.DwGates.main_arg1))
      ∧ r.2.sem = fun _ => 0)

def quiescent_DwGatesIdeal [hDwGatesIdeal : Cert.DwGatesIdeal.Facts] : Prop :=
  ∀ (m : (ℓ : Loc Cert.DwGatesIdeal.nD Cert.DwGatesIdeal.τ Cert.DwGatesIdeal.sig) → Buf (Elt Ideal) ℓ) (g : Dev Cert.DwGatesIdeal.nD → PrngReg), Pre_DwGatesIdeal m →
    θ_run (Cert.DwGatesIdeal.defs (F := Ideal)) (onTc (τ := Cert.DwGatesIdeal.τ) (Cert.DwGatesIdeal.main (F := Ideal))) ⟨m, fun _ => 0, g⟩ (fun r => (∀ c : Dev Cert.DwGatesIdeal.nD,
      r.2.mem ((c.tc : Thread Cert.DwGatesIdeal.nD Cert.DwGatesIdeal.τ).loc Cert.DwGatesIdeal.main_arg0) = m ((c.tc : Thread Cert.DwGatesIdeal.nD Cert.DwGatesIdeal.τ).loc Cert.DwGatesIdeal.main_arg0)
      ∧ r.2.mem ((c.tc : Thread Cert.DwGatesIdeal.nD Cert.DwGatesIdeal.τ).loc Cert.DwGatesIdeal.main_arg1) = m ((c.tc : Thread Cert.DwGatesIdeal.nD Cert.DwGatesIdeal.τ).loc Cert.DwGatesIdeal.main_arg1))
      ∧ r.2.sem = fun _ => 0)

def quiescent_DwGatesRefIdeal [hDwGatesRefIdeal : Cert.DwGatesRefIdeal.Facts] : Prop :=
  ∀ (m : (ℓ : Loc Cert.DwGatesRefIdeal.nD Cert.DwGatesRefIdeal.τ Cert.DwGatesRefIdeal.sig) → Buf (Elt Ideal) ℓ) (g : Dev Cert.DwGatesRefIdeal.nD → PrngReg), Pre_DwGatesRefIdeal m →
    θ_run (Cert.DwGatesRefIdeal.defs (F := Ideal)) (onTc (τ := Cert.DwGatesRefIdeal.τ) (Cert.DwGatesRefIdeal.main (F := Ideal))) ⟨m, fun _ => 0, g⟩ (fun r => (∀ c : Dev Cert.DwGatesRefIdeal.nD,
      r.2.mem ((c.tc : Thread Cert.DwGatesRefIdeal.nD Cert.DwGatesRefIdeal.τ).loc Cert.DwGatesRefIdeal.main_arg0) = m ((c.tc : Thread Cert.DwGatesRefIdeal.nD Cert.DwGatesRefIdeal.τ).loc Cert.DwGatesRefIdeal.main_arg0)
      ∧ r.2.mem ((c.tc : Thread Cert.DwGatesRefIdeal.nD Cert.DwGatesRefIdeal.τ).loc Cert.DwGatesRefIdeal.main_arg1) = m ((c.tc : Thread Cert.DwGatesRefIdeal.nD Cert.DwGatesRefIdeal.τ).loc Cert.DwGatesRefIdeal.main_arg1))
      ∧ r.2.sem = fun _ => 0)

def quiescent_DwGz [hDwGz : Cert.DwGz.Facts] : Prop :=
  ∀ (m : (ℓ : Loc Cert.DwGz.nD Cert.DwGz.τ Cert.DwGz.sig) → Buf (Elt Bits) ℓ) (g : Dev Cert.DwGz.nD → PrngReg), Pre_DwGz m →
    θ_run (Cert.DwGz.defs (F := Bits)) (onTc (τ := Cert.DwGz.τ) (Cert.DwGz.main (F := Bits))) ⟨m, fun _ => 0, g⟩ (fun r => (∀ c : Dev Cert.DwGz.nD,
      r.2.mem ((c.tc : Thread Cert.DwGz.nD Cert.DwGz.τ).loc Cert.DwGz.main_arg0) = m ((c.tc : Thread Cert.DwGz.nD Cert.DwGz.τ).loc Cert.DwGz.main_arg0)
      ∧ r.2.mem ((c.tc : Thread Cert.DwGz.nD Cert.DwGz.τ).loc Cert.DwGz.main_arg1) = m ((c.tc : Thread Cert.DwGz.nD Cert.DwGz.τ).loc Cert.DwGz.main_arg1))
      ∧ r.2.sem = fun _ => 0)

def quiescent_DwGzIdeal [hDwGzIdeal : Cert.DwGzIdeal.Facts] : Prop :=
  ∀ (m : (ℓ : Loc Cert.DwGzIdeal.nD Cert.DwGzIdeal.τ Cert.DwGzIdeal.sig) → Buf (Elt Ideal) ℓ) (g : Dev Cert.DwGzIdeal.nD → PrngReg), Pre_DwGzIdeal m →
    θ_run (Cert.DwGzIdeal.defs (F := Ideal)) (onTc (τ := Cert.DwGzIdeal.τ) (Cert.DwGzIdeal.main (F := Ideal))) ⟨m, fun _ => 0, g⟩ (fun r => (∀ c : Dev Cert.DwGzIdeal.nD,
      r.2.mem ((c.tc : Thread Cert.DwGzIdeal.nD Cert.DwGzIdeal.τ).loc Cert.DwGzIdeal.main_arg0) = m ((c.tc : Thread Cert.DwGzIdeal.nD Cert.DwGzIdeal.τ).loc Cert.DwGzIdeal.main_arg0)
      ∧ r.2.mem ((c.tc : Thread Cert.DwGzIdeal.nD Cert.DwGzIdeal.τ).loc Cert.DwGzIdeal.main_arg1) = m ((c.tc : Thread Cert.DwGzIdeal.nD Cert.DwGzIdeal.τ).loc Cert.DwGzIdeal.main_arg1))
      ∧ r.2.sem = fun _ => 0)

def quiescent_DwGzRefIdeal [hDwGzRefIdeal : Cert.DwGzRefIdeal.Facts] : Prop :=
  ∀ (m : (ℓ : Loc Cert.DwGzRefIdeal.nD Cert.DwGzRefIdeal.τ Cert.DwGzRefIdeal.sig) → Buf (Elt Ideal) ℓ) (g : Dev Cert.DwGzRefIdeal.nD → PrngReg), Pre_DwGzRefIdeal m →
    θ_run (Cert.DwGzRefIdeal.defs (F := Ideal)) (onTc (τ := Cert.DwGzRefIdeal.τ) (Cert.DwGzRefIdeal.main (F := Ideal))) ⟨m, fun _ => 0, g⟩ (fun r => (∀ c : Dev Cert.DwGzRefIdeal.nD,
      r.2.mem ((c.tc : Thread Cert.DwGzRefIdeal.nD Cert.DwGzRefIdeal.τ).loc Cert.DwGzRefIdeal.main_arg0) = m ((c.tc : Thread Cert.DwGzRefIdeal.nD Cert.DwGzRefIdeal.τ).loc Cert.DwGzRefIdeal.main_arg0)
      ∧ r.2.mem ((c.tc : Thread Cert.DwGzRefIdeal.nD Cert.DwGzRefIdeal.τ).loc Cert.DwGzRefIdeal.main_arg1) = m ((c.tc : Thread Cert.DwGzRefIdeal.nD Cert.DwGzRefIdeal.τ).loc Cert.DwGzRefIdeal.main_arg1))
      ∧ r.2.sem = fun _ => 0)

def quiescent_ProjFox [hProjFox : Cert.ProjFox.Facts] : Prop :=
  ∀ (m : (ℓ : Loc Cert.ProjFox.nD Cert.ProjFox.τ Cert.ProjFox.sig) → Buf (Elt Bits) ℓ) (g : Dev Cert.ProjFox.nD → PrngReg), Pre_ProjFox m →
    θ_run (Cert.ProjFox.defs (F := Bits)) (onTc (τ := Cert.ProjFox.τ) (Cert.ProjFox.main (F := Bits))) ⟨m, fun _ => 0, g⟩ (fun r => (∀ c : Dev Cert.ProjFox.nD,
      r.2.mem ((c.tc : Thread Cert.ProjFox.nD Cert.ProjFox.τ).loc Cert.ProjFox.main_arg0) = m ((c.tc : Thread Cert.ProjFox.nD Cert.ProjFox.τ).loc Cert.ProjFox.main_arg0)
      ∧ r.2.mem ((c.tc : Thread Cert.ProjFox.nD Cert.ProjFox.τ).loc Cert.ProjFox.main_arg1) = m ((c.tc : Thread Cert.ProjFox.nD Cert.ProjFox.τ).loc Cert.ProjFox.main_arg1))
      ∧ r.2.sem = fun _ => 0)

def quiescent_ProjFoxIdeal [hProjFoxIdeal : Cert.ProjFoxIdeal.Facts] : Prop :=
  ∀ (m : (ℓ : Loc Cert.ProjFoxIdeal.nD Cert.ProjFoxIdeal.τ Cert.ProjFoxIdeal.sig) → Buf (Elt Ideal) ℓ) (g : Dev Cert.ProjFoxIdeal.nD → PrngReg), Pre_ProjFoxIdeal m →
    θ_run (Cert.ProjFoxIdeal.defs (F := Ideal)) (onTc (τ := Cert.ProjFoxIdeal.τ) (Cert.ProjFoxIdeal.main (F := Ideal))) ⟨m, fun _ => 0, g⟩ (fun r => (∀ c : Dev Cert.ProjFoxIdeal.nD,
      r.2.mem ((c.tc : Thread Cert.ProjFoxIdeal.nD Cert.ProjFoxIdeal.τ).loc Cert.ProjFoxIdeal.main_arg0) = m ((c.tc : Thread Cert.ProjFoxIdeal.nD Cert.ProjFoxIdeal.τ).loc Cert.ProjFoxIdeal.main_arg0)
      ∧ r.2.mem ((c.tc : Thread Cert.ProjFoxIdeal.nD Cert.ProjFoxIdeal.τ).loc Cert.ProjFoxIdeal.main_arg1) = m ((c.tc : Thread Cert.ProjFoxIdeal.nD Cert.ProjFoxIdeal.τ).loc Cert.ProjFoxIdeal.main_arg1))
      ∧ r.2.sem = fun _ => 0)

def quiescent_ProjFoxRefIdeal [hProjFoxRefIdeal : Cert.ProjFoxRefIdeal.Facts] : Prop :=
  ∀ (m : (ℓ : Loc Cert.ProjFoxRefIdeal.nD Cert.ProjFoxRefIdeal.τ Cert.ProjFoxRefIdeal.sig) → Buf (Elt Ideal) ℓ) (g : Dev Cert.ProjFoxRefIdeal.nD → PrngReg), Pre_ProjFoxRefIdeal m →
    θ_run (Cert.ProjFoxRefIdeal.defs (F := Ideal)) (onTc (τ := Cert.ProjFoxRefIdeal.τ) (Cert.ProjFoxRefIdeal.main (F := Ideal))) ⟨m, fun _ => 0, g⟩ (fun r => (∀ c : Dev Cert.ProjFoxRefIdeal.nD,
      r.2.mem ((c.tc : Thread Cert.ProjFoxRefIdeal.nD Cert.ProjFoxRefIdeal.τ).loc Cert.ProjFoxRefIdeal.main_arg0) = m ((c.tc : Thread Cert.ProjFoxRefIdeal.nD Cert.ProjFoxRefIdeal.τ).loc Cert.ProjFoxRefIdeal.main_arg0)
      ∧ r.2.mem ((c.tc : Thread Cert.ProjFoxRefIdeal.nD Cert.ProjFoxRefIdeal.τ).loc Cert.ProjFoxRefIdeal.main_arg1) = m ((c.tc : Thread Cert.ProjFoxRefIdeal.nD Cert.ProjFoxRefIdeal.τ).loc Cert.ProjFoxRefIdeal.main_arg1))
      ∧ r.2.sem = fun _ => 0)

def quiescent_ProjQkv [hProjQkv : Cert.ProjQkv.Facts] : Prop :=
  ∀ (m : (ℓ : Loc Cert.ProjQkv.nD Cert.ProjQkv.τ Cert.ProjQkv.sig) → Buf (Elt Bits) ℓ) (g : Dev Cert.ProjQkv.nD → PrngReg), Pre_ProjQkv m →
    θ_run (Cert.ProjQkv.defs (F := Bits)) (onTc (τ := Cert.ProjQkv.τ) (Cert.ProjQkv.main (F := Bits))) ⟨m, fun _ => 0, g⟩ (fun r => (∀ c : Dev Cert.ProjQkv.nD,
      r.2.mem ((c.tc : Thread Cert.ProjQkv.nD Cert.ProjQkv.τ).loc Cert.ProjQkv.main_arg0) = m ((c.tc : Thread Cert.ProjQkv.nD Cert.ProjQkv.τ).loc Cert.ProjQkv.main_arg0)
      ∧ r.2.mem ((c.tc : Thread Cert.ProjQkv.nD Cert.ProjQkv.τ).loc Cert.ProjQkv.main_arg1) = m ((c.tc : Thread Cert.ProjQkv.nD Cert.ProjQkv.τ).loc Cert.ProjQkv.main_arg1))
      ∧ r.2.sem = fun _ => 0)

def quiescent_ProjQkvIdeal [hProjQkvIdeal : Cert.ProjQkvIdeal.Facts] : Prop :=
  ∀ (m : (ℓ : Loc Cert.ProjQkvIdeal.nD Cert.ProjQkvIdeal.τ Cert.ProjQkvIdeal.sig) → Buf (Elt Ideal) ℓ) (g : Dev Cert.ProjQkvIdeal.nD → PrngReg), Pre_ProjQkvIdeal m →
    θ_run (Cert.ProjQkvIdeal.defs (F := Ideal)) (onTc (τ := Cert.ProjQkvIdeal.τ) (Cert.ProjQkvIdeal.main (F := Ideal))) ⟨m, fun _ => 0, g⟩ (fun r => (∀ c : Dev Cert.ProjQkvIdeal.nD,
      r.2.mem ((c.tc : Thread Cert.ProjQkvIdeal.nD Cert.ProjQkvIdeal.τ).loc Cert.ProjQkvIdeal.main_arg0) = m ((c.tc : Thread Cert.ProjQkvIdeal.nD Cert.ProjQkvIdeal.τ).loc Cert.ProjQkvIdeal.main_arg0)
      ∧ r.2.mem ((c.tc : Thread Cert.ProjQkvIdeal.nD Cert.ProjQkvIdeal.τ).loc Cert.ProjQkvIdeal.main_arg1) = m ((c.tc : Thread Cert.ProjQkvIdeal.nD Cert.ProjQkvIdeal.τ).loc Cert.ProjQkvIdeal.main_arg1))
      ∧ r.2.sem = fun _ => 0)

def quiescent_ProjQkvRefIdeal [hProjQkvRefIdeal : Cert.ProjQkvRefIdeal.Facts] : Prop :=
  ∀ (m : (ℓ : Loc Cert.ProjQkvRefIdeal.nD Cert.ProjQkvRefIdeal.τ Cert.ProjQkvRefIdeal.sig) → Buf (Elt Ideal) ℓ) (g : Dev Cert.ProjQkvRefIdeal.nD → PrngReg), Pre_ProjQkvRefIdeal m →
    θ_run (Cert.ProjQkvRefIdeal.defs (F := Ideal)) (onTc (τ := Cert.ProjQkvRefIdeal.τ) (Cert.ProjQkvRefIdeal.main (F := Ideal))) ⟨m, fun _ => 0, g⟩ (fun r => (∀ c : Dev Cert.ProjQkvRefIdeal.nD,
      r.2.mem ((c.tc : Thread Cert.ProjQkvRefIdeal.nD Cert.ProjQkvRefIdeal.τ).loc Cert.ProjQkvRefIdeal.main_arg0) = m ((c.tc : Thread Cert.ProjQkvRefIdeal.nD Cert.ProjQkvRefIdeal.τ).loc Cert.ProjQkvRefIdeal.main_arg0)
      ∧ r.2.mem ((c.tc : Thread Cert.ProjQkvRefIdeal.nD Cert.ProjQkvRefIdeal.τ).loc Cert.ProjQkvRefIdeal.main_arg1) = m ((c.tc : Thread Cert.ProjQkvRefIdeal.nD Cert.ProjQkvRefIdeal.τ).loc Cert.ProjQkvRefIdeal.main_arg1))
      ∧ r.2.sem = fun _ => 0)

def quiescent_ProjGates [hProjGates : Cert.ProjGates.Facts] : Prop :=
  ∀ (m : (ℓ : Loc Cert.ProjGates.nD Cert.ProjGates.τ Cert.ProjGates.sig) → Buf (Elt Bits) ℓ) (g : Dev Cert.ProjGates.nD → PrngReg), Pre_ProjGates m →
    θ_run (Cert.ProjGates.defs (F := Bits)) (onTc (τ := Cert.ProjGates.τ) (Cert.ProjGates.main (F := Bits))) ⟨m, fun _ => 0, g⟩ (fun r => (∀ c : Dev Cert.ProjGates.nD,
      r.2.mem ((c.tc : Thread Cert.ProjGates.nD Cert.ProjGates.τ).loc Cert.ProjGates.main_arg0) = m ((c.tc : Thread Cert.ProjGates.nD Cert.ProjGates.τ).loc Cert.ProjGates.main_arg0)
      ∧ r.2.mem ((c.tc : Thread Cert.ProjGates.nD Cert.ProjGates.τ).loc Cert.ProjGates.main_arg1) = m ((c.tc : Thread Cert.ProjGates.nD Cert.ProjGates.τ).loc Cert.ProjGates.main_arg1))
      ∧ r.2.sem = fun _ => 0)

def quiescent_ProjGatesIdeal [hProjGatesIdeal : Cert.ProjGatesIdeal.Facts] : Prop :=
  ∀ (m : (ℓ : Loc Cert.ProjGatesIdeal.nD Cert.ProjGatesIdeal.τ Cert.ProjGatesIdeal.sig) → Buf (Elt Ideal) ℓ) (g : Dev Cert.ProjGatesIdeal.nD → PrngReg), Pre_ProjGatesIdeal m →
    θ_run (Cert.ProjGatesIdeal.defs (F := Ideal)) (onTc (τ := Cert.ProjGatesIdeal.τ) (Cert.ProjGatesIdeal.main (F := Ideal))) ⟨m, fun _ => 0, g⟩ (fun r => (∀ c : Dev Cert.ProjGatesIdeal.nD,
      r.2.mem ((c.tc : Thread Cert.ProjGatesIdeal.nD Cert.ProjGatesIdeal.τ).loc Cert.ProjGatesIdeal.main_arg0) = m ((c.tc : Thread Cert.ProjGatesIdeal.nD Cert.ProjGatesIdeal.τ).loc Cert.ProjGatesIdeal.main_arg0)
      ∧ r.2.mem ((c.tc : Thread Cert.ProjGatesIdeal.nD Cert.ProjGatesIdeal.τ).loc Cert.ProjGatesIdeal.main_arg1) = m ((c.tc : Thread Cert.ProjGatesIdeal.nD Cert.ProjGatesIdeal.τ).loc Cert.ProjGatesIdeal.main_arg1))
      ∧ r.2.sem = fun _ => 0)

def quiescent_ProjGatesRefIdeal [hProjGatesRefIdeal : Cert.ProjGatesRefIdeal.Facts] : Prop :=
  ∀ (m : (ℓ : Loc Cert.ProjGatesRefIdeal.nD Cert.ProjGatesRefIdeal.τ Cert.ProjGatesRefIdeal.sig) → Buf (Elt Ideal) ℓ) (g : Dev Cert.ProjGatesRefIdeal.nD → PrngReg), Pre_ProjGatesRefIdeal m →
    θ_run (Cert.ProjGatesRefIdeal.defs (F := Ideal)) (onTc (τ := Cert.ProjGatesRefIdeal.τ) (Cert.ProjGatesRefIdeal.main (F := Ideal))) ⟨m, fun _ => 0, g⟩ (fun r => (∀ c : Dev Cert.ProjGatesRefIdeal.nD,
      r.2.mem ((c.tc : Thread Cert.ProjGatesRefIdeal.nD Cert.ProjGatesRefIdeal.τ).loc Cert.ProjGatesRefIdeal.main_arg0) = m ((c.tc : Thread Cert.ProjGatesRefIdeal.nD Cert.ProjGatesRefIdeal.τ).loc Cert.ProjGatesRefIdeal.main_arg0)
      ∧ r.2.mem ((c.tc : Thread Cert.ProjGatesRefIdeal.nD Cert.ProjGatesRefIdeal.τ).loc Cert.ProjGatesRefIdeal.main_arg1) = m ((c.tc : Thread Cert.ProjGatesRefIdeal.nD Cert.ProjGatesRefIdeal.τ).loc Cert.ProjGatesRefIdeal.main_arg1))
      ∧ r.2.sem = fun _ => 0)

def quiescent_ProjGz [hProjGz : Cert.ProjGz.Facts] : Prop :=
  ∀ (m : (ℓ : Loc Cert.ProjGz.nD Cert.ProjGz.τ Cert.ProjGz.sig) → Buf (Elt Bits) ℓ) (g : Dev Cert.ProjGz.nD → PrngReg), Pre_ProjGz m →
    θ_run (Cert.ProjGz.defs (F := Bits)) (onTc (τ := Cert.ProjGz.τ) (Cert.ProjGz.main (F := Bits))) ⟨m, fun _ => 0, g⟩ (fun r => (∀ c : Dev Cert.ProjGz.nD,
      r.2.mem ((c.tc : Thread Cert.ProjGz.nD Cert.ProjGz.τ).loc Cert.ProjGz.main_arg0) = m ((c.tc : Thread Cert.ProjGz.nD Cert.ProjGz.τ).loc Cert.ProjGz.main_arg0)
      ∧ r.2.mem ((c.tc : Thread Cert.ProjGz.nD Cert.ProjGz.τ).loc Cert.ProjGz.main_arg1) = m ((c.tc : Thread Cert.ProjGz.nD Cert.ProjGz.τ).loc Cert.ProjGz.main_arg1))
      ∧ r.2.sem = fun _ => 0)

def quiescent_ProjGzIdeal [hProjGzIdeal : Cert.ProjGzIdeal.Facts] : Prop :=
  ∀ (m : (ℓ : Loc Cert.ProjGzIdeal.nD Cert.ProjGzIdeal.τ Cert.ProjGzIdeal.sig) → Buf (Elt Ideal) ℓ) (g : Dev Cert.ProjGzIdeal.nD → PrngReg), Pre_ProjGzIdeal m →
    θ_run (Cert.ProjGzIdeal.defs (F := Ideal)) (onTc (τ := Cert.ProjGzIdeal.τ) (Cert.ProjGzIdeal.main (F := Ideal))) ⟨m, fun _ => 0, g⟩ (fun r => (∀ c : Dev Cert.ProjGzIdeal.nD,
      r.2.mem ((c.tc : Thread Cert.ProjGzIdeal.nD Cert.ProjGzIdeal.τ).loc Cert.ProjGzIdeal.main_arg0) = m ((c.tc : Thread Cert.ProjGzIdeal.nD Cert.ProjGzIdeal.τ).loc Cert.ProjGzIdeal.main_arg0)
      ∧ r.2.mem ((c.tc : Thread Cert.ProjGzIdeal.nD Cert.ProjGzIdeal.τ).loc Cert.ProjGzIdeal.main_arg1) = m ((c.tc : Thread Cert.ProjGzIdeal.nD Cert.ProjGzIdeal.τ).loc Cert.ProjGzIdeal.main_arg1))
      ∧ r.2.sem = fun _ => 0)

def quiescent_ProjGzRefIdeal [hProjGzRefIdeal : Cert.ProjGzRefIdeal.Facts] : Prop :=
  ∀ (m : (ℓ : Loc Cert.ProjGzRefIdeal.nD Cert.ProjGzRefIdeal.τ Cert.ProjGzRefIdeal.sig) → Buf (Elt Ideal) ℓ) (g : Dev Cert.ProjGzRefIdeal.nD → PrngReg), Pre_ProjGzRefIdeal m →
    θ_run (Cert.ProjGzRefIdeal.defs (F := Ideal)) (onTc (τ := Cert.ProjGzRefIdeal.τ) (Cert.ProjGzRefIdeal.main (F := Ideal))) ⟨m, fun _ => 0, g⟩ (fun r => (∀ c : Dev Cert.ProjGzRefIdeal.nD,
      r.2.mem ((c.tc : Thread Cert.ProjGzRefIdeal.nD Cert.ProjGzRefIdeal.τ).loc Cert.ProjGzRefIdeal.main_arg0) = m ((c.tc : Thread Cert.ProjGzRefIdeal.nD Cert.ProjGzRefIdeal.τ).loc Cert.ProjGzRefIdeal.main_arg0)
      ∧ r.2.mem ((c.tc : Thread Cert.ProjGzRefIdeal.nD Cert.ProjGzRefIdeal.τ).loc Cert.ProjGzRefIdeal.main_arg1) = m ((c.tc : Thread Cert.ProjGzRefIdeal.nD Cert.ProjGzRefIdeal.τ).loc Cert.ProjGzRefIdeal.main_arg1))
      ∧ r.2.sem = fun _ => 0)

def quiescent_Branch [hBranch : Cert.Branch.Facts] : Prop :=
  ∀ (m : (ℓ : Loc Cert.Branch.nD Cert.Branch.τ Cert.Branch.sig) → Buf (Elt Bits) ℓ) (g : Dev Cert.Branch.nD → PrngReg), Pre_Branch m →
    θ_run (Cert.Branch.defs (F := Bits)) (onTc (τ := Cert.Branch.τ) (Cert.Branch.main (F := Bits))) ⟨m, fun _ => 0, g⟩ (fun r => (∀ c : Dev Cert.Branch.nD,
      r.2.mem ((c.tc : Thread Cert.Branch.nD Cert.Branch.τ).loc Cert.Branch.main_arg0) = m ((c.tc : Thread Cert.Branch.nD Cert.Branch.τ).loc Cert.Branch.main_arg0)
      ∧ r.2.mem ((c.tc : Thread Cert.Branch.nD Cert.Branch.τ).loc Cert.Branch.main_arg1) = m ((c.tc : Thread Cert.Branch.nD Cert.Branch.τ).loc Cert.Branch.main_arg1))
      ∧ r.2.sem = fun _ => 0)

def quiescent_BranchIdeal [hBranchIdeal : Cert.BranchIdeal.Facts] : Prop :=
  ∀ (m : (ℓ : Loc Cert.BranchIdeal.nD Cert.BranchIdeal.τ Cert.BranchIdeal.sig) → Buf (Elt Ideal) ℓ) (g : Dev Cert.BranchIdeal.nD → PrngReg), Pre_BranchIdeal m →
    θ_run (Cert.BranchIdeal.defs (F := Ideal)) (onTc (τ := Cert.BranchIdeal.τ) (Cert.BranchIdeal.main (F := Ideal))) ⟨m, fun _ => 0, g⟩ (fun r => (∀ c : Dev Cert.BranchIdeal.nD,
      r.2.mem ((c.tc : Thread Cert.BranchIdeal.nD Cert.BranchIdeal.τ).loc Cert.BranchIdeal.main_arg0) = m ((c.tc : Thread Cert.BranchIdeal.nD Cert.BranchIdeal.τ).loc Cert.BranchIdeal.main_arg0)
      ∧ r.2.mem ((c.tc : Thread Cert.BranchIdeal.nD Cert.BranchIdeal.τ).loc Cert.BranchIdeal.main_arg1) = m ((c.tc : Thread Cert.BranchIdeal.nD Cert.BranchIdeal.τ).loc Cert.BranchIdeal.main_arg1))
      ∧ r.2.sem = fun _ => 0)

def quiescent_BranchRefIdeal [hBranchRefIdeal : Cert.BranchRefIdeal.Facts] : Prop :=
  ∀ (m : (ℓ : Loc Cert.BranchRefIdeal.nD Cert.BranchRefIdeal.τ Cert.BranchRefIdeal.sig) → Buf (Elt Ideal) ℓ) (g : Dev Cert.BranchRefIdeal.nD → PrngReg), Pre_BranchRefIdeal m →
    θ_run (Cert.BranchRefIdeal.defs (F := Ideal)) (onTc (τ := Cert.BranchRefIdeal.τ) (Cert.BranchRefIdeal.main (F := Ideal))) ⟨m, fun _ => 0, g⟩ (fun r => (∀ c : Dev Cert.BranchRefIdeal.nD,
      r.2.mem ((c.tc : Thread Cert.BranchRefIdeal.nD Cert.BranchRefIdeal.τ).loc Cert.BranchRefIdeal.main_arg0) = m ((c.tc : Thread Cert.BranchRefIdeal.nD Cert.BranchRefIdeal.τ).loc Cert.BranchRefIdeal.main_arg0)
      ∧ r.2.mem ((c.tc : Thread Cert.BranchRefIdeal.nD Cert.BranchRefIdeal.τ).loc Cert.BranchRefIdeal.main_arg1) = m ((c.tc : Thread Cert.BranchRefIdeal.nD Cert.BranchRefIdeal.τ).loc Cert.BranchRefIdeal.main_arg1))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ r.2.sem = fun _ => 0)

def quiescent_UpRefIdeal [hUpRefIdeal : Cert.UpRefIdeal.Facts] : Prop :=
  ∀ (m : (ℓ : Loc Cert.UpRefIdeal.nD Cert.UpRefIdeal.τ Cert.UpRefIdeal.sig) → Buf (Elt Ideal) ℓ) (g : Dev Cert.UpRefIdeal.nD → PrngReg), Pre_UpRefIdeal m →
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1))
      ∧ r.2.sem = fun _ => 0)

def quiescent_AdamNorm [hAdamNorm : Cert.AdamNorm.Facts] : Prop :=
  ∀ (m : (ℓ : Loc Cert.AdamNorm.nD Cert.AdamNorm.τ Cert.AdamNorm.sig) → Buf (Elt Bits) ℓ) (g : Dev Cert.AdamNorm.nD → PrngReg), Pre_AdamNorm m →
    θ_run (Cert.AdamNorm.defs (F := Bits)) (onTc (τ := Cert.AdamNorm.τ) (Cert.AdamNorm.main (F := Bits))) ⟨m, fun _ => 0, g⟩ (fun r => (∀ c : Dev Cert.AdamNorm.nD,
      r.2.mem ((c.tc : Thread Cert.AdamNorm.nD Cert.AdamNorm.τ).loc Cert.AdamNorm.main_arg0) = m ((c.tc : Thread Cert.AdamNorm.nD Cert.AdamNorm.τ).loc Cert.AdamNorm.main_arg0)
      ∧ r.2.mem ((c.tc : Thread Cert.AdamNorm.nD Cert.AdamNorm.τ).loc Cert.AdamNorm.main_arg1) = m ((c.tc : Thread Cert.AdamNorm.nD Cert.AdamNorm.τ).loc Cert.AdamNorm.main_arg1)
      ∧ r.2.mem ((c.tc : Thread Cert.AdamNorm.nD Cert.AdamNorm.τ).loc Cert.AdamNorm.main_arg2) = m ((c.tc : Thread Cert.AdamNorm.nD Cert.AdamNorm.τ).loc Cert.AdamNorm.main_arg2)
      ∧ r.2.mem ((c.tc : Thread Cert.AdamNorm.nD Cert.AdamNorm.τ).loc Cert.AdamNorm.main_arg3) = m ((c.tc : Thread Cert.AdamNorm.nD Cert.AdamNorm.τ).loc Cert.AdamNorm.main_arg3))
      ∧ r.2.sem = fun _ => 0)

def quiescent_AdamNormIdeal [hAdamNormIdeal : Cert.AdamNormIdeal.Facts] : Prop :=
  ∀ (m : (ℓ : Loc Cert.AdamNormIdeal.nD Cert.AdamNormIdeal.τ Cert.AdamNormIdeal.sig) → Buf (Elt Ideal) ℓ) (g : Dev Cert.AdamNormIdeal.nD → PrngReg), Pre_AdamNormIdeal m →
    θ_run (Cert.AdamNormIdeal.defs (F := Ideal)) (onTc (τ := Cert.AdamNormIdeal.τ) (Cert.AdamNormIdeal.main (F := Ideal))) ⟨m, fun _ => 0, g⟩ (fun r => (∀ c : Dev Cert.AdamNormIdeal.nD,
      r.2.mem ((c.tc : Thread Cert.AdamNormIdeal.nD Cert.AdamNormIdeal.τ).loc Cert.AdamNormIdeal.main_arg0) = m ((c.tc : Thread Cert.AdamNormIdeal.nD Cert.AdamNormIdeal.τ).loc Cert.AdamNormIdeal.main_arg0)
      ∧ r.2.mem ((c.tc : Thread Cert.AdamNormIdeal.nD Cert.AdamNormIdeal.τ).loc Cert.AdamNormIdeal.main_arg1) = m ((c.tc : Thread Cert.AdamNormIdeal.nD Cert.AdamNormIdeal.τ).loc Cert.AdamNormIdeal.main_arg1)
      ∧ r.2.mem ((c.tc : Thread Cert.AdamNormIdeal.nD Cert.AdamNormIdeal.τ).loc Cert.AdamNormIdeal.main_arg2) = m ((c.tc : Thread Cert.AdamNormIdeal.nD Cert.AdamNormIdeal.τ).loc Cert.AdamNormIdeal.main_arg2)
      ∧ r.2.mem ((c.tc : Thread Cert.AdamNormIdeal.nD Cert.AdamNormIdeal.τ).loc Cert.AdamNormIdeal.main_arg3) = m ((c.tc : Thread Cert.AdamNormIdeal.nD Cert.AdamNormIdeal.τ).loc Cert.AdamNormIdeal.main_arg3))
      ∧ r.2.sem = fun _ => 0)

def quiescent_AdamNormRefIdeal [hAdamNormRefIdeal : Cert.AdamNormRefIdeal.Facts] : Prop :=
  ∀ (m : (ℓ : Loc Cert.AdamNormRefIdeal.nD Cert.AdamNormRefIdeal.τ Cert.AdamNormRefIdeal.sig) → Buf (Elt Ideal) ℓ) (g : Dev Cert.AdamNormRefIdeal.nD → PrngReg), Pre_AdamNormRefIdeal m →
    θ_run (Cert.AdamNormRefIdeal.defs (F := Ideal)) (onTc (τ := Cert.AdamNormRefIdeal.τ) (Cert.AdamNormRefIdeal.main (F := Ideal))) ⟨m, fun _ => 0, g⟩ (fun r => (∀ c : Dev Cert.AdamNormRefIdeal.nD,
      r.2.mem ((c.tc : Thread Cert.AdamNormRefIdeal.nD Cert.AdamNormRefIdeal.τ).loc Cert.AdamNormRefIdeal.main_arg0) = m ((c.tc : Thread Cert.AdamNormRefIdeal.nD Cert.AdamNormRefIdeal.τ).loc Cert.AdamNormRefIdeal.main_arg0)
      ∧ r.2.mem ((c.tc : Thread Cert.AdamNormRefIdeal.nD Cert.AdamNormRefIdeal.τ).loc Cert.AdamNormRefIdeal.main_arg1) = m ((c.tc : Thread Cert.AdamNormRefIdeal.nD Cert.AdamNormRefIdeal.τ).loc Cert.AdamNormRefIdeal.main_arg1)
      ∧ r.2.mem ((c.tc : Thread Cert.AdamNormRefIdeal.nD Cert.AdamNormRefIdeal.τ).loc Cert.AdamNormRefIdeal.main_arg2) = m ((c.tc : Thread Cert.AdamNormRefIdeal.nD Cert.AdamNormRefIdeal.τ).loc Cert.AdamNormRefIdeal.main_arg2)
      ∧ r.2.mem ((c.tc : Thread Cert.AdamNormRefIdeal.nD Cert.AdamNormRefIdeal.τ).loc Cert.AdamNormRefIdeal.main_arg3) = m ((c.tc : Thread Cert.AdamNormRefIdeal.nD Cert.AdamNormRefIdeal.τ).loc Cert.AdamNormRefIdeal.main_arg3))
      ∧ r.2.sem = fun _ => 0)

def quiescent_AdamIn [hAdamIn : Cert.AdamIn.Facts] : Prop :=
  ∀ (m : (ℓ : Loc Cert.AdamIn.nD Cert.AdamIn.τ Cert.AdamIn.sig) → Buf (Elt Bits) ℓ) (g : Dev Cert.AdamIn.nD → PrngReg), Pre_AdamIn m →
    θ_run (Cert.AdamIn.defs (F := Bits)) (onTc (τ := Cert.AdamIn.τ) (Cert.AdamIn.main (F := Bits))) ⟨m, fun _ => 0, g⟩ (fun r => (∀ c : Dev Cert.AdamIn.nD,
      r.2.mem ((c.tc : Thread Cert.AdamIn.nD Cert.AdamIn.τ).loc Cert.AdamIn.main_arg0) = m ((c.tc : Thread Cert.AdamIn.nD Cert.AdamIn.τ).loc Cert.AdamIn.main_arg0)
      ∧ r.2.mem ((c.tc : Thread Cert.AdamIn.nD Cert.AdamIn.τ).loc Cert.AdamIn.main_arg1) = m ((c.tc : Thread Cert.AdamIn.nD Cert.AdamIn.τ).loc Cert.AdamIn.main_arg1)
      ∧ r.2.mem ((c.tc : Thread Cert.AdamIn.nD Cert.AdamIn.τ).loc Cert.AdamIn.main_arg2) = m ((c.tc : Thread Cert.AdamIn.nD Cert.AdamIn.τ).loc Cert.AdamIn.main_arg2)
      ∧ r.2.mem ((c.tc : Thread Cert.AdamIn.nD Cert.AdamIn.τ).loc Cert.AdamIn.main_arg3) = m ((c.tc : Thread Cert.AdamIn.nD Cert.AdamIn.τ).loc Cert.AdamIn.main_arg3))
      ∧ r.2.sem = fun _ => 0)

def quiescent_AdamInIdeal [hAdamInIdeal : Cert.AdamInIdeal.Facts] : Prop :=
  ∀ (m : (ℓ : Loc Cert.AdamInIdeal.nD Cert.AdamInIdeal.τ Cert.AdamInIdeal.sig) → Buf (Elt Ideal) ℓ) (g : Dev Cert.AdamInIdeal.nD → PrngReg), Pre_AdamInIdeal m →
    θ_run (Cert.AdamInIdeal.defs (F := Ideal)) (onTc (τ := Cert.AdamInIdeal.τ) (Cert.AdamInIdeal.main (F := Ideal))) ⟨m, fun _ => 0, g⟩ (fun r => (∀ c : Dev Cert.AdamInIdeal.nD,
      r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
      ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
      ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
      ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3))
      ∧ r.2.sem = fun _ => 0)

def quiescent_AdamInRefIdeal [hAdamInRefIdeal : Cert.AdamInRefIdeal.Facts] : Prop :=
  ∀ (m : (ℓ : Loc Cert.AdamInRefIdeal.nD Cert.AdamInRefIdeal.τ Cert.AdamInRefIdeal.sig) → Buf (Elt Ideal) ℓ) (g : Dev Cert.AdamInRefIdeal.nD → PrngReg), Pre_AdamInRefIdeal m →
    θ_run (Cert.AdamInRefIdeal.defs (F := Ideal)) (onTc (τ := Cert.AdamInRefIdeal.τ) (Cert.AdamInRefIdeal.main (F := Ideal))) ⟨m, fun _ => 0, g⟩ (fun r => (∀ c : Dev Cert.AdamInRefIdeal.nD,
      r.2.mem ((c.tc : Thread Cert.AdamInRefIdeal.nD Cert.AdamInRefIdeal.τ).loc Cert.AdamInRefIdeal.main_arg0) = m ((c.tc : Thread Cert.AdamInRefIdeal.nD Cert.AdamInRefIdeal.τ).loc Cert.AdamInRefIdeal.main_arg0)
      ∧ r.2.mem ((c.tc : Thread Cert.AdamInRefIdeal.nD Cert.AdamInRefIdeal.τ).loc Cert.AdamInRefIdeal.main_arg1) = m ((c.tc : Thread Cert.AdamInRefIdeal.nD Cert.AdamInRefIdeal.τ).loc Cert.AdamInRefIdeal.main_arg1)
      ∧ r.2.mem ((c.tc : Thread Cert.AdamInRefIdeal.nD Cert.AdamInRefIdeal.τ).loc Cert.AdamInRefIdeal.main_arg2) = m ((c.tc : Thread Cert.AdamInRefIdeal.nD Cert.AdamInRefIdeal.τ).loc Cert.AdamInRefIdeal.main_arg2)
      ∧ r.2.mem ((c.tc : Thread Cert.AdamInRefIdeal.nD Cert.AdamInRefIdeal.τ).loc Cert.AdamInRefIdeal.main_arg3) = m ((c.tc : Thread Cert.AdamInRefIdeal.nD Cert.AdamInRefIdeal.τ).loc Cert.AdamInRefIdeal.main_arg3))
      ∧ r.2.sem = fun _ => 0)

def quiescent_AdamHead [hAdamHead : Cert.AdamHead.Facts] : Prop :=
  ∀ (m : (ℓ : Loc Cert.AdamHead.nD Cert.AdamHead.τ Cert.AdamHead.sig) → Buf (Elt Bits) ℓ) (g : Dev Cert.AdamHead.nD → PrngReg), Pre_AdamHead m →
    θ_run (Cert.AdamHead.defs (F := Bits)) (onTc (τ := Cert.AdamHead.τ) (Cert.AdamHead.main (F := Bits))) ⟨m, fun _ => 0, g⟩ (fun r => (∀ c : Dev Cert.AdamHead.nD,
      r.2.mem ((c.tc : Thread Cert.AdamHead.nD Cert.AdamHead.τ).loc Cert.AdamHead.main_arg0) = m ((c.tc : Thread Cert.AdamHead.nD Cert.AdamHead.τ).loc Cert.AdamHead.main_arg0)
      ∧ r.2.mem ((c.tc : Thread Cert.AdamHead.nD Cert.AdamHead.τ).loc Cert.AdamHead.main_arg1) = m ((c.tc : Thread Cert.AdamHead.nD Cert.AdamHead.τ).loc Cert.AdamHead.main_arg1)
      ∧ r.2.mem ((c.tc : Thread Cert.AdamHead.nD Cert.AdamHead.τ).loc Cert.AdamHead.main_arg2) = m ((c.tc : Thread Cert.AdamHead.nD Cert.AdamHead.τ).loc Cert.AdamHead.main_arg2)
      ∧ r.2.mem ((c.tc : Thread Cert.AdamHead.nD Cert.AdamHead.τ).loc Cert.AdamHead.main_arg3) = m ((c.tc : Thread Cert.AdamHead.nD Cert.AdamHead.τ).loc Cert.AdamHead.main_arg3))
      ∧ r.2.sem = fun _ => 0)

def quiescent_AdamHeadIdeal [hAdamHeadIdeal : Cert.AdamHeadIdeal.Facts] : Prop :=
  ∀ (m : (ℓ : Loc Cert.AdamHeadIdeal.nD Cert.AdamHeadIdeal.τ Cert.AdamHeadIdeal.sig) → Buf (Elt Ideal) ℓ) (g : Dev Cert.AdamHeadIdeal.nD → PrngReg), Pre_AdamHeadIdeal m →
    θ_run (Cert.AdamHeadIdeal.defs (F := Ideal)) (onTc (τ := Cert.AdamHeadIdeal.τ) (Cert.AdamHeadIdeal.main (F := Ideal))) ⟨m, fun _ => 0, g⟩ (fun r => (∀ c : Dev Cert.AdamHeadIdeal.nD,
      r.2.mem ((c.tc : Thread Cert.AdamHeadIdeal.nD Cert.AdamHeadIdeal.τ).loc Cert.AdamHeadIdeal.main_arg0) = m ((c.tc : Thread Cert.AdamHeadIdeal.nD Cert.AdamHeadIdeal.τ).loc Cert.AdamHeadIdeal.main_arg0)
      ∧ r.2.mem ((c.tc : Thread Cert.AdamHeadIdeal.nD Cert.AdamHeadIdeal.τ).loc Cert.AdamHeadIdeal.main_arg1) = m ((c.tc : Thread Cert.AdamHeadIdeal.nD Cert.AdamHeadIdeal.τ).loc Cert.AdamHeadIdeal.main_arg1)
      ∧ r.2.mem ((c.tc : Thread Cert.AdamHeadIdeal.nD Cert.AdamHeadIdeal.τ).loc Cert.AdamHeadIdeal.main_arg2) = m ((c.tc : Thread Cert.AdamHeadIdeal.nD Cert.AdamHeadIdeal.τ).loc Cert.AdamHeadIdeal.main_arg2)
      ∧ r.2.mem ((c.tc : Thread Cert.AdamHeadIdeal.nD Cert.AdamHeadIdeal.τ).loc Cert.AdamHeadIdeal.main_arg3) = m ((c.tc : Thread Cert.AdamHeadIdeal.nD Cert.AdamHeadIdeal.τ).loc Cert.AdamHeadIdeal.main_arg3))
      ∧ r.2.sem = fun _ => 0)

def quiescent_AdamHeadRefIdeal [hAdamHeadRefIdeal : Cert.AdamHeadRefIdeal.Facts] : Prop :=
  ∀ (m : (ℓ : Loc Cert.AdamHeadRefIdeal.nD Cert.AdamHeadRefIdeal.τ Cert.AdamHeadRefIdeal.sig) → Buf (Elt Ideal) ℓ) (g : Dev Cert.AdamHeadRefIdeal.nD → PrngReg), Pre_AdamHeadRefIdeal m →
    θ_run (Cert.AdamHeadRefIdeal.defs (F := Ideal)) (onTc (τ := Cert.AdamHeadRefIdeal.τ) (Cert.AdamHeadRefIdeal.main (F := Ideal))) ⟨m, fun _ => 0, g⟩ (fun r => (∀ c : Dev Cert.AdamHeadRefIdeal.nD,
      r.2.mem ((c.tc : Thread Cert.AdamHeadRefIdeal.nD Cert.AdamHeadRefIdeal.τ).loc Cert.AdamHeadRefIdeal.main_arg0) = m ((c.tc : Thread Cert.AdamHeadRefIdeal.nD Cert.AdamHeadRefIdeal.τ).loc Cert.AdamHeadRefIdeal.main_arg0)
      ∧ r.2.mem ((c.tc : Thread Cert.AdamHeadRefIdeal.nD Cert.AdamHeadRefIdeal.τ).loc Cert.AdamHeadRefIdeal.main_arg1) = m ((c.tc : Thread Cert.AdamHeadRefIdeal.nD Cert.AdamHeadRefIdeal.τ).loc Cert.AdamHeadRefIdeal.main_arg1)
      ∧ r.2.mem ((c.tc : Thread Cert.AdamHeadRefIdeal.nD Cert.AdamHeadRefIdeal.τ).loc Cert.AdamHeadRefIdeal.main_arg2) = m ((c.tc : Thread Cert.AdamHeadRefIdeal.nD Cert.AdamHeadRefIdeal.τ).loc Cert.AdamHeadRefIdeal.main_arg2)
      ∧ r.2.mem ((c.tc : Thread Cert.AdamHeadRefIdeal.nD Cert.AdamHeadRefIdeal.τ).loc Cert.AdamHeadRefIdeal.main_arg3) = m ((c.tc : Thread Cert.AdamHeadRefIdeal.nD Cert.AdamHeadRefIdeal.τ).loc Cert.AdamHeadRefIdeal.main_arg3))
      ∧ r.2.sem = fun _ => 0)

def quiescent_AdamConv [hAdamConv : Cert.AdamConv.Facts] : Prop :=
  ∀ (m : (ℓ : Loc Cert.AdamConv.nD Cert.AdamConv.τ Cert.AdamConv.sig) → Buf (Elt Bits) ℓ) (g : Dev Cert.AdamConv.nD → PrngReg), Pre_AdamConv m →
    θ_run (Cert.AdamConv.defs (F := Bits)) (onTc (τ := Cert.AdamConv.τ) (Cert.AdamConv.main (F := Bits))) ⟨m, fun _ => 0, g⟩ (fun r => (∀ c : Dev Cert.AdamConv.nD,
      r.2.mem ((c.tc : Thread Cert.AdamConv.nD Cert.AdamConv.τ).loc Cert.AdamConv.main_arg0) = m ((c.tc : Thread Cert.AdamConv.nD Cert.AdamConv.τ).loc Cert.AdamConv.main_arg0)
      ∧ r.2.mem ((c.tc : Thread Cert.AdamConv.nD Cert.AdamConv.τ).loc Cert.AdamConv.main_arg1) = m ((c.tc : Thread Cert.AdamConv.nD Cert.AdamConv.τ).loc Cert.AdamConv.main_arg1)
      ∧ r.2.mem ((c.tc : Thread Cert.AdamConv.nD Cert.AdamConv.τ).loc Cert.AdamConv.main_arg2) = m ((c.tc : Thread Cert.AdamConv.nD Cert.AdamConv.τ).loc Cert.AdamConv.main_arg2)
      ∧ r.2.mem ((c.tc : Thread Cert.AdamConv.nD Cert.AdamConv.τ).loc Cert.AdamConv.main_arg3) = m ((c.tc : Thread Cert.AdamConv.nD Cert.AdamConv.τ).loc Cert.AdamConv.main_arg3))
      ∧ r.2.sem = fun _ => 0)

def quiescent_AdamConvIdeal [hAdamConvIdeal : Cert.AdamConvIdeal.Facts] : Prop :=
  ∀ (m : (ℓ : Loc Cert.AdamConvIdeal.nD Cert.AdamConvIdeal.τ Cert.AdamConvIdeal.sig) → Buf (Elt Ideal) ℓ) (g : Dev Cert.AdamConvIdeal.nD → PrngReg), Pre_AdamConvIdeal m →
    θ_run (Cert.AdamConvIdeal.defs (F := Ideal)) (onTc (τ := Cert.AdamConvIdeal.τ) (Cert.AdamConvIdeal.main (F := Ideal))) ⟨m, fun _ => 0, g⟩ (fun r => (∀ c : Dev Cert.AdamConvIdeal.nD,
      r.2.mem ((c.tc : Thread Cert.AdamConvIdeal.nD Cert.AdamConvIdeal.τ).loc Cert.AdamConvIdeal.main_arg0) = m ((c.tc : Thread Cert.AdamConvIdeal.nD Cert.AdamConvIdeal.τ).loc Cert.AdamConvIdeal.main_arg0)
      ∧ r.2.mem ((c.tc : Thread Cert.AdamConvIdeal.nD Cert.AdamConvIdeal.τ).loc Cert.AdamConvIdeal.main_arg1) = m ((c.tc : Thread Cert.AdamConvIdeal.nD Cert.AdamConvIdeal.τ).loc Cert.AdamConvIdeal.main_arg1)
      ∧ r.2.mem ((c.tc : Thread Cert.AdamConvIdeal.nD Cert.AdamConvIdeal.τ).loc Cert.AdamConvIdeal.main_arg2) = m ((c.tc : Thread Cert.AdamConvIdeal.nD Cert.AdamConvIdeal.τ).loc Cert.AdamConvIdeal.main_arg2)
      ∧ r.2.mem ((c.tc : Thread Cert.AdamConvIdeal.nD Cert.AdamConvIdeal.τ).loc Cert.AdamConvIdeal.main_arg3) = m ((c.tc : Thread Cert.AdamConvIdeal.nD Cert.AdamConvIdeal.τ).loc Cert.AdamConvIdeal.main_arg3))
      ∧ r.2.sem = fun _ => 0)

def quiescent_AdamConvRefIdeal [hAdamConvRefIdeal : Cert.AdamConvRefIdeal.Facts] : Prop :=
  ∀ (m : (ℓ : Loc Cert.AdamConvRefIdeal.nD Cert.AdamConvRefIdeal.τ Cert.AdamConvRefIdeal.sig) → Buf (Elt Ideal) ℓ) (g : Dev Cert.AdamConvRefIdeal.nD → PrngReg), Pre_AdamConvRefIdeal m →
    θ_run (Cert.AdamConvRefIdeal.defs (F := Ideal)) (onTc (τ := Cert.AdamConvRefIdeal.τ) (Cert.AdamConvRefIdeal.main (F := Ideal))) ⟨m, fun _ => 0, g⟩ (fun r => (∀ c : Dev Cert.AdamConvRefIdeal.nD,
      r.2.mem ((c.tc : Thread Cert.AdamConvRefIdeal.nD Cert.AdamConvRefIdeal.τ).loc Cert.AdamConvRefIdeal.main_arg0) = m ((c.tc : Thread Cert.AdamConvRefIdeal.nD Cert.AdamConvRefIdeal.τ).loc Cert.AdamConvRefIdeal.main_arg0)
      ∧ r.2.mem ((c.tc : Thread Cert.AdamConvRefIdeal.nD Cert.AdamConvRefIdeal.τ).loc Cert.AdamConvRefIdeal.main_arg1) = m ((c.tc : Thread Cert.AdamConvRefIdeal.nD Cert.AdamConvRefIdeal.τ).loc Cert.AdamConvRefIdeal.main_arg1)
      ∧ r.2.mem ((c.tc : Thread Cert.AdamConvRefIdeal.nD Cert.AdamConvRefIdeal.τ).loc Cert.AdamConvRefIdeal.main_arg2) = m ((c.tc : Thread Cert.AdamConvRefIdeal.nD Cert.AdamConvRefIdeal.τ).loc Cert.AdamConvRefIdeal.main_arg2)
      ∧ r.2.mem ((c.tc : Thread Cert.AdamConvRefIdeal.nD Cert.AdamConvRefIdeal.τ).loc Cert.AdamConvRefIdeal.main_arg3) = m ((c.tc : Thread Cert.AdamConvRefIdeal.nD Cert.AdamConvRefIdeal.τ).loc Cert.AdamConvRefIdeal.main_arg3))
      ∧ r.2.sem = fun _ => 0)

def quiescent_AdamGnorm [hAdamGnorm : Cert.AdamGnorm.Facts] : Prop :=
  ∀ (m : (ℓ : Loc Cert.AdamGnorm.nD Cert.AdamGnorm.τ Cert.AdamGnorm.sig) → Buf (Elt Bits) ℓ) (g : Dev Cert.AdamGnorm.nD → PrngReg), Pre_AdamGnorm m →
    θ_run (Cert.AdamGnorm.defs (F := Bits)) (onTc (τ := Cert.AdamGnorm.τ) (Cert.AdamGnorm.main (F := Bits))) ⟨m, fun _ => 0, g⟩ (fun r => (∀ c : Dev Cert.AdamGnorm.nD,
      r.2.mem ((c.tc : Thread Cert.AdamGnorm.nD Cert.AdamGnorm.τ).loc Cert.AdamGnorm.main_arg0) = m ((c.tc : Thread Cert.AdamGnorm.nD Cert.AdamGnorm.τ).loc Cert.AdamGnorm.main_arg0)
      ∧ r.2.mem ((c.tc : Thread Cert.AdamGnorm.nD Cert.AdamGnorm.τ).loc Cert.AdamGnorm.main_arg1) = m ((c.tc : Thread Cert.AdamGnorm.nD Cert.AdamGnorm.τ).loc Cert.AdamGnorm.main_arg1)
      ∧ r.2.mem ((c.tc : Thread Cert.AdamGnorm.nD Cert.AdamGnorm.τ).loc Cert.AdamGnorm.main_arg2) = m ((c.tc : Thread Cert.AdamGnorm.nD Cert.AdamGnorm.τ).loc Cert.AdamGnorm.main_arg2)
      ∧ r.2.mem ((c.tc : Thread Cert.AdamGnorm.nD Cert.AdamGnorm.τ).loc Cert.AdamGnorm.main_arg3) = m ((c.tc : Thread Cert.AdamGnorm.nD Cert.AdamGnorm.τ).loc Cert.AdamGnorm.main_arg3))
      ∧ r.2.sem = fun _ => 0)

def quiescent_AdamGnormIdeal [hAdamGnormIdeal : Cert.AdamGnormIdeal.Facts] : Prop :=
  ∀ (m : (ℓ : Loc Cert.AdamGnormIdeal.nD Cert.AdamGnormIdeal.τ Cert.AdamGnormIdeal.sig) → Buf (Elt Ideal) ℓ) (g : Dev Cert.AdamGnormIdeal.nD → PrngReg), Pre_AdamGnormIdeal m →
    θ_run (Cert.AdamGnormIdeal.defs (F := Ideal)) (onTc (τ := Cert.AdamGnormIdeal.τ) (Cert.AdamGnormIdeal.main (F := Ideal))) ⟨m, fun _ => 0, g⟩ (fun r => (∀ c : Dev Cert.AdamGnormIdeal.nD,
      r.2.mem ((c.tc : Thread Cert.AdamGnormIdeal.nD Cert.AdamGnormIdeal.τ).loc Cert.AdamGnormIdeal.main_arg0) = m ((c.tc : Thread Cert.AdamGnormIdeal.nD Cert.AdamGnormIdeal.τ).loc Cert.AdamGnormIdeal.main_arg0)
      ∧ r.2.mem ((c.tc : Thread Cert.AdamGnormIdeal.nD Cert.AdamGnormIdeal.τ).loc Cert.AdamGnormIdeal.main_arg1) = m ((c.tc : Thread Cert.AdamGnormIdeal.nD Cert.AdamGnormIdeal.τ).loc Cert.AdamGnormIdeal.main_arg1)
      ∧ r.2.mem ((c.tc : Thread Cert.AdamGnormIdeal.nD Cert.AdamGnormIdeal.τ).loc Cert.AdamGnormIdeal.main_arg2) = m ((c.tc : Thread Cert.AdamGnormIdeal.nD Cert.AdamGnormIdeal.τ).loc Cert.AdamGnormIdeal.main_arg2)
      ∧ r.2.mem ((c.tc : Thread Cert.AdamGnormIdeal.nD Cert.AdamGnormIdeal.τ).loc Cert.AdamGnormIdeal.main_arg3) = m ((c.tc : Thread Cert.AdamGnormIdeal.nD Cert.AdamGnormIdeal.τ).loc Cert.AdamGnormIdeal.main_arg3))
      ∧ r.2.sem = fun _ => 0)

def quiescent_AdamGnormRefIdeal [hAdamGnormRefIdeal : Cert.AdamGnormRefIdeal.Facts] : Prop :=
  ∀ (m : (ℓ : Loc Cert.AdamGnormRefIdeal.nD Cert.AdamGnormRefIdeal.τ Cert.AdamGnormRefIdeal.sig) → Buf (Elt Ideal) ℓ) (g : Dev Cert.AdamGnormRefIdeal.nD → PrngReg), Pre_AdamGnormRefIdeal m →
    θ_run (Cert.AdamGnormRefIdeal.defs (F := Ideal)) (onTc (τ := Cert.AdamGnormRefIdeal.τ) (Cert.AdamGnormRefIdeal.main (F := Ideal))) ⟨m, fun _ => 0, g⟩ (fun r => (∀ c : Dev Cert.AdamGnormRefIdeal.nD,
      r.2.mem ((c.tc : Thread Cert.AdamGnormRefIdeal.nD Cert.AdamGnormRefIdeal.τ).loc Cert.AdamGnormRefIdeal.main_arg0) = m ((c.tc : Thread Cert.AdamGnormRefIdeal.nD Cert.AdamGnormRefIdeal.τ).loc Cert.AdamGnormRefIdeal.main_arg0)
      ∧ r.2.mem ((c.tc : Thread Cert.AdamGnormRefIdeal.nD Cert.AdamGnormRefIdeal.τ).loc Cert.AdamGnormRefIdeal.main_arg1) = m ((c.tc : Thread Cert.AdamGnormRefIdeal.nD Cert.AdamGnormRefIdeal.τ).loc Cert.AdamGnormRefIdeal.main_arg1)
      ∧ r.2.mem ((c.tc : Thread Cert.AdamGnormRefIdeal.nD Cert.AdamGnormRefIdeal.τ).loc Cert.AdamGnormRefIdeal.main_arg2) = m ((c.tc : Thread Cert.AdamGnormRefIdeal.nD Cert.AdamGnormRefIdeal.τ).loc Cert.AdamGnormRefIdeal.main_arg2)
      ∧ r.2.mem ((c.tc : Thread Cert.AdamGnormRefIdeal.nD Cert.AdamGnormRefIdeal.τ).loc Cert.AdamGnormRefIdeal.main_arg3) = m ((c.tc : Thread Cert.AdamGnormRefIdeal.nD Cert.AdamGnormRefIdeal.τ).loc Cert.AdamGnormRefIdeal.main_arg3))
      ∧ r.2.sem = fun _ => 0)

def quiescent_AdamOut [hAdamOut : Cert.AdamOut.Facts] : Prop :=
  ∀ (m : (ℓ : Loc Cert.AdamOut.nD Cert.AdamOut.τ Cert.AdamOut.sig) → Buf (Elt Bits) ℓ) (g : Dev Cert.AdamOut.nD → PrngReg), Pre_AdamOut m →
    θ_run (Cert.AdamOut.defs (F := Bits)) (onTc (τ := Cert.AdamOut.τ) (Cert.AdamOut.main (F := Bits))) ⟨m, fun _ => 0, g⟩ (fun r => (∀ c : Dev Cert.AdamOut.nD,
      r.2.mem ((c.tc : Thread Cert.AdamOut.nD Cert.AdamOut.τ).loc Cert.AdamOut.main_arg0) = m ((c.tc : Thread Cert.AdamOut.nD Cert.AdamOut.τ).loc Cert.AdamOut.main_arg0)
      ∧ r.2.mem ((c.tc : Thread Cert.AdamOut.nD Cert.AdamOut.τ).loc Cert.AdamOut.main_arg1) = m ((c.tc : Thread Cert.AdamOut.nD Cert.AdamOut.τ).loc Cert.AdamOut.main_arg1)
      ∧ r.2.mem ((c.tc : Thread Cert.AdamOut.nD Cert.AdamOut.τ).loc Cert.AdamOut.main_arg2) = m ((c.tc : Thread Cert.AdamOut.nD Cert.AdamOut.τ).loc Cert.AdamOut.main_arg2)
      ∧ r.2.mem ((c.tc : Thread Cert.AdamOut.nD Cert.AdamOut.τ).loc Cert.AdamOut.main_arg3) = m ((c.tc : Thread Cert.AdamOut.nD Cert.AdamOut.τ).loc Cert.AdamOut.main_arg3))
      ∧ r.2.sem = fun _ => 0)

def quiescent_AdamOutIdeal [hAdamOutIdeal : Cert.AdamOutIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg), Pre_AdamOutIdeal m →
    θ_run (Cert.AdamOutIdeal.defs (F := Ideal)) (onTc (τ := Cert.AdamOutIdeal.τ) (Cert.AdamOutIdeal.main (F := Ideal))) ⟨m, fun _ => 0, g⟩ (fun r => (∀ c : Dev Cert.AdamOutIdeal.nD,
      r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
      ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
      ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
      ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3))
      ∧ r.2.sem = fun _ => 0)

def quiescent_AdamOutRefIdeal [hAdamOutRefIdeal : Cert.AdamOutRefIdeal.Facts] : Prop :=
  ∀ (m : (ℓ : Loc Cert.AdamOutRefIdeal.nD Cert.AdamOutRefIdeal.τ Cert.AdamOutRefIdeal.sig) → Buf (Elt Ideal) ℓ) (g : Dev Cert.AdamOutRefIdeal.nD → PrngReg), Pre_AdamOutRefIdeal m →
    θ_run (Cert.AdamOutRefIdeal.defs (F := Ideal)) (onTc (τ := Cert.AdamOutRefIdeal.τ) (Cert.AdamOutRefIdeal.main (F := Ideal))) ⟨m, fun _ => 0, g⟩ (fun r => (∀ c : Dev Cert.AdamOutRefIdeal.nD,
      r.2.mem ((c.tc : Thread Cert.AdamOutRefIdeal.nD Cert.AdamOutRefIdeal.τ).loc Cert.AdamOutRefIdeal.main_arg0) = m ((c.tc : Thread Cert.AdamOutRefIdeal.nD Cert.AdamOutRefIdeal.τ).loc Cert.AdamOutRefIdeal.main_arg0)
      ∧ r.2.mem ((c.tc : Thread Cert.AdamOutRefIdeal.nD Cert.AdamOutRefIdeal.τ).loc Cert.AdamOutRefIdeal.main_arg1) = m ((c.tc : Thread Cert.AdamOutRefIdeal.nD Cert.AdamOutRefIdeal.τ).loc Cert.AdamOutRefIdeal.main_arg1)
      ∧ r.2.mem ((c.tc : Thread Cert.AdamOutRefIdeal.nD Cert.AdamOutRefIdeal.τ).loc Cert.AdamOutRefIdeal.main_arg2) = m ((c.tc : Thread Cert.AdamOutRefIdeal.nD Cert.AdamOutRefIdeal.τ).loc Cert.AdamOutRefIdeal.main_arg2)
      ∧ r.2.mem ((c.tc : Thread Cert.AdamOutRefIdeal.nD Cert.AdamOutRefIdeal.τ).loc Cert.AdamOutRefIdeal.main_arg3) = m ((c.tc : Thread Cert.AdamOutRefIdeal.nD Cert.AdamOutRefIdeal.τ).loc Cert.AdamOutRefIdeal.main_arg3))
      ∧ r.2.sem = fun _ => 0)

def quiescent_AdamUp [hAdamUp : Cert.AdamUp.Facts] : Prop :=
  ∀ (m : (ℓ : Loc Cert.AdamUp.nD Cert.AdamUp.τ Cert.AdamUp.sig) → Buf (Elt Bits) ℓ) (g : Dev Cert.AdamUp.nD → PrngReg), Pre_AdamUp m →
    θ_run (Cert.AdamUp.defs (F := Bits)) (onTc (τ := Cert.AdamUp.τ) (Cert.AdamUp.main (F := Bits))) ⟨m, fun _ => 0, g⟩ (fun r => (∀ c : Dev Cert.AdamUp.nD,
      r.2.mem ((c.tc : Thread Cert.AdamUp.nD Cert.AdamUp.τ).loc Cert.AdamUp.main_arg0) = m ((c.tc : Thread Cert.AdamUp.nD Cert.AdamUp.τ).loc Cert.AdamUp.main_arg0)
      ∧ r.2.mem ((c.tc : Thread Cert.AdamUp.nD Cert.AdamUp.τ).loc Cert.AdamUp.main_arg1) = m ((c.tc : Thread Cert.AdamUp.nD Cert.AdamUp.τ).loc Cert.AdamUp.main_arg1)
      ∧ r.2.mem ((c.tc : Thread Cert.AdamUp.nD Cert.AdamUp.τ).loc Cert.AdamUp.main_arg2) = m ((c.tc : Thread Cert.AdamUp.nD Cert.AdamUp.τ).loc Cert.AdamUp.main_arg2)
      ∧ r.2.mem ((c.tc : Thread Cert.AdamUp.nD Cert.AdamUp.τ).loc Cert.AdamUp.main_arg3) = m ((c.tc : Thread Cert.AdamUp.nD Cert.AdamUp.τ).loc Cert.AdamUp.main_arg3))
      ∧ r.2.sem = fun _ => 0)

def quiescent_AdamUpIdeal [hAdamUpIdeal : Cert.AdamUpIdeal.Facts] : Prop :=
  ∀ (m : (ℓ : Loc Cert.AdamUpIdeal.nD Cert.AdamUpIdeal.τ Cert.AdamUpIdeal.sig) → Buf (Elt Ideal) ℓ) (g : Dev Cert.AdamUpIdeal.nD → PrngReg), Pre_AdamUpIdeal m →
    θ_run (Cert.AdamUpIdeal.defs (F := Ideal)) (onTc (τ := Cert.AdamUpIdeal.τ) (Cert.AdamUpIdeal.main (F := Ideal))) ⟨m, fun _ => 0, g⟩ (fun r => (∀ c : Dev Cert.AdamUpIdeal.nD,
      r.2.mem ((c.tc : Thread Cert.AdamUpIdeal.nD Cert.AdamUpIdeal.τ).loc Cert.AdamUpIdeal.main_arg0) = m ((c.tc : Thread Cert.AdamUpIdeal.nD Cert.AdamUpIdeal.τ).loc Cert.AdamUpIdeal.main_arg0)
      ∧ r.2.mem ((c.tc : Thread Cert.AdamUpIdeal.nD Cert.AdamUpIdeal.τ).loc Cert.AdamUpIdeal.main_arg1) = m ((c.tc : Thread Cert.AdamUpIdeal.nD Cert.AdamUpIdeal.τ).loc Cert.AdamUpIdeal.main_arg1)
      ∧ r.2.mem ((c.tc : Thread Cert.AdamUpIdeal.nD Cert.AdamUpIdeal.τ).loc Cert.AdamUpIdeal.main_arg2) = m ((c.tc : Thread Cert.AdamUpIdeal.nD Cert.AdamUpIdeal.τ).loc Cert.AdamUpIdeal.main_arg2)
      ∧ r.2.mem ((c.tc : Thread Cert.AdamUpIdeal.nD Cert.AdamUpIdeal.τ).loc Cert.AdamUpIdeal.main_arg3) = m ((c.tc : Thread Cert.AdamUpIdeal.nD Cert.AdamUpIdeal.τ).loc Cert.AdamUpIdeal.main_arg3))
      ∧ r.2.sem = fun _ => 0)

def quiescent_AdamUpRefIdeal [hAdamUpRefIdeal : Cert.AdamUpRefIdeal.Facts] : Prop :=
  ∀ (m : (ℓ : Loc Cert.AdamUpRefIdeal.nD Cert.AdamUpRefIdeal.τ Cert.AdamUpRefIdeal.sig) → Buf (Elt Ideal) ℓ) (g : Dev Cert.AdamUpRefIdeal.nD → PrngReg), Pre_AdamUpRefIdeal m →
    θ_run (Cert.AdamUpRefIdeal.defs (F := Ideal)) (onTc (τ := Cert.AdamUpRefIdeal.τ) (Cert.AdamUpRefIdeal.main (F := Ideal))) ⟨m, fun _ => 0, g⟩ (fun r => (∀ c : Dev Cert.AdamUpRefIdeal.nD,
      r.2.mem ((c.tc : Thread Cert.AdamUpRefIdeal.nD Cert.AdamUpRefIdeal.τ).loc Cert.AdamUpRefIdeal.main_arg0) = m ((c.tc : Thread Cert.AdamUpRefIdeal.nD Cert.AdamUpRefIdeal.τ).loc Cert.AdamUpRefIdeal.main_arg0)
      ∧ r.2.mem ((c.tc : Thread Cert.AdamUpRefIdeal.nD Cert.AdamUpRefIdeal.τ).loc Cert.AdamUpRefIdeal.main_arg1) = m ((c.tc : Thread Cert.AdamUpRefIdeal.nD Cert.AdamUpRefIdeal.τ).loc Cert.AdamUpRefIdeal.main_arg1)
      ∧ r.2.mem ((c.tc : Thread Cert.AdamUpRefIdeal.nD Cert.AdamUpRefIdeal.τ).loc Cert.AdamUpRefIdeal.main_arg2) = m ((c.tc : Thread Cert.AdamUpRefIdeal.nD Cert.AdamUpRefIdeal.τ).loc Cert.AdamUpRefIdeal.main_arg2)
      ∧ r.2.mem ((c.tc : Thread Cert.AdamUpRefIdeal.nD Cert.AdamUpRefIdeal.τ).loc Cert.AdamUpRefIdeal.main_arg3) = m ((c.tc : Thread Cert.AdamUpRefIdeal.nD Cert.AdamUpRefIdeal.τ).loc Cert.AdamUpRefIdeal.main_arg3))
      ∧ r.2.sem = fun _ => 0)

def quiescent_AdamFconv [hAdamFconv : Cert.AdamFconv.Facts] : Prop :=
  ∀ (m : (ℓ : Loc Cert.AdamFconv.nD Cert.AdamFconv.τ Cert.AdamFconv.sig) → Buf (Elt Bits) ℓ) (g : Dev Cert.AdamFconv.nD → PrngReg), Pre_AdamFconv m →
    θ_run (Cert.AdamFconv.defs (F := Bits)) (onTc (τ := Cert.AdamFconv.τ) (Cert.AdamFconv.main (F := Bits))) ⟨m, fun _ => 0, g⟩ (fun r => (∀ c : Dev Cert.AdamFconv.nD,
      r.2.mem ((c.tc : Thread Cert.AdamFconv.nD Cert.AdamFconv.τ).loc Cert.AdamFconv.main_arg0) = m ((c.tc : Thread Cert.AdamFconv.nD Cert.AdamFconv.τ).loc Cert.AdamFconv.main_arg0)
      ∧ r.2.mem ((c.tc : Thread Cert.AdamFconv.nD Cert.AdamFconv.τ).loc Cert.AdamFconv.main_arg1) = m ((c.tc : Thread Cert.AdamFconv.nD Cert.AdamFconv.τ).loc Cert.AdamFconv.main_arg1)
      ∧ r.2.mem ((c.tc : Thread Cert.AdamFconv.nD Cert.AdamFconv.τ).loc Cert.AdamFconv.main_arg2) = m ((c.tc : Thread Cert.AdamFconv.nD Cert.AdamFconv.τ).loc Cert.AdamFconv.main_arg2)
      ∧ r.2.mem ((c.tc : Thread Cert.AdamFconv.nD Cert.AdamFconv.τ).loc Cert.AdamFconv.main_arg3) = m ((c.tc : Thread Cert.AdamFconv.nD Cert.AdamFconv.τ).loc Cert.AdamFconv.main_arg3))
      ∧ r.2.sem = fun _ => 0)

def quiescent_AdamFconvIdeal [hAdamFconvIdeal : Cert.AdamFconvIdeal.Facts] : Prop :=
  ∀ (m : (ℓ : Loc Cert.AdamFconvIdeal.nD Cert.AdamFconvIdeal.τ Cert.AdamFconvIdeal.sig) → Buf (Elt Ideal) ℓ) (g : Dev Cert.AdamFconvIdeal.nD → PrngReg), Pre_AdamFconvIdeal m →
    θ_run (Cert.AdamFconvIdeal.defs (F := Ideal)) (onTc (τ := Cert.AdamFconvIdeal.τ) (Cert.AdamFconvIdeal.main (F := Ideal))) ⟨m, fun _ => 0, g⟩ (fun r => (∀ c : Dev Cert.AdamFconvIdeal.nD,
      r.2.mem ((c.tc : Thread Cert.AdamFconvIdeal.nD Cert.AdamFconvIdeal.τ).loc Cert.AdamFconvIdeal.main_arg0) = m ((c.tc : Thread Cert.AdamFconvIdeal.nD Cert.AdamFconvIdeal.τ).loc Cert.AdamFconvIdeal.main_arg0)
      ∧ r.2.mem ((c.tc : Thread Cert.AdamFconvIdeal.nD Cert.AdamFconvIdeal.τ).loc Cert.AdamFconvIdeal.main_arg1) = m ((c.tc : Thread Cert.AdamFconvIdeal.nD Cert.AdamFconvIdeal.τ).loc Cert.AdamFconvIdeal.main_arg1)
      ∧ r.2.mem ((c.tc : Thread Cert.AdamFconvIdeal.nD Cert.AdamFconvIdeal.τ).loc Cert.AdamFconvIdeal.main_arg2) = m ((c.tc : Thread Cert.AdamFconvIdeal.nD Cert.AdamFconvIdeal.τ).loc Cert.AdamFconvIdeal.main_arg2)
      ∧ r.2.mem ((c.tc : Thread Cert.AdamFconvIdeal.nD Cert.AdamFconvIdeal.τ).loc Cert.AdamFconvIdeal.main_arg3) = m ((c.tc : Thread Cert.AdamFconvIdeal.nD Cert.AdamFconvIdeal.τ).loc Cert.AdamFconvIdeal.main_arg3))
      ∧ r.2.sem = fun _ => 0)

def quiescent_AdamFconvRefIdeal [hAdamFconvRefIdeal : Cert.AdamFconvRefIdeal.Facts] : Prop :=
  ∀ (m : (ℓ : Loc Cert.AdamFconvRefIdeal.nD Cert.AdamFconvRefIdeal.τ Cert.AdamFconvRefIdeal.sig) → Buf (Elt Ideal) ℓ) (g : Dev Cert.AdamFconvRefIdeal.nD → PrngReg), Pre_AdamFconvRefIdeal m →
    θ_run (Cert.AdamFconvRefIdeal.defs (F := Ideal)) (onTc (τ := Cert.AdamFconvRefIdeal.τ) (Cert.AdamFconvRefIdeal.main (F := Ideal))) ⟨m, fun _ => 0, g⟩ (fun r => (∀ c : Dev Cert.AdamFconvRefIdeal.nD,
      r.2.mem ((c.tc : Thread Cert.AdamFconvRefIdeal.nD Cert.AdamFconvRefIdeal.τ).loc Cert.AdamFconvRefIdeal.main_arg0) = m ((c.tc : Thread Cert.AdamFconvRefIdeal.nD Cert.AdamFconvRefIdeal.τ).loc Cert.AdamFconvRefIdeal.main_arg0)
      ∧ r.2.mem ((c.tc : Thread Cert.AdamFconvRefIdeal.nD Cert.AdamFconvRefIdeal.τ).loc Cert.AdamFconvRefIdeal.main_arg1) = m ((c.tc : Thread Cert.AdamFconvRefIdeal.nD Cert.AdamFconvRefIdeal.τ).loc Cert.AdamFconvRefIdeal.main_arg1)
      ∧ r.2.mem ((c.tc : Thread Cert.AdamFconvRefIdeal.nD Cert.AdamFconvRefIdeal.τ).loc Cert.AdamFconvRefIdeal.main_arg2) = m ((c.tc : Thread Cert.AdamFconvRefIdeal.nD Cert.AdamFconvRefIdeal.τ).loc Cert.AdamFconvRefIdeal.main_arg2)
      ∧ r.2.mem ((c.tc : Thread Cert.AdamFconvRefIdeal.nD Cert.AdamFconvRefIdeal.τ).loc Cert.AdamFconvRefIdeal.main_arg3) = m ((c.tc : Thread Cert.AdamFconvRefIdeal.nD Cert.AdamFconvRefIdeal.τ).loc Cert.AdamFconvRefIdeal.main_arg3))
      ∧ r.2.sem = fun _ => 0)

def quiescent_AdamDown [hAdamDown : Cert.AdamDown.Facts] : Prop :=
  ∀ (m : (ℓ : Loc Cert.AdamDown.nD Cert.AdamDown.τ Cert.AdamDown.sig) → Buf (Elt Bits) ℓ) (g : Dev Cert.AdamDown.nD → PrngReg), Pre_AdamDown m →
    θ_run (Cert.AdamDown.defs (F := Bits)) (onTc (τ := Cert.AdamDown.τ) (Cert.AdamDown.main (F := Bits))) ⟨m, fun _ => 0, g⟩ (fun r => (∀ c : Dev Cert.AdamDown.nD,
      r.2.mem ((c.tc : Thread Cert.AdamDown.nD Cert.AdamDown.τ).loc Cert.AdamDown.main_arg0) = m ((c.tc : Thread Cert.AdamDown.nD Cert.AdamDown.τ).loc Cert.AdamDown.main_arg0)
      ∧ r.2.mem ((c.tc : Thread Cert.AdamDown.nD Cert.AdamDown.τ).loc Cert.AdamDown.main_arg1) = m ((c.tc : Thread Cert.AdamDown.nD Cert.AdamDown.τ).loc Cert.AdamDown.main_arg1)
      ∧ r.2.mem ((c.tc : Thread Cert.AdamDown.nD Cert.AdamDown.τ).loc Cert.AdamDown.main_arg2) = m ((c.tc : Thread Cert.AdamDown.nD Cert.AdamDown.τ).loc Cert.AdamDown.main_arg2)
      ∧ r.2.mem ((c.tc : Thread Cert.AdamDown.nD Cert.AdamDown.τ).loc Cert.AdamDown.main_arg3) = m ((c.tc : Thread Cert.AdamDown.nD Cert.AdamDown.τ).loc Cert.AdamDown.main_arg3))
      ∧ r.2.sem = fun _ => 0)

def quiescent_AdamDownIdeal [hAdamDownIdeal : Cert.AdamDownIdeal.Facts] : Prop :=
  ∀ (m : (ℓ : Loc Cert.AdamDownIdeal.nD Cert.AdamDownIdeal.τ Cert.AdamDownIdeal.sig) → Buf (Elt Ideal) ℓ) (g : Dev Cert.AdamDownIdeal.nD → PrngReg), Pre_AdamDownIdeal m →
    θ_run (Cert.AdamDownIdeal.defs (F := Ideal)) (onTc (τ := Cert.AdamDownIdeal.τ) (Cert.AdamDownIdeal.main (F := Ideal))) ⟨m, fun _ => 0, g⟩ (fun r => (∀ c : Dev Cert.AdamDownIdeal.nD,
      r.2.mem ((c.tc : Thread Cert.AdamDownIdeal.nD Cert.AdamDownIdeal.τ).loc Cert.AdamDownIdeal.main_arg0) = m ((c.tc : Thread Cert.AdamDownIdeal.nD Cert.AdamDownIdeal.τ).loc Cert.AdamDownIdeal.main_arg0)
      ∧ r.2.mem ((c.tc : Thread Cert.AdamDownIdeal.nD Cert.AdamDownIdeal.τ).loc Cert.AdamDownIdeal.main_arg1) = m ((c.tc : Thread Cert.AdamDownIdeal.nD Cert.AdamDownIdeal.τ).loc Cert.AdamDownIdeal.main_arg1)
      ∧ r.2.mem ((c.tc : Thread Cert.AdamDownIdeal.nD Cert.AdamDownIdeal.τ).loc Cert.AdamDownIdeal.main_arg2) = m ((c.tc : Thread Cert.AdamDownIdeal.nD Cert.AdamDownIdeal.τ).loc Cert.AdamDownIdeal.main_arg2)
      ∧ r.2.mem ((c.tc : Thread Cert.AdamDownIdeal.nD Cert.AdamDownIdeal.τ).loc Cert.AdamDownIdeal.main_arg3) = m ((c.tc : Thread Cert.AdamDownIdeal.nD Cert.AdamDownIdeal.τ).loc Cert.AdamDownIdeal.main_arg3))
      ∧ r.2.sem = fun _ => 0)

def quiescent_AdamDownRefIdeal [hAdamDownRefIdeal : Cert.AdamDownRefIdeal.Facts] : Prop :=
  ∀ (m : (ℓ : Loc Cert.AdamDownRefIdeal.nD Cert.AdamDownRefIdeal.τ Cert.AdamDownRefIdeal.sig) → Buf (Elt Ideal) ℓ) (g : Dev Cert.AdamDownRefIdeal.nD → PrngReg), Pre_AdamDownRefIdeal m →
    θ_run (Cert.AdamDownRefIdeal.defs (F := Ideal)) (onTc (τ := Cert.AdamDownRefIdeal.τ) (Cert.AdamDownRefIdeal.main (F := Ideal))) ⟨m, fun _ => 0, g⟩ (fun r => (∀ c : Dev Cert.AdamDownRefIdeal.nD,
      r.2.mem ((c.tc : Thread Cert.AdamDownRefIdeal.nD Cert.AdamDownRefIdeal.τ).loc Cert.AdamDownRefIdeal.main_arg0) = m ((c.tc : Thread Cert.AdamDownRefIdeal.nD Cert.AdamDownRefIdeal.τ).loc Cert.AdamDownRefIdeal.main_arg0)
      ∧ r.2.mem ((c.tc : Thread Cert.AdamDownRefIdeal.nD Cert.AdamDownRefIdeal.τ).loc Cert.AdamDownRefIdeal.main_arg1) = m ((c.tc : Thread Cert.AdamDownRefIdeal.nD Cert.AdamDownRefIdeal.τ).loc Cert.AdamDownRefIdeal.main_arg1)
      ∧ r.2.mem ((c.tc : Thread Cert.AdamDownRefIdeal.nD Cert.AdamDownRefIdeal.τ).loc Cert.AdamDownRefIdeal.main_arg2) = m ((c.tc : Thread Cert.AdamDownRefIdeal.nD Cert.AdamDownRefIdeal.τ).loc Cert.AdamDownRefIdeal.main_arg2)
      ∧ r.2.mem ((c.tc : Thread Cert.AdamDownRefIdeal.nD Cert.AdamDownRefIdeal.τ).loc Cert.AdamDownRefIdeal.main_arg3) = m ((c.tc : Thread Cert.AdamDownRefIdeal.nD Cert.AdamDownRefIdeal.τ).loc Cert.AdamDownRefIdeal.main_arg3))
      ∧ r.2.sem = fun _ => 0)

def quiescent_GradX [hGradX : Cert.GradX.Facts] : Prop :=
  ∀ (m : (ℓ : Loc Cert.GradX.nD Cert.GradX.τ Cert.GradX.sig) → Buf (Elt Bits) ℓ) (g : Dev Cert.GradX.nD → PrngReg), Pre_GradX m →
    θ_run (Cert.GradX.defs (F := Bits)) (onTc (τ := Cert.GradX.τ) (Cert.GradX.main (F := Bits))) ⟨m, fun _ => 0, g⟩ (fun r => (∀ c : Dev Cert.GradX.nD,
      r.2.mem ((c.tc : Thread Cert.GradX.nD Cert.GradX.τ).loc Cert.GradX.main_arg0) = m ((c.tc : Thread Cert.GradX.nD Cert.GradX.τ).loc Cert.GradX.main_arg0)
      ∧ r.2.mem ((c.tc : Thread Cert.GradX.nD Cert.GradX.τ).loc Cert.GradX.main_arg1) = m ((c.tc : Thread Cert.GradX.nD Cert.GradX.τ).loc Cert.GradX.main_arg1)
      ∧ r.2.mem ((c.tc : Thread Cert.GradX.nD Cert.GradX.τ).loc Cert.GradX.main_arg2) = m ((c.tc : Thread Cert.GradX.nD Cert.GradX.τ).loc Cert.GradX.main_arg2)
      ∧ r.2.mem ((c.tc : Thread Cert.GradX.nD Cert.GradX.τ).loc Cert.GradX.main_arg3) = m ((c.tc : Thread Cert.GradX.nD Cert.GradX.τ).loc Cert.GradX.main_arg3)
      ∧ r.2.mem ((c.tc : Thread Cert.GradX.nD Cert.GradX.τ).loc Cert.GradX.main_arg4) = m ((c.tc : Thread Cert.GradX.nD Cert.GradX.τ).loc Cert.GradX.main_arg4)
      ∧ r.2.mem ((c.tc : Thread Cert.GradX.nD Cert.GradX.τ).loc Cert.GradX.main_arg5) = m ((c.tc : Thread Cert.GradX.nD Cert.GradX.τ).loc Cert.GradX.main_arg5))
      ∧ r.2.sem = fun _ => 0)

def quiescent_GradXIdeal [hGradXIdeal : Cert.GradXIdeal.Facts] : Prop :=
  ∀ (m : (ℓ : Loc Cert.GradXIdeal.nD Cert.GradXIdeal.τ Cert.GradXIdeal.sig) → Buf (Elt Ideal) ℓ) (g : Dev Cert.GradXIdeal.nD → PrngReg), Pre_GradXIdeal m →
    θ_run (Cert.GradXIdeal.defs (F := Ideal)) (onTc (τ := Cert.GradXIdeal.τ) (Cert.GradXIdeal.main (F := Ideal))) ⟨m, fun _ => 0, g⟩ (fun r => (∀ c : Dev Cert.GradXIdeal.nD,
      r.2.mem ((c.tc : Thread Cert.GradXIdeal.nD Cert.GradXIdeal.τ).loc Cert.GradXIdeal.main_arg0) = m ((c.tc : Thread Cert.GradXIdeal.nD Cert.GradXIdeal.τ).loc Cert.GradXIdeal.main_arg0)
      ∧ r.2.mem ((c.tc : Thread Cert.GradXIdeal.nD Cert.GradXIdeal.τ).loc Cert.GradXIdeal.main_arg1) = m ((c.tc : Thread Cert.GradXIdeal.nD Cert.GradXIdeal.τ).loc Cert.GradXIdeal.main_arg1)
      ∧ r.2.mem ((c.tc : Thread Cert.GradXIdeal.nD Cert.GradXIdeal.τ).loc Cert.GradXIdeal.main_arg2) = m ((c.tc : Thread Cert.GradXIdeal.nD Cert.GradXIdeal.τ).loc Cert.GradXIdeal.main_arg2)
      ∧ r.2.mem ((c.tc : Thread Cert.GradXIdeal.nD Cert.GradXIdeal.τ).loc Cert.GradXIdeal.main_arg3) = m ((c.tc : Thread Cert.GradXIdeal.nD Cert.GradXIdeal.τ).loc Cert.GradXIdeal.main_arg3)
      ∧ r.2.mem ((c.tc : Thread Cert.GradXIdeal.nD Cert.GradXIdeal.τ).loc Cert.GradXIdeal.main_arg4) = m ((c.tc : Thread Cert.GradXIdeal.nD Cert.GradXIdeal.τ).loc Cert.GradXIdeal.main_arg4)
      ∧ r.2.mem ((c.tc : Thread Cert.GradXIdeal.nD Cert.GradXIdeal.τ).loc Cert.GradXIdeal.main_arg5) = m ((c.tc : Thread Cert.GradXIdeal.nD Cert.GradXIdeal.τ).loc Cert.GradXIdeal.main_arg5))
      ∧ r.2.sem = fun _ => 0)

def quiescent_GradXRefIdeal [hGradXRefIdeal : Cert.GradXRefIdeal.Facts] : Prop :=
  ∀ (m : (ℓ : Loc Cert.GradXRefIdeal.nD Cert.GradXRefIdeal.τ Cert.GradXRefIdeal.sig) → Buf (Elt Ideal) ℓ) (g : Dev Cert.GradXRefIdeal.nD → PrngReg), Pre_GradXRefIdeal m →
    θ_run (Cert.GradXRefIdeal.defs (F := Ideal)) (onTc (τ := Cert.GradXRefIdeal.τ) (Cert.GradXRefIdeal.main (F := Ideal))) ⟨m, fun _ => 0, g⟩ (fun r => (∀ c : Dev Cert.GradXRefIdeal.nD,
      r.2.mem ((c.tc : Thread Cert.GradXRefIdeal.nD Cert.GradXRefIdeal.τ).loc Cert.GradXRefIdeal.main_arg0) = m ((c.tc : Thread Cert.GradXRefIdeal.nD Cert.GradXRefIdeal.τ).loc Cert.GradXRefIdeal.main_arg0)
      ∧ r.2.mem ((c.tc : Thread Cert.GradXRefIdeal.nD Cert.GradXRefIdeal.τ).loc Cert.GradXRefIdeal.main_arg1) = m ((c.tc : Thread Cert.GradXRefIdeal.nD Cert.GradXRefIdeal.τ).loc Cert.GradXRefIdeal.main_arg1)
      ∧ r.2.mem ((c.tc : Thread Cert.GradXRefIdeal.nD Cert.GradXRefIdeal.τ).loc Cert.GradXRefIdeal.main_arg2) = m ((c.tc : Thread Cert.GradXRefIdeal.nD Cert.GradXRefIdeal.τ).loc Cert.GradXRefIdeal.main_arg2)
      ∧ r.2.mem ((c.tc : Thread Cert.GradXRefIdeal.nD Cert.GradXRefIdeal.τ).loc Cert.GradXRefIdeal.main_arg3) = m ((c.tc : Thread Cert.GradXRefIdeal.nD Cert.GradXRefIdeal.τ).loc Cert.GradXRefIdeal.main_arg3)
      ∧ r.2.mem ((c.tc : Thread Cert.GradXRefIdeal.nD Cert.GradXRefIdeal.τ).loc Cert.GradXRefIdeal.main_arg4) = m ((c.tc : Thread Cert.GradXRefIdeal.nD Cert.GradXRefIdeal.τ).loc Cert.GradXRefIdeal.main_arg4)
      ∧ r.2.mem ((c.tc : Thread Cert.GradXRefIdeal.nD Cert.GradXRefIdeal.τ).loc Cert.GradXRefIdeal.main_arg5) = m ((c.tc : Thread Cert.GradXRefIdeal.nD Cert.GradXRefIdeal.τ).loc Cert.GradXRefIdeal.main_arg5))
      ∧ r.2.sem = fun _ => 0)

def quiescent_DH1 [hDH1 : Cert.DH1.Facts] : Prop :=
  ∀ (m : (ℓ : Loc Cert.DH1.nD Cert.DH1.τ Cert.DH1.sig) → Buf (Elt Bits) ℓ) (g : Dev Cert.DH1.nD → PrngReg), Pre_DH1 m →
    θ_run (Cert.DH1.defs (F := Bits)) (onTc (τ := Cert.DH1.τ) (Cert.DH1.main (F := Bits))) ⟨m, fun _ => 0, g⟩ (fun r => (∀ c : Dev Cert.DH1.nD,
      r.2.mem ((c.tc : Thread Cert.DH1.nD Cert.DH1.τ).loc Cert.DH1.main_arg0) = m ((c.tc : Thread Cert.DH1.nD Cert.DH1.τ).loc Cert.DH1.main_arg0)
      ∧ r.2.mem ((c.tc : Thread Cert.DH1.nD Cert.DH1.τ).loc Cert.DH1.main_arg1) = m ((c.tc : Thread Cert.DH1.nD Cert.DH1.τ).loc Cert.DH1.main_arg1)
      ∧ r.2.mem ((c.tc : Thread Cert.DH1.nD Cert.DH1.τ).loc Cert.DH1.main_arg2) = m ((c.tc : Thread Cert.DH1.nD Cert.DH1.τ).loc Cert.DH1.main_arg2)
      ∧ r.2.mem ((c.tc : Thread Cert.DH1.nD Cert.DH1.τ).loc Cert.DH1.main_arg3) = m ((c.tc : Thread Cert.DH1.nD Cert.DH1.τ).loc Cert.DH1.main_arg3)
      ∧ r.2.mem ((c.tc : Thread Cert.DH1.nD Cert.DH1.τ).loc Cert.DH1.main_arg4) = m ((c.tc : Thread Cert.DH1.nD Cert.DH1.τ).loc Cert.DH1.main_arg4)
      ∧ r.2.mem ((c.tc : Thread Cert.DH1.nD Cert.DH1.τ).loc Cert.DH1.main_arg5) = m ((c.tc : Thread Cert.DH1.nD Cert.DH1.τ).loc Cert.DH1.main_arg5))
      ∧ r.2.sem = fun _ => 0)

def quiescent_DH1Ideal [hDH1Ideal : Cert.DH1Ideal.Facts] : Prop :=
  ∀ (m : (ℓ : Loc Cert.DH1Ideal.nD Cert.DH1Ideal.τ Cert.DH1Ideal.sig) → Buf (Elt Ideal) ℓ) (g : Dev Cert.DH1Ideal.nD → PrngReg), Pre_DH1Ideal m →
    θ_run (Cert.DH1Ideal.defs (F := Ideal)) (onTc (τ := Cert.DH1Ideal.τ) (Cert.DH1Ideal.main (F := Ideal))) ⟨m, fun _ => 0, g⟩ (fun r => (∀ c : Dev Cert.DH1Ideal.nD,
      r.2.mem ((c.tc : Thread Cert.DH1Ideal.nD Cert.DH1Ideal.τ).loc Cert.DH1Ideal.main_arg0) = m ((c.tc : Thread Cert.DH1Ideal.nD Cert.DH1Ideal.τ).loc Cert.DH1Ideal.main_arg0)
      ∧ r.2.mem ((c.tc : Thread Cert.DH1Ideal.nD Cert.DH1Ideal.τ).loc Cert.DH1Ideal.main_arg1) = m ((c.tc : Thread Cert.DH1Ideal.nD Cert.DH1Ideal.τ).loc Cert.DH1Ideal.main_arg1)
      ∧ r.2.mem ((c.tc : Thread Cert.DH1Ideal.nD Cert.DH1Ideal.τ).loc Cert.DH1Ideal.main_arg2) = m ((c.tc : Thread Cert.DH1Ideal.nD Cert.DH1Ideal.τ).loc Cert.DH1Ideal.main_arg2)
      ∧ r.2.mem ((c.tc : Thread Cert.DH1Ideal.nD Cert.DH1Ideal.τ).loc Cert.DH1Ideal.main_arg3) = m ((c.tc : Thread Cert.DH1Ideal.nD Cert.DH1Ideal.τ).loc Cert.DH1Ideal.main_arg3)
      ∧ r.2.mem ((c.tc : Thread Cert.DH1Ideal.nD Cert.DH1Ideal.τ).loc Cert.DH1Ideal.main_arg4) = m ((c.tc : Thread Cert.DH1Ideal.nD Cert.DH1Ideal.τ).loc Cert.DH1Ideal.main_arg4)
      ∧ r.2.mem ((c.tc : Thread Cert.DH1Ideal.nD Cert.DH1Ideal.τ).loc Cert.DH1Ideal.main_arg5) = m ((c.tc : Thread Cert.DH1Ideal.nD Cert.DH1Ideal.τ).loc Cert.DH1Ideal.main_arg5))
      ∧ r.2.sem = fun _ => 0)

def quiescent_DH1RefIdeal [hDH1RefIdeal : Cert.DH1RefIdeal.Facts] : Prop :=
  ∀ (m : (ℓ : Loc Cert.DH1RefIdeal.nD Cert.DH1RefIdeal.τ Cert.DH1RefIdeal.sig) → Buf (Elt Ideal) ℓ) (g : Dev Cert.DH1RefIdeal.nD → PrngReg), Pre_DH1RefIdeal m →
    θ_run (Cert.DH1RefIdeal.defs (F := Ideal)) (onTc (τ := Cert.DH1RefIdeal.τ) (Cert.DH1RefIdeal.main (F := Ideal))) ⟨m, fun _ => 0, g⟩ (fun r => (∀ c : Dev Cert.DH1RefIdeal.nD,
      r.2.mem ((c.tc : Thread Cert.DH1RefIdeal.nD Cert.DH1RefIdeal.τ).loc Cert.DH1RefIdeal.main_arg0) = m ((c.tc : Thread Cert.DH1RefIdeal.nD Cert.DH1RefIdeal.τ).loc Cert.DH1RefIdeal.main_arg0)
      ∧ r.2.mem ((c.tc : Thread Cert.DH1RefIdeal.nD Cert.DH1RefIdeal.τ).loc Cert.DH1RefIdeal.main_arg1) = m ((c.tc : Thread Cert.DH1RefIdeal.nD Cert.DH1RefIdeal.τ).loc Cert.DH1RefIdeal.main_arg1)
      ∧ r.2.mem ((c.tc : Thread Cert.DH1RefIdeal.nD Cert.DH1RefIdeal.τ).loc Cert.DH1RefIdeal.main_arg2) = m ((c.tc : Thread Cert.DH1RefIdeal.nD Cert.DH1RefIdeal.τ).loc Cert.DH1RefIdeal.main_arg2)
      ∧ r.2.mem ((c.tc : Thread Cert.DH1RefIdeal.nD Cert.DH1RefIdeal.τ).loc Cert.DH1RefIdeal.main_arg3) = m ((c.tc : Thread Cert.DH1RefIdeal.nD Cert.DH1RefIdeal.τ).loc Cert.DH1RefIdeal.main_arg3)
      ∧ r.2.mem ((c.tc : Thread Cert.DH1RefIdeal.nD Cert.DH1RefIdeal.τ).loc Cert.DH1RefIdeal.main_arg4) = m ((c.tc : Thread Cert.DH1RefIdeal.nD Cert.DH1RefIdeal.τ).loc Cert.DH1RefIdeal.main_arg4)
      ∧ r.2.mem ((c.tc : Thread Cert.DH1RefIdeal.nD Cert.DH1RefIdeal.τ).loc Cert.DH1RefIdeal.main_arg5) = m ((c.tc : Thread Cert.DH1RefIdeal.nD Cert.DH1RefIdeal.τ).loc Cert.DH1RefIdeal.main_arg5))
      ∧ r.2.sem = fun _ => 0)

def quiescent_DwSmall [hDwSmall : Cert.DwSmall.Facts] : Prop :=
  ∀ (m : (ℓ : Loc Cert.DwSmall.nD Cert.DwSmall.τ Cert.DwSmall.sig) → Buf (Elt Bits) ℓ) (g : Dev Cert.DwSmall.nD → PrngReg), Pre_DwSmall m →
    θ_run (Cert.DwSmall.defs (F := Bits)) (onTc (τ := Cert.DwSmall.τ) (Cert.DwSmall.main (F := Bits))) ⟨m, fun _ => 0, g⟩ (fun r => (∀ c : Dev Cert.DwSmall.nD,
      r.2.mem ((c.tc : Thread Cert.DwSmall.nD Cert.DwSmall.τ).loc Cert.DwSmall.main_arg0) = m ((c.tc : Thread Cert.DwSmall.nD Cert.DwSmall.τ).loc Cert.DwSmall.main_arg0)
      ∧ r.2.mem ((c.tc : Thread Cert.DwSmall.nD Cert.DwSmall.τ).loc Cert.DwSmall.main_arg1) = m ((c.tc : Thread Cert.DwSmall.nD Cert.DwSmall.τ).loc Cert.DwSmall.main_arg1))
      ∧ r.2.sem = fun _ => 0)

def quiescent_DwSmallIdeal [hDwSmallIdeal : Cert.DwSmallIdeal.Facts] : Prop :=
  ∀ (m : (ℓ : Loc Cert.DwSmallIdeal.nD Cert.DwSmallIdeal.τ Cert.DwSmallIdeal.sig) → Buf (Elt Ideal) ℓ) (g : Dev Cert.DwSmallIdeal.nD → PrngReg), Pre_DwSmallIdeal m →
    θ_run (Cert.DwSmallIdeal.defs (F := Ideal)) (onTc (τ := Cert.DwSmallIdeal.τ) (Cert.DwSmallIdeal.main (F := Ideal))) ⟨m, fun _ => 0, g⟩ (fun r => (∀ c : Dev Cert.DwSmallIdeal.nD,
      r.2.mem ((c.tc : Thread Cert.DwSmallIdeal.nD Cert.DwSmallIdeal.τ).loc Cert.DwSmallIdeal.main_arg0) = m ((c.tc : Thread Cert.DwSmallIdeal.nD Cert.DwSmallIdeal.τ).loc Cert.DwSmallIdeal.main_arg0)
      ∧ r.2.mem ((c.tc : Thread Cert.DwSmallIdeal.nD Cert.DwSmallIdeal.τ).loc Cert.DwSmallIdeal.main_arg1) = m ((c.tc : Thread Cert.DwSmallIdeal.nD Cert.DwSmallIdeal.τ).loc Cert.DwSmallIdeal.main_arg1))
      ∧ r.2.sem = fun _ => 0)

def quiescent_DwSmallRefIdeal [hDwSmallRefIdeal : Cert.DwSmallRefIdeal.Facts] : Prop :=
  ∀ (m : (ℓ : Loc Cert.DwSmallRefIdeal.nD Cert.DwSmallRefIdeal.τ Cert.DwSmallRefIdeal.sig) → Buf (Elt Ideal) ℓ) (g : Dev Cert.DwSmallRefIdeal.nD → PrngReg), Pre_DwSmallRefIdeal m →
    θ_run (Cert.DwSmallRefIdeal.defs (F := Ideal)) (onTc (τ := Cert.DwSmallRefIdeal.τ) (Cert.DwSmallRefIdeal.main (F := Ideal))) ⟨m, fun _ => 0, g⟩ (fun r => (∀ c : Dev Cert.DwSmallRefIdeal.nD,
      r.2.mem ((c.tc : Thread Cert.DwSmallRefIdeal.nD Cert.DwSmallRefIdeal.τ).loc Cert.DwSmallRefIdeal.main_arg0) = m ((c.tc : Thread Cert.DwSmallRefIdeal.nD Cert.DwSmallRefIdeal.τ).loc Cert.DwSmallRefIdeal.main_arg0)
      ∧ r.2.mem ((c.tc : Thread Cert.DwSmallRefIdeal.nD Cert.DwSmallRefIdeal.τ).loc Cert.DwSmallRefIdeal.main_arg1) = m ((c.tc : Thread Cert.DwSmallRefIdeal.nD Cert.DwSmallRefIdeal.τ).loc Cert.DwSmallRefIdeal.main_arg1))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2)
      ∧ r.2.mem ((c.tc : Thread Cert.Down.nD Cert.Down.τ).loc Cert.Down.main_arg3) = m ((c.tc : Thread Cert.Down.nD Cert.Down.τ).loc Cert.Down.main_arg3)
      ∧ r.2.mem ((c.tc : Thread Cert.Down.nD Cert.Down.τ).loc Cert.Down.main_arg4) = m ((c.tc : Thread Cert.Down.nD Cert.Down.τ).loc Cert.Down.main_arg4))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
      ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
      ∧ r.2.mem ((c.tc : Thread Cert.DownIdeal.nD Cert.DownIdeal.τ).loc Cert.DownIdeal.main_arg4) = m ((c.tc : Thread Cert.DownIdeal.nD Cert.DownIdeal.τ).loc Cert.DownIdeal.main_arg4))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2)
      ∧ r.2.mem ((c.tc : Thread Cert.DownRefIdeal.nD Cert.DownRefIdeal.τ).loc Cert.DownRefIdeal.main_arg3) = m ((c.tc : Thread Cert.DownRefIdeal.nD Cert.DownRefIdeal.τ).loc Cert.DownRefIdeal.main_arg3)
      ∧ r.2.mem ((c.tc : Thread Cert.DownRefIdeal.nD Cert.DownRefIdeal.τ).loc Cert.DownRefIdeal.main_arg4) = m ((c.tc : Thread Cert.DownRefIdeal.nD Cert.DownRefIdeal.τ).loc Cert.DownRefIdeal.main_arg4))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2)
      ∧ r.2.mem ((c.tc : Thread Cert.OutProj.nD Cert.OutProj.τ).loc Cert.OutProj.main_arg3) = m ((c.tc : Thread Cert.OutProj.nD Cert.OutProj.τ).loc Cert.OutProj.main_arg3))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
      ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3))
      ∧ r.2.sem = fun _ => 0)

def quiescent_OutProjRefIdeal [hOutProjRefIdeal : Cert.OutProjRefIdeal.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1)
      ∧ r.2.mem ((c.tc : Thread Cert.OutProjRefIdeal.nD Cert.OutProjRefIdeal.τ).loc Cert.OutProjRefIdeal.main_arg2) = m ((c.tc : Thread Cert.OutProjRefIdeal.nD Cert.OutProjRefIdeal.τ).loc Cert.OutProjRefIdeal.main_arg2)
      ∧ r.2.mem ((c.tc : Thread Cert.OutProjRefIdeal.nD Cert.OutProjRefIdeal.τ).loc Cert.OutProjRefIdeal.main_arg3) = m ((c.tc : Thread Cert.OutProjRefIdeal.nD Cert.OutProjRefIdeal.τ).loc Cert.OutProjRefIdeal.main_arg3))
      ∧ r.2.sem = fun _ => 0)

def quiescent_BranchMerge [hBranchMerge : Cert.BranchMerge.Facts] : Prop :=
  ∀ (m : (ℓ : Loc Cert.BranchMerge.nD Cert.BranchMerge.τ Cert.BranchMerge.sig) → Buf (Elt Bits) ℓ) (g : Dev Cert.BranchMerge.nD → PrngReg), Pre_BranchMerge m →
    θ_run (Cert.BranchMerge.defs (F := Bits)) (onTc (τ := Cert.BranchMerge.τ) (Cert.BranchMerge.main (F := Bits))) ⟨m, fun _ => 0, g⟩ (fun r => (∀ c : Dev Cert.BranchMerge.nD,
      r.2.mem ((c.tc : Thread Cert.BranchMerge.nD Cert.BranchMerge.τ).loc Cert.BranchMerge.main_arg0) = m ((c.tc : Thread Cert.BranchMerge.nD Cert.BranchMerge.τ).loc Cert.BranchMerge.main_arg0)
      ∧ r.2.mem ((c.tc : Thread Cert.BranchMerge.nD Cert.BranchMerge.τ).loc Cert.BranchMerge.main_arg1) = m ((c.tc : Thread Cert.BranchMerge.nD Cert.BranchMerge.τ).loc Cert.BranchMerge.main_arg1)
      ∧ r.2.mem ((c.tc : Thread Cert.BranchMerge.nD Cert.BranchMerge.τ).loc Cert.BranchMerge.main_arg2) = m ((c.tc : Thread Cert.BranchMerge.nD Cert.BranchMerge.τ).loc Cert.BranchMerge.main_arg2)
      ∧ r.2.mem ((c.tc : Thread Cert.BranchMerge.nD Cert.BranchMerge.τ).loc Cert.BranchMerge.main_arg3) = m ((c.tc : Thread Cert.BranchMerge.nD Cert.BranchMerge.τ).loc Cert.BranchMerge.main_arg3))
      ∧ r.2.sem = fun _ => 0)

def quiescent_BranchMergeIdeal [hBranchMergeIdeal : Cert.BranchMergeIdeal.Facts] : Prop :=
  ∀ (m : (ℓ : Loc Cert.BranchMergeIdeal.nD Cert.BranchMergeIdeal.τ Cert.BranchMergeIdeal.sig) → Buf (Elt Ideal) ℓ) (g : Dev Cert.BranchMergeIdeal.nD → PrngReg), Pre_BranchMergeIdeal m →
    θ_run (Cert.BranchMergeIdeal.defs (F := Ideal)) (onTc (τ := Cert.BranchMergeIdeal.τ) (Cert.BranchMergeIdeal.main (F := Ideal))) ⟨m, fun _ => 0, g⟩ (fun r => (∀ c : Dev Cert.BranchMergeIdeal.nD,
      r.2.mem ((c.tc : Thread Cert.BranchMergeIdeal.nD Cert.BranchMergeIdeal.τ).loc Cert.BranchMergeIdeal.main_arg0) = m ((c.tc : Thread Cert.BranchMergeIdeal.nD Cert.BranchMergeIdeal.τ).loc Cert.BranchMergeIdeal.main_arg0)
      ∧ r.2.mem ((c.tc : Thread Cert.BranchMergeIdeal.nD Cert.BranchMergeIdeal.τ).loc Cert.BranchMergeIdeal.main_arg1) = m ((c.tc : Thread Cert.BranchMergeIdeal.nD Cert.BranchMergeIdeal.τ).loc Cert.BranchMergeIdeal.main_arg1)
      ∧ r.2.mem ((c.tc : Thread Cert.BranchMergeIdeal.nD Cert.BranchMergeIdeal.τ).loc Cert.BranchMergeIdeal.main_arg2) = m ((c.tc : Thread Cert.BranchMergeIdeal.nD Cert.BranchMergeIdeal.τ).loc Cert.BranchMergeIdeal.main_arg2)
      ∧ r.2.mem ((c.tc : Thread Cert.BranchMergeIdeal.nD Cert.BranchMergeIdeal.τ).loc Cert.BranchMergeIdeal.main_arg3) = m ((c.tc : Thread Cert.BranchMergeIdeal.nD Cert.BranchMergeIdeal.τ).loc Cert.BranchMergeIdeal.main_arg3))
      ∧ r.2.sem = fun _ => 0)

def quiescent_BranchMergeRefIdeal [hBranchMergeRefIdeal : Cert.BranchMergeRefIdeal.Facts] : Prop :=
  ∀ (m : (ℓ : Loc Cert.BranchMergeRefIdeal.nD Cert.BranchMergeRefIdeal.τ Cert.BranchMergeRefIdeal.sig) → Buf (Elt Ideal) ℓ) (g : Dev Cert.BranchMergeRefIdeal.nD → PrngReg), Pre_BranchMergeRefIdeal m →
    θ_run (Cert.BranchMergeRefIdeal.defs (F := Ideal)) (onTc (τ := Cert.BranchMergeRefIdeal.τ) (Cert.BranchMergeRefIdeal.main (F := Ideal))) ⟨m, fun _ => 0, g⟩ (fun r => (∀ c : Dev Cert.BranchMergeRefIdeal.nD,
      r.2.mem ((c.tc : Thread Cert.BranchMergeRefIdeal.nD Cert.BranchMergeRefIdeal.τ).loc Cert.BranchMergeRefIdeal.main_arg0) = m ((c.tc : Thread Cert.BranchMergeRefIdeal.nD Cert.BranchMergeRefIdeal.τ).loc Cert.BranchMergeRefIdeal.main_arg0)
      ∧ r.2.mem ((c.tc : Thread Cert.BranchMergeRefIdeal.nD Cert.BranchMergeRefIdeal.τ).loc Cert.BranchMergeRefIdeal.main_arg1) = m ((c.tc : Thread Cert.BranchMergeRefIdeal.nD Cert.BranchMergeRefIdeal.τ).loc Cert.BranchMergeRefIdeal.main_arg1)
      ∧ r.2.mem ((c.tc : Thread Cert.BranchMergeRefIdeal.nD Cert.BranchMergeRefIdeal.τ).loc Cert.BranchMergeRefIdeal.main_arg2) = m ((c.tc : Thread Cert.BranchMergeRefIdeal.nD Cert.BranchMergeRefIdeal.τ).loc Cert.BranchMergeRefIdeal.main_arg2)
      ∧ r.2.mem ((c.tc : Thread Cert.BranchMergeRefIdeal.nD Cert.BranchMergeRefIdeal.τ).loc Cert.BranchMergeRefIdeal.main_arg3) = m ((c.tc : Thread Cert.BranchMergeRefIdeal.nD Cert.BranchMergeRefIdeal.τ).loc Cert.BranchMergeRefIdeal.main_arg3))
      ∧ r.2.sem = fun _ => 0)

def quiescent_ProjSmall [hProjSmall : Cert.ProjSmall.Facts] : Prop :=
  ∀ (m : (ℓ : Loc Cert.ProjSmall.nD Cert.ProjSmall.τ Cert.ProjSmall.sig) → Buf (Elt Bits) ℓ) (g : Dev Cert.ProjSmall.nD → PrngReg), Pre_ProjSmall m →
    θ_run (Cert.ProjSmall.defs (F := Bits)) (onTc (τ := Cert.ProjSmall.τ) (Cert.ProjSmall.main (F := Bits))) ⟨m, fun _ => 0, g⟩ (fun r => (∀ c : Dev Cert.ProjSmall.nD,
      r.2.mem ((c.tc : Thread Cert.ProjSmall.nD Cert.ProjSmall.τ).loc Cert.ProjSmall.main_arg0) = m ((c.tc : Thread Cert.ProjSmall.nD Cert.ProjSmall.τ).loc Cert.ProjSmall.main_arg0)
      ∧ r.2.mem ((c.tc : Thread Cert.ProjSmall.nD Cert.ProjSmall.τ).loc Cert.ProjSmall.main_arg1) = m ((c.tc : Thread Cert.ProjSmall.nD Cert.ProjSmall.τ).loc Cert.ProjSmall.main_arg1))
      ∧ r.2.sem = fun _ => 0)

def quiescent_ProjSmallIdeal [hProjSmallIdeal : Cert.ProjSmallIdeal.Facts] : Prop :=
  ∀ (m : (ℓ : Loc Cert.ProjSmallIdeal.nD Cert.ProjSmallIdeal.τ Cert.ProjSmallIdeal.sig) → Buf (Elt Ideal) ℓ) (g : Dev Cert.ProjSmallIdeal.nD → PrngReg), Pre_ProjSmallIdeal m →
    θ_run (Cert.ProjSmallIdeal.defs (F := Ideal)) (onTc (τ := Cert.ProjSmallIdeal.τ) (Cert.ProjSmallIdeal.main (F := Ideal))) ⟨m, fun _ => 0, g⟩ (fun r => (∀ c : Dev Cert.ProjSmallIdeal.nD,
      r.2.mem ((c.tc : Thread Cert.ProjSmallIdeal.nD Cert.ProjSmallIdeal.τ).loc Cert.ProjSmallIdeal.main_arg0) = m ((c.tc : Thread Cert.ProjSmallIdeal.nD Cert.ProjSmallIdeal.τ).loc Cert.ProjSmallIdeal.main_arg0)
      ∧ r.2.mem ((c.tc : Thread Cert.ProjSmallIdeal.nD Cert.ProjSmallIdeal.τ).loc Cert.ProjSmallIdeal.main_arg1) = m ((c.tc : Thread Cert.ProjSmallIdeal.nD Cert.ProjSmallIdeal.τ).loc Cert.ProjSmallIdeal.main_arg1))
      ∧ r.2.sem = fun _ => 0)

def quiescent_ProjSmallRefIdeal [hProjSmallRefIdeal : Cert.ProjSmallRefIdeal.Facts] : Prop :=
  ∀ (m : (ℓ : Loc Cert.ProjSmallRefIdeal.nD Cert.ProjSmallRefIdeal.τ Cert.ProjSmallRefIdeal.sig) → Buf (Elt Ideal) ℓ) (g : Dev Cert.ProjSmallRefIdeal.nD → PrngReg), Pre_ProjSmallRefIdeal m →
    θ_run (Cert.ProjSmallRefIdeal.defs (F := Ideal)) (onTc (τ := Cert.ProjSmallRefIdeal.τ) (Cert.ProjSmallRefIdeal.main (F := Ideal))) ⟨m, fun _ => 0, g⟩ (fun r => (∀ c : Dev Cert.ProjSmallRefIdeal.nD,
      r.2.mem ((c.tc : Thread Cert.ProjSmallRefIdeal.nD Cert.ProjSmallRefIdeal.τ).loc Cert.ProjSmallRefIdeal.main_arg0) = m ((c.tc : Thread Cert.ProjSmallRefIdeal.nD Cert.ProjSmallRefIdeal.τ).loc Cert.ProjSmallRefIdeal.main_arg0)
      ∧ r.2.mem ((c.tc : Thread Cert.ProjSmallRefIdeal.nD Cert.ProjSmallRefIdeal.τ).loc Cert.ProjSmallRefIdeal.main_arg1) = m ((c.tc : Thread Cert.ProjSmallRefIdeal.nD Cert.ProjSmallRefIdeal.τ).loc Cert.ProjSmallRefIdeal.main_arg1))
      ∧ r.2.sem = fun _ => 0)

def quiescent_NormMix [hNormMix : Cert.NormMix.Facts] : Prop :=
  ∀ (m : (ℓ : Loc Cert.NormMix.nD Cert.NormMix.τ Cert.NormMix.sig) → Buf (Elt Bits) ℓ) (g : Dev Cert.NormMix.nD → PrngReg), Pre_NormMix m →
    θ_run (Cert.NormMix.defs (F := Bits)) (onTc (τ := Cert.NormMix.τ) (Cert.NormMix.main (F := Bits))) ⟨m, fun _ => 0, g⟩ (fun r => (∀ c : Dev Cert.NormMix.nD,
      r.2.mem ((c.tc : Thread Cert.NormMix.nD Cert.NormMix.τ).loc Cert.NormMix.main_arg0) = m ((c.tc : Thread Cert.NormMix.nD Cert.NormMix.τ).loc Cert.NormMix.main_arg0)
      ∧ r.2.mem ((c.tc : Thread Cert.NormMix.nD Cert.NormMix.τ).loc Cert.NormMix.main_arg1) = m ((c.tc : Thread Cert.NormMix.nD Cert.NormMix.τ).loc Cert.NormMix.main_arg1))
      ∧ r.2.sem = fun _ => 0)

def quiescent_NormMixIdeal [hNormMixIdeal : Cert.NormMixIdeal.Facts] : Prop :=
  ∀ (m : (ℓ : Loc Cert.NormMixIdeal.nD Cert.NormMixIdeal.τ Cert.NormMixIdeal.sig) → Buf (Elt Ideal) ℓ) (g : Dev Cert.NormMixIdeal.nD → PrngReg), Pre_NormMixIdeal m →
    θ_run (Cert.NormMixIdeal.defs (F := Ideal)) (onTc (τ := Cert.NormMixIdeal.τ) (Cert.NormMixIdeal.main (F := Ideal))) ⟨m, fun _ => 0, g⟩ (fun r => (∀ c : Dev Cert.NormMixIdeal.nD,
      r.2.mem ((c.tc : Thread Cert.NormMixIdeal.nD Cert.NormMixIdeal.τ).loc Cert.NormMixIdeal.main_arg0) = m ((c.tc : Thread Cert.NormMixIdeal.nD Cert.NormMixIdeal.τ).loc Cert.NormMixIdeal.main_arg0)
      ∧ r.2.mem ((c.tc : Thread Cert.NormMixIdeal.nD Cert.NormMixIdeal.τ).loc Cert.NormMixIdeal.main_arg1) = m ((c.tc : Thread Cert.NormMixIdeal.nD Cert.NormMixIdeal.τ).loc Cert.NormMixIdeal.main_arg1))
      ∧ r.2.sem = fun _ => 0)

def quiescent_NormMixRefIdeal [hNormMixRefIdeal : Cert.NormMixRefIdeal.Facts] : Prop :=
  ∀ (m : (ℓ : Loc Cert.NormMixRefIdeal.nD Cert.NormMixRefIdeal.τ Cert.NormMixRefIdeal.sig) → Buf (Elt Ideal) ℓ) (g : Dev Cert.NormMixRefIdeal.nD → PrngReg), Pre_NormMixRefIdeal m →
    θ_run (Cert.NormMixRefIdeal.defs (F := Ideal)) (onTc (τ := Cert.NormMixRefIdeal.τ) (Cert.NormMixRefIdeal.main (F := Ideal))) ⟨m, fun _ => 0, g⟩ (fun r => (∀ c : Dev Cert.NormMixRefIdeal.nD,
      r.2.mem ((c.tc : Thread Cert.NormMixRefIdeal.nD Cert.NormMixRefIdeal.τ).loc Cert.NormMixRefIdeal.main_arg0) = m ((c.tc : Thread Cert.NormMixRefIdeal.nD Cert.NormMixRefIdeal.τ).loc Cert.NormMixRefIdeal.main_arg0)
      ∧ r.2.mem ((c.tc : Thread Cert.NormMixRefIdeal.nD Cert.NormMixRefIdeal.τ).loc Cert.NormMixRefIdeal.main_arg1) = m ((c.tc : Thread Cert.NormMixRefIdeal.nD Cert.NormMixRefIdeal.τ).loc Cert.NormMixRefIdeal.main_arg1))
      ∧ r.2.sem = fun _ => 0)

def quiescent_Gate [hGate : Cert.Gate.Facts] : Prop :=
  ∀ (m : (ℓ : Loc Cert.Gate.nD Cert.Gate.τ Cert.Gate.sig) → Buf (Elt Bits) ℓ) (g : Dev Cert.Gate.nD → PrngReg), Pre_Gate m →
    θ_run (Cert.Gate.defs (F := Bits)) (onTc (τ := Cert.Gate.τ) (Cert.Gate.main (F := Bits))) ⟨m, fun _ => 0, g⟩ (fun r => (∀ c : Dev Cert.Gate.nD,
      r.2.mem ((c.tc : Thread Cert.Gate.nD Cert.Gate.τ).loc Cert.Gate.main_arg0) = m ((c.tc : Thread Cert.Gate.nD Cert.Gate.τ).loc Cert.Gate.main_arg0)
      ∧ r.2.mem ((c.tc : Thread Cert.Gate.nD Cert.Gate.τ).loc Cert.Gate.main_arg1) = m ((c.tc : Thread Cert.Gate.nD Cert.Gate.τ).loc Cert.Gate.main_arg1)
      ∧ r.2.mem ((c.tc : Thread Cert.Gate.nD Cert.Gate.τ).loc Cert.Gate.main_arg2) = m ((c.tc : Thread Cert.Gate.nD Cert.Gate.τ).loc Cert.Gate.main_arg2)
      ∧ r.2.mem ((c.tc : Thread Cert.Gate.nD Cert.Gate.τ).loc Cert.Gate.main_arg3) = m ((c.tc : Thread Cert.Gate.nD Cert.Gate.τ).loc Cert.Gate.main_arg3))
      ∧ r.2.sem = fun _ => 0)

def quiescent_GateIdeal [hGateIdeal : Cert.GateIdeal.Facts] : Prop :=
  ∀ (m : (ℓ : Loc Cert.GateIdeal.nD Cert.GateIdeal.τ Cert.GateIdeal.sig) → Buf (Elt Ideal) ℓ) (g : Dev Cert.GateIdeal.nD → PrngReg), Pre_GateIdeal m →
    θ_run (Cert.GateIdeal.defs (F := Ideal)) (onTc (τ := Cert.GateIdeal.τ) (Cert.GateIdeal.main (F := Ideal))) ⟨m, fun _ => 0, g⟩ (fun r => (∀ c : Dev Cert.GateIdeal.nD,
      r.2.mem ((c.tc : Thread Cert.GateIdeal.nD Cert.GateIdeal.τ).loc Cert.GateIdeal.main_arg0) = m ((c.tc : Thread Cert.GateIdeal.nD Cert.GateIdeal.τ).loc Cert.GateIdeal.main_arg0)
      ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
      ∧ r.2.mem ((c.tc : Thread Cert.GateIdeal.nD Cert.GateIdeal.τ).loc Cert.GateIdeal.main_arg2) = m ((c.tc : Thread Cert.GateIdeal.nD Cert.GateIdeal.τ).loc Cert.GateIdeal.main_arg2)
      ∧ r.2.mem ((c.tc : Thread Cert.GateIdeal.nD Cert.GateIdeal.τ).loc Cert.GateIdeal.main_arg3) = m ((c.tc : Thread Cert.GateIdeal.nD Cert.GateIdeal.τ).loc Cert.GateIdeal.main_arg3))
      ∧ r.2.sem = fun _ => 0)

def quiescent_GateRefIdeal [hGateRefIdeal : Cert.GateRefIdeal.Facts] : Prop :=
  ∀ (m : (ℓ : Loc Cert.GateRefIdeal.nD Cert.GateRefIdeal.τ Cert.GateRefIdeal.sig) → Buf (Elt Ideal) ℓ) (g : Dev Cert.GateRefIdeal.nD → PrngReg), Pre_GateRefIdeal m →
    θ_run (Cert.GateRefIdeal.defs (F := Ideal)) (onTc (τ := Cert.GateRefIdeal.τ) (Cert.GateRefIdeal.main (F := Ideal))) ⟨m, fun _ => 0, g⟩ (fun r => (∀ c : Dev Cert.GateRefIdeal.nD,
      r.2.mem ((c.tc : Thread Cert.GateRefIdeal.nD Cert.GateRefIdeal.τ).loc Cert.GateRefIdeal.main_arg0) = m ((c.tc : Thread Cert.GateRefIdeal.nD Cert.GateRefIdeal.τ).loc Cert.GateRefIdeal.main_arg0)
      ∧ r.2.mem ((c.tc : Thread Cert.GateRefIdeal.nD Cert.GateRefIdeal.τ).loc Cert.GateRefIdeal.main_arg1) = m ((c.tc : Thread Cert.GateRefIdeal.nD Cert.GateRefIdeal.τ).loc Cert.GateRefIdeal.main_arg1)
      ∧ r.2.mem ((c.tc : Thread Cert.GateRefIdeal.nD Cert.GateRefIdeal.τ).loc Cert.GateRefIdeal.main_arg2) = m ((c.tc : Thread Cert.GateRefIdeal.nD Cert.GateRefIdeal.τ).loc Cert.GateRefIdeal.main_arg2)
      ∧ r.2.mem ((c.tc : Thread Cert.GateRefIdeal.nD Cert.GateRefIdeal.τ).loc Cert.GateRefIdeal.main_arg3) = m ((c.tc : Thread Cert.GateRefIdeal.nD Cert.GateRefIdeal.τ).loc Cert.GateRefIdeal.main_arg3))
      ∧ r.2.sem = fun _ => 0)

def preserves_FoxBwd_FoxBwdIdeal : Prop :=
  IdealRules.named_const.Statement Cert.FoxBwdIdeal.κ "masked" .f32 0xF149F2CA#32 ⊥

def algebraic_FoxBwdIdeal_FoxRefIdeal_pre_fox_finite [hFoxBwdIdeal : Cert.FoxBwdIdeal.Facts] [hFoxRefIdeal : Cert.FoxRefIdeal.Facts] [hPre_fox_finite : Cert.Pre_fox_finite.Facts] : Prop :=
  ∀ (m : (ℓ : Loc Cert.FoxBwdIdeal.nD Cert.FoxBwdIdeal.τ Cert.FoxBwdIdeal.sig) → Buf (Elt Ideal) ℓ) (g : Dev Cert.FoxBwdIdeal.nD → PrngReg)
    (m' : (ℓ : Loc Cert.FoxRefIdeal.nD Cert.FoxRefIdeal.τ Cert.FoxRefIdeal.sig) → Buf (Elt Ideal) ℓ) (g' : Dev Cert.FoxRefIdeal.nD → PrngReg), Pre_FoxBwdIdeal_fox_finite m →
    (∀ c : Dev Cert.FoxBwdIdeal.nD,
      m' ((c.tc : Thread Cert.FoxRefIdeal.nD Cert.FoxRefIdeal.τ).loc Cert.FoxRefIdeal.main_arg0) = m ((c.tc : Thread Cert.FoxBwdIdeal.nD Cert.FoxBwdIdeal.τ).loc Cert.FoxBwdIdeal.main_arg0)
      ∧ m' ((c.tc : Thread Cert.FoxRefIdeal.nD Cert.FoxRefIdeal.τ).loc Cert.FoxRefIdeal.main_arg1) = m ((c.tc : Thread Cert.FoxBwdIdeal.nD Cert.FoxBwdIdeal.τ).loc Cert.FoxBwdIdeal.main_arg1)
      ∧ m' ((c.tc : Thread Cert.FoxRefIdeal.nD Cert.FoxRefIdeal.τ).loc Cert.FoxRefIdeal.main_arg2) = m ((c.tc : Thread Cert.FoxBwdIdeal.nD Cert.FoxBwdIdeal.τ).loc Cert.FoxBwdIdeal.main_arg2)) →
    ∃ (v0 : (c : Dev Cert.FoxBwdIdeal.nD) → Buf (Elt Ideal) ((c.tc : Thread Cert.FoxBwdIdeal.nD Cert.FoxBwdIdeal.τ).loc Cert.FoxBwdIdeal.main_v38_0)) (v1 : (c : Dev Cert.FoxBwdIdeal.nD) → Buf (Elt Ideal) ((c.tc : Thread Cert.FoxBwdIdeal.nD Cert.FoxBwdIdeal.τ).loc Cert.FoxBwdIdeal.main_v38_1)) (v2 : (c : Dev Cert.FoxBwdIdeal.nD) → Buf (Elt Ideal) ((c.tc : Thread Cert.FoxBwdIdeal.nD Cert.FoxBwdIdeal.τ).loc Cert.FoxBwdIdeal.main_v38_2)),
      θ_run (Cert.FoxBwdIdeal.defs (F := Ideal)) (onTc (τ := Cert.FoxBwdIdeal.τ) (Cert.FoxBwdIdeal.main (F := Ideal))) ⟨m, fun _ => 0, g⟩ (fun r => ∀ c : Dev Cert.FoxBwdIdeal.nD,
          r.2.mem ((c.tc : Thread Cert.FoxBwdIdeal.nD Cert.FoxBwdIdeal.τ).loc Cert.FoxBwdIdeal.main_v38_0) = v0 c
          ∧ r.2.mem ((c.tc : Thread Cert.FoxBwdIdeal.nD Cert.FoxBwdIdeal.τ).loc Cert.FoxBwdIdeal.main_v38_1) = v1 c
          ∧ r.2.mem ((c.tc : Thread Cert.FoxBwdIdeal.nD Cert.FoxBwdIdeal.τ).loc Cert.FoxBwdIdeal.main_v38_2) = v2 c
          ∧ r.2.mem ((c.tc : Thread Cert.FoxBwdIdeal.nD Cert.FoxBwdIdeal.τ).loc Cert.FoxBwdIdeal.main_arg0) = m ((c.tc : Thread Cert.FoxBwdIdeal.nD Cert.FoxBwdIdeal.τ).loc Cert.FoxBwdIdeal.main_arg0)
          ∧ r.2.mem ((c.tc : Thread Cert.FoxBwdIdeal.nD Cert.FoxBwdIdeal.τ).loc Cert.FoxBwdIdeal.main_arg1) = m ((c.tc : Thread Cert.FoxBwdIdeal.nD Cert.FoxBwdIdeal.τ).loc Cert.FoxBwdIdeal.main_arg1)
          ∧ r.2.mem ((c.tc : Thread Cert.FoxBwdIdeal.nD Cert.FoxBwdIdeal.τ).loc Cert.FoxBwdIdeal.main_arg2) = m ((c.tc : Thread Cert.FoxBwdIdeal.nD Cert.FoxBwdIdeal.τ).loc Cert.FoxBwdIdeal.main_arg2))
      ∧ θ_run (Cert.FoxRefIdeal.defs (F := Ideal)) (onTc (τ := Cert.FoxRefIdeal.τ) (Cert.FoxRefIdeal.main (F := Ideal))) ⟨m', fun _ => 0, g'⟩ (fun r => ∀ c : Dev Cert.FoxRefIdeal.nD,
          r.2.mem ((c.tc : Thread Cert.FoxRefIdeal.nD Cert.FoxRefIdeal.τ).loc Cert.FoxRefIdeal.main_v88) = v0 c
          ∧ r.2.mem ((c.tc : Thread Cert.FoxRefIdeal.nD Cert.FoxRefIdeal.τ).loc Cert.FoxRefIdeal.main_v89) = v1 c
          ∧ r.2.mem ((c.tc : Thread Cert.FoxRefIdeal.nD Cert.FoxRefIdeal.τ).loc Cert.FoxRefIdeal.main_v90) = v2 c
          ∧ r.2.mem ((c.tc : Thread Cert.FoxRefIdeal.nD Cert.FoxRefIdeal.τ).loc Cert.FoxRefIdeal.main_arg0) = m' ((c.tc : Thread Cert.FoxRefIdeal.nD Cert.FoxRefIdeal.τ).loc Cert.FoxRefIdeal.main_arg0)
          ∧ r.2.mem ((c.tc : Thread Cert.FoxRefIdeal.nD Cert.FoxRefIdeal.τ).loc Cert.FoxRefIdeal.main_arg1) = m' ((c.tc : Thread Cert.FoxRefIdeal.nD Cert.FoxRefIdeal.τ).loc Cert.FoxRefIdeal.main_arg1)
          ∧ r.2.mem ((c.tc : Thread Cert.FoxRefIdeal.nD Cert.FoxRefIdeal.τ).loc Cert.FoxRefIdeal.main_arg2) = m' ((c.tc : Thread Cert.FoxRefIdeal.nD Cert.FoxRefIdeal.τ).loc Cert.FoxRefIdeal.main_arg2))

def preserves_MergeBwd_MergeBwdIdeal : Prop :=
  True

def algebraic_MergeBwdIdeal_MergeRefIdeal [hMergeBwdIdeal : Cert.MergeBwdIdeal.Facts] [hMergeRefIdeal : Cert.MergeRefIdeal.Facts] : Prop :=
  ∀ (m : (ℓ : Loc Cert.MergeBwdIdeal.nD Cert.MergeBwdIdeal.τ Cert.MergeBwdIdeal.sig) → Buf (Elt Ideal) ℓ) (g : Dev Cert.MergeBwdIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeBwdIdeal m →
    (∀ c : Dev Cert.MergeBwdIdeal.nD,
      m' ((c.tc : Thread Cert.MergeRefIdeal.nD Cert.MergeRefIdeal.τ).loc Cert.MergeRefIdeal.main_arg0) = m ((c.tc : Thread Cert.MergeBwdIdeal.nD Cert.MergeBwdIdeal.τ).loc Cert.MergeBwdIdeal.main_arg0)
      ∧ m' ((c.tc : Thread Cert.MergeRefIdeal.nD Cert.MergeRefIdeal.τ).loc Cert.MergeRefIdeal.main_arg1) = m ((c.tc : Thread Cert.MergeBwdIdeal.nD Cert.MergeBwdIdeal.τ).loc Cert.MergeBwdIdeal.main_arg1)
      ∧ m' ((c.tc : Thread Cert.MergeRefIdeal.nD Cert.MergeRefIdeal.τ).loc Cert.MergeRefIdeal.main_arg2) = m ((c.tc : Thread Cert.MergeBwdIdeal.nD Cert.MergeBwdIdeal.τ).loc Cert.MergeBwdIdeal.main_arg2)
      ∧ m' ((c.tc : Thread Cert.MergeRefIdeal.nD Cert.MergeRefIdeal.τ).loc Cert.MergeRefIdeal.main_arg3) = m ((c.tc : Thread Cert.MergeBwdIdeal.nD Cert.MergeBwdIdeal.τ).loc Cert.MergeBwdIdeal.main_arg3)
      ∧ m' ((c.tc : Thread Cert.MergeRefIdeal.nD Cert.MergeRefIdeal.τ).loc Cert.MergeRefIdeal.main_arg4) = m ((c.tc : Thread Cert.MergeBwdIdeal.nD Cert.MergeBwdIdeal.τ).loc Cert.MergeBwdIdeal.main_arg4)) →
    ∃ (v0 : (c : Dev Cert.MergeBwdIdeal.nD) → Buf (Elt Ideal) ((c.tc : Thread Cert.MergeBwdIdeal.nD Cert.MergeBwdIdeal.τ).loc Cert.MergeBwdIdeal.main_v0_0)) (v1 : (c : Dev Cert.MergeBwdIdeal.nD) → Buf (Elt Ideal) ((c.tc : Thread Cert.MergeBwdIdeal.nD Cert.MergeBwdIdeal.τ).loc Cert.MergeBwdIdeal.main_v0_1)) (v2 : (c : Dev Cert.MergeBwdIdeal.nD) → Buf (Elt Ideal) ((c.tc : Thread Cert.MergeBwdIdeal.nD Cert.MergeBwdIdeal.τ).loc Cert.MergeBwdIdeal.main_v0_2)),
      θ_run (Cert.MergeBwdIdeal.defs (F := Ideal)) (onTc (τ := Cert.MergeBwdIdeal.τ) (Cert.MergeBwdIdeal.main (F := Ideal))) ⟨m, fun _ => 0, g⟩ (fun r => ∀ c : Dev Cert.MergeBwdIdeal.nD,
          r.2.mem ((c.tc : Thread Cert.MergeBwdIdeal.nD Cert.MergeBwdIdeal.τ).loc Cert.MergeBwdIdeal.main_v0_0) = v0 c
          ∧ r.2.mem ((c.tc : Thread Cert.MergeBwdIdeal.nD Cert.MergeBwdIdeal.τ).loc Cert.MergeBwdIdeal.main_v0_1) = v1 c
          ∧ r.2.mem ((c.tc : Thread Cert.MergeBwdIdeal.nD Cert.MergeBwdIdeal.τ).loc Cert.MergeBwdIdeal.main_v0_2) = v2 c
          ∧ r.2.mem ((c.tc : Thread Cert.MergeBwdIdeal.nD Cert.MergeBwdIdeal.τ).loc Cert.MergeBwdIdeal.main_arg0) = m ((c.tc : Thread Cert.MergeBwdIdeal.nD Cert.MergeBwdIdeal.τ).loc Cert.MergeBwdIdeal.main_arg0)
          ∧ r.2.mem ((c.tc : Thread Cert.MergeBwdIdeal.nD Cert.MergeBwdIdeal.τ).loc Cert.MergeBwdIdeal.main_arg1) = m ((c.tc : Thread Cert.MergeBwdIdeal.nD Cert.MergeBwdIdeal.τ).loc Cert.MergeBwdIdeal.main_arg1)
          ∧ r.2.mem ((c.tc : Thread Cert.MergeBwdIdeal.nD Cert.MergeBwdIdeal.τ).loc Cert.MergeBwdIdeal.main_arg2) = m ((c.tc : Thread Cert.MergeBwdIdeal.nD Cert.MergeBwdIdeal.τ).loc Cert.MergeBwdIdeal.main_arg2)
          ∧ r.2.mem ((c.tc : Thread Cert.MergeBwdIdeal.nD Cert.MergeBwdIdeal.τ).loc Cert.MergeBwdIdeal.main_arg3) = m ((c.tc : Thread Cert.MergeBwdIdeal.nD Cert.MergeBwdIdeal.τ).loc Cert.MergeBwdIdeal.main_arg3)
          ∧ r.2.mem ((c.tc : Thread Cert.MergeBwdIdeal.nD Cert.MergeBwdIdeal.τ).loc Cert.MergeBwdIdeal.main_arg4) = m ((c.tc : Thread Cert.MergeBwdIdeal.nD Cert.MergeBwdIdeal.τ).loc Cert.MergeBwdIdeal.main_arg4))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v34) = v0 c
          ∧ r.2.mem ((c.tc : Thread Cert.MergeRefIdeal.nD Cert.MergeRefIdeal.τ).loc Cert.MergeRefIdeal.main_v35) = v1 c
          ∧ r.2.mem ((c.tc : Thread Cert.MergeRefIdeal.nD Cert.MergeRefIdeal.τ).loc Cert.MergeRefIdeal.main_v36) = v2 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4))

def preserves_DAct_DActIdeal : Prop :=
  True

def algebraic_DActIdeal_DActRefIdeal [hDActIdeal : Cert.DActIdeal.Facts] [hDActRefIdeal : Cert.DActRefIdeal.Facts] : Prop :=
  ∀ (m : (ℓ : Loc Cert.DActIdeal.nD Cert.DActIdeal.τ Cert.DActIdeal.sig) → Buf (Elt Ideal) ℓ) (g : Dev Cert.DActIdeal.nD → PrngReg)
    (m' : (ℓ : Loc Cert.DActRefIdeal.nD Cert.DActRefIdeal.τ Cert.DActRefIdeal.sig) → Buf (Elt Ideal) ℓ) (g' : Dev Cert.DActRefIdeal.nD → PrngReg), Pre_DActIdeal m →
    (∀ c : Dev Cert.DActIdeal.nD,
      m' ((c.tc : Thread Cert.DActRefIdeal.nD Cert.DActRefIdeal.τ).loc Cert.DActRefIdeal.main_arg0) = m ((c.tc : Thread Cert.DActIdeal.nD Cert.DActIdeal.τ).loc Cert.DActIdeal.main_arg0)
      ∧ m' ((c.tc : Thread Cert.DActRefIdeal.nD Cert.DActRefIdeal.τ).loc Cert.DActRefIdeal.main_arg1) = m ((c.tc : Thread Cert.DActIdeal.nD Cert.DActIdeal.τ).loc Cert.DActIdeal.main_arg1)) →
    ∃ (v0 : (c : Dev Cert.DActIdeal.nD) → Buf (Elt Ideal) ((c.tc : Thread Cert.DActIdeal.nD Cert.DActIdeal.τ).loc Cert.DActIdeal.main_v0)),
      θ_run (Cert.DActIdeal.defs (F := Ideal)) (onTc (τ := Cert.DActIdeal.τ) (Cert.DActIdeal.main (F := Ideal))) ⟨m, fun _ => 0, g⟩ (fun r => ∀ c : Dev Cert.DActIdeal.nD,
          r.2.mem ((c.tc : Thread Cert.DActIdeal.nD Cert.DActIdeal.τ).loc Cert.DActIdeal.main_v0) = v0 c
          ∧ r.2.mem ((c.tc : Thread Cert.DActIdeal.nD Cert.DActIdeal.τ).loc Cert.DActIdeal.main_arg0) = m ((c.tc : Thread Cert.DActIdeal.nD Cert.DActIdeal.τ).loc Cert.DActIdeal.main_arg0)
          ∧ r.2.mem ((c.tc : Thread Cert.DActIdeal.nD Cert.DActIdeal.τ).loc Cert.DActIdeal.main_arg1) = m ((c.tc : Thread Cert.DActIdeal.nD Cert.DActIdeal.τ).loc Cert.DActIdeal.main_arg1))
      ∧ θ_run (Cert.DActRefIdeal.defs (F := Ideal)) (onTc (τ := Cert.DActRefIdeal.τ) (Cert.DActRefIdeal.main (F := Ideal))) ⟨m', fun _ => 0, g'⟩ (fun r => ∀ c : Dev Cert.DActRefIdeal.nD,
          r.2.mem ((c.tc : Thread Cert.DActRefIdeal.nD Cert.DActRefIdeal.τ).loc Cert.DActRefIdeal.main_v2) = v0 c
          ∧ r.2.mem ((c.tc : Thread Cert.DActRefIdeal.nD Cert.DActRefIdeal.τ).loc Cert.DActRefIdeal.main_arg0) = m' ((c.tc : Thread Cert.DActRefIdeal.nD Cert.DActRefIdeal.τ).loc Cert.DActRefIdeal.main_arg0)
          ∧ r.2.mem ((c.tc : Thread Cert.DActRefIdeal.nD Cert.DActRefIdeal.τ).loc Cert.DActRefIdeal.main_arg1) = m' ((c.tc : Thread Cert.DActRefIdeal.nD Cert.DActRefIdeal.τ).loc Cert.DActRefIdeal.main_arg1))

def preserves_DHn2_DHn2Ideal : Prop :=
  True

def algebraic_DHn2Ideal_DHn2RefIdeal [hDHn2Ideal : Cert.DHn2Ideal.Facts] [hDHn2RefIdeal : Cert.DHn2RefIdeal.Facts] : Prop :=
  ∀ (m : (ℓ : Loc Cert.DHn2Ideal.nD Cert.DHn2Ideal.τ Cert.DHn2Ideal.sig) → Buf (Elt Ideal) ℓ) (g : Dev Cert.DHn2Ideal.nD → PrngReg)
    (m' : (ℓ : Loc Cert.DHn2RefIdeal.nD Cert.DHn2RefIdeal.τ Cert.DHn2RefIdeal.sig) → Buf (Elt Ideal) ℓ) (g' : Dev Cert.DHn2RefIdeal.nD → PrngReg), Pre_DHn2Ideal m →
    (∀ c : Dev Cert.DHn2Ideal.nD,
      m' ((c.tc : Thread Cert.DHn2RefIdeal.nD Cert.DHn2RefIdeal.τ).loc Cert.DHn2RefIdeal.main_arg0) = m ((c.tc : Thread Cert.DHn2Ideal.nD Cert.DHn2Ideal.τ).loc Cert.DHn2Ideal.main_arg0)
      ∧ m' ((c.tc : Thread Cert.DHn2RefIdeal.nD Cert.DHn2RefIdeal.τ).loc Cert.DHn2RefIdeal.main_arg1) = m ((c.tc : Thread Cert.DHn2Ideal.nD Cert.DHn2Ideal.τ).loc Cert.DHn2Ideal.main_arg1)) →
    ∃ (v0 : (c : Dev Cert.DHn2Ideal.nD) → Buf (Elt Ideal) ((c.tc : Thread Cert.DHn2Ideal.nD Cert.DHn2Ideal.τ).loc Cert.DHn2Ideal.main_v0)),
      θ_run (Cert.DHn2Ideal.defs (F := Ideal)) (onTc (τ := Cert.DHn2Ideal.τ) (Cert.DHn2Ideal.main (F := Ideal))) ⟨m, fun _ => 0, g⟩ (fun r => ∀ c : Dev Cert.DHn2Ideal.nD,
          r.2.mem ((c.tc : Thread Cert.DHn2Ideal.nD Cert.DHn2Ideal.τ).loc Cert.DHn2Ideal.main_v0) = v0 c
          ∧ r.2.mem ((c.tc : Thread Cert.DHn2Ideal.nD Cert.DHn2Ideal.τ).loc Cert.DHn2Ideal.main_arg0) = m ((c.tc : Thread Cert.DHn2Ideal.nD Cert.DHn2Ideal.τ).loc Cert.DHn2Ideal.main_arg0)
          ∧ r.2.mem ((c.tc : Thread Cert.DHn2Ideal.nD Cert.DHn2Ideal.τ).loc Cert.DHn2Ideal.main_arg1) = m ((c.tc : Thread Cert.DHn2Ideal.nD Cert.DHn2Ideal.τ).loc Cert.DHn2Ideal.main_arg1))
      ∧ θ_run (Cert.DHn2RefIdeal.defs (F := Ideal)) (onTc (τ := Cert.DHn2RefIdeal.τ) (Cert.DHn2RefIdeal.main (F := Ideal))) ⟨m', fun _ => 0, g'⟩ (fun r => ∀ c : Dev Cert.DHn2RefIdeal.nD,
          r.2.mem ((c.tc : Thread Cert.DHn2RefIdeal.nD Cert.DHn2RefIdeal.τ).loc Cert.DHn2RefIdeal.main_v2) = v0 c
          ∧ r.2.mem ((c.tc : Thread Cert.DHn2RefIdeal.nD Cert.DHn2RefIdeal.τ).loc Cert.DHn2RefIdeal.main_arg0) = m' ((c.tc : Thread Cert.DHn2RefIdeal.nD Cert.DHn2RefIdeal.τ).loc Cert.DHn2RefIdeal.main_arg0)
          ∧ r.2.mem ((c.tc : Thread Cert.DHn2RefIdeal.nD Cert.DHn2RefIdeal.τ).loc Cert.DHn2RefIdeal.main_arg1) = m' ((c.tc : Thread Cert.DHn2RefIdeal.nD Cert.DHn2RefIdeal.τ).loc Cert.DHn2RefIdeal.main_arg1))

def preserves_DBranch_DBranchIdeal : Prop :=
  True

def algebraic_DBranchIdeal_DBranchRefIdeal [hDBranchIdeal : Cert.DBranchIdeal.Facts] [hDBranchRefIdeal : Cert.DBranchRefIdeal.Facts] : Prop :=
  ∀ (m : (ℓ : Loc Cert.DBranchIdeal.nD Cert.DBranchIdeal.τ Cert.DBranchIdeal.sig) → Buf (Elt Ideal) ℓ) (g : Dev Cert.DBranchIdeal.nD → PrngReg)
    (m' : (ℓ : Loc Cert.DBranchRefIdeal.nD Cert.DBranchRefIdeal.τ Cert.DBranchRefIdeal.sig) → Buf (Elt Ideal) ℓ) (g' : Dev Cert.DBranchRefIdeal.nD → PrngReg), Pre_DBranchIdeal m →
    (∀ c : Dev Cert.DBranchIdeal.nD,
      m' ((c.tc : Thread Cert.DBranchRefIdeal.nD Cert.DBranchRefIdeal.τ).loc Cert.DBranchRefIdeal.main_arg0) = m ((c.tc : Thread Cert.DBranchIdeal.nD Cert.DBranchIdeal.τ).loc Cert.DBranchIdeal.main_arg0)
      ∧ m' ((c.tc : Thread Cert.DBranchRefIdeal.nD Cert.DBranchRefIdeal.τ).loc Cert.DBranchRefIdeal.main_arg1) = m ((c.tc : Thread Cert.DBranchIdeal.nD Cert.DBranchIdeal.τ).loc Cert.DBranchIdeal.main_arg1)) →
    ∃ (v0 : (c : Dev Cert.DBranchIdeal.nD) → Buf (Elt Ideal) ((c.tc : Thread Cert.DBranchIdeal.nD Cert.DBranchIdeal.τ).loc Cert.DBranchIdeal.main_v0)),
      θ_run (Cert.DBranchIdeal.defs (F := Ideal)) (onTc (τ := Cert.DBranchIdeal.τ) (Cert.DBranchIdeal.main (F := Ideal))) ⟨m, fun _ => 0, g⟩ (fun r => ∀ c : Dev Cert.DBranchIdeal.nD,
          r.2.mem ((c.tc : Thread Cert.DBranchIdeal.nD Cert.DBranchIdeal.τ).loc Cert.DBranchIdeal.main_v0) = v0 c
          ∧ r.2.mem ((c.tc : Thread Cert.DBranchIdeal.nD Cert.DBranchIdeal.τ).loc Cert.DBranchIdeal.main_arg0) = m ((c.tc : Thread Cert.DBranchIdeal.nD Cert.DBranchIdeal.τ).loc Cert.DBranchIdeal.main_arg0)
          ∧ r.2.mem ((c.tc : Thread Cert.DBranchIdeal.nD Cert.DBranchIdeal.τ).loc Cert.DBranchIdeal.main_arg1) = m ((c.tc : Thread Cert.DBranchIdeal.nD Cert.DBranchIdeal.τ).loc Cert.DBranchIdeal.main_arg1))
      ∧ θ_run (Cert.DBranchRefIdeal.defs (F := Ideal)) (onTc (τ := Cert.DBranchRefIdeal.τ) (Cert.DBranchRefIdeal.main (F := Ideal))) ⟨m', fun _ => 0, g'⟩ (fun r => ∀ c : Dev Cert.DBranchRefIdeal.nD,
          r.2.mem ((c.tc : Thread Cert.DBranchRefIdeal.nD Cert.DBranchRefIdeal.τ).loc Cert.DBranchRefIdeal.main_v2) = v0 c
          ∧ r.2.mem ((c.tc : Thread Cert.DBranchRefIdeal.nD Cert.DBranchRefIdeal.τ).loc Cert.DBranchRefIdeal.main_arg0) = m' ((c.tc : Thread Cert.DBranchRefIdeal.nD Cert.DBranchRefIdeal.τ).loc Cert.DBranchRefIdeal.main_arg0)
          ∧ r.2.mem ((c.tc : Thread Cert.DBranchRefIdeal.nD Cert.DBranchRefIdeal.τ).loc Cert.DBranchRefIdeal.main_arg1) = m' ((c.tc : Thread Cert.DBranchRefIdeal.nD Cert.DBranchRefIdeal.τ).loc Cert.DBranchRefIdeal.main_arg1))

def preserves_DHFox_DHFoxIdeal : Prop :=
  True

def algebraic_DHFoxIdeal_DHFoxRefIdeal [hDHFoxIdeal : Cert.DHFoxIdeal.Facts] [hDHFoxRefIdeal : Cert.DHFoxRefIdeal.Facts] : Prop :=
  ∀ (m : (ℓ : Loc Cert.DHFoxIdeal.nD Cert.DHFoxIdeal.τ Cert.DHFoxIdeal.sig) → Buf (Elt Ideal) ℓ) (g : Dev Cert.DHFoxIdeal.nD → PrngReg)
    (m' : (ℓ : Loc Cert.DHFoxRefIdeal.nD Cert.DHFoxRefIdeal.τ Cert.DHFoxRefIdeal.sig) → Buf (Elt Ideal) ℓ) (g' : Dev Cert.DHFoxRefIdeal.nD → PrngReg), Pre_DHFoxIdeal m →
    (∀ c : Dev Cert.DHFoxIdeal.nD,
      m' ((c.tc : Thread Cert.DHFoxRefIdeal.nD Cert.DHFoxRefIdeal.τ).loc Cert.DHFoxRefIdeal.main_arg0) = m ((c.tc : Thread Cert.DHFoxIdeal.nD Cert.DHFoxIdeal.τ).loc Cert.DHFoxIdeal.main_arg0)
      ∧ m' ((c.tc : Thread Cert.DHFoxRefIdeal.nD Cert.DHFoxRefIdeal.τ).loc Cert.DHFoxRefIdeal.main_arg1) = m ((c.tc : Thread Cert.DHFoxIdeal.nD Cert.DHFoxIdeal.τ).loc Cert.DHFoxIdeal.main_arg1)) →
    ∃ (v0 : (c : Dev Cert.DHFoxIdeal.nD) → Buf (Elt Ideal) ((c.tc : Thread Cert.DHFoxIdeal.nD Cert.DHFoxIdeal.τ).loc Cert.DHFoxIdeal.main_v0)),
      θ_run (Cert.DHFoxIdeal.defs (F := Ideal)) (onTc (τ := Cert.DHFoxIdeal.τ) (Cert.DHFoxIdeal.main (F := Ideal))) ⟨m, fun _ => 0, g⟩ (fun r => ∀ c : Dev Cert.DHFoxIdeal.nD,
          r.2.mem ((c.tc : Thread Cert.DHFoxIdeal.nD Cert.DHFoxIdeal.τ).loc Cert.DHFoxIdeal.main_v0) = v0 c
          ∧ r.2.mem ((c.tc : Thread Cert.DHFoxIdeal.nD Cert.DHFoxIdeal.τ).loc Cert.DHFoxIdeal.main_arg0) = m ((c.tc : Thread Cert.DHFoxIdeal.nD Cert.DHFoxIdeal.τ).loc Cert.DHFoxIdeal.main_arg0)
          ∧ r.2.mem ((c.tc : Thread Cert.DHFoxIdeal.nD Cert.DHFoxIdeal.τ).loc Cert.DHFoxIdeal.main_arg1) = m ((c.tc : Thread Cert.DHFoxIdeal.nD Cert.DHFoxIdeal.τ).loc Cert.DHFoxIdeal.main_arg1))
      ∧ θ_run (Cert.DHFoxRefIdeal.defs (F := Ideal)) (onTc (τ := Cert.DHFoxRefIdeal.τ) (Cert.DHFoxRefIdeal.main (F := Ideal))) ⟨m', fun _ => 0, g'⟩ (fun r => ∀ c : Dev Cert.DHFoxRefIdeal.nD,
          r.2.mem ((c.tc : Thread Cert.DHFoxRefIdeal.nD Cert.DHFoxRefIdeal.τ).loc Cert.DHFoxRefIdeal.main_v2) = v0 c
          ∧ r.2.mem ((c.tc : Thread Cert.DHFoxRefIdeal.nD Cert.DHFoxRefIdeal.τ).loc Cert.DHFoxRefIdeal.main_arg0) = m' ((c.tc : Thread Cert.DHFoxRefIdeal.nD Cert.DHFoxRefIdeal.τ).loc Cert.DHFoxRefIdeal.main_arg0)
          ∧ r.2.mem ((c.tc : Thread Cert.DHFoxRefIdeal.nD Cert.DHFoxRefIdeal.τ).loc Cert.DHFoxRefIdeal.main_arg1) = m' ((c.tc : Thread Cert.DHFoxRefIdeal.nD Cert.DHFoxRefIdeal.τ).loc Cert.DHFoxRefIdeal.main_arg1))

def preserves_DHQkv_DHQkvIdeal : Prop :=
  True

def algebraic_DHQkvIdeal_DHQkvRefIdeal [hDHQkvIdeal : Cert.DHQkvIdeal.Facts] [hDHQkvRefIdeal : Cert.DHQkvRefIdeal.Facts] : Prop :=
  ∀ (m : (ℓ : Loc Cert.DHQkvIdeal.nD Cert.DHQkvIdeal.τ Cert.DHQkvIdeal.sig) → Buf (Elt Ideal) ℓ) (g : Dev Cert.DHQkvIdeal.nD → PrngReg)
    (m' : (ℓ : Loc Cert.DHQkvRefIdeal.nD Cert.DHQkvRefIdeal.τ Cert.DHQkvRefIdeal.sig) → Buf (Elt Ideal) ℓ) (g' : Dev Cert.DHQkvRefIdeal.nD → PrngReg), Pre_DHQkvIdeal m →
    (∀ c : Dev Cert.DHQkvIdeal.nD,
      m' ((c.tc : Thread Cert.DHQkvRefIdeal.nD Cert.DHQkvRefIdeal.τ).loc Cert.DHQkvRefIdeal.main_arg0) = m ((c.tc : Thread Cert.DHQkvIdeal.nD Cert.DHQkvIdeal.τ).loc Cert.DHQkvIdeal.main_arg0)
      ∧ m' ((c.tc : Thread Cert.DHQkvRefIdeal.nD Cert.DHQkvRefIdeal.τ).loc Cert.DHQkvRefIdeal.main_arg1) = m ((c.tc : Thread Cert.DHQkvIdeal.nD Cert.DHQkvIdeal.τ).loc Cert.DHQkvIdeal.main_arg1)
      ∧ m' ((c.tc : Thread Cert.DHQkvRefIdeal.nD Cert.DHQkvRefIdeal.τ).loc Cert.DHQkvRefIdeal.main_arg2) = m ((c.tc : Thread Cert.DHQkvIdeal.nD Cert.DHQkvIdeal.τ).loc Cert.DHQkvIdeal.main_arg2)) →
    ∃ (v0 : (c : Dev Cert.DHQkvIdeal.nD) → Buf (Elt Ideal) ((c.tc : Thread Cert.DHQkvIdeal.nD Cert.DHQkvIdeal.τ).loc Cert.DHQkvIdeal.main_v0)),
      θ_run (Cert.DHQkvIdeal.defs (F := Ideal)) (onTc (τ := Cert.DHQkvIdeal.τ) (Cert.DHQkvIdeal.main (F := Ideal))) ⟨m, fun _ => 0, g⟩ (fun r => ∀ c : Dev Cert.DHQkvIdeal.nD,
          r.2.mem ((c.tc : Thread Cert.DHQkvIdeal.nD Cert.DHQkvIdeal.τ).loc Cert.DHQkvIdeal.main_v0) = v0 c
          ∧ r.2.mem ((c.tc : Thread Cert.DHQkvIdeal.nD Cert.DHQkvIdeal.τ).loc Cert.DHQkvIdeal.main_arg0) = m ((c.tc : Thread Cert.DHQkvIdeal.nD Cert.DHQkvIdeal.τ).loc Cert.DHQkvIdeal.main_arg0)
          ∧ r.2.mem ((c.tc : Thread Cert.DHQkvIdeal.nD Cert.DHQkvIdeal.τ).loc Cert.DHQkvIdeal.main_arg1) = m ((c.tc : Thread Cert.DHQkvIdeal.nD Cert.DHQkvIdeal.τ).loc Cert.DHQkvIdeal.main_arg1)
          ∧ r.2.mem ((c.tc : Thread Cert.DHQkvIdeal.nD Cert.DHQkvIdeal.τ).loc Cert.DHQkvIdeal.main_arg2) = m ((c.tc : Thread Cert.DHQkvIdeal.nD Cert.DHQkvIdeal.τ).loc Cert.DHQkvIdeal.main_arg2))
      ∧ θ_run (Cert.DHQkvRefIdeal.defs (F := Ideal)) (onTc (τ := Cert.DHQkvRefIdeal.τ) (Cert.DHQkvRefIdeal.main (F := Ideal))) ⟨m', fun _ => 0, g'⟩ (fun r => ∀ c : Dev Cert.DHQkvRefIdeal.nD,
          r.2.mem ((c.tc : Thread Cert.DHQkvRefIdeal.nD Cert.DHQkvRefIdeal.τ).loc Cert.DHQkvRefIdeal.main_v3) = v0 c
          ∧ r.2.mem ((c.tc : Thread Cert.DHQkvRefIdeal.nD Cert.DHQkvRefIdeal.τ).loc Cert.DHQkvRefIdeal.main_arg0) = m' ((c.tc : Thread Cert.DHQkvRefIdeal.nD Cert.DHQkvRefIdeal.τ).loc Cert.DHQkvRefIdeal.main_arg0)
          ∧ r.2.mem ((c.tc : Thread Cert.DHQkvRefIdeal.nD Cert.DHQkvRefIdeal.τ).loc Cert.DHQkvRefIdeal.main_arg1) = m' ((c.tc : Thread Cert.DHQkvRefIdeal.nD Cert.DHQkvRefIdeal.τ).loc Cert.DHQkvRefIdeal.main_arg1)
          ∧ r.2.mem ((c.tc : Thread Cert.DHQkvRefIdeal.nD Cert.DHQkvRefIdeal.τ).loc Cert.DHQkvRefIdeal.main_arg2) = m' ((c.tc : Thread Cert.DHQkvRefIdeal.nD Cert.DHQkvRefIdeal.τ).loc Cert.DHQkvRefIdeal.main_arg2))

def preserves_DHGates_DHGatesIdeal : Prop :=
  True

def algebraic_DHGatesIdeal_DHGatesRefIdeal [hDHGatesIdeal : Cert.DHGatesIdeal.Facts] [hDHGatesRefIdeal : Cert.DHGatesRefIdeal.Facts] : Prop :=
  ∀ (m : (ℓ : Loc Cert.DHGatesIdeal.nD Cert.DHGatesIdeal.τ Cert.DHGatesIdeal.sig) → Buf (Elt Ideal) ℓ) (g : Dev Cert.DHGatesIdeal.nD → PrngReg)
    (m' : (ℓ : Loc Cert.DHGatesRefIdeal.nD Cert.DHGatesRefIdeal.τ Cert.DHGatesRefIdeal.sig) → Buf (Elt Ideal) ℓ) (g' : Dev Cert.DHGatesRefIdeal.nD → PrngReg), Pre_DHGatesIdeal m →
    (∀ c : Dev Cert.DHGatesIdeal.nD,
      m' ((c.tc : Thread Cert.DHGatesRefIdeal.nD Cert.DHGatesRefIdeal.τ).loc Cert.DHGatesRefIdeal.main_arg0) = m ((c.tc : Thread Cert.DHGatesIdeal.nD Cert.DHGatesIdeal.τ).loc Cert.DHGatesIdeal.main_arg0)
      ∧ m' ((c.tc : Thread Cert.DHGatesRefIdeal.nD Cert.DHGatesRefIdeal.τ).loc Cert.DHGatesRefIdeal.main_arg1) = m ((c.tc : Thread Cert.DHGatesIdeal.nD Cert.DHGatesIdeal.τ).loc Cert.DHGatesIdeal.main_arg1)
      ∧ m' ((c.tc : Thread Cert.DHGatesRefIdeal.nD Cert.DHGatesRefIdeal.τ).loc Cert.DHGatesRefIdeal.main_arg2) = m ((c.tc : Thread Cert.DHGatesIdeal.nD Cert.DHGatesIdeal.τ).loc Cert.DHGatesIdeal.main_arg2)) →
    ∃ (v0 : (c : Dev Cert.DHGatesIdeal.nD) → Buf (Elt Ideal) ((c.tc : Thread Cert.DHGatesIdeal.nD Cert.DHGatesIdeal.τ).loc Cert.DHGatesIdeal.main_v0)),
      θ_run (Cert.DHGatesIdeal.defs (F := Ideal)) (onTc (τ := Cert.DHGatesIdeal.τ) (Cert.DHGatesIdeal.main (F := Ideal))) ⟨m, fun _ => 0, g⟩ (fun r => ∀ c : Dev Cert.DHGatesIdeal.nD,
          r.2.mem ((c.tc : Thread Cert.DHGatesIdeal.nD Cert.DHGatesIdeal.τ).loc Cert.DHGatesIdeal.main_v0) = v0 c
          ∧ r.2.mem ((c.tc : Thread Cert.DHGatesIdeal.nD Cert.DHGatesIdeal.τ).loc Cert.DHGatesIdeal.main_arg0) = m ((c.tc : Thread Cert.DHGatesIdeal.nD Cert.DHGatesIdeal.τ).loc Cert.DHGatesIdeal.main_arg0)
          ∧ r.2.mem ((c.tc : Thread Cert.DHGatesIdeal.nD Cert.DHGatesIdeal.τ).loc Cert.DHGatesIdeal.main_arg1) = m ((c.tc : Thread Cert.DHGatesIdeal.nD Cert.DHGatesIdeal.τ).loc Cert.DHGatesIdeal.main_arg1)
          ∧ r.2.mem ((c.tc : Thread Cert.DHGatesIdeal.nD Cert.DHGatesIdeal.τ).loc Cert.DHGatesIdeal.main_arg2) = m ((c.tc : Thread Cert.DHGatesIdeal.nD Cert.DHGatesIdeal.τ).loc Cert.DHGatesIdeal.main_arg2))
      ∧ θ_run (Cert.DHGatesRefIdeal.defs (F := Ideal)) (onTc (τ := Cert.DHGatesRefIdeal.τ) (Cert.DHGatesRefIdeal.main (F := Ideal))) ⟨m', fun _ => 0, g'⟩ (fun r => ∀ c : Dev Cert.DHGatesRefIdeal.nD,
          r.2.mem ((c.tc : Thread Cert.DHGatesRefIdeal.nD Cert.DHGatesRefIdeal.τ).loc Cert.DHGatesRefIdeal.main_v3) = v0 c
          ∧ r.2.mem ((c.tc : Thread Cert.DHGatesRefIdeal.nD Cert.DHGatesRefIdeal.τ).loc Cert.DHGatesRefIdeal.main_arg0) = m' ((c.tc : Thread Cert.DHGatesRefIdeal.nD Cert.DHGatesRefIdeal.τ).loc Cert.DHGatesRefIdeal.main_arg0)
          ∧ r.2.mem ((c.tc : Thread Cert.DHGatesRefIdeal.nD Cert.DHGatesRefIdeal.τ).loc Cert.DHGatesRefIdeal.main_arg1) = m' ((c.tc : Thread Cert.DHGatesRefIdeal.nD Cert.DHGatesRefIdeal.τ).loc Cert.DHGatesRefIdeal.main_arg1)
          ∧ r.2.mem ((c.tc : Thread Cert.DHGatesRefIdeal.nD Cert.DHGatesRefIdeal.τ).loc Cert.DHGatesRefIdeal.main_arg2) = m' ((c.tc : Thread Cert.DHGatesRefIdeal.nD Cert.DHGatesRefIdeal.τ).loc Cert.DHGatesRefIdeal.main_arg2))

def preserves_DHGz_DHGzIdeal : Prop :=
  True

def algebraic_DHGzIdeal_DHGzRefIdeal [hDHGzIdeal : Cert.DHGzIdeal.Facts] [hDHGzRefIdeal : Cert.DHGzRefIdeal.Facts] : Prop :=
  ∀ (m : (ℓ : Loc Cert.DHGzIdeal.nD Cert.DHGzIdeal.τ Cert.DHGzIdeal.sig) → Buf (Elt Ideal) ℓ) (g : Dev Cert.DHGzIdeal.nD → PrngReg)
    (m' : (ℓ : Loc Cert.DHGzRefIdeal.nD Cert.DHGzRefIdeal.τ Cert.DHGzRefIdeal.sig) → Buf (Elt Ideal) ℓ) (g' : Dev Cert.DHGzRefIdeal.nD → PrngReg), Pre_DHGzIdeal m →
    (∀ c : Dev Cert.DHGzIdeal.nD,
      m' ((c.tc : Thread Cert.DHGzRefIdeal.nD Cert.DHGzRefIdeal.τ).loc Cert.DHGzRefIdeal.main_arg0) = m ((c.tc : Thread Cert.DHGzIdeal.nD Cert.DHGzIdeal.τ).loc Cert.DHGzIdeal.main_arg0)
      ∧ m' ((c.tc : Thread Cert.DHGzRefIdeal.nD Cert.DHGzRefIdeal.τ).loc Cert.DHGzRefIdeal.main_arg1) = m ((c.tc : Thread Cert.DHGzIdeal.nD Cert.DHGzIdeal.τ).loc Cert.DHGzIdeal.main_arg1)
      ∧ m' ((c.tc : Thread Cert.DHGzRefIdeal.nD Cert.DHGzRefIdeal.τ).loc Cert.DHGzRefIdeal.main_arg2) = m ((c.tc : Thread Cert.DHGzIdeal.nD Cert.DHGzIdeal.τ).loc Cert.DHGzIdeal.main_arg2)) →
    ∃ (v0 : (c : Dev Cert.DHGzIdeal.nD) → Buf (Elt Ideal) ((c.tc : Thread Cert.DHGzIdeal.nD Cert.DHGzIdeal.τ).loc Cert.DHGzIdeal.main_v0)),
      θ_run (Cert.DHGzIdeal.defs (F := Ideal)) (onTc (τ := Cert.DHGzIdeal.τ) (Cert.DHGzIdeal.main (F := Ideal))) ⟨m, fun _ => 0, g⟩ (fun r => ∀ c : Dev Cert.DHGzIdeal.nD,
          r.2.mem ((c.tc : Thread Cert.DHGzIdeal.nD Cert.DHGzIdeal.τ).loc Cert.DHGzIdeal.main_v0) = v0 c
          ∧ r.2.mem ((c.tc : Thread Cert.DHGzIdeal.nD Cert.DHGzIdeal.τ).loc Cert.DHGzIdeal.main_arg0) = m ((c.tc : Thread Cert.DHGzIdeal.nD Cert.DHGzIdeal.τ).loc Cert.DHGzIdeal.main_arg0)
          ∧ r.2.mem ((c.tc : Thread Cert.DHGzIdeal.nD Cert.DHGzIdeal.τ).loc Cert.DHGzIdeal.main_arg1) = m ((c.tc : Thread Cert.DHGzIdeal.nD Cert.DHGzIdeal.τ).loc Cert.DHGzIdeal.main_arg1)
          ∧ r.2.mem ((c.tc : Thread Cert.DHGzIdeal.nD Cert.DHGzIdeal.τ).loc Cert.DHGzIdeal.main_arg2) = m ((c.tc : Thread Cert.DHGzIdeal.nD Cert.DHGzIdeal.τ).loc Cert.DHGzIdeal.main_arg2))
      ∧ θ_run (Cert.DHGzRefIdeal.defs (F := Ideal)) (onTc (τ := Cert.DHGzRefIdeal.τ) (Cert.DHGzRefIdeal.main (F := Ideal))) ⟨m', fun _ => 0, g'⟩ (fun r => ∀ c : Dev Cert.DHGzRefIdeal.nD,
          r.2.mem ((c.tc : Thread Cert.DHGzRefIdeal.nD Cert.DHGzRefIdeal.τ).loc Cert.DHGzRefIdeal.main_v3) = v0 c
          ∧ r.2.mem ((c.tc : Thread Cert.DHGzRefIdeal.nD Cert.DHGzRefIdeal.τ).loc Cert.DHGzRefIdeal.main_arg0) = m' ((c.tc : Thread Cert.DHGzRefIdeal.nD Cert.DHGzRefIdeal.τ).loc Cert.DHGzRefIdeal.main_arg0)
          ∧ r.2.mem ((c.tc : Thread Cert.DHGzRefIdeal.nD Cert.DHGzRefIdeal.τ).loc Cert.DHGzRefIdeal.main_arg1) = m' ((c.tc : Thread Cert.DHGzRefIdeal.nD Cert.DHGzRefIdeal.τ).loc Cert.DHGzRefIdeal.main_arg1)
          ∧ r.2.mem ((c.tc : Thread Cert.DHGzRefIdeal.nD Cert.DHGzRefIdeal.τ).loc Cert.DHGzRefIdeal.main_arg2) = m' ((c.tc : Thread Cert.DHGzRefIdeal.nD Cert.DHGzRefIdeal.τ).loc Cert.DHGzRefIdeal.main_arg2))

def preserves_DwDown_DwDownIdeal : Prop :=
  True

def algebraic_DwDownIdeal_DwDownRefIdeal [hDwDownIdeal : Cert.DwDownIdeal.Facts] [hDwDownRefIdeal : Cert.DwDownRefIdeal.Facts] : Prop :=
  ∀ (m : (ℓ : Loc Cert.DwDownIdeal.nD Cert.DwDownIdeal.τ Cert.DwDownIdeal.sig) → Buf (Elt Ideal) ℓ) (g : Dev Cert.DwDownIdeal.nD → PrngReg)
    (m' : (ℓ : Loc Cert.DwDownRefIdeal.nD Cert.DwDownRefIdeal.τ Cert.DwDownRefIdeal.sig) → Buf (Elt Ideal) ℓ) (g' : Dev Cert.DwDownRefIdeal.nD → PrngReg), Pre_DwDownIdeal m →
    (∀ c : Dev Cert.DwDownIdeal.nD,
      m' ((c.tc : Thread Cert.DwDownRefIdeal.nD Cert.DwDownRefIdeal.τ).loc Cert.DwDownRefIdeal.main_arg0) = m ((c.tc : Thread Cert.DwDownIdeal.nD Cert.DwDownIdeal.τ).loc Cert.DwDownIdeal.main_arg0)
      ∧ m' ((c.tc : Thread Cert.DwDownRefIdeal.nD Cert.DwDownRefIdeal.τ).loc Cert.DwDownRefIdeal.main_arg1) = m ((c.tc : Thread Cert.DwDownIdeal.nD Cert.DwDownIdeal.τ).loc Cert.DwDownIdeal.main_arg1)) →
    ∃ (v0 : (c : Dev Cert.DwDownIdeal.nD) → Buf (Elt Ideal) ((c.tc : Thread Cert.DwDownIdeal.nD Cert.DwDownIdeal.τ).loc Cert.DwDownIdeal.main_v0)),
      θ_run (Cert.DwDownIdeal.defs (F := Ideal)) (onTc (τ := Cert.DwDownIdeal.τ) (Cert.DwDownIdeal.main (F := Ideal))) ⟨m, fun _ => 0, g⟩ (fun r => ∀ c : Dev Cert.DwDownIdeal.nD,
          r.2.mem ((c.tc : Thread Cert.DwDownIdeal.nD Cert.DwDownIdeal.τ).loc Cert.DwDownIdeal.main_v0) = v0 c
          ∧ r.2.mem ((c.tc : Thread Cert.DwDownIdeal.nD Cert.DwDownIdeal.τ).loc Cert.DwDownIdeal.main_arg0) = m ((c.tc : Thread Cert.DwDownIdeal.nD Cert.DwDownIdeal.τ).loc Cert.DwDownIdeal.main_arg0)
          ∧ r.2.mem ((c.tc : Thread Cert.DwDownIdeal.nD Cert.DwDownIdeal.τ).loc Cert.DwDownIdeal.main_arg1) = m ((c.tc : Thread Cert.DwDownIdeal.nD Cert.DwDownIdeal.τ).loc Cert.DwDownIdeal.main_arg1))
      ∧ θ_run (Cert.DwDownRefIdeal.defs (F := Ideal)) (onTc (τ := Cert.DwDownRefIdeal.τ) (Cert.DwDownRefIdeal.main (F := Ideal))) ⟨m', fun _ => 0, g'⟩ (fun r => ∀ c : Dev Cert.DwDownRefIdeal.nD,
          r.2.mem ((c.tc : Thread Cert.DwDownRefIdeal.nD Cert.DwDownRefIdeal.τ).loc Cert.DwDownRefIdeal.main_v3) = v0 c
          ∧ r.2.mem ((c.tc : Thread Cert.DwDownRefIdeal.nD Cert.DwDownRefIdeal.τ).loc Cert.DwDownRefIdeal.main_arg0) = m' ((c.tc : Thread Cert.DwDownRefIdeal.nD Cert.DwDownRefIdeal.τ).loc Cert.DwDownRefIdeal.main_arg0)
          ∧ r.2.mem ((c.tc : Thread Cert.DwDownRefIdeal.nD Cert.DwDownRefIdeal.τ).loc Cert.DwDownRefIdeal.main_arg1) = m' ((c.tc : Thread Cert.DwDownRefIdeal.nD Cert.DwDownRefIdeal.τ).loc Cert.DwDownRefIdeal.main_arg1))

def preserves_DwUp_DwUpIdeal : Prop :=
  True

def algebraic_DwUpIdeal_DwUpRefIdeal [hDwUpIdeal : Cert.DwUpIdeal.Facts] [hDwUpRefIdeal : Cert.DwUpRefIdeal.Facts] : Prop :=
  ∀ (m : (ℓ : Loc Cert.DwUpIdeal.nD Cert.DwUpIdeal.τ Cert.DwUpIdeal.sig) → Buf (Elt Ideal) ℓ) (g : Dev Cert.DwUpIdeal.nD → PrngReg)
    (m' : (ℓ : Loc Cert.DwUpRefIdeal.nD Cert.DwUpRefIdeal.τ Cert.DwUpRefIdeal.sig) → Buf (Elt Ideal) ℓ) (g' : Dev Cert.DwUpRefIdeal.nD → PrngReg), Pre_DwUpIdeal m →
    (∀ c : Dev Cert.DwUpIdeal.nD,
      m' ((c.tc : Thread Cert.DwUpRefIdeal.nD Cert.DwUpRefIdeal.τ).loc Cert.DwUpRefIdeal.main_arg0) = m ((c.tc : Thread Cert.DwUpIdeal.nD Cert.DwUpIdeal.τ).loc Cert.DwUpIdeal.main_arg0)
      ∧ m' ((c.tc : Thread Cert.DwUpRefIdeal.nD Cert.DwUpRefIdeal.τ).loc Cert.DwUpRefIdeal.main_arg1) = m ((c.tc : Thread Cert.DwUpIdeal.nD Cert.DwUpIdeal.τ).loc Cert.DwUpIdeal.main_arg1)) →
    ∃ (v0 : (c : Dev Cert.DwUpIdeal.nD) → Buf (Elt Ideal) ((c.tc : Thread Cert.DwUpIdeal.nD Cert.DwUpIdeal.τ).loc Cert.DwUpIdeal.main_v0)),
      θ_run (Cert.DwUpIdeal.defs (F := Ideal)) (onTc (τ := Cert.DwUpIdeal.τ) (Cert.DwUpIdeal.main (F := Ideal))) ⟨m, fun _ => 0, g⟩ (fun r => ∀ c : Dev Cert.DwUpIdeal.nD,
          r.2.mem ((c.tc : Thread Cert.DwUpIdeal.nD Cert.DwUpIdeal.τ).loc Cert.DwUpIdeal.main_v0) = v0 c
          ∧ r.2.mem ((c.tc : Thread Cert.DwUpIdeal.nD Cert.DwUpIdeal.τ).loc Cert.DwUpIdeal.main_arg0) = m ((c.tc : Thread Cert.DwUpIdeal.nD Cert.DwUpIdeal.τ).loc Cert.DwUpIdeal.main_arg0)
          ∧ r.2.mem ((c.tc : Thread Cert.DwUpIdeal.nD Cert.DwUpIdeal.τ).loc Cert.DwUpIdeal.main_arg1) = m ((c.tc : Thread Cert.DwUpIdeal.nD Cert.DwUpIdeal.τ).loc Cert.DwUpIdeal.main_arg1))
      ∧ θ_run (Cert.DwUpRefIdeal.defs (F := Ideal)) (onTc (τ := Cert.DwUpRefIdeal.τ) (Cert.DwUpRefIdeal.main (F := Ideal))) ⟨m', fun _ => 0, g'⟩ (fun r => ∀ c : Dev Cert.DwUpRefIdeal.nD,
          r.2.mem ((c.tc : Thread Cert.DwUpRefIdeal.nD Cert.DwUpRefIdeal.τ).loc Cert.DwUpRefIdeal.main_v5) = v0 c
          ∧ r.2.mem ((c.tc : Thread Cert.DwUpRefIdeal.nD Cert.DwUpRefIdeal.τ).loc Cert.DwUpRefIdeal.main_arg0) = m' ((c.tc : Thread Cert.DwUpRefIdeal.nD Cert.DwUpRefIdeal.τ).loc Cert.DwUpRefIdeal.main_arg0)
          ∧ r.2.mem ((c.tc : Thread Cert.DwUpRefIdeal.nD Cert.DwUpRefIdeal.τ).loc Cert.DwUpRefIdeal.main_arg1) = m' ((c.tc : Thread Cert.DwUpRefIdeal.nD Cert.DwUpRefIdeal.τ).loc Cert.DwUpRefIdeal.main_arg1))

def preserves_DwOut_DwOutIdeal : Prop :=
  True

def algebraic_DwOutIdeal_DwOutRefIdeal [hDwOutIdeal : Cert.DwOutIdeal.Facts] [hDwOutRefIdeal : Cert.DwOutRefIdeal.Facts] : Prop :=
  ∀ (m : (ℓ : Loc Cert.DwOutIdeal.nD Cert.DwOutIdeal.τ Cert.DwOutIdeal.sig) → Buf (Elt Ideal) ℓ) (g : Dev Cert.DwOutIdeal.nD → PrngReg)
    (m' : (ℓ : Loc Cert.DwOutRefIdeal.nD Cert.DwOutRefIdeal.τ Cert.DwOutRefIdeal.sig) → Buf (Elt Ideal) ℓ) (g' : Dev Cert.DwOutRefIdeal.nD → PrngReg), Pre_DwOutIdeal m →
    (∀ c : Dev Cert.DwOutIdeal.nD,
      m' ((c.tc : Thread Cert.DwOutRefIdeal.nD Cert.DwOutRefIdeal.τ).loc Cert.DwOutRefIdeal.main_arg0) = m ((c.tc : Thread Cert.DwOutIdeal.nD Cert.DwOutIdeal.τ).loc Cert.DwOutIdeal.main_arg0)
      ∧ m' ((c.tc : Thread Cert.DwOutRefIdeal.nD Cert.DwOutRefIdeal.τ).loc Cert.DwOutRefIdeal.main_arg1) = m ((c.tc : Thread Cert.DwOutIdeal.nD Cert.DwOutIdeal.τ).loc Cert.DwOutIdeal.main_arg1)) →
    ∃ (v0 : (c : Dev Cert.DwOutIdeal.nD) → Buf (Elt Ideal) ((c.tc : Thread Cert.DwOutIdeal.nD Cert.DwOutIdeal.τ).loc Cert.DwOutIdeal.main_v0)),
      θ_run (Cert.DwOutIdeal.defs (F := Ideal)) (onTc (τ := Cert.DwOutIdeal.τ) (Cert.DwOutIdeal.main (F := Ideal))) ⟨m, fun _ => 0, g⟩ (fun r => ∀ c : Dev Cert.DwOutIdeal.nD,
          r.2.mem ((c.tc : Thread Cert.DwOutIdeal.nD Cert.DwOutIdeal.τ).loc Cert.DwOutIdeal.main_v0) = v0 c
          ∧ r.2.mem ((c.tc : Thread Cert.DwOutIdeal.nD Cert.DwOutIdeal.τ).loc Cert.DwOutIdeal.main_arg0) = m ((c.tc : Thread Cert.DwOutIdeal.nD Cert.DwOutIdeal.τ).loc Cert.DwOutIdeal.main_arg0)
          ∧ r.2.mem ((c.tc : Thread Cert.DwOutIdeal.nD Cert.DwOutIdeal.τ).loc Cert.DwOutIdeal.main_arg1) = m ((c.tc : Thread Cert.DwOutIdeal.nD Cert.DwOutIdeal.τ).loc Cert.DwOutIdeal.main_arg1))
      ∧ θ_run (Cert.DwOutRefIdeal.defs (F := Ideal)) (onTc (τ := Cert.DwOutRefIdeal.τ) (Cert.DwOutRefIdeal.main (F := Ideal))) ⟨m', fun _ => 0, g'⟩ (fun r => ∀ c : Dev Cert.DwOutRefIdeal.nD,
          r.2.mem ((c.tc : Thread Cert.DwOutRefIdeal.nD Cert.DwOutRefIdeal.τ).loc Cert.DwOutRefIdeal.main_v3) = v0 c
          ∧ r.2.mem ((c.tc : Thread Cert.DwOutRefIdeal.nD Cert.DwOutRefIdeal.τ).loc Cert.DwOutRefIdeal.main_arg0) = m' ((c.tc : Thread Cert.DwOutRefIdeal.nD Cert.DwOutRefIdeal.τ).loc Cert.DwOutRefIdeal.main_arg0)
          ∧ r.2.mem ((c.tc : Thread Cert.DwOutRefIdeal.nD Cert.DwOutRefIdeal.τ).loc Cert.DwOutRefIdeal.main_arg1) = m' ((c.tc : Thread Cert.DwOutRefIdeal.nD Cert.DwOutRefIdeal.τ).loc Cert.DwOutRefIdeal.main_arg1))

def preserves_DwQkv_DwQkvIdeal : Prop :=
  True

def algebraic_DwQkvIdeal_DwQkvRefIdeal [hDwQkvIdeal : Cert.DwQkvIdeal.Facts] [hDwQkvRefIdeal : Cert.DwQkvRefIdeal.Facts] : Prop :=
  ∀ (m : (ℓ : Loc Cert.DwQkvIdeal.nD Cert.DwQkvIdeal.τ Cert.DwQkvIdeal.sig) → Buf (Elt Ideal) ℓ) (g : Dev Cert.DwQkvIdeal.nD → PrngReg)
    (m' : (ℓ : Loc Cert.DwQkvRefIdeal.nD Cert.DwQkvRefIdeal.τ Cert.DwQkvRefIdeal.sig) → Buf (Elt Ideal) ℓ) (g' : Dev Cert.DwQkvRefIdeal.nD → PrngReg), Pre_DwQkvIdeal m →
    (∀ c : Dev Cert.DwQkvIdeal.nD,
      m' ((c.tc : Thread Cert.DwQkvRefIdeal.nD Cert.DwQkvRefIdeal.τ).loc Cert.DwQkvRefIdeal.main_arg0) = m ((c.tc : Thread Cert.DwQkvIdeal.nD Cert.DwQkvIdeal.τ).loc Cert.DwQkvIdeal.main_arg0)
      ∧ m' ((c.tc : Thread Cert.DwQkvRefIdeal.nD Cert.DwQkvRefIdeal.τ).loc Cert.DwQkvRefIdeal.main_arg1) = m ((c.tc : Thread Cert.DwQkvIdeal.nD Cert.DwQkvIdeal.τ).loc Cert.DwQkvIdeal.main_arg1)) →
    ∃ (v0 : (c : Dev Cert.DwQkvIdeal.nD) → Buf (Elt Ideal) ((c.tc : Thread Cert.DwQkvIdeal.nD Cert.DwQkvIdeal.τ).loc Cert.DwQkvIdeal.main_v0)),
      θ_run (Cert.DwQkvIdeal.defs (F := Ideal)) (onTc (τ := Cert.DwQkvIdeal.τ) (Cert.DwQkvIdeal.main (F := Ideal))) ⟨m, fun _ => 0, g⟩ (fun r => ∀ c : Dev Cert.DwQkvIdeal.nD,
          r.2.mem ((c.tc : Thread Cert.DwQkvIdeal.nD Cert.DwQkvIdeal.τ).loc Cert.DwQkvIdeal.main_v0) = v0 c
          ∧ r.2.mem ((c.tc : Thread Cert.DwQkvIdeal.nD Cert.DwQkvIdeal.τ).loc Cert.DwQkvIdeal.main_arg0) = m ((c.tc : Thread Cert.DwQkvIdeal.nD Cert.DwQkvIdeal.τ).loc Cert.DwQkvIdeal.main_arg0)
          ∧ r.2.mem ((c.tc : Thread Cert.DwQkvIdeal.nD Cert.DwQkvIdeal.τ).loc Cert.DwQkvIdeal.main_arg1) = m ((c.tc : Thread Cert.DwQkvIdeal.nD Cert.DwQkvIdeal.τ).loc Cert.DwQkvIdeal.main_arg1))
      ∧ θ_run (Cert.DwQkvRefIdeal.defs (F := Ideal)) (onTc (τ := Cert.DwQkvRefIdeal.τ) (Cert.DwQkvRefIdeal.main (F := Ideal))) ⟨m', fun _ => 0, g'⟩ (fun r => ∀ c : Dev Cert.DwQkvRefIdeal.nD,
          r.2.mem ((c.tc : Thread Cert.DwQkvRefIdeal.nD Cert.DwQkvRefIdeal.τ).loc Cert.DwQkvRefIdeal.main_v2) = v0 c
          ∧ r.2.mem ((c.tc : Thread Cert.DwQkvRefIdeal.nD Cert.DwQkvRefIdeal.τ).loc Cert.DwQkvRefIdeal.main_arg0) = m' ((c.tc : Thread Cert.DwQkvRefIdeal.nD Cert.DwQkvRefIdeal.τ).loc Cert.DwQkvRefIdeal.main_arg0)
          ∧ r.2.mem ((c.tc : Thread Cert.DwQkvRefIdeal.nD Cert.DwQkvRefIdeal.τ).loc Cert.DwQkvRefIdeal.main_arg1) = m' ((c.tc : Thread Cert.DwQkvRefIdeal.nD Cert.DwQkvRefIdeal.τ).loc Cert.DwQkvRefIdeal.main_arg1))

def preserves_DwGates_DwGatesIdeal : Prop :=
  True

def algebraic_DwGatesIdeal_DwGatesRefIdeal [hDwGatesIdeal : Cert.DwGatesIdeal.Facts] [hDwGatesRefIdeal : Cert.DwGatesRefIdeal.Facts] : Prop :=
  ∀ (m : (ℓ : Loc Cert.DwGatesIdeal.nD Cert.DwGatesIdeal.τ Cert.DwGatesIdeal.sig) → Buf (Elt Ideal) ℓ) (g : Dev Cert.DwGatesIdeal.nD → PrngReg)
    (m' : (ℓ : Loc Cert.DwGatesRefIdeal.nD Cert.DwGatesRefIdeal.τ Cert.DwGatesRefIdeal.sig) → Buf (Elt Ideal) ℓ) (g' : Dev Cert.DwGatesRefIdeal.nD → PrngReg), Pre_DwGatesIdeal m →
    (∀ c : Dev Cert.DwGatesIdeal.nD,
      m' ((c.tc : Thread Cert.DwGatesRefIdeal.nD Cert.DwGatesRefIdeal.τ).loc Cert.DwGatesRefIdeal.main_arg0) = m ((c.tc : Thread Cert.DwGatesIdeal.nD Cert.DwGatesIdeal.τ).loc Cert.DwGatesIdeal.main_arg0)
      ∧ m' ((c.tc : Thread Cert.DwGatesRefIdeal.nD Cert.DwGatesRefIdeal.τ).loc Cert.DwGatesRefIdeal.main_arg1) = m ((c.tc : Thread Cert.DwGatesIdeal.nD Cert.DwGatesIdeal.τ).loc Cert.DwGatesIdeal.main_arg1)) →
    ∃ (v0 : (c : Dev Cert.DwGatesIdeal.nD) → Buf (Elt Ideal) ((c.tc : Thread Cert.DwGatesIdeal.nD Cert.DwGatesIdeal.τ).loc Cert.DwGatesIdeal.main_v0)),
      θ_run (Cert.DwGatesIdeal.defs (F := Ideal)) (onTc (τ := Cert.DwGatesIdeal.τ) (Cert.DwGatesIdeal.main (F := Ideal))) ⟨m, fun _ => 0, g⟩ (fun r => ∀ c : Dev Cert.DwGatesIdeal.nD,
          r.2.mem ((c.tc : Thread Cert.DwGatesIdeal.nD Cert.DwGatesIdeal.τ).loc Cert.DwGatesIdeal.main_v0) = v0 c
          ∧ r.2.mem ((c.tc : Thread Cert.DwGatesIdeal.nD Cert.DwGatesIdeal.τ).loc Cert.DwGatesIdeal.main_arg0) = m ((c.tc : Thread Cert.DwGatesIdeal.nD Cert.DwGatesIdeal.τ).loc Cert.DwGatesIdeal.main_arg0)
          ∧ r.2.mem ((c.tc : Thread Cert.DwGatesIdeal.nD Cert.DwGatesIdeal.τ).loc Cert.DwGatesIdeal.main_arg1) = m ((c.tc : Thread Cert.DwGatesIdeal.nD Cert.DwGatesIdeal.τ).loc Cert.DwGatesIdeal.main_arg1))
      ∧ θ_run (Cert.DwGatesRefIdeal.defs (F := Ideal)) (onTc (τ := Cert.DwGatesRefIdeal.τ) (Cert.DwGatesRefIdeal.main (F := Ideal))) ⟨m', fun _ => 0, g'⟩ (fun r => ∀ c : Dev Cert.DwGatesRefIdeal.nD,
          r.2.mem ((c.tc : Thread Cert.DwGatesRefIdeal.nD Cert.DwGatesRefIdeal.τ).loc Cert.DwGatesRefIdeal.main_v2) = v0 c
          ∧ r.2.mem ((c.tc : Thread Cert.DwGatesRefIdeal.nD Cert.DwGatesRefIdeal.τ).loc Cert.DwGatesRefIdeal.main_arg0) = m' ((c.tc : Thread Cert.DwGatesRefIdeal.nD Cert.DwGatesRefIdeal.τ).loc Cert.DwGatesRefIdeal.main_arg0)
          ∧ r.2.mem ((c.tc : Thread Cert.DwGatesRefIdeal.nD Cert.DwGatesRefIdeal.τ).loc Cert.DwGatesRefIdeal.main_arg1) = m' ((c.tc : Thread Cert.DwGatesRefIdeal.nD Cert.DwGatesRefIdeal.τ).loc Cert.DwGatesRefIdeal.main_arg1))

def preserves_DwGz_DwGzIdeal : Prop :=
  True

def algebraic_DwGzIdeal_DwGzRefIdeal [hDwGzIdeal : Cert.DwGzIdeal.Facts] [hDwGzRefIdeal : Cert.DwGzRefIdeal.Facts] : Prop :=
  ∀ (m : (ℓ : Loc Cert.DwGzIdeal.nD Cert.DwGzIdeal.τ Cert.DwGzIdeal.sig) → Buf (Elt Ideal) ℓ) (g : Dev Cert.DwGzIdeal.nD → PrngReg)
    (m' : (ℓ : Loc Cert.DwGzRefIdeal.nD Cert.DwGzRefIdeal.τ Cert.DwGzRefIdeal.sig) → Buf (Elt Ideal) ℓ) (g' : Dev Cert.DwGzRefIdeal.nD → PrngReg), Pre_DwGzIdeal m →
    (∀ c : Dev Cert.DwGzIdeal.nD,
      m' ((c.tc : Thread Cert.DwGzRefIdeal.nD Cert.DwGzRefIdeal.τ).loc Cert.DwGzRefIdeal.main_arg0) = m ((c.tc : Thread Cert.DwGzIdeal.nD Cert.DwGzIdeal.τ).loc Cert.DwGzIdeal.main_arg0)
      ∧ m' ((c.tc : Thread Cert.DwGzRefIdeal.nD Cert.DwGzRefIdeal.τ).loc Cert.DwGzRefIdeal.main_arg1) = m ((c.tc : Thread Cert.DwGzIdeal.nD Cert.DwGzIdeal.τ).loc Cert.DwGzIdeal.main_arg1)) →
    ∃ (v0 : (c : Dev Cert.DwGzIdeal.nD) → Buf (Elt Ideal) ((c.tc : Thread Cert.DwGzIdeal.nD Cert.DwGzIdeal.τ).loc Cert.DwGzIdeal.main_v0)),
      θ_run (Cert.DwGzIdeal.defs (F := Ideal)) (onTc (τ := Cert.DwGzIdeal.τ) (Cert.DwGzIdeal.main (F := Ideal))) ⟨m, fun _ => 0, g⟩ (fun r => ∀ c : Dev Cert.DwGzIdeal.nD,
          r.2.mem ((c.tc : Thread Cert.DwGzIdeal.nD Cert.DwGzIdeal.τ).loc Cert.DwGzIdeal.main_v0) = v0 c
          ∧ r.2.mem ((c.tc : Thread Cert.DwGzIdeal.nD Cert.DwGzIdeal.τ).loc Cert.DwGzIdeal.main_arg0) = m ((c.tc : Thread Cert.DwGzIdeal.nD Cert.DwGzIdeal.τ).loc Cert.DwGzIdeal.main_arg0)
          ∧ r.2.mem ((c.tc : Thread Cert.DwGzIdeal.nD Cert.DwGzIdeal.τ).loc Cert.DwGzIdeal.main_arg1) = m ((c.tc : Thread Cert.DwGzIdeal.nD Cert.DwGzIdeal.τ).loc Cert.DwGzIdeal.main_arg1))
      ∧ θ_run (Cert.DwGzRefIdeal.defs (F := Ideal)) (onTc (τ := Cert.DwGzRefIdeal.τ) (Cert.DwGzRefIdeal.main (F := Ideal))) ⟨m', fun _ => 0, g'⟩ (fun r => ∀ c : Dev Cert.DwGzRefIdeal.nD,
          r.2.mem ((c.tc : Thread Cert.DwGzRefIdeal.nD Cert.DwGzRefIdeal.τ).loc Cert.DwGzRefIdeal.main_v2) = v0 c
          ∧ r.2.mem ((c.tc : Thread Cert.DwGzRefIdeal.nD Cert.DwGzRefIdeal.τ).loc Cert.DwGzRefIdeal.main_arg0) = m' ((c.tc : Thread Cert.DwGzRefIdeal.nD Cert.DwGzRefIdeal.τ).loc Cert.DwGzRefIdeal.main_arg0)
          ∧ r.2.mem ((c.tc : Thread Cert.DwGzRefIdeal.nD Cert.DwGzRefIdeal.τ).loc Cert.DwGzRefIdeal.main_arg1) = m' ((c.tc : Thread Cert.DwGzRefIdeal.nD Cert.DwGzRefIdeal.τ).loc Cert.DwGzRefIdeal.main_arg1))

def preserves_ProjFox_ProjFoxIdeal : Prop :=
  True

def algebraic_ProjFoxIdeal_ProjFoxRefIdeal [hProjFoxIdeal : Cert.ProjFoxIdeal.Facts] [hProjFoxRefIdeal : Cert.ProjFoxRefIdeal.Facts] : Prop :=
  ∀ (m : (ℓ : Loc Cert.ProjFoxIdeal.nD Cert.ProjFoxIdeal.τ Cert.ProjFoxIdeal.sig) → Buf (Elt Ideal) ℓ) (g : Dev Cert.ProjFoxIdeal.nD → PrngReg)
    (m' : (ℓ : Loc Cert.ProjFoxRefIdeal.nD Cert.ProjFoxRefIdeal.τ Cert.ProjFoxRefIdeal.sig) → Buf (Elt Ideal) ℓ) (g' : Dev Cert.ProjFoxRefIdeal.nD → PrngReg), Pre_ProjFoxIdeal m →
    (∀ c : Dev Cert.ProjFoxIdeal.nD,
      m' ((c.tc : Thread Cert.ProjFoxRefIdeal.nD Cert.ProjFoxRefIdeal.τ).loc Cert.ProjFoxRefIdeal.main_arg0) = m ((c.tc : Thread Cert.ProjFoxIdeal.nD Cert.ProjFoxIdeal.τ).loc Cert.ProjFoxIdeal.main_arg0)
      ∧ m' ((c.tc : Thread Cert.ProjFoxRefIdeal.nD Cert.ProjFoxRefIdeal.τ).loc Cert.ProjFoxRefIdeal.main_arg1) = m ((c.tc : Thread Cert.ProjFoxIdeal.nD Cert.ProjFoxIdeal.τ).loc Cert.ProjFoxIdeal.main_arg1)) →
    ∃ (v0 : (c : Dev Cert.ProjFoxIdeal.nD) → Buf (Elt Ideal) ((c.tc : Thread Cert.ProjFoxIdeal.nD Cert.ProjFoxIdeal.τ).loc Cert.ProjFoxIdeal.main_v0)),
      θ_run (Cert.ProjFoxIdeal.defs (F := Ideal)) (onTc (τ := Cert.ProjFoxIdeal.τ) (Cert.ProjFoxIdeal.main (F := Ideal))) ⟨m, fun _ => 0, g⟩ (fun r => ∀ c : Dev Cert.ProjFoxIdeal.nD,
          r.2.mem ((c.tc : Thread Cert.ProjFoxIdeal.nD Cert.ProjFoxIdeal.τ).loc Cert.ProjFoxIdeal.main_v0) = v0 c
          ∧ r.2.mem ((c.tc : Thread Cert.ProjFoxIdeal.nD Cert.ProjFoxIdeal.τ).loc Cert.ProjFoxIdeal.main_arg0) = m ((c.tc : Thread Cert.ProjFoxIdeal.nD Cert.ProjFoxIdeal.τ).loc Cert.ProjFoxIdeal.main_arg0)
          ∧ r.2.mem ((c.tc : Thread Cert.ProjFoxIdeal.nD Cert.ProjFoxIdeal.τ).loc Cert.ProjFoxIdeal.main_arg1) = m ((c.tc : Thread Cert.ProjFoxIdeal.nD Cert.ProjFoxIdeal.τ).loc Cert.ProjFoxIdeal.main_arg1))
      ∧ θ_run (Cert.ProjFoxRefIdeal.defs (F := Ideal)) (onTc (τ := Cert.ProjFoxRefIdeal.τ) (Cert.ProjFoxRefIdeal.main (F := Ideal))) ⟨m', fun _ => 0, g'⟩ (fun r => ∀ c : Dev Cert.ProjFoxRefIdeal.nD,
          r.2.mem ((c.tc : Thread Cert.ProjFoxRefIdeal.nD Cert.ProjFoxRefIdeal.τ).loc Cert.ProjFoxRefIdeal.main_v3) = v0 c
          ∧ r.2.mem ((c.tc : Thread Cert.ProjFoxRefIdeal.nD Cert.ProjFoxRefIdeal.τ).loc Cert.ProjFoxRefIdeal.main_arg0) = m' ((c.tc : Thread Cert.ProjFoxRefIdeal.nD Cert.ProjFoxRefIdeal.τ).loc Cert.ProjFoxRefIdeal.main_arg0)
          ∧ r.2.mem ((c.tc : Thread Cert.ProjFoxRefIdeal.nD Cert.ProjFoxRefIdeal.τ).loc Cert.ProjFoxRefIdeal.main_arg1) = m' ((c.tc : Thread Cert.ProjFoxRefIdeal.nD Cert.ProjFoxRefIdeal.τ).loc Cert.ProjFoxRefIdeal.main_arg1))

def preserves_ProjQkv_ProjQkvIdeal : Prop :=
  True

def algebraic_ProjQkvIdeal_ProjQkvRefIdeal [hProjQkvIdeal : Cert.ProjQkvIdeal.Facts] [hProjQkvRefIdeal : Cert.ProjQkvRefIdeal.Facts] : Prop :=
  ∀ (m : (ℓ : Loc Cert.ProjQkvIdeal.nD Cert.ProjQkvIdeal.τ Cert.ProjQkvIdeal.sig) → Buf (Elt Ideal) ℓ) (g : Dev Cert.ProjQkvIdeal.nD → PrngReg)
    (m' : (ℓ : Loc Cert.ProjQkvRefIdeal.nD Cert.ProjQkvRefIdeal.τ Cert.ProjQkvRefIdeal.sig) → Buf (Elt Ideal) ℓ) (g' : Dev Cert.ProjQkvRefIdeal.nD → PrngReg), Pre_ProjQkvIdeal m →
    (∀ c : Dev Cert.ProjQkvIdeal.nD,
      m' ((c.tc : Thread Cert.ProjQkvRefIdeal.nD Cert.ProjQkvRefIdeal.τ).loc Cert.ProjQkvRefIdeal.main_arg0) = m ((c.tc : Thread Cert.ProjQkvIdeal.nD Cert.ProjQkvIdeal.τ).loc Cert.ProjQkvIdeal.main_arg0)
      ∧ m' ((c.tc : Thread Cert.ProjQkvRefIdeal.nD Cert.ProjQkvRefIdeal.τ).loc Cert.ProjQkvRefIdeal.main_arg1) = m ((c.tc : Thread Cert.ProjQkvIdeal.nD Cert.ProjQkvIdeal.τ).loc Cert.ProjQkvIdeal.main_arg1)) →
    ∃ (v0 : (c : Dev Cert.ProjQkvIdeal.nD) → Buf (Elt Ideal) ((c.tc : Thread Cert.ProjQkvIdeal.nD Cert.ProjQkvIdeal.τ).loc Cert.ProjQkvIdeal.main_v0)),
      θ_run (Cert.ProjQkvIdeal.defs (F := Ideal)) (onTc (τ := Cert.ProjQkvIdeal.τ) (Cert.ProjQkvIdeal.main (F := Ideal))) ⟨m, fun _ => 0, g⟩ (fun r => ∀ c : Dev Cert.ProjQkvIdeal.nD,
          r.2.mem ((c.tc : Thread Cert.ProjQkvIdeal.nD Cert.ProjQkvIdeal.τ).loc Cert.ProjQkvIdeal.main_v0) = v0 c
          ∧ r.2.mem ((c.tc : Thread Cert.ProjQkvIdeal.nD Cert.ProjQkvIdeal.τ).loc Cert.ProjQkvIdeal.main_arg0) = m ((c.tc : Thread Cert.ProjQkvIdeal.nD Cert.ProjQkvIdeal.τ).loc Cert.ProjQkvIdeal.main_arg0)
          ∧ r.2.mem ((c.tc : Thread Cert.ProjQkvIdeal.nD Cert.ProjQkvIdeal.τ).loc Cert.ProjQkvIdeal.main_arg1) = m ((c.tc : Thread Cert.ProjQkvIdeal.nD Cert.ProjQkvIdeal.τ).loc Cert.ProjQkvIdeal.main_arg1))
      ∧ θ_run (Cert.ProjQkvRefIdeal.defs (F := Ideal)) (onTc (τ := Cert.ProjQkvRefIdeal.τ) (Cert.ProjQkvRefIdeal.main (F := Ideal))) ⟨m', fun _ => 0, g'⟩ (fun r => ∀ c : Dev Cert.ProjQkvRefIdeal.nD,
          r.2.mem ((c.tc : Thread Cert.ProjQkvRefIdeal.nD Cert.ProjQkvRefIdeal.τ).loc Cert.ProjQkvRefIdeal.main_v2) = v0 c
          ∧ r.2.mem ((c.tc : Thread Cert.ProjQkvRefIdeal.nD Cert.ProjQkvRefIdeal.τ).loc Cert.ProjQkvRefIdeal.main_arg0) = m' ((c.tc : Thread Cert.ProjQkvRefIdeal.nD Cert.ProjQkvRefIdeal.τ).loc Cert.ProjQkvRefIdeal.main_arg0)
          ∧ r.2.mem ((c.tc : Thread Cert.ProjQkvRefIdeal.nD Cert.ProjQkvRefIdeal.τ).loc Cert.ProjQkvRefIdeal.main_arg1) = m' ((c.tc : Thread Cert.ProjQkvRefIdeal.nD Cert.ProjQkvRefIdeal.τ).loc Cert.ProjQkvRefIdeal.main_arg1))

def preserves_ProjGates_ProjGatesIdeal : Prop :=
  True

def algebraic_ProjGatesIdeal_ProjGatesRefIdeal [hProjGatesIdeal : Cert.ProjGatesIdeal.Facts] [hProjGatesRefIdeal : Cert.ProjGatesRefIdeal.Facts] : Prop :=
  ∀ (m : (ℓ : Loc Cert.ProjGatesIdeal.nD Cert.ProjGatesIdeal.τ Cert.ProjGatesIdeal.sig) → Buf (Elt Ideal) ℓ) (g : Dev Cert.ProjGatesIdeal.nD → PrngReg)
    (m' : (ℓ : Loc Cert.ProjGatesRefIdeal.nD Cert.ProjGatesRefIdeal.τ Cert.ProjGatesRefIdeal.sig) → Buf (Elt Ideal) ℓ) (g' : Dev Cert.ProjGatesRefIdeal.nD → PrngReg), Pre_ProjGatesIdeal m →
    (∀ c : Dev Cert.ProjGatesIdeal.nD,
      m' ((c.tc : Thread Cert.ProjGatesRefIdeal.nD Cert.ProjGatesRefIdeal.τ).loc Cert.ProjGatesRefIdeal.main_arg0) = m ((c.tc : Thread Cert.ProjGatesIdeal.nD Cert.ProjGatesIdeal.τ).loc Cert.ProjGatesIdeal.main_arg0)
      ∧ m' ((c.tc : Thread Cert.ProjGatesRefIdeal.nD Cert.ProjGatesRefIdeal.τ).loc Cert.ProjGatesRefIdeal.main_arg1) = m ((c.tc : Thread Cert.ProjGatesIdeal.nD Cert.ProjGatesIdeal.τ).loc Cert.ProjGatesIdeal.main_arg1)) →
    ∃ (v0 : (c : Dev Cert.ProjGatesIdeal.nD) → Buf (Elt Ideal) ((c.tc : Thread Cert.ProjGatesIdeal.nD Cert.ProjGatesIdeal.τ).loc Cert.ProjGatesIdeal.main_v0)),
      θ_run (Cert.ProjGatesIdeal.defs (F := Ideal)) (onTc (τ := Cert.ProjGatesIdeal.τ) (Cert.ProjGatesIdeal.main (F := Ideal))) ⟨m, fun _ => 0, g⟩ (fun r => ∀ c : Dev Cert.ProjGatesIdeal.nD,
          r.2.mem ((c.tc : Thread Cert.ProjGatesIdeal.nD Cert.ProjGatesIdeal.τ).loc Cert.ProjGatesIdeal.main_v0) = v0 c
          ∧ r.2.mem ((c.tc : Thread Cert.ProjGatesIdeal.nD Cert.ProjGatesIdeal.τ).loc Cert.ProjGatesIdeal.main_arg0) = m ((c.tc : Thread Cert.ProjGatesIdeal.nD Cert.ProjGatesIdeal.τ).loc Cert.ProjGatesIdeal.main_arg0)
          ∧ r.2.mem ((c.tc : Thread Cert.ProjGatesIdeal.nD Cert.ProjGatesIdeal.τ).loc Cert.ProjGatesIdeal.main_arg1) = m ((c.tc : Thread Cert.ProjGatesIdeal.nD Cert.ProjGatesIdeal.τ).loc Cert.ProjGatesIdeal.main_arg1))
      ∧ θ_run (Cert.ProjGatesRefIdeal.defs (F := Ideal)) (onTc (τ := Cert.ProjGatesRefIdeal.τ) (Cert.ProjGatesRefIdeal.main (F := Ideal))) ⟨m', fun _ => 0, g'⟩ (fun r => ∀ c : Dev Cert.ProjGatesRefIdeal.nD,
          r.2.mem ((c.tc : Thread Cert.ProjGatesRefIdeal.nD Cert.ProjGatesRefIdeal.τ).loc Cert.ProjGatesRefIdeal.main_v2) = v0 c
          ∧ r.2.mem ((c.tc : Thread Cert.ProjGatesRefIdeal.nD Cert.ProjGatesRefIdeal.τ).loc Cert.ProjGatesRefIdeal.main_arg0) = m' ((c.tc : Thread Cert.ProjGatesRefIdeal.nD Cert.ProjGatesRefIdeal.τ).loc Cert.ProjGatesRefIdeal.main_arg0)
          ∧ r.2.mem ((c.tc : Thread Cert.ProjGatesRefIdeal.nD Cert.ProjGatesRefIdeal.τ).loc Cert.ProjGatesRefIdeal.main_arg1) = m' ((c.tc : Thread Cert.ProjGatesRefIdeal.nD Cert.ProjGatesRefIdeal.τ).loc Cert.ProjGatesRefIdeal.main_arg1))

def preserves_ProjGz_ProjGzIdeal : Prop :=
  True

def algebraic_ProjGzIdeal_ProjGzRefIdeal [hProjGzIdeal : Cert.ProjGzIdeal.Facts] [hProjGzRefIdeal : Cert.ProjGzRefIdeal.Facts] : Prop :=
  ∀ (m : (ℓ : Loc Cert.ProjGzIdeal.nD Cert.ProjGzIdeal.τ Cert.ProjGzIdeal.sig) → Buf (Elt Ideal) ℓ) (g : Dev Cert.ProjGzIdeal.nD → PrngReg)
    (m' : (ℓ : Loc Cert.ProjGzRefIdeal.nD Cert.ProjGzRefIdeal.τ Cert.ProjGzRefIdeal.sig) → Buf (Elt Ideal) ℓ) (g' : Dev Cert.ProjGzRefIdeal.nD → PrngReg), Pre_ProjGzIdeal m →
    (∀ c : Dev Cert.ProjGzIdeal.nD,
      m' ((c.tc : Thread Cert.ProjGzRefIdeal.nD Cert.ProjGzRefIdeal.τ).loc Cert.ProjGzRefIdeal.main_arg0) = m ((c.tc : Thread Cert.ProjGzIdeal.nD Cert.ProjGzIdeal.τ).loc Cert.ProjGzIdeal.main_arg0)
      ∧ m' ((c.tc : Thread Cert.ProjGzRefIdeal.nD Cert.ProjGzRefIdeal.τ).loc Cert.ProjGzRefIdeal.main_arg1) = m ((c.tc : Thread Cert.ProjGzIdeal.nD Cert.ProjGzIdeal.τ).loc Cert.ProjGzIdeal.main_arg1)) →
    ∃ (v0 : (c : Dev Cert.ProjGzIdeal.nD) → Buf (Elt Ideal) ((c.tc : Thread Cert.ProjGzIdeal.nD Cert.ProjGzIdeal.τ).loc Cert.ProjGzIdeal.main_v0)),
      θ_run (Cert.ProjGzIdeal.defs (F := Ideal)) (onTc (τ := Cert.ProjGzIdeal.τ) (Cert.ProjGzIdeal.main (F := Ideal))) ⟨m, fun _ => 0, g⟩ (fun r => ∀ c : Dev Cert.ProjGzIdeal.nD,
          r.2.mem ((c.tc : Thread Cert.ProjGzIdeal.nD Cert.ProjGzIdeal.τ).loc Cert.ProjGzIdeal.main_v0) = v0 c
          ∧ r.2.mem ((c.tc : Thread Cert.ProjGzIdeal.nD Cert.ProjGzIdeal.τ).loc Cert.ProjGzIdeal.main_arg0) = m ((c.tc : Thread Cert.ProjGzIdeal.nD Cert.ProjGzIdeal.τ).loc Cert.ProjGzIdeal.main_arg0)
          ∧ r.2.mem ((c.tc : Thread Cert.ProjGzIdeal.nD Cert.ProjGzIdeal.τ).loc Cert.ProjGzIdeal.main_arg1) = m ((c.tc : Thread Cert.ProjGzIdeal.nD Cert.ProjGzIdeal.τ).loc Cert.ProjGzIdeal.main_arg1))
      ∧ θ_run (Cert.ProjGzRefIdeal.defs (F := Ideal)) (onTc (τ := Cert.ProjGzRefIdeal.τ) (Cert.ProjGzRefIdeal.main (F := Ideal))) ⟨m', fun _ => 0, g'⟩ (fun r => ∀ c : Dev Cert.ProjGzRefIdeal.nD,
          r.2.mem ((c.tc : Thread Cert.ProjGzRefIdeal.nD Cert.ProjGzRefIdeal.τ).loc Cert.ProjGzRefIdeal.main_v2) = v0 c
          ∧ r.2.mem ((c.tc : Thread Cert.ProjGzRefIdeal.nD Cert.ProjGzRefIdeal.τ).loc Cert.ProjGzRefIdeal.main_arg0) = m' ((c.tc : Thread Cert.ProjGzRefIdeal.nD Cert.ProjGzRefIdeal.τ).loc Cert.ProjGzRefIdeal.main_arg0)
          ∧ r.2.mem ((c.tc : Thread Cert.ProjGzRefIdeal.nD Cert.ProjGzRefIdeal.τ).loc Cert.ProjGzRefIdeal.main_arg1) = m' ((c.tc : Thread Cert.ProjGzRefIdeal.nD Cert.ProjGzRefIdeal.τ).loc Cert.ProjGzRefIdeal.main_arg1))

def preserves_Branch_BranchIdeal : Prop :=
  True

def algebraic_BranchIdeal_BranchRefIdeal [hBranchIdeal : Cert.BranchIdeal.Facts] [hBranchRefIdeal : Cert.BranchRefIdeal.Facts] : Prop :=
  ∀ (m : (ℓ : Loc Cert.BranchIdeal.nD Cert.BranchIdeal.τ Cert.BranchIdeal.sig) → Buf (Elt Ideal) ℓ) (g : Dev Cert.BranchIdeal.nD → PrngReg)
    (m' : (ℓ : Loc Cert.BranchRefIdeal.nD Cert.BranchRefIdeal.τ Cert.BranchRefIdeal.sig) → Buf (Elt Ideal) ℓ) (g' : Dev Cert.BranchRefIdeal.nD → PrngReg), Pre_BranchIdeal m →
    (∀ c : Dev Cert.BranchIdeal.nD,
      m' ((c.tc : Thread Cert.BranchRefIdeal.nD Cert.BranchRefIdeal.τ).loc Cert.BranchRefIdeal.main_arg0) = m ((c.tc : Thread Cert.BranchIdeal.nD Cert.BranchIdeal.τ).loc Cert.BranchIdeal.main_arg0)
      ∧ m' ((c.tc : Thread Cert.BranchRefIdeal.nD Cert.BranchRefIdeal.τ).loc Cert.BranchRefIdeal.main_arg1) = m ((c.tc : Thread Cert.BranchIdeal.nD Cert.BranchIdeal.τ).loc Cert.BranchIdeal.main_arg1)) →
    ∃ (v0 : (c : Dev Cert.BranchIdeal.nD) → Buf (Elt Ideal) ((c.tc : Thread Cert.BranchIdeal.nD Cert.BranchIdeal.τ).loc Cert.BranchIdeal.main_v0)),
      θ_run (Cert.BranchIdeal.defs (F := Ideal)) (onTc (τ := Cert.BranchIdeal.τ) (Cert.BranchIdeal.main (F := Ideal))) ⟨m, fun _ => 0, g⟩ (fun r => ∀ c : Dev Cert.BranchIdeal.nD,
          r.2.mem ((c.tc : Thread Cert.BranchIdeal.nD Cert.BranchIdeal.τ).loc Cert.BranchIdeal.main_v0) = v0 c
          ∧ r.2.mem ((c.tc : Thread Cert.BranchIdeal.nD Cert.BranchIdeal.τ).loc Cert.BranchIdeal.main_arg0) = m ((c.tc : Thread Cert.BranchIdeal.nD Cert.BranchIdeal.τ).loc Cert.BranchIdeal.main_arg0)
          ∧ r.2.mem ((c.tc : Thread Cert.BranchIdeal.nD Cert.BranchIdeal.τ).loc Cert.BranchIdeal.main_arg1) = m ((c.tc : Thread Cert.BranchIdeal.nD Cert.BranchIdeal.τ).loc Cert.BranchIdeal.main_arg1))
      ∧ θ_run (Cert.BranchRefIdeal.defs (F := Ideal)) (onTc (τ := Cert.BranchRefIdeal.τ) (Cert.BranchRefIdeal.main (F := Ideal))) ⟨m', fun _ => 0, g'⟩ (fun r => ∀ c : Dev Cert.BranchRefIdeal.nD,
          r.2.mem ((c.tc : Thread Cert.BranchRefIdeal.nD Cert.BranchRefIdeal.τ).loc Cert.BranchRefIdeal.main_v2) = v0 c
          ∧ r.2.mem ((c.tc : Thread Cert.BranchRefIdeal.nD Cert.BranchRefIdeal.τ).loc Cert.BranchRefIdeal.main_arg0) = m' ((c.tc : Thread Cert.BranchRefIdeal.nD Cert.BranchRefIdeal.τ).loc Cert.BranchRefIdeal.main_arg0)
          ∧ r.2.mem ((c.tc : Thread Cert.BranchRefIdeal.nD Cert.BranchRefIdeal.τ).loc Cert.BranchRefIdeal.main_arg1) = m' ((c.tc : Thread Cert.BranchRefIdeal.nD Cert.BranchRefIdeal.τ).loc Cert.BranchRefIdeal.main_arg1))

def preserves_Up_UpIdeal : Prop :=
  True

def algebraic_UpIdeal_UpRefIdeal [hUpIdeal : Cert.UpIdeal.Facts] [hUpRefIdeal : Cert.UpRefIdeal.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpRefIdeal.nD Cert.UpRefIdeal.τ Cert.UpRefIdeal.sig) → Buf (Elt Ideal) ℓ) (g' : Dev Cert.UpRefIdeal.nD → PrngReg), Pre_UpIdeal m →
    (∀ c : Dev Cert.UpIdeal.nD,
      m' ((c.tc : Thread Cert.UpRefIdeal.nD Cert.UpRefIdeal.τ).loc Cert.UpRefIdeal.main_arg0) = m ((c.tc : Thread Cert.UpIdeal.nD Cert.UpIdeal.τ).loc Cert.UpIdeal.main_arg0)
      ∧ m' ((c.tc : Thread Cert.UpRefIdeal.nD Cert.UpRefIdeal.τ).loc Cert.UpRefIdeal.main_arg1) = m ((c.tc : Thread Cert.UpIdeal.nD Cert.UpIdeal.τ).loc Cert.UpIdeal.main_arg1)) →
    ∃ (v0 : (c : Dev Cert.UpIdeal.nD) → Buf (Elt Ideal) ((c.tc : Thread Cert.UpIdeal.nD Cert.UpIdeal.τ).loc Cert.UpIdeal.main_v0)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v0) = v0 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ θ_run (Cert.UpRefIdeal.defs (F := Ideal)) (onTc (τ := Cert.UpRefIdeal.τ) (Cert.UpRefIdeal.main (F := Ideal))) ⟨m', fun _ => 0, g'⟩ (fun r => ∀ c : Dev Cert.UpRefIdeal.nD,
          r.2.mem ((c.tc : Thread Cert.UpRefIdeal.nD Cert.UpRefIdeal.τ).loc Cert.UpRefIdeal.main_v2) = v0 c
          ∧ r.2.mem ((c.tc : Thread Cert.UpRefIdeal.nD Cert.UpRefIdeal.τ).loc Cert.UpRefIdeal.main_arg0) = m' ((c.tc : Thread Cert.UpRefIdeal.nD Cert.UpRefIdeal.τ).loc Cert.UpRefIdeal.main_arg0)
          ∧ r.2.mem ((c.tc : Thread Cert.UpRefIdeal.nD Cert.UpRefIdeal.τ).loc Cert.UpRefIdeal.main_arg1) = m' ((c.tc : Thread Cert.UpRefIdeal.nD Cert.UpRefIdeal.τ).loc Cert.UpRefIdeal.main_arg1))

def preserves_AdamNorm_AdamNormIdeal : Prop :=
  True

def algebraic_AdamNormIdeal_AdamNormRefIdeal [hAdamNormIdeal : Cert.AdamNormIdeal.Facts] [hAdamNormRefIdeal : Cert.AdamNormRefIdeal.Facts] : Prop :=
  ∀ (m : (ℓ : Loc Cert.AdamNormIdeal.nD Cert.AdamNormIdeal.τ Cert.AdamNormIdeal.sig) → Buf (Elt Ideal) ℓ) (g : Dev Cert.AdamNormIdeal.nD → PrngReg)
    (m' : (ℓ : Loc Cert.AdamNormRefIdeal.nD Cert.AdamNormRefIdeal.τ Cert.AdamNormRefIdeal.sig) → Buf (Elt Ideal) ℓ) (g' : Dev Cert.AdamNormRefIdeal.nD → PrngReg), Pre_AdamNormIdeal m →
    (∀ c : Dev Cert.AdamNormIdeal.nD,
      m' ((c.tc : Thread Cert.AdamNormRefIdeal.nD Cert.AdamNormRefIdeal.τ).loc Cert.AdamNormRefIdeal.main_arg0) = m ((c.tc : Thread Cert.AdamNormIdeal.nD Cert.AdamNormIdeal.τ).loc Cert.AdamNormIdeal.main_arg0)
      ∧ m' ((c.tc : Thread Cert.AdamNormRefIdeal.nD Cert.AdamNormRefIdeal.τ).loc Cert.AdamNormRefIdeal.main_arg1) = m ((c.tc : Thread Cert.AdamNormIdeal.nD Cert.AdamNormIdeal.τ).loc Cert.AdamNormIdeal.main_arg1)
      ∧ m' ((c.tc : Thread Cert.AdamNormRefIdeal.nD Cert.AdamNormRefIdeal.τ).loc Cert.AdamNormRefIdeal.main_arg2) = m ((c.tc : Thread Cert.AdamNormIdeal.nD Cert.AdamNormIdeal.τ).loc Cert.AdamNormIdeal.main_arg2)
      ∧ m' ((c.tc : Thread Cert.AdamNormRefIdeal.nD Cert.AdamNormRefIdeal.τ).loc Cert.AdamNormRefIdeal.main_arg3) = m ((c.tc : Thread Cert.AdamNormIdeal.nD Cert.AdamNormIdeal.τ).loc Cert.AdamNormIdeal.main_arg3)) →
    ∃ (v0 : (c : Dev Cert.AdamNormIdeal.nD) → Buf (Elt Ideal) ((c.tc : Thread Cert.AdamNormIdeal.nD Cert.AdamNormIdeal.τ).loc Cert.AdamNormIdeal.main_v0_0)) (v1 : (c : Dev Cert.AdamNormIdeal.nD) → Buf (Elt Ideal) ((c.tc : Thread Cert.AdamNormIdeal.nD Cert.AdamNormIdeal.τ).loc Cert.AdamNormIdeal.main_v0_1)) (v2 : (c : Dev Cert.AdamNormIdeal.nD) → Buf (Elt Ideal) ((c.tc : Thread Cert.AdamNormIdeal.nD Cert.AdamNormIdeal.τ).loc Cert.AdamNormIdeal.main_v0_2)),
      θ_run (Cert.AdamNormIdeal.defs (F := Ideal)) (onTc (τ := Cert.AdamNormIdeal.τ) (Cert.AdamNormIdeal.main (F := Ideal))) ⟨m, fun _ => 0, g⟩ (fun r => ∀ c : Dev Cert.AdamNormIdeal.nD,
          r.2.mem ((c.tc : Thread Cert.AdamNormIdeal.nD Cert.AdamNormIdeal.τ).loc Cert.AdamNormIdeal.main_v0_0) = v0 c
          ∧ r.2.mem ((c.tc : Thread Cert.AdamNormIdeal.nD Cert.AdamNormIdeal.τ).loc Cert.AdamNormIdeal.main_v0_1) = v1 c
          ∧ r.2.mem ((c.tc : Thread Cert.AdamNormIdeal.nD Cert.AdamNormIdeal.τ).loc Cert.AdamNormIdeal.main_v0_2) = v2 c
          ∧ r.2.mem ((c.tc : Thread Cert.AdamNormIdeal.nD Cert.AdamNormIdeal.τ).loc Cert.AdamNormIdeal.main_arg0) = m ((c.tc : Thread Cert.AdamNormIdeal.nD Cert.AdamNormIdeal.τ).loc Cert.AdamNormIdeal.main_arg0)
          ∧ r.2.mem ((c.tc : Thread Cert.AdamNormIdeal.nD Cert.AdamNormIdeal.τ).loc Cert.AdamNormIdeal.main_arg1) = m ((c.tc : Thread Cert.AdamNormIdeal.nD Cert.AdamNormIdeal.τ).loc Cert.AdamNormIdeal.main_arg1)
          ∧ r.2.mem ((c.tc : Thread Cert.AdamNormIdeal.nD Cert.AdamNormIdeal.τ).loc Cert.AdamNormIdeal.main_arg2) = m ((c.tc : Thread Cert.AdamNormIdeal.nD Cert.AdamNormIdeal.τ).loc Cert.AdamNormIdeal.main_arg2)
          ∧ r.2.mem ((c.tc : Thread Cert.AdamNormIdeal.nD Cert.AdamNormIdeal.τ).loc Cert.AdamNormIdeal.main_arg3) = m ((c.tc : Thread Cert.AdamNormIdeal.nD Cert.AdamNormIdeal.τ).loc Cert.AdamNormIdeal.main_arg3))
      ∧ θ_run (Cert.AdamNormRefIdeal.defs (F := Ideal)) (onTc (τ := Cert.AdamNormRefIdeal.τ) (Cert.AdamNormRefIdeal.main (F := Ideal))) ⟨m', fun _ => 0, g'⟩ (fun r => ∀ c : Dev Cert.AdamNormRefIdeal.nD,
          r.2.mem ((c.tc : Thread Cert.AdamNormRefIdeal.nD Cert.AdamNormRefIdeal.τ).loc Cert.AdamNormRefIdeal.main_v23) = v0 c
          ∧ r.2.mem ((c.tc : Thread Cert.AdamNormRefIdeal.nD Cert.AdamNormRefIdeal.τ).loc Cert.AdamNormRefIdeal.main_v4) = v1 c
          ∧ r.2.mem ((c.tc : Thread Cert.AdamNormRefIdeal.nD Cert.AdamNormRefIdeal.τ).loc Cert.AdamNormRefIdeal.main_v10) = v2 c
          ∧ r.2.mem ((c.tc : Thread Cert.AdamNormRefIdeal.nD Cert.AdamNormRefIdeal.τ).loc Cert.AdamNormRefIdeal.main_arg0) = m' ((c.tc : Thread Cert.AdamNormRefIdeal.nD Cert.AdamNormRefIdeal.τ).loc Cert.AdamNormRefIdeal.main_arg0)
          ∧ r.2.mem ((c.tc : Thread Cert.AdamNormRefIdeal.nD Cert.AdamNormRefIdeal.τ).loc Cert.AdamNormRefIdeal.main_arg1) = m' ((c.tc : Thread Cert.AdamNormRefIdeal.nD Cert.AdamNormRefIdeal.τ).loc Cert.AdamNormRefIdeal.main_arg1)
          ∧ r.2.mem ((c.tc : Thread Cert.AdamNormRefIdeal.nD Cert.AdamNormRefIdeal.τ).loc Cert.AdamNormRefIdeal.main_arg2) = m' ((c.tc : Thread Cert.AdamNormRefIdeal.nD Cert.AdamNormRefIdeal.τ).loc Cert.AdamNormRefIdeal.main_arg2)
          ∧ r.2.mem ((c.tc : Thread Cert.AdamNormRefIdeal.nD Cert.AdamNormRefIdeal.τ).loc Cert.AdamNormRefIdeal.main_arg3) = m' ((c.tc : Thread Cert.AdamNormRefIdeal.nD Cert.AdamNormRefIdeal.τ).loc Cert.AdamNormRefIdeal.main_arg3))

def preserves_AdamIn_AdamInIdeal : Prop :=
  True

def algebraic_AdamInIdeal_AdamInRefIdeal [hAdamInIdeal : Cert.AdamInIdeal.Facts] [hAdamInRefIdeal : Cert.AdamInRefIdeal.Facts] : Prop :=
  ∀ (m : (ℓ : Loc Cert.AdamInIdeal.nD Cert.AdamInIdeal.τ Cert.AdamInIdeal.sig) → Buf (Elt Ideal) ℓ) (g : Dev Cert.AdamInIdeal.nD → PrngReg)
    (m' : (ℓ : Loc Cert.AdamInRefIdeal.nD Cert.AdamInRefIdeal.τ Cert.AdamInRefIdeal.sig) → Buf (Elt Ideal) ℓ) (g' : Dev Cert.AdamInRefIdeal.nD → PrngReg), Pre_AdamInIdeal m →
    (∀ c : Dev Cert.AdamInIdeal.nD,
      m' ((c.tc : Thread Cert.AdamInRefIdeal.nD Cert.AdamInRefIdeal.τ).loc Cert.AdamInRefIdeal.main_arg0) = m ((c.tc : Thread Cert.AdamInIdeal.nD Cert.AdamInIdeal.τ).loc Cert.AdamInIdeal.main_arg0)
      ∧ m' ((c.tc : Thread Cert.AdamInRefIdeal.nD Cert.AdamInRefIdeal.τ).loc Cert.AdamInRefIdeal.main_arg1) = m ((c.tc : Thread Cert.AdamInIdeal.nD Cert.AdamInIdeal.τ).loc Cert.AdamInIdeal.main_arg1)
      ∧ m' ((c.tc : Thread Cert.AdamInRefIdeal.nD Cert.AdamInRefIdeal.τ).loc Cert.AdamInRefIdeal.main_arg2) = m ((c.tc : Thread Cert.AdamInIdeal.nD Cert.AdamInIdeal.τ).loc Cert.AdamInIdeal.main_arg2)
      ∧ m' ((c.tc : Thread Cert.AdamInRefIdeal.nD Cert.AdamInRefIdeal.τ).loc Cert.AdamInRefIdeal.main_arg3) = m ((c.tc : Thread Cert.AdamInIdeal.nD Cert.AdamInIdeal.τ).loc Cert.AdamInIdeal.main_arg3)) →
    ∃ (v0 : (c : Dev Cert.AdamInIdeal.nD) → Buf (Elt Ideal) ((c.tc : Thread Cert.AdamInIdeal.nD Cert.AdamInIdeal.τ).loc Cert.AdamInIdeal.main_v8_0)) (v1 : (c : Dev Cert.AdamInIdeal.nD) → Buf (Elt Ideal) ((c.tc : Thread Cert.AdamInIdeal.nD Cert.AdamInIdeal.τ).loc Cert.AdamInIdeal.main_v8_1)) (v2 : (c : Dev Cert.AdamInIdeal.nD) → Buf (Elt Ideal) ((c.tc : Thread Cert.AdamInIdeal.nD Cert.AdamInIdeal.τ).loc Cert.AdamInIdeal.main_v8_2)),
      θ_run (Cert.AdamInIdeal.defs (F := Ideal)) (onTc (τ := Cert.AdamInIdeal.τ) (Cert.AdamInIdeal.main (F := Ideal))) ⟨m, fun _ => 0, g⟩ (fun r => ∀ c : Dev Cert.AdamInIdeal.nD,
          r.2.mem ((c.tc : Thread Cert.AdamInIdeal.nD Cert.AdamInIdeal.τ).loc Cert.AdamInIdeal.main_v8_0) = v0 c
          ∧ r.2.mem ((c.tc : Thread Cert.AdamInIdeal.nD Cert.AdamInIdeal.τ).loc Cert.AdamInIdeal.main_v8_1) = v1 c
          ∧ r.2.mem ((c.tc : Thread Cert.AdamInIdeal.nD Cert.AdamInIdeal.τ).loc Cert.AdamInIdeal.main_v8_2) = v2 c
          ∧ r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
          ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
          ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
          ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3))
      ∧ θ_run (Cert.AdamInRefIdeal.defs (F := Ideal)) (onTc (τ := Cert.AdamInRefIdeal.τ) (Cert.AdamInRefIdeal.main (F := Ideal))) ⟨m', fun _ => 0, g'⟩ (fun r => ∀ c : Dev Cert.AdamInRefIdeal.nD,
          r.2.mem ((c.tc : Thread Cert.AdamInRefIdeal.nD Cert.AdamInRefIdeal.τ).loc Cert.AdamInRefIdeal.main_v25) = v0 c
          ∧ r.2.mem ((c.tc : Thread Cert.AdamInRefIdeal.nD Cert.AdamInRefIdeal.τ).loc Cert.AdamInRefIdeal.main_v27) = v1 c
          ∧ r.2.mem ((c.tc : Thread Cert.AdamInRefIdeal.nD Cert.AdamInRefIdeal.τ).loc Cert.AdamInRefIdeal.main_v29) = v2 c
          ∧ r.2.mem ((c.tc : Thread Cert.AdamInRefIdeal.nD Cert.AdamInRefIdeal.τ).loc Cert.AdamInRefIdeal.main_arg0) = m' ((c.tc : Thread Cert.AdamInRefIdeal.nD Cert.AdamInRefIdeal.τ).loc Cert.AdamInRefIdeal.main_arg0)
          ∧ r.2.mem ((c.tc : Thread Cert.AdamInRefIdeal.nD Cert.AdamInRefIdeal.τ).loc Cert.AdamInRefIdeal.main_arg1) = m' ((c.tc : Thread Cert.AdamInRefIdeal.nD Cert.AdamInRefIdeal.τ).loc Cert.AdamInRefIdeal.main_arg1)
          ∧ r.2.mem ((c.tc : Thread Cert.AdamInRefIdeal.nD Cert.AdamInRefIdeal.τ).loc Cert.AdamInRefIdeal.main_arg2) = m' ((c.tc : Thread Cert.AdamInRefIdeal.nD Cert.AdamInRefIdeal.τ).loc Cert.AdamInRefIdeal.main_arg2)
          ∧ r.2.mem ((c.tc : Thread Cert.AdamInRefIdeal.nD Cert.AdamInRefIdeal.τ).loc Cert.AdamInRefIdeal.main_arg3) = m' ((c.tc : Thread Cert.AdamInRefIdeal.nD Cert.AdamInRefIdeal.τ).loc Cert.AdamInRefIdeal.main_arg3))

def preserves_AdamHead_AdamHeadIdeal : Prop :=
  True

def algebraic_AdamHeadIdeal_AdamHeadRefIdeal [hAdamHeadIdeal : Cert.AdamHeadIdeal.Facts] [hAdamHeadRefIdeal : Cert.AdamHeadRefIdeal.Facts] : Prop :=
  ∀ (m : (ℓ : Loc Cert.AdamHeadIdeal.nD Cert.AdamHeadIdeal.τ Cert.AdamHeadIdeal.sig) → Buf (Elt Ideal) ℓ) (g : Dev Cert.AdamHeadIdeal.nD → PrngReg)
    (m' : (ℓ : Loc Cert.AdamHeadRefIdeal.nD Cert.AdamHeadRefIdeal.τ Cert.AdamHeadRefIdeal.sig) → Buf (Elt Ideal) ℓ) (g' : Dev Cert.AdamHeadRefIdeal.nD → PrngReg), Pre_AdamHeadIdeal m →
    (∀ c : Dev Cert.AdamHeadIdeal.nD,
      m' ((c.tc : Thread Cert.AdamHeadRefIdeal.nD Cert.AdamHeadRefIdeal.τ).loc Cert.AdamHeadRefIdeal.main_arg0) = m ((c.tc : Thread Cert.AdamHeadIdeal.nD Cert.AdamHeadIdeal.τ).loc Cert.AdamHeadIdeal.main_arg0)
      ∧ m' ((c.tc : Thread Cert.AdamHeadRefIdeal.nD Cert.AdamHeadRefIdeal.τ).loc Cert.AdamHeadRefIdeal.main_arg1) = m ((c.tc : Thread Cert.AdamHeadIdeal.nD Cert.AdamHeadIdeal.τ).loc Cert.AdamHeadIdeal.main_arg1)
      ∧ m' ((c.tc : Thread Cert.AdamHeadRefIdeal.nD Cert.AdamHeadRefIdeal.τ).loc Cert.AdamHeadRefIdeal.main_arg2) = m ((c.tc : Thread Cert.AdamHeadIdeal.nD Cert.AdamHeadIdeal.τ).loc Cert.AdamHeadIdeal.main_arg2)
      ∧ m' ((c.tc : Thread Cert.AdamHeadRefIdeal.nD Cert.AdamHeadRefIdeal.τ).loc Cert.AdamHeadRefIdeal.main_arg3) = m ((c.tc : Thread Cert.AdamHeadIdeal.nD Cert.AdamHeadIdeal.τ).loc Cert.AdamHeadIdeal.main_arg3)) →
    ∃ (v0 : (c : Dev Cert.AdamHeadIdeal.nD) → Buf (Elt Ideal) ((c.tc : Thread Cert.AdamHeadIdeal.nD Cert.AdamHeadIdeal.τ).loc Cert.AdamHeadIdeal.main_v0_0)) (v1 : (c : Dev Cert.AdamHeadIdeal.nD) → Buf (Elt Ideal) ((c.tc : Thread Cert.AdamHeadIdeal.nD Cert.AdamHeadIdeal.τ).loc Cert.AdamHeadIdeal.main_v0_1)) (v2 : (c : Dev Cert.AdamHeadIdeal.nD) → Buf (Elt Ideal) ((c.tc : Thread Cert.AdamHeadIdeal.nD Cert.AdamHeadIdeal.τ).loc Cert.AdamHeadIdeal.main_v0_2)),
      θ_run (Cert.AdamHeadIdeal.defs (F := Ideal)) (onTc (τ := Cert.AdamHeadIdeal.τ) (Cert.AdamHeadIdeal.main (F := Ideal))) ⟨m, fun _ => 0, g⟩ (fun r => ∀ c : Dev Cert.AdamHeadIdeal.nD,
          r.2.mem ((c.tc : Thread Cert.AdamHeadIdeal.nD Cert.AdamHeadIdeal.τ).loc Cert.AdamHeadIdeal.main_v0_0) = v0 c
          ∧ r.2.mem ((c.tc : Thread Cert.AdamHeadIdeal.nD Cert.AdamHeadIdeal.τ).loc Cert.AdamHeadIdeal.main_v0_1) = v1 c
          ∧ r.2.mem ((c.tc : Thread Cert.AdamHeadIdeal.nD Cert.AdamHeadIdeal.τ).loc Cert.AdamHeadIdeal.main_v0_2) = v2 c
          ∧ r.2.mem ((c.tc : Thread Cert.AdamHeadIdeal.nD Cert.AdamHeadIdeal.τ).loc Cert.AdamHeadIdeal.main_arg0) = m ((c.tc : Thread Cert.AdamHeadIdeal.nD Cert.AdamHeadIdeal.τ).loc Cert.AdamHeadIdeal.main_arg0)
          ∧ r.2.mem ((c.tc : Thread Cert.AdamHeadIdeal.nD Cert.AdamHeadIdeal.τ).loc Cert.AdamHeadIdeal.main_arg1) = m ((c.tc : Thread Cert.AdamHeadIdeal.nD Cert.AdamHeadIdeal.τ).loc Cert.AdamHeadIdeal.main_arg1)
          ∧ r.2.mem ((c.tc : Thread Cert.AdamHeadIdeal.nD Cert.AdamHeadIdeal.τ).loc Cert.AdamHeadIdeal.main_arg2) = m ((c.tc : Thread Cert.AdamHeadIdeal.nD Cert.AdamHeadIdeal.τ).loc Cert.AdamHeadIdeal.main_arg2)
          ∧ r.2.mem ((c.tc : Thread Cert.AdamHeadIdeal.nD Cert.AdamHeadIdeal.τ).loc Cert.AdamHeadIdeal.main_arg3) = m ((c.tc : Thread Cert.AdamHeadIdeal.nD Cert.AdamHeadIdeal.τ).loc Cert.AdamHeadIdeal.main_arg3))
      ∧ θ_run (Cert.AdamHeadRefIdeal.defs (F := Ideal)) (onTc (τ := Cert.AdamHeadRefIdeal.τ) (Cert.AdamHeadRefIdeal.main (F := Ideal))) ⟨m', fun _ => 0, g'⟩ (fun r => ∀ c : Dev Cert.AdamHeadRefIdeal.nD,
          r.2.mem ((c.tc : Thread Cert.AdamHeadRefIdeal.nD Cert.AdamHeadRefIdeal.τ).loc Cert.AdamHeadRefIdeal.main_v23) = v0 c
          ∧ r.2.mem ((c.tc : Thread Cert.AdamHeadRefIdeal.nD Cert.AdamHeadRefIdeal.τ).loc Cert.AdamHeadRefIdeal.main_v4) = v1 c
          ∧ r.2.mem ((c.tc : Thread Cert.AdamHeadRefIdeal.nD Cert.AdamHeadRefIdeal.τ).loc Cert.AdamHeadRefIdeal.main_v10) = v2 c
          ∧ r.2.mem ((c.tc : Thread Cert.AdamHeadRefIdeal.nD Cert.AdamHeadRefIdeal.τ).loc Cert.AdamHeadRefIdeal.main_arg0) = m' ((c.tc : Thread Cert.AdamHeadRefIdeal.nD Cert.AdamHeadRefIdeal.τ).loc Cert.AdamHeadRefIdeal.main_arg0)
          ∧ r.2.mem ((c.tc : Thread Cert.AdamHeadRefIdeal.nD Cert.AdamHeadRefIdeal.τ).loc Cert.AdamHeadRefIdeal.main_arg1) = m' ((c.tc : Thread Cert.AdamHeadRefIdeal.nD Cert.AdamHeadRefIdeal.τ).loc Cert.AdamHeadRefIdeal.main_arg1)
          ∧ r.2.mem ((c.tc : Thread Cert.AdamHeadRefIdeal.nD Cert.AdamHeadRefIdeal.τ).loc Cert.AdamHeadRefIdeal.main_arg2) = m' ((c.tc : Thread Cert.AdamHeadRefIdeal.nD Cert.AdamHeadRefIdeal.τ).loc Cert.AdamHeadRefIdeal.main_arg2)
          ∧ r.2.mem ((c.tc : Thread Cert.AdamHeadRefIdeal.nD Cert.AdamHeadRefIdeal.τ).loc Cert.AdamHeadRefIdeal.main_arg3) = m' ((c.tc : Thread Cert.AdamHeadRefIdeal.nD Cert.AdamHeadRefIdeal.τ).loc Cert.AdamHeadRefIdeal.main_arg3))

def preserves_AdamConv_AdamConvIdeal : Prop :=
  True

def algebraic_AdamConvIdeal_AdamConvRefIdeal [hAdamConvIdeal : Cert.AdamConvIdeal.Facts] [hAdamConvRefIdeal : Cert.AdamConvRefIdeal.Facts] : Prop :=
  ∀ (m : (ℓ : Loc Cert.AdamConvIdeal.nD Cert.AdamConvIdeal.τ Cert.AdamConvIdeal.sig) → Buf (Elt Ideal) ℓ) (g : Dev Cert.AdamConvIdeal.nD → PrngReg)
    (m' : (ℓ : Loc Cert.AdamConvRefIdeal.nD Cert.AdamConvRefIdeal.τ Cert.AdamConvRefIdeal.sig) → Buf (Elt Ideal) ℓ) (g' : Dev Cert.AdamConvRefIdeal.nD → PrngReg), Pre_AdamConvIdeal m →
    (∀ c : Dev Cert.AdamConvIdeal.nD,
      m' ((c.tc : Thread Cert.AdamConvRefIdeal.nD Cert.AdamConvRefIdeal.τ).loc Cert.AdamConvRefIdeal.main_arg0) = m ((c.tc : Thread Cert.AdamConvIdeal.nD Cert.AdamConvIdeal.τ).loc Cert.AdamConvIdeal.main_arg0)
      ∧ m' ((c.tc : Thread Cert.AdamConvRefIdeal.nD Cert.AdamConvRefIdeal.τ).loc Cert.AdamConvRefIdeal.main_arg1) = m ((c.tc : Thread Cert.AdamConvIdeal.nD Cert.AdamConvIdeal.τ).loc Cert.AdamConvIdeal.main_arg1)
      ∧ m' ((c.tc : Thread Cert.AdamConvRefIdeal.nD Cert.AdamConvRefIdeal.τ).loc Cert.AdamConvRefIdeal.main_arg2) = m ((c.tc : Thread Cert.AdamConvIdeal.nD Cert.AdamConvIdeal.τ).loc Cert.AdamConvIdeal.main_arg2)
      ∧ m' ((c.tc : Thread Cert.AdamConvRefIdeal.nD Cert.AdamConvRefIdeal.τ).loc Cert.AdamConvRefIdeal.main_arg3) = m ((c.tc : Thread Cert.AdamConvIdeal.nD Cert.AdamConvIdeal.τ).loc Cert.AdamConvIdeal.main_arg3)) →
    ∃ (v0 : (c : Dev Cert.AdamConvIdeal.nD) → Buf (Elt Ideal) ((c.tc : Thread Cert.AdamConvIdeal.nD Cert.AdamConvIdeal.τ).loc Cert.AdamConvIdeal.main_v1_0)) (v1 : (c : Dev Cert.AdamConvIdeal.nD) → Buf (Elt Ideal) ((c.tc : Thread Cert.AdamConvIdeal.nD Cert.AdamConvIdeal.τ).loc Cert.AdamConvIdeal.main_v1_1)) (v2 : (c : Dev Cert.AdamConvIdeal.nD) → Buf (Elt Ideal) ((c.tc : Thread Cert.AdamConvIdeal.nD Cert.AdamConvIdeal.τ).loc Cert.AdamConvIdeal.main_v1_2)),
      θ_run (Cert.AdamConvIdeal.defs (F := Ideal)) (onTc (τ := Cert.AdamConvIdeal.τ) (Cert.AdamConvIdeal.main (F := Ideal))) ⟨m, fun _ => 0, g⟩ (fun r => ∀ c : Dev Cert.AdamConvIdeal.nD,
          r.2.mem ((c.tc : Thread Cert.AdamConvIdeal.nD Cert.AdamConvIdeal.τ).loc Cert.AdamConvIdeal.main_v1_0) = v0 c
          ∧ r.2.mem ((c.tc : Thread Cert.AdamConvIdeal.nD Cert.AdamConvIdeal.τ).loc Cert.AdamConvIdeal.main_v1_1) = v1 c
          ∧ r.2.mem ((c.tc : Thread Cert.AdamConvIdeal.nD Cert.AdamConvIdeal.τ).loc Cert.AdamConvIdeal.main_v1_2) = v2 c
          ∧ r.2.mem ((c.tc : Thread Cert.AdamConvIdeal.nD Cert.AdamConvIdeal.τ).loc Cert.AdamConvIdeal.main_arg0) = m ((c.tc : Thread Cert.AdamConvIdeal.nD Cert.AdamConvIdeal.τ).loc Cert.AdamConvIdeal.main_arg0)
          ∧ r.2.mem ((c.tc : Thread Cert.AdamConvIdeal.nD Cert.AdamConvIdeal.τ).loc Cert.AdamConvIdeal.main_arg1) = m ((c.tc : Thread Cert.AdamConvIdeal.nD Cert.AdamConvIdeal.τ).loc Cert.AdamConvIdeal.main_arg1)
          ∧ r.2.mem ((c.tc : Thread Cert.AdamConvIdeal.nD Cert.AdamConvIdeal.τ).loc Cert.AdamConvIdeal.main_arg2) = m ((c.tc : Thread Cert.AdamConvIdeal.nD Cert.AdamConvIdeal.τ).loc Cert.AdamConvIdeal.main_arg2)
          ∧ r.2.mem ((c.tc : Thread Cert.AdamConvIdeal.nD Cert.AdamConvIdeal.τ).loc Cert.AdamConvIdeal.main_arg3) = m ((c.tc : Thread Cert.AdamConvIdeal.nD Cert.AdamConvIdeal.τ).loc Cert.AdamConvIdeal.main_arg3))
      ∧ θ_run (Cert.AdamConvRefIdeal.defs (F := Ideal)) (onTc (τ := Cert.AdamConvRefIdeal.τ) (Cert.AdamConvRefIdeal.main (F := Ideal))) ⟨m', fun _ => 0, g'⟩ (fun r => ∀ c : Dev Cert.AdamConvRefIdeal.nD,
          r.2.mem ((c.tc : Thread Cert.AdamConvRefIdeal.nD Cert.AdamConvRefIdeal.τ).loc Cert.AdamConvRefIdeal.main_v23) = v0 c
          ∧ r.2.mem ((c.tc : Thread Cert.AdamConvRefIdeal.nD Cert.AdamConvRefIdeal.τ).loc Cert.AdamConvRefIdeal.main_v4) = v1 c
          ∧ r.2.mem ((c.tc : Thread Cert.AdamConvRefIdeal.nD Cert.AdamConvRefIdeal.τ).loc Cert.AdamConvRefIdeal.main_v10) = v2 c
          ∧ r.2.mem ((c.tc : Thread Cert.AdamConvRefIdeal.nD Cert.AdamConvRefIdeal.τ).loc Cert.AdamConvRefIdeal.main_arg0) = m' ((c.tc : Thread Cert.AdamConvRefIdeal.nD Cert.AdamConvRefIdeal.τ).loc Cert.AdamConvRefIdeal.main_arg0)
          ∧ r.2.mem ((c.tc : Thread Cert.AdamConvRefIdeal.nD Cert.AdamConvRefIdeal.τ).loc Cert.AdamConvRefIdeal.main_arg1) = m' ((c.tc : Thread Cert.AdamConvRefIdeal.nD Cert.AdamConvRefIdeal.τ).loc Cert.AdamConvRefIdeal.main_arg1)
          ∧ r.2.mem ((c.tc : Thread Cert.AdamConvRefIdeal.nD Cert.AdamConvRefIdeal.τ).loc Cert.AdamConvRefIdeal.main_arg2) = m' ((c.tc : Thread Cert.AdamConvRefIdeal.nD Cert.AdamConvRefIdeal.τ).loc Cert.AdamConvRefIdeal.main_arg2)
          ∧ r.2.mem ((c.tc : Thread Cert.AdamConvRefIdeal.nD Cert.AdamConvRefIdeal.τ).loc Cert.AdamConvRefIdeal.main_arg3) = m' ((c.tc : Thread Cert.AdamConvRefIdeal.nD Cert.AdamConvRefIdeal.τ).loc Cert.AdamConvRefIdeal.main_arg3))

def preserves_AdamGnorm_AdamGnormIdeal : Prop :=
  True

def algebraic_AdamGnormIdeal_AdamGnormRefIdeal [hAdamGnormIdeal : Cert.AdamGnormIdeal.Facts] [hAdamGnormRefIdeal : Cert.AdamGnormRefIdeal.Facts] : Prop :=
  ∀ (m : (ℓ : Loc Cert.AdamGnormIdeal.nD Cert.AdamGnormIdeal.τ Cert.AdamGnormIdeal.sig) → Buf (Elt Ideal) ℓ) (g : Dev Cert.AdamGnormIdeal.nD → PrngReg)
    (m' : (ℓ : Loc Cert.AdamGnormRefIdeal.nD Cert.AdamGnormRefIdeal.τ Cert.AdamGnormRefIdeal.sig) → Buf (Elt Ideal) ℓ) (g' : Dev Cert.AdamGnormRefIdeal.nD → PrngReg), Pre_AdamGnormIdeal m →
    (∀ c : Dev Cert.AdamGnormIdeal.nD,
      m' ((c.tc : Thread Cert.AdamGnormRefIdeal.nD Cert.AdamGnormRefIdeal.τ).loc Cert.AdamGnormRefIdeal.main_arg0) = m ((c.tc : Thread Cert.AdamGnormIdeal.nD Cert.AdamGnormIdeal.τ).loc Cert.AdamGnormIdeal.main_arg0)
      ∧ m' ((c.tc : Thread Cert.AdamGnormRefIdeal.nD Cert.AdamGnormRefIdeal.τ).loc Cert.AdamGnormRefIdeal.main_arg1) = m ((c.tc : Thread Cert.AdamGnormIdeal.nD Cert.AdamGnormIdeal.τ).loc Cert.AdamGnormIdeal.main_arg1)
      ∧ m' ((c.tc : Thread Cert.AdamGnormRefIdeal.nD Cert.AdamGnormRefIdeal.τ).loc Cert.AdamGnormRefIdeal.main_arg2) = m ((c.tc : Thread Cert.AdamGnormIdeal.nD Cert.AdamGnormIdeal.τ).loc Cert.AdamGnormIdeal.main_arg2)
      ∧ m' ((c.tc : Thread Cert.AdamGnormRefIdeal.nD Cert.AdamGnormRefIdeal.τ).loc Cert.AdamGnormRefIdeal.main_arg3) = m ((c.tc : Thread Cert.AdamGnormIdeal.nD Cert.AdamGnormIdeal.τ).loc Cert.AdamGnormIdeal.main_arg3)) →
    ∃ (v0 : (c : Dev Cert.AdamGnormIdeal.nD) → Buf (Elt Ideal) ((c.tc : Thread Cert.AdamGnormIdeal.nD Cert.AdamGnormIdeal.τ).loc Cert.AdamGnormIdeal.main_v0_0)) (v1 : (c : Dev Cert.AdamGnormIdeal.nD) → Buf (Elt Ideal) ((c.tc : Thread Cert.AdamGnormIdeal.nD Cert.AdamGnormIdeal.τ).loc Cert.AdamGnormIdeal.main_v0_1)) (v2 : (c : Dev Cert.AdamGnormIdeal.nD) → Buf (Elt Ideal) ((c.tc : Thread Cert.AdamGnormIdeal.nD Cert.AdamGnormIdeal.τ).loc Cert.AdamGnormIdeal.main_v0_2)),
      θ_run (Cert.AdamGnormIdeal.defs (F := Ideal)) (onTc (τ := Cert.AdamGnormIdeal.τ) (Cert.AdamGnormIdeal.main (F := Ideal))) ⟨m, fun _ => 0, g⟩ (fun r => ∀ c : Dev Cert.AdamGnormIdeal.nD,
          r.2.mem ((c.tc : Thread Cert.AdamGnormIdeal.nD Cert.AdamGnormIdeal.τ).loc Cert.AdamGnormIdeal.main_v0_0) = v0 c
          ∧ r.2.mem ((c.tc : Thread Cert.AdamGnormIdeal.nD Cert.AdamGnormIdeal.τ).loc Cert.AdamGnormIdeal.main_v0_1) = v1 c
          ∧ r.2.mem ((c.tc : Thread Cert.AdamGnormIdeal.nD Cert.AdamGnormIdeal.τ).loc Cert.AdamGnormIdeal.main_v0_2) = v2 c
          ∧ r.2.mem ((c.tc : Thread Cert.AdamGnormIdeal.nD Cert.AdamGnormIdeal.τ).loc Cert.AdamGnormIdeal.main_arg0) = m ((c.tc : Thread Cert.AdamGnormIdeal.nD Cert.AdamGnormIdeal.τ).loc Cert.AdamGnormIdeal.main_arg0)
          ∧ r.2.mem ((c.tc : Thread Cert.AdamGnormIdeal.nD Cert.AdamGnormIdeal.τ).loc Cert.AdamGnormIdeal.main_arg1) = m ((c.tc : Thread Cert.AdamGnormIdeal.nD Cert.AdamGnormIdeal.τ).loc Cert.AdamGnormIdeal.main_arg1)
          ∧ r.2.mem ((c.tc : Thread Cert.AdamGnormIdeal.nD Cert.AdamGnormIdeal.τ).loc Cert.AdamGnormIdeal.main_arg2) = m ((c.tc : Thread Cert.AdamGnormIdeal.nD Cert.AdamGnormIdeal.τ).loc Cert.AdamGnormIdeal.main_arg2)
          ∧ r.2.mem ((c.tc : Thread Cert.AdamGnormIdeal.nD Cert.AdamGnormIdeal.τ).loc Cert.AdamGnormIdeal.main_arg3) = m ((c.tc : Thread Cert.AdamGnormIdeal.nD Cert.AdamGnormIdeal.τ).loc Cert.AdamGnormIdeal.main_arg3))
      ∧ θ_run (Cert.AdamGnormRefIdeal.defs (F := Ideal)) (onTc (τ := Cert.AdamGnormRefIdeal.τ) (Cert.AdamGnormRefIdeal.main (F := Ideal))) ⟨m', fun _ => 0, g'⟩ (fun r => ∀ c : Dev Cert.AdamGnormRefIdeal.nD,
          r.2.mem ((c.tc : Thread Cert.AdamGnormRefIdeal.nD Cert.AdamGnormRefIdeal.τ).loc Cert.AdamGnormRefIdeal.main_v23) = v0 c
          ∧ r.2.mem ((c.tc : Thread Cert.AdamGnormRefIdeal.nD Cert.AdamGnormRefIdeal.τ).loc Cert.AdamGnormRefIdeal.main_v4) = v1 c
          ∧ r.2.mem ((c.tc : Thread Cert.AdamGnormRefIdeal.nD Cert.AdamGnormRefIdeal.τ).loc Cert.AdamGnormRefIdeal.main_v10) = v2 c
          ∧ r.2.mem ((c.tc : Thread Cert.AdamGnormRefIdeal.nD Cert.AdamGnormRefIdeal.τ).loc Cert.AdamGnormRefIdeal.main_arg0) = m' ((c.tc : Thread Cert.AdamGnormRefIdeal.nD Cert.AdamGnormRefIdeal.τ).loc Cert.AdamGnormRefIdeal.main_arg0)
          ∧ r.2.mem ((c.tc : Thread Cert.AdamGnormRefIdeal.nD Cert.AdamGnormRefIdeal.τ).loc Cert.AdamGnormRefIdeal.main_arg1) = m' ((c.tc : Thread Cert.AdamGnormRefIdeal.nD Cert.AdamGnormRefIdeal.τ).loc Cert.AdamGnormRefIdeal.main_arg1)
          ∧ r.2.mem ((c.tc : Thread Cert.AdamGnormRefIdeal.nD Cert.AdamGnormRefIdeal.τ).loc Cert.AdamGnormRefIdeal.main_arg2) = m' ((c.tc : Thread Cert.AdamGnormRefIdeal.nD Cert.AdamGnormRefIdeal.τ).loc Cert.AdamGnormRefIdeal.main_arg2)
          ∧ r.2.mem ((c.tc : Thread Cert.AdamGnormRefIdeal.nD Cert.AdamGnormRefIdeal.τ).loc Cert.AdamGnormRefIdeal.main_arg3) = m' ((c.tc : Thread Cert.AdamGnormRefIdeal.nD Cert.AdamGnormRefIdeal.τ).loc Cert.AdamGnormRefIdeal.main_arg3))

def preserves_AdamOut_AdamOutIdeal : Prop :=
  True

def algebraic_AdamOutIdeal_AdamOutRefIdeal [hAdamOutIdeal : Cert.AdamOutIdeal.Facts] [hAdamOutRefIdeal : Cert.AdamOutRefIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg)
    (m' : (ℓ : Loc Cert.AdamOutRefIdeal.nD Cert.AdamOutRefIdeal.τ Cert.AdamOutRefIdeal.sig) → Buf (Elt Ideal) ℓ) (g' : Dev Cert.AdamOutRefIdeal.nD → PrngReg), Pre_AdamOutIdeal m →
    (∀ c : Dev Cert.AdamOutIdeal.nD,
      m' ((c.tc : Thread Cert.AdamOutRefIdeal.nD Cert.AdamOutRefIdeal.τ).loc Cert.AdamOutRefIdeal.main_arg0) = m ((c.tc : Thread Cert.AdamOutIdeal.nD Cert.AdamOutIdeal.τ).loc Cert.AdamOutIdeal.main_arg0)
      ∧ m' ((c.tc : Thread Cert.AdamOutRefIdeal.nD Cert.AdamOutRefIdeal.τ).loc Cert.AdamOutRefIdeal.main_arg1) = m ((c.tc : Thread Cert.AdamOutIdeal.nD Cert.AdamOutIdeal.τ).loc Cert.AdamOutIdeal.main_arg1)
      ∧ m' ((c.tc : Thread Cert.AdamOutRefIdeal.nD Cert.AdamOutRefIdeal.τ).loc Cert.AdamOutRefIdeal.main_arg2) = m ((c.tc : Thread Cert.AdamOutIdeal.nD Cert.AdamOutIdeal.τ).loc Cert.AdamOutIdeal.main_arg2)
      ∧ m' ((c.tc : Thread Cert.AdamOutRefIdeal.nD Cert.AdamOutRefIdeal.τ).loc Cert.AdamOutRefIdeal.main_arg3) = m ((c.tc : Thread Cert.AdamOutIdeal.nD Cert.AdamOutIdeal.τ).loc Cert.AdamOutIdeal.main_arg3)) →
    ∃ (v0 : (c : Dev Cert.AdamOutIdeal.nD) → Buf (Elt Ideal) ((c.tc : Thread Cert.AdamOutIdeal.nD Cert.AdamOutIdeal.τ).loc Cert.AdamOutIdeal.main_v1_0)) (v1 : (c : Dev Cert.AdamOutIdeal.nD) → Buf (Elt Ideal) ((c.tc : Thread Cert.AdamOutIdeal.nD Cert.AdamOutIdeal.τ).loc Cert.AdamOutIdeal.main_v1_1)) (v2 : (c : Dev Cert.AdamOutIdeal.nD) → Buf (Elt Ideal) ((c.tc : Thread Cert.AdamOutIdeal.nD Cert.AdamOutIdeal.τ).loc Cert.AdamOutIdeal.main_v1_2)),
      θ_run (Cert.AdamOutIdeal.defs (F := Ideal)) (onTc (τ := Cert.AdamOutIdeal.τ) (Cert.AdamOutIdeal.main (F := Ideal))) ⟨m, fun _ => 0, g⟩ (fun r => ∀ c : Dev Cert.AdamOutIdeal.nD,
          r.2.mem ((c.tc : Thread Cert.AdamOutIdeal.nD Cert.AdamOutIdeal.τ).loc Cert.AdamOutIdeal.main_v1_0) = v0 c
          ∧ r.2.mem ((c.tc : Thread Cert.AdamOutIdeal.nD Cert.AdamOutIdeal.τ).loc Cert.AdamOutIdeal.main_v1_1) = v1 c
          ∧ r.2.mem ((c.tc : Thread Cert.AdamOutIdeal.nD Cert.AdamOutIdeal.τ).loc Cert.AdamOutIdeal.main_v1_2) = v2 c
          ∧ r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
          ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
          ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
          ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3))
      ∧ θ_run (Cert.AdamOutRefIdeal.defs (F := Ideal)) (onTc (τ := Cert.AdamOutRefIdeal.τ) (Cert.AdamOutRefIdeal.main (F := Ideal))) ⟨m', fun _ => 0, g'⟩ (fun r => ∀ c : Dev Cert.AdamOutRefIdeal.nD,
          r.2.mem ((c.tc : Thread Cert.AdamOutRefIdeal.nD Cert.AdamOutRefIdeal.τ).loc Cert.AdamOutRefIdeal.main_v23) = v0 c
          ∧ r.2.mem ((c.tc : Thread Cert.AdamOutRefIdeal.nD Cert.AdamOutRefIdeal.τ).loc Cert.AdamOutRefIdeal.main_v4) = v1 c
          ∧ r.2.mem ((c.tc : Thread Cert.AdamOutRefIdeal.nD Cert.AdamOutRefIdeal.τ).loc Cert.AdamOutRefIdeal.main_v10) = v2 c
          ∧ r.2.mem ((c.tc : Thread Cert.AdamOutRefIdeal.nD Cert.AdamOutRefIdeal.τ).loc Cert.AdamOutRefIdeal.main_arg0) = m' ((c.tc : Thread Cert.AdamOutRefIdeal.nD Cert.AdamOutRefIdeal.τ).loc Cert.AdamOutRefIdeal.main_arg0)
          ∧ r.2.mem ((c.tc : Thread Cert.AdamOutRefIdeal.nD Cert.AdamOutRefIdeal.τ).loc Cert.AdamOutRefIdeal.main_arg1) = m' ((c.tc : Thread Cert.AdamOutRefIdeal.nD Cert.AdamOutRefIdeal.τ).loc Cert.AdamOutRefIdeal.main_arg1)
          ∧ r.2.mem ((c.tc : Thread Cert.AdamOutRefIdeal.nD Cert.AdamOutRefIdeal.τ).loc Cert.AdamOutRefIdeal.main_arg2) = m' ((c.tc : Thread Cert.AdamOutRefIdeal.nD Cert.AdamOutRefIdeal.τ).loc Cert.AdamOutRefIdeal.main_arg2)
          ∧ r.2.mem ((c.tc : Thread Cert.AdamOutRefIdeal.nD Cert.AdamOutRefIdeal.τ).loc Cert.AdamOutRefIdeal.main_arg3) = m' ((c.tc : Thread Cert.AdamOutRefIdeal.nD Cert.AdamOutRefIdeal.τ).loc Cert.AdamOutRefIdeal.main_arg3))

def preserves_AdamUp_AdamUpIdeal : Prop :=
  True

def algebraic_AdamUpIdeal_AdamUpRefIdeal [hAdamUpIdeal : Cert.AdamUpIdeal.Facts] [hAdamUpRefIdeal : Cert.AdamUpRefIdeal.Facts] : Prop :=
  ∀ (m : (ℓ : Loc Cert.AdamUpIdeal.nD Cert.AdamUpIdeal.τ Cert.AdamUpIdeal.sig) → Buf (Elt Ideal) ℓ) (g : Dev Cert.AdamUpIdeal.nD → PrngReg)
    (m' : (ℓ : Loc Cert.AdamUpRefIdeal.nD Cert.AdamUpRefIdeal.τ Cert.AdamUpRefIdeal.sig) → Buf (Elt Ideal) ℓ) (g' : Dev Cert.AdamUpRefIdeal.nD → PrngReg), Pre_AdamUpIdeal m →
    (∀ c : Dev Cert.AdamUpIdeal.nD,
      m' ((c.tc : Thread Cert.AdamUpRefIdeal.nD Cert.AdamUpRefIdeal.τ).loc Cert.AdamUpRefIdeal.main_arg0) = m ((c.tc : Thread Cert.AdamUpIdeal.nD Cert.AdamUpIdeal.τ).loc Cert.AdamUpIdeal.main_arg0)
      ∧ m' ((c.tc : Thread Cert.AdamUpRefIdeal.nD Cert.AdamUpRefIdeal.τ).loc Cert.AdamUpRefIdeal.main_arg1) = m ((c.tc : Thread Cert.AdamUpIdeal.nD Cert.AdamUpIdeal.τ).loc Cert.AdamUpIdeal.main_arg1)
      ∧ m' ((c.tc : Thread Cert.AdamUpRefIdeal.nD Cert.AdamUpRefIdeal.τ).loc Cert.AdamUpRefIdeal.main_arg2) = m ((c.tc : Thread Cert.AdamUpIdeal.nD Cert.AdamUpIdeal.τ).loc Cert.AdamUpIdeal.main_arg2)
      ∧ m' ((c.tc : Thread Cert.AdamUpRefIdeal.nD Cert.AdamUpRefIdeal.τ).loc Cert.AdamUpRefIdeal.main_arg3) = m ((c.tc : Thread Cert.AdamUpIdeal.nD Cert.AdamUpIdeal.τ).loc Cert.AdamUpIdeal.main_arg3)) →
    ∃ (v0 : (c : Dev Cert.AdamUpIdeal.nD) → Buf (Elt Ideal) ((c.tc : Thread Cert.AdamUpIdeal.nD Cert.AdamUpIdeal.τ).loc Cert.AdamUpIdeal.main_v1_0)) (v1 : (c : Dev Cert.AdamUpIdeal.nD) → Buf (Elt Ideal) ((c.tc : Thread Cert.AdamUpIdeal.nD Cert.AdamUpIdeal.τ).loc Cert.AdamUpIdeal.main_v1_1)) (v2 : (c : Dev Cert.AdamUpIdeal.nD) → Buf (Elt Ideal) ((c.tc : Thread Cert.AdamUpIdeal.nD Cert.AdamUpIdeal.τ).loc Cert.AdamUpIdeal.main_v1_2)),
      θ_run (Cert.AdamUpIdeal.defs (F := Ideal)) (onTc (τ := Cert.AdamUpIdeal.τ) (Cert.AdamUpIdeal.main (F := Ideal))) ⟨m, fun _ => 0, g⟩ (fun r => ∀ c : Dev Cert.AdamUpIdeal.nD,
          r.2.mem ((c.tc : Thread Cert.AdamUpIdeal.nD Cert.AdamUpIdeal.τ).loc Cert.AdamUpIdeal.main_v1_0) = v0 c
          ∧ r.2.mem ((c.tc : Thread Cert.AdamUpIdeal.nD Cert.AdamUpIdeal.τ).loc Cert.AdamUpIdeal.main_v1_1) = v1 c
          ∧ r.2.mem ((c.tc : Thread Cert.AdamUpIdeal.nD Cert.AdamUpIdeal.τ).loc Cert.AdamUpIdeal.main_v1_2) = v2 c
          ∧ r.2.mem ((c.tc : Thread Cert.AdamUpIdeal.nD Cert.AdamUpIdeal.τ).loc Cert.AdamUpIdeal.main_arg0) = m ((c.tc : Thread Cert.AdamUpIdeal.nD Cert.AdamUpIdeal.τ).loc Cert.AdamUpIdeal.main_arg0)
          ∧ r.2.mem ((c.tc : Thread Cert.AdamUpIdeal.nD Cert.AdamUpIdeal.τ).loc Cert.AdamUpIdeal.main_arg1) = m ((c.tc : Thread Cert.AdamUpIdeal.nD Cert.AdamUpIdeal.τ).loc Cert.AdamUpIdeal.main_arg1)
          ∧ r.2.mem ((c.tc : Thread Cert.AdamUpIdeal.nD Cert.AdamUpIdeal.τ).loc Cert.AdamUpIdeal.main_arg2) = m ((c.tc : Thread Cert.AdamUpIdeal.nD Cert.AdamUpIdeal.τ).loc Cert.AdamUpIdeal.main_arg2)
          ∧ r.2.mem ((c.tc : Thread Cert.AdamUpIdeal.nD Cert.AdamUpIdeal.τ).loc Cert.AdamUpIdeal.main_arg3) = m ((c.tc : Thread Cert.AdamUpIdeal.nD Cert.AdamUpIdeal.τ).loc Cert.AdamUpIdeal.main_arg3))
      ∧ θ_run (Cert.AdamUpRefIdeal.defs (F := Ideal)) (onTc (τ := Cert.AdamUpRefIdeal.τ) (Cert.AdamUpRefIdeal.main (F := Ideal))) ⟨m', fun _ => 0, g'⟩ (fun r => ∀ c : Dev Cert.AdamUpRefIdeal.nD,
          r.2.mem ((c.tc : Thread Cert.AdamUpRefIdeal.nD Cert.AdamUpRefIdeal.τ).loc Cert.AdamUpRefIdeal.main_v23) = v0 c
          ∧ r.2.mem ((c.tc : Thread Cert.AdamUpRefIdeal.nD Cert.AdamUpRefIdeal.τ).loc Cert.AdamUpRefIdeal.main_v4) = v1 c
          ∧ r.2.mem ((c.tc : Thread Cert.AdamUpRefIdeal.nD Cert.AdamUpRefIdeal.τ).loc Cert.AdamUpRefIdeal.main_v10) = v2 c
          ∧ r.2.mem ((c.tc : Thread Cert.AdamUpRefIdeal.nD Cert.AdamUpRefIdeal.τ).loc Cert.AdamUpRefIdeal.main_arg0) = m' ((c.tc : Thread Cert.AdamUpRefIdeal.nD Cert.AdamUpRefIdeal.τ).loc Cert.AdamUpRefIdeal.main_arg0)
          ∧ r.2.mem ((c.tc : Thread Cert.AdamUpRefIdeal.nD Cert.AdamUpRefIdeal.τ).loc Cert.AdamUpRefIdeal.main_arg1) = m' ((c.tc : Thread Cert.AdamUpRefIdeal.nD Cert.AdamUpRefIdeal.τ).loc Cert.AdamUpRefIdeal.main_arg1)
          ∧ r.2.mem ((c.tc : Thread Cert.AdamUpRefIdeal.nD Cert.AdamUpRefIdeal.τ).loc Cert.AdamUpRefIdeal.main_arg2) = m' ((c.tc : Thread Cert.AdamUpRefIdeal.nD Cert.AdamUpRefIdeal.τ).loc Cert.AdamUpRefIdeal.main_arg2)
          ∧ r.2.mem ((c.tc : Thread Cert.AdamUpRefIdeal.nD Cert.AdamUpRefIdeal.τ).loc Cert.AdamUpRefIdeal.main_arg3) = m' ((c.tc : Thread Cert.AdamUpRefIdeal.nD Cert.AdamUpRefIdeal.τ).loc Cert.AdamUpRefIdeal.main_arg3))

def preserves_AdamFconv_AdamFconvIdeal : Prop :=
  True

def algebraic_AdamFconvIdeal_AdamFconvRefIdeal [hAdamFconvIdeal : Cert.AdamFconvIdeal.Facts] [hAdamFconvRefIdeal : Cert.AdamFconvRefIdeal.Facts] : Prop :=
  ∀ (m : (ℓ : Loc Cert.AdamFconvIdeal.nD Cert.AdamFconvIdeal.τ Cert.AdamFconvIdeal.sig) → Buf (Elt Ideal) ℓ) (g : Dev Cert.AdamFconvIdeal.nD → PrngReg)
    (m' : (ℓ : Loc Cert.AdamFconvRefIdeal.nD Cert.AdamFconvRefIdeal.τ Cert.AdamFconvRefIdeal.sig) → Buf (Elt Ideal) ℓ) (g' : Dev Cert.AdamFconvRefIdeal.nD → PrngReg), Pre_AdamFconvIdeal m →
    (∀ c : Dev Cert.AdamFconvIdeal.nD,
      m' ((c.tc : Thread Cert.AdamFconvRefIdeal.nD Cert.AdamFconvRefIdeal.τ).loc Cert.AdamFconvRefIdeal.main_arg0) = m ((c.tc : Thread Cert.AdamFconvIdeal.nD Cert.AdamFconvIdeal.τ).loc Cert.AdamFconvIdeal.main_arg0)
      ∧ m' ((c.tc : Thread Cert.AdamFconvRefIdeal.nD Cert.AdamFconvRefIdeal.τ).loc Cert.AdamFconvRefIdeal.main_arg1) = m ((c.tc : Thread Cert.AdamFconvIdeal.nD Cert.AdamFconvIdeal.τ).loc Cert.AdamFconvIdeal.main_arg1)
      ∧ m' ((c.tc : Thread Cert.AdamFconvRefIdeal.nD Cert.AdamFconvRefIdeal.τ).loc Cert.AdamFconvRefIdeal.main_arg2) = m ((c.tc : Thread Cert.AdamFconvIdeal.nD Cert.AdamFconvIdeal.τ).loc Cert.AdamFconvIdeal.main_arg2)
      ∧ m' ((c.tc : Thread Cert.AdamFconvRefIdeal.nD Cert.AdamFconvRefIdeal.τ).loc Cert.AdamFconvRefIdeal.main_arg3) = m ((c.tc : Thread Cert.AdamFconvIdeal.nD Cert.AdamFconvIdeal.τ).loc Cert.AdamFconvIdeal.main_arg3)) →
    ∃ (v0 : (c : Dev Cert.AdamFconvIdeal.nD) → Buf (Elt Ideal) ((c.tc : Thread Cert.AdamFconvIdeal.nD Cert.AdamFconvIdeal.τ).loc Cert.AdamFconvIdeal.main_v1_0)) (v1 : (c : Dev Cert.AdamFconvIdeal.nD) → Buf (Elt Ideal) ((c.tc : Thread Cert.AdamFconvIdeal.nD Cert.AdamFconvIdeal.τ).loc Cert.AdamFconvIdeal.main_v1_1)) (v2 : (c : Dev Cert.AdamFconvIdeal.nD) → Buf (Elt Ideal) ((c.tc : Thread Cert.AdamFconvIdeal.nD Cert.AdamFconvIdeal.τ).loc Cert.AdamFconvIdeal.main_v1_2)),
      θ_run (Cert.AdamFconvIdeal.defs (F := Ideal)) (onTc (τ := Cert.AdamFconvIdeal.τ) (Cert.AdamFconvIdeal.main (F := Ideal))) ⟨m, fun _ => 0, g⟩ (fun r => ∀ c : Dev Cert.AdamFconvIdeal.nD,
          r.2.mem ((c.tc : Thread Cert.AdamFconvIdeal.nD Cert.AdamFconvIdeal.τ).loc Cert.AdamFconvIdeal.main_v1_0) = v0 c
          ∧ r.2.mem ((c.tc : Thread Cert.AdamFconvIdeal.nD Cert.AdamFconvIdeal.τ).loc Cert.AdamFconvIdeal.main_v1_1) = v1 c
          ∧ r.2.mem ((c.tc : Thread Cert.AdamFconvIdeal.nD Cert.AdamFconvIdeal.τ).loc Cert.AdamFconvIdeal.main_v1_2) = v2 c
          ∧ r.2.mem ((c.tc : Thread Cert.AdamFconvIdeal.nD Cert.AdamFconvIdeal.τ).loc Cert.AdamFconvIdeal.main_arg0) = m ((c.tc : Thread Cert.AdamFconvIdeal.nD Cert.AdamFconvIdeal.τ).loc Cert.AdamFconvIdeal.main_arg0)
          ∧ r.2.mem ((c.tc : Thread Cert.AdamFconvIdeal.nD Cert.AdamFconvIdeal.τ).loc Cert.AdamFconvIdeal.main_arg1) = m ((c.tc : Thread Cert.AdamFconvIdeal.nD Cert.AdamFconvIdeal.τ).loc Cert.AdamFconvIdeal.main_arg1)
          ∧ r.2.mem ((c.tc : Thread Cert.AdamFconvIdeal.nD Cert.AdamFconvIdeal.τ).loc Cert.AdamFconvIdeal.main_arg2) = m ((c.tc : Thread Cert.AdamFconvIdeal.nD Cert.AdamFconvIdeal.τ).loc Cert.AdamFconvIdeal.main_arg2)
          ∧ r.2.mem ((c.tc : Thread Cert.AdamFconvIdeal.nD Cert.AdamFconvIdeal.τ).loc Cert.AdamFconvIdeal.main_arg3) = m ((c.tc : Thread Cert.AdamFconvIdeal.nD Cert.AdamFconvIdeal.τ).loc Cert.AdamFconvIdeal.main_arg3))
      ∧ θ_run (Cert.AdamFconvRefIdeal.defs (F := Ideal)) (onTc (τ := Cert.AdamFconvRefIdeal.τ) (Cert.AdamFconvRefIdeal.main (F := Ideal))) ⟨m', fun _ => 0, g'⟩ (fun r => ∀ c : Dev Cert.AdamFconvRefIdeal.nD,
          r.2.mem ((c.tc : Thread Cert.AdamFconvRefIdeal.nD Cert.AdamFconvRefIdeal.τ).loc Cert.AdamFconvRefIdeal.main_v23) = v0 c
          ∧ r.2.mem ((c.tc : Thread Cert.AdamFconvRefIdeal.nD Cert.AdamFconvRefIdeal.τ).loc Cert.AdamFconvRefIdeal.main_v4) = v1 c
          ∧ r.2.mem ((c.tc : Thread Cert.AdamFconvRefIdeal.nD Cert.AdamFconvRefIdeal.τ).loc Cert.AdamFconvRefIdeal.main_v10) = v2 c
          ∧ r.2.mem ((c.tc : Thread Cert.AdamFconvRefIdeal.nD Cert.AdamFconvRefIdeal.τ).loc Cert.AdamFconvRefIdeal.main_arg0) = m' ((c.tc : Thread Cert.AdamFconvRefIdeal.nD Cert.AdamFconvRefIdeal.τ).loc Cert.AdamFconvRefIdeal.main_arg0)
          ∧ r.2.mem ((c.tc : Thread Cert.AdamFconvRefIdeal.nD Cert.AdamFconvRefIdeal.τ).loc Cert.AdamFconvRefIdeal.main_arg1) = m' ((c.tc : Thread Cert.AdamFconvRefIdeal.nD Cert.AdamFconvRefIdeal.τ).loc Cert.AdamFconvRefIdeal.main_arg1)
          ∧ r.2.mem ((c.tc : Thread Cert.AdamFconvRefIdeal.nD Cert.AdamFconvRefIdeal.τ).loc Cert.AdamFconvRefIdeal.main_arg2) = m' ((c.tc : Thread Cert.AdamFconvRefIdeal.nD Cert.AdamFconvRefIdeal.τ).loc Cert.AdamFconvRefIdeal.main_arg2)
          ∧ r.2.mem ((c.tc : Thread Cert.AdamFconvRefIdeal.nD Cert.AdamFconvRefIdeal.τ).loc Cert.AdamFconvRefIdeal.main_arg3) = m' ((c.tc : Thread Cert.AdamFconvRefIdeal.nD Cert.AdamFconvRefIdeal.τ).loc Cert.AdamFconvRefIdeal.main_arg3))

def preserves_AdamDown_AdamDownIdeal : Prop :=
  True

def algebraic_AdamDownIdeal_AdamDownRefIdeal [hAdamDownIdeal : Cert.AdamDownIdeal.Facts] [hAdamDownRefIdeal : Cert.AdamDownRefIdeal.Facts] : Prop :=
  ∀ (m : (ℓ : Loc Cert.AdamDownIdeal.nD Cert.AdamDownIdeal.τ Cert.AdamDownIdeal.sig) → Buf (Elt Ideal) ℓ) (g : Dev Cert.AdamDownIdeal.nD → PrngReg)
    (m' : (ℓ : Loc Cert.AdamDownRefIdeal.nD Cert.AdamDownRefIdeal.τ Cert.AdamDownRefIdeal.sig) → Buf (Elt Ideal) ℓ) (g' : Dev Cert.AdamDownRefIdeal.nD → PrngReg), Pre_AdamDownIdeal m →
    (∀ c : Dev Cert.AdamDownIdeal.nD,
      m' ((c.tc : Thread Cert.AdamDownRefIdeal.nD Cert.AdamDownRefIdeal.τ).loc Cert.AdamDownRefIdeal.main_arg0) = m ((c.tc : Thread Cert.AdamDownIdeal.nD Cert.AdamDownIdeal.τ).loc Cert.AdamDownIdeal.main_arg0)
      ∧ m' ((c.tc : Thread Cert.AdamDownRefIdeal.nD Cert.AdamDownRefIdeal.τ).loc Cert.AdamDownRefIdeal.main_arg1) = m ((c.tc : Thread Cert.AdamDownIdeal.nD Cert.AdamDownIdeal.τ).loc Cert.AdamDownIdeal.main_arg1)
      ∧ m' ((c.tc : Thread Cert.AdamDownRefIdeal.nD Cert.AdamDownRefIdeal.τ).loc Cert.AdamDownRefIdeal.main_arg2) = m ((c.tc : Thread Cert.AdamDownIdeal.nD Cert.AdamDownIdeal.τ).loc Cert.AdamDownIdeal.main_arg2)
      ∧ m' ((c.tc : Thread Cert.AdamDownRefIdeal.nD Cert.AdamDownRefIdeal.τ).loc Cert.AdamDownRefIdeal.main_arg3) = m ((c.tc : Thread Cert.AdamDownIdeal.nD Cert.AdamDownIdeal.τ).loc Cert.AdamDownIdeal.main_arg3)) →
    ∃ (v0 : (c : Dev Cert.AdamDownIdeal.nD) → Buf (Elt Ideal) ((c.tc : Thread Cert.AdamDownIdeal.nD Cert.AdamDownIdeal.τ).loc Cert.AdamDownIdeal.main_v1_0)) (v1 : (c : Dev Cert.AdamDownIdeal.nD) → Buf (Elt Ideal) ((c.tc : Thread Cert.AdamDownIdeal.nD Cert.AdamDownIdeal.τ).loc Cert.AdamDownIdeal.main_v1_1)) (v2 : (c : Dev Cert.AdamDownIdeal.nD) → Buf (Elt Ideal) ((c.tc : Thread Cert.AdamDownIdeal.nD Cert.AdamDownIdeal.τ).loc Cert.AdamDownIdeal.main_v1_2)),
      θ_run (Cert.AdamDownIdeal.defs (F := Ideal)) (onTc (τ := Cert.AdamDownIdeal.τ) (Cert.AdamDownIdeal.main (F := Ideal))) ⟨m, fun _ => 0, g⟩ (fun r => ∀ c : Dev Cert.AdamDownIdeal.nD,
          r.2.mem ((c.tc : Thread Cert.AdamDownIdeal.nD Cert.AdamDownIdeal.τ).loc Cert.AdamDownIdeal.main_v1_0) = v0 c
          ∧ r.2.mem ((c.tc : Thread Cert.AdamDownIdeal.nD Cert.AdamDownIdeal.τ).loc Cert.AdamDownIdeal.main_v1_1) = v1 c
          ∧ r.2.mem ((c.tc : Thread Cert.AdamDownIdeal.nD Cert.AdamDownIdeal.τ).loc Cert.AdamDownIdeal.main_v1_2) = v2 c
          ∧ r.2.mem ((c.tc : Thread Cert.AdamDownIdeal.nD Cert.AdamDownIdeal.τ).loc Cert.AdamDownIdeal.main_arg0) = m ((c.tc : Thread Cert.AdamDownIdeal.nD Cert.AdamDownIdeal.τ).loc Cert.AdamDownIdeal.main_arg0)
          ∧ r.2.mem ((c.tc : Thread Cert.AdamDownIdeal.nD Cert.AdamDownIdeal.τ).loc Cert.AdamDownIdeal.main_arg1) = m ((c.tc : Thread Cert.AdamDownIdeal.nD Cert.AdamDownIdeal.τ).loc Cert.AdamDownIdeal.main_arg1)
          ∧ r.2.mem ((c.tc : Thread Cert.AdamDownIdeal.nD Cert.AdamDownIdeal.τ).loc Cert.AdamDownIdeal.main_arg2) = m ((c.tc : Thread Cert.AdamDownIdeal.nD Cert.AdamDownIdeal.τ).loc Cert.AdamDownIdeal.main_arg2)
          ∧ r.2.mem ((c.tc : Thread Cert.AdamDownIdeal.nD Cert.AdamDownIdeal.τ).loc Cert.AdamDownIdeal.main_arg3) = m ((c.tc : Thread Cert.AdamDownIdeal.nD Cert.AdamDownIdeal.τ).loc Cert.AdamDownIdeal.main_arg3))
      ∧ θ_run (Cert.AdamDownRefIdeal.defs (F := Ideal)) (onTc (τ := Cert.AdamDownRefIdeal.τ) (Cert.AdamDownRefIdeal.main (F := Ideal))) ⟨m', fun _ => 0, g'⟩ (fun r => ∀ c : Dev Cert.AdamDownRefIdeal.nD,
          r.2.mem ((c.tc : Thread Cert.AdamDownRefIdeal.nD Cert.AdamDownRefIdeal.τ).loc Cert.AdamDownRefIdeal.main_v23) = v0 c
          ∧ r.2.mem ((c.tc : Thread Cert.AdamDownRefIdeal.nD Cert.AdamDownRefIdeal.τ).loc Cert.AdamDownRefIdeal.main_v4) = v1 c
          ∧ r.2.mem ((c.tc : Thread Cert.AdamDownRefIdeal.nD Cert.AdamDownRefIdeal.τ).loc Cert.AdamDownRefIdeal.main_v10) = v2 c
          ∧ r.2.mem ((c.tc : Thread Cert.AdamDownRefIdeal.nD Cert.AdamDownRefIdeal.τ).loc Cert.AdamDownRefIdeal.main_arg0) = m' ((c.tc : Thread Cert.AdamDownRefIdeal.nD Cert.AdamDownRefIdeal.τ).loc Cert.AdamDownRefIdeal.main_arg0)
          ∧ r.2.mem ((c.tc : Thread Cert.AdamDownRefIdeal.nD Cert.AdamDownRefIdeal.τ).loc Cert.AdamDownRefIdeal.main_arg1) = m' ((c.tc : Thread Cert.AdamDownRefIdeal.nD Cert.AdamDownRefIdeal.τ).loc Cert.AdamDownRefIdeal.main_arg1)
          ∧ r.2.mem ((c.tc : Thread Cert.AdamDownRefIdeal.nD Cert.AdamDownRefIdeal.τ).loc Cert.AdamDownRefIdeal.main_arg2) = m' ((c.tc : Thread Cert.AdamDownRefIdeal.nD Cert.AdamDownRefIdeal.τ).loc Cert.AdamDownRefIdeal.main_arg2)
          ∧ r.2.mem ((c.tc : Thread Cert.AdamDownRefIdeal.nD Cert.AdamDownRefIdeal.τ).loc Cert.AdamDownRefIdeal.main_arg3) = m' ((c.tc : Thread Cert.AdamDownRefIdeal.nD Cert.AdamDownRefIdeal.τ).loc Cert.AdamDownRefIdeal.main_arg3))

def preserves_GradX_GradXIdeal : Prop :=
  True

def algebraic_GradXIdeal_GradXRefIdeal [hGradXIdeal : Cert.GradXIdeal.Facts] [hGradXRefIdeal : Cert.GradXRefIdeal.Facts] : Prop :=
  ∀ (m : (ℓ : Loc Cert.GradXIdeal.nD Cert.GradXIdeal.τ Cert.GradXIdeal.sig) → Buf (Elt Ideal) ℓ) (g : Dev Cert.GradXIdeal.nD → PrngReg)
    (m' : (ℓ : Loc Cert.GradXRefIdeal.nD Cert.GradXRefIdeal.τ Cert.GradXRefIdeal.sig) → Buf (Elt Ideal) ℓ) (g' : Dev Cert.GradXRefIdeal.nD → PrngReg), Pre_GradXIdeal m →
    (∀ c : Dev Cert.GradXIdeal.nD,
      m' ((c.tc : Thread Cert.GradXRefIdeal.nD Cert.GradXRefIdeal.τ).loc Cert.GradXRefIdeal.main_arg0) = m ((c.tc : Thread Cert.GradXIdeal.nD Cert.GradXIdeal.τ).loc Cert.GradXIdeal.main_arg0)
      ∧ m' ((c.tc : Thread Cert.GradXRefIdeal.nD Cert.GradXRefIdeal.τ).loc Cert.GradXRefIdeal.main_arg1) = m ((c.tc : Thread Cert.GradXIdeal.nD Cert.GradXIdeal.τ).loc Cert.GradXIdeal.main_arg1)
      ∧ m' ((c.tc : Thread Cert.GradXRefIdeal.nD Cert.GradXRefIdeal.τ).loc Cert.GradXRefIdeal.main_arg2) = m ((c.tc : Thread Cert.GradXIdeal.nD Cert.GradXIdeal.τ).loc Cert.GradXIdeal.main_arg2)
      ∧ m' ((c.tc : Thread Cert.GradXRefIdeal.nD Cert.GradXRefIdeal.τ).loc Cert.GradXRefIdeal.main_arg3) = m ((c.tc : Thread Cert.GradXIdeal.nD Cert.GradXIdeal.τ).loc Cert.GradXIdeal.main_arg3)
      ∧ m' ((c.tc : Thread Cert.GradXRefIdeal.nD Cert.GradXRefIdeal.τ).loc Cert.GradXRefIdeal.main_arg4) = m ((c.tc : Thread Cert.GradXIdeal.nD Cert.GradXIdeal.τ).loc Cert.GradXIdeal.main_arg4)
      ∧ m' ((c.tc : Thread Cert.GradXRefIdeal.nD Cert.GradXRefIdeal.τ).loc Cert.GradXRefIdeal.main_arg5) = m ((c.tc : Thread Cert.GradXIdeal.nD Cert.GradXIdeal.τ).loc Cert.GradXIdeal.main_arg5)) →
    ∃ (v0 : (c : Dev Cert.GradXIdeal.nD) → Buf (Elt Ideal) ((c.tc : Thread Cert.GradXIdeal.nD Cert.GradXIdeal.τ).loc Cert.GradXIdeal.main_v0_0)) (v1 : (c : Dev Cert.GradXIdeal.nD) → Buf (Elt Ideal) ((c.tc : Thread Cert.GradXIdeal.nD Cert.GradXIdeal.τ).loc Cert.GradXIdeal.main_v0_1)),
      θ_run (Cert.GradXIdeal.defs (F := Ideal)) (onTc (τ := Cert.GradXIdeal.τ) (Cert.GradXIdeal.main (F := Ideal))) ⟨m, fun _ => 0, g⟩ (fun r => ∀ c : Dev Cert.GradXIdeal.nD,
          r.2.mem ((c.tc : Thread Cert.GradXIdeal.nD Cert.GradXIdeal.τ).loc Cert.GradXIdeal.main_v0_0) = v0 c
          ∧ r.2.mem ((c.tc : Thread Cert.GradXIdeal.nD Cert.GradXIdeal.τ).loc Cert.GradXIdeal.main_v0_1) = v1 c
          ∧ r.2.mem ((c.tc : Thread Cert.GradXIdeal.nD Cert.GradXIdeal.τ).loc Cert.GradXIdeal.main_arg0) = m ((c.tc : Thread Cert.GradXIdeal.nD Cert.GradXIdeal.τ).loc Cert.GradXIdeal.main_arg0)
          ∧ r.2.mem ((c.tc : Thread Cert.GradXIdeal.nD Cert.GradXIdeal.τ).loc Cert.GradXIdeal.main_arg1) = m ((c.tc : Thread Cert.GradXIdeal.nD Cert.GradXIdeal.τ).loc Cert.GradXIdeal.main_arg1)
          ∧ r.2.mem ((c.tc : Thread Cert.GradXIdeal.nD Cert.GradXIdeal.τ).loc Cert.GradXIdeal.main_arg2) = m ((c.tc : Thread Cert.GradXIdeal.nD Cert.GradXIdeal.τ).loc Cert.GradXIdeal.main_arg2)
          ∧ r.2.mem ((c.tc : Thread Cert.GradXIdeal.nD Cert.GradXIdeal.τ).loc Cert.GradXIdeal.main_arg3) = m ((c.tc : Thread Cert.GradXIdeal.nD Cert.GradXIdeal.τ).loc Cert.GradXIdeal.main_arg3)
          ∧ r.2.mem ((c.tc : Thread Cert.GradXIdeal.nD Cert.GradXIdeal.τ).loc Cert.GradXIdeal.main_arg4) = m ((c.tc : Thread Cert.GradXIdeal.nD Cert.GradXIdeal.τ).loc Cert.GradXIdeal.main_arg4)
          ∧ r.2.mem ((c.tc : Thread Cert.GradXIdeal.nD Cert.GradXIdeal.τ).loc Cert.GradXIdeal.main_arg5) = m ((c.tc : Thread Cert.GradXIdeal.nD Cert.GradXIdeal.τ).loc Cert.GradXIdeal.main_arg5))
      ∧ θ_run (Cert.GradXRefIdeal.defs (F := Ideal)) (onTc (τ := Cert.GradXRefIdeal.τ) (Cert.GradXRefIdeal.main (F := Ideal))) ⟨m', fun _ => 0, g'⟩ (fun r => ∀ c : Dev Cert.GradXRefIdeal.nD,
          r.2.mem ((c.tc : Thread Cert.GradXRefIdeal.nD Cert.GradXRefIdeal.τ).loc Cert.GradXRefIdeal.main_v38) = v0 c
          ∧ r.2.mem ((c.tc : Thread Cert.GradXRefIdeal.nD Cert.GradXRefIdeal.τ).loc Cert.GradXRefIdeal.main_v21) = v1 c
          ∧ r.2.mem ((c.tc : Thread Cert.GradXRefIdeal.nD Cert.GradXRefIdeal.τ).loc Cert.GradXRefIdeal.main_arg0) = m' ((c.tc : Thread Cert.GradXRefIdeal.nD Cert.GradXRefIdeal.τ).loc Cert.GradXRefIdeal.main_arg0)
          ∧ r.2.mem ((c.tc : Thread Cert.GradXRefIdeal.nD Cert.GradXRefIdeal.τ).loc Cert.GradXRefIdeal.main_arg1) = m' ((c.tc : Thread Cert.GradXRefIdeal.nD Cert.GradXRefIdeal.τ).loc Cert.GradXRefIdeal.main_arg1)
          ∧ r.2.mem ((c.tc : Thread Cert.GradXRefIdeal.nD Cert.GradXRefIdeal.τ).loc Cert.GradXRefIdeal.main_arg2) = m' ((c.tc : Thread Cert.GradXRefIdeal.nD Cert.GradXRefIdeal.τ).loc Cert.GradXRefIdeal.main_arg2)
          ∧ r.2.mem ((c.tc : Thread Cert.GradXRefIdeal.nD Cert.GradXRefIdeal.τ).loc Cert.GradXRefIdeal.main_arg3) = m' ((c.tc : Thread Cert.GradXRefIdeal.nD Cert.GradXRefIdeal.τ).loc Cert.GradXRefIdeal.main_arg3)
          ∧ r.2.mem ((c.tc : Thread Cert.GradXRefIdeal.nD Cert.GradXRefIdeal.τ).loc Cert.GradXRefIdeal.main_arg4) = m' ((c.tc : Thread Cert.GradXRefIdeal.nD Cert.GradXRefIdeal.τ).loc Cert.GradXRefIdeal.main_arg4)
          ∧ r.2.mem ((c.tc : Thread Cert.GradXRefIdeal.nD Cert.GradXRefIdeal.τ).loc Cert.GradXRefIdeal.main_arg5) = m' ((c.tc : Thread Cert.GradXRefIdeal.nD Cert.GradXRefIdeal.τ).loc Cert.GradXRefIdeal.main_arg5))

def preserves_DH1_DH1Ideal : Prop :=
  True

def algebraic_DH1Ideal_DH1RefIdeal [hDH1Ideal : Cert.DH1Ideal.Facts] [hDH1RefIdeal : Cert.DH1RefIdeal.Facts] : Prop :=
  ∀ (m : (ℓ : Loc Cert.DH1Ideal.nD Cert.DH1Ideal.τ Cert.DH1Ideal.sig) → Buf (Elt Ideal) ℓ) (g : Dev Cert.DH1Ideal.nD → PrngReg)
    (m' : (ℓ : Loc Cert.DH1RefIdeal.nD Cert.DH1RefIdeal.τ Cert.DH1RefIdeal.sig) → Buf (Elt Ideal) ℓ) (g' : Dev Cert.DH1RefIdeal.nD → PrngReg), Pre_DH1Ideal m →
    (∀ c : Dev Cert.DH1Ideal.nD,
      m' ((c.tc : Thread Cert.DH1RefIdeal.nD Cert.DH1RefIdeal.τ).loc Cert.DH1RefIdeal.main_arg0) = m ((c.tc : Thread Cert.DH1Ideal.nD Cert.DH1Ideal.τ).loc Cert.DH1Ideal.main_arg0)
      ∧ m' ((c.tc : Thread Cert.DH1RefIdeal.nD Cert.DH1RefIdeal.τ).loc Cert.DH1RefIdeal.main_arg1) = m ((c.tc : Thread Cert.DH1Ideal.nD Cert.DH1Ideal.τ).loc Cert.DH1Ideal.main_arg1)
      ∧ m' ((c.tc : Thread Cert.DH1RefIdeal.nD Cert.DH1RefIdeal.τ).loc Cert.DH1RefIdeal.main_arg2) = m ((c.tc : Thread Cert.DH1Ideal.nD Cert.DH1Ideal.τ).loc Cert.DH1Ideal.main_arg2)
      ∧ m' ((c.tc : Thread Cert.DH1RefIdeal.nD Cert.DH1RefIdeal.τ).loc Cert.DH1RefIdeal.main_arg3) = m ((c.tc : Thread Cert.DH1Ideal.nD Cert.DH1Ideal.τ).loc Cert.DH1Ideal.main_arg3)
      ∧ m' ((c.tc : Thread Cert.DH1RefIdeal.nD Cert.DH1RefIdeal.τ).loc Cert.DH1RefIdeal.main_arg4) = m ((c.tc : Thread Cert.DH1Ideal.nD Cert.DH1Ideal.τ).loc Cert.DH1Ideal.main_arg4)
      ∧ m' ((c.tc : Thread Cert.DH1RefIdeal.nD Cert.DH1RefIdeal.τ).loc Cert.DH1RefIdeal.main_arg5) = m ((c.tc : Thread Cert.DH1Ideal.nD Cert.DH1Ideal.τ).loc Cert.DH1Ideal.main_arg5)) →
    ∃ (v0 : (c : Dev Cert.DH1Ideal.nD) → Buf (Elt Ideal) ((c.tc : Thread Cert.DH1Ideal.nD Cert.DH1Ideal.τ).loc Cert.DH1Ideal.main_v0_0)) (v1 : (c : Dev Cert.DH1Ideal.nD) → Buf (Elt Ideal) ((c.tc : Thread Cert.DH1Ideal.nD Cert.DH1Ideal.τ).loc Cert.DH1Ideal.main_v0_1)) (v2 : (c : Dev Cert.DH1Ideal.nD) → Buf (Elt Ideal) ((c.tc : Thread Cert.DH1Ideal.nD Cert.DH1Ideal.τ).loc Cert.DH1Ideal.main_v0_2)),
      θ_run (Cert.DH1Ideal.defs (F := Ideal)) (onTc (τ := Cert.DH1Ideal.τ) (Cert.DH1Ideal.main (F := Ideal))) ⟨m, fun _ => 0, g⟩ (fun r => ∀ c : Dev Cert.DH1Ideal.nD,
          r.2.mem ((c.tc : Thread Cert.DH1Ideal.nD Cert.DH1Ideal.τ).loc Cert.DH1Ideal.main_v0_0) = v0 c
          ∧ r.2.mem ((c.tc : Thread Cert.DH1Ideal.nD Cert.DH1Ideal.τ).loc Cert.DH1Ideal.main_v0_1) = v1 c
          ∧ r.2.mem ((c.tc : Thread Cert.DH1Ideal.nD Cert.DH1Ideal.τ).loc Cert.DH1Ideal.main_v0_2) = v2 c
          ∧ r.2.mem ((c.tc : Thread Cert.DH1Ideal.nD Cert.DH1Ideal.τ).loc Cert.DH1Ideal.main_arg0) = m ((c.tc : Thread Cert.DH1Ideal.nD Cert.DH1Ideal.τ).loc Cert.DH1Ideal.main_arg0)
          ∧ r.2.mem ((c.tc : Thread Cert.DH1Ideal.nD Cert.DH1Ideal.τ).loc Cert.DH1Ideal.main_arg1) = m ((c.tc : Thread Cert.DH1Ideal.nD Cert.DH1Ideal.τ).loc Cert.DH1Ideal.main_arg1)
          ∧ r.2.mem ((c.tc : Thread Cert.DH1Ideal.nD Cert.DH1Ideal.τ).loc Cert.DH1Ideal.main_arg2) = m ((c.tc : Thread Cert.DH1Ideal.nD Cert.DH1Ideal.τ).loc Cert.DH1Ideal.main_arg2)
          ∧ r.2.mem ((c.tc : Thread Cert.DH1Ideal.nD Cert.DH1Ideal.τ).loc Cert.DH1Ideal.main_arg3) = m ((c.tc : Thread Cert.DH1Ideal.nD Cert.DH1Ideal.τ).loc Cert.DH1Ideal.main_arg3)
          ∧ r.2.mem ((c.tc : Thread Cert.DH1Ideal.nD Cert.DH1Ideal.τ).loc Cert.DH1Ideal.main_arg4) = m ((c.tc : Thread Cert.DH1Ideal.nD Cert.DH1Ideal.τ).loc Cert.DH1Ideal.main_arg4)
          ∧ r.2.mem ((c.tc : Thread Cert.DH1Ideal.nD Cert.DH1Ideal.τ).loc Cert.DH1Ideal.main_arg5) = m ((c.tc : Thread Cert.DH1Ideal.nD Cert.DH1Ideal.τ).loc Cert.DH1Ideal.main_arg5))
      ∧ θ_run (Cert.DH1RefIdeal.defs (F := Ideal)) (onTc (τ := Cert.DH1RefIdeal.τ) (Cert.DH1RefIdeal.main (F := Ideal))) ⟨m', fun _ => 0, g'⟩ (fun r => ∀ c : Dev Cert.DH1RefIdeal.nD,
          r.2.mem ((c.tc : Thread Cert.DH1RefIdeal.nD Cert.DH1RefIdeal.τ).loc Cert.DH1RefIdeal.main_v38) = v0 c
          ∧ r.2.mem ((c.tc : Thread Cert.DH1RefIdeal.nD Cert.DH1RefIdeal.τ).loc Cert.DH1RefIdeal.main_v40) = v1 c
          ∧ r.2.mem ((c.tc : Thread Cert.DH1RefIdeal.nD Cert.DH1RefIdeal.τ).loc Cert.DH1RefIdeal.main_v21) = v2 c
          ∧ r.2.mem ((c.tc : Thread Cert.DH1RefIdeal.nD Cert.DH1RefIdeal.τ).loc Cert.DH1RefIdeal.main_arg0) = m' ((c.tc : Thread Cert.DH1RefIdeal.nD Cert.DH1RefIdeal.τ).loc Cert.DH1RefIdeal.main_arg0)
          ∧ r.2.mem ((c.tc : Thread Cert.DH1RefIdeal.nD Cert.DH1RefIdeal.τ).loc Cert.DH1RefIdeal.main_arg1) = m' ((c.tc : Thread Cert.DH1RefIdeal.nD Cert.DH1RefIdeal.τ).loc Cert.DH1RefIdeal.main_arg1)
          ∧ r.2.mem ((c.tc : Thread Cert.DH1RefIdeal.nD Cert.DH1RefIdeal.τ).loc Cert.DH1RefIdeal.main_arg2) = m' ((c.tc : Thread Cert.DH1RefIdeal.nD Cert.DH1RefIdeal.τ).loc Cert.DH1RefIdeal.main_arg2)
          ∧ r.2.mem ((c.tc : Thread Cert.DH1RefIdeal.nD Cert.DH1RefIdeal.τ).loc Cert.DH1RefIdeal.main_arg3) = m' ((c.tc : Thread Cert.DH1RefIdeal.nD Cert.DH1RefIdeal.τ).loc Cert.DH1RefIdeal.main_arg3)
          ∧ r.2.mem ((c.tc : Thread Cert.DH1RefIdeal.nD Cert.DH1RefIdeal.τ).loc Cert.DH1RefIdeal.main_arg4) = m' ((c.tc : Thread Cert.DH1RefIdeal.nD Cert.DH1RefIdeal.τ).loc Cert.DH1RefIdeal.main_arg4)
          ∧ r.2.mem ((c.tc : Thread Cert.DH1RefIdeal.nD Cert.DH1RefIdeal.τ).loc Cert.DH1RefIdeal.main_arg5) = m' ((c.tc : Thread Cert.DH1RefIdeal.nD Cert.DH1RefIdeal.τ).loc Cert.DH1RefIdeal.main_arg5))

def preserves_DwSmall_DwSmallIdeal : Prop :=
  True

def algebraic_DwSmallIdeal_DwSmallRefIdeal [hDwSmallIdeal : Cert.DwSmallIdeal.Facts] [hDwSmallRefIdeal : Cert.DwSmallRefIdeal.Facts] : Prop :=
  ∀ (m : (ℓ : Loc Cert.DwSmallIdeal.nD Cert.DwSmallIdeal.τ Cert.DwSmallIdeal.sig) → Buf (Elt Ideal) ℓ) (g : Dev Cert.DwSmallIdeal.nD → PrngReg)
    (m' : (ℓ : Loc Cert.DwSmallRefIdeal.nD Cert.DwSmallRefIdeal.τ Cert.DwSmallRefIdeal.sig) → Buf (Elt Ideal) ℓ) (g' : Dev Cert.DwSmallRefIdeal.nD → PrngReg), Pre_DwSmallIdeal m →
    (∀ c : Dev Cert.DwSmallIdeal.nD,
      m' ((c.tc : Thread Cert.DwSmallRefIdeal.nD Cert.DwSmallRefIdeal.τ).loc Cert.DwSmallRefIdeal.main_arg0) = m ((c.tc : Thread Cert.DwSmallIdeal.nD Cert.DwSmallIdeal.τ).loc Cert.DwSmallIdeal.main_arg0)
      ∧ m' ((c.tc : Thread Cert.DwSmallRefIdeal.nD Cert.DwSmallRefIdeal.τ).loc Cert.DwSmallRefIdeal.main_arg1) = m ((c.tc : Thread Cert.DwSmallIdeal.nD Cert.DwSmallIdeal.τ).loc Cert.DwSmallIdeal.main_arg1)) →
    ∃ (v0 : (c : Dev Cert.DwSmallIdeal.nD) → Buf (Elt Ideal) ((c.tc : Thread Cert.DwSmallIdeal.nD Cert.DwSmallIdeal.τ).loc Cert.DwSmallIdeal.main_v0)),
      θ_run (Cert.DwSmallIdeal.defs (F := Ideal)) (onTc (τ := Cert.DwSmallIdeal.τ) (Cert.DwSmallIdeal.main (F := Ideal))) ⟨m, fun _ => 0, g⟩ (fun r => ∀ c : Dev Cert.DwSmallIdeal.nD,
          r.2.mem ((c.tc : Thread Cert.DwSmallIdeal.nD Cert.DwSmallIdeal.τ).loc Cert.DwSmallIdeal.main_v0) = v0 c
          ∧ r.2.mem ((c.tc : Thread Cert.DwSmallIdeal.nD Cert.DwSmallIdeal.τ).loc Cert.DwSmallIdeal.main_arg0) = m ((c.tc : Thread Cert.DwSmallIdeal.nD Cert.DwSmallIdeal.τ).loc Cert.DwSmallIdeal.main_arg0)
          ∧ r.2.mem ((c.tc : Thread Cert.DwSmallIdeal.nD Cert.DwSmallIdeal.τ).loc Cert.DwSmallIdeal.main_arg1) = m ((c.tc : Thread Cert.DwSmallIdeal.nD Cert.DwSmallIdeal.τ).loc Cert.DwSmallIdeal.main_arg1))
      ∧ θ_run (Cert.DwSmallRefIdeal.defs (F := Ideal)) (onTc (τ := Cert.DwSmallRefIdeal.τ) (Cert.DwSmallRefIdeal.main (F := Ideal))) ⟨m', fun _ => 0, g'⟩ (fun r => ∀ c : Dev Cert.DwSmallRefIdeal.nD,
          r.2.mem ((c.tc : Thread Cert.DwSmallRefIdeal.nD Cert.DwSmallRefIdeal.τ).loc Cert.DwSmallRefIdeal.main_v2) = v0 c
          ∧ r.2.mem ((c.tc : Thread Cert.DwSmallRefIdeal.nD Cert.DwSmallRefIdeal.τ).loc Cert.DwSmallRefIdeal.main_arg0) = m' ((c.tc : Thread Cert.DwSmallRefIdeal.nD Cert.DwSmallRefIdeal.τ).loc Cert.DwSmallRefIdeal.main_arg0)
          ∧ r.2.mem ((c.tc : Thread Cert.DwSmallRefIdeal.nD Cert.DwSmallRefIdeal.τ).loc Cert.DwSmallRefIdeal.main_arg1) = m' ((c.tc : Thread Cert.DwSmallRefIdeal.nD Cert.DwSmallRefIdeal.τ).loc Cert.DwSmallRefIdeal.main_arg1))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)
      ∧ m' ((c.tc : Thread Cert.DownRefIdeal.nD Cert.DownRefIdeal.τ).loc Cert.DownRefIdeal.main_arg2) = m ((c.tc : Thread Cert.DownIdeal.nD Cert.DownIdeal.τ).loc Cert.DownIdeal.main_arg2)
      ∧ m' ((c.tc : Thread Cert.DownRefIdeal.nD Cert.DownRefIdeal.τ).loc Cert.DownRefIdeal.main_arg3) = m ((c.tc : Thread Cert.DownIdeal.nD Cert.DownIdeal.τ).loc Cert.DownIdeal.main_arg3)
      ∧ m' ((c.tc : Thread Cert.DownRefIdeal.nD Cert.DownRefIdeal.τ).loc Cert.DownRefIdeal.main_arg4) = m ((c.tc : Thread Cert.DownIdeal.nD Cert.DownIdeal.τ).loc Cert.DownIdeal.main_arg4)) →
    ∃ (v0 : (c : Dev Cert.DownIdeal.nD) → Buf (Elt Ideal) ((c.tc : Thread Cert.DownIdeal.nD Cert.DownIdeal.τ).loc Cert.DownIdeal.main_v0_0)) (v1 : (c : Dev Cert.DownIdeal.nD) → Buf (Elt Ideal) ((c.tc : Thread Cert.DownIdeal.nD Cert.DownIdeal.τ).loc Cert.DownIdeal.main_v0_1)) (v2 : (c : Dev Cert.DownIdeal.nD) → Buf (Elt Ideal) ((c.tc : Thread Cert.DownIdeal.nD Cert.DownIdeal.τ).loc Cert.DownIdeal.main_v0_2)) (v3 : (c : Dev Cert.DownIdeal.nD) → Buf (Elt Ideal) ((c.tc : Thread Cert.DownIdeal.nD Cert.DownIdeal.τ).loc Cert.DownIdeal.main_v0_3)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v0_0) = v0 c
          ∧ r.2.mem ((c.tc : Thread Cert.DownIdeal.nD Cert.DownIdeal.τ).loc Cert.DownIdeal.main_v0_1) = v1 c
          ∧ r.2.mem ((c.tc : Thread Cert.DownIdeal.nD Cert.DownIdeal.τ).loc Cert.DownIdeal.main_v0_2) = v2 c
          ∧ r.2.mem ((c.tc : Thread Cert.DownIdeal.nD Cert.DownIdeal.τ).loc Cert.DownIdeal.main_v0_3) = v3 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
          ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
          ∧ r.2.mem ((c.tc : Thread Cert.DownIdeal.nD Cert.DownIdeal.τ).loc Cert.DownIdeal.main_arg4) = m ((c.tc : Thread Cert.DownIdeal.nD Cert.DownIdeal.τ).loc Cert.DownIdeal.main_arg4))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v52) = v0 c
          ∧ r.2.mem ((c.tc : Thread Cert.DownRefIdeal.nD Cert.DownRefIdeal.τ).loc Cert.DownRefIdeal.main_v69) = v1 c
          ∧ r.2.mem ((c.tc : Thread Cert.DownRefIdeal.nD Cert.DownRefIdeal.τ).loc Cert.DownRefIdeal.main_v68) = v2 c
          ∧ r.2.mem ((c.tc : Thread Cert.DownRefIdeal.nD Cert.DownRefIdeal.τ).loc Cert.DownRefIdeal.main_v36) = v3 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1)
          ∧ r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2)
          ∧ r.2.mem ((c.tc : Thread Cert.DownRefIdeal.nD Cert.DownRefIdeal.τ).loc Cert.DownRefIdeal.main_arg3) = m' ((c.tc : Thread Cert.DownRefIdeal.nD Cert.DownRefIdeal.τ).loc Cert.DownRefIdeal.main_arg3)
          ∧ r.2.mem ((c.tc : Thread Cert.DownRefIdeal.nD Cert.DownRefIdeal.τ).loc Cert.DownRefIdeal.main_arg4) = m' ((c.tc : Thread Cert.DownRefIdeal.nD Cert.DownRefIdeal.τ).loc Cert.DownRefIdeal.main_arg4))

def preserves_OutProj_OutProjIdeal : Prop :=
  True

def algebraic_OutProjIdeal_OutProjRefIdeal [hOutProjIdeal : Cert.OutProjIdeal.Facts] [hOutProjRefIdeal : Cert.OutProjRefIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjRefIdeal.nD Cert.OutProjRefIdeal.τ Cert.OutProjRefIdeal.sig) → Buf (Elt Ideal) ℓ) (g' : Dev Cert.OutProjRefIdeal.nD → PrngReg), Pre_OutProjIdeal m →
    (∀ c : Dev Cert.OutProjIdeal.nD,
      m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
      ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)
      ∧ m' ((c.tc : Thread Cert.OutProjRefIdeal.nD Cert.OutProjRefIdeal.τ).loc Cert.OutProjRefIdeal.main_arg2) = m ((c.tc : Thread Cert.OutProjIdeal.nD Cert.OutProjIdeal.τ).loc Cert.OutProjIdeal.main_arg2)
      ∧ m' ((c.tc : Thread Cert.OutProjRefIdeal.nD Cert.OutProjRefIdeal.τ).loc Cert.OutProjRefIdeal.main_arg3) = m ((c.tc : Thread Cert.OutProjIdeal.nD Cert.OutProjIdeal.τ).loc Cert.OutProjIdeal.main_arg3)) →
    ∃ (v0 : (c : Dev Cert.OutProjIdeal.nD) → Buf (Elt Ideal) ((c.tc : Thread Cert.OutProjIdeal.nD Cert.OutProjIdeal.τ).loc Cert.OutProjIdeal.main_v0_0)) (v1 : (c : Dev Cert.OutProjIdeal.nD) → Buf (Elt Ideal) ((c.tc : Thread Cert.OutProjIdeal.nD Cert.OutProjIdeal.τ).loc Cert.OutProjIdeal.main_v0_1)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v0_0) = v0 c
          ∧ r.2.mem ((c.tc : Thread Cert.OutProjIdeal.nD Cert.OutProjIdeal.τ).loc Cert.OutProjIdeal.main_v0_1) = v1 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
          ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3))
      ∧ θ_run (Cert.OutProjRefIdeal.defs (F := Ideal)) (onTc (τ := Cert.OutProjRefIdeal.τ) (Cert.OutProjRefIdeal.main (F := Ideal))) ⟨m', fun _ => 0, g'⟩ (fun r => ∀ c : Dev Cert.OutProjRefIdeal.nD,
          r.2.mem ((c.tc : Thread Cert.OutProjRefIdeal.nD Cert.OutProjRefIdeal.τ).loc Cert.OutProjRefIdeal.main_v3) = v0 c
          ∧ r.2.mem ((c.tc : Thread Cert.OutProjRefIdeal.nD Cert.OutProjRefIdeal.τ).loc Cert.OutProjRefIdeal.main_v16) = v1 c
          ∧ r.2.mem ((c.tc : Thread Cert.OutProjRefIdeal.nD Cert.OutProjRefIdeal.τ).loc Cert.OutProjRefIdeal.main_arg0) = m' ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1) = m' ((c.tc : Thread Cert.OutProjRefIdeal.nD Cert.OutProjRefIdeal.τ).loc Cert.OutProjRefIdeal.main_arg1)
          ∧ r.2.mem ((c.tc : Thread Cert.OutProjRefIdeal.nD Cert.OutProjRefIdeal.τ).loc Cert.OutProjRefIdeal.main_arg2) = m' ((c.tc : Thread Cert.OutProjRefIdeal.nD Cert.OutProjRefIdeal.τ).loc Cert.OutProjRefIdeal.main_arg2)
          ∧ r.2.mem ((c.tc : Thread Cert.OutProjRefIdeal.nD Cert.OutProjRefIdeal.τ).loc Cert.OutProjRefIdeal.main_arg3) = m' ((c.tc : Thread Cert.OutProjRefIdeal.nD Cert.OutProjRefIdeal.τ).loc Cert.OutProjRefIdeal.main_arg3))

def preserves_BranchMerge_BranchMergeIdeal : Prop :=
  True

def algebraic_BranchMergeIdeal_BranchMergeRefIdeal [hBranchMergeIdeal : Cert.BranchMergeIdeal.Facts] [hBranchMergeRefIdeal : Cert.BranchMergeRefIdeal.Facts] : Prop :=
  ∀ (m : (ℓ : Loc Cert.BranchMergeIdeal.nD Cert.BranchMergeIdeal.τ Cert.BranchMergeIdeal.sig) → Buf (Elt Ideal) ℓ) (g : Dev Cert.BranchMergeIdeal.nD → PrngReg)
    (m' : (ℓ : Loc Cert.BranchMergeRefIdeal.nD Cert.BranchMergeRefIdeal.τ Cert.BranchMergeRefIdeal.sig) → Buf (Elt Ideal) ℓ) (g' : Dev Cert.BranchMergeRefIdeal.nD → PrngReg), Pre_BranchMergeIdeal m →
    (∀ c : Dev Cert.BranchMergeIdeal.nD,
      m' ((c.tc : Thread Cert.BranchMergeRefIdeal.nD Cert.BranchMergeRefIdeal.τ).loc Cert.BranchMergeRefIdeal.main_arg0) = m ((c.tc : Thread Cert.BranchMergeIdeal.nD Cert.BranchMergeIdeal.τ).loc Cert.BranchMergeIdeal.main_arg0)
      ∧ m' ((c.tc : Thread Cert.BranchMergeRefIdeal.nD Cert.BranchMergeRefIdeal.τ).loc Cert.BranchMergeRefIdeal.main_arg1) = m ((c.tc : Thread Cert.BranchMergeIdeal.nD Cert.BranchMergeIdeal.τ).loc Cert.BranchMergeIdeal.main_arg1)
      ∧ m' ((c.tc : Thread Cert.BranchMergeRefIdeal.nD Cert.BranchMergeRefIdeal.τ).loc Cert.BranchMergeRefIdeal.main_arg2) = m ((c.tc : Thread Cert.BranchMergeIdeal.nD Cert.BranchMergeIdeal.τ).loc Cert.BranchMergeIdeal.main_arg2)
      ∧ m' ((c.tc : Thread Cert.BranchMergeRefIdeal.nD Cert.BranchMergeRefIdeal.τ).loc Cert.BranchMergeRefIdeal.main_arg3) = m ((c.tc : Thread Cert.BranchMergeIdeal.nD Cert.BranchMergeIdeal.τ).loc Cert.BranchMergeIdeal.main_arg3)) →
    ∃ (v0 : (c : Dev Cert.BranchMergeIdeal.nD) → Buf (Elt Ideal) ((c.tc : Thread Cert.BranchMergeIdeal.nD Cert.BranchMergeIdeal.τ).loc Cert.BranchMergeIdeal.main_v0_0)) (v1 : (c : Dev Cert.BranchMergeIdeal.nD) → Buf (Elt Ideal) ((c.tc : Thread Cert.BranchMergeIdeal.nD Cert.BranchMergeIdeal.τ).loc Cert.BranchMergeIdeal.main_v0_1)),
      θ_run (Cert.BranchMergeIdeal.defs (F := Ideal)) (onTc (τ := Cert.BranchMergeIdeal.τ) (Cert.BranchMergeIdeal.main (F := Ideal))) ⟨m, fun _ => 0, g⟩ (fun r => ∀ c : Dev Cert.BranchMergeIdeal.nD,
          r.2.mem ((c.tc : Thread Cert.BranchMergeIdeal.nD Cert.BranchMergeIdeal.τ).loc Cert.BranchMergeIdeal.main_v0_0) = v0 c
          ∧ r.2.mem ((c.tc : Thread Cert.BranchMergeIdeal.nD Cert.BranchMergeIdeal.τ).loc Cert.BranchMergeIdeal.main_v0_1) = v1 c
          ∧ r.2.mem ((c.tc : Thread Cert.BranchMergeIdeal.nD Cert.BranchMergeIdeal.τ).loc Cert.BranchMergeIdeal.main_arg0) = m ((c.tc : Thread Cert.BranchMergeIdeal.nD Cert.BranchMergeIdeal.τ).loc Cert.BranchMergeIdeal.main_arg0)
          ∧ r.2.mem ((c.tc : Thread Cert.BranchMergeIdeal.nD Cert.BranchMergeIdeal.τ).loc Cert.BranchMergeIdeal.main_arg1) = m ((c.tc : Thread Cert.BranchMergeIdeal.nD Cert.BranchMergeIdeal.τ).loc Cert.BranchMergeIdeal.main_arg1)
          ∧ r.2.mem ((c.tc : Thread Cert.BranchMergeIdeal.nD Cert.BranchMergeIdeal.τ).loc Cert.BranchMergeIdeal.main_arg2) = m ((c.tc : Thread Cert.BranchMergeIdeal.nD Cert.BranchMergeIdeal.τ).loc Cert.BranchMergeIdeal.main_arg2)
          ∧ r.2.mem ((c.tc : Thread Cert.BranchMergeIdeal.nD Cert.BranchMergeIdeal.τ).loc Cert.BranchMergeIdeal.main_arg3) = m ((c.tc : Thread Cert.BranchMergeIdeal.nD Cert.BranchMergeIdeal.τ).loc Cert.BranchMergeIdeal.main_arg3))
      ∧ θ_run (Cert.BranchMergeRefIdeal.defs (F := Ideal)) (onTc (τ := Cert.BranchMergeRefIdeal.τ) (Cert.BranchMergeRefIdeal.main (F := Ideal))) ⟨m', fun _ => 0, g'⟩ (fun r => ∀ c : Dev Cert.BranchMergeRefIdeal.nD,
          r.2.mem ((c.tc : Thread Cert.BranchMergeRefIdeal.nD Cert.BranchMergeRefIdeal.τ).loc Cert.BranchMergeRefIdeal.main_v2) = v0 c
          ∧ r.2.mem ((c.tc : Thread Cert.BranchMergeRefIdeal.nD Cert.BranchMergeRefIdeal.τ).loc Cert.BranchMergeRefIdeal.main_v20) = v1 c
          ∧ r.2.mem ((c.tc : Thread Cert.BranchMergeRefIdeal.nD Cert.BranchMergeRefIdeal.τ).loc Cert.BranchMergeRefIdeal.main_arg0) = m' ((c.tc : Thread Cert.BranchMergeRefIdeal.nD Cert.BranchMergeRefIdeal.τ).loc Cert.BranchMergeRefIdeal.main_arg0)
          ∧ r.2.mem ((c.tc : Thread Cert.BranchMergeRefIdeal.nD Cert.BranchMergeRefIdeal.τ).loc Cert.BranchMergeRefIdeal.main_arg1) = m' ((c.tc : Thread Cert.BranchMergeRefIdeal.nD Cert.BranchMergeRefIdeal.τ).loc Cert.BranchMergeRefIdeal.main_arg1)
          ∧ r.2.mem ((c.tc : Thread Cert.BranchMergeRefIdeal.nD Cert.BranchMergeRefIdeal.τ).loc Cert.BranchMergeRefIdeal.main_arg2) = m' ((c.tc : Thread Cert.BranchMergeRefIdeal.nD Cert.BranchMergeRefIdeal.τ).loc Cert.BranchMergeRefIdeal.main_arg2)
          ∧ r.2.mem ((c.tc : Thread Cert.BranchMergeRefIdeal.nD Cert.BranchMergeRefIdeal.τ).loc Cert.BranchMergeRefIdeal.main_arg3) = m' ((c.tc : Thread Cert.BranchMergeRefIdeal.nD Cert.BranchMergeRefIdeal.τ).loc Cert.BranchMergeRefIdeal.main_arg3))

def preserves_ProjSmall_ProjSmallIdeal : Prop :=
  True

def algebraic_ProjSmallIdeal_ProjSmallRefIdeal [hProjSmallIdeal : Cert.ProjSmallIdeal.Facts] [hProjSmallRefIdeal : Cert.ProjSmallRefIdeal.Facts] : Prop :=
  ∀ (m : (ℓ : Loc Cert.ProjSmallIdeal.nD Cert.ProjSmallIdeal.τ Cert.ProjSmallIdeal.sig) → Buf (Elt Ideal) ℓ) (g : Dev Cert.ProjSmallIdeal.nD → PrngReg)
    (m' : (ℓ : Loc Cert.ProjSmallRefIdeal.nD Cert.ProjSmallRefIdeal.τ Cert.ProjSmallRefIdeal.sig) → Buf (Elt Ideal) ℓ) (g' : Dev Cert.ProjSmallRefIdeal.nD → PrngReg), Pre_ProjSmallIdeal m →
    (∀ c : Dev Cert.ProjSmallIdeal.nD,
      m' ((c.tc : Thread Cert.ProjSmallRefIdeal.nD Cert.ProjSmallRefIdeal.τ).loc Cert.ProjSmallRefIdeal.main_arg0) = m ((c.tc : Thread Cert.ProjSmallIdeal.nD Cert.ProjSmallIdeal.τ).loc Cert.ProjSmallIdeal.main_arg0)
      ∧ m' ((c.tc : Thread Cert.ProjSmallRefIdeal.nD Cert.ProjSmallRefIdeal.τ).loc Cert.ProjSmallRefIdeal.main_arg1) = m ((c.tc : Thread Cert.ProjSmallIdeal.nD Cert.ProjSmallIdeal.τ).loc Cert.ProjSmallIdeal.main_arg1)) →
    ∃ (v0 : (c : Dev Cert.ProjSmallIdeal.nD) → Buf (Elt Ideal) ((c.tc : Thread Cert.ProjSmallIdeal.nD Cert.ProjSmallIdeal.τ).loc Cert.ProjSmallIdeal.main_v0)),
      θ_run (Cert.ProjSmallIdeal.defs (F := Ideal)) (onTc (τ := Cert.ProjSmallIdeal.τ) (Cert.ProjSmallIdeal.main (F := Ideal))) ⟨m, fun _ => 0, g⟩ (fun r => ∀ c : Dev Cert.ProjSmallIdeal.nD,
          r.2.mem ((c.tc : Thread Cert.ProjSmallIdeal.nD Cert.ProjSmallIdeal.τ).loc Cert.ProjSmallIdeal.main_v0) = v0 c
          ∧ r.2.mem ((c.tc : Thread Cert.ProjSmallIdeal.nD Cert.ProjSmallIdeal.τ).loc Cert.ProjSmallIdeal.main_arg0) = m ((c.tc : Thread Cert.ProjSmallIdeal.nD Cert.ProjSmallIdeal.τ).loc Cert.ProjSmallIdeal.main_arg0)
          ∧ r.2.mem ((c.tc : Thread Cert.ProjSmallIdeal.nD Cert.ProjSmallIdeal.τ).loc Cert.ProjSmallIdeal.main_arg1) = m ((c.tc : Thread Cert.ProjSmallIdeal.nD Cert.ProjSmallIdeal.τ).loc Cert.ProjSmallIdeal.main_arg1))
      ∧ θ_run (Cert.ProjSmallRefIdeal.defs (F := Ideal)) (onTc (τ := Cert.ProjSmallRefIdeal.τ) (Cert.ProjSmallRefIdeal.main (F := Ideal))) ⟨m', fun _ => 0, g'⟩ (fun r => ∀ c : Dev Cert.ProjSmallRefIdeal.nD,
          r.2.mem ((c.tc : Thread Cert.ProjSmallRefIdeal.nD Cert.ProjSmallRefIdeal.τ).loc Cert.ProjSmallRefIdeal.main_v2) = v0 c
          ∧ r.2.mem ((c.tc : Thread Cert.ProjSmallRefIdeal.nD Cert.ProjSmallRefIdeal.τ).loc Cert.ProjSmallRefIdeal.main_arg0) = m' ((c.tc : Thread Cert.ProjSmallRefIdeal.nD Cert.ProjSmallRefIdeal.τ).loc Cert.ProjSmallRefIdeal.main_arg0)
          ∧ r.2.mem ((c.tc : Thread Cert.ProjSmallRefIdeal.nD Cert.ProjSmallRefIdeal.τ).loc Cert.ProjSmallRefIdeal.main_arg1) = m' ((c.tc : Thread Cert.ProjSmallRefIdeal.nD Cert.ProjSmallRefIdeal.τ).loc Cert.ProjSmallRefIdeal.main_arg1))

def preserves_NormMix_NormMixIdeal : Prop :=
  True

def algebraic_NormMixIdeal_NormMixRefIdeal [hNormMixIdeal : Cert.NormMixIdeal.Facts] [hNormMixRefIdeal : Cert.NormMixRefIdeal.Facts] : Prop :=
  ∀ (m : (ℓ : Loc Cert.NormMixIdeal.nD Cert.NormMixIdeal.τ Cert.NormMixIdeal.sig) → Buf (Elt Ideal) ℓ) (g : Dev Cert.NormMixIdeal.nD → PrngReg)
    (m' : (ℓ : Loc Cert.NormMixRefIdeal.nD Cert.NormMixRefIdeal.τ Cert.NormMixRefIdeal.sig) → Buf (Elt Ideal) ℓ) (g' : Dev Cert.NormMixRefIdeal.nD → PrngReg), Pre_NormMixIdeal m →
    (∀ c : Dev Cert.NormMixIdeal.nD,
      m' ((c.tc : Thread Cert.NormMixRefIdeal.nD Cert.NormMixRefIdeal.τ).loc Cert.NormMixRefIdeal.main_arg0) = m ((c.tc : Thread Cert.NormMixIdeal.nD Cert.NormMixIdeal.τ).loc Cert.NormMixIdeal.main_arg0)
      ∧ m' ((c.tc : Thread Cert.NormMixRefIdeal.nD Cert.NormMixRefIdeal.τ).loc Cert.NormMixRefIdeal.main_arg1) = m ((c.tc : Thread Cert.NormMixIdeal.nD Cert.NormMixIdeal.τ).loc Cert.NormMixIdeal.main_arg1)) →
    ∃ (v0 : (c : Dev Cert.NormMixIdeal.nD) → Buf (Elt Ideal) ((c.tc : Thread Cert.NormMixIdeal.nD Cert.NormMixIdeal.τ).loc Cert.NormMixIdeal.main_v0)),
      θ_run (Cert.NormMixIdeal.defs (F := Ideal)) (onTc (τ := Cert.NormMixIdeal.τ) (Cert.NormMixIdeal.main (F := Ideal))) ⟨m, fun _ => 0, g⟩ (fun r => ∀ c : Dev Cert.NormMixIdeal.nD,
          r.2.mem ((c.tc : Thread Cert.NormMixIdeal.nD Cert.NormMixIdeal.τ).loc Cert.NormMixIdeal.main_v0) = v0 c
          ∧ r.2.mem ((c.tc : Thread Cert.NormMixIdeal.nD Cert.NormMixIdeal.τ).loc Cert.NormMixIdeal.main_arg0) = m ((c.tc : Thread Cert.NormMixIdeal.nD Cert.NormMixIdeal.τ).loc Cert.NormMixIdeal.main_arg0)
          ∧ r.2.mem ((c.tc : Thread Cert.NormMixIdeal.nD Cert.NormMixIdeal.τ).loc Cert.NormMixIdeal.main_arg1) = m ((c.tc : Thread Cert.NormMixIdeal.nD Cert.NormMixIdeal.τ).loc Cert.NormMixIdeal.main_arg1))
      ∧ θ_run (Cert.NormMixRefIdeal.defs (F := Ideal)) (onTc (τ := Cert.NormMixRefIdeal.τ) (Cert.NormMixRefIdeal.main (F := Ideal))) ⟨m', fun _ => 0, g'⟩ (fun r => ∀ c : Dev Cert.NormMixRefIdeal.nD,
          r.2.mem ((c.tc : Thread Cert.NormMixRefIdeal.nD Cert.NormMixRefIdeal.τ).loc Cert.NormMixRefIdeal.main_v12) = v0 c
          ∧ r.2.mem ((c.tc : Thread Cert.NormMixRefIdeal.nD Cert.NormMixRefIdeal.τ).loc Cert.NormMixRefIdeal.main_arg0) = m' ((c.tc : Thread Cert.NormMixRefIdeal.nD Cert.NormMixRefIdeal.τ).loc Cert.NormMixRefIdeal.main_arg0)
          ∧ r.2.mem ((c.tc : Thread Cert.NormMixRefIdeal.nD Cert.NormMixRefIdeal.τ).loc Cert.NormMixRefIdeal.main_arg1) = m' ((c.tc : Thread Cert.NormMixRefIdeal.nD Cert.NormMixRefIdeal.τ).loc Cert.NormMixRefIdeal.main_arg1))

def preserves_Gate_GateIdeal : Prop :=
  True

def algebraic_GateIdeal_GateRefIdeal [hGateIdeal : Cert.GateIdeal.Facts] [hGateRefIdeal : Cert.GateRefIdeal.Facts] : Prop :=
  ∀ (m : (ℓ : Loc Cert.GateIdeal.nD Cert.GateIdeal.τ Cert.GateIdeal.sig) → Buf (Elt Ideal) ℓ) (g : Dev Cert.GateIdeal.nD → PrngReg)
    (m' : (ℓ : Loc Cert.GateRefIdeal.nD Cert.GateRefIdeal.τ Cert.GateRefIdeal.sig) → Buf (Elt Ideal) ℓ) (g' : Dev Cert.GateRefIdeal.nD → PrngReg), Pre_GateIdeal m →
    (∀ c : Dev Cert.GateIdeal.nD,
      m' ((c.tc : Thread Cert.GateRefIdeal.nD Cert.GateRefIdeal.τ).loc Cert.GateRefIdeal.main_arg0) = m ((c.tc : Thread Cert.GateIdeal.nD Cert.GateIdeal.τ).loc Cert.GateIdeal.main_arg0)
      ∧ m' ((c.tc : Thread Cert.GateRefIdeal.nD Cert.GateRefIdeal.τ).loc Cert.GateRefIdeal.main_arg1) = m ((c.tc : Thread Cert.GateIdeal.nD Cert.GateIdeal.τ).loc Cert.GateIdeal.main_arg1)
      ∧ m' ((c.tc : Thread Cert.GateRefIdeal.nD Cert.GateRefIdeal.τ).loc Cert.GateRefIdeal.main_arg2) = m ((c.tc : Thread Cert.GateIdeal.nD Cert.GateIdeal.τ).loc Cert.GateIdeal.main_arg2)
      ∧ m' ((c.tc : Thread Cert.GateRefIdeal.nD Cert.GateRefIdeal.τ).loc Cert.GateRefIdeal.main_arg3) = m ((c.tc : Thread Cert.GateIdeal.nD Cert.GateIdeal.τ).loc Cert.GateIdeal.main_arg3)) →
    ∃ (v0 : (c : Dev Cert.GateIdeal.nD) → Buf (Elt Ideal) ((c.tc : Thread Cert.GateIdeal.nD Cert.GateIdeal.τ).loc Cert.GateIdeal.main_v0)),
      θ_run (Cert.GateIdeal.defs (F := Ideal)) (onTc (τ := Cert.GateIdeal.τ) (Cert.GateIdeal.main (F := Ideal))) ⟨m, fun _ => 0, g⟩ (fun r => ∀ c : Dev Cert.GateIdeal.nD,
          r.2.mem ((c.tc : Thread Cert.GateIdeal.nD Cert.GateIdeal.τ).loc Cert.GateIdeal.main_v0) = v0 c
          ∧ r.2.mem ((c.tc : Thread Cert.GateIdeal.nD Cert.GateIdeal.τ).loc Cert.GateIdeal.main_arg0) = m ((c.tc : Thread Cert.GateIdeal.nD Cert.GateIdeal.τ).loc Cert.GateIdeal.main_arg0)
          ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
          ∧ r.2.mem ((c.tc : Thread Cert.GateIdeal.nD Cert.GateIdeal.τ).loc Cert.GateIdeal.main_arg2) = m ((c.tc : Thread Cert.GateIdeal.nD Cert.GateIdeal.τ).loc Cert.GateIdeal.main_arg2)
          ∧ r.2.mem ((c.tc : Thread Cert.GateIdeal.nD Cert.GateIdeal.τ).loc Cert.GateIdeal.main_arg3) = m ((c.tc : Thread Cert.GateIdeal.nD Cert.GateIdeal.τ).loc Cert.GateIdeal.main_arg3))
      ∧ θ_run (Cert.GateRefIdeal.defs (F := Ideal)) (onTc (τ := Cert.GateRefIdeal.τ) (Cert.GateRefIdeal.main (F := Ideal))) ⟨m', fun _ => 0, g'⟩ (fun r => ∀ c : Dev Cert.GateRefIdeal.nD,
          r.2.mem ((c.tc : Thread Cert.GateRefIdeal.nD Cert.GateRefIdeal.τ).loc Cert.GateRefIdeal.main_v51) = v0 c
          ∧ r.2.mem ((c.tc : Thread Cert.GateRefIdeal.nD Cert.GateRefIdeal.τ).loc Cert.GateRefIdeal.main_arg0) = m' ((c.tc : Thread Cert.GateRefIdeal.nD Cert.GateRefIdeal.τ).loc Cert.GateRefIdeal.main_arg0)
          ∧ r.2.mem ((c.tc : Thread Cert.GateRefIdeal.nD Cert.GateRefIdeal.τ).loc Cert.GateRefIdeal.main_arg1) = m' ((c.tc : Thread Cert.GateRefIdeal.nD Cert.GateRefIdeal.τ).loc Cert.GateRefIdeal.main_arg1)
          ∧ r.2.mem ((c.tc : Thread Cert.GateRefIdeal.nD Cert.GateRefIdeal.τ).loc Cert.GateRefIdeal.main_arg2) = m' ((c.tc : Thread Cert.GateRefIdeal.nD Cert.GateRefIdeal.τ).loc Cert.GateRefIdeal.main_arg2)
          ∧ r.2.mem ((c.tc : Thread Cert.GateRefIdeal.nD Cert.GateRefIdeal.τ).loc Cert.GateRefIdeal.main_arg3) = m' ((c.tc : Thread Cert.GateRefIdeal.nD Cert.GateRefIdeal.τ).loc Cert.GateRefIdeal.main_arg3))

def Claim : Prop :=
  ∃ (hFoxBwd : Cert.FoxBwd.Facts) (hFoxBwdIdeal : Cert.FoxBwdIdeal.Facts) (hFoxRefIdeal : Cert.FoxRefIdeal.Facts) (hMergeBwd : Cert.MergeBwd.Facts) (hMergeBwdIdeal : Cert.MergeBwdIdeal.Facts) (hMergeRefIdeal : Cert.MergeRefIdeal.Facts) (hDAct : Cert.DAct.Facts) (hDActIdeal : Cert.DActIdeal.Facts) (hDActRefIdeal : Cert.DActRefIdeal.Facts) (hDHn2 : Cert.DHn2.Facts) (hDHn2Ideal : Cert.DHn2Ideal.Facts) (hDHn2RefIdeal : Cert.DHn2RefIdeal.Facts) (hDBranch : Cert.DBranch.Facts) (hDBranchIdeal : Cert.DBranchIdeal.Facts) (hDBranchRefIdeal : Cert.DBranchRefIdeal.Facts) (hDHFox : Cert.DHFox.Facts) (hDHFoxIdeal : Cert.DHFoxIdeal.Facts) (hDHFoxRefIdeal : Cert.DHFoxRefIdeal.Facts) (hDHQkv : Cert.DHQkv.Facts) (hDHQkvIdeal : Cert.DHQkvIdeal.Facts) (hDHQkvRefIdeal : Cert.DHQkvRefIdeal.Facts) (hDHGates : Cert.DHGates.Facts) (hDHGatesIdeal : Cert.DHGatesIdeal.Facts) (hDHGatesRefIdeal : Cert.DHGatesRefIdeal.Facts) (hDHGz : Cert.DHGz.Facts) (hDHGzIdeal : Cert.DHGzIdeal.Facts) (hDHGzRefIdeal : Cert.DHGzRefIdeal.Facts) (hDwDown : Cert.DwDown.Facts) (hDwDownIdeal : Cert.DwDownIdeal.Facts) (hDwDownRefIdeal : Cert.DwDownRefIdeal.Facts) (hDwUp : Cert.DwUp.Facts) (hDwUpIdeal : Cert.DwUpIdeal.Facts) (hDwUpRefIdeal : Cert.DwUpRefIdeal.Facts) (hDwOut : Cert.DwOut.Facts) (hDwOutIdeal : Cert.DwOutIdeal.Facts) (hDwOutRefIdeal : Cert.DwOutRefIdeal.Facts) (hDwQkv : Cert.DwQkv.Facts) (hDwQkvIdeal : Cert.DwQkvIdeal.Facts) (hDwQkvRefIdeal : Cert.DwQkvRefIdeal.Facts) (hDwGates : Cert.DwGates.Facts) (hDwGatesIdeal : Cert.DwGatesIdeal.Facts) (hDwGatesRefIdeal : Cert.DwGatesRefIdeal.Facts) (hDwGz : Cert.DwGz.Facts) (hDwGzIdeal : Cert.DwGzIdeal.Facts) (hDwGzRefIdeal : Cert.DwGzRefIdeal.Facts) (hProjFox : Cert.ProjFox.Facts) (hProjFoxIdeal : Cert.ProjFoxIdeal.Facts) (hProjFoxRefIdeal : Cert.ProjFoxRefIdeal.Facts) (hProjQkv : Cert.ProjQkv.Facts) (hProjQkvIdeal : Cert.ProjQkvIdeal.Facts) (hProjQkvRefIdeal : Cert.ProjQkvRefIdeal.Facts) (hProjGates : Cert.ProjGates.Facts) (hProjGatesIdeal : Cert.ProjGatesIdeal.Facts) (hProjGatesRefIdeal : Cert.ProjGatesRefIdeal.Facts) (hProjGz : Cert.ProjGz.Facts) (hProjGzIdeal : Cert.ProjGzIdeal.Facts) (hProjGzRefIdeal : Cert.ProjGzRefIdeal.Facts) (hBranch : Cert.Branch.Facts) (hBranchIdeal : Cert.BranchIdeal.Facts) (hBranchRefIdeal : Cert.BranchRefIdeal.Facts) (hUp : Cert.Up.Facts) (hUpIdeal : Cert.UpIdeal.Facts) (hUpRefIdeal : Cert.UpRefIdeal.Facts) (hAdamNorm : Cert.AdamNorm.Facts) (hAdamNormIdeal : Cert.AdamNormIdeal.Facts) (hAdamNormRefIdeal : Cert.AdamNormRefIdeal.Facts) (hAdamIn : Cert.AdamIn.Facts) (hAdamInIdeal : Cert.AdamInIdeal.Facts) (hAdamInRefIdeal : Cert.AdamInRefIdeal.Facts) (hAdamHead : Cert.AdamHead.Facts) (hAdamHeadIdeal : Cert.AdamHeadIdeal.Facts) (hAdamHeadRefIdeal : Cert.AdamHeadRefIdeal.Facts) (hAdamConv : Cert.AdamConv.Facts) (hAdamConvIdeal : Cert.AdamConvIdeal.Facts) (hAdamConvRefIdeal : Cert.AdamConvRefIdeal.Facts) (hAdamGnorm : Cert.AdamGnorm.Facts) (hAdamGnormIdeal : Cert.AdamGnormIdeal.Facts) (hAdamGnormRefIdeal : Cert.AdamGnormRefIdeal.Facts) (hAdamOut : Cert.AdamOut.Facts) (hAdamOutIdeal : Cert.AdamOutIdeal.Facts) (hAdamOutRefIdeal : Cert.AdamOutRefIdeal.Facts) (hAdamUp : Cert.AdamUp.Facts) (hAdamUpIdeal : Cert.AdamUpIdeal.Facts) (hAdamUpRefIdeal : Cert.AdamUpRefIdeal.Facts) (hAdamFconv : Cert.AdamFconv.Facts) (hAdamFconvIdeal : Cert.AdamFconvIdeal.Facts) (hAdamFconvRefIdeal : Cert.AdamFconvRefIdeal.Facts) (hAdamDown : Cert.AdamDown.Facts) (hAdamDownIdeal : Cert.AdamDownIdeal.Facts) (hAdamDownRefIdeal : Cert.AdamDownRefIdeal.Facts) (hGradX : Cert.GradX.Facts) (hGradXIdeal : Cert.GradXIdeal.Facts) (hGradXRefIdeal : Cert.GradXRefIdeal.Facts) (hDH1 : Cert.DH1.Facts) (hDH1Ideal : Cert.DH1Ideal.Facts) (hDH1RefIdeal : Cert.DH1RefIdeal.Facts) (hDwSmall : Cert.DwSmall.Facts) (hDwSmallIdeal : Cert.DwSmallIdeal.Facts) (hDwSmallRefIdeal : Cert.DwSmallRefIdeal.Facts) (hDown : Cert.Down.Facts) (hDownIdeal : Cert.DownIdeal.Facts) (hDownRefIdeal : Cert.DownRefIdeal.Facts) (hOutProj : Cert.OutProj.Facts) (hOutProjIdeal : Cert.OutProjIdeal.Facts) (hOutProjRefIdeal : Cert.OutProjRefIdeal.Facts) (hBranchMerge : Cert.BranchMerge.Facts) (hBranchMergeIdeal : Cert.BranchMergeIdeal.Facts) (hBranchMergeRefIdeal : Cert.BranchMergeRefIdeal.Facts) (hProjSmall : Cert.ProjSmall.Facts) (hProjSmallIdeal : Cert.ProjSmallIdeal.Facts) (hProjSmallRefIdeal : Cert.ProjSmallRefIdeal.Facts) (hNormMix : Cert.NormMix.Facts) (hNormMixIdeal : Cert.NormMixIdeal.Facts) (hNormMixRefIdeal : Cert.NormMixRefIdeal.Facts) (hGate : Cert.Gate.Facts) (hGateIdeal : Cert.GateIdeal.Facts) (hGateRefIdeal : Cert.GateRefIdeal.Facts) (hPre_fox_finite : Cert.Pre_fox_finite.Facts),
    quiescent_FoxBwd (hFoxBwd := hFoxBwd)
    ∧ quiescent_FoxBwdIdeal (hFoxBwdIdeal := hFoxBwdIdeal)
    ∧ quiescent_FoxBwdIdeal_pre_fox_finite (hFoxBwdIdeal := hFoxBwdIdeal) (hPre_fox_finite := hPre_fox_finite)
    ∧ quiescent_FoxRefIdeal (hFoxRefIdeal := hFoxRefIdeal)
    ∧ quiescent_FoxRefIdeal_pre_fox_finite (hFoxRefIdeal := hFoxRefIdeal) (hPre_fox_finite := hPre_fox_finite)
    ∧ quiescent_MergeBwd (hMergeBwd := hMergeBwd)
    ∧ quiescent_MergeBwdIdeal (hMergeBwdIdeal := hMergeBwdIdeal)
    ∧ quiescent_MergeRefIdeal (hMergeRefIdeal := hMergeRefIdeal)
    ∧ quiescent_DAct (hDAct := hDAct)
    ∧ quiescent_DActIdeal (hDActIdeal := hDActIdeal)
    ∧ quiescent_DActRefIdeal (hDActRefIdeal := hDActRefIdeal)
    ∧ quiescent_DHn2 (hDHn2 := hDHn2)
    ∧ quiescent_DHn2Ideal (hDHn2Ideal := hDHn2Ideal)
    ∧ quiescent_DHn2RefIdeal (hDHn2RefIdeal := hDHn2RefIdeal)
    ∧ quiescent_DBranch (hDBranch := hDBranch)
    ∧ quiescent_DBranchIdeal (hDBranchIdeal := hDBranchIdeal)
    ∧ quiescent_DBranchRefIdeal (hDBranchRefIdeal := hDBranchRefIdeal)
    ∧ quiescent_DHFox (hDHFox := hDHFox)
    ∧ quiescent_DHFoxIdeal (hDHFoxIdeal := hDHFoxIdeal)
    ∧ quiescent_DHFoxRefIdeal (hDHFoxRefIdeal := hDHFoxRefIdeal)
    ∧ quiescent_DHQkv (hDHQkv := hDHQkv)
    ∧ quiescent_DHQkvIdeal (hDHQkvIdeal := hDHQkvIdeal)
    ∧ quiescent_DHQkvRefIdeal (hDHQkvRefIdeal := hDHQkvRefIdeal)
    ∧ quiescent_DHGates (hDHGates := hDHGates)
    ∧ quiescent_DHGatesIdeal (hDHGatesIdeal := hDHGatesIdeal)
    ∧ quiescent_DHGatesRefIdeal (hDHGatesRefIdeal := hDHGatesRefIdeal)
    ∧ quiescent_DHGz (hDHGz := hDHGz)
    ∧ quiescent_DHGzIdeal (hDHGzIdeal := hDHGzIdeal)
    ∧ quiescent_DHGzRefIdeal (hDHGzRefIdeal := hDHGzRefIdeal)
    ∧ quiescent_DwDown (hDwDown := hDwDown)
    ∧ quiescent_DwDownIdeal (hDwDownIdeal := hDwDownIdeal)
    ∧ quiescent_DwDownRefIdeal (hDwDownRefIdeal := hDwDownRefIdeal)
    ∧ quiescent_DwUp (hDwUp := hDwUp)
    ∧ quiescent_DwUpIdeal (hDwUpIdeal := hDwUpIdeal)
    ∧ quiescent_DwUpRefIdeal (hDwUpRefIdeal := hDwUpRefIdeal)
    ∧ quiescent_DwOut (hDwOut := hDwOut)
    ∧ quiescent_DwOutIdeal (hDwOutIdeal := hDwOutIdeal)
    ∧ quiescent_DwOutRefIdeal (hDwOutRefIdeal := hDwOutRefIdeal)
    ∧ quiescent_DwQkv (hDwQkv := hDwQkv)
    ∧ quiescent_DwQkvIdeal (hDwQkvIdeal := hDwQkvIdeal)
    ∧ quiescent_DwQkvRefIdeal (hDwQkvRefIdeal := hDwQkvRefIdeal)
    ∧ quiescent_DwGates (hDwGates := hDwGates)
    ∧ quiescent_DwGatesIdeal (hDwGatesIdeal := hDwGatesIdeal)
    ∧ quiescent_DwGatesRefIdeal (hDwGatesRefIdeal := hDwGatesRefIdeal)
    ∧ quiescent_DwGz (hDwGz := hDwGz)
    ∧ quiescent_DwGzIdeal (hDwGzIdeal := hDwGzIdeal)
    ∧ quiescent_DwGzRefIdeal (hDwGzRefIdeal := hDwGzRefIdeal)
    ∧ quiescent_ProjFox (hProjFox := hProjFox)
    ∧ quiescent_ProjFoxIdeal (hProjFoxIdeal := hProjFoxIdeal)
    ∧ quiescent_ProjFoxRefIdeal (hProjFoxRefIdeal := hProjFoxRefIdeal)
    ∧ quiescent_ProjQkv (hProjQkv := hProjQkv)
    ∧ quiescent_ProjQkvIdeal (hProjQkvIdeal := hProjQkvIdeal)
    ∧ quiescent_ProjQkvRefIdeal (hProjQkvRefIdeal := hProjQkvRefIdeal)
    ∧ quiescent_ProjGates (hProjGates := hProjGates)
    ∧ quiescent_ProjGatesIdeal (hProjGatesIdeal := hProjGatesIdeal)
    ∧ quiescent_ProjGatesRefIdeal (hProjGatesRefIdeal := hProjGatesRefIdeal)
    ∧ quiescent_ProjGz (hProjGz := hProjGz)
    ∧ quiescent_ProjGzIdeal (hProjGzIdeal := hProjGzIdeal)
    ∧ quiescent_ProjGzRefIdeal (hProjGzRefIdeal := hProjGzRefIdeal)
    ∧ quiescent_Branch (hBranch := hBranch)
    ∧ quiescent_BranchIdeal (hBranchIdeal := hBranchIdeal)
    ∧ quiescent_BranchRefIdeal (hBranchRefIdeal := hBranchRefIdeal)
    ∧ quiescent_Up (hUp := hUp)
    ∧ quiescent_UpIdeal (hUpIdeal := hUpIdeal)
    ∧ quiescent_UpRefIdeal (hUpRefIdeal := hUpRefIdeal)
    ∧ quiescent_AdamNorm (hAdamNorm := hAdamNorm)
    ∧ quiescent_AdamNormIdeal (hAdamNormIdeal := hAdamNormIdeal)
    ∧ quiescent_AdamNormRefIdeal (hAdamNormRefIdeal := hAdamNormRefIdeal)
    ∧ quiescent_AdamIn (hAdamIn := hAdamIn)
    ∧ quiescent_AdamInIdeal (hAdamInIdeal := hAdamInIdeal)
    ∧ quiescent_AdamInRefIdeal (hAdamInRefIdeal := hAdamInRefIdeal)
    ∧ quiescent_AdamHead (hAdamHead := hAdamHead)
    ∧ quiescent_AdamHeadIdeal (hAdamHeadIdeal := hAdamHeadIdeal)
    ∧ quiescent_AdamHeadRefIdeal (hAdamHeadRefIdeal := hAdamHeadRefIdeal)
    ∧ quiescent_AdamConv (hAdamConv := hAdamConv)
    ∧ quiescent_AdamConvIdeal (hAdamConvIdeal := hAdamConvIdeal)
    ∧ quiescent_AdamConvRefIdeal (hAdamConvRefIdeal := hAdamConvRefIdeal)
    ∧ quiescent_AdamGnorm (hAdamGnorm := hAdamGnorm)
    ∧ quiescent_AdamGnormIdeal (hAdamGnormIdeal := hAdamGnormIdeal)
    ∧ quiescent_AdamGnormRefIdeal (hAdamGnormRefIdeal := hAdamGnormRefIdeal)
    ∧ quiescent_AdamOut (hAdamOut := hAdamOut)
    ∧ quiescent_AdamOutIdeal (hAdamOutIdeal := hAdamOutIdeal)
    ∧ quiescent_AdamOutRefIdeal (hAdamOutRefIdeal := hAdamOutRefIdeal)
    ∧ quiescent_AdamUp (hAdamUp := hAdamUp)
    ∧ quiescent_AdamUpIdeal (hAdamUpIdeal := hAdamUpIdeal)
    ∧ quiescent_AdamUpRefIdeal (hAdamUpRefIdeal := hAdamUpRefIdeal)
    ∧ quiescent_AdamFconv (hAdamFconv := hAdamFconv)
    ∧ quiescent_AdamFconvIdeal (hAdamFconvIdeal := hAdamFconvIdeal)
    ∧ quiescent_AdamFconvRefIdeal (hAdamFconvRefIdeal := hAdamFconvRefIdeal)
    ∧ quiescent_AdamDown (hAdamDown := hAdamDown)
    ∧ quiescent_AdamDownIdeal (hAdamDownIdeal := hAdamDownIdeal)
    ∧ quiescent_AdamDownRefIdeal (hAdamDownRefIdeal := hAdamDownRefIdeal)
    ∧ quiescent_GradX (hGradX := hGradX)
    ∧ quiescent_GradXIdeal (hGradXIdeal := hGradXIdeal)
    ∧ quiescent_GradXRefIdeal (hGradXRefIdeal := hGradXRefIdeal)
    ∧ quiescent_DH1 (hDH1 := hDH1)
    ∧ quiescent_DH1Ideal (hDH1Ideal := hDH1Ideal)
    ∧ quiescent_DH1RefIdeal (hDH1RefIdeal := hDH1RefIdeal)
    ∧ quiescent_DwSmall (hDwSmall := hDwSmall)
    ∧ quiescent_DwSmallIdeal (hDwSmallIdeal := hDwSmallIdeal)
    ∧ quiescent_DwSmallRefIdeal (hDwSmallRefIdeal := hDwSmallRefIdeal)
    ∧ quiescent_Down (hDown := hDown)
    ∧ quiescent_DownIdeal (hDownIdeal := hDownIdeal)
    ∧ quiescent_DownRefIdeal (hDownRefIdeal := hDownRefIdeal)
    ∧ quiescent_OutProj (hOutProj := hOutProj)
    ∧ quiescent_OutProjIdeal (hOutProjIdeal := hOutProjIdeal)
    ∧ quiescent_OutProjRefIdeal (hOutProjRefIdeal := hOutProjRefIdeal)
    ∧ quiescent_BranchMerge (hBranchMerge := hBranchMerge)
    ∧ quiescent_BranchMergeIdeal (hBranchMergeIdeal := hBranchMergeIdeal)
    ∧ quiescent_BranchMergeRefIdeal (hBranchMergeRefIdeal := hBranchMergeRefIdeal)
    ∧ quiescent_ProjSmall (hProjSmall := hProjSmall)
    ∧ quiescent_ProjSmallIdeal (hProjSmallIdeal := hProjSmallIdeal)
    ∧ quiescent_ProjSmallRefIdeal (hProjSmallRefIdeal := hProjSmallRefIdeal)
    ∧ quiescent_NormMix (hNormMix := hNormMix)
    ∧ quiescent_NormMixIdeal (hNormMixIdeal := hNormMixIdeal)
    ∧ quiescent_NormMixRefIdeal (hNormMixRefIdeal := hNormMixRefIdeal)
    ∧ quiescent_Gate (hGate := hGate)
    ∧ quiescent_GateIdeal (hGateIdeal := hGateIdeal)
    ∧ quiescent_GateRefIdeal (hGateRefIdeal := hGateRefIdeal)
    ∧ preserves_FoxBwd_FoxBwdIdeal
    ∧ algebraic_FoxBwdIdeal_FoxRefIdeal_pre_fox_finite (hFoxBwdIdeal := hFoxBwdIdeal) (hFoxRefIdeal := hFoxRefIdeal) (hPre_fox_finite := hPre_fox_finite)
    ∧ preserves_MergeBwd_MergeBwdIdeal
    ∧ algebraic_MergeBwdIdeal_MergeRefIdeal (hMergeBwdIdeal := hMergeBwdIdeal) (hMergeRefIdeal := hMergeRefIdeal)
    ∧ preserves_DAct_DActIdeal
    ∧ algebraic_DActIdeal_DActRefIdeal (hDActIdeal := hDActIdeal) (hDActRefIdeal := hDActRefIdeal)
    ∧ preserves_DHn2_DHn2Ideal
    ∧ algebraic_DHn2Ideal_DHn2RefIdeal (hDHn2Ideal := hDHn2Ideal) (hDHn2RefIdeal := hDHn2RefIdeal)
    ∧ preserves_DBranch_DBranchIdeal
    ∧ algebraic_DBranchIdeal_DBranchRefIdeal (hDBranchIdeal := hDBranchIdeal) (hDBranchRefIdeal := hDBranchRefIdeal)
    ∧ preserves_DHFox_DHFoxIdeal
    ∧ algebraic_DHFoxIdeal_DHFoxRefIdeal (hDHFoxIdeal := hDHFoxIdeal) (hDHFoxRefIdeal := hDHFoxRefIdeal)
    ∧ preserves_DHQkv_DHQkvIdeal
    ∧ algebraic_DHQkvIdeal_DHQkvRefIdeal (hDHQkvIdeal := hDHQkvIdeal) (hDHQkvRefIdeal := hDHQkvRefIdeal)
    ∧ preserves_DHGates_DHGatesIdeal
    ∧ algebraic_DHGatesIdeal_DHGatesRefIdeal (hDHGatesIdeal := hDHGatesIdeal) (hDHGatesRefIdeal := hDHGatesRefIdeal)
    ∧ preserves_DHGz_DHGzIdeal
    ∧ algebraic_DHGzIdeal_DHGzRefIdeal (hDHGzIdeal := hDHGzIdeal) (hDHGzRefIdeal := hDHGzRefIdeal)
    ∧ preserves_DwDown_DwDownIdeal
    ∧ algebraic_DwDownIdeal_DwDownRefIdeal (hDwDownIdeal := hDwDownIdeal) (hDwDownRefIdeal := hDwDownRefIdeal)
    ∧ preserves_DwUp_DwUpIdeal
    ∧ algebraic_DwUpIdeal_DwUpRefIdeal (hDwUpIdeal := hDwUpIdeal) (hDwUpRefIdeal := hDwUpRefIdeal)
    ∧ preserves_DwOut_DwOutIdeal
    ∧ algebraic_DwOutIdeal_DwOutRefIdeal (hDwOutIdeal := hDwOutIdeal) (hDwOutRefIdeal := hDwOutRefIdeal)
    ∧ preserves_DwQkv_DwQkvIdeal
    ∧ algebraic_DwQkvIdeal_DwQkvRefIdeal (hDwQkvIdeal := hDwQkvIdeal) (hDwQkvRefIdeal := hDwQkvRefIdeal)
    ∧ preserves_DwGates_DwGatesIdeal
    ∧ algebraic_DwGatesIdeal_DwGatesRefIdeal (hDwGatesIdeal := hDwGatesIdeal) (hDwGatesRefIdeal := hDwGatesRefIdeal)
    ∧ preserves_DwGz_DwGzIdeal
    ∧ algebraic_DwGzIdeal_DwGzRefIdeal (hDwGzIdeal := hDwGzIdeal) (hDwGzRefIdeal := hDwGzRefIdeal)
    ∧ preserves_ProjFox_ProjFoxIdeal
    ∧ algebraic_ProjFoxIdeal_ProjFoxRefIdeal (hProjFoxIdeal := hProjFoxIdeal) (hProjFoxRefIdeal := hProjFoxRefIdeal)
    ∧ preserves_ProjQkv_ProjQkvIdeal
    ∧ algebraic_ProjQkvIdeal_ProjQkvRefIdeal (hProjQkvIdeal := hProjQkvIdeal) (hProjQkvRefIdeal := hProjQkvRefIdeal)
    ∧ preserves_ProjGates_ProjGatesIdeal
    ∧ algebraic_ProjGatesIdeal_ProjGatesRefIdeal (hProjGatesIdeal := hProjGatesIdeal) (hProjGatesRefIdeal := hProjGatesRefIdeal)
    ∧ preserves_ProjGz_ProjGzIdeal
    ∧ algebraic_ProjGzIdeal_ProjGzRefIdeal (hProjGzIdeal := hProjGzIdeal) (hProjGzRefIdeal := hProjGzRefIdeal)
    ∧ preserves_Branch_BranchIdeal
    ∧ algebraic_BranchIdeal_BranchRefIdeal (hBranchIdeal := hBranchIdeal) (hBranchRefIdeal := hBranchRefIdeal)
    ∧ preserves_Up_UpIdeal
    ∧ algebraic_UpIdeal_UpRefIdeal (hUpIdeal := hUpIdeal) (hUpRefIdeal := hUpRefIdeal)
    ∧ preserves_AdamNorm_AdamNormIdeal
    ∧ algebraic_AdamNormIdeal_AdamNormRefIdeal (hAdamNormIdeal := hAdamNormIdeal) (hAdamNormRefIdeal := hAdamNormRefIdeal)
    ∧ preserves_AdamIn_AdamInIdeal
    ∧ algebraic_AdamInIdeal_AdamInRefIdeal (hAdamInIdeal := hAdamInIdeal) (hAdamInRefIdeal := hAdamInRefIdeal)
    ∧ preserves_AdamHead_AdamHeadIdeal
    ∧ algebraic_AdamHeadIdeal_AdamHeadRefIdeal (hAdamHeadIdeal := hAdamHeadIdeal) (hAdamHeadRefIdeal := hAdamHeadRefIdeal)
    ∧ preserves_AdamConv_AdamConvIdeal
    ∧ algebraic_AdamConvIdeal_AdamConvRefIdeal (hAdamConvIdeal := hAdamConvIdeal) (hAdamConvRefIdeal := hAdamConvRefIdeal)
    ∧ preserves_AdamGnorm_AdamGnormIdeal
    ∧ algebraic_AdamGnormIdeal_AdamGnormRefIdeal (hAdamGnormIdeal := hAdamGnormIdeal) (hAdamGnormRefIdeal := hAdamGnormRefIdeal)
    ∧ preserves_AdamOut_AdamOutIdeal
    ∧ algebraic_AdamOutIdeal_AdamOutRefIdeal (hAdamOutIdeal := hAdamOutIdeal) (hAdamOutRefIdeal := hAdamOutRefIdeal)
    ∧ preserves_AdamUp_AdamUpIdeal
    ∧ algebraic_AdamUpIdeal_AdamUpRefIdeal (hAdamUpIdeal := hAdamUpIdeal) (hAdamUpRefIdeal := hAdamUpRefIdeal)
    ∧ preserves_AdamFconv_AdamFconvIdeal
    ∧ algebraic_AdamFconvIdeal_AdamFconvRefIdeal (hAdamFconvIdeal := hAdamFconvIdeal) (hAdamFconvRefIdeal := hAdamFconvRefIdeal)
    ∧ preserves_AdamDown_AdamDownIdeal
    ∧ algebraic_AdamDownIdeal_AdamDownRefIdeal (hAdamDownIdeal := hAdamDownIdeal) (hAdamDownRefIdeal := hAdamDownRefIdeal)
    ∧ preserves_GradX_GradXIdeal
    ∧ algebraic_GradXIdeal_GradXRefIdeal (hGradXIdeal := hGradXIdeal) (hGradXRefIdeal := hGradXRefIdeal)
    ∧ preserves_DH1_DH1Ideal
    ∧ algebraic_DH1Ideal_DH1RefIdeal (hDH1Ideal := hDH1Ideal) (hDH1RefIdeal := hDH1RefIdeal)
    ∧ preserves_DwSmall_DwSmallIdeal
    ∧ algebraic_DwSmallIdeal_DwSmallRefIdeal (hDwSmallIdeal := hDwSmallIdeal) (hDwSmallRefIdeal := hDwSmallRefIdeal)
    ∧ preserves_Down_DownIdeal
    ∧ algebraic_DownIdeal_DownRefIdeal (hDownIdeal := hDownIdeal) (hDownRefIdeal := hDownRefIdeal)
    ∧ preserves_OutProj_OutProjIdeal
    ∧ algebraic_OutProjIdeal_OutProjRefIdeal (hOutProjIdeal := hOutProjIdeal) (hOutProjRefIdeal := hOutProjRefIdeal)
    ∧ preserves_BranchMerge_BranchMergeIdeal
    ∧ algebraic_BranchMergeIdeal_BranchMergeRefIdeal (hBranchMergeIdeal := hBranchMergeIdeal) (hBranchMergeRefIdeal := hBranchMergeRefIdeal)
    ∧ preserves_ProjSmall_ProjSmallIdeal
    ∧ algebraic_ProjSmallIdeal_ProjSmallRefIdeal (hProjSmallIdeal := hProjSmallIdeal) (hProjSmallRefIdeal := hProjSmallRefIdeal)
    ∧ preserves_NormMix_NormMixIdeal
    ∧ algebraic_NormMixIdeal_NormMixRefIdeal (hNormMixIdeal := hNormMixIdeal) (hNormMixRefIdeal := hNormMixRefIdeal)
    ∧ preserves_Gate_GateIdeal
    ∧ algebraic_GateIdeal_GateRefIdeal (hGateIdeal := hGateIdeal) (hGateRefIdeal := hGateRefIdeal)
-- ==== Pre_fox_finite.lean ====
abbrev S8192x3072 : Shape := ⟨2, ![8192, 3072]⟩
abbrev S4x8x2048 : Shape := ⟨3, ![4, 8, 2048]⟩
abbrev S8192x1024 : Shape := ⟨2, ![8192, 1024]⟩
abbrev S_ : Shape := ⟨0, ![]⟩

class Facts : Prop where
  bitsLt_bf16_f32 : FTy.bits .bf16 < FTy.bits .f32
  bcast_S_S8192x3072 : S_.BroadcastsInDim S8192x3072 (![] : Fin 0 → Fin S8192x3072.rank)
  reducesTo_S8192x3072_S_d0_1 : S8192x3072.ReducesTo [0, 1] S_
  h_S_ : 0 < S_.numel
  bcast_S_S4x8x2048 : S_.BroadcastsInDim S4x8x2048 (![] : Fin 0 → Fin S4x8x2048.rank)
  reducesTo_S4x8x2048_S_d0_1_2 : S4x8x2048.ReducesTo [0, 1, 2] S_
  bcast_S_S8192x1024 : S_.BroadcastsInDim S8192x1024 (![] : Fin 0 → Fin S8192x1024.rank)
  reducesTo_S8192x1024_S_d0_1 : S8192x1024.ReducesTo [0, 1] S_

variable [Facts]

def fn {F : FTy → Type} [FloatOps F] (main_arg0 : FVec F S8192x3072 .bf16) (main_arg1 : FVec F S4x8x2048 .f32) (main_arg2 : FVec F S8192x1024 .f32) : IVec S_ 1 :=
  let main_v0 : FVec F S8192x3072 .f32 := (extf .f32 · bitsLt_bf16_f32) main_arg0
  let main_v1 : FVec F S8192x3072 .f32 := Host.absf main_v0
  let main_cst : FVec F S_ .f32 := constant S_ .f32 0x7F800000#32
  let main_v2 : FVec F S8192x3072 .f32 := broadcastInDim S8192x3072 ![] bcast_S_S8192x3072 main_cst
  let main_v3 : IVec S8192x3072 1 := cmpf .olt main_v1 main_v2
  let main_c : IVec S_ 1 := constantI S_ 1 1#1
  let main_v4 : IVec S_ 1 := (fun x v => Host.reduce IntOp.andi x v reducesTo_S8192x3072_S_d0_1 h_S_) main_v3 main_c
  let main_v5 : FVec F S4x8x2048 .f32 := Host.absf main_arg1
  let main_cst_0 : FVec F S_ .f32 := constant S_ .f32 0x7F800000#32
  let main_v6 : FVec F S4x8x2048 .f32 := broadcastInDim S4x8x2048 ![] bcast_S_S4x8x2048 main_cst_0
  let main_v7 : IVec S4x8x2048 1 := cmpf .olt main_v5 main_v6
  let main_c_1 : IVec S_ 1 := constantI S_ 1 1#1
  let main_v8 : IVec S_ 1 := (fun x v => Host.reduce IntOp.andi x v reducesTo_S4x8x2048_S_d0_1_2 h_S_) main_v7 main_c_1
  let main_v9 : IVec S_ 1 := andi main_v4 main_v8
  let main_v10 : FVec F S8192x1024 .f32 := Host.absf main_arg2
  let main_cst_2 : FVec F S_ .f32 := constant S_ .f32 0x7F800000#32
  let main_v11 : FVec F S8192x1024 .f32 := broadcastInDim S8192x1024 ![] bcast_S_S8192x1024 main_cst_2
  let main_v12 : IVec S8192x1024 1 := cmpf .olt main_v10 main_v11
  let main_c_3 : IVec S_ 1 := constantI S_ 1 1#1
  let main_v13 : IVec S_ 1 := (fun x v => Host.reduce IntOp.andi x v reducesTo_S8192x1024_S_d0_1 h_S_) main_v12 main_c_3
  let main_v14 : IVec S_ 1 := andi main_v9 main_v13
  main_v14
-- ==== FoxBwd.lean ====
abbrev S8192x3072 : Shape := ⟨2, ![8192, 3072]⟩
abbrev S4x8x2048 : Shape := ⟨3, ![4, 8, 2048]⟩
abbrev S8192x1024 : Shape := ⟨2, ![8192, 1024]⟩
abbrev S4x2048x8x3x128 : Shape := ⟨5, ![4, 2048, 8, 3, 128]⟩
abbrev S3x4x8x2048x128 : Shape := ⟨5, ![3, 4, 8, 2048, 128]⟩
abbrev S1x4x8x2048x128 : Shape := ⟨5, ![1, 4, 8, 2048, 128]⟩
abbrev S4x8x2048x128 : Shape := ⟨4, ![4, 8, 2048, 128]⟩
abbrev S4x8x2048x2048 : Shape := ⟨4, ![4, 8, 2048, 2048]⟩
abbrev S_ : Shape := ⟨0, ![]⟩
abbrev S4x8x2048x1 : Shape := ⟨4, ![4, 8, 2048, 1]⟩
abbrev S4x8x1x2048 : Shape := ⟨4, ![4, 8, 1, 2048]⟩
abbrev S2048x2048 : Shape := ⟨2, ![2048, 2048]⟩
abbrev S4x2048x8x128 : Shape := ⟨4, ![4, 2048, 8, 128]⟩
abbrev S2048x128 : Shape := ⟨2, ![2048, 128]⟩
abbrev S1x2x2048x1 : Shape := ⟨4, ![1, 2, 2048, 1]⟩
abbrev S1x2x1x2048 : Shape := ⟨4, ![1, 2, 1, 2048]⟩
abbrev S2048x256 : Shape := ⟨2, ![2048, 256]⟩
abbrev S2048x768 : Shape := ⟨2, ![2048, 768]⟩
abbrev S2x2048x128 : Shape := ⟨3, ![2, 2048, 128]⟩
abbrev S2x2048x1 : Shape := ⟨3, ![2, 2048, 1]⟩
abbrev S512x512 : Shape := ⟨2, ![512, 512]⟩
abbrev S512x128 : Shape := ⟨2, ![512, 128]⟩
abbrev S512 : Shape := ⟨1, ![512]⟩
abbrev S512x1 : Shape := ⟨2, ![512, 1]⟩
abbrev S1x512x1 : Shape := ⟨3, ![1, 512, 1]⟩
abbrev S1x1x512x1 : Shape := ⟨4, ![1, 1, 512, 1]⟩
abbrev S1x512x128 : Shape := ⟨3, ![1, 512, 128]⟩
abbrev S1x1x1x512 : Shape := ⟨4, ![1, 1, 1, 512]⟩
abbrev S1x512 : Shape := ⟨2, ![1, 512]⟩
abbrev S1x2048x128 : Shape := ⟨3, ![1, 2048, 128]⟩

abbrev nBuf : Space → Nat
  | .hbm => 51
  | .vmem => 31
  | .smem => 0
  | _ => 0

abbrev bufTy : (tb : Table) → Fin (tcTables nBuf tb) → BufTy
  | .hbm, ⟨0, _⟩ => ⟨S8192x3072, .bf16⟩
  | .hbm, ⟨1, _⟩ => ⟨S4x8x2048, .f32⟩
  | .hbm, ⟨2, _⟩ => ⟨S8192x1024, .f32⟩
  | .hbm, ⟨3, _⟩ => ⟨S8192x3072, .f32⟩
  | .hbm, ⟨4, _⟩ => ⟨S4x2048x8x3x128, .f32⟩
  | .hbm, ⟨5, _⟩ => ⟨S3x4x8x2048x128, .f32⟩
  | .hbm, ⟨6, _⟩ => ⟨S1x4x8x2048x128, .f32⟩
  | .hbm, ⟨7, _⟩ => ⟨S4x8x2048x128, .f32⟩
  | .hbm, ⟨8, _⟩ => ⟨S1x4x8x2048x128, .f32⟩
  | .hbm, ⟨9, _⟩ => ⟨S4x8x2048x128, .f32⟩
  | .hbm, ⟨10, _⟩ => ⟨S1x4x8x2048x128, .f32⟩
  | .hbm, ⟨11, _⟩ => ⟨S4x8x2048x128, .f32⟩
  | .hbm, ⟨12, _⟩ => ⟨S4x8x2048x2048, .f32⟩
  | .hbm, ⟨13, _⟩ => ⟨S_, .f32⟩
  | .hbm, ⟨14, _⟩ => ⟨S4x8x2048x2048, .f32⟩
  | .hbm, ⟨15, _⟩ => ⟨S4x8x2048x2048, .f32⟩
  | .hbm, ⟨16, _⟩ => ⟨S4x8x2048x1, .f32⟩
  | .hbm, ⟨17, _⟩ => ⟨S4x8x1x2048, .f32⟩
  | .hbm, ⟨18, _⟩ => ⟨S4x8x2048x2048, .f32⟩
  | .hbm, ⟨19, _⟩ => ⟨S4x8x2048x2048, .f32⟩
  | .hbm, ⟨20, _⟩ => ⟨S4x8x2048x2048, .f32⟩
  | .hbm, ⟨21, _⟩ => ⟨S4x8x2048x2048, .f32⟩
  | .hbm, ⟨22, _⟩ => ⟨S2048x2048, .i32⟩
  | .hbm, ⟨23, _⟩ => ⟨S2048x2048, .i32⟩
  | .hbm, ⟨24, _⟩ => ⟨S2048x2048, .i1⟩
  | .hbm, ⟨25, _⟩ => ⟨S_, .f32⟩
  | .hbm, ⟨26, _⟩ => ⟨S_, .f32⟩
  | .hbm, ⟨27, _⟩ => ⟨S4x8x2048x2048, .i1⟩
  | .hbm, ⟨28, _⟩ => ⟨S4x8x2048x2048, .f32⟩
  | .hbm, ⟨29, _⟩ => ⟨S4x8x2048x2048, .f32⟩
  | .hbm, ⟨30, _⟩ => ⟨S_, .f32⟩
  | .hbm, ⟨31, _⟩ => ⟨S4x8x2048, .f32⟩
  | .hbm, ⟨32, _⟩ => ⟨S4x8x2048x1, .f32⟩
  | .hbm, ⟨33, _⟩ => ⟨S4x8x2048x2048, .f32⟩
  | .hbm, ⟨34, _⟩ => ⟨S4x8x2048x2048, .f32⟩
  | .hbm, ⟨35, _⟩ => ⟨S4x8x2048x2048, .f32⟩
  | .hbm, ⟨36, _⟩ => ⟨S_, .f32⟩
  | .hbm, ⟨37, _⟩ => ⟨S4x8x2048, .f32⟩
  | .hbm, ⟨38, _⟩ => ⟨S4x8x2048x1, .f32⟩
  | .hbm, ⟨39, _⟩ => ⟨S4x8x2048x2048, .f32⟩
  | .hbm, ⟨40, _⟩ => ⟨S4x8x2048x2048, .f32⟩
  | .hbm, ⟨41, _⟩ => ⟨S4x8x2048x128, .f32⟩
  | .hbm, ⟨42, _⟩ => ⟨S4x2048x8x128, .f32⟩
  | .hbm, ⟨43, _⟩ => ⟨S8192x1024, .f32⟩
  | .hbm, ⟨44, _⟩ => ⟨S4x8x2048x1, .f32⟩
  | .hbm, ⟨45, _⟩ => ⟨S4x8x1x2048, .f32⟩
  | .hbm, ⟨46, _⟩ => ⟨S4x8x2048x1, .f32⟩
  | .hbm, ⟨47, _⟩ => ⟨S4x8x2048x1, .f32⟩
  | .hbm, ⟨48, _⟩ => ⟨S8192x3072, .bf16⟩
  | .hbm, ⟨49, _⟩ => ⟨S4x8x2048x1, .f32⟩
  | .hbm, ⟨50, _⟩ => ⟨S4x8x1x2048, .f32⟩
  | .local _ .vmem, ⟨0, _⟩ => ⟨S2048x128, .bf16⟩
  | .local _ .vmem, ⟨1, _⟩ => ⟨S2048x128, .bf16⟩
  | .local _ .vmem, ⟨2, _⟩ => ⟨S2048x128, .bf16⟩
  | .local _ .vmem, ⟨3, _⟩ => ⟨S2048x128, .bf16⟩
  | .local _ .vmem, ⟨4, _⟩ => ⟨S2048x128, .bf16⟩
  | .local _ .vmem, ⟨5, _⟩ => ⟨S2048x128, .bf16⟩
  | .local _ .vmem, ⟨6, _⟩ => ⟨S2048x128, .bf16⟩
  | .local _ .vmem, ⟨7, _⟩ => ⟨S2048x128, .bf16⟩
  | .local _ .vmem, ⟨8, _⟩ => ⟨S2048x128, .bf16⟩
  | .local _ .vmem, ⟨9, _⟩ => ⟨S2048x128, .bf16⟩
  | .local _ .vmem, ⟨10, _⟩ => ⟨S2048x128, .bf16⟩
  | .local _ .vmem, ⟨11, _⟩ => ⟨S2048x128, .bf16⟩
  | .local _ .vmem, ⟨12, _⟩ => ⟨S1x2x2048x1, .f32⟩
  | .local _ .vmem, ⟨13, _⟩ => ⟨S1x2x2048x1, .f32⟩
  | .local _ .vmem, ⟨14, _⟩ => ⟨S1x2x1x2048, .f32⟩
  | .local _ .vmem, ⟨15, _⟩ => ⟨S1x2x1x2048, .f32⟩
  | .local _ .vmem, ⟨16, _⟩ => ⟨S2048x256, .f32⟩
  | .local _ .vmem, ⟨17, _⟩ => ⟨S2048x256, .f32⟩
  | .local _ .vmem, ⟨18, _⟩ => ⟨S1x2x2048x1, .f32⟩
  | .local _ .vmem, ⟨19, _⟩ => ⟨S1x2x2048x1, .f32⟩
  | .local _ .vmem, ⟨20, _⟩ => ⟨S2048x256, .f32⟩
  | .local _ .vmem, ⟨21, _⟩ => ⟨S2048x256, .f32⟩
  | .local _ .vmem, ⟨22, _⟩ => ⟨S2048x768, .bf16⟩
  | .local _ .vmem, ⟨23, _⟩ => ⟨S2048x768, .bf16⟩
  | .local _ .vmem, ⟨24, _⟩ => ⟨S1x2x2048x1, .f32⟩
  | .local _ .vmem, ⟨25, _⟩ => ⟨S1x2x2048x1, .f32⟩
  | .local _ .vmem, ⟨26, _⟩ => ⟨S1x2x1x2048, .f32⟩
  | .local _ .vmem, ⟨27, _⟩ => ⟨S1x2x1x2048, .f32⟩
  | .local _ .vmem, ⟨28, _⟩ => ⟨S2x2048x128, .f32⟩
  | .local _ .vmem, ⟨29, _⟩ => ⟨S2x2048x1, .f32⟩
  | .local _ .vmem, ⟨30, _⟩ => ⟨S2x2048x1, .f32⟩
  | _, _ => ⟨S8192x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_cst_0 : Ref sig .tc := ⟨.hbm, 25, rfl⟩
abbrev main_call0_v0 : Ref sig .tc := ⟨.hbm, 26, rfl⟩
abbrev main_call0_v1 : Ref sig .tc := ⟨.hbm, 27, rfl⟩
abbrev main_call0_v2 : Ref sig .tc := ⟨.hbm, 28, rfl⟩
abbrev main_v21 : Ref sig .tc := ⟨.hbm, 29, rfl⟩
abbrev main_cst_1 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_2 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38_0 : Ref sig .tc := ⟨.hbm, 48, rfl⟩
abbrev main_v38_1 : Ref sig .tc := ⟨.hbm, 49, rfl⟩
abbrev main_v38_2 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_scratch0 : Ref sig .tc := ⟨.vmem, 28, rfl⟩
abbrev cc0_scratch1 : Ref sig .tc := ⟨.vmem, 29, rfl⟩
abbrev cc0_scratch2 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27

abbrev nD : Nat := 1
abbrev τ : Topo := Topo.v7x

variable {F : FTy → Type} [FloatOps F]

abbrev grid0 : Pipeline.Grid := ⟨2, ![4, 4], ![false, false]⟩

@[reducible] def k0_t1_loop : Scf.Loop 32 :=
  let c0_i32 : BitVec 32 := 0#32
  let c4_i32 : BitVec 32 := 4#32
  let v2 : BitVec 32 := Scalar.addi c0_i32 c4_i32
  let c1_i32 : BitVec 32 := 1#32
  ⟨c0_i32, v2, c1_i32⟩
def k0_mult1 (k0_t1 : Fin k0_t1_loop.trips) : BitVec 32 :=
  let c0_i32 : BitVec 32 := 0#32
  let c1_i32 : BitVec 32 := 1#32
  let arg19 : BitVec 32 := Scf.iv c0_i32 c1_i32 k0_t1
  let c512_i32 : BitVec 32 := 512#32
  let v12 : BitVec 32 := Scalar.muli arg19 c512_i32
  v12
def k0_off1 (k0_t1 : Fin k0_t1_loop.trips) : Fin 2 → Nat :=
  let c0_i32 : BitVec 32 := 0#32
  let c1_i32 : BitVec 32 := 1#32
  let arg19 : BitVec 32 := Scf.iv c0_i32 c1_i32 k0_t1
  let c512_i32 : BitVec 32 := 512#32
  let v12 : BitVec 32 := Scalar.muli arg19 c512_i32
  let v13 : BitVec 32 := v12
  let v14 : Index := Scalar.indexCast v13
  let c0_12 : Index := 0#32
  ![v14.toNat, 0]
def k0_off2 (k0_t1 : Fin k0_t1_loop.trips) : Fin 3 → Nat :=
  let c0_14 : Index := 0#32
  let c0_i32 : BitVec 32 := 0#32
  let c1_i32 : BitVec 32 := 1#32
  let arg19 : BitVec 32 := Scf.iv c0_i32 c1_i32 k0_t1
  let c512_i32 : BitVec 32 := 512#32
  let v12 : BitVec 32 := Scalar.muli arg19 c512_i32
  let v13 : BitVec 32 := v12
  let v22 : Index := Scalar.indexCast v13
  let c0_15 : Index := 0#32
  ![0, v22.toNat, 0]
def k0_off3 (k0_t1 : Fin k0_t1_loop.trips) : Fin 4 → Nat :=
  let c0_16 : Index := 0#32
  let c0_17 : Index := 0#32
  let c0_i32 : BitVec 32 := 0#32
  let c1_i32 : BitVec 32 := 1#32
  let arg19 : BitVec 32 := Scf.iv c0_i32 c1_i32 k0_t1
  let c512_i32 : BitVec 32 := 512#32
  let v12 : BitVec 32 := Scalar.muli arg19 c512_i32
  let v13 : BitVec 32 := v12
  let v26 : Index := Scalar.indexCast v13
  let c0_18 : Index := 0#32
  ![0, 0, v26.toNat, 0]
def k0_off4 (k0_t1 : Fin k0_t1_loop.trips) : Fin 3 → Nat :=
  let c0_25 : Index := 0#32
  let c0_i32 : BitVec 32 := 0#32
  let c1_i32 : BitVec 32 := 1#32
  let arg19 : BitVec 32 := Scf.iv c0_i32 c1_i32 k0_t1
  let c512_i32 : BitVec 32 := 512#32
  let v12 : BitVec 32 := Scalar.muli arg19 c512_i32
  let v13 : BitVec 32 := v12
  let v38 : Index := Scalar.indexCast v13
  let c0_26 : Index := 0#32
  ![0, v38.toNat, 0]
def k0_off5 (k0_t1 : Fin k0_t1_loop.trips) : Fin 2 → Nat :=
  let c0_i32 : BitVec 32 := 0#32
  let c1_i32 : BitVec 32 := 1#32
  let arg19 : BitVec 32 := Scf.iv c0_i32 c1_i32 k0_t1
  let c512_i32 : BitVec 32 := 512#32
  let v12 : BitVec 32 := Scalar.muli arg19 c512_i32
  let v13 : BitVec 32 := v12
  let v47 : Index := Scalar.indexCast v13
  let c128 : Index := 128#32
  ![v47.toNat, 128]
def k0_off6 (k0_t1 : Fin k0_t1_loop.trips) : Fin 3 → Nat :=
  let c1_33 : Index := 1#32
  let c0_i32 : BitVec 32 := 0#32
  let c1_i32 : BitVec 32 := 1#32
  let arg19 : BitVec 32 := Scf.iv c0_i32 c1_i32 k0_t1
  let c512_i32 : BitVec 32 := 512#32
  let v12 : BitVec 32 := Scalar.muli arg19 c512_i32
  let v13 : BitVec 32 := v12
  let v55 : Index := Scalar.indexCast v13
  let c0_34 : Index := 0#32
  ![1, v55.toNat, 0]
def k0_off7 (k0_t1 : Fin k0_t1_loop.trips) : Fin 4 → Nat :=
  let c0_35 : Index := 0#32
  let c1_36 : Index := 1#32
  let c0_i32 : BitVec 32 := 0#32
  let c1_i32 : BitVec 32 := 1#32
  let arg19 : BitVec 32 := Scf.iv c0_i32 c1_i32 k0_t1
  let c512_i32 : BitVec 32 := 512#32
  let v12 : BitVec 32 := Scalar.muli arg19 c512_i32
  let v13 : BitVec 32 := v12
  let v59 : Index := Scalar.indexCast v13
  let c0_37 : Index := 0#32
  ![0, 1, v59.toNat, 0]
def k0_off8 (k0_t1 : Fin k0_t1_loop.trips) : Fin 3 → Nat :=
  let c1_44 : Index := 1#32
  let c0_i32 : BitVec 32 := 0#32
  let c1_i32 : BitVec 32 := 1#32
  let arg19 : BitVec 32 := Scf.iv c0_i32 c1_i32 k0_t1
  let c512_i32 : BitVec 32 := 512#32
  let v12 : BitVec 32 := Scalar.muli arg19 c512_i32
  let v13 : BitVec 32 := v12
  let v71 : Index := Scalar.indexCast v13
  let c0_45 : Index := 0#32
  ![1, v71.toNat, 0]
@[reducible] def k0_t2_loop : Scf.Loop 32 :=
  let c0_i32_1 : BitVec 32 := 0#32
  let c4_i32_2 : BitVec 32 := 4#32
  let v3 : BitVec 32 := Scalar.addi c0_i32_1 c4_i32_2
  let c1_i32_3 : BitVec 32 := 1#32
  ⟨c0_i32_1, v3, c1_i32_3⟩
def k0_mult2 (k0_t2 : Fin k0_t2_loop.trips) : BitVec 32 :=
  let c0_i32_1 : BitVec 32 := 0#32
  let c1_i32_3 : BitVec 32 := 1#32
  let arg19 : BitVec 32 := Scf.iv c0_i32_1 c1_i32_3 k0_t2
  let c512_i32 : BitVec 32 := 512#32
  let v12 : BitVec 32 := Scalar.muli arg19 c512_i32
  v12
def k0_off9 (k0_t2 : Fin k0_t2_loop.trips) : Fin 2 → Nat :=
  let c0_i32_1 : BitVec 32 := 0#32
  let c1_i32_3 : BitVec 32 := 1#32
  let arg19 : BitVec 32 := Scf.iv c0_i32_1 c1_i32_3 k0_t2
  let c512_i32 : BitVec 32 := 512#32
  let v12 : BitVec 32 := Scalar.muli arg19 c512_i32
  let v13 : BitVec 32 := v12
  let v14 : Index := Scalar.indexCast v13
  let c0_12 : Index := 0#32
  ![v14.toNat, 0]
def k0_off10 (k0_t2 : Fin k0_t2_loop.trips) : Fin 4 → Nat :=
  let c0_16 : Index := 0#32
  let c0_17 : Index := 0#32
  let c0_18 : Index := 0#32
  let c0_i32_1 : BitVec 32 := 0#32
  let c1_i32_3 : BitVec 32 := 1#32
  let arg19 : BitVec 32 := Scf.iv c0_i32_1 c1_i32_3 k0_t2
  let c512_i32 : BitVec 32 := 512#32
  let v12 : BitVec 32 := Scalar.muli arg19 c512_i32
  let v13 : BitVec 32 := v12
  let v22 : Index := Scalar.indexCast v13
  ![0, 0, 0, v22.toNat]
def k0_off11 (k0_t2 : Fin k0_t2_loop.trips) : Fin 4 → Nat :=
  let c0_19 : Index := 0#32
  let c1_20 : Index := 1#32
  let c0_21 : Index := 0#32
  let c0_i32_1 : BitVec 32 := 0#32
  let c1_i32_3 : BitVec 32 := 1#32
  let arg19 : BitVec 32 := Scf.iv c0_i32_1 c1_i32_3 k0_t2
  let c512_i32 : BitVec 32 := 512#32
  let v12 : BitVec 32 := Scalar.muli arg19 c512_i32
  let v13 : BitVec 32 := v12
  let v25 : Index := Scalar.indexCast v13
  ![0, 1, 0, v25.toNat]
def k0_mult3 (k0_t2 : Fin k0_t2_loop.trips) : BitVec 32 :=
  let c0_i32_1 : BitVec 32 := 0#32
  let c1_i32_3 : BitVec 32 := 1#32
  let arg19 : BitVec 32 := Scf.iv c0_i32_1 c1_i32_3 k0_t2
  let c512_i32_24 : BitVec 32 := 512#32
  let v31 : BitVec 32 := Scalar.muli arg19 c512_i32_24
  v31
def k0_off12 (k0_t2 : Fin k0_t2_loop.trips) : Fin 2 → Nat :=
  let c0_i32_1 : BitVec 32 := 0#32
  let c1_i32_3 : BitVec 32 := 1#32
  let arg19 : BitVec 32 := Scf.iv c0_i32_1 c1_i32_3 k0_t2
  let c512_i32_24 : BitVec 32 := 512#32
  let v31 : BitVec 32 := Scalar.muli arg19 c512_i32_24
  let v32 : BitVec 32 := v31
  let v37 : Index := Scalar.indexCast v32
  let c0_27 : Index := 0#32
  ![v37.toNat, 0]
def k0_off13 (k0_t2 : Fin k0_t2_loop.trips) : Fin 2 → Nat :=
  let c0_i32_1 : BitVec 32 := 0#32
  let c1_i32_3 : BitVec 32 := 1#32
  let arg19 : BitVec 32 := Scf.iv c0_i32_1 c1_i32_3 k0_t2
  let c512_i32_24 : BitVec 32 := 512#32
  let v31 : BitVec 32 := Scalar.muli arg19 c512_i32_24
  let v32 : BitVec 32 := v31
  let v40 : Index := Scalar.indexCast v32
  let c128 : Index := 128#32
  ![v40.toNat, 128]
def k0_off14 (k0_t2 : Fin k0_t2_loop.trips) : Fin 3 → Nat :=
  let c0_36 : Index := 0#32
  let c0_i32_1 : BitVec 32 := 0#32
  let c1_i32_3 : BitVec 32 := 1#32
  let arg19 : BitVec 32 := Scf.iv c0_i32_1 c1_i32_3 k0_t2
  let c512_i32_24 : BitVec 32 := 512#32
  let v31 : BitVec 32 := Scalar.muli arg19 c512_i32_24
  let v32 : BitVec 32 := v31
  let v61 : Index := Scalar.indexCast v32
  let c0_37 : Index := 0#32
  ![0, v61.toNat, 0]
def k0_off15 (k0_t2 : Fin k0_t2_loop.trips) : Fin 3 → Nat :=
  let c1_38 : Index := 1#32
  let c0_i32_1 : BitVec 32 := 0#32
  let c1_i32_3 : BitVec 32 := 1#32
  let arg19 : BitVec 32 := Scf.iv c0_i32_1 c1_i32_3 k0_t2
  let c512_i32_24 : BitVec 32 := 512#32
  let v31 : BitVec 32 := Scalar.muli arg19 c512_i32_24
  let v32 : BitVec 32 := v31
  let v67 : Index := Scalar.indexCast v32
  let c0_39 : Index := 0#32
  ![1, v67.toNat, 0]
def k0_off16 (k0_t2 : Fin k0_t2_loop.trips) : Fin 3 → Nat :=
  let c0_48 : Index := 0#32
  let c0_i32_1 : BitVec 32 := 0#32
  let c1_i32_3 : BitVec 32 := 1#32
  let arg19 : BitVec 32 := Scf.iv c0_i32_1 c1_i32_3 k0_t2
  let c512_i32_24 : BitVec 32 := 512#32
  let v31 : BitVec 32 := Scalar.muli arg19 c512_i32_24
  let v32 : BitVec 32 := v31
  let v97 : Index := Scalar.indexCast v32
  let c0_49 : Index := 0#32
  ![0, v97.toNat, 0]
def k0_off17 (k0_t2 : Fin k0_t2_loop.trips) : Fin 4 → Nat :=
  let c0_54 : Index := 0#32
  let c0_55 : Index := 0#32
  let c0_i32_1 : BitVec 32 := 0#32
  let c1_i32_3 : BitVec 32 := 1#32
  let arg19 : BitVec 32 := Scf.iv c0_i32_1 c1_i32_3 k0_t2
  let c512_i32_24 : BitVec 32 := 512#32
  let v31 : BitVec 32 := Scalar.muli arg19 c512_i32_24
  let v32 : BitVec 32 := v31
  let v108 : Index := Scalar.indexCast v32
  let c0_56 : Index := 0#32
  ![0, 0, v108.toNat, 0]
def k0_off18 (k0_t2 : Fin k0_t2_loop.trips) : Fin 3 → Nat :=
  let c1_61 : Index := 1#32
  let c0_i32_1 : BitVec 32 := 0#32
  let c1_i32_3 : BitVec 32 := 1#32
  let arg19 : BitVec 32 := Scf.iv c0_i32_1 c1_i32_3 k0_t2
  let c512_i32_24 : BitVec 32 := 512#32
  let v31 : BitVec 32 := Scalar.muli arg19 c512_i32_24
  let v32 : BitVec 32 := v31
  let v118 : Index := Scalar.indexCast v32
  let c0_62 : Index := 0#32
  ![1, v118.toNat, 0]
def k0_off19 (k0_t2 : Fin k0_t2_loop.trips) : Fin 4 → Nat :=
  let c0_67 : Index := 0#32
  let c1_68 : Index := 1#32
  let c0_i32_1 : BitVec 32 := 0#32
  let c1_i32_3 : BitVec 32 := 1#32
  let arg19 : BitVec 32 := Scf.iv c0_i32_1 c1_i32_3 k0_t2
  let c512_i32_24 : BitVec 32 := 512#32
  let v31 : BitVec 32 := Scalar.muli arg19 c512_i32_24
  let v32 : BitVec 32 := v31
  let v129 : Index := Scalar.indexCast v32
  let c0_69 : Index := 0#32
  ![0, 1, v129.toNat, 0]
@[reducible] def k0_t3_loop (k0_t2 : Fin k0_t2_loop.trips) : Scf.Loop 32 :=
  let c0_i32_1 : BitVec 32 := 0#32
  let c1_i32_3 : BitVec 32 := 1#32
  let arg19 : BitVec 32 := Scf.iv c0_i32_1 c1_i32_3 k0_t2
  let c1_i32_76 : BitVec 32 := 1#32
  let v145 : BitVec 32 := Scalar.addi arg19 c1_i32_76
  let c4_i32_77 : BitVec 32 := 4#32
  let v146 : BitVec 32 := Scalar.subi c4_i32_77 v145
  let c1_i32_78 : BitVec 32 := 1#32
  let v148 : BitVec 32 := Scalar.divsi v146 c1_i32_78
  let v149 : BitVec 32 := Scalar.muli v148 c1_i32_78
  let v150 : BitVec 32 := Scalar.addi v145 v149
  let c1_i32_79 : BitVec 32 := 1#32
  ⟨v145, v150, c1_i32_79⟩
def k0_mult4 (k0_t2 : Fin k0_t2_loop.trips) (k0_t3 : Fin (k0_t3_loop k0_t2).trips) : BitVec 32 :=
  let c0_i32_1 : BitVec 32 := 0#32
  let c1_i32_3 : BitVec 32 := 1#32
  let arg19 : BitVec 32 := Scf.iv c0_i32_1 c1_i32_3 k0_t2
  let c1_i32_76 : BitVec 32 := 1#32
  let v145 : BitVec 32 := Scalar.addi arg19 c1_i32_76
  let c1_i32_79 : BitVec 32 := 1#32
  let arg20 : BitVec 32 := Scf.iv v145 c1_i32_79 k0_t3
  let c512_i32_92 : BitVec 32 := 512#32
  let v181 : BitVec 32 := Scalar.muli arg20 c512_i32_92
  v181
def k0_off20 (k0_t2 : Fin k0_t2_loop.trips) (k0_t3 : Fin (k0_t3_loop k0_t2).trips) : Fin 2 → Nat :=
  let c0_i32_1 : BitVec 32 := 0#32
  let c1_i32_3 : BitVec 32 := 1#32
  let arg19 : BitVec 32 := Scf.iv c0_i32_1 c1_i32_3 k0_t2
  let c1_i32_76 : BitVec 32 := 1#32
  let v145 : BitVec 32 := Scalar.addi arg19 c1_i32_76
  let c1_i32_79 : BitVec 32 := 1#32
  let arg20 : BitVec 32 := Scf.iv v145 c1_i32_79 k0_t3
  let c512_i32_92 : BitVec 32 := 512#32
  let v181 : BitVec 32 := Scalar.muli arg20 c512_i32_92
  let v182 : BitVec 32 := v181
  let v183 : Index := Scalar.indexCast v182
  let c0_93 : Index := 0#32
  ![v183.toNat, 0]
def k0_off21 (k0_t2 : Fin k0_t2_loop.trips) (k0_t3 : Fin (k0_t3_loop k0_t2).trips) : Fin 2 → Nat :=
  let c0_i32_1 : BitVec 32 := 0#32
  let c1_i32_3 : BitVec 32 := 1#32
  let arg19 : BitVec 32 := Scf.iv c0_i32_1 c1_i32_3 k0_t2
  let c1_i32_76 : BitVec 32 := 1#32
  let v145 : BitVec 32 := Scalar.addi arg19 c1_i32_76
  let c1_i32_79 : BitVec 32 := 1#32
  let arg20 : BitVec 32 := Scf.iv v145 c1_i32_79 k0_t3
  let c512_i32_92 : BitVec 32 := 512#32
  let v181 : BitVec 32 := Scalar.muli arg20 c512_i32_92
  let v182 : BitVec 32 := v181
  let v187 : Index := Scalar.indexCast v182
  let c0_95 : Index := 0#32
  ![v187.toNat, 0]
def k0_off22 (k0_t2 : Fin k0_t2_loop.trips) (k0_t3 : Fin (k0_t3_loop k0_t2).trips) : Fin 2 → Nat :=
  let c0_i32_1 : BitVec 32 := 0#32
  let c1_i32_3 : BitVec 32 := 1#32
  let arg19 : BitVec 32 := Scf.iv c0_i32_1 c1_i32_3 k0_t2
  let c1_i32_76 : BitVec 32 := 1#32
  let v145 : BitVec 32 := Scalar.addi arg19 c1_i32_76
  let c1_i32_79 : BitVec 32 := 1#32
  let arg20 : BitVec 32 := Scf.iv v145 c1_i32_79 k0_t3
  let c512_i32_92 : BitVec 32 := 512#32
  let v181 : BitVec 32 := Scalar.muli arg20 c512_i32_92
  let v182 : BitVec 32 := v181
  let v190 : Index := Scalar.indexCast v182
  let c128_96 : Index := 128#32
  ![v190.toNat, 128]
def k0_off23 (k0_t2 : Fin k0_t2_loop.trips) (k0_t3 : Fin (k0_t3_loop k0_t2).trips) : Fin 3 → Nat :=
  let c0_103 : Index := 0#32
  let c0_i32_1 : BitVec 32 := 0#32
  let c1_i32_3 : BitVec 32 := 1#32
  let arg19 : BitVec 32 := Scf.iv c0_i32_1 c1_i32_3 k0_t2
  let c1_i32_76 : BitVec 32 := 1#32
  let v145 : BitVec 32 := Scalar.addi arg19 c1_i32_76
  let c1_i32_79 : BitVec 32 := 1#32
  let arg20 : BitVec 32 := Scf.iv v145 c1_i32_79 k0_t3
  let c512_i32_92 : BitVec 32 := 512#32
  let v181 : BitVec 32 := Scalar.muli arg20 c512_i32_92
  let v182 : BitVec 32 := v181
  let v205 : Index := Scalar.indexCast v182
  let c0_104 : Index := 0#32
  ![0, v205.toNat, 0]
def k0_off24 (k0_t2 : Fin k0_t2_loop.trips) (k0_t3 : Fin (k0_t3_loop k0_t2).trips) : Fin 3 → Nat :=
  let c1_105 : Index := 1#32
  let c0_i32_1 : BitVec 32 := 0#32
  let c1_i32_3 : BitVec 32 := 1#32
  let arg19 : BitVec 32 := Scf.iv c0_i32_1 c1_i32_3 k0_t2
  let c1_i32_76 : BitVec 32 := 1#32
  let v145 : BitVec 32 := Scalar.addi arg19 c1_i32_76
  let c1_i32_79 : BitVec 32 := 1#32
  let arg20 : BitVec 32 := Scf.iv v145 c1_i32_79 k0_t3
  let c512_i32_92 : BitVec 32 := 512#32
  let v181 : BitVec 32 := Scalar.muli arg20 c512_i32_92
  let v182 : BitVec 32 := v181
  let v211 : Index := Scalar.indexCast v182
  let c0_106 : Index := 0#32
  ![1, v211.toNat, 0]
def k0_off25 (k0_t2 : Fin k0_t2_loop.trips) (k0_t3 : Fin (k0_t3_loop k0_t2).trips) : Fin 3 → Nat :=
  let c0_115 : Index := 0#32
  let c0_i32_1 : BitVec 32 := 0#32
  let c1_i32_3 : BitVec 32 := 1#32
  let arg19 : BitVec 32 := Scf.iv c0_i32_1 c1_i32_3 k0_t2
  let c1_i32_76 : BitVec 32 := 1#32
  let v145 : BitVec 32 := Scalar.addi arg19 c1_i32_76
  let c1_i32_79 : BitVec 32 := 1#32
  let arg20 : BitVec 32 := Scf.iv v145 c1_i32_79 k0_t3
  let c512_i32_92 : BitVec 32 := 512#32
  let v181 : BitVec 32 := Scalar.muli arg20 c512_i32_92
  let v182 : BitVec 32 := v181
  let v241 : Index := Scalar.indexCast v182
  let c0_116 : Index := 0#32
  ![0, v241.toNat, 0]
def k0_off26 (k0_t2 : Fin k0_t2_loop.trips) (k0_t3 : Fin (k0_t3_loop k0_t2).trips) : Fin 4 → Nat :=
  let c0_121 : Index := 0#32
  let c0_122 : Index := 0#32
  let c0_i32_1 : BitVec 32 := 0#32
  let c1_i32_3 : BitVec 32 := 1#32
  let arg19 : BitVec 32 := Scf.iv c0_i32_1 c1_i32_3 k0_t2
  let c1_i32_76 : BitVec 32 := 1#32
  let v145 : BitVec 32 := Scalar.addi arg19 c1_i32_76
  let c1_i32_79 : BitVec 32 := 1#32
  let arg20 : BitVec 32 := Scf.iv v145 c1_i32_79 k0_t3
  let c512_i32_92 : BitVec 32 := 512#32
  let v181 : BitVec 32 := Scalar.muli arg20 c512_i32_92
  let v182 : BitVec 32 := v181
  let v252 : Index := Scalar.indexCast v182
  let c0_123 : Index := 0#32
  ![0, 0, v252.toNat, 0]
def k0_off27 (k0_t2 : Fin k0_t2_loop.trips) (k0_t3 : Fin (k0_t3_loop k0_t2).trips) : Fin 3 → Nat :=
  let c1_128 : Index := 1#32
  let c0_i32_1 : BitVec 32 := 0#32
  let c1_i32_3 : BitVec 32 := 1#32
  let arg19 : BitVec 32 := Scf.iv c0_i32_1 c1_i32_3 k0_t2
  let c1_i32_76 : BitVec 32 := 1#32
  let v145 : BitVec 32 := Scalar.addi arg19 c1_i32_76
  let c1_i32_79 : BitVec 32 := 1#32
  let arg20 : BitVec 32 := Scf.iv v145 c1_i32_79 k0_t3
  let c512_i32_92 : BitVec 32 := 512#32
  let v181 : BitVec 32 := Scalar.muli arg20 c512_i32_92
  let v182 : BitVec 32 := v181
  let v262 : Index := Scalar.indexCast v182
  let c0_129 : Index := 0#32
  ![1, v262.toNat, 0]
def k0_off28 (k0_t2 : Fin k0_t2_loop.trips) (k0_t3 : Fin (k0_t3_loop k0_t2).trips) : Fin 4 → Nat :=
  let c0_134 : Index := 0#32
  let c1_135 : Index := 1#32
  let c0_i32_1 : BitVec 32 := 0#32
  let c1_i32_3 : BitVec 32 := 1#32
  let arg19 : BitVec 32 := Scf.iv c0_i32_1 c1_i32_3 k0_t2
  let c1_i32_76 : BitVec 32 := 1#32
  let v145 : BitVec 32 := Scalar.addi arg19 c1_i32_76
  let c1_i32_79 : BitVec 32 := 1#32
  let arg20 : BitVec 32 := Scf.iv v145 c1_i32_79 k0_t3
  let c512_i32_92 : BitVec 32 := 512#32
  let v181 : BitVec 32 := Scalar.muli arg20 c512_i32_92
  let v182 : BitVec 32 := v181
  let v273 : Index := Scalar.indexCast v182
  let c0_136 : Index := 0#32
  ![0, 1, v273.toNat, 0]
@[reducible] def k0_t4_loop (k0_t2 : Fin k0_t2_loop.trips) : Scf.Loop 32 :=
  let c0_i32_1 : BitVec 32 := 0#32
  let c1_i32_3 : BitVec 32 := 1#32
  let arg19 : BitVec 32 := Scf.iv c0_i32_1 c1_i32_3 k0_t2
  let c1_i32_76 : BitVec 32 := 1#32
  let v145 : BitVec 32 := Scalar.addi arg19 c1_i32_76
  let c4_i32_77 : BitVec 32 := 4#32
  let v146 : BitVec 32 := Scalar.subi c4_i32_77 v145
  let c1_i32_78 : BitVec 32 := 1#32
  let v148 : BitVec 32 := Scalar.divsi v146 c1_i32_78
  let v149 : BitVec 32 := Scalar.muli v148 c1_i32_78
  let v150 : BitVec 32 := Scalar.addi v145 v149
  let v147 : BitVec 32 := Scalar.addi v145 v146
  let c1_i32_80 : BitVec 32 := 1#32
  ⟨v150, v147, c1_i32_80⟩
def k0_mult5 (k0_t2 : Fin k0_t2_loop.trips) (k0_t4 : Fin (k0_t4_loop k0_t2).trips) : BitVec 32 :=
  let c0_i32_1 : BitVec 32 := 0#32
  let c1_i32_3 : BitVec 32 := 1#32
  let arg19 : BitVec 32 := Scf.iv c0_i32_1 c1_i32_3 k0_t2
  let c1_i32_76 : BitVec 32 := 1#32
  let v145 : BitVec 32 := Scalar.addi arg19 c1_i32_76
  let c4_i32_77 : BitVec 32 := 4#32
  let v146 : BitVec 32 := Scalar.subi c4_i32_77 v145
  let c1_i32_78 : BitVec 32 := 1#32
  let v148 : BitVec 32 := Scalar.divsi v146 c1_i32_78
  let v149 : BitVec 32 := Scalar.muli v148 c1_i32_78
  let v150 : BitVec 32 := Scalar.addi v145 v149
  let c1_i32_80 : BitVec 32 := 1#32
  let arg20 : BitVec 32 := Scf.iv v150 c1_i32_80 k0_t4
  let c512_i32_92 : BitVec 32 := 512#32
  let v181 : BitVec 32 := Scalar.muli arg20 c512_i32_92
  v181
def k0_off29 (k0_t2 : Fin k0_t2_loop.trips) (k0_t4 : Fin (k0_t4_loop k0_t2).trips) : Fin 2 → Nat :=
  let c0_i32_1 : BitVec 32 := 0#32
  let c1_i32_3 : BitVec 32 := 1#32
  let arg19 : BitVec 32 := Scf.iv c0_i32_1 c1_i32_3 k0_t2
  let c1_i32_76 : BitVec 32 := 1#32
  let v145 : BitVec 32 := Scalar.addi arg19 c1_i32_76
  let c4_i32_77 : BitVec 32 := 4#32
  let v146 : BitVec 32 := Scalar.subi c4_i32_77 v145
  let c1_i32_78 : BitVec 32 := 1#32
  let v148 : BitVec 32 := Scalar.divsi v146 c1_i32_78
  let v149 : BitVec 32 := Scalar.muli v148 c1_i32_78
  let v150 : BitVec 32 := Scalar.addi v145 v149
  let c1_i32_80 : BitVec 32 := 1#32
  let arg20 : BitVec 32 := Scf.iv v150 c1_i32_80 k0_t4
  let c512_i32_92 : BitVec 32 := 512#32
  let v181 : BitVec 32 := Scalar.muli arg20 c512_i32_92
  let v182 : BitVec 32 := v181
  let v183 : Index := Scalar.indexCast v182
  let c0_93 : Index := 0#32
  ![v183.toNat, 0]
def k0_off30 (k0_t2 : Fin k0_t2_loop.trips) (k0_t4 : Fin (k0_t4_loop k0_t2).trips) : Fin 2 → Nat :=
  let c0_i32_1 : BitVec 32 := 0#32
  let c1_i32_3 : BitVec 32 := 1#32
  let arg19 : BitVec 32 := Scf.iv c0_i32_1 c1_i32_3 k0_t2
  let c1_i32_76 : BitVec 32 := 1#32
  let v145 : BitVec 32 := Scalar.addi arg19 c1_i32_76
  let c4_i32_77 : BitVec 32 := 4#32
  let v146 : BitVec 32 := Scalar.subi c4_i32_77 v145
  let c1_i32_78 : BitVec 32 := 1#32
  let v148 : BitVec 32 := Scalar.divsi v146 c1_i32_78
  let v149 : BitVec 32 := Scalar.muli v148 c1_i32_78
  let v150 : BitVec 32 := Scalar.addi v145 v149
  let c1_i32_80 : BitVec 32 := 1#32
  let arg20 : BitVec 32 := Scf.iv v150 c1_i32_80 k0_t4
  let c512_i32_92 : BitVec 32 := 512#32
  let v181 : BitVec 32 := Scalar.muli arg20 c512_i32_92
  let v182 : BitVec 32 := v181
  let v187 : Index := Scalar.indexCast v182
  let c0_95 : Index := 0#32
  ![v187.toNat, 0]
def k0_off31 (k0_t2 : Fin k0_t2_loop.trips) (k0_t4 : Fin (k0_t4_loop k0_t2).trips) : Fin 2 → Nat :=
  let c0_i32_1 : BitVec 32 := 0#32
  let c1_i32_3 : BitVec 32 := 1#32
  let arg19 : BitVec 32 := Scf.iv c0_i32_1 c1_i32_3 k0_t2
  let c1_i32_76 : BitVec 32 := 1#32
  let v145 : BitVec 32 := Scalar.addi arg19 c1_i32_76
  let c4_i32_77 : BitVec 32 := 4#32
  let v146 : BitVec 32 := Scalar.subi c4_i32_77 v145
  let c1_i32_78 : BitVec 32 := 1#32
  let v148 : BitVec 32 := Scalar.divsi v146 c1_i32_78
  let v149 : BitVec 32 := Scalar.muli v148 c1_i32_78
  let v150 : BitVec 32 := Scalar.addi v145 v149
  let c1_i32_80 : BitVec 32 := 1#32
  let arg20 : BitVec 32 := Scf.iv v150 c1_i32_80 k0_t4
  let c512_i32_92 : BitVec 32 := 512#32
  let v181 : BitVec 32 := Scalar.muli arg20 c512_i32_92
  let v182 : BitVec 32 := v181
  let v190 : Index := Scalar.indexCast v182
  let c128_96 : Index := 128#32
  ![v190.toNat, 128]
def k0_off32 (k0_t2 : Fin k0_t2_loop.trips) (k0_t4 : Fin (k0_t4_loop k0_t2).trips) : Fin 3 → Nat :=
  let c0_103 : Index := 0#32
  let c0_i32_1 : BitVec 32 := 0#32
  let c1_i32_3 : BitVec 32 := 1#32
  let arg19 : BitVec 32 := Scf.iv c0_i32_1 c1_i32_3 k0_t2
  let c1_i32_76 : BitVec 32 := 1#32
  let v145 : BitVec 32 := Scalar.addi arg19 c1_i32_76
  let c4_i32_77 : BitVec 32 := 4#32
  let v146 : BitVec 32 := Scalar.subi c4_i32_77 v145
  let c1_i32_78 : BitVec 32 := 1#32
  let v148 : BitVec 32 := Scalar.divsi v146 c1_i32_78
  let v149 : BitVec 32 := Scalar.muli v148 c1_i32_78
  let v150 : BitVec 32 := Scalar.addi v145 v149
  let c1_i32_80 : BitVec 32 := 1#32
  let arg20 : BitVec 32 := Scf.iv v150 c1_i32_80 k0_t4
  let c512_i32_92 : BitVec 32 := 512#32
  let v181 : BitVec 32 := Scalar.muli arg20 c512_i32_92
  let v182 : BitVec 32 := v181
  let v205 : Index := Scalar.indexCast v182
  let c0_104 : Index := 0#32
  ![0, v205.toNat, 0]
def k0_off33 (k0_t2 : Fin k0_t2_loop.trips) (k0_t4 : Fin (k0_t4_loop k0_t2).trips) : Fin 3 → Nat :=
  let c1_105 : Index := 1#32
  let c0_i32_1 : BitVec 32 := 0#32
  let c1_i32_3 : BitVec 32 := 1#32
  let arg19 : BitVec 32 := Scf.iv c0_i32_1 c1_i32_3 k0_t2
  let c1_i32_76 : BitVec 32 := 1#32
  let v145 : BitVec 32 := Scalar.addi arg19 c1_i32_76
  let c4_i32_77 : BitVec 32 := 4#32
  let v146 : BitVec 32 := Scalar.subi c4_i32_77 v145
  let c1_i32_78 : BitVec 32 := 1#32
  let v148 : BitVec 32 := Scalar.divsi v146 c1_i32_78
  let v149 : BitVec 32 := Scalar.muli v148 c1_i32_78
  let v150 : BitVec 32 := Scalar.addi v145 v149
  let c1_i32_80 : BitVec 32 := 1#32
  let arg20 : BitVec 32 := Scf.iv v150 c1_i32_80 k0_t4
  let c512_i32_92 : BitVec 32 := 512#32
  let v181 : BitVec 32 := Scalar.muli arg20 c512_i32_92
  let v182 : BitVec 32 := v181
  let v211 : Index := Scalar.indexCast v182
  let c0_106 : Index := 0#32
  ![1, v211.toNat, 0]
def k0_off34 (k0_t2 : Fin k0_t2_loop.trips) (k0_t4 : Fin (k0_t4_loop k0_t2).trips) : Fin 3 → Nat :=
  let c0_115 : Index := 0#32
  let c0_i32_1 : BitVec 32 := 0#32
  let c1_i32_3 : BitVec 32 := 1#32
  let arg19 : BitVec 32 := Scf.iv c0_i32_1 c1_i32_3 k0_t2
  let c1_i32_76 : BitVec 32 := 1#32
  let v145 : BitVec 32 := Scalar.addi arg19 c1_i32_76
  let c4_i32_77 : BitVec 32 := 4#32
  let v146 : BitVec 32 := Scalar.subi c4_i32_77 v145
  let c1_i32_78 : BitVec 32 := 1#32
  let v148 : BitVec 32 := Scalar.divsi v146 c1_i32_78
  let v149 : BitVec 32 := Scalar.muli v148 c1_i32_78
  let v150 : BitVec 32 := Scalar.addi v145 v149
  let c1_i32_80 : BitVec 32 := 1#32
  let arg20 : BitVec 32 := Scf.iv v150 c1_i32_80 k0_t4
  let c512_i32_92 : BitVec 32 := 512#32
  let v181 : BitVec 32 := Scalar.muli arg20 c512_i32_92
  let v182 : BitVec 32 := v181
  let v241 : Index := Scalar.indexCast v182
  let c0_116 : Index := 0#32
  ![0, v241.toNat, 0]
def k0_off35 (k0_t2 : Fin k0_t2_loop.trips) (k0_t4 : Fin (k0_t4_loop k0_t2).trips) : Fin 4 → Nat :=
  let c0_121 : Index := 0#32
  let c0_122 : Index := 0#32
  let c0_i32_1 : BitVec 32 := 0#32
  let c1_i32_3 : BitVec 32 := 1#32
  let arg19 : BitVec 32 := Scf.iv c0_i32_1 c1_i32_3 k0_t2
  let c1_i32_76 : BitVec 32 := 1#32
  let v145 : BitVec 32 := Scalar.addi arg19 c1_i32_76
  let c4_i32_77 : BitVec 32 := 4#32
  let v146 : BitVec 32 := Scalar.subi c4_i32_77 v145
  let c1_i32_78 : BitVec 32 := 1#32
  let v148 : BitVec 32 := Scalar.divsi v146 c1_i32_78
  let v149 : BitVec 32 := Scalar.muli v148 c1_i32_78
  let v150 : BitVec 32 := Scalar.addi v145 v149
  let c1_i32_80 : BitVec 32 := 1#32
  let arg20 : BitVec 32 := Scf.iv v150 c1_i32_80 k0_t4
  let c512_i32_92 : BitVec 32 := 512#32
  let v181 : BitVec 32 := Scalar.muli arg20 c512_i32_92
  let v182 : BitVec 32 := v181
  let v252 : Index := Scalar.indexCast v182
  let c0_123 : Index := 0#32
  ![0, 0, v252.toNat, 0]
def k0_off36 (k0_t2 : Fin k0_t2_loop.trips) (k0_t4 : Fin (k0_t4_loop k0_t2).trips) : Fin 3 → Nat :=
  let c1_128 : Index := 1#32
  let c0_i32_1 : BitVec 32 := 0#32
  let c1_i32_3 : BitVec 32 := 1#32
  let arg19 : BitVec 32 := Scf.iv c0_i32_1 c1_i32_3 k0_t2
  let c1_i32_76 : BitVec 32 := 1#32
  let v145 : BitVec 32 := Scalar.addi arg19 c1_i32_76
  let c4_i32_77 : BitVec 32 := 4#32
  let v146 : BitVec 32 := Scalar.subi c4_i32_77 v145
  let c1_i32_78 : BitVec 32 := 1#32
  let v148 : BitVec 32 := Scalar.divsi v146 c1_i32_78
  let v149 : BitVec 32 := Scalar.muli v148 c1_i32_78
  let v150 : BitVec 32 := Scalar.addi v145 v149
  let c1_i32_80 : BitVec 32 := 1#32
  let arg20 : BitVec 32 := Scf.iv v150 c1_i32_80 k0_t4
  let c512_i32_92 : BitVec 32 := 512#32
  let v181 : BitVec 32 := Scalar.muli arg20 c512_i32_92
  let v182 : BitVec 32 := v181
  let v262 : Index := Scalar.indexCast v182
  let c0_129 : Index := 0#32
  ![1, v262.toNat, 0]
def k0_off37 (k0_t2 : Fin k0_t2_loop.trips) (k0_t4 : Fin (k0_t4_loop k0_t2).trips) : Fin 4 → Nat :=
  let c0_134 : Index := 0#32
  let c1_135 : Index := 1#32
  let c0_i32_1 : BitVec 32 := 0#32
  let c1_i32_3 : BitVec 32 := 1#32
  let arg19 : BitVec 32 := Scf.iv c0_i32_1 c1_i32_3 k0_t2
  let c1_i32_76 : BitVec 32 := 1#32
  let v145 : BitVec 32 := Scalar.addi arg19 c1_i32_76
  let c4_i32_77 : BitVec 32 := 4#32
  let v146 : BitVec 32 := Scalar.subi c4_i32_77 v145
  let c1_i32_78 : BitVec 32 := 1#32
  let v148 : BitVec 32 := Scalar.divsi v146 c1_i32_78
  let v149 : BitVec 32 := Scalar.muli v148 c1_i32_78
  let v150 : BitVec 32 := Scalar.addi v145 v149
  let c1_i32_80 : BitVec 32 := 1#32
  let arg20 : BitVec 32 := Scf.iv v150 c1_i32_80 k0_t4
  let c512_i32_92 : BitVec 32 := 512#32
  let v181 : BitVec 32 := Scalar.muli arg20 c512_i32_92
  let v182 : BitVec 32 := v181
  let v273 : Index := Scalar.indexCast v182
  let c0_136 : Index := 0#32
  ![0, 1, v273.toNat, 0]
def k0_off38 (k0_t2 : Fin k0_t2_loop.trips) : Fin 2 → Nat :=
  let c0_i32_1 : BitVec 32 := 0#32
  let c1_i32_3 : BitVec 32 := 1#32
  let arg19 : BitVec 32 := Scf.iv c0_i32_1 c1_i32_3 k0_t2
  let c512_i32 : BitVec 32 := 512#32
  let v12 : BitVec 32 := Scalar.muli arg19 c512_i32
  let v13 : BitVec 32 := v12
  let v156 : Index := Scalar.indexCast v13
  let c128_82 : Index := 128#32
  ![v156.toNat, 128]
def k0_off39 (k0_t2 : Fin k0_t2_loop.trips) : Fin 2 → Nat :=
  let c0_i32_1 : BitVec 32 := 0#32
  let c1_i32_3 : BitVec 32 := 1#32
  let arg19 : BitVec 32 := Scf.iv c0_i32_1 c1_i32_3 k0_t2
  let c512_i32 : BitVec 32 := 512#32
  let v12 : BitVec 32 := Scalar.muli arg19 c512_i32
  let v13 : BitVec 32 := v12
  let v159 : Index := Scalar.indexCast v13
  let c256 : Index := 256#32
  ![v159.toNat, 256]
def k0_off40 (k0_t2 : Fin k0_t2_loop.trips) : Fin 2 → Nat :=
  let c0_i32_1 : BitVec 32 := 0#32
  let c1_i32_3 : BitVec 32 := 1#32
  let arg19 : BitVec 32 := Scf.iv c0_i32_1 c1_i32_3 k0_t2
  let c512_i32 : BitVec 32 := 512#32
  let v12 : BitVec 32 := Scalar.muli arg19 c512_i32
  let v13 : BitVec 32 := v12
  let v170 : Index := Scalar.indexCast v13
  let c512 : Index := 512#32
  ![v170.toNat, 512]
def k0_off41 (k0_t2 : Fin k0_t2_loop.trips) : Fin 2 → Nat :=
  let c0_i32_1 : BitVec 32 := 0#32
  let c1_i32_3 : BitVec 32 := 1#32
  let arg19 : BitVec 32 := Scf.iv c0_i32_1 c1_i32_3 k0_t2
  let c512_i32 : BitVec 32 := 512#32
  let v12 : BitVec 32 := Scalar.muli arg19 c512_i32
  let v13 : BitVec 32 := v12
  let v173 : Index := Scalar.indexCast v13
  let c640 : Index := 640#32
  ![v173.toNat, 640]
def cc0_transform_0 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg1
  let c0_i32 : BitVec 32 := 0#32
  let v1 : BitVec 32 := Scalar.addi v0 c0_i32
  let c3_i32 : BitVec 32 := 3#32
  let v2 : BitVec 32 := Scalar.muli c3_i32 v1
  let c0_i32_0 : BitVec 32 := 0#32
  let v3 : BitVec 32 := Scalar.addi v2 c0_i32_0
  let c0_i32_1 : BitVec 32 := 0#32
  ![arg0.toNat, v3.toNat]

def cc0_transform_1 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg1
  let c0_i32 : BitVec 32 := 0#32
  let v1 : BitVec 32 := Scalar.addi v0 c0_i32
  let c3_i32 : BitVec 32 := 3#32
  let v2 : BitVec 32 := Scalar.muli c3_i32 v1
  let c1_i32 : BitVec 32 := 1#32
  let v3 : BitVec 32 := Scalar.addi v2 c1_i32
  let c0_i32_0 : BitVec 32 := 0#32
  ![arg0.toNat, v3.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg1
  let c0_i32 : BitVec 32 := 0#32
  let v1 : BitVec 32 := Scalar.addi v0 c0_i32
  let c3_i32 : BitVec 32 := 3#32
  let v2 : BitVec 32 := Scalar.muli c3_i32 v1
  let c2_i32_0 : BitVec 32 := 2#32
  let v3 : BitVec 32 := Scalar.addi v2 c2_i32_0
  let c0_i32_1 : BitVec 32 := 0#32
  ![arg0.toNat, v3.toNat]

def cc0_transform_3 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg1
  let c1_i32 : BitVec 32 := 1#32
  let v1 : BitVec 32 := Scalar.addi v0 c1_i32
  let c3_i32 : BitVec 32 := 3#32
  let v2 : BitVec 32 := Scalar.muli c3_i32 v1
  let c0_i32 : BitVec 32 := 0#32
  let v3 : BitVec 32 := Scalar.addi v2 c0_i32
  let c0_i32_0 : BitVec 32 := 0#32
  ![arg0.toNat, v3.toNat]

def cc0_transform_4 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg1
  let c1_i32 : BitVec 32 := 1#32
  let v1 : BitVec 32 := Scalar.addi v0 c1_i32
  let c3_i32 : BitVec 32 := 3#32
  let v2 : BitVec 32 := Scalar.muli c3_i32 v1
  let c1_i32_0 : BitVec 32 := 1#32
  let v3 : BitVec 32 := Scalar.addi v2 c1_i32_0
  let c0_i32 : BitVec 32 := 0#32
  ![arg0.toNat, v3.toNat]

def cc0_transform_5 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg1
  let c1_i32 : BitVec 32 := 1#32
  let v1 : BitVec 32 := Scalar.addi v0 c1_i32
  let c3_i32 : BitVec 32 := 3#32
  let v2 : BitVec 32 := Scalar.muli c3_i32 v1
  let c2_i32_0 : BitVec 32 := 2#32
  let v3 : BitVec 32 := Scalar.addi v2 c2_i32_0
  let c0_i32 : BitVec 32 := 0#32
  ![arg0.toNat, v3.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_12 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_13 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2048x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2048x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x2x2048x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x2x1x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S2048x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x2x2048x1 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S2048x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S2048x768 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x2x2048x1 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x2x1x2048 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== FoxBwdIdeal.lean ====
variable {F : FTy → Type} [FloatOps F] [Named F]
def κ : String → Option EReal := fun
  | "masked" => some ⊥
  | _ => none
-- ==== FoxRefIdeal.lean ====
abbrev S8192x3072 : Shape := ⟨2, ![8192, 3072]⟩
abbrev S4x8x2048 : Shape := ⟨3, ![4, 8, 2048]⟩
abbrev S8192x1024 : Shape := ⟨2, ![8192, 1024]⟩
abbrev S4x2048x8x3x128 : Shape := ⟨5, ![4, 2048, 8, 3, 128]⟩
abbrev S3x4x8x2048x128 : Shape := ⟨5, ![3, 4, 8, 2048, 128]⟩
abbrev S1x4x8x2048x128 : Shape := ⟨5, ![1, 4, 8, 2048, 128]⟩
abbrev S4x8x2048x128 : Shape := ⟨4, ![4, 8, 2048, 128]⟩
abbrev S4x8x2048x2048 : Shape := ⟨4, ![4, 8, 2048, 2048]⟩
abbrev S_ : Shape := ⟨0, ![]⟩
abbrev S4x8x2048x1 : Shape := ⟨4, ![4, 8, 2048, 1]⟩
abbrev S4x8x1x2048 : Shape := ⟨4, ![4, 8, 1, 2048]⟩
abbrev S2048x2048 : Shape := ⟨2, ![2048, 2048]⟩
abbrev S4x2048x8x128 : Shape := ⟨4, ![4, 2048, 8, 128]⟩
abbrev S4x8x128x2048 : Shape := ⟨4, ![4, 8, 128, 2048]⟩
abbrev S4x8x2048x1x128 : Shape := ⟨5, ![4, 8, 2048, 1, 128]⟩
abbrev S4x8x2048x3x128 : Shape := ⟨5, ![4, 8, 2048, 3, 128]⟩

abbrev nBuf : Space → Nat
  | .hbm => 120
  | .vmem => 0
  | .smem => 0
  | _ => 0

abbrev bufTy : (tb : Table) → Fin (tcTables nBuf tb) → BufTy
  | .hbm, ⟨0, _⟩ => ⟨S8192x3072, .bf16⟩
  | .hbm, ⟨1, _⟩ => ⟨S4x8x2048, .f32⟩
  | .hbm, ⟨2, _⟩ => ⟨S8192x1024, .f32⟩
  | .hbm, ⟨3, _⟩ => ⟨S8192x3072, .f32⟩
  | .hbm, ⟨4, _⟩ => ⟨S4x2048x8x3x128, .f32⟩
  | .hbm, ⟨5, _⟩ => ⟨S3x4x8x2048x128, .f32⟩
  | .hbm, ⟨6, _⟩ => ⟨S1x4x8x2048x128, .f32⟩
  | .hbm, ⟨7, _⟩ => ⟨S4x8x2048x128, .f32⟩
  | .hbm, ⟨8, _⟩ => ⟨S1x4x8x2048x128, .f32⟩
  | .hbm, ⟨9, _⟩ => ⟨S4x8x2048x128, .f32⟩
  | .hbm, ⟨10, _⟩ => ⟨S1x4x8x2048x128, .f32⟩
  | .hbm, ⟨11, _⟩ => ⟨S4x8x2048x128, .f32⟩
  | .hbm, ⟨12, _⟩ => ⟨S4x8x2048x2048, .f32⟩
  | .hbm, ⟨13, _⟩ => ⟨S_, .f32⟩
  | .hbm, ⟨14, _⟩ => ⟨S4x8x2048x2048, .f32⟩
  | .hbm, ⟨15, _⟩ => ⟨S4x8x2048x2048, .f32⟩
  | .hbm, ⟨16, _⟩ => ⟨S4x8x2048x1, .f32⟩
  | .hbm, ⟨17, _⟩ => ⟨S4x8x1x2048, .f32⟩
  | .hbm, ⟨18, _⟩ => ⟨S4x8x2048x2048, .f32⟩
  | .hbm, ⟨19, _⟩ => ⟨S4x8x2048x2048, .f32⟩
  | .hbm, ⟨20, _⟩ => ⟨S4x8x2048x2048, .f32⟩
  | .hbm, ⟨21, _⟩ => ⟨S4x8x2048x2048, .f32⟩
  | .hbm, ⟨22, _⟩ => ⟨S2048x2048, .i32⟩
  | .hbm, ⟨23, _⟩ => ⟨S2048x2048, .i32⟩
  | .hbm, ⟨24, _⟩ => ⟨S2048x2048, .i1⟩
  | .hbm, ⟨25, _⟩ => ⟨S_, .f32⟩
  | .hbm, ⟨26, _⟩ => ⟨S_, .f32⟩
  | .hbm, ⟨27, _⟩ => ⟨S4x8x2048x2048, .i1⟩
  | .hbm, ⟨28, _⟩ => ⟨S4x8x2048x2048, .f32⟩
  | .hbm, ⟨29, _⟩ => ⟨S4x8x2048x2048, .f32⟩
  | .hbm, ⟨30, _⟩ => ⟨S_, .f32⟩
  | .hbm, ⟨31, _⟩ => ⟨S4x8x2048x2048, .f32⟩
  | .hbm, ⟨32, _⟩ => ⟨S_, .f32⟩
  | .hbm, ⟨33, _⟩ => ⟨S4x8x2048, .f32⟩
  | .hbm, ⟨34, _⟩ => ⟨S4x8x2048x1, .f32⟩
  | .hbm, ⟨35, _⟩ => ⟨S4x8x2048x2048, .f32⟩
  | .hbm, ⟨36, _⟩ => ⟨S4x8x2048x2048, .i1⟩
  | .hbm, ⟨37, _⟩ => ⟨S4x8x2048x2048, .f32⟩
  | .hbm, ⟨38, _⟩ => ⟨S_, .f32⟩
  | .hbm, ⟨39, _⟩ => ⟨S4x8x2048, .f32⟩
  | .hbm, ⟨40, _⟩ => ⟨S_, .f32⟩
  | .hbm, ⟨41, _⟩ => ⟨S4x8x2048, .f32⟩
  | .hbm, ⟨42, _⟩ => ⟨S4x8x2048, .f32⟩
  | .hbm, ⟨43, _⟩ => ⟨S_, .f32⟩
  | .hbm, ⟨44, _⟩ => ⟨S4x8x2048, .f32⟩
  | .hbm, ⟨45, _⟩ => ⟨S4x8x2048, .i1⟩
  | .hbm, ⟨46, _⟩ => ⟨S_, .f32⟩
  | .hbm, ⟨47, _⟩ => ⟨S4x8x2048, .f32⟩
  | .hbm, ⟨48, _⟩ => ⟨S4x8x2048, .i1⟩
  | .hbm, ⟨49, _⟩ => ⟨S_, .f32⟩
  | .hbm, ⟨50, _⟩ => ⟨S4x8x2048, .f32⟩
  | .hbm, ⟨51, _⟩ => ⟨S_, .f32⟩
  | .hbm, ⟨52, _⟩ => ⟨S4x8x2048, .f32⟩
  | .hbm, ⟨53, _⟩ => ⟨S_, .f32⟩
  | .hbm, ⟨54, _⟩ => ⟨S4x8x2048, .f32⟩
  | .hbm, ⟨55, _⟩ => ⟨S4x8x2048, .f32⟩
  | .hbm, ⟨56, _⟩ => ⟨S4x8x2048, .f32⟩
  | .hbm, ⟨57, _⟩ => ⟨S4x8x2048x1, .f32⟩
  | .hbm, ⟨58, _⟩ => ⟨S4x8x2048x2048, .f32⟩
  | .hbm, ⟨59, _⟩ => ⟨S4x8x2048x2048, .f32⟩
  | .hbm, ⟨60, _⟩ => ⟨S4x8x2048x2048, .f32⟩
  | .hbm, ⟨61, _⟩ => ⟨S_, .f32⟩
  | .hbm, ⟨62, _⟩ => ⟨S4x8x2048, .f32⟩
  | .hbm, ⟨63, _⟩ => ⟨S4x8x2048x1, .f32⟩
  | .hbm, ⟨64, _⟩ => ⟨S4x8x2048x2048, .f32⟩
  | .hbm, ⟨65, _⟩ => ⟨S4x8x2048x2048, .f32⟩
  | .hbm, ⟨66, _⟩ => ⟨S4x8x2048x1, .f32⟩
  | .hbm, ⟨67, _⟩ => ⟨S_, .f32⟩
  | .hbm, ⟨68, _⟩ => ⟨S4x8x2048x1, .f32⟩
  | .hbm, ⟨69, _⟩ => ⟨S4x8x2048x1, .f32⟩
  | .hbm, ⟨70, _⟩ => ⟨S4x8x2048x128, .f32⟩
  | .hbm, ⟨71, _⟩ => ⟨S4x2048x8x128, .f32⟩
  | .hbm, ⟨72, _⟩ => ⟨S8192x1024, .f32⟩
  | .hbm, ⟨73, _⟩ => ⟨S4x2048x8x128, .f32⟩
  | .hbm, ⟨74, _⟩ => ⟨S4x8x2048x128, .f32⟩
  | .hbm, ⟨75, _⟩ => ⟨S4x8x128x2048, .f32⟩
  | .hbm, ⟨76, _⟩ => ⟨S4x8x2048x128, .f32⟩
  | .hbm, ⟨77, _⟩ => ⟨S4x8x2048x2048, .f32⟩
  | .hbm, ⟨78, _⟩ => ⟨S4x8x2048x2048, .f32⟩
  | .hbm, ⟨79, _⟩ => ⟨S4x8x2048x2048, .f32⟩
  | .hbm, ⟨80, _⟩ => ⟨S4x8x2048x2048, .f32⟩
  | .hbm, ⟨81, _⟩ => ⟨S_, .f32⟩
  | .hbm, ⟨82, _⟩ => ⟨S4x8x2048, .f32⟩
  | .hbm, ⟨83, _⟩ => ⟨S4x8x2048x1, .f32⟩
  | .hbm, ⟨84, _⟩ => ⟨S4x8x2048x1, .f32⟩
  | .hbm, ⟨85, _⟩ => ⟨S4x8x2048x2048, .f32⟩
  | .hbm, ⟨86, _⟩ => ⟨S4x8x2048x2048, .f32⟩
  | .hbm, ⟨87, _⟩ => ⟨S_, .f32⟩
  | .hbm, ⟨88, _⟩ => ⟨S4x8x2048, .f32⟩
  | .hbm, ⟨89, _⟩ => ⟨S4x8x2048x2048, .f32⟩
  | .hbm, ⟨90, _⟩ => ⟨S4x8x2048x2048, .f32⟩
  | .hbm, ⟨91, _⟩ => ⟨S4x8x2048x2048, .f32⟩
  | .hbm, ⟨92, _⟩ => ⟨S_, .f32⟩
  | .hbm, ⟨93, _⟩ => ⟨S4x8x2048x2048, .f32⟩
  | .hbm, ⟨94, _⟩ => ⟨S4x8x2048x2048, .f32⟩
  | .hbm, ⟨95, _⟩ => ⟨S_, .f32⟩
  | .hbm, ⟨96, _⟩ => ⟨S4x8x2048, .f32⟩
  | .hbm, ⟨97, _⟩ => ⟨S4x8x2048x1, .f32⟩
  | .hbm, ⟨98, _⟩ => ⟨S4x8x2048x2048, .f32⟩
  | .hbm, ⟨99, _⟩ => ⟨S_, .f32⟩
  | .hbm, ⟨100, _⟩ => ⟨S4x8x2048, .f32⟩
  | .hbm, ⟨101, _⟩ => ⟨S4x8x1x2048, .f32⟩
  | .hbm, ⟨102, _⟩ => ⟨S_, .f32⟩
  | .hbm, ⟨103, _⟩ => ⟨S4x8x2048, .f32⟩
  | .hbm, ⟨104, _⟩ => ⟨S_, .f32⟩
  | .hbm, ⟨105, _⟩ => ⟨S4x8x2048, .f32⟩
  | .hbm, ⟨106, _⟩ => ⟨S_, .f32⟩
  | .hbm, ⟨107, _⟩ => ⟨S4x8x2048x2048, .f32⟩
  | .hbm, ⟨108, _⟩ => ⟨S4x8x2048x2048, .f32⟩
  | .hbm, ⟨109, _⟩ => ⟨S4x8x2048x128, .f32⟩
  | .hbm, ⟨110, _⟩ => ⟨S4x8x2048x128, .f32⟩
  | .hbm, ⟨111, _⟩ => ⟨S4x8x2048x1x128, .f32⟩
  | .hbm, ⟨112, _⟩ => ⟨S4x8x2048x1x128, .f32⟩
  | .hbm, ⟨113, _⟩ => ⟨S4x8x2048x1x128, .f32⟩
  | .hbm, ⟨114, _⟩ => ⟨S4x8x2048x3x128, .f32⟩
  | .hbm, ⟨115, _⟩ => ⟨S4x2048x8x3x128, .f32⟩
  | .hbm, ⟨116, _⟩ => ⟨S8192x3072, .f32⟩
  | .hbm, ⟨117, _⟩ => ⟨S8192x3072, .bf16⟩
  | .hbm, ⟨118, _⟩ => ⟨S4x8x2048x1, .f32⟩
  | .hbm, ⟨119, _⟩ => ⟨S4x8x1x2048, .f32⟩
  | _, _ => ⟨S8192x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_cst_0 : Ref sig .tc := ⟨.hbm, 25, rfl⟩
abbrev main_call0_v0 : Ref sig .tc := ⟨.hbm, 26, rfl⟩
abbrev main_v21_1 : Ref sig .tc := ⟨.hbm, 27, rfl⟩
abbrev main_call0_v2 : Ref sig .tc := ⟨.hbm, 28, rfl⟩
abbrev main_v21_0 : Ref sig .tc := ⟨.hbm, 29, rfl⟩
abbrev main_call0_cst : Ref sig .tc := ⟨.hbm, 30, rfl⟩
abbrev main_v21_2 : Ref sig .tc := ⟨.hbm, 31, rfl⟩
abbrev main_cst_1 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_2 : Ref sig .tc := ⟨.hbm, 38, rfl⟩
abbrev main_v27 : Ref sig .tc := ⟨.hbm, 39, rfl⟩
abbrev main_cst_3 : Ref sig .tc := ⟨.hbm, 40, rfl⟩
abbrev main_v28 : Ref sig .tc := ⟨.hbm, 41, rfl⟩
abbrev main_v29 : Ref sig .tc := ⟨.hbm, 42, rfl⟩
abbrev main_cst_4 : Ref sig .tc := ⟨.hbm, 43, rfl⟩
abbrev main_v30 : Ref sig .tc := ⟨.hbm, 44, rfl⟩
abbrev main_v31 : Ref sig .tc := ⟨.hbm, 45, rfl⟩
abbrev main_cst_5 : Ref sig .tc := ⟨.hbm, 46, rfl⟩
abbrev main_v32 : Ref sig .tc := ⟨.hbm, 47, rfl⟩
abbrev main_v33 : Ref sig .tc := ⟨.hbm, 48, rfl⟩
abbrev main_cst_6 : Ref sig .tc := ⟨.hbm, 49, rfl⟩
abbrev main_v34 : Ref sig .tc := ⟨.hbm, 50, rfl⟩
abbrev main_cst_7 : Ref sig .tc := ⟨.hbm, 51, rfl⟩
abbrev main_v35 : Ref sig .tc := ⟨.hbm, 52, rfl⟩
abbrev main_cst_8 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_9 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_cst_10 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_cst_11 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_cst_12 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_call1_cst : Ref sig .tc := ⟨.hbm, 92, rfl⟩
abbrev main_call1_v0 : Ref sig .tc := ⟨.hbm, 93, rfl⟩
abbrev main_v70 : Ref sig .tc := ⟨.hbm, 94, rfl⟩
abbrev main_cst_13 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_cst_14 : Ref sig .tc := ⟨.hbm, 99, rfl⟩
abbrev main_v74 : Ref sig .tc := ⟨.hbm, 100, rfl⟩
abbrev main_v75 : Ref sig .tc := ⟨.hbm, 101, rfl⟩
abbrev main_cst_15 : Ref sig .tc := ⟨.hbm, 102, rfl⟩
abbrev main_v76 : Ref sig .tc := ⟨.hbm, 103, rfl⟩
abbrev main_cst_16 : Ref sig .tc := ⟨.hbm, 104, rfl⟩
abbrev main_v77 : Ref sig .tc := ⟨.hbm, 105, rfl⟩
abbrev main_cst_17 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩

abbrev nD : Nat := 1
abbrev τ : Topo := Topo.v7x

variable {F : FTy → Type} [FloatOps F]
-- ==== MergeBwd.lean ====
abbrev S8192x1024 : Shape := ⟨2, ![8192, 1024]⟩
abbrev S1024x1024 : Shape := ⟨2, ![1024, 1024]⟩
abbrev S8192x2048 : Shape := ⟨2, ![8192, 2048]⟩
abbrev S512x1024 : Shape := ⟨2, ![512, 1024]⟩
abbrev S512x2048 : Shape := ⟨2, ![512, 2048]⟩

abbrev nBuf : Space → Nat
  | .hbm => 8
  | .vmem => 17
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x2048, .f32⟩
  | .hbm, ⟨3, _⟩ => ⟨S8192x1024, .f32⟩
  | .hbm, ⟨4, _⟩ => ⟨S8192x1024, .f32⟩
  | .hbm, ⟨5, _⟩ => ⟨S8192x1024, .bf16⟩
  | .hbm, ⟨6, _⟩ => ⟨S8192x1024, .bf16⟩
  | .hbm, ⟨7, _⟩ => ⟨S8192x2048, .bf16⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x2048, .bf16⟩
  | .local _ .vmem, ⟨16, _⟩ => ⟨S512x2048, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨3, ![1, 16, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  ![arg1.toNat, c1_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true, false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true, false]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true, false]

abbrev stage0_8 : Fin 2 → Memref sig .tc .vmem S512x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true, false]
-- ==== MergeRefIdeal.lean ====
abbrev S8192x1024 : Shape := ⟨2, ![8192, 1024]⟩
abbrev S1024x1024 : Shape := ⟨2, ![1024, 1024]⟩
abbrev S8192x2048 : Shape := ⟨2, ![8192, 2048]⟩
abbrev S_ : Shape := ⟨0, ![]⟩

abbrev nBuf : Space → Nat
  | .hbm => 48
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x2048, .f32⟩
  | .hbm, ⟨3, _⟩ => ⟨S8192x1024, .f32⟩
  | .hbm, ⟨4, _⟩ => ⟨S8192x1024, .f32⟩
  | .hbm, ⟨5, _⟩ => ⟨S1024x1024, .f32⟩
  | .hbm, ⟨6, _⟩ => ⟨S8192x1024, .f32⟩
  | .hbm, ⟨7, _⟩ => ⟨S8192x1024, .f32⟩
  | .hbm, ⟨8, _⟩ => ⟨S8192x1024, .f32⟩
  | .hbm, ⟨9, _⟩ => ⟨S8192x1024, .f32⟩
  | .hbm, ⟨10, _⟩ => ⟨S8192x1024, .f32⟩
  | .hbm, ⟨11, _⟩ => ⟨S_, .f32⟩
  | .hbm, ⟨12, _⟩ => ⟨S8192x1024, .f32⟩
  | .hbm, ⟨13, _⟩ => ⟨S8192x1024, .f32⟩
  | .hbm, ⟨14, _⟩ => ⟨S_, .f32⟩
  | .hbm, ⟨15, _⟩ => ⟨S8192x1024, .f32⟩
  | .hbm, ⟨16, _⟩ => ⟨S8192x1024, .f32⟩
  | .hbm, ⟨17, _⟩ => ⟨S_, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S_, .f32⟩
  | .hbm, ⟨25, _⟩ => ⟨S8192x1024, .f32⟩
  | .hbm, ⟨26, _⟩ => ⟨S8192x1024, .f32⟩
  | .hbm, ⟨27, _⟩ => ⟨S_, .f32⟩
  | .hbm, ⟨28, _⟩ => ⟨S8192x1024, .f32⟩
  | .hbm, ⟨29, _⟩ => ⟨S8192x1024, .f32⟩
  | .hbm, ⟨30, _⟩ => ⟨S_, .f32⟩
  | .hbm, ⟨31, _⟩ => ⟨S8192x1024, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S8192x1024, .f32⟩
  | .hbm, ⟨36, _⟩ => ⟨S8192x1024, .f32⟩
  | .hbm, ⟨37, _⟩ => ⟨S8192x1024, .f32⟩
  | .hbm, ⟨38, _⟩ => ⟨S8192x1024, .f32⟩
  | .hbm, ⟨39, _⟩ => ⟨S8192x1024, .f32⟩
  | .hbm, ⟨40, _⟩ => ⟨S8192x1024, .f32⟩
  | .hbm, ⟨41, _⟩ => ⟨S8192x1024, .f32⟩
  | .hbm, ⟨42, _⟩ => ⟨S8192x1024, .f32⟩
  | .hbm, ⟨43, _⟩ => ⟨S8192x1024, .f32⟩
  | .hbm, ⟨44, _⟩ => ⟨S8192x2048, .f32⟩
  | .hbm, ⟨45, _⟩ => ⟨S8192x1024, .bf16⟩
  | .hbm, ⟨46, _⟩ => ⟨S8192x1024, .bf16⟩
  | .hbm, ⟨47, _⟩ => ⟨S8192x2048, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_cst_4 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩

abbrev nD : Nat := 1
abbrev τ : Topo := Topo.v7x

variable {F : FTy → Type} [FloatOps F]
-- ==== DAct.lean ====
abbrev S8192x1024 : Shape := ⟨2, ![8192, 1024]⟩
abbrev S2816x1024 : Shape := ⟨2, ![2816, 1024]⟩
abbrev S8192x2816 : Shape := ⟨2, ![8192, 2816]⟩
abbrev S1024x1024 : Shape := ⟨2, ![1024, 1024]⟩
abbrev S1408x1024 : Shape := ⟨2, ![1408, 1024]⟩
abbrev S1024x1408 : Shape := ⟨2, ![1024, 1408]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S2816x1024, .bf16⟩
  | .hbm, ⟨2, _⟩ => ⟨S8192x2816, .f32⟩
  | .local _ .vmem, ⟨0, _⟩ => ⟨S1024x1024, .bf16⟩
  | .local _ .vmem, ⟨1, _⟩ => ⟨S1024x1024, .bf16⟩
  | .local _ .vmem, ⟨2, _⟩ => ⟨S1408x1024, .bf16⟩
  | .local _ .vmem, ⟨3, _⟩ => ⟨S1408x1024, .bf16⟩
  | .local _ .vmem, ⟨4, _⟩ => ⟨S1024x1408, .f32⟩
  | .local _ .vmem, ⟨5, _⟩ => ⟨S1024x1408, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DActRefIdeal.lean ====
abbrev S8192x1024 : Shape := ⟨2, ![8192, 1024]⟩
abbrev S2816x1024 : Shape := ⟨2, ![2816, 1024]⟩
abbrev S8192x2816 : Shape := ⟨2, ![8192, 2816]⟩

abbrev nBuf : Space → Nat
  | .hbm => 5
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S2816x1024, .bf16⟩
  | .hbm, ⟨2, _⟩ => ⟨S2816x1024, .f32⟩
  | .hbm, ⟨3, _⟩ => ⟨S8192x1024, .f32⟩
  | .hbm, ⟨4, _⟩ => ⟨S8192x2816, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== DHn2.lean ====
abbrev S8192x2816 : Shape := ⟨2, ![8192, 2816]⟩
abbrev S1024x2816 : Shape := ⟨2, ![1024, 2816]⟩
abbrev S8192x1024 : Shape := ⟨2, ![8192, 1024]⟩
abbrev S512x2816 : Shape := ⟨2, ![512, 2816]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x2816, .bf16⟩
  | .hbm, ⟨1, _⟩ => ⟨S1024x2816, .bf16⟩
  | .hbm, ⟨2, _⟩ => ⟨S8192x1024, .f32⟩
  | .local _ .vmem, ⟨0, _⟩ => ⟨S512x2816, .bf16⟩
  | .local _ .vmem, ⟨1, _⟩ => ⟨S512x2816, .bf16⟩
  | .local _ .vmem, ⟨2, _⟩ => ⟨S1024x2816, .bf16⟩
  | .local _ .vmem, ⟨3, _⟩ => ⟨S512x1024, .f32⟩
  | .local _ .vmem, ⟨4, _⟩ => ⟨S512x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 16, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S1024x2816 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DHn2RefIdeal.lean ====
abbrev S8192x2816 : Shape := ⟨2, ![8192, 2816]⟩
abbrev S1024x2816 : Shape := ⟨2, ![1024, 2816]⟩
abbrev S8192x1024 : Shape := ⟨2, ![8192, 1024]⟩

abbrev nBuf : Space → Nat
  | .hbm => 5
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S1024x2816, .bf16⟩
  | .hbm, ⟨2, _⟩ => ⟨S1024x2816, .f32⟩
  | .hbm, ⟨3, _⟩ => ⟨S8192x2816, .f32⟩
  | .hbm, ⟨4, _⟩ => ⟨S8192x1024, .f32⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== DBranch.lean ====
abbrev S8192x1024 : Shape := ⟨2, ![8192, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DBranchRefIdeal.lean ====
abbrev S8192x1024 : Shape := ⟨2, ![8192, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S1024x1024, .f32⟩
  | .hbm, ⟨3, _⟩ => ⟨S8192x1024, .f32⟩
  | .hbm, ⟨4, _⟩ => ⟨S8192x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== DHFox.lean ====
abbrev S8192x3072 : Shape := ⟨2, ![8192, 3072]⟩
abbrev S3072x1024 : Shape := ⟨2, ![3072, 1024]⟩
abbrev S8192x1024 : Shape := ⟨2, ![8192, 1024]⟩
abbrev S512x3072 : Shape := ⟨2, ![512, 3072]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x3072, .bf16⟩
  | .hbm, ⟨1, _⟩ => ⟨S3072x1024, .bf16⟩
  | .hbm, ⟨2, _⟩ => ⟨S8192x1024, .f32⟩
  | .local _ .vmem, ⟨0, _⟩ => ⟨S512x3072, .bf16⟩
  | .local _ .vmem, ⟨1, _⟩ => ⟨S512x3072, .bf16⟩
  | .local _ .vmem, ⟨2, _⟩ => ⟨S3072x1024, .bf16⟩
  | .local _ .vmem, ⟨3, _⟩ => ⟨S512x1024, .f32⟩
  | .local _ .vmem, ⟨4, _⟩ => ⟨S512x1024, .f32⟩
  | _, _ => ⟨S8192x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 16, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S3072x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DHFoxRefIdeal.lean ====
abbrev S8192x3072 : Shape := ⟨2, ![8192, 3072]⟩
abbrev S3072x1024 : Shape := ⟨2, ![3072, 1024]⟩
abbrev S8192x1024 : Shape := ⟨2, ![8192, 1024]⟩

abbrev nBuf : Space → Nat
  | .hbm => 5
  | .vmem => 0
  | .smem => 0
  | _ => 0

abbrev bufTy : (tb : Table) → Fin (tcTables nBuf tb) → BufTy
  | .hbm, ⟨0, _⟩ => ⟨S8192x3072, .bf16⟩
  | .hbm, ⟨1, _⟩ => ⟨S3072x1024, .bf16⟩
  | .hbm, ⟨2, _⟩ => ⟨S3072x1024, .f32⟩
  | .hbm, ⟨3, _⟩ => ⟨S8192x3072, .f32⟩
  | .hbm, ⟨4, _⟩ => ⟨S8192x1024, .f32⟩
  | _, _ => ⟨S8192x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== DHQkv.lean ====
abbrev S8192x3072 : Shape := ⟨2, ![8192, 3072]⟩
abbrev S3072x1024 : Shape := ⟨2, ![3072, 1024]⟩
abbrev S8192x1024 : Shape := ⟨2, ![8192, 1024]⟩
abbrev S512x3072 : Shape := ⟨2, ![512, 3072]⟩
abbrev S512x1024 : Shape := ⟨2, ![512, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8192x3072, .bf16⟩
  | .hbm, ⟨1, _⟩ => ⟨S3072x1024, .bf16⟩
  | .hbm, ⟨2, _⟩ => ⟨S8192x1024, .f32⟩
  | .hbm, ⟨3, _⟩ => ⟨S8192x1024, .f32⟩
  | .local _ .vmem, ⟨0, _⟩ => ⟨S512x3072, .bf16⟩
  | .local _ .vmem, ⟨1, _⟩ => ⟨S512x3072, .bf16⟩
  | .local _ .vmem, ⟨2, _⟩ => ⟨S3072x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S8192x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![1, 16, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S3072x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DHQkvRefIdeal.lean ====
abbrev S8192x3072 : Shape := ⟨2, ![8192, 3072]⟩
abbrev S3072x1024 : Shape := ⟨2, ![3072, 1024]⟩
abbrev S8192x1024 : Shape := ⟨2, ![8192, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x3072, .bf16⟩
  | .hbm, ⟨1, _⟩ => ⟨S3072x1024, .bf16⟩
  | .hbm, ⟨2, _⟩ => ⟨S8192x1024, .f32⟩
  | .hbm, ⟨3, _⟩ => ⟨S3072x1024, .f32⟩
  | .hbm, ⟨4, _⟩ => ⟨S8192x3072, .f32⟩
  | .hbm, ⟨5, _⟩ => ⟨S8192x1024, .f32⟩
  | .hbm, ⟨6, _⟩ => ⟨S8192x1024, .f32⟩
  | _, _ => ⟨S8192x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== DHGates.lean ====
abbrev S8192x2048 : Shape := ⟨2, ![8192, 2048]⟩
abbrev S2048x1024 : Shape := ⟨2, ![2048, 1024]⟩
abbrev S8192x1024 : Shape := ⟨2, ![8192, 1024]⟩
abbrev S1024x2048 : Shape := ⟨2, ![1024, 2048]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S2048x1024, .bf16⟩
  | .hbm, ⟨2, _⟩ => ⟨S8192x1024, .f32⟩
  | .hbm, ⟨3, _⟩ => ⟨S8192x1024, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![1, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DHGatesRefIdeal.lean ====
abbrev S8192x2048 : Shape := ⟨2, ![8192, 2048]⟩
abbrev S2048x1024 : Shape := ⟨2, ![2048, 1024]⟩
abbrev S8192x1024 : Shape := ⟨2, ![8192, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x1024, .bf16⟩
  | .hbm, ⟨2, _⟩ => ⟨S8192x1024, .f32⟩
  | .hbm, ⟨3, _⟩ => ⟨S2048x1024, .f32⟩
  | .hbm, ⟨4, _⟩ => ⟨S8192x2048, .f32⟩
  | .hbm, ⟨5, _⟩ => ⟨S8192x1024, .f32⟩
  | .hbm, ⟨6, _⟩ => ⟨S8192x1024, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== DHGz.lean ====
abbrev S8192x1024 : Shape := ⟨2, ![8192, 1024]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![1, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DHGzRefIdeal.lean ====
abbrev S8192x1024 : Shape := ⟨2, ![8192, 1024]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S1024x1024, .f32⟩
  | .hbm, ⟨4, _⟩ => ⟨S8192x1024, .f32⟩
  | .hbm, ⟨5, _⟩ => ⟨S8192x1024, .f32⟩
  | .hbm, ⟨6, _⟩ => ⟨S8192x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== DwDown.lean ====
abbrev S8192x2816 : Shape := ⟨2, ![8192, 2816]⟩
abbrev S8192x1024 : Shape := ⟨2, ![8192, 1024]⟩
abbrev S2816x1024 : Shape := ⟨2, ![2816, 1024]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S2816x1024, .f32⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1408x1024, .f32⟩
  | .local _ .vmem, ⟨5, _⟩ => ⟨S1408x1024, .f32⟩
  | .local _ .vmem, ⟨6, _⟩ => ⟨S1408x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwDownRefIdeal.lean ====
abbrev S8192x2816 : Shape := ⟨2, ![8192, 2816]⟩
abbrev S8192x1024 : Shape := ⟨2, ![8192, 1024]⟩
abbrev S1024x2816 : Shape := ⟨2, ![1024, 2816]⟩
abbrev S2816x1024 : Shape := ⟨2, ![2816, 1024]⟩

abbrev nBuf : Space → Nat
  | .hbm => 6
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S8192x2816, .f32⟩
  | .hbm, ⟨3, _⟩ => ⟨S8192x1024, .f32⟩
  | .hbm, ⟨4, _⟩ => ⟨S1024x2816, .f32⟩
  | .hbm, ⟨5, _⟩ => ⟨S2816x1024, .f32⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== DwUp.lean ====
abbrev S8192x1024 : Shape := ⟨2, ![8192, 1024]⟩
abbrev S8192x2816 : Shape := ⟨2, ![8192, 2816]⟩
abbrev S2x2x512x1408 : Shape := ⟨4, ![2, 2, 512, 1408]⟩
abbrev S4096x512 : Shape := ⟨2, ![4096, 512]⟩
abbrev S4096x1408 : Shape := ⟨2, ![4096, 1408]⟩
abbrev S1x1x512x1408 : Shape := ⟨4, ![1, 1, 512, 1408]⟩
abbrev S512x1408 : Shape := ⟨2, ![512, 1408]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x2816, .bf16⟩
  | .hbm, ⟨2, _⟩ => ⟨S2x2x512x1408, .f32⟩
  | .local _ .vmem, ⟨0, _⟩ => ⟨S4096x512, .bf16⟩
  | .local _ .vmem, ⟨1, _⟩ => ⟨S4096x512, .bf16⟩
  | .local _ .vmem, ⟨2, _⟩ => ⟨S4096x1408, .bf16⟩
  | .local _ .vmem, ⟨3, _⟩ => ⟨S4096x1408, .bf16⟩
  | .local _ .vmem, ⟨4, _⟩ => ⟨S1x1x512x1408, .f32⟩
  | .local _ .vmem, ⟨5, _⟩ => ⟨S1x1x512x1408, .f32⟩
  | .local _ .vmem, ⟨6, _⟩ => ⟨S512x1408, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, arg0.toNat, c0_i32.toNat, c0_i32_0.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S4096x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1x512x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwUpRefIdeal.lean ====
abbrev S8192x1024 : Shape := ⟨2, ![8192, 1024]⟩
abbrev S8192x2816 : Shape := ⟨2, ![8192, 2816]⟩
abbrev S2816x1024 : Shape := ⟨2, ![2816, 1024]⟩
abbrev S1024x2816 : Shape := ⟨2, ![1024, 2816]⟩
abbrev S2x512x2x1408 : Shape := ⟨4, ![2, 512, 2, 1408]⟩
abbrev S2x2x512x1408 : Shape := ⟨4, ![2, 2, 512, 1408]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x2816, .bf16⟩
  | .hbm, ⟨2, _⟩ => ⟨S8192x1024, .f32⟩
  | .hbm, ⟨3, _⟩ => ⟨S8192x2816, .f32⟩
  | .hbm, ⟨4, _⟩ => ⟨S2816x1024, .f32⟩
  | .hbm, ⟨5, _⟩ => ⟨S1024x2816, .f32⟩
  | .hbm, ⟨6, _⟩ => ⟨S2x512x2x1408, .f32⟩
  | .hbm, ⟨7, _⟩ => ⟨S2x2x512x1408, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== DwOut.lean ====
abbrev S8192x1024 : Shape := ⟨2, ![8192, 1024]⟩
abbrev S1024x1024 : Shape := ⟨2, ![1024, 1024]⟩
abbrev S4096x1024 : Shape := ⟨2, ![4096, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S1024x1024, .f32⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .f32⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== DwOutRefIdeal.lean ====
abbrev S8192x1024 : Shape := ⟨2, ![8192, 1024]⟩
abbrev S1024x1024 : Shape := ⟨2, ![1024, 1024]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x1024, .f32⟩
  | .hbm, ⟨3, _⟩ => ⟨S8192x1024, .f32⟩
  | .hbm, ⟨4, _⟩ => ⟨S1024x1024, .f32⟩
  | .hbm, ⟨5, _⟩ => ⟨S1024x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== DwQkv.lean ====
abbrev S8192x1024 : Shape := ⟨2, ![8192, 1024]⟩
abbrev S8192x3072 : Shape := ⟨2, ![8192, 3072]⟩
abbrev S3072x1024 : Shape := ⟨2, ![3072, 1024]⟩
abbrev S4096x1024 : Shape := ⟨2, ![4096, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x3072, .bf16⟩
  | .hbm, ⟨2, _⟩ => ⟨S3072x1024, .f32⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 3, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwQkvRefIdeal.lean ====
abbrev S8192x1024 : Shape := ⟨2, ![8192, 1024]⟩
abbrev S8192x3072 : Shape := ⟨2, ![8192, 3072]⟩
abbrev S3072x1024 : Shape := ⟨2, ![3072, 1024]⟩

abbrev nBuf : Space → Nat
  | .hbm => 5
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x3072, .bf16⟩
  | .hbm, ⟨2, _⟩ => ⟨S8192x1024, .f32⟩
  | .hbm, ⟨3, _⟩ => ⟨S8192x3072, .f32⟩
  | .hbm, ⟨4, _⟩ => ⟨S3072x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== DwGates.lean ====
abbrev S8192x1024 : Shape := ⟨2, ![8192, 1024]⟩
abbrev S8192x2048 : Shape := ⟨2, ![8192, 2048]⟩
abbrev S2048x1024 : Shape := ⟨2, ![2048, 1024]⟩
abbrev S4096x1024 : Shape := ⟨2, ![4096, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x2048, .bf16⟩
  | .hbm, ⟨2, _⟩ => ⟨S2048x1024, .f32⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwGatesRefIdeal.lean ====
abbrev S8192x1024 : Shape := ⟨2, ![8192, 1024]⟩
abbrev S8192x2048 : Shape := ⟨2, ![8192, 2048]⟩
abbrev S2048x1024 : Shape := ⟨2, ![2048, 1024]⟩

abbrev nBuf : Space → Nat
  | .hbm => 5
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x2048, .bf16⟩
  | .hbm, ⟨2, _⟩ => ⟨S8192x1024, .f32⟩
  | .hbm, ⟨3, _⟩ => ⟨S8192x2048, .f32⟩
  | .hbm, ⟨4, _⟩ => ⟨S2048x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== DwGz.lean ====
abbrev S8192x1024 : Shape := ⟨2, ![8192, 1024]⟩
abbrev S1024x1024 : Shape := ⟨2, ![1024, 1024]⟩
abbrev S4096x1024 : Shape := ⟨2, ![4096, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S1024x1024, .f32⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .f32⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== DwGzRefIdeal.lean ====
abbrev S8192x1024 : Shape := ⟨2, ![8192, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x1024, .f32⟩
  | .hbm, ⟨3, _⟩ => ⟨S8192x1024, .f32⟩
  | .hbm, ⟨4, _⟩ => ⟨S1024x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== ProjFox.lean ====
abbrev S8192x1024 : Shape := ⟨2, ![8192, 1024]⟩
abbrev S3072x1024 : Shape := ⟨2, ![3072, 1024]⟩
abbrev S8192x3072 : Shape := ⟨2, ![8192, 3072]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S3072x1024, .bf16⟩
  | .hbm, ⟨2, _⟩ => ⟨S8192x3072, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![3, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjFoxRefIdeal.lean ====
abbrev S8192x1024 : Shape := ⟨2, ![8192, 1024]⟩
abbrev S3072x1024 : Shape := ⟨2, ![3072, 1024]⟩
abbrev S8192x3072 : Shape := ⟨2, ![8192, 3072]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S3072x1024, .bf16⟩
  | .hbm, ⟨2, _⟩ => ⟨S8192x1024, .f32⟩
  | .hbm, ⟨3, _⟩ => ⟨S3072x1024, .f32⟩
  | .hbm, ⟨4, _⟩ => ⟨S8192x3072, .f32⟩
  | .hbm, ⟨5, _⟩ => ⟨S8192x3072, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== ProjQkv.lean ====
abbrev S8192x1024 : Shape := ⟨2, ![8192, 1024]⟩
abbrev S3072x1024 : Shape := ⟨2, ![3072, 1024]⟩
abbrev S8192x3072 : Shape := ⟨2, ![8192, 3072]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S3072x1024, .bf16⟩
  | .hbm, ⟨2, _⟩ => ⟨S8192x3072, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![3, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjQkvRefIdeal.lean ====
abbrev S8192x1024 : Shape := ⟨2, ![8192, 1024]⟩
abbrev S3072x1024 : Shape := ⟨2, ![3072, 1024]⟩
abbrev S8192x3072 : Shape := ⟨2, ![8192, 3072]⟩

abbrev nBuf : Space → Nat
  | .hbm => 5
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S3072x1024, .bf16⟩
  | .hbm, ⟨2, _⟩ => ⟨S8192x1024, .f32⟩
  | .hbm, ⟨3, _⟩ => ⟨S3072x1024, .f32⟩
  | .hbm, ⟨4, _⟩ => ⟨S8192x3072, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== ProjGates.lean ====
abbrev S8192x1024 : Shape := ⟨2, ![8192, 1024]⟩
abbrev S2048x1024 : Shape := ⟨2, ![2048, 1024]⟩
abbrev S8192x2048 : Shape := ⟨2, ![8192, 2048]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S2048x1024, .bf16⟩
  | .hbm, ⟨2, _⟩ => ⟨S8192x2048, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjGatesRefIdeal.lean ====
abbrev S8192x1024 : Shape := ⟨2, ![8192, 1024]⟩
abbrev S2048x1024 : Shape := ⟨2, ![2048, 1024]⟩
abbrev S8192x2048 : Shape := ⟨2, ![8192, 2048]⟩

abbrev nBuf : Space → Nat
  | .hbm => 5
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S2048x1024, .bf16⟩
  | .hbm, ⟨2, _⟩ => ⟨S8192x1024, .f32⟩
  | .hbm, ⟨3, _⟩ => ⟨S2048x1024, .f32⟩
  | .hbm, ⟨4, _⟩ => ⟨S8192x2048, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== ProjGz.lean ====
abbrev S8192x1024 : Shape := ⟨2, ![8192, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjGzRefIdeal.lean ====
abbrev S8192x1024 : Shape := ⟨2, ![8192, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S1024x1024, .f32⟩
  | .hbm, ⟨4, _⟩ => ⟨S8192x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Branch.lean ====
abbrev S8192x1024 : Shape := ⟨2, ![8192, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== BranchRefIdeal.lean ====
abbrev S8192x1024 : Shape := ⟨2, ![8192, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S1024x1024, .f32⟩
  | .hbm, ⟨4, _⟩ => ⟨S8192x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Up.lean ====
abbrev S8192x1024 : Shape := ⟨2, ![8192, 1024]⟩
abbrev S1024x2816 : Shape := ⟨2, ![1024, 2816]⟩
abbrev S8192x2816 : Shape := ⟨2, ![8192, 2816]⟩
abbrev S1024x1024 : Shape := ⟨2, ![1024, 1024]⟩
abbrev S1024x1408 : Shape := ⟨2, ![1024, 1408]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S1024x2816, .bf16⟩
  | .hbm, ⟨2, _⟩ => ⟨S8192x2816, .f32⟩
  | .local _ .vmem, ⟨0, _⟩ => ⟨S1024x1024, .bf16⟩
  | .local _ .vmem, ⟨1, _⟩ => ⟨S1024x1024, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1408, .f32⟩
  | .local _ .vmem, ⟨5, _⟩ => ⟨S1024x1408, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpRefIdeal.lean ====
abbrev S8192x1024 : Shape := ⟨2, ![8192, 1024]⟩
abbrev S1024x2816 : Shape := ⟨2, ![1024, 2816]⟩
abbrev S8192x2816 : Shape := ⟨2, ![8192, 2816]⟩

abbrev nBuf : Space → Nat
  | .hbm => 5
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x2816, .bf16⟩
  | .hbm, ⟨2, _⟩ => ⟨S8192x1024, .f32⟩
  | .hbm, ⟨3, _⟩ => ⟨S1024x2816, .f32⟩
  | .hbm, ⟨4, _⟩ => ⟨S8192x2816, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== AdamNorm.lean ====
abbrev S1x1024 : Shape := ⟨2, ![1, 1024]⟩

abbrev nBuf : Space → Nat
  | .hbm => 7
  | .vmem => 7
  | .smem => 0
  | _ => 0

abbrev bufTy : (tb : Table) → Fin (tcTables nBuf tb) → BufTy
  | .hbm, ⟨0, _⟩ => ⟨S1x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1x1024, .f32⟩
  | .local _ .vmem, ⟨0, _⟩ => ⟨S1x1024, .f32⟩
  | .local _ .vmem, ⟨1, _⟩ => ⟨S1x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | _, _ => ⟨S1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S1x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]
-- ==== AdamNormIdeal.lean ====
abbrev S1x1024 : Shape := ⟨2, ![1, 1024]⟩

abbrev nBuf : Space → Nat
  | .hbm => 7
  | .vmem => 7
  | .smem => 0
  | _ => 0

abbrev bufTy : (tb : Table) → Fin (tcTables nBuf tb) → BufTy
  | .hbm, ⟨0, _⟩ => ⟨S1x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1x1024, .f32⟩
  | .local _ .vmem, ⟨0, _⟩ => ⟨S1x1024, .f32⟩
  | .local _ .vmem, ⟨1, _⟩ => ⟨S1x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | _, _ => ⟨S1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S1x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]
-- ==== AdamNormRefIdeal.lean ====
abbrev S1x1024 : Shape := ⟨2, ![1, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S_, .f32⟩
  | .hbm, ⟨5, _⟩ => ⟨S1x1024, .f32⟩
  | .hbm, ⟨6, _⟩ => ⟨S1x1024, .f32⟩
  | .hbm, ⟨7, _⟩ => ⟨S_, .f32⟩
  | .hbm, ⟨8, _⟩ => ⟨S1x1024, .f32⟩
  | .hbm, ⟨9, _⟩ => ⟨S1x1024, .f32⟩
  | .hbm, ⟨10, _⟩ => ⟨S1x1024, .f32⟩
  | .hbm, ⟨11, _⟩ => ⟨S_, .f32⟩
  | .hbm, ⟨12, _⟩ => ⟨S1x1024, .f32⟩
  | .hbm, ⟨13, _⟩ => ⟨S1x1024, .f32⟩
  | .hbm, ⟨14, _⟩ => ⟨S1x1024, .f32⟩
  | .hbm, ⟨15, _⟩ => ⟨S_, .f32⟩
  | .hbm, ⟨16, _⟩ => ⟨S1x1024, .f32⟩
  | .hbm, ⟨17, _⟩ => ⟨S1x1024, .f32⟩
  | .hbm, ⟨18, _⟩ => ⟨S1x1024, .f32⟩
  | .hbm, ⟨19, _⟩ => ⟨S_, .f32⟩
  | .hbm, ⟨20, _⟩ => ⟨S1x1024, .f32⟩
  | .hbm, ⟨21, _⟩ => ⟨S1x1024, .f32⟩
  | .hbm, ⟨22, _⟩ => ⟨S_, .f32⟩
  | .hbm, ⟨23, _⟩ => ⟨S1x1024, .f32⟩
  | .hbm, ⟨24, _⟩ => ⟨S1x1024, .f32⟩
  | .hbm, ⟨25, _⟩ => ⟨S1x1024, .f32⟩
  | .hbm, ⟨26, _⟩ => ⟨S_, .f32⟩
  | .hbm, ⟨27, _⟩ => ⟨S1x1024, .f32⟩
  | .hbm, ⟨28, _⟩ => ⟨S1x1024, .f32⟩
  | .hbm, ⟨29, _⟩ => ⟨S1x1024, .f32⟩
  | .hbm, ⟨30, _⟩ => ⟨S_, .f32⟩
  | .hbm, ⟨31, _⟩ => ⟨S1x1024, .f32⟩
  | .hbm, ⟨32, _⟩ => ⟨S1x1024, .f32⟩
  | .hbm, ⟨33, _⟩ => ⟨S1x1024, .f32⟩
  | .hbm, ⟨34, _⟩ => ⟨S_, .f32⟩
  | .hbm, ⟨35, _⟩ => ⟨S1x1024, .f32⟩
  | .hbm, ⟨36, _⟩ => ⟨S1x1024, .f32⟩
  | _, _ => ⟨S1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamIn.lean ====
abbrev S1x1024x2310 : Shape := ⟨3, ![1, 1024, 2310]⟩
abbrev S1024x2310 : Shape := ⟨2, ![1024, 2310]⟩
abbrev S2310x1024 : Shape := ⟨2, ![2310, 1024]⟩
abbrev S2310x128 : Shape := ⟨2, ![2310, 128]⟩

abbrev nBuf : Space → Nat
  | .hbm => 15
  | .vmem => 14
  | .smem => 0
  | _ => 0

abbrev bufTy : (tb : Table) → Fin (tcTables nBuf tb) → BufTy
  | .hbm, ⟨0, _⟩ => ⟨S1x1024x2310, .f32⟩
  | .hbm, ⟨1, _⟩ => ⟨S1x1024x2310, .f32⟩
  | .hbm, ⟨2, _⟩ => ⟨S1x1024x2310, .f32⟩
  | .hbm, ⟨3, _⟩ => ⟨S1x1024x2310, .f32⟩
  | .hbm, ⟨4, _⟩ => ⟨S1024x2310, .f32⟩
  | .hbm, ⟨5, _⟩ => ⟨S2310x1024, .f32⟩
  | .hbm, ⟨6, _⟩ => ⟨S1024x2310, .f32⟩
  | .hbm, ⟨7, _⟩ => ⟨S2310x1024, .f32⟩
  | .hbm, ⟨8, _⟩ => ⟨S1024x2310, .f32⟩
  | .hbm, ⟨9, _⟩ => ⟨S2310x1024, .f32⟩
  | .hbm, ⟨10, _⟩ => ⟨S1024x2310, .f32⟩
  | .hbm, ⟨11, _⟩ => ⟨S2310x1024, .f32⟩
  | .hbm, ⟨12, _⟩ => ⟨S2310x1024, .f32⟩
  | .hbm, ⟨13, _⟩ => ⟨S2310x1024, .f32⟩
  | .hbm, ⟨14, _⟩ => ⟨S2310x1024, .f32⟩
  | .local _ .vmem, ⟨0, _⟩ => ⟨S2310x128, .f32⟩
  | .local _ .vmem, ⟨1, _⟩ => ⟨S2310x128, .f32⟩
  | .local _ .vmem, ⟨2, _⟩ => ⟨S2310x128, .f32⟩
  | .local _ .vmem, ⟨3, _⟩ => ⟨S2310x128, .f32⟩
  | .local _ .vmem, ⟨4, _⟩ => ⟨S2310x128, .f32⟩
  | .local _ .vmem, ⟨5, _⟩ => ⟨S2310x128, .f32⟩
  | .local _ .vmem, ⟨6, _⟩ => ⟨S2310x128, .f32⟩
  | .local _ .vmem, ⟨7, _⟩ => ⟨S2310x128, .f32⟩
  | .local _ .vmem, ⟨8, _⟩ => ⟨S2310x128, .f32⟩
  | .local _ .vmem, ⟨9, _⟩ => ⟨S2310x128, .f32⟩
  | .local _ .vmem, ⟨10, _⟩ => ⟨S2310x128, .f32⟩
  | .local _ .vmem, ⟨11, _⟩ => ⟨S2310x128, .f32⟩
  | .local _ .vmem, ⟨12, _⟩ => ⟨S2310x128, .f32⟩
  | .local _ .vmem, ⟨13, _⟩ => ⟨S2310x128, .f32⟩
  | _, _ => ⟨S1x1024x2310, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8_0 : Ref sig .tc := ⟨.hbm, 12, rfl⟩
abbrev main_v8_1 : Ref sig .tc := ⟨.hbm, 13, rfl⟩
abbrev main_v8_2 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2310x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2310x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2310x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2310x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2310x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2310x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S2310x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== AdamInRefIdeal.lean ====
abbrev S1x1024x2310 : Shape := ⟨3, ![1, 1024, 2310]⟩
abbrev S_ : Shape := ⟨0, ![]⟩
abbrev S1024x2310 : Shape := ⟨2, ![1024, 2310]⟩
abbrev S2310x1024 : Shape := ⟨2, ![2310, 1024]⟩

abbrev nBuf : Space → Nat
  | .hbm => 43
  | .vmem => 0
  | .smem => 0
  | _ => 0

abbrev bufTy : (tb : Table) → Fin (tcTables nBuf tb) → BufTy
  | .hbm, ⟨0, _⟩ => ⟨S1x1024x2310, .f32⟩
  | .hbm, ⟨1, _⟩ => ⟨S1x1024x2310, .f32⟩
  | .hbm, ⟨2, _⟩ => ⟨S1x1024x2310, .f32⟩
  | .hbm, ⟨3, _⟩ => ⟨S1x1024x2310, .f32⟩
  | .hbm, ⟨4, _⟩ => ⟨S_, .f32⟩
  | .hbm, ⟨5, _⟩ => ⟨S1x1024x2310, .f32⟩
  | .hbm, ⟨6, _⟩ => ⟨S1x1024x2310, .f32⟩
  | .hbm, ⟨7, _⟩ => ⟨S_, .f32⟩
  | .hbm, ⟨8, _⟩ => ⟨S1x1024x2310, .f32⟩
  | .hbm, ⟨9, _⟩ => ⟨S1x1024x2310, .f32⟩
  | .hbm, ⟨10, _⟩ => ⟨S1x1024x2310, .f32⟩
  | .hbm, ⟨11, _⟩ => ⟨S_, .f32⟩
  | .hbm, ⟨12, _⟩ => ⟨S1x1024x2310, .f32⟩
  | .hbm, ⟨13, _⟩ => ⟨S1x1024x2310, .f32⟩
  | .hbm, ⟨14, _⟩ => ⟨S1x1024x2310, .f32⟩
  | .hbm, ⟨15, _⟩ => ⟨S_, .f32⟩
  | .hbm, ⟨16, _⟩ => ⟨S1x1024x2310, .f32⟩
  | .hbm, ⟨17, _⟩ => ⟨S1x1024x2310, .f32⟩
  | .hbm, ⟨18, _⟩ => ⟨S1x1024x2310, .f32⟩
  | .hbm, ⟨19, _⟩ => ⟨S_, .f32⟩
  | .hbm, ⟨20, _⟩ => ⟨S1x1024x2310, .f32⟩
  | .hbm, ⟨21, _⟩ => ⟨S1x1024x2310, .f32⟩
  | .hbm, ⟨22, _⟩ => ⟨S_, .f32⟩
  | .hbm, ⟨23, _⟩ => ⟨S1x1024x2310, .f32⟩
  | .hbm, ⟨24, _⟩ => ⟨S1x1024x2310, .f32⟩
  | .hbm, ⟨25, _⟩ => ⟨S1x1024x2310, .f32⟩
  | .hbm, ⟨26, _⟩ => ⟨S_, .f32⟩
  | .hbm, ⟨27, _⟩ => ⟨S1x1024x2310, .f32⟩
  | .hbm, ⟨28, _⟩ => ⟨S1x1024x2310, .f32⟩
  | .hbm, ⟨29, _⟩ => ⟨S1x1024x2310, .f32⟩
  | .hbm, ⟨30, _⟩ => ⟨S_, .f32⟩
  | .hbm, ⟨31, _⟩ => ⟨S1x1024x2310, .f32⟩
  | .hbm, ⟨32, _⟩ => ⟨S1x1024x2310, .f32⟩
  | .hbm, ⟨33, _⟩ => ⟨S1x1024x2310, .f32⟩
  | .hbm, ⟨34, _⟩ => ⟨S_, .f32⟩
  | .hbm, ⟨35, _⟩ => ⟨S1x1024x2310, .f32⟩
  | .hbm, ⟨36, _⟩ => ⟨S1x1024x2310, .f32⟩
  | .hbm, ⟨37, _⟩ => ⟨S1024x2310, .f32⟩
  | .hbm, ⟨38, _⟩ => ⟨S2310x1024, .f32⟩
  | .hbm, ⟨39, _⟩ => ⟨S1024x2310, .f32⟩
  | .hbm, ⟨40, _⟩ => ⟨S2310x1024, .f32⟩
  | .hbm, ⟨41, _⟩ => ⟨S1024x2310, .f32⟩
  | .hbm, ⟨42, _⟩ => ⟨S2310x1024, .f32⟩
  | _, _ => ⟨S1x1024x2310, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩

abbrev nD : Nat := 1
abbrev τ : Topo := Topo.v7x

variable {F : FTy → Type} [FloatOps F]
-- ==== AdamHead.lean ====
abbrev S1x8 : Shape := ⟨2, ![1, 8]⟩

abbrev nBuf : Space → Nat
  | .hbm => 7
  | .vmem => 7
  | .smem => 0
  | _ => 0

abbrev bufTy : (tb : Table) → Fin (tcTables nBuf tb) → BufTy
  | .hbm, ⟨0, _⟩ => ⟨S1x8, .f32⟩
  | .hbm, ⟨1, _⟩ => ⟨S1x8, .f32⟩
  | .hbm, ⟨2, _⟩ => ⟨S1x8, .f32⟩
  | .hbm, ⟨3, _⟩ => ⟨S1x8, .f32⟩
  | .hbm, ⟨4, _⟩ => ⟨S1x8, .f32⟩
  | .hbm, ⟨5, _⟩ => ⟨S1x8, .f32⟩
  | .hbm, ⟨6, _⟩ => ⟨S1x8, .f32⟩
  | .local _ .vmem, ⟨0, _⟩ => ⟨S1x8, .f32⟩
  | .local _ .vmem, ⟨1, _⟩ => ⟨S1x8, .f32⟩
  | .local _ .vmem, ⟨2, _⟩ => ⟨S1x8, .f32⟩
  | .local _ .vmem, ⟨3, _⟩ => ⟨S1x8, .f32⟩
  | .local _ .vmem, ⟨4, _⟩ => ⟨S1x8, .f32⟩
  | .local _ .vmem, ⟨5, _⟩ => ⟨S1x8, .f32⟩
  | .local _ .vmem, ⟨6, _⟩ => ⟨S1x8, .f32⟩
  | _, _ => ⟨S1x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S1x8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x8 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x8 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S1x8 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1x8 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1x8 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]
-- ==== AdamHeadIdeal.lean ====
abbrev S1x8 : Shape := ⟨2, ![1, 8]⟩

abbrev nBuf : Space → Nat
  | .hbm => 7
  | .vmem => 7
  | .smem => 0
  | _ => 0

abbrev bufTy : (tb : Table) → Fin (tcTables nBuf tb) → BufTy
  | .hbm, ⟨0, _⟩ => ⟨S1x8, .f32⟩
  | .hbm, ⟨1, _⟩ => ⟨S1x8, .f32⟩
  | .hbm, ⟨2, _⟩ => ⟨S1x8, .f32⟩
  | .hbm, ⟨3, _⟩ => ⟨S1x8, .f32⟩
  | .hbm, ⟨4, _⟩ => ⟨S1x8, .f32⟩
  | .hbm, ⟨5, _⟩ => ⟨S1x8, .f32⟩
  | .hbm, ⟨6, _⟩ => ⟨S1x8, .f32⟩
  | .local _ .vmem, ⟨0, _⟩ => ⟨S1x8, .f32⟩
  | .local _ .vmem, ⟨1, _⟩ => ⟨S1x8, .f32⟩
  | .local _ .vmem, ⟨2, _⟩ => ⟨S1x8, .f32⟩
  | .local _ .vmem, ⟨3, _⟩ => ⟨S1x8, .f32⟩
  | .local _ .vmem, ⟨4, _⟩ => ⟨S1x8, .f32⟩
  | .local _ .vmem, ⟨5, _⟩ => ⟨S1x8, .f32⟩
  | .local _ .vmem, ⟨6, _⟩ => ⟨S1x8, .f32⟩
  | _, _ => ⟨S1x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S1x8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x8 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x8 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S1x8 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1x8 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1x8 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]
-- ==== AdamHeadRefIdeal.lean ====
abbrev S1x8 : Shape := ⟨2, ![1, 8]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x8, .f32⟩
  | .hbm, ⟨1, _⟩ => ⟨S1x8, .f32⟩
  | .hbm, ⟨2, _⟩ => ⟨S1x8, .f32⟩
  | .hbm, ⟨3, _⟩ => ⟨S1x8, .f32⟩
  | .hbm, ⟨4, _⟩ => ⟨S_, .f32⟩
  | .hbm, ⟨5, _⟩ => ⟨S1x8, .f32⟩
  | .hbm, ⟨6, _⟩ => ⟨S1x8, .f32⟩
  | .hbm, ⟨7, _⟩ => ⟨S_, .f32⟩
  | .hbm, ⟨8, _⟩ => ⟨S1x8, .f32⟩
  | .hbm, ⟨9, _⟩ => ⟨S1x8, .f32⟩
  | .hbm, ⟨10, _⟩ => ⟨S1x8, .f32⟩
  | .hbm, ⟨11, _⟩ => ⟨S_, .f32⟩
  | .hbm, ⟨12, _⟩ => ⟨S1x8, .f32⟩
  | .hbm, ⟨13, _⟩ => ⟨S1x8, .f32⟩
  | .hbm, ⟨14, _⟩ => ⟨S1x8, .f32⟩
  | .hbm, ⟨15, _⟩ => ⟨S_, .f32⟩
  | .hbm, ⟨16, _⟩ => ⟨S1x8, .f32⟩
  | .hbm, ⟨17, _⟩ => ⟨S1x8, .f32⟩
  | .hbm, ⟨18, _⟩ => ⟨S1x8, .f32⟩
  | .hbm, ⟨19, _⟩ => ⟨S_, .f32⟩
  | .hbm, ⟨20, _⟩ => ⟨S1x8, .f32⟩
  | .hbm, ⟨21, _⟩ => ⟨S1x8, .f32⟩
  | .hbm, ⟨22, _⟩ => ⟨S_, .f32⟩
  | .hbm, ⟨23, _⟩ => ⟨S1x8, .f32⟩
  | .hbm, ⟨24, _⟩ => ⟨S1x8, .f32⟩
  | .hbm, ⟨25, _⟩ => ⟨S1x8, .f32⟩
  | .hbm, ⟨26, _⟩ => ⟨S_, .f32⟩
  | .hbm, ⟨27, _⟩ => ⟨S1x8, .f32⟩
  | .hbm, ⟨28, _⟩ => ⟨S1x8, .f32⟩
  | .hbm, ⟨29, _⟩ => ⟨S1x8, .f32⟩
  | .hbm, ⟨30, _⟩ => ⟨S_, .f32⟩
  | .hbm, ⟨31, _⟩ => ⟨S1x8, .f32⟩
  | .hbm, ⟨32, _⟩ => ⟨S1x8, .f32⟩
  | .hbm, ⟨33, _⟩ => ⟨S1x8, .f32⟩
  | .hbm, ⟨34, _⟩ => ⟨S_, .f32⟩
  | .hbm, ⟨35, _⟩ => ⟨S1x8, .f32⟩
  | .hbm, ⟨36, _⟩ => ⟨S1x8, .f32⟩
  | _, _ => ⟨S1x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamConv.lean ====
abbrev S1x4x768 : Shape := ⟨3, ![1, 4, 768]⟩
abbrev S4x768 : Shape := ⟨2, ![4, 768]⟩

abbrev nBuf : Space → Nat
  | .hbm => 8
  | .vmem => 7
  | .smem => 0
  | _ => 0

abbrev bufTy : (tb : Table) → Fin (tcTables nBuf tb) → BufTy
  | .hbm, ⟨0, _⟩ => ⟨S1x4x768, .f32⟩
  | .hbm, ⟨1, _⟩ => ⟨S1x4x768, .f32⟩
  | .hbm, ⟨2, _⟩ => ⟨S1x4x768, .f32⟩
  | .hbm, ⟨3, _⟩ => ⟨S1x4x768, .f32⟩
  | .hbm, ⟨4, _⟩ => ⟨S4x768, .f32⟩
  | .hbm, ⟨5, _⟩ => ⟨S1x4x768, .f32⟩
  | .hbm, ⟨6, _⟩ => ⟨S1x4x768, .f32⟩
  | .hbm, ⟨7, _⟩ => ⟨S1x4x768, .f32⟩
  | .local _ .vmem, ⟨0, _⟩ => ⟨S1x4x768, .f32⟩
  | .local _ .vmem, ⟨1, _⟩ => ⟨S4x768, .f32⟩
  | .local _ .vmem, ⟨2, _⟩ => ⟨S1x4x768, .f32⟩
  | .local _ .vmem, ⟨3, _⟩ => ⟨S1x4x768, .f32⟩
  | .local _ .vmem, ⟨4, _⟩ => ⟨S1x4x768, .f32⟩
  | .local _ .vmem, ⟨5, _⟩ => ⟨S1x4x768, .f32⟩
  | .local _ .vmem, ⟨6, _⟩ => ⟨S1x4x768, .f32⟩
  | _, _ => ⟨S1x4x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨2, ![1, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

abbrev stage0_0 : Fin 1 → Memref sig .tc .vmem S1x4x768 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S4x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x4x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x4x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S1x4x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1x4x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1x4x768 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]
-- ==== AdamConvIdeal.lean ====
abbrev S1x4x768 : Shape := ⟨3, ![1, 4, 768]⟩
abbrev S4x768 : Shape := ⟨2, ![4, 768]⟩

abbrev nBuf : Space → Nat
  | .hbm => 8
  | .vmem => 7
  | .smem => 0
  | _ => 0

abbrev bufTy : (tb : Table) → Fin (tcTables nBuf tb) → BufTy
  | .hbm, ⟨0, _⟩ => ⟨S1x4x768, .f32⟩
  | .hbm, ⟨1, _⟩ => ⟨S1x4x768, .f32⟩
  | .hbm, ⟨2, _⟩ => ⟨S1x4x768, .f32⟩
  | .hbm, ⟨3, _⟩ => ⟨S1x4x768, .f32⟩
  | .hbm, ⟨4, _⟩ => ⟨S4x768, .f32⟩
  | .hbm, ⟨5, _⟩ => ⟨S1x4x768, .f32⟩
  | .hbm, ⟨6, _⟩ => ⟨S1x4x768, .f32⟩
  | .hbm, ⟨7, _⟩ => ⟨S1x4x768, .f32⟩
  | .local _ .vmem, ⟨0, _⟩ => ⟨S1x4x768, .f32⟩
  | .local _ .vmem, ⟨1, _⟩ => ⟨S4x768, .f32⟩
  | .local _ .vmem, ⟨2, _⟩ => ⟨S1x4x768, .f32⟩
  | .local _ .vmem, ⟨3, _⟩ => ⟨S1x4x768, .f32⟩
  | .local _ .vmem, ⟨4, _⟩ => ⟨S1x4x768, .f32⟩
  | .local _ .vmem, ⟨5, _⟩ => ⟨S1x4x768, .f32⟩
  | .local _ .vmem, ⟨6, _⟩ => ⟨S1x4x768, .f32⟩
  | _, _ => ⟨S1x4x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨2, ![1, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

abbrev stage0_0 : Fin 1 → Memref sig .tc .vmem S1x4x768 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S4x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x4x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x4x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S1x4x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1x4x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1x4x768 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]
-- ==== AdamConvRefIdeal.lean ====
abbrev S1x4x768 : Shape := ⟨3, ![1, 4, 768]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x4x768, .f32⟩
  | .hbm, ⟨1, _⟩ => ⟨S1x4x768, .f32⟩
  | .hbm, ⟨2, _⟩ => ⟨S1x4x768, .f32⟩
  | .hbm, ⟨3, _⟩ => ⟨S1x4x768, .f32⟩
  | .hbm, ⟨4, _⟩ => ⟨S_, .f32⟩
  | .hbm, ⟨5, _⟩ => ⟨S1x4x768, .f32⟩
  | .hbm, ⟨6, _⟩ => ⟨S1x4x768, .f32⟩
  | .hbm, ⟨7, _⟩ => ⟨S_, .f32⟩
  | .hbm, ⟨8, _⟩ => ⟨S1x4x768, .f32⟩
  | .hbm, ⟨9, _⟩ => ⟨S1x4x768, .f32⟩
  | .hbm, ⟨10, _⟩ => ⟨S1x4x768, .f32⟩
  | .hbm, ⟨11, _⟩ => ⟨S_, .f32⟩
  | .hbm, ⟨12, _⟩ => ⟨S1x4x768, .f32⟩
  | .hbm, ⟨13, _⟩ => ⟨S1x4x768, .f32⟩
  | .hbm, ⟨14, _⟩ => ⟨S1x4x768, .f32⟩
  | .hbm, ⟨15, _⟩ => ⟨S_, .f32⟩
  | .hbm, ⟨16, _⟩ => ⟨S1x4x768, .f32⟩
  | .hbm, ⟨17, _⟩ => ⟨S1x4x768, .f32⟩
  | .hbm, ⟨18, _⟩ => ⟨S1x4x768, .f32⟩
  | .hbm, ⟨19, _⟩ => ⟨S_, .f32⟩
  | .hbm, ⟨20, _⟩ => ⟨S1x4x768, .f32⟩
  | .hbm, ⟨21, _⟩ => ⟨S1x4x768, .f32⟩
  | .hbm, ⟨22, _⟩ => ⟨S_, .f32⟩
  | .hbm, ⟨23, _⟩ => ⟨S1x4x768, .f32⟩
  | .hbm, ⟨24, _⟩ => ⟨S1x4x768, .f32⟩
  | .hbm, ⟨25, _⟩ => ⟨S1x4x768, .f32⟩
  | .hbm, ⟨26, _⟩ => ⟨S_, .f32⟩
  | .hbm, ⟨27, _⟩ => ⟨S1x4x768, .f32⟩
  | .hbm, ⟨28, _⟩ => ⟨S1x4x768, .f32⟩
  | .hbm, ⟨29, _⟩ => ⟨S1x4x768, .f32⟩
  | .hbm, ⟨30, _⟩ => ⟨S_, .f32⟩
  | .hbm, ⟨31, _⟩ => ⟨S1x4x768, .f32⟩
  | .hbm, ⟨32, _⟩ => ⟨S1x4x768, .f32⟩
  | .hbm, ⟨33, _⟩ => ⟨S1x4x768, .f32⟩
  | .hbm, ⟨34, _⟩ => ⟨S_, .f32⟩
  | .hbm, ⟨35, _⟩ => ⟨S1x4x768, .f32⟩
  | .hbm, ⟨36, _⟩ => ⟨S1x4x768, .f32⟩
  | _, _ => ⟨S1x4x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamGnorm.lean ====
abbrev S1x128 : Shape := ⟨2, ![1, 128]⟩

abbrev nBuf : Space → Nat
  | .hbm => 7
  | .vmem => 7
  | .smem => 0
  | _ => 0

abbrev bufTy : (tb : Table) → Fin (tcTables nBuf tb) → BufTy
  | .hbm, ⟨0, _⟩ => ⟨S1x128, .f32⟩
  | .hbm, ⟨1, _⟩ => ⟨S1x128, .f32⟩
  | .hbm, ⟨2, _⟩ => ⟨S1x128, .f32⟩
  | .hbm, ⟨3, _⟩ => ⟨S1x128, .f32⟩
  | .hbm, ⟨4, _⟩ => ⟨S1x128, .f32⟩
  | .hbm, ⟨5, _⟩ => ⟨S1x128, .f32⟩
  | .hbm, ⟨6, _⟩ => ⟨S1x128, .f32⟩
  | .local _ .vmem, ⟨0, _⟩ => ⟨S1x128, .f32⟩
  | .local _ .vmem, ⟨1, _⟩ => ⟨S1x128, .f32⟩
  | .local _ .vmem, ⟨2, _⟩ => ⟨S1x128, .f32⟩
  | .local _ .vmem, ⟨3, _⟩ => ⟨S1x128, .f32⟩
  | .local _ .vmem, ⟨4, _⟩ => ⟨S1x128, .f32⟩
  | .local _ .vmem, ⟨5, _⟩ => ⟨S1x128, .f32⟩
  | .local _ .vmem, ⟨6, _⟩ => ⟨S1x128, .f32⟩
  | _, _ => ⟨S1x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S1x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]
-- ==== AdamGnormIdeal.lean ====
abbrev S1x128 : Shape := ⟨2, ![1, 128]⟩

abbrev nBuf : Space → Nat
  | .hbm => 7
  | .vmem => 7
  | .smem => 0
  | _ => 0

abbrev bufTy : (tb : Table) → Fin (tcTables nBuf tb) → BufTy
  | .hbm, ⟨0, _⟩ => ⟨S1x128, .f32⟩
  | .hbm, ⟨1, _⟩ => ⟨S1x128, .f32⟩
  | .hbm, ⟨2, _⟩ => ⟨S1x128, .f32⟩
  | .hbm, ⟨3, _⟩ => ⟨S1x128, .f32⟩
  | .hbm, ⟨4, _⟩ => ⟨S1x128, .f32⟩
  | .hbm, ⟨5, _⟩ => ⟨S1x128, .f32⟩
  | .hbm, ⟨6, _⟩ => ⟨S1x128, .f32⟩
  | .local _ .vmem, ⟨0, _⟩ => ⟨S1x128, .f32⟩
  | .local _ .vmem, ⟨1, _⟩ => ⟨S1x128, .f32⟩
  | .local _ .vmem, ⟨2, _⟩ => ⟨S1x128, .f32⟩
  | .local _ .vmem, ⟨3, _⟩ => ⟨S1x128, .f32⟩
  | .local _ .vmem, ⟨4, _⟩ => ⟨S1x128, .f32⟩
  | .local _ .vmem, ⟨5, _⟩ => ⟨S1x128, .f32⟩
  | .local _ .vmem, ⟨6, _⟩ => ⟨S1x128, .f32⟩
  | _, _ => ⟨S1x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S1x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]
-- ==== AdamGnormRefIdeal.lean ====
abbrev S1x128 : Shape := ⟨2, ![1, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x128, .f32⟩
  | .hbm, ⟨1, _⟩ => ⟨S1x128, .f32⟩
  | .hbm, ⟨2, _⟩ => ⟨S1x128, .f32⟩
  | .hbm, ⟨3, _⟩ => ⟨S1x128, .f32⟩
  | .hbm, ⟨4, _⟩ => ⟨S_, .f32⟩
  | .hbm, ⟨5, _⟩ => ⟨S1x128, .f32⟩
  | .hbm, ⟨6, _⟩ => ⟨S1x128, .f32⟩
  | .hbm, ⟨7, _⟩ => ⟨S_, .f32⟩
  | .hbm, ⟨8, _⟩ => ⟨S1x128, .f32⟩
  | .hbm, ⟨9, _⟩ => ⟨S1x128, .f32⟩
  | .hbm, ⟨10, _⟩ => ⟨S1x128, .f32⟩
  | .hbm, ⟨11, _⟩ => ⟨S_, .f32⟩
  | .hbm, ⟨12, _⟩ => ⟨S1x128, .f32⟩
  | .hbm, ⟨13, _⟩ => ⟨S1x128, .f32⟩
  | .hbm, ⟨14, _⟩ => ⟨S1x128, .f32⟩
  | .hbm, ⟨15, _⟩ => ⟨S_, .f32⟩
  | .hbm, ⟨16, _⟩ => ⟨S1x128, .f32⟩
  | .hbm, ⟨17, _⟩ => ⟨S1x128, .f32⟩
  | .hbm, ⟨18, _⟩ => ⟨S1x128, .f32⟩
  | .hbm, ⟨19, _⟩ => ⟨S_, .f32⟩
  | .hbm, ⟨20, _⟩ => ⟨S1x128, .f32⟩
  | .hbm, ⟨21, _⟩ => ⟨S1x128, .f32⟩
  | .hbm, ⟨22, _⟩ => ⟨S_, .f32⟩
  | .hbm, ⟨23, _⟩ => ⟨S1x128, .f32⟩
  | .hbm, ⟨24, _⟩ => ⟨S1x128, .f32⟩
  | .hbm, ⟨25, _⟩ => ⟨S1x128, .f32⟩
  | .hbm, ⟨26, _⟩ => ⟨S_, .f32⟩
  | .hbm, ⟨27, _⟩ => ⟨S1x128, .f32⟩
  | .hbm, ⟨28, _⟩ => ⟨S1x128, .f32⟩
  | .hbm, ⟨29, _⟩ => ⟨S1x128, .f32⟩
  | .hbm, ⟨30, _⟩ => ⟨S_, .f32⟩
  | .hbm, ⟨31, _⟩ => ⟨S1x128, .f32⟩
  | .hbm, ⟨32, _⟩ => ⟨S1x128, .f32⟩
  | .hbm, ⟨33, _⟩ => ⟨S1x128, .f32⟩
  | .hbm, ⟨34, _⟩ => ⟨S_, .f32⟩
  | .hbm, ⟨35, _⟩ => ⟨S1x128, .f32⟩
  | .hbm, ⟨36, _⟩ => ⟨S1x128, .f32⟩
  | _, _ => ⟨S1x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamOut.lean ====
abbrev S1x256x1024 : Shape := ⟨3, ![1, 256, 1024]⟩
abbrev S256x1024 : Shape := ⟨2, ![256, 1024]⟩
abbrev S1x128x1024 : Shape := ⟨3, ![1, 128, 1024]⟩
abbrev S128x1024 : Shape := ⟨2, ![128, 1024]⟩

abbrev nBuf : Space → Nat
  | .hbm => 8
  | .vmem => 14
  | .smem => 0
  | _ => 0

abbrev bufTy : (tb : Table) → Fin (tcTables nBuf tb) → BufTy
  | .hbm, ⟨0, _⟩ => ⟨S1x256x1024, .f32⟩
  | .hbm, ⟨1, _⟩ => ⟨S1x256x1024, .f32⟩
  | .hbm, ⟨2, _⟩ => ⟨S1x256x1024, .f32⟩
  | .hbm, ⟨3, _⟩ => ⟨S1x256x1024, .f32⟩
  | .hbm, ⟨4, _⟩ => ⟨S256x1024, .f32⟩
  | .hbm, ⟨5, _⟩ => ⟨S1x256x1024, .f32⟩
  | .hbm, ⟨6, _⟩ => ⟨S1x256x1024, .f32⟩
  | .hbm, ⟨7, _⟩ => ⟨S1x256x1024, .f32⟩
  | .local _ .vmem, ⟨0, _⟩ => ⟨S1x128x1024, .f32⟩
  | .local _ .vmem, ⟨1, _⟩ => ⟨S1x128x1024, .f32⟩
  | .local _ .vmem, ⟨2, _⟩ => ⟨S128x1024, .f32⟩
  | .local _ .vmem, ⟨3, _⟩ => ⟨S128x1024, .f32⟩
  | .local _ .vmem, ⟨4, _⟩ => ⟨S1x128x1024, .f32⟩
  | .local _ .vmem, ⟨5, _⟩ => ⟨S1x128x1024, .f32⟩
  | .local _ .vmem, ⟨6, _⟩ => ⟨S1x128x1024, .f32⟩
  | .local _ .vmem, ⟨7, _⟩ => ⟨S1x128x1024, .f32⟩
  | .local _ .vmem, ⟨8, _⟩ => ⟨S1x128x1024, .f32⟩
  | .local _ .vmem, ⟨9, _⟩ => ⟨S1x128x1024, .f32⟩
  | .local _ .vmem, ⟨10, _⟩ => ⟨S1x128x1024, .f32⟩
  | .local _ .vmem, ⟨11, _⟩ => ⟨S1x128x1024, .f32⟩
  | .local _ .vmem, ⟨12, _⟩ => ⟨S1x128x1024, .f32⟩
  | .local _ .vmem, ⟨13, _⟩ => ⟨S1x128x1024, .f32⟩
  | _, _ => ⟨S1x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![2, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

abbrev stage0_0 : Fin 2 → Memref sig .tc .vmem S1x128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== AdamOutIdeal.lean ====
abbrev S1x256x1024 : Shape := ⟨3, ![1, 256, 1024]⟩
abbrev S256x1024 : Shape := ⟨2, ![256, 1024]⟩
abbrev S1x128x1024 : Shape := ⟨3, ![1, 128, 1024]⟩
abbrev S128x1024 : Shape := ⟨2, ![128, 1024]⟩

abbrev nBuf : Space → Nat
  | .hbm => 8
  | .vmem => 14
  | .smem => 0
  | _ => 0

abbrev bufTy : (tb : Table) → Fin (tcTables nBuf tb) → BufTy
  | .hbm, ⟨0, _⟩ => ⟨S1x256x1024, .f32⟩
  | .hbm, ⟨1, _⟩ => ⟨S1x256x1024, .f32⟩
  | .hbm, ⟨2, _⟩ => ⟨S1x256x1024, .f32⟩
  | .hbm, ⟨3, _⟩ => ⟨S1x256x1024, .f32⟩
  | .hbm, ⟨4, _⟩ => ⟨S256x1024, .f32⟩
  | .hbm, ⟨5, _⟩ => ⟨S1x256x1024, .f32⟩
  | .hbm, ⟨6, _⟩ => ⟨S1x256x1024, .f32⟩
  | .hbm, ⟨7, _⟩ => ⟨S1x256x1024, .f32⟩
  | .local _ .vmem, ⟨0, _⟩ => ⟨S1x128x1024, .f32⟩
  | .local _ .vmem, ⟨1, _⟩ => ⟨S1x128x1024, .f32⟩
  | .local _ .vmem, ⟨2, _⟩ => ⟨S128x1024, .f32⟩
  | .local _ .vmem, ⟨3, _⟩ => ⟨S128x1024, .f32⟩
  | .local _ .vmem, ⟨4, _⟩ => ⟨S1x128x1024, .f32⟩
  | .local _ .vmem, ⟨5, _⟩ => ⟨S1x128x1024, .f32⟩
  | .local _ .vmem, ⟨6, _⟩ => ⟨S1x128x1024, .f32⟩
  | .local _ .vmem, ⟨7, _⟩ => ⟨S1x128x1024, .f32⟩
  | .local _ .vmem, ⟨8, _⟩ => ⟨S1x128x1024, .f32⟩
  | .local _ .vmem, ⟨9, _⟩ => ⟨S1x128x1024, .f32⟩
  | .local _ .vmem, ⟨10, _⟩ => ⟨S1x128x1024, .f32⟩
  | .local _ .vmem, ⟨11, _⟩ => ⟨S1x128x1024, .f32⟩
  | .local _ .vmem, ⟨12, _⟩ => ⟨S1x128x1024, .f32⟩
  | .local _ .vmem, ⟨13, _⟩ => ⟨S1x128x1024, .f32⟩
  | _, _ => ⟨S1x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![2, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

abbrev stage0_0 : Fin 2 → Memref sig .tc .vmem S1x128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== AdamOutRefIdeal.lean ====
abbrev S1x256x1024 : Shape := ⟨3, ![1, 256, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x256x1024, .f32⟩
  | .hbm, ⟨1, _⟩ => ⟨S1x256x1024, .f32⟩
  | .hbm, ⟨2, _⟩ => ⟨S1x256x1024, .f32⟩
  | .hbm, ⟨3, _⟩ => ⟨S1x256x1024, .f32⟩
  | .hbm, ⟨4, _⟩ => ⟨S_, .f32⟩
  | .hbm, ⟨5, _⟩ => ⟨S1x256x1024, .f32⟩
  | .hbm, ⟨6, _⟩ => ⟨S1x256x1024, .f32⟩
  | .hbm, ⟨7, _⟩ => ⟨S_, .f32⟩
  | .hbm, ⟨8, _⟩ => ⟨S1x256x1024, .f32⟩
  | .hbm, ⟨9, _⟩ => ⟨S1x256x1024, .f32⟩
  | .hbm, ⟨10, _⟩ => ⟨S1x256x1024, .f32⟩
  | .hbm, ⟨11, _⟩ => ⟨S_, .f32⟩
  | .hbm, ⟨12, _⟩ => ⟨S1x256x1024, .f32⟩
  | .hbm, ⟨13, _⟩ => ⟨S1x256x1024, .f32⟩
  | .hbm, ⟨14, _⟩ => ⟨S1x256x1024, .f32⟩
  | .hbm, ⟨15, _⟩ => ⟨S_, .f32⟩
  | .hbm, ⟨16, _⟩ => ⟨S1x256x1024, .f32⟩
  | .hbm, ⟨17, _⟩ => ⟨S1x256x1024, .f32⟩
  | .hbm, ⟨18, _⟩ => ⟨S1x256x1024, .f32⟩
  | .hbm, ⟨19, _⟩ => ⟨S_, .f32⟩
  | .hbm, ⟨20, _⟩ => ⟨S1x256x1024, .f32⟩
  | .hbm, ⟨21, _⟩ => ⟨S1x256x1024, .f32⟩
  | .hbm, ⟨22, _⟩ => ⟨S_, .f32⟩
  | .hbm, ⟨23, _⟩ => ⟨S1x256x1024, .f32⟩
  | .hbm, ⟨24, _⟩ => ⟨S1x256x1024, .f32⟩
  | .hbm, ⟨25, _⟩ => ⟨S1x256x1024, .f32⟩
  | .hbm, ⟨26, _⟩ => ⟨S_, .f32⟩
  | .hbm, ⟨27, _⟩ => ⟨S1x256x1024, .f32⟩
  | .hbm, ⟨28, _⟩ => ⟨S1x256x1024, .f32⟩
  | .hbm, ⟨29, _⟩ => ⟨S1x256x1024, .f32⟩
  | .hbm, ⟨30, _⟩ => ⟨S_, .f32⟩
  | .hbm, ⟨31, _⟩ => ⟨S1x256x1024, .f32⟩
  | .hbm, ⟨32, _⟩ => ⟨S1x256x1024, .f32⟩
  | .hbm, ⟨33, _⟩ => ⟨S1x256x1024, .f32⟩
  | .hbm, ⟨34, _⟩ => ⟨S_, .f32⟩
  | .hbm, ⟨35, _⟩ => ⟨S1x256x1024, .f32⟩
  | .hbm, ⟨36, _⟩ => ⟨S1x256x1024, .f32⟩
  | _, _ => ⟨S1x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamUp.lean ====
abbrev S1x1024x1408 : Shape := ⟨3, ![1, 1024, 1408]⟩
abbrev S1024x1408 : Shape := ⟨2, ![1024, 1408]⟩
abbrev S1x128x1408 : Shape := ⟨3, ![1, 128, 1408]⟩
abbrev S128x1408 : Shape := ⟨2, ![128, 1408]⟩

abbrev nBuf : Space → Nat
  | .hbm => 8
  | .vmem => 14
  | .smem => 0
  | _ => 0

abbrev bufTy : (tb : Table) → Fin (tcTables nBuf tb) → BufTy
  | .hbm, ⟨0, _⟩ => ⟨S1x1024x1408, .f32⟩
  | .hbm, ⟨1, _⟩ => ⟨S1x1024x1408, .f32⟩
  | .hbm, ⟨2, _⟩ => ⟨S1x1024x1408, .f32⟩
  | .hbm, ⟨3, _⟩ => ⟨S1x1024x1408, .f32⟩
  | .hbm, ⟨4, _⟩ => ⟨S1024x1408, .f32⟩
  | .hbm, ⟨5, _⟩ => ⟨S1x1024x1408, .f32⟩
  | .hbm, ⟨6, _⟩ => ⟨S1x1024x1408, .f32⟩
  | .hbm, ⟨7, _⟩ => ⟨S1x1024x1408, .f32⟩
  | .local _ .vmem, ⟨0, _⟩ => ⟨S1x128x1408, .f32⟩
  | .local _ .vmem, ⟨1, _⟩ => ⟨S1x128x1408, .f32⟩
  | .local _ .vmem, ⟨2, _⟩ => ⟨S128x1408, .f32⟩
  | .local _ .vmem, ⟨3, _⟩ => ⟨S128x1408, .f32⟩
  | .local _ .vmem, ⟨4, _⟩ => ⟨S1x128x1408, .f32⟩
  | .local _ .vmem, ⟨5, _⟩ => ⟨S1x128x1408, .f32⟩
  | .local _ .vmem, ⟨6, _⟩ => ⟨S1x128x1408, .f32⟩
  | .local _ .vmem, ⟨7, _⟩ => ⟨S1x128x1408, .f32⟩
  | .local _ .vmem, ⟨8, _⟩ => ⟨S1x128x1408, .f32⟩
  | .local _ .vmem, ⟨9, _⟩ => ⟨S1x128x1408, .f32⟩
  | .local _ .vmem, ⟨10, _⟩ => ⟨S1x128x1408, .f32⟩
  | .local _ .vmem, ⟨11, _⟩ => ⟨S1x128x1408, .f32⟩
  | .local _ .vmem, ⟨12, _⟩ => ⟨S1x128x1408, .f32⟩
  | .local _ .vmem, ⟨13, _⟩ => ⟨S1x128x1408, .f32⟩
  | _, _ => ⟨S1x1024x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![8, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

abbrev stage0_0 : Fin 2 → Memref sig .tc .vmem S1x128x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== AdamUpIdeal.lean ====
abbrev S1x1024x1408 : Shape := ⟨3, ![1, 1024, 1408]⟩
abbrev S1024x1408 : Shape := ⟨2, ![1024, 1408]⟩
abbrev S1x128x1408 : Shape := ⟨3, ![1, 128, 1408]⟩
abbrev S128x1408 : Shape := ⟨2, ![128, 1408]⟩

abbrev nBuf : Space → Nat
  | .hbm => 8
  | .vmem => 14
  | .smem => 0
  | _ => 0

abbrev bufTy : (tb : Table) → Fin (tcTables nBuf tb) → BufTy
  | .hbm, ⟨0, _⟩ => ⟨S1x1024x1408, .f32⟩
  | .hbm, ⟨1, _⟩ => ⟨S1x1024x1408, .f32⟩
  | .hbm, ⟨2, _⟩ => ⟨S1x1024x1408, .f32⟩
  | .hbm, ⟨3, _⟩ => ⟨S1x1024x1408, .f32⟩
  | .hbm, ⟨4, _⟩ => ⟨S1024x1408, .f32⟩
  | .hbm, ⟨5, _⟩ => ⟨S1x1024x1408, .f32⟩
  | .hbm, ⟨6, _⟩ => ⟨S1x1024x1408, .f32⟩
  | .hbm, ⟨7, _⟩ => ⟨S1x1024x1408, .f32⟩
  | .local _ .vmem, ⟨0, _⟩ => ⟨S1x128x1408, .f32⟩
  | .local _ .vmem, ⟨1, _⟩ => ⟨S1x128x1408, .f32⟩
  | .local _ .vmem, ⟨2, _⟩ => ⟨S128x1408, .f32⟩
  | .local _ .vmem, ⟨3, _⟩ => ⟨S128x1408, .f32⟩
  | .local _ .vmem, ⟨4, _⟩ => ⟨S1x128x1408, .f32⟩
  | .local _ .vmem, ⟨5, _⟩ => ⟨S1x128x1408, .f32⟩
  | .local _ .vmem, ⟨6, _⟩ => ⟨S1x128x1408, .f32⟩
  | .local _ .vmem, ⟨7, _⟩ => ⟨S1x128x1408, .f32⟩
  | .local _ .vmem, ⟨8, _⟩ => ⟨S1x128x1408, .f32⟩
  | .local _ .vmem, ⟨9, _⟩ => ⟨S1x128x1408, .f32⟩
  | .local _ .vmem, ⟨10, _⟩ => ⟨S1x128x1408, .f32⟩
  | .local _ .vmem, ⟨11, _⟩ => ⟨S1x128x1408, .f32⟩
  | .local _ .vmem, ⟨12, _⟩ => ⟨S1x128x1408, .f32⟩
  | .local _ .vmem, ⟨13, _⟩ => ⟨S1x128x1408, .f32⟩
  | _, _ => ⟨S1x1024x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![8, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

abbrev stage0_0 : Fin 2 → Memref sig .tc .vmem S1x128x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== AdamUpRefIdeal.lean ====
abbrev S1x1024x1408 : Shape := ⟨3, ![1, 1024, 1408]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x1024x1408, .f32⟩
  | .hbm, ⟨1, _⟩ => ⟨S1x1024x1408, .f32⟩
  | .hbm, ⟨2, _⟩ => ⟨S1x1024x1408, .f32⟩
  | .hbm, ⟨3, _⟩ => ⟨S1x1024x1408, .f32⟩
  | .hbm, ⟨4, _⟩ => ⟨S_, .f32⟩
  | .hbm, ⟨5, _⟩ => ⟨S1x1024x1408, .f32⟩
  | .hbm, ⟨6, _⟩ => ⟨S1x1024x1408, .f32⟩
  | .hbm, ⟨7, _⟩ => ⟨S_, .f32⟩
  | .hbm, ⟨8, _⟩ => ⟨S1x1024x1408, .f32⟩
  | .hbm, ⟨9, _⟩ => ⟨S1x1024x1408, .f32⟩
  | .hbm, ⟨10, _⟩ => ⟨S1x1024x1408, .f32⟩
  | .hbm, ⟨11, _⟩ => ⟨S_, .f32⟩
  | .hbm, ⟨12, _⟩ => ⟨S1x1024x1408, .f32⟩
  | .hbm, ⟨13, _⟩ => ⟨S1x1024x1408, .f32⟩
  | .hbm, ⟨14, _⟩ => ⟨S1x1024x1408, .f32⟩
  | .hbm, ⟨15, _⟩ => ⟨S_, .f32⟩
  | .hbm, ⟨16, _⟩ => ⟨S1x1024x1408, .f32⟩
  | .hbm, ⟨17, _⟩ => ⟨S1x1024x1408, .f32⟩
  | .hbm, ⟨18, _⟩ => ⟨S1x1024x1408, .f32⟩
  | .hbm, ⟨19, _⟩ => ⟨S_, .f32⟩
  | .hbm, ⟨20, _⟩ => ⟨S1x1024x1408, .f32⟩
  | .hbm, ⟨21, _⟩ => ⟨S1x1024x1408, .f32⟩
  | .hbm, ⟨22, _⟩ => ⟨S_, .f32⟩
  | .hbm, ⟨23, _⟩ => ⟨S1x1024x1408, .f32⟩
  | .hbm, ⟨24, _⟩ => ⟨S1x1024x1408, .f32⟩
  | .hbm, ⟨25, _⟩ => ⟨S1x1024x1408, .f32⟩
  | .hbm, ⟨26, _⟩ => ⟨S_, .f32⟩
  | .hbm, ⟨27, _⟩ => ⟨S1x1024x1408, .f32⟩
  | .hbm, ⟨28, _⟩ => ⟨S1x1024x1408, .f32⟩
  | .hbm, ⟨29, _⟩ => ⟨S1x1024x1408, .f32⟩
  | .hbm, ⟨30, _⟩ => ⟨S_, .f32⟩
  | .hbm, ⟨31, _⟩ => ⟨S1x1024x1408, .f32⟩
  | .hbm, ⟨32, _⟩ => ⟨S1x1024x1408, .f32⟩
  | .hbm, ⟨33, _⟩ => ⟨S1x1024x1408, .f32⟩
  | .hbm, ⟨34, _⟩ => ⟨S_, .f32⟩
  | .hbm, ⟨35, _⟩ => ⟨S1x1024x1408, .f32⟩
  | .hbm, ⟨36, _⟩ => ⟨S1x1024x1408, .f32⟩
  | _, _ => ⟨S1x1024x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamFconv.lean ====
abbrev S1x3x1408 : Shape := ⟨3, ![1, 3, 1408]⟩
abbrev S3x1408 : Shape := ⟨2, ![3, 1408]⟩

abbrev nBuf : Space → Nat
  | .hbm => 8
  | .vmem => 7
  | .smem => 0
  | _ => 0

abbrev bufTy : (tb : Table) → Fin (tcTables nBuf tb) → BufTy
  | .hbm, ⟨0, _⟩ => ⟨S1x3x1408, .f32⟩
  | .hbm, ⟨1, _⟩ => ⟨S1x3x1408, .f32⟩
  | .hbm, ⟨2, _⟩ => ⟨S1x3x1408, .f32⟩
  | .hbm, ⟨3, _⟩ => ⟨S1x3x1408, .f32⟩
  | .hbm, ⟨4, _⟩ => ⟨S3x1408, .f32⟩
  | .hbm, ⟨5, _⟩ => ⟨S1x3x1408, .f32⟩
  | .hbm, ⟨6, _⟩ => ⟨S1x3x1408, .f32⟩
  | .hbm, ⟨7, _⟩ => ⟨S1x3x1408, .f32⟩
  | .local _ .vmem, ⟨0, _⟩ => ⟨S1x3x1408, .f32⟩
  | .local _ .vmem, ⟨1, _⟩ => ⟨S3x1408, .f32⟩
  | .local _ .vmem, ⟨2, _⟩ => ⟨S1x3x1408, .f32⟩
  | .local _ .vmem, ⟨3, _⟩ => ⟨S1x3x1408, .f32⟩
  | .local _ .vmem, ⟨4, _⟩ => ⟨S1x3x1408, .f32⟩
  | .local _ .vmem, ⟨5, _⟩ => ⟨S1x3x1408, .f32⟩
  | .local _ .vmem, ⟨6, _⟩ => ⟨S1x3x1408, .f32⟩
  | _, _ => ⟨S1x3x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨2, ![1, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

abbrev stage0_0 : Fin 1 → Memref sig .tc .vmem S1x3x1408 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S3x1408 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x3x1408 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x3x1408 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S1x3x1408 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1x3x1408 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1x3x1408 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]
-- ==== AdamFconvIdeal.lean ====
abbrev S1x3x1408 : Shape := ⟨3, ![1, 3, 1408]⟩
abbrev S3x1408 : Shape := ⟨2, ![3, 1408]⟩

abbrev nBuf : Space → Nat
  | .hbm => 8
  | .vmem => 7
  | .smem => 0
  | _ => 0

abbrev bufTy : (tb : Table) → Fin (tcTables nBuf tb) → BufTy
  | .hbm, ⟨0, _⟩ => ⟨S1x3x1408, .f32⟩
  | .hbm, ⟨1, _⟩ => ⟨S1x3x1408, .f32⟩
  | .hbm, ⟨2, _⟩ => ⟨S1x3x1408, .f32⟩
  | .hbm, ⟨3, _⟩ => ⟨S1x3x1408, .f32⟩
  | .hbm, ⟨4, _⟩ => ⟨S3x1408, .f32⟩
  | .hbm, ⟨5, _⟩ => ⟨S1x3x1408, .f32⟩
  | .hbm, ⟨6, _⟩ => ⟨S1x3x1408, .f32⟩
  | .hbm, ⟨7, _⟩ => ⟨S1x3x1408, .f32⟩
  | .local _ .vmem, ⟨0, _⟩ => ⟨S1x3x1408, .f32⟩
  | .local _ .vmem, ⟨1, _⟩ => ⟨S3x1408, .f32⟩
  | .local _ .vmem, ⟨2, _⟩ => ⟨S1x3x1408, .f32⟩
  | .local _ .vmem, ⟨3, _⟩ => ⟨S1x3x1408, .f32⟩
  | .local _ .vmem, ⟨4, _⟩ => ⟨S1x3x1408, .f32⟩
  | .local _ .vmem, ⟨5, _⟩ => ⟨S1x3x1408, .f32⟩
  | .local _ .vmem, ⟨6, _⟩ => ⟨S1x3x1408, .f32⟩
  | _, _ => ⟨S1x3x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨2, ![1, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

abbrev stage0_0 : Fin 1 → Memref sig .tc .vmem S1x3x1408 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S3x1408 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x3x1408 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x3x1408 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S1x3x1408 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1x3x1408 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1x3x1408 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]
-- ==== AdamFconvRefIdeal.lean ====
abbrev S1x3x1408 : Shape := ⟨3, ![1, 3, 1408]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x3x1408, .f32⟩
  | .hbm, ⟨1, _⟩ => ⟨S1x3x1408, .f32⟩
  | .hbm, ⟨2, _⟩ => ⟨S1x3x1408, .f32⟩
  | .hbm, ⟨3, _⟩ => ⟨S1x3x1408, .f32⟩
  | .hbm, ⟨4, _⟩ => ⟨S_, .f32⟩
  | .hbm, ⟨5, _⟩ => ⟨S1x3x1408, .f32⟩
  | .hbm, ⟨6, _⟩ => ⟨S1x3x1408, .f32⟩
  | .hbm, ⟨7, _⟩ => ⟨S_, .f32⟩
  | .hbm, ⟨8, _⟩ => ⟨S1x3x1408, .f32⟩
  | .hbm, ⟨9, _⟩ => ⟨S1x3x1408, .f32⟩
  | .hbm, ⟨10, _⟩ => ⟨S1x3x1408, .f32⟩
  | .hbm, ⟨11, _⟩ => ⟨S_, .f32⟩
  | .hbm, ⟨12, _⟩ => ⟨S1x3x1408, .f32⟩
  | .hbm, ⟨13, _⟩ => ⟨S1x3x1408, .f32⟩
  | .hbm, ⟨14, _⟩ => ⟨S1x3x1408, .f32⟩
  | .hbm, ⟨15, _⟩ => ⟨S_, .f32⟩
  | .hbm, ⟨16, _⟩ => ⟨S1x3x1408, .f32⟩
  | .hbm, ⟨17, _⟩ => ⟨S1x3x1408, .f32⟩
  | .hbm, ⟨18, _⟩ => ⟨S1x3x1408, .f32⟩
  | .hbm, ⟨19, _⟩ => ⟨S_, .f32⟩
  | .hbm, ⟨20, _⟩ => ⟨S1x3x1408, .f32⟩
  | .hbm, ⟨21, _⟩ => ⟨S1x3x1408, .f32⟩
  | .hbm, ⟨22, _⟩ => ⟨S_, .f32⟩
  | .hbm, ⟨23, _⟩ => ⟨S1x3x1408, .f32⟩
  | .hbm, ⟨24, _⟩ => ⟨S1x3x1408, .f32⟩
  | .hbm, ⟨25, _⟩ => ⟨S1x3x1408, .f32⟩
  | .hbm, ⟨26, _⟩ => ⟨S_, .f32⟩
  | .hbm, ⟨27, _⟩ => ⟨S1x3x1408, .f32⟩
  | .hbm, ⟨28, _⟩ => ⟨S1x3x1408, .f32⟩
  | .hbm, ⟨29, _⟩ => ⟨S1x3x1408, .f32⟩
  | .hbm, ⟨30, _⟩ => ⟨S_, .f32⟩
  | .hbm, ⟨31, _⟩ => ⟨S1x3x1408, .f32⟩
  | .hbm, ⟨32, _⟩ => ⟨S1x3x1408, .f32⟩
  | .hbm, ⟨33, _⟩ => ⟨S1x3x1408, .f32⟩
  | .hbm, ⟨34, _⟩ => ⟨S_, .f32⟩
  | .hbm, ⟨35, _⟩ => ⟨S1x3x1408, .f32⟩
  | .hbm, ⟨36, _⟩ => ⟨S1x3x1408, .f32⟩
  | _, _ => ⟨S1x3x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamDown.lean ====
abbrev S1x704x1024 : Shape := ⟨3, ![1, 704, 1024]⟩
abbrev S704x1024 : Shape := ⟨2, ![704, 1024]⟩
abbrev S1x88x1024 : Shape := ⟨3, ![1, 88, 1024]⟩
abbrev S88x1024 : Shape := ⟨2, ![88, 1024]⟩

abbrev nBuf : Space → Nat
  | .hbm => 8
  | .vmem => 14
  | .smem => 0
  | _ => 0

abbrev bufTy : (tb : Table) → Fin (tcTables nBuf tb) → BufTy
  | .hbm, ⟨0, _⟩ => ⟨S1x704x1024, .f32⟩
  | .hbm, ⟨1, _⟩ => ⟨S1x704x1024, .f32⟩
  | .hbm, ⟨2, _⟩ => ⟨S1x704x1024, .f32⟩
  | .hbm, ⟨3, _⟩ => ⟨S1x704x1024, .f32⟩
  | .hbm, ⟨4, _⟩ => ⟨S704x1024, .f32⟩
  | .hbm, ⟨5, _⟩ => ⟨S1x704x1024, .f32⟩
  | .hbm, ⟨6, _⟩ => ⟨S1x704x1024, .f32⟩
  | .hbm, ⟨7, _⟩ => ⟨S1x704x1024, .f32⟩
  | .local _ .vmem, ⟨0, _⟩ => ⟨S1x88x1024, .f32⟩
  | .local _ .vmem, ⟨1, _⟩ => ⟨S1x88x1024, .f32⟩
  | .local _ .vmem, ⟨2, _⟩ => ⟨S88x1024, .f32⟩
  | .local _ .vmem, ⟨3, _⟩ => ⟨S88x1024, .f32⟩
  | .local _ .vmem, ⟨4, _⟩ => ⟨S1x88x1024, .f32⟩
  | .local _ .vmem, ⟨5, _⟩ => ⟨S1x88x1024, .f32⟩
  | .local _ .vmem, ⟨6, _⟩ => ⟨S1x88x1024, .f32⟩
  | .local _ .vmem, ⟨7, _⟩ => ⟨S1x88x1024, .f32⟩
  | .local _ .vmem, ⟨8, _⟩ => ⟨S1x88x1024, .f32⟩
  | .local _ .vmem, ⟨9, _⟩ => ⟨S1x88x1024, .f32⟩
  | .local _ .vmem, ⟨10, _⟩ => ⟨S1x88x1024, .f32⟩
  | .local _ .vmem, ⟨11, _⟩ => ⟨S1x88x1024, .f32⟩
  | .local _ .vmem, ⟨12, _⟩ => ⟨S1x88x1024, .f32⟩
  | .local _ .vmem, ⟨13, _⟩ => ⟨S1x88x1024, .f32⟩
  | _, _ => ⟨S1x704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![8, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

abbrev stage0_0 : Fin 2 → Memref sig .tc .vmem S1x88x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S88x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x88x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x88x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x88x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x88x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x88x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== AdamDownRefIdeal.lean ====
abbrev S1x704x1024 : Shape := ⟨3, ![1, 704, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x704x1024, .f32⟩
  | .hbm, ⟨1, _⟩ => ⟨S1x704x1024, .f32⟩
  | .hbm, ⟨2, _⟩ => ⟨S1x704x1024, .f32⟩
  | .hbm, ⟨3, _⟩ => ⟨S1x704x1024, .f32⟩
  | .hbm, ⟨4, _⟩ => ⟨S_, .f32⟩
  | .hbm, ⟨5, _⟩ => ⟨S1x704x1024, .f32⟩
  | .hbm, ⟨6, _⟩ => ⟨S1x704x1024, .f32⟩
  | .hbm, ⟨7, _⟩ => ⟨S_, .f32⟩
  | .hbm, ⟨8, _⟩ => ⟨S1x704x1024, .f32⟩
  | .hbm, ⟨9, _⟩ => ⟨S1x704x1024, .f32⟩
  | .hbm, ⟨10, _⟩ => ⟨S1x704x1024, .f32⟩
  | .hbm, ⟨11, _⟩ => ⟨S_, .f32⟩
  | .hbm, ⟨12, _⟩ => ⟨S1x704x1024, .f32⟩
  | .hbm, ⟨13, _⟩ => ⟨S1x704x1024, .f32⟩
  | .hbm, ⟨14, _⟩ => ⟨S1x704x1024, .f32⟩
  | .hbm, ⟨15, _⟩ => ⟨S_, .f32⟩
  | .hbm, ⟨16, _⟩ => ⟨S1x704x1024, .f32⟩
  | .hbm, ⟨17, _⟩ => ⟨S1x704x1024, .f32⟩
  | .hbm, ⟨18, _⟩ => ⟨S1x704x1024, .f32⟩
  | .hbm, ⟨19, _⟩ => ⟨S_, .f32⟩
  | .hbm, ⟨20, _⟩ => ⟨S1x704x1024, .f32⟩
  | .hbm, ⟨21, _⟩ => ⟨S1x704x1024, .f32⟩
  | .hbm, ⟨22, _⟩ => ⟨S_, .f32⟩
  | .hbm, ⟨23, _⟩ => ⟨S1x704x1024, .f32⟩
  | .hbm, ⟨24, _⟩ => ⟨S1x704x1024, .f32⟩
  | .hbm, ⟨25, _⟩ => ⟨S1x704x1024, .f32⟩
  | .hbm, ⟨26, _⟩ => ⟨S_, .f32⟩
  | .hbm, ⟨27, _⟩ => ⟨S1x704x1024, .f32⟩
  | .hbm, ⟨28, _⟩ => ⟨S1x704x1024, .f32⟩
  | .hbm, ⟨29, _⟩ => ⟨S1x704x1024, .f32⟩
  | .hbm, ⟨30, _⟩ => ⟨S_, .f32⟩
  | .hbm, ⟨31, _⟩ => ⟨S1x704x1024, .f32⟩
  | .hbm, ⟨32, _⟩ => ⟨S1x704x1024, .f32⟩
  | .hbm, ⟨33, _⟩ => ⟨S1x704x1024, .f32⟩
  | .hbm, ⟨34, _⟩ => ⟨S_, .f32⟩
  | .hbm, ⟨35, _⟩ => ⟨S1x704x1024, .f32⟩
  | .hbm, ⟨36, _⟩ => ⟨S1x704x1024, .f32⟩
  | _, _ => ⟨S1x704x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== GradX.lean ====
abbrev S8192x128 : Shape := ⟨2, ![8192, 128]⟩
abbrev S128x1024 : Shape := ⟨2, ![128, 1024]⟩
abbrev S8192x1024 : Shape := ⟨2, ![8192, 1024]⟩
abbrev S1x1024 : Shape := ⟨2, ![1, 1024]⟩
abbrev S512x128 : Shape := ⟨2, ![512, 128]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 8
  | .vmem => 13
  | .smem => 0
  | _ => 0

abbrev bufTy : (tb : Table) → Fin (tcTables nBuf tb) → BufTy
  | .hbm, ⟨0, _⟩ => ⟨S8192x128, .bf16⟩
  | .hbm, ⟨1, _⟩ => ⟨S128x1024, .bf16⟩
  | .hbm, ⟨2, _⟩ => ⟨S8192x1024, .f32⟩
  | .hbm, ⟨3, _⟩ => ⟨S8192x1024, .f32⟩
  | .hbm, ⟨4, _⟩ => ⟨S1x1024, .f32⟩
  | .hbm, ⟨5, _⟩ => ⟨S8192x1024, .f32⟩
  | .hbm, ⟨6, _⟩ => ⟨S8192x1024, .f32⟩
  | .hbm, ⟨7, _⟩ => ⟨S1x1024, .f32⟩
  | .local _ .vmem, ⟨0, _⟩ => ⟨S512x128, .bf16⟩
  | .local _ .vmem, ⟨1, _⟩ => ⟨S512x128, .bf16⟩
  | .local _ .vmem, ⟨2, _⟩ => ⟨S128x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S1x1024, .f32⟩
  | .local _ .vmem, ⟨10, _⟩ => ⟨S512x1024, .f32⟩
  | .local _ .vmem, ⟨11, _⟩ => ⟨S512x1024, .f32⟩
  | .local _ .vmem, ⟨12, _⟩ => ⟨S1x1024, .f32⟩
  | _, _ => ⟨S8192x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨3, ![1, 16, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S128x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]
-- ==== GradXRefIdeal.lean ====
abbrev S8192x128 : Shape := ⟨2, ![8192, 128]⟩
abbrev S128x1024 : Shape := ⟨2, ![128, 1024]⟩
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S1024 : Shape := ⟨1, ![1024]⟩

abbrev nBuf : Space → Nat
  | .hbm => 53
  | .vmem => 0
  | .smem => 0
  | _ => 0

abbrev bufTy : (tb : Table) → Fin (tcTables nBuf tb) → BufTy
  | .hbm, ⟨0, _⟩ => ⟨S8192x128, .bf16⟩
  | .hbm, ⟨1, _⟩ => ⟨S128x1024, .bf16⟩
  | .hbm, ⟨2, _⟩ => ⟨S8192x1024, .f32⟩
  | .hbm, ⟨3, _⟩ => ⟨S8192x1024, .f32⟩
  | .hbm, ⟨4, _⟩ => ⟨S1x1024, .f32⟩
  | .hbm, ⟨5, _⟩ => ⟨S8192x1024, .f32⟩
  | .hbm, ⟨6, _⟩ => ⟨S128x1024, .f32⟩
  | .hbm, ⟨7, _⟩ => ⟨S8192x128, .f32⟩
  | .hbm, ⟨8, _⟩ => ⟨S8192x1024, .f32⟩
  | .hbm, ⟨9, _⟩ => ⟨S8192x1024, .f32⟩
  | .hbm, ⟨10, _⟩ => ⟨S_, .f32⟩
  | .hbm, ⟨11, _⟩ => ⟨S8192, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x1, .f32⟩
  | .hbm, ⟨20, _⟩ => ⟨S8192x1, .f32⟩
  | .hbm, ⟨21, _⟩ => ⟨S_, .f32⟩
  | .hbm, ⟨22, _⟩ => ⟨S8192x1, .f32⟩
  | .hbm, ⟨23, _⟩ => ⟨S8192x1, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S_, .f32⟩
  | .hbm, ⟨31, _⟩ => ⟨S1024, .f32⟩
  | .hbm, ⟨32, _⟩ => ⟨S1x1024, .f32⟩
  | .hbm, ⟨33, _⟩ => ⟨S8192x1024, .f32⟩
  | .hbm, ⟨34, _⟩ => ⟨S8192x1024, .f32⟩
  | .hbm, ⟨35, _⟩ => ⟨S8192x1024, .f32⟩
  | .hbm, ⟨36, _⟩ => ⟨S_, .f32⟩
  | .hbm, ⟨37, _⟩ => ⟨S8192, .f32⟩
  | .hbm, ⟨38, _⟩ => ⟨S8192x1, .f32⟩
  | .hbm, ⟨39, _⟩ => ⟨S8192x1024, .f32⟩
  | .hbm, ⟨40, _⟩ => ⟨S8192x1024, .f32⟩
  | .hbm, ⟨41, _⟩ => ⟨S8192x1, .f32⟩
  | .hbm, ⟨42, _⟩ => ⟨S_, .f32⟩
  | .hbm, ⟨43, _⟩ => ⟨S8192x1, .f32⟩
  | .hbm, ⟨44, _⟩ => ⟨S8192x1, .f32⟩
  | .hbm, ⟨45, _⟩ => ⟨S_, .f32⟩
  | .hbm, ⟨46, _⟩ => ⟨S8192, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S8192x1024, .f32⟩
  | _, _ => ⟨S8192x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_3 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_4 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_5 : Ref sig .tc := ⟨.hbm, 42, rfl⟩
abbrev main_v30 : Ref sig .tc := ⟨.hbm, 43, rfl⟩
abbrev main_v31 : Ref sig .tc := ⟨.hbm, 44, rfl⟩
abbrev main_cst_6 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩

abbrev nD : Nat := 1
abbrev τ : Topo := Topo.v7x

variable {F : FTy → Type} [FloatOps F]
-- ==== DH1.lean ====
abbrev S8192x2816 : Shape := ⟨2, ![8192, 2816]⟩
abbrev S1024x2816 : Shape := ⟨2, ![1024, 2816]⟩
abbrev S8192x1024 : Shape := ⟨2, ![8192, 1024]⟩
abbrev S1x1024 : Shape := ⟨2, ![1, 1024]⟩
abbrev S512x2816 : Shape := ⟨2, ![512, 2816]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 9
  | .vmem => 15
  | .smem => 0
  | _ => 0

abbrev bufTy : (tb : Table) → Fin (tcTables nBuf tb) → BufTy
  | .hbm, ⟨0, _⟩ => ⟨S8192x2816, .bf16⟩
  | .hbm, ⟨1, _⟩ => ⟨S1024x2816, .bf16⟩
  | .hbm, ⟨2, _⟩ => ⟨S8192x1024, .f32⟩
  | .hbm, ⟨3, _⟩ => ⟨S8192x1024, .f32⟩
  | .hbm, ⟨4, _⟩ => ⟨S1x1024, .f32⟩
  | .hbm, ⟨5, _⟩ => ⟨S8192x1024, .f32⟩
  | .hbm, ⟨6, _⟩ => ⟨S8192x1024, .f32⟩
  | .hbm, ⟨7, _⟩ => ⟨S8192x1024, .bf16⟩
  | .hbm, ⟨8, _⟩ => ⟨S1x1024, .f32⟩
  | .local _ .vmem, ⟨0, _⟩ => ⟨S512x2816, .bf16⟩
  | .local _ .vmem, ⟨1, _⟩ => ⟨S512x2816, .bf16⟩
  | .local _ .vmem, ⟨2, _⟩ => ⟨S1024x2816, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S1x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .bf16⟩
  | .local _ .vmem, ⟨13, _⟩ => ⟨S512x1024, .bf16⟩
  | .local _ .vmem, ⟨14, _⟩ => ⟨S1x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14

abbrev nD : Nat := 1
abbrev τ : Topo := Topo.v7x

variable {F : FTy → Type} [FloatOps F]

abbrev grid0 : Pipeline.Grid := ⟨3, ![1, 16, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S1024x2816 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true, false]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false, false]
-- ==== DH1RefIdeal.lean ====
abbrev S8192x2816 : Shape := ⟨2, ![8192, 2816]⟩
abbrev S1024x2816 : Shape := ⟨2, ![1024, 2816]⟩
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S1024 : Shape := ⟨1, ![1024]⟩

abbrev nBuf : Space → Nat
  | .hbm => 55
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S1024x2816, .bf16⟩
  | .hbm, ⟨2, _⟩ => ⟨S8192x1024, .f32⟩
  | .hbm, ⟨3, _⟩ => ⟨S8192x1024, .f32⟩
  | .hbm, ⟨4, _⟩ => ⟨S1x1024, .f32⟩
  | .hbm, ⟨5, _⟩ => ⟨S8192x1024, .f32⟩
  | .hbm, ⟨6, _⟩ => ⟨S1024x2816, .f32⟩
  | .hbm, ⟨7, _⟩ => ⟨S8192x2816, .f32⟩
  | .hbm, ⟨8, _⟩ => ⟨S8192x1024, .f32⟩
  | .hbm, ⟨9, _⟩ => ⟨S8192x1024, .f32⟩
  | .hbm, ⟨10, _⟩ => ⟨S_, .f32⟩
  | .hbm, ⟨11, _⟩ => ⟨S8192, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x1, .f32⟩
  | .hbm, ⟨20, _⟩ => ⟨S8192x1, .f32⟩
  | .hbm, ⟨21, _⟩ => ⟨S_, .f32⟩
  | .hbm, ⟨22, _⟩ => ⟨S8192x1, .f32⟩
  | .hbm, ⟨23, _⟩ => ⟨S8192x1, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S_, .f32⟩
  | .hbm, ⟨31, _⟩ => ⟨S1024, .f32⟩
  | .hbm, ⟨32, _⟩ => ⟨S1x1024, .f32⟩
  | .hbm, ⟨33, _⟩ => ⟨S8192x1024, .f32⟩
  | .hbm, ⟨34, _⟩ => ⟨S8192x1024, .f32⟩
  | .hbm, ⟨35, _⟩ => ⟨S8192x1024, .f32⟩
  | .hbm, ⟨36, _⟩ => ⟨S_, .f32⟩
  | .hbm, ⟨37, _⟩ => ⟨S8192, .f32⟩
  | .hbm, ⟨38, _⟩ => ⟨S8192x1, .f32⟩
  | .hbm, ⟨39, _⟩ => ⟨S8192x1024, .f32⟩
  | .hbm, ⟨40, _⟩ => ⟨S8192x1024, .f32⟩
  | .hbm, ⟨41, _⟩ => ⟨S8192x1, .f32⟩
  | .hbm, ⟨42, _⟩ => ⟨S_, .f32⟩
  | .hbm, ⟨43, _⟩ => ⟨S8192x1, .f32⟩
  | .hbm, ⟨44, _⟩ => ⟨S8192x1, .f32⟩
  | .hbm, ⟨45, _⟩ => ⟨S_, .f32⟩
  | .hbm, ⟨46, _⟩ => ⟨S8192, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S8192x1024, .bf16⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_3 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_4 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_5 : Ref sig .tc := ⟨.hbm, 42, rfl⟩
abbrev main_v30 : Ref sig .tc := ⟨.hbm, 43, rfl⟩
abbrev main_v31 : Ref sig .tc := ⟨.hbm, 44, rfl⟩
abbrev main_cst_6 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩

abbrev nD : Nat := 1
abbrev τ : Topo := Topo.v7x

variable {F : FTy → Type} [FloatOps F]
-- ==== DwSmall.lean ====
abbrev S8192x128 : Shape := ⟨2, ![8192, 128]⟩
abbrev S8192x1024 : Shape := ⟨2, ![8192, 1024]⟩
abbrev S128x1024 : Shape := ⟨2, ![128, 1024]⟩
abbrev S4096x128 : Shape := ⟨2, ![4096, 128]⟩
abbrev S4096x1024 : Shape := ⟨2, ![4096, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x128, .bf16⟩
  | .hbm, ⟨1, _⟩ => ⟨S8192x1024, .bf16⟩
  | .hbm, ⟨2, _⟩ => ⟨S128x1024, .f32⟩
  | .local _ .vmem, ⟨0, _⟩ => ⟨S4096x128, .bf16⟩
  | .local _ .vmem, ⟨1, _⟩ => ⟨S4096x128, .bf16⟩
  | .local _ .vmem, ⟨2, _⟩ => ⟨S4096x1024, .bf16⟩
  | .local _ .vmem, ⟨3, _⟩ => ⟨S4096x1024, .bf16⟩
  | .local _ .vmem, ⟨4, _⟩ => ⟨S128x1024, .f32⟩
  | .local _ .vmem, ⟨5, _⟩ => ⟨S128x1024, .f32⟩
  | _, _ => ⟨S8192x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S4096x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== DwSmallRefIdeal.lean ====
abbrev S8192x128 : Shape := ⟨2, ![8192, 128]⟩
abbrev S8192x1024 : Shape := ⟨2, ![8192, 1024]⟩
abbrev S128x1024 : Shape := ⟨2, ![128, 1024]⟩

abbrev nBuf : Space → Nat
  | .hbm => 5
  | .vmem => 0
  | .smem => 0
  | _ => 0

abbrev bufTy : (tb : Table) → Fin (tcTables nBuf tb) → BufTy
  | .hbm, ⟨0, _⟩ => ⟨S8192x128, .bf16⟩
  | .hbm, ⟨1, _⟩ => ⟨S8192x1024, .bf16⟩
  | .hbm, ⟨2, _⟩ => ⟨S8192x1024, .f32⟩
  | .hbm, ⟨3, _⟩ => ⟨S8192x128, .f32⟩
  | .hbm, ⟨4, _⟩ => ⟨S128x1024, .f32⟩
  | _, _ => ⟨S8192x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Down.lean ====
abbrev S8192x2816 : Shape := ⟨2, ![8192, 2816]⟩
abbrev S2816x1024 : Shape := ⟨2, ![2816, 1024]⟩
abbrev S8192x1024 : Shape := ⟨2, ![8192, 1024]⟩
abbrev S1x1024 : Shape := ⟨2, ![1, 1024]⟩
abbrev S512x2816 : Shape := ⟨2, ![512, 2816]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 9
  | .vmem => 14
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .bf16⟩
  | .hbm, ⟨2, _⟩ => ⟨S8192x1024, .f32⟩
  | .hbm, ⟨3, _⟩ => ⟨S1x1024, .f32⟩
  | .hbm, ⟨4, _⟩ => ⟨S8192x1024, .f32⟩
  | .hbm, ⟨5, _⟩ => ⟨S8192x1024, .f32⟩
  | .hbm, ⟨6, _⟩ => ⟨S8192x1024, .bf16⟩
  | .hbm, ⟨7, _⟩ => ⟨S1x1024, .f32⟩
  | .hbm, ⟨8, _⟩ => ⟨S1x1024, .f32⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S1x1024, .f32⟩
  | .local _ .vmem, ⟨13, _⟩ => ⟨S1x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13

abbrev nD : Nat := 1
abbrev τ : Topo := Topo.v7x

variable {F : FTy → Type} [FloatOps F]

abbrev grid0 : Pipeline.Grid := ⟨3, ![1, 16, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true, false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false, false]
-- ==== DownRefIdeal.lean ====
abbrev S8192x2816 : Shape := ⟨2, ![8192, 2816]⟩
abbrev S2816x1024 : Shape := ⟨2, ![2816, 1024]⟩
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S1024 : Shape := ⟨1, ![1024]⟩

abbrev nBuf : Space → Nat
  | .hbm => 95
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .bf16⟩
  | .hbm, ⟨2, _⟩ => ⟨S8192x1024, .f32⟩
  | .hbm, ⟨3, _⟩ => ⟨S1x1024, .f32⟩
  | .hbm, ⟨4, _⟩ => ⟨S8192x1024, .f32⟩
  | .hbm, ⟨5, _⟩ => ⟨S8192x2816, .f32⟩
  | .hbm, ⟨6, _⟩ => ⟨S2816x1024, .f32⟩
  | .hbm, ⟨7, _⟩ => ⟨S8192x1024, .f32⟩
  | .hbm, ⟨8, _⟩ => ⟨S8192x1024, .f32⟩
  | .hbm, ⟨9, _⟩ => ⟨S8192x1024, .f32⟩
  | .hbm, ⟨10, _⟩ => ⟨S_, .f32⟩
  | .hbm, ⟨11, _⟩ => ⟨S8192, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x1, .f32⟩
  | .hbm, ⟨20, _⟩ => ⟨S8192x1, .f32⟩
  | .hbm, ⟨21, _⟩ => ⟨S_, .f32⟩
  | .hbm, ⟨22, _⟩ => ⟨S8192x1, .f32⟩
  | .hbm, ⟨23, _⟩ => ⟨S8192x1, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S_, .f32⟩
  | .hbm, ⟨31, _⟩ => ⟨S8192x1024, .f32⟩
  | .hbm, ⟨32, _⟩ => ⟨S8192x1024, .f32⟩
  | .hbm, ⟨33, _⟩ => ⟨S_, .f32⟩
  | .hbm, ⟨34, _⟩ => ⟨S8192, .f32⟩
  | .hbm, ⟨35, _⟩ => ⟨S_, .f32⟩
  | .hbm, ⟨36, _⟩ => ⟨S8192, .f32⟩
  | .hbm, ⟨37, _⟩ => ⟨S8192, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S8192, .f32⟩
  | .hbm, ⟨46, _⟩ => ⟨S_, .f32⟩
  | .hbm, ⟨47, _⟩ => ⟨S8192, .f32⟩
  | .hbm, ⟨48, _⟩ => ⟨S8192, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S_, .f32⟩
  | .hbm, ⟨53, _⟩ => ⟨S1024, .f32⟩
  | .hbm, ⟨54, _⟩ => ⟨S1x1024, .f32⟩
  | .hbm, ⟨55, _⟩ => ⟨S8192x1024, .f32⟩
  | .hbm, ⟨56, _⟩ => ⟨S8192x1024, .f32⟩
  | .hbm, ⟨57, _⟩ => ⟨S8192x1024, .f32⟩
  | .hbm, ⟨58, _⟩ => ⟨S_, .f32⟩
  | .hbm, ⟨59, _⟩ => ⟨S8192, .f32⟩
  | .hbm, ⟨60, _⟩ => ⟨S8192x1, .f32⟩
  | .hbm, ⟨61, _⟩ => ⟨S8192x1024, .f32⟩
  | .hbm, ⟨62, _⟩ => ⟨S8192x1024, .f32⟩
  | .hbm, ⟨63, _⟩ => ⟨S8192x1, .f32⟩
  | .hbm, ⟨64, _⟩ => ⟨S_, .f32⟩
  | .hbm, ⟨65, _⟩ => ⟨S8192x1, .f32⟩
  | .hbm, ⟨66, _⟩ => ⟨S8192x1, .f32⟩
  | .hbm, ⟨67, _⟩ => ⟨S_, .f32⟩
  | .hbm, ⟨68, _⟩ => ⟨S8192, .f32⟩
  | .hbm, ⟨69, _⟩ => ⟨S8192x1024, .f32⟩
  | .hbm, ⟨70, _⟩ => ⟨S8192x1024, .f32⟩
  | .hbm, ⟨71, _⟩ => ⟨S8192x1024, .f32⟩
  | .hbm, ⟨72, _⟩ => ⟨S8192x1024, .f32⟩
  | .hbm, ⟨73, _⟩ => ⟨S8192x1024, .f32⟩
  | .hbm, ⟨74, _⟩ => ⟨S8192x1024, .f32⟩
  | .hbm, ⟨75, _⟩ => ⟨S_, .f32⟩
  | .hbm, ⟨76, _⟩ => ⟨S8192, .f32⟩
  | .hbm, ⟨77, _⟩ => ⟨S8192x1, .f32⟩
  | .hbm, ⟨78, _⟩ => ⟨S_, .f32⟩
  | .hbm, ⟨79, _⟩ => ⟨S8192x1, .f32⟩
  | .hbm, ⟨80, _⟩ => ⟨S8192x1, .f32⟩
  | .hbm, ⟨81, _⟩ => ⟨S_, .f32⟩
  | .hbm, ⟨82, _⟩ => ⟨S8192x1, .f32⟩
  | .hbm, ⟨83, _⟩ => ⟨S8192x1, .f32⟩
  | .hbm, ⟨84, _⟩ => ⟨S8192x1, .f32⟩
  | .hbm, ⟨85, _⟩ => ⟨S8192x1024, .f32⟩
  | .hbm, ⟨86, _⟩ => ⟨S8192x1024, .f32⟩
  | .hbm, ⟨87, _⟩ => ⟨S8192x1024, .f32⟩
  | .hbm, ⟨88, _⟩ => ⟨S8192x1024, .f32⟩
  | .hbm, ⟨89, _⟩ => ⟨S8192x1024, .f32⟩
  | .hbm, ⟨90, _⟩ => ⟨S8192x1024, .f32⟩
  | .hbm, ⟨91, _⟩ => ⟨S_, .f32⟩
  | .hbm, ⟨92, _⟩ => ⟨S1024, .f32⟩
  | .hbm, ⟨93, _⟩ => ⟨S1x1024, .f32⟩
  | .hbm, ⟨94, _⟩ => ⟨S8192x1024, .bf16⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_cst_5 : Ref sig .tc := ⟨.hbm, 35, rfl⟩
abbrev main_v24 : Ref sig .tc := ⟨.hbm, 36, rfl⟩
abbrev main_v25 : Ref sig .tc := ⟨.hbm, 37, rfl⟩
abbrev main_cst_6 : Ref sig .tc := ⟨.hbm, 38, rfl⟩
abbrev main_v26 : Ref sig .tc := ⟨.hbm, 39, rfl⟩
abbrev main_cst_7 : Ref sig .tc := ⟨.hbm, 40, rfl⟩
abbrev main_v27 : Ref sig .tc := ⟨.hbm, 41, rfl⟩
abbrev main_cst_8 : Ref sig .tc := ⟨.hbm, 42, rfl⟩
abbrev main_cst_9 : Ref sig .tc := ⟨.hbm, 43, rfl⟩
abbrev main_v28 : Ref sig .tc := ⟨.hbm, 44, rfl⟩
abbrev main_v29 : Ref sig .tc := ⟨.hbm, 45, rfl⟩
abbrev main_cst_10 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst_11 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_12 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_cst_13 : Ref sig .tc := ⟨.hbm, 64, rfl⟩
abbrev main_v45 : Ref sig .tc := ⟨.hbm, 65, rfl⟩
abbrev main_v46 : Ref sig .tc := ⟨.hbm, 66, rfl⟩
abbrev main_cst_14 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_cst_15 : Ref sig .tc := ⟨.hbm, 75, rfl⟩
abbrev main_v54 : Ref sig .tc := ⟨.hbm, 76, rfl⟩
abbrev main_v55 : Ref sig .tc := ⟨.hbm, 77, rfl⟩
abbrev main_cst_16 : Ref sig .tc := ⟨.hbm, 78, rfl⟩
abbrev main_v56 : Ref sig .tc := ⟨.hbm, 79, rfl⟩
abbrev main_v57 : Ref sig .tc := ⟨.hbm, 80, rfl⟩
abbrev main_cst_17 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_cst_18 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩

abbrev nD : Nat := 1
abbrev τ : Topo := Topo.v7x

variable {F : FTy → Type} [FloatOps F]
-- ==== OutProj.lean ====
abbrev S8192x1024 : Shape := ⟨2, ![8192, 1024]⟩
abbrev S1024x1024 : Shape := ⟨2, ![1024, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 6
  | .vmem => 10
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S1x1024, .f32⟩
  | .hbm, ⟨4, _⟩ => ⟨S8192x1024, .f32⟩
  | .hbm, ⟨5, _⟩ => ⟨S8192x1024, .bf16⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![1, 16, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true, false]
-- ==== OutProjRefIdeal.lean ====
abbrev S8192x1024 : Shape := ⟨2, ![8192, 1024]⟩
abbrev S1024x1024 : Shape := ⟨2, ![1024, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩

abbrev nBuf : Space → Nat
  | .hbm => 24
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S1x1024, .f32⟩
  | .hbm, ⟨4, _⟩ => ⟨S8192x1024, .f32⟩
  | .hbm, ⟨5, _⟩ => ⟨S1024x1024, .f32⟩
  | .hbm, ⟨6, _⟩ => ⟨S8192x1024, .f32⟩
  | .hbm, ⟨7, _⟩ => ⟨S8192x1024, .f32⟩
  | .hbm, ⟨8, _⟩ => ⟨S8192x1024, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== BranchMerge.lean ====
abbrev S8192x1024 : Shape := ⟨2, ![8192, 1024]⟩
abbrev S1024x1024 : Shape := ⟨2, ![1024, 1024]⟩
abbrev S8192x2048 : Shape := ⟨2, ![8192, 2048]⟩
abbrev S512x1024 : Shape := ⟨2, ![512, 1024]⟩

abbrev nBuf : Space → Nat
  | .hbm => 6
  | .vmem => 13
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x2048, .f32⟩
  | .hbm, ⟨3, _⟩ => ⟨S8192x1024, .f32⟩
  | .hbm, ⟨4, _⟩ => ⟨S8192x1024, .f32⟩
  | .hbm, ⟨5, _⟩ => ⟨S8192x1024, .bf16⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨3, ![1, 16, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  ![arg1.toNat, c1_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true, false]
-- ==== BranchMergeRefIdeal.lean ====
abbrev S8192x1024 : Shape := ⟨2, ![8192, 1024]⟩
abbrev S1024x1024 : Shape := ⟨2, ![1024, 1024]⟩
abbrev S8192x2048 : Shape := ⟨2, ![8192, 2048]⟩
abbrev S_ : Shape := ⟨0, ![]⟩

abbrev nBuf : Space → Nat
  | .hbm => 29
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x2048, .f32⟩
  | .hbm, ⟨3, _⟩ => ⟨S8192x1024, .f32⟩
  | .hbm, ⟨4, _⟩ => ⟨S8192x1024, .f32⟩
  | .hbm, ⟨5, _⟩ => ⟨S1024x1024, .f32⟩
  | .hbm, ⟨6, _⟩ => ⟨S8192x1024, .f32⟩
  | .hbm, ⟨7, _⟩ => ⟨S8192x1024, .f32⟩
  | .hbm, ⟨8, _⟩ => ⟨S8192x1024, .f32⟩
  | .hbm, ⟨9, _⟩ => ⟨S8192x1024, .f32⟩
  | .hbm, ⟨10, _⟩ => ⟨S8192x1024, .f32⟩
  | .hbm, ⟨11, _⟩ => ⟨S_, .f32⟩
  | .hbm, ⟨12, _⟩ => ⟨S8192x1024, .f32⟩
  | .hbm, ⟨13, _⟩ => ⟨S8192x1024, .f32⟩
  | .hbm, ⟨14, _⟩ => ⟨S_, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S_, .f32⟩
  | .hbm, ⟨21, _⟩ => ⟨S8192x1024, .f32⟩
  | .hbm, ⟨22, _⟩ => ⟨S8192x1024, .f32⟩
  | .hbm, ⟨23, _⟩ => ⟨S_, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S8192x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_1 : Ref sig .tc := ⟨.hbm, 20, rfl⟩
abbrev main_v14 : Ref sig .tc := ⟨.hbm, 21, rfl⟩
abbrev main_v15 : Ref sig .tc := ⟨.hbm, 22, rfl⟩
abbrev main_cst_2 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩

abbrev nD : Nat := 1
abbrev τ : Topo := Topo.v7x

variable {F : FTy → Type} [FloatOps F]
-- ==== ProjSmall.lean ====
abbrev S8192x1024 : Shape := ⟨2, ![8192, 1024]⟩
abbrev S128x1024 : Shape := ⟨2, ![128, 1024]⟩
abbrev S8192x128 : Shape := ⟨2, ![8192, 128]⟩
abbrev S1024x1024 : Shape := ⟨2, ![1024, 1024]⟩
abbrev S1024x128 : Shape := ⟨2, ![1024, 128]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S128x1024, .bf16⟩
  | .hbm, ⟨2, _⟩ => ⟨S8192x128, .f32⟩
  | .local _ .vmem, ⟨0, _⟩ => ⟨S1024x1024, .bf16⟩
  | .local _ .vmem, ⟨1, _⟩ => ⟨S1024x1024, .bf16⟩
  | .local _ .vmem, ⟨2, _⟩ => ⟨S128x1024, .bf16⟩
  | .local _ .vmem, ⟨3, _⟩ => ⟨S1024x128, .f32⟩
  | .local _ .vmem, ⟨4, _⟩ => ⟨S1024x128, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S128x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjSmallRefIdeal.lean ====
abbrev S8192x1024 : Shape := ⟨2, ![8192, 1024]⟩
abbrev S128x1024 : Shape := ⟨2, ![128, 1024]⟩
abbrev S8192x128 : Shape := ⟨2, ![8192, 128]⟩

abbrev nBuf : Space → Nat
  | .hbm => 5
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S128x1024, .bf16⟩
  | .hbm, ⟨2, _⟩ => ⟨S8192x1024, .f32⟩
  | .hbm, ⟨3, _⟩ => ⟨S128x1024, .f32⟩
  | .hbm, ⟨4, _⟩ => ⟨S8192x128, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== NormMix.lean ====
abbrev S8192x1024 : Shape := ⟨2, ![8192, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .bf16⟩
  | .local _ .vmem, ⟨4, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormMixRefIdeal.lean ====
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩

abbrev nBuf : Space → Nat
  | .hbm => 18
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x1024, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S_, .f32⟩
  | .hbm, ⟨7, _⟩ => ⟨S8192x1, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S8192x1, .f32⟩
  | .hbm, ⟨13, _⟩ => ⟨S8192x1024, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Gate.lean ====
abbrev S8192x2816 : Shape := ⟨2, ![8192, 2816]⟩
abbrev S3x2816 : Shape := ⟨2, ![3, 2816]⟩
abbrev S2048x256 : Shape := ⟨2, ![2048, 256]⟩
abbrev S3x256 : Shape := ⟨2, ![3, 256]⟩
abbrev S1x256 : Shape := ⟨2, ![1, 256]⟩

abbrev nBuf : Space → Nat
  | .hbm => 5
  | .vmem => 10
  | .smem => 0
  | _ => 0

abbrev bufTy : (tb : Table) → Fin (tcTables nBuf tb) → BufTy
  | .hbm, ⟨0, _⟩ => ⟨S8192x2816, .f32⟩
  | .hbm, ⟨1, _⟩ => ⟨S8192x2816, .f32⟩
  | .hbm, ⟨2, _⟩ => ⟨S3x2816, .f32⟩
  | .hbm, ⟨3, _⟩ => ⟨S3x2816, .f32⟩
  | .hbm, ⟨4, _⟩ => ⟨S8192x2816, .bf16⟩
  | .local _ .vmem, ⟨0, _⟩ => ⟨S2048x256, .f32⟩
  | .local _ .vmem, ⟨1, _⟩ => ⟨S2048x256, .f32⟩
  | .local _ .vmem, ⟨2, _⟩ => ⟨S2048x256, .f32⟩
  | .local _ .vmem, ⟨3, _⟩ => ⟨S2048x256, .f32⟩
  | .local _ .vmem, ⟨4, _⟩ => ⟨S3x256, .f32⟩
  | .local _ .vmem, ⟨5, _⟩ => ⟨S3x256, .f32⟩
  | .local _ .vmem, ⟨6, _⟩ => ⟨S3x256, .f32⟩
  | .local _ .vmem, ⟨7, _⟩ => ⟨S3x256, .f32⟩
  | .local _ .vmem, ⟨8, _⟩ => ⟨S2048x256, .bf16⟩
  | .local _ .vmem, ⟨9, _⟩ => ⟨S2048x256, .bf16⟩
  | _, _ => ⟨S8192x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S3x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S3x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S2048x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== GateRefIdeal.lean ====
abbrev S8192x2816 : Shape := ⟨2, ![8192, 2816]⟩
abbrev S3x2816 : Shape := ⟨2, ![3, 2816]⟩
abbrev S4x2048x2816 : Shape := ⟨3, ![4, 2048, 2816]⟩
abbrev S_ : Shape := ⟨0, ![]⟩
abbrev S4x2050x2816 : Shape := ⟨3, ![4, 2050, 2816]⟩
abbrev S1x2816 : Shape := ⟨2, ![1, 2816]⟩
abbrev S2816 : Shape := ⟨1, ![2816]⟩
abbrev S1x1x2816 : Shape := ⟨3, ![1, 1, 2816]⟩

abbrev nBuf : Space → Nat
  | .hbm => 70
  | .vmem => 0
  | .smem => 0
  | _ => 0

abbrev bufTy : (tb : Table) → Fin (tcTables nBuf tb) → BufTy
  | .hbm, ⟨0, _⟩ => ⟨S8192x2816, .f32⟩
  | .hbm, ⟨1, _⟩ => ⟨S8192x2816, .f32⟩
  | .hbm, ⟨2, _⟩ => ⟨S3x2816, .f32⟩
  | .hbm, ⟨3, _⟩ => ⟨S3x2816, .f32⟩
  | .hbm, ⟨4, _⟩ => ⟨S4x2048x2816, .f32⟩
  | .hbm, ⟨5, _⟩ => ⟨S_, .i32⟩
  | .hbm, ⟨6, _⟩ => ⟨S_, .f32⟩
  | .hbm, ⟨7, _⟩ => ⟨S4x2050x2816, .f32⟩
  | .hbm, ⟨8, _⟩ => ⟨S4x2048x2816, .f32⟩
  | .hbm, ⟨9, _⟩ => ⟨S1x2816, .f32⟩
  | .hbm, ⟨10, _⟩ => ⟨S2816, .f32⟩
  | .hbm, ⟨11, _⟩ => ⟨S1x1x2816, .f32⟩
  | .hbm, ⟨12, _⟩ => ⟨S4x2048x2816, .f32⟩
  | .hbm, ⟨13, _⟩ => ⟨S4x2048x2816, .f32⟩
  | .hbm, ⟨14, _⟩ => ⟨S_, .f32⟩
  | .hbm, ⟨15, _⟩ => ⟨S4x2048x2816, .f32⟩
  | .hbm, ⟨16, _⟩ => ⟨S4x2048x2816, .f32⟩
  | .hbm, ⟨17, _⟩ => ⟨S4x2048x2816, .f32⟩
  | .hbm, ⟨18, _⟩ => ⟨S1x2816, .f32⟩
  | .hbm, ⟨19, _⟩ => ⟨S2816, .f32⟩
  | .hbm, ⟨20, _⟩ => ⟨S1x1x2816, .f32⟩
  | .hbm, ⟨21, _⟩ => ⟨S4x2048x2816, .f32⟩
  | .hbm, ⟨22, _⟩ => ⟨S4x2048x2816, .f32⟩
  | .hbm, ⟨23, _⟩ => ⟨S4x2048x2816, .f32⟩
  | .hbm, ⟨24, _⟩ => ⟨S4x2048x2816, .f32⟩
  | .hbm, ⟨25, _⟩ => ⟨S1x2816, .f32⟩
  | .hbm, ⟨26, _⟩ => ⟨S2816, .f32⟩
  | .hbm, ⟨27, _⟩ => ⟨S1x1x2816, .f32⟩
  | .hbm, ⟨28, _⟩ => ⟨S4x2048x2816, .f32⟩
  | .hbm, ⟨29, _⟩ => ⟨S4x2048x2816, .f32⟩
  | .hbm, ⟨30, _⟩ => ⟨S4x2048x2816, .f32⟩
  | .hbm, ⟨31, _⟩ => ⟨S4x2048x2816, .f32⟩
  | .hbm, ⟨32, _⟩ => ⟨S_, .i32⟩
  | .hbm, ⟨33, _⟩ => ⟨S_, .f32⟩
  | .hbm, ⟨34, _⟩ => ⟨S4x2050x2816, .f32⟩
  | .hbm, ⟨35, _⟩ => ⟨S4x2048x2816, .f32⟩
  | .hbm, ⟨36, _⟩ => ⟨S1x2816, .f32⟩
  | .hbm, ⟨37, _⟩ => ⟨S2816, .f32⟩
  | .hbm, ⟨38, _⟩ => ⟨S1x1x2816, .f32⟩
  | .hbm, ⟨39, _⟩ => ⟨S4x2048x2816, .f32⟩
  | .hbm, ⟨40, _⟩ => ⟨S4x2048x2816, .f32⟩
  | .hbm, ⟨41, _⟩ => ⟨S_, .f32⟩
  | .hbm, ⟨42, _⟩ => ⟨S4x2048x2816, .f32⟩
  | .hbm, ⟨43, _⟩ => ⟨S4x2048x2816, .f32⟩
  | .hbm, ⟨44, _⟩ => ⟨S4x2048x2816, .f32⟩
  | .hbm, ⟨45, _⟩ => ⟨S1x2816, .f32⟩
  | .hbm, ⟨46, _⟩ => ⟨S2816, .f32⟩
  | .hbm, ⟨47, _⟩ => ⟨S1x1x2816, .f32⟩
  | .hbm, ⟨48, _⟩ => ⟨S4x2048x2816, .f32⟩
  | .hbm, ⟨49, _⟩ => ⟨S4x2048x2816, .f32⟩
  | .hbm, ⟨50, _⟩ => ⟨S4x2048x2816, .f32⟩
  | .hbm, ⟨51, _⟩ => ⟨S4x2048x2816, .f32⟩
  | .hbm, ⟨52, _⟩ => ⟨S1x2816, .f32⟩
  | .hbm, ⟨53, _⟩ => ⟨S2816, .f32⟩
  | .hbm, ⟨54, _⟩ => ⟨S1x1x2816, .f32⟩
  | .hbm, ⟨55, _⟩ => ⟨S4x2048x2816, .f32⟩
  | .hbm, ⟨56, _⟩ => ⟨S4x2048x2816, .f32⟩
  | .hbm, ⟨57, _⟩ => ⟨S4x2048x2816, .f32⟩
  | .hbm, ⟨58, _⟩ => ⟨S4x2048x2816, .f32⟩
  | .hbm, ⟨59, _⟩ => ⟨S4x2048x2816, .f32⟩
  | .hbm, ⟨60, _⟩ => ⟨S_, .f32⟩
  | .hbm, ⟨61, _⟩ => ⟨S4x2048x2816, .f32⟩
  | .hbm, ⟨62, _⟩ => ⟨S4x2048x2816, .f32⟩
  | .hbm, ⟨63, _⟩ => ⟨S_, .f32⟩
  | .hbm, ⟨64, _⟩ => ⟨S4x2048x2816, .f32⟩
  | .hbm, ⟨65, _⟩ => ⟨S4x2048x2816, .f32⟩
  | .hbm, ⟨66, _⟩ => ⟨S4x2048x2816, .f32⟩
  | .hbm, ⟨67, _⟩ => ⟨S4x2048x2816, .f32⟩
  | .hbm, ⟨68, _⟩ => ⟨S4x2048x2816, .bf16⟩
  | .hbm, ⟨69, _⟩ => ⟨S8192x2816, .bf16⟩
  | _, _ => ⟨S8192x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_call0_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_c_0 : Ref sig .tc := ⟨.hbm, 32, rfl⟩
abbrev main_call1_v0 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_cst_1 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_call2_v0 : Ref sig .tc := ⟨.hbm, 58, rfl⟩
abbrev main_call2_v1 : Ref sig .tc := ⟨.hbm, 59, rfl⟩
abbrev main_call2_cst : Ref sig .tc := ⟨.hbm, 60, rfl⟩
abbrev main_call2_v2 : Ref sig .tc := ⟨.hbm, 61, rfl⟩
abbrev main_call2_v3 : Ref sig .tc := ⟨.hbm, 62, rfl⟩
abbrev main_call2_cst_0 : Ref sig .tc := ⟨.hbm, 63, rfl⟩
abbrev main_call2_v4 : Ref sig .tc := ⟨.hbm, 64, rfl⟩
abbrev main_call2_v5 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩

abbrev nD : Nat := 1
abbrev τ : Topo := Topo.v7x

variable {F : FTy → Type} [FloatOps F]
-- ==== Proof.Merge.lean ====
/-
  The gradient of the gated merge: what the call leaves in its three result arrays is what the
  reference's derivative computes.
-/
module

public import proofs.«01_k».proof.Defs
public import proofs.«01_k».proof.Proof.Gen.MergeBwdIdeal.Value
public import proofs.«01_k».proof.Proof.Gen.MergeRefIdeal.Run
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.MergeBwdIdeal.Point

open Cert.MergeBwdIdeal Cert.MergeBwdIdeal.Gen

variable (m : (ℓ : Loc nD τ sig) → Buf (Elt Ideal) ℓ)

/-- The gate's sigmoid of one half of the gates' columns, as the reference writes it. -/
abbrev gate (o : Nat) (h : Shape.Slices S8192x2048 ![0, o] S8192x1024) (g : FVec Ideal S8192x2048 .f32) :
    FVec Ideal S8192x1024 .f32 :=
  Host.divf (broadcastInDim S8192x1024 ![] Cert.MergeRefIdeal.Gen.bcast_S_S8192x1024 (constant Cert.MergeRefIdeal.S_ .f32 0x3F800000#32))
    (addf (broadcastInDim S8192x1024 ![] Cert.MergeRefIdeal.Gen.bcast_S_S8192x1024 (constant Cert.MergeRefIdeal.S_ .f32 0x3F800000#32))
      (Host.exp (Host.negf (extractStridedSlice S8192x1024 ![0, o] g h))))

/-- The cotangent of the merged branch: the residual's cotangent times the transposed weights. -/
abbrev dy (x : FVec Ideal S8192x1024 .bf16) (w : FVec Ideal S1024x1024 .bf16) : FVec Ideal S8192x1024 .f32 :=
  Host.dotGeneral Cert.MergeRefIdeal.dot_S8192x1024_S1024x1024_S8192x1024_1_1_0_0_n_n none
    (extf .f32 x Cert.MergeRefIdeal.Gen.bitsLt_bf16_f32) (extf .f32 w Cert.MergeRefIdeal.Gen.bitsLt_bf16_f32)

/-- The gradient of the attention branch. -/
abbrev refBf (x : FVec Ideal S8192x1024 .bf16) (w : FVec Ideal S1024x1024 .bf16) (g : FVec Ideal S8192x2048 .f32) :
    FVec Ideal S8192x1024 .bf16 :=
  truncf .bf16 (mulf (gate 0 Cert.MergeRefIdeal.Gen.slices_S8192x2048_S8192x1024_0_0 g) (dy x w)) Cert.MergeRefIdeal.Gen.bitsLt_bf16_f32

/-- The gradient of the recurrent branch. -/
abbrev refBg (x : FVec Ideal S8192x1024 .bf16) (w : FVec Ideal S1024x1024 .bf16) (g : FVec Ideal S8192x2048 .f32) :
    FVec Ideal S8192x1024 .bf16 :=
  truncf .bf16 (mulf (gate 1024 Cert.MergeRefIdeal.Gen.slices_S8192x2048_S8192x1024_0_1024 g) (dy x w)) Cert.MergeRefIdeal.Gen.bitsLt_bf16_f32

theorem idx : ∀ t : Fin cfg0.N, win0_0.index t = ![t.val, 0] ∧ win0_1.index t = ![0, 0] ∧ win0_2.index t = ![t.val, 0]
    ∧ win0_3.index t = ![t.val, 1] ∧ win0_4.index t = ![t.val, 0] ∧ win0_5.index t = ![t.val, 0]
    ∧ win0_6.index t = ![t.val, 0] ∧ win0_7.index t = ![t.val, 0] ∧ win0_8.index t = ![t.val, 0] :=
  (by decide +kernel : ∀ t : Fin grid0.N, _)

/-- The gradient of one half of the gates, before the rounding. -/
abbrev dgate (o : Nat) (h : Shape.Slices S8192x2048 ![0, o] S8192x1024) (x : FVec Ideal S8192x1024 .bf16)
    (w : FVec Ideal S1024x1024 .bf16) (g : FVec Ideal S8192x2048 .f32) (b : FVec Ideal S8192x1024 .f32) :
    FVec Ideal S8192x1024 .f32 :=
  mulf (mulf (dy x w) b) (mulf (gate o h g) (subf
    (broadcastInDim S8192x1024 ![] Cert.MergeRefIdeal.Gen.bcast_S_S8192x1024 (constant Cert.MergeRefIdeal.S_ .f32 0x3F800000#32)) (gate o h g)))

/-- The gradient of the gates. -/
abbrev refG (x : FVec Ideal S8192x1024 .bf16) (w : FVec Ideal S1024x1024 .bf16) (g : FVec Ideal S8192x2048 .f32)
    (bf bg : FVec Ideal S8192x1024 .f32) : FVec Ideal S8192x2048 .bf16 :=
  truncf .bf16 (Cert.MergeRefIdeal.Value.fn_main_v33 (F := Ideal)
    (dgate 0 Cert.MergeRefIdeal.Gen.slices_S8192x2048_S8192x1024_0_0 x w g bf)
    (dgate 1024 Cert.MergeRefIdeal.Gen.slices_S8192x2048_S8192x1024_0_1024 x w g bg)) Cert.MergeRefIdeal.Gen.bitsLt_bf16_f32

/-- The first result array is the gradient of the attention branch. -/
theorem final6 (c : Dev nD) : (dats m 0 c).arrAt 6 cfg0.N
    = refBf (m ((c : Thread nD τ).loc main_arg0)) (m ((c : Thread nD τ).loc main_arg1)) (m ((c : Thread nD τ).loc main_arg2)) := by
  refine (dats m 0 c).arrAt_eq_of_covers 6 _ (by decide +kernel) fun t _ y => ?_
  blk_simp
  rw [after0_6]; frame_out
  unfold_payloads
  pointwise
  simp only [zero_sub]
  blk_point [iblk, V, idx t]

/-- The second result array is the gradient of the recurrent branch. -/
theorem final7 (c : Dev nD) : (dats m 0 c).arrAt 7 cfg0.N
    = refBg (m ((c : Thread nD τ).loc main_arg0)) (m ((c : Thread nD τ).loc main_arg1)) (m ((c : Thread nD τ).loc main_arg2)) := by
  refine (dats m 0 c).arrAt_eq_of_covers 7 _ (by decide +kernel) fun t _ y => ?_
  blk_simp
  rw [after0_7]; frame_out
  unfold_payloads
  pointwise
  simp only [zero_sub]
  blk_point [iblk, V, idx t]

/-- The third result array is the gradient of the gates. -/
theorem final8 (c : Dev nD) : (dats m 0 c).arrAt 8 cfg0.N
    = refG (m ((c : Thread nD τ).loc main_arg0)) (m ((c : Thread nD τ).loc main_arg1)) (m ((c : Thread nD τ).loc main_arg2))
      (m ((c : Thread nD τ).loc main_arg3)) (m ((c : Thread nD τ).loc main_arg4)) := by
  refine (dats m 0 c).arrAt_eq_of_covers 8 _ (by decide +kernel) fun t _ y => ?_
  blk_simp
  rw [after0_8]; frame_out
  have e : (((win0_8.blk t).view.emb y 1 : Fin _) : ℕ) = y 1 := by blk_simp [idx t]
  canon_tiles
  all_goals unfold_payloads
  all_goals pointwise [Cert.MergeRefIdeal.Value.fn_main_v33]
  all_goals simp only [zero_sub, mul_assoc]
  · rw [dif_neg (by have : (((win0_8.blk t).view.emb y 1 : Fin _) : ℕ) = y 1 := e
                    exact fun h => absurd (show (y 1 : ℕ) < 1024 from this ▸ h) (by omega))]
    blk_point [iblk, V, idx t]
  · rw [dif_pos (show (((win0_8.blk t).view.emb y 1 : Fin _) : ℕ) < 1024 by omega)]
    blk_point [iblk, V, idx t]

end Cert.MergeBwdIdeal.Point

namespace Cert.Proof.Merge

/-- The gradient of the gated merge, as the reference's derivative computes it. -/
theorem algebraic : Cert.algebraic_MergeBwdIdeal_MergeRefIdeal := by
  pair_intro
  · run_from Cert.MergeBwdIdeal.Value.run_blocks m g
  · hlo_run
    · exact (Cert.MergeBwdIdeal.Point.final6 m c).symm
    · exact (Cert.MergeBwdIdeal.Point.final7 m c).symm
    · have h4 := (hagree c).2.2.2.2
      first
        | rw [h4]; exact (Cert.MergeBwdIdeal.Point.final8 m c).symm
        | rw [← h4]; exact (Cert.MergeBwdIdeal.Point.final8 m c).symm

end Cert.Proof.Merge

end
-- ==== Proof.AdamNormVal.lean ====
/-
  The optimiser's step for a norm weight: what the call leaves in its three result arrays is
  the plain step.
-/
module

public import proofs.«01_k».proof.Proof.Gen.AdamNormIdeal.Value
public import proofs.«01_k».proof.Proof.Gen.AdamNormRefIdeal.Run
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.AdamNormIdeal.Point

open Cert.AdamNormIdeal Cert.AdamNormIdeal.Gen

variable (m : (ℓ : Loc nD τ sig) → Buf (Elt Ideal) ℓ)

/-- A constant spread over the array. -/
abbrev con (b : BitVec 32) : FVec Ideal S1x1024 .f32 :=
  broadcastInDim Cert.AdamNormRefIdeal.S1x1024 ![] Cert.AdamNormRefIdeal.Gen.bcast_S_S1x1024 (constant Cert.AdamNormRefIdeal.S_ .f32 b)

/-- The new first moment. -/
abbrev refM (g mm : FVec Ideal S1x1024 .f32) : FVec Ideal S1x1024 .f32 :=
  addf (mulf (con 0x3F666666#32) mm) (mulf (con 0x3DCCCCCD#32) g)

/-- The new second moment. -/
abbrev refV (g v : FVec Ideal S1x1024 .f32) : FVec Ideal S1x1024 .f32 :=
  addf (mulf (con 0x3F7FBE77#32) v) (mulf (con 0x3A83126F#32) (mulf g g))

/-- The step. -/
abbrev refD (w g mm v : FVec Ideal S1x1024 .f32) : FVec Ideal S1x1024 .f32 :=
  mulf (con 0xBA83126F#32)
    (addf (Host.divf (Host.divf (refM g mm) (con 0x3F26BD02#32))
        (addf (Host.sqrt (Host.divf (refV g v) (con 0x3C231ACC#32))) (con 0x322BCC77#32)))
      (mulf (con 0x3C23D70A#32) w))

/-- The blocks a point of the grid stages. -/
theorem idx : ∀ t : Fin cfg0.N, win0_0.index t = ![0, 0]
    ∧ win0_1.index t = ![0, 0]
    ∧ win0_2.index t = ![0, 0]
    ∧ win0_3.index t = ![0, 0]
    ∧ win0_4.index t = ![0, 0]
    ∧ win0_5.index t = ![0, 0]
    ∧ win0_6.index t = ![0, 0] :=
  (by decide +kernel : ∀ t : Fin grid0.N, _)

/-- The step after the call. -/
theorem final4 (c : Dev nD) : (dats m 0 c).arrAt 4 cfg0.N
    = refD (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp
  rw [after0_4]; frame_out
  unfold_payloads
  pointwise
  blk_point [iblk, V, idx t]

/-- The new first moment after the call. -/
theorem final5 (c : Dev nD) : (dats m 0 c).arrAt 5 cfg0.N
    = refM (m ((c : Thread nD τ).loc main_arg1)) (m ((c : Thread nD τ).loc main_arg2)) := by
  refine (dats m 0 c).arrAt_eq_of_covers 5 _ (by decide +kernel) fun t _ y => ?_
  blk_simp
  rw [after0_5]; frame_out
  unfold_payloads
  pointwise
  blk_point [iblk, V, idx t]

/-- The new second moment after the call. -/
theorem final6 (c : Dev nD) : (dats m 0 c).arrAt 6 cfg0.N
    = refV (m ((c : Thread nD τ).loc main_arg1)) (m ((c : Thread nD τ).loc main_arg3)) := by
  refine (dats m 0 c).arrAt_eq_of_covers 6 _ (by decide +kernel) fun t _ y => ?_
  blk_simp
  rw [after0_6]; frame_out
  unfold_payloads
  pointwise
  blk_point [iblk, V, idx t]

end Cert.AdamNormIdeal.Point

end
-- ==== Proof.AdamInVal.lean ====
/-
  The optimiser's step for the input weights, transposed: what the call leaves in its three result arrays is
  the plain step.
-/
module

public import proofs.«01_k».proof.Proof.Gen.AdamInIdeal.Value
public import proofs.«01_k».proof.Proof.Gen.AdamInRefIdeal.Run
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.AdamInIdeal.Point

open Cert.AdamInIdeal Cert.AdamInIdeal.Gen

variable (m : (ℓ : Loc nD τ sig) → Buf (Elt Ideal) ℓ)

/-- A constant spread over the array. -/
abbrev con (b : BitVec 32) : FVec Ideal Cert.AdamInRefIdeal.S1x1024x2310 .f32 :=
  broadcastInDim Cert.AdamInRefIdeal.S1x1024x2310 ![] Cert.AdamInRefIdeal.Gen.bcast_S_S1x1024x2310 (constant Cert.AdamInRefIdeal.S_ .f32 b)

/-- The new first moment. -/
abbrev refM (g mm : FVec Ideal Cert.AdamInRefIdeal.S1x1024x2310 .f32) : FVec Ideal Cert.AdamInRefIdeal.S1x1024x2310 .f32 :=
  addf (mulf (con 0x3F666666#32) mm) (mulf (con 0x3DCCCCCD#32) g)

/-- The new second moment. -/
abbrev refV (g v : FVec Ideal Cert.AdamInRefIdeal.S1x1024x2310 .f32) : FVec Ideal Cert.AdamInRefIdeal.S1x1024x2310 .f32 :=
  addf (mulf (con 0x3F7FBE77#32) v) (mulf (con 0x3A83126F#32) (mulf g g))

/-- The step. -/
abbrev refD (w g mm v : FVec Ideal Cert.AdamInRefIdeal.S1x1024x2310 .f32) : FVec Ideal Cert.AdamInRefIdeal.S1x1024x2310 .f32 :=
  mulf (con 0xBA83126F#32)
    (addf (Host.divf (Host.divf (refM g mm) (con 0x3F26BD02#32))
        (addf (Host.sqrt (Host.divf (refV g v) (con 0x3C231ACC#32))) (con 0x322BCC77#32)))
      (mulf (con 0x3C23D70A#32) w))

/-- The reference hands its results over transposed. -/
abbrev tr (x : FVec Ideal Cert.AdamInRefIdeal.S1x1024x2310 .f32) : FVec Ideal S2310x1024 .f32 :=
  transpose Cert.AdamInRefIdeal.S2310x1024 [1, 0] (shapeCast Cert.AdamInRefIdeal.S1024x2310 x Cert.AdamInRefIdeal.Gen.shapeCasts_S1x1024x2310_S1024x2310) Cert.AdamInRefIdeal.Gen.transposes_S1024x2310_S2310x1024_1_0

/-- The blocks a point of the grid stages. -/
theorem idx : ∀ t : Fin cfg0.N, win0_0.index t = ![0, t.val]
    ∧ win0_1.index t = ![0, t.val]
    ∧ win0_2.index t = ![0, t.val]
    ∧ win0_3.index t = ![0, t.val]
    ∧ win0_4.index t = ![0, t.val]
    ∧ win0_5.index t = ![0, t.val]
    ∧ win0_6.index t = ![0, t.val] :=
  (by decide +kernel : ∀ t : Fin grid0.N, _)

/-- The step after the call. -/
theorem final4 (c : Dev nD) : (dats m 0 c).arrAt 4 cfg0.N
    = tr (refD (m ((c : Thread nD τ).loc main_arg0)) (m ((c : Thread nD τ).loc main_arg1)) (m ((c : Thread nD τ).loc main_arg2)) (m ((c : Thread nD τ).loc main_arg3))) := by
  refine (dats m 0 c).arrAt_eq_of_covers 4 _ (by decide +kernel) fun t _ y => ?_
  blk_simp
  rw [after0_4]; frame_out
  unfold_payloads
  pointwise
  blk_point [iblk, V, idx t]

/-- The new first moment after the call. -/
theorem final5 (c : Dev nD) : (dats m 0 c).arrAt 5 cfg0.N
    = tr (refM (m ((c : Thread nD τ).loc main_arg1)) (m ((c : Thread nD τ).loc main_arg2))) := by
  refine (dats m 0 c).arrAt_eq_of_covers 5 _ (by decide +kernel) fun t _ y => ?_
  blk_simp
  rw [after0_5]; frame_out
  unfold_payloads
  pointwise
  blk_point [iblk, V, idx t]

/-- The new second moment after the call. -/
theorem final6 (c : Dev nD) : (dats m 0 c).arrAt 6 cfg0.N
    = tr (refV (m ((c : Thread nD τ).loc main_arg1)) (m ((c : Thread nD τ).loc main_arg3))) := by
  refine (dats m 0 c).arrAt_eq_of_covers 6 _ (by decide +kernel) fun t _ y => ?_
  blk_simp
  rw [after0_6]; frame_out
  unfold_payloads
  pointwise
  blk_point [iblk, V, idx t]

end Cert.AdamInIdeal.Point

end
-- ==== Proof.AdamHeadVal.lean ====
/-
  The optimiser's step for a weight of the heads: what the call leaves in its three result arrays is
  the plain step.
-/
module

public import proofs.«01_k».proof.Proof.Gen.AdamHeadIdeal.Value
public import proofs.«01_k».proof.Proof.Gen.AdamHeadRefIdeal.Run
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.AdamHeadIdeal.Point

open Cert.AdamHeadIdeal Cert.AdamHeadIdeal.Gen

variable (m : (ℓ : Loc nD τ sig) → Buf (Elt Ideal) ℓ)

/-- A constant spread over the array. -/
abbrev con (b : BitVec 32) : FVec Ideal S1x8 .f32 :=
  broadcastInDim Cert.AdamHeadRefIdeal.S1x8 ![] Cert.AdamHeadRefIdeal.Gen.bcast_S_S1x8 (constant Cert.AdamHeadRefIdeal.S_ .f32 b)

/-- The new first moment. -/
abbrev refM (g mm : FVec Ideal S1x8 .f32) : FVec Ideal S1x8 .f32 :=
  addf (mulf (con 0x3F666666#32) mm) (mulf (con 0x3DCCCCCD#32) g)

/-- The new second moment. -/
abbrev refV (g v : FVec Ideal S1x8 .f32) : FVec Ideal S1x8 .f32 :=
  addf (mulf (con 0x3F7FBE77#32) v) (mulf (con 0x3A83126F#32) (mulf g g))

/-- The step. -/
abbrev refD (w g mm v : FVec Ideal S1x8 .f32) : FVec Ideal S1x8 .f32 :=
  mulf (con 0xBA83126F#32)
    (addf (Host.divf (Host.divf (refM g mm) (con 0x3F26BD02#32))
        (addf (Host.sqrt (Host.divf (refV g v) (con 0x3C231ACC#32))) (con 0x322BCC77#32)))
      (mulf (con 0x3C23D70A#32) w))

/-- The blocks a point of the grid stages. -/
theorem idx : ∀ t : Fin cfg0.N, win0_0.index t = ![0, 0]
    ∧ win0_1.index t = ![0, 0]
    ∧ win0_2.index t = ![0, 0]
    ∧ win0_3.index t = ![0, 0]
    ∧ win0_4.index t = ![0, 0]
    ∧ win0_5.index t = ![0, 0]
    ∧ win0_6.index t = ![0, 0] :=
  (by decide +kernel : ∀ t : Fin grid0.N, _)

/-- The step after the call. -/
theorem final4 (c : Dev nD) : (dats m 0 c).arrAt 4 cfg0.N
    = refD (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp
  rw [after0_4]; frame_out
  unfold_payloads
  pointwise
  blk_point [iblk, V, idx t]

/-- The new first moment after the call. -/
theorem final5 (c : Dev nD) : (dats m 0 c).arrAt 5 cfg0.N
    = refM (m ((c : Thread nD τ).loc main_arg1)) (m ((c : Thread nD τ).loc main_arg2)) := by
  refine (dats m 0 c).arrAt_eq_of_covers 5 _ (by decide +kernel) fun t _ y => ?_
  blk_simp
  rw [after0_5]; frame_out
  unfold_payloads
  pointwise
  blk_point [iblk, V, idx t]

/-- The new second moment after the call. -/
theorem final6 (c : Dev nD) : (dats m 0 c).arrAt 6 cfg0.N
    = refV (m ((c : Thread nD τ).loc main_arg1)) (m ((c : Thread nD τ).loc main_arg3)) := by
  refine (dats m 0 c).arrAt_eq_of_covers 6 _ (by decide +kernel) fun t _ y => ?_
  blk_simp
  rw [after0_6]; frame_out
  unfold_payloads
  pointwise
  blk_point [iblk, V, idx t]

end Cert.AdamHeadIdeal.Point

end
-- ==== Proof.AdamConvVal.lean ====
/-
  The optimiser's step for the recurrence's convolution weights: what the call leaves in its three result arrays is
  the plain step.
-/
module

public import proofs.«01_k».proof.Proof.Gen.AdamConvIdeal.Value
public import proofs.«01_k».proof.Proof.Gen.AdamConvRefIdeal.Run
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.AdamConvIdeal.Point

open Cert.AdamConvIdeal Cert.AdamConvIdeal.Gen

variable (m : (ℓ : Loc nD τ sig) → Buf (Elt Ideal) ℓ)

/-- A constant spread over the array. -/
abbrev con (b : BitVec 32) : FVec Ideal S1x4x768 .f32 :=
  broadcastInDim Cert.AdamConvRefIdeal.S1x4x768 ![] Cert.AdamConvRefIdeal.Gen.bcast_S_S1x4x768 (constant Cert.AdamConvRefIdeal.S_ .f32 b)

/-- The new first moment. -/
abbrev refM (g mm : FVec Ideal S1x4x768 .f32) : FVec Ideal S1x4x768 .f32 :=
  addf (mulf (con 0x3F666666#32) mm) (mulf (con 0x3DCCCCCD#32) g)

/-- The new second moment. -/
abbrev refV (g v : FVec Ideal S1x4x768 .f32) : FVec Ideal S1x4x768 .f32 :=
  addf (mulf (con 0x3F7FBE77#32) v) (mulf (con 0x3A83126F#32) (mulf g g))

/-- The step. -/
abbrev refD (w g mm v : FVec Ideal S1x4x768 .f32) : FVec Ideal S1x4x768 .f32 :=
  mulf (con 0xBA83126F#32)
    (addf (Host.divf (Host.divf (refM g mm) (con 0x3F26BD02#32))
        (addf (Host.sqrt (Host.divf (refV g v) (con 0x3C231ACC#32))) (con 0x322BCC77#32)))
      (mulf (con 0x3C23D70A#32) w))

/-- The blocks a point of the grid stages. -/
theorem idx : ∀ t : Fin cfg0.N, win0_0.index t = ![0, 0, 0]
    ∧ win0_1.index t = ![0, 0]
    ∧ win0_2.index t = ![0, 0, 0]
    ∧ win0_3.index t = ![0, 0, 0]
    ∧ win0_4.index t = ![0, 0, 0]
    ∧ win0_5.index t = ![0, 0, 0]
    ∧ win0_6.index t = ![0, 0, 0] :=
  (by decide +kernel : ∀ t : Fin grid0.N, _)

/-- The step after the call. -/
theorem final4 (c : Dev nD) : (dats m 0 c).arrAt 4 cfg0.N
    = refD (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp
  rw [after0_4]; frame_out
  unfold_payloads
  pointwise
  blk_point [iblk, V, idx t]

/-- The new first moment after the call. -/
theorem final5 (c : Dev nD) : (dats m 0 c).arrAt 5 cfg0.N
    = refM (m ((c : Thread nD τ).loc main_arg1)) (m ((c : Thread nD τ).loc main_arg2)) := by
  refine (dats m 0 c).arrAt_eq_of_covers 5 _ (by decide +kernel) fun t _ y => ?_
  blk_simp
  rw [after0_5]; frame_out
  unfold_payloads
  pointwise
  blk_point [iblk, V, idx t]

/-- The new second moment after the call. -/
theorem final6 (c : Dev nD) : (dats m 0 c).arrAt 6 cfg0.N
    = refV (m ((c : Thread nD τ).loc main_arg1)) (m ((c : Thread nD τ).loc main_arg3)) := by
  refine (dats m 0 c).arrAt_eq_of_covers 6 _ (by decide +kernel) fun t _ y => ?_
  blk_simp
  rw [after0_6]; frame_out
  unfold_payloads
  pointwise
  blk_point [iblk, V, idx t]

end Cert.AdamConvIdeal.Point

end
-- ==== Proof.AdamGnormVal.lean ====
/-
  The optimiser's step for the recurrence's norm weight: what the call leaves in its three result arrays is
  the plain step.
-/
module

public import proofs.«01_k».proof.Proof.Gen.AdamGnormIdeal.Value
public import proofs.«01_k».proof.Proof.Gen.AdamGnormRefIdeal.Run
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.AdamGnormIdeal.Point

open Cert.AdamGnormIdeal Cert.AdamGnormIdeal.Gen

variable (m : (ℓ : Loc nD τ sig) → Buf (Elt Ideal) ℓ)

/-- A constant spread over the array. -/
abbrev con (b : BitVec 32) : FVec Ideal S1x128 .f32 :=
  broadcastInDim Cert.AdamGnormRefIdeal.S1x128 ![] Cert.AdamGnormRefIdeal.Gen.bcast_S_S1x128 (constant Cert.AdamGnormRefIdeal.S_ .f32 b)

/-- The new first moment. -/
abbrev refM (g mm : FVec Ideal S1x128 .f32) : FVec Ideal S1x128 .f32 :=
  addf (mulf (con 0x3F666666#32) mm) (mulf (con 0x3DCCCCCD#32) g)

/-- The new second moment. -/
abbrev refV (g v : FVec Ideal S1x128 .f32) : FVec Ideal S1x128 .f32 :=
  addf (mulf (con 0x3F7FBE77#32) v) (mulf (con 0x3A83126F#32) (mulf g g))

/-- The step. -/
abbrev refD (w g mm v : FVec Ideal S1x128 .f32) : FVec Ideal S1x128 .f32 :=
  mulf (con 0xBA83126F#32)
    (addf (Host.divf (Host.divf (refM g mm) (con 0x3F26BD02#32))
        (addf (Host.sqrt (Host.divf (refV g v) (con 0x3C231ACC#32))) (con 0x322BCC77#32)))
      (mulf (con 0x3C23D70A#32) w))

/-- The blocks a point of the grid stages. -/
theorem idx : ∀ t : Fin cfg0.N, win0_0.index t = ![0, 0]
    ∧ win0_1.index t = ![0, 0]
    ∧ win0_2.index t = ![0, 0]
    ∧ win0_3.index t = ![0, 0]
    ∧ win0_4.index t = ![0, 0]
    ∧ win0_5.index t = ![0, 0]
    ∧ win0_6.index t = ![0, 0] :=
  (by decide +kernel : ∀ t : Fin grid0.N, _)

/-- The step after the call. -/
theorem final4 (c : Dev nD) : (dats m 0 c).arrAt 4 cfg0.N
    = refD (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp
  rw [after0_4]; frame_out
  unfold_payloads
  pointwise
  blk_point [iblk, V, idx t]

/-- The new first moment after the call. -/
theorem final5 (c : Dev nD) : (dats m 0 c).arrAt 5 cfg0.N
    = refM (m ((c : Thread nD τ).loc main_arg1)) (m ((c : Thread nD τ).loc main_arg2)) := by
  refine (dats m 0 c).arrAt_eq_of_covers 5 _ (by decide +kernel) fun t _ y => ?_
  blk_simp
  rw [after0_5]; frame_out
  unfold_payloads
  pointwise
  blk_point [iblk, V, idx t]

/-- The new second moment after the call. -/
theorem final6 (c : Dev nD) : (dats m 0 c).arrAt 6 cfg0.N
    = refV (m ((c : Thread nD τ).loc main_arg1)) (m ((c : Thread nD τ).loc main_arg3)) := by
  refine (dats m 0 c).arrAt_eq_of_covers 6 _ (by decide +kernel) fun t _ y => ?_
  blk_simp
  rw [after0_6]; frame_out
  unfold_payloads
  pointwise
  blk_point [iblk, V, idx t]

end Cert.AdamGnormIdeal.Point

end
-- ==== Proof.AdamOutVal.lean ====
/-
  The optimiser's step for a square output weight: what the call leaves in its three result arrays is
  the plain step.
-/
module

public import proofs.«01_k».proof.Proof.Gen.AdamOutIdeal.Value
public import proofs.«01_k».proof.Proof.Gen.AdamOutRefIdeal.Run
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.AdamOutIdeal.Point

open Cert.AdamOutIdeal Cert.AdamOutIdeal.Gen

variable (m : (ℓ : Loc nD τ sig) → Buf (Elt Ideal) ℓ)

/-- A constant spread over the array. -/
abbrev con (b : BitVec 32) : FVec Ideal S1x256x1024 .f32 :=
  broadcastInDim Cert.AdamOutRefIdeal.S1x256x1024 ![] Cert.AdamOutRefIdeal.Gen.bcast_S_S1x256x1024 (constant Cert.AdamOutRefIdeal.S_ .f32 b)

/-- The new first moment. -/
abbrev refM (g mm : FVec Ideal S1x256x1024 .f32) : FVec Ideal S1x256x1024 .f32 :=
  addf (mulf (con 0x3F666666#32) mm) (mulf (con 0x3DCCCCCD#32) g)

/-- The new second moment. -/
abbrev refV (g v : FVec Ideal S1x256x1024 .f32) : FVec Ideal S1x256x1024 .f32 :=
  addf (mulf (con 0x3F7FBE77#32) v) (mulf (con 0x3A83126F#32) (mulf g g))

/-- The step. -/
abbrev refD (w g mm v : FVec Ideal S1x256x1024 .f32) : FVec Ideal S1x256x1024 .f32 :=
  mulf (con 0xBA83126F#32)
    (addf (Host.divf (Host.divf (refM g mm) (con 0x3F26BD02#32))
        (addf (Host.sqrt (Host.divf (refV g v) (con 0x3C231ACC#32))) (con 0x322BCC77#32)))
      (mulf (con 0x3C23D70A#32) w))

/-- The blocks a point of the grid stages. -/
theorem idx : ∀ t : Fin cfg0.N, win0_0.index t = ![0, t.val, 0]
    ∧ win0_1.index t = ![t.val, 0]
    ∧ win0_2.index t = ![0, t.val, 0]
    ∧ win0_3.index t = ![0, t.val, 0]
    ∧ win0_4.index t = ![0, t.val, 0]
    ∧ win0_5.index t = ![0, t.val, 0]
    ∧ win0_6.index t = ![0, t.val, 0] :=
  (by decide +kernel : ∀ t : Fin grid0.N, _)

/-- The step after the call. -/
theorem final4 (c : Dev nD) : (dats m 0 c).arrAt 4 cfg0.N
    = refD (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp
  rw [after0_4]; frame_out
  unfold_payloads
  pointwise
  blk_point [iblk, V, idx t]

/-- The new first moment after the call. -/
theorem final5 (c : Dev nD) : (dats m 0 c).arrAt 5 cfg0.N
    = refM (m ((c : Thread nD τ).loc main_arg1)) (m ((c : Thread nD τ).loc main_arg2)) := by
  refine (dats m 0 c).arrAt_eq_of_covers 5 _ (by decide +kernel) fun t _ y => ?_
  blk_simp
  rw [after0_5]; frame_out
  unfold_payloads
  pointwise
  blk_point [iblk, V, idx t]

/-- The new second moment after the call. -/
theorem final6 (c : Dev nD) : (dats m 0 c).arrAt 6 cfg0.N
    = refV (m ((c : Thread nD τ).loc main_arg1)) (m ((c : Thread nD τ).loc main_arg3)) := by
  refine (dats m 0 c).arrAt_eq_of_covers 6 _ (by decide +kernel) fun t _ y => ?_
  blk_simp
  rw [after0_6]; frame_out
  unfold_payloads
  pointwise
  blk_point [iblk, V, idx t]

end Cert.AdamOutIdeal.Point

end
-- ==== Proof.AdamUpVal.lean ====
/-
  The optimiser's step for the up weights: what the call leaves in its three result arrays is
  the plain step.
-/
module

public import proofs.«01_k».proof.Proof.Gen.AdamUpIdeal.Value
public import proofs.«01_k».proof.Proof.Gen.AdamUpRefIdeal.Run
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.AdamUpIdeal.Point

open Cert.AdamUpIdeal Cert.AdamUpIdeal.Gen

variable (m : (ℓ : Loc nD τ sig) → Buf (Elt Ideal) ℓ)

/-- A constant spread over the array. -/
abbrev con (b : BitVec 32) : FVec Ideal S1x1024x1408 .f32 :=
  broadcastInDim Cert.AdamUpRefIdeal.S1x1024x1408 ![] Cert.AdamUpRefIdeal.Gen.bcast_S_S1x1024x1408 (constant Cert.AdamUpRefIdeal.S_ .f32 b)

/-- The new first moment. -/
abbrev refM (g mm : FVec Ideal S1x1024x1408 .f32) : FVec Ideal S1x1024x1408 .f32 :=
  addf (mulf (con 0x3F666666#32) mm) (mulf (con 0x3DCCCCCD#32) g)

/-- The new second moment. -/
abbrev refV (g v : FVec Ideal S1x1024x1408 .f32) : FVec Ideal S1x1024x1408 .f32 :=
  addf (mulf (con 0x3F7FBE77#32) v) (mulf (con 0x3A83126F#32) (mulf g g))

/-- The step. -/
abbrev refD (w g mm v : FVec Ideal S1x1024x1408 .f32) : FVec Ideal S1x1024x1408 .f32 :=
  mulf (con 0xBA83126F#32)
    (addf (Host.divf (Host.divf (refM g mm) (con 0x3F26BD02#32))
        (addf (Host.sqrt (Host.divf (refV g v) (con 0x3C231ACC#32))) (con 0x322BCC77#32)))
      (mulf (con 0x3C23D70A#32) w))

/-- The blocks a point of the grid stages. -/
theorem idx : ∀ t : Fin cfg0.N, win0_0.index t = ![0, t.val, 0]
    ∧ win0_1.index t = ![t.val, 0]
    ∧ win0_2.index t = ![0, t.val, 0]
    ∧ win0_3.index t = ![0, t.val, 0]
    ∧ win0_4.index t = ![0, t.val, 0]
    ∧ win0_5.index t = ![0, t.val, 0]
    ∧ win0_6.index t = ![0, t.val, 0] :=
  (by decide +kernel : ∀ t : Fin grid0.N, _)

/-- The step after the call. -/
theorem final4 (c : Dev nD) : (dats m 0 c).arrAt 4 cfg0.N
    = refD (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp
  rw [after0_4]; frame_out
  unfold_payloads
  pointwise
  blk_point [iblk, V, idx t]

/-- The new first moment after the call. -/
theorem final5 (c : Dev nD) : (dats m 0 c).arrAt 5 cfg0.N
    = refM (m ((c : Thread nD τ).loc main_arg1)) (m ((c : Thread nD τ).loc main_arg2)) := by
  refine (dats m 0 c).arrAt_eq_of_covers 5 _ (by decide +kernel) fun t _ y => ?_
  blk_simp
  rw [after0_5]; frame_out
  unfold_payloads
  pointwise
  blk_point [iblk, V, idx t]

/-- The new second moment after the call. -/
theorem final6 (c : Dev nD) : (dats m 0 c).arrAt 6 cfg0.N
    = refV (m ((c : Thread nD τ).loc main_arg1)) (m ((c : Thread nD τ).loc main_arg3)) := by
  refine (dats m 0 c).arrAt_eq_of_covers 6 _ (by decide +kernel) fun t _ y => ?_
  blk_simp
  rw [after0_6]; frame_out
  unfold_payloads
  pointwise
  blk_point [iblk, V, idx t]

end Cert.AdamUpIdeal.Point

end
-- ==== Proof.AdamFconvVal.lean ====
/-
  The optimiser's step for the feed-forward's convolution weights: what the call leaves in its three result arrays is
  the plain step.
-/
module

public import proofs.«01_k».proof.Proof.Gen.AdamFconvIdeal.Value
public import proofs.«01_k».proof.Proof.Gen.AdamFconvRefIdeal.Run
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.AdamFconvIdeal.Point

open Cert.AdamFconvIdeal Cert.AdamFconvIdeal.Gen

variable (m : (ℓ : Loc nD τ sig) → Buf (Elt Ideal) ℓ)

/-- A constant spread over the array. -/
abbrev con (b : BitVec 32) : FVec Ideal S1x3x1408 .f32 :=
  broadcastInDim Cert.AdamFconvRefIdeal.S1x3x1408 ![] Cert.AdamFconvRefIdeal.Gen.bcast_S_S1x3x1408 (constant Cert.AdamFconvRefIdeal.S_ .f32 b)

/-- The new first moment. -/
abbrev refM (g mm : FVec Ideal S1x3x1408 .f32) : FVec Ideal S1x3x1408 .f32 :=
  addf (mulf (con 0x3F666666#32) mm) (mulf (con 0x3DCCCCCD#32) g)

/-- The new second moment. -/
abbrev refV (g v : FVec Ideal S1x3x1408 .f32) : FVec Ideal S1x3x1408 .f32 :=
  addf (mulf (con 0x3F7FBE77#32) v) (mulf (con 0x3A83126F#32) (mulf g g))

/-- The step. -/
abbrev refD (w g mm v : FVec Ideal S1x3x1408 .f32) : FVec Ideal S1x3x1408 .f32 :=
  mulf (con 0xBA83126F#32)
    (addf (Host.divf (Host.divf (refM g mm) (con 0x3F26BD02#32))
        (addf (Host.sqrt (Host.divf (refV g v) (con 0x3C231ACC#32))) (con 0x322BCC77#32)))
      (mulf (con 0x3C23D70A#32) w))

/-- The blocks a point of the grid stages. -/
theorem idx : ∀ t : Fin cfg0.N, win0_0.index t = ![0, 0, 0]
    ∧ win0_1.index t = ![0, 0]
    ∧ win0_2.index t = ![0, 0, 0]
    ∧ win0_3.index t = ![0, 0, 0]
    ∧ win0_4.index t = ![0, 0, 0]
    ∧ win0_5.index t = ![0, 0, 0]
    ∧ win0_6.index t = ![0, 0, 0] :=
  (by decide +kernel : ∀ t : Fin grid0.N, _)

/-- The step after the call. -/
theorem final4 (c : Dev nD) : (dats m 0 c).arrAt 4 cfg0.N
    = refD (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp
  rw [after0_4]; frame_out
  unfold_payloads
  pointwise
  blk_point [iblk, V, idx t]

/-- The new first moment after the call. -/
theorem final5 (c : Dev nD) : (dats m 0 c).arrAt 5 cfg0.N
    = refM (m ((c : Thread nD τ).loc main_arg1)) (m ((c : Thread nD τ).loc main_arg2)) := by
  refine (dats m 0 c).arrAt_eq_of_covers 5 _ (by decide +kernel) fun t _ y => ?_
  blk_simp
  rw [after0_5]; frame_out
  unfold_payloads
  pointwise
  blk_point [iblk, V, idx t]

/-- The new second moment after the call. -/
theorem final6 (c : Dev nD) : (dats m 0 c).arrAt 6 cfg0.N
    = refV (m ((c : Thread nD τ).loc main_arg1)) (m ((c : Thread nD τ).loc main_arg3)) := by
  refine (dats m 0 c).arrAt_eq_of_covers 6 _ (by decide +kernel) fun t _ y => ?_
  blk_simp
  rw [after0_6]; frame_out
  unfold_payloads
  pointwise
  blk_point [iblk, V, idx t]

end Cert.AdamFconvIdeal.Point

end
-- ==== Proof.AdamDownVal.lean ====
/-
  The optimiser's step for the down weights: what the call leaves in its three result arrays is
  the plain step.
-/
module

public import proofs.«01_k».proof.Proof.Gen.AdamDownIdeal.Value
public import proofs.«01_k».proof.Proof.Gen.AdamDownRefIdeal.Run
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.AdamDownIdeal.Point

open Cert.AdamDownIdeal Cert.AdamDownIdeal.Gen

variable (m : (ℓ : Loc nD τ sig) → Buf (Elt Ideal) ℓ)

/-- A constant spread over the array. -/
abbrev con (b : BitVec 32) : FVec Ideal S1x704x1024 .f32 :=
  broadcastInDim Cert.AdamDownRefIdeal.S1x704x1024 ![] Cert.AdamDownRefIdeal.Gen.bcast_S_S1x704x1024 (constant Cert.AdamDownRefIdeal.S_ .f32 b)

/-- The new first moment. -/
abbrev refM (g mm : FVec Ideal S1x704x1024 .f32) : FVec Ideal S1x704x1024 .f32 :=
  addf (mulf (con 0x3F666666#32) mm) (mulf (con 0x3DCCCCCD#32) g)

/-- The new second moment. -/
abbrev refV (g v : FVec Ideal S1x704x1024 .f32) : FVec Ideal S1x704x1024 .f32 :=
  addf (mulf (con 0x3F7FBE77#32) v) (mulf (con 0x3A83126F#32) (mulf g g))

/-- The step. -/
abbrev refD (w g mm v : FVec Ideal S1x704x1024 .f32) : FVec Ideal S1x704x1024 .f32 :=
  mulf (con 0xBA83126F#32)
    (addf (Host.divf (Host.divf (refM g mm) (con 0x3F26BD02#32))
        (addf (Host.sqrt (Host.divf (refV g v) (con 0x3C231ACC#32))) (con 0x322BCC77#32)))
      (mulf (con 0x3C23D70A#32) w))

/-- The blocks a point of the grid stages. -/
theorem idx : ∀ t : Fin cfg0.N, win0_0.index t = ![0, t.val, 0]
    ∧ win0_1.index t = ![t.val, 0]
    ∧ win0_2.index t = ![0, t.val, 0]
    ∧ win0_3.index t = ![0, t.val, 0]
    ∧ win0_4.index t = ![0, t.val, 0]
    ∧ win0_5.index t = ![0, t.val, 0]
    ∧ win0_6.index t = ![0, t.val, 0] :=
  (by decide +kernel : ∀ t : Fin grid0.N, _)

/-- The step after the call. -/
theorem final4 (c : Dev nD) : (dats m 0 c).arrAt 4 cfg0.N
    = refD (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp
  rw [after0_4]; frame_out
  unfold_payloads
  pointwise
  blk_point [iblk, V, idx t]

/-- The new first moment after the call. -/
theorem final5 (c : Dev nD) : (dats m 0 c).arrAt 5 cfg0.N
    = refM (m ((c : Thread nD τ).loc main_arg1)) (m ((c : Thread nD τ).loc main_arg2)) := by
  refine (dats m 0 c).arrAt_eq_of_covers 5 _ (by decide +kernel) fun t _ y => ?_
  blk_simp
  rw [after0_5]; frame_out
  unfold_payloads
  pointwise
  blk_point [iblk, V, idx t]

/-- The new second moment after the call. -/
theorem final6 (c : Dev nD) : (dats m 0 c).arrAt 6 cfg0.N
    = refV (m ((c : Thread nD τ).loc main_arg1)) (m ((c : Thread nD τ).loc main_arg3)) := by
  refine (dats m 0 c).arrAt_eq_of_covers 6 _ (by decide +kernel) fun t _ y => ?_
  blk_simp
  rw [after0_6]; frame_out
  unfold_payloads
  pointwise
  blk_point [iblk, V, idx t]

end Cert.AdamDownIdeal.Point

end
-- ==== Proof.Optimiser.lean ====
/-
  The optimiser: for each shape of weight the claim that the call's three results are the plain
  step's, and the frame of the plain step.
-/
module

public import proofs.«01_k».proof.Defs
public import proofs.«01_k».proof.Proof.AdamNormVal
public import proofs.«01_k».proof.Proof.AdamInVal
public import proofs.«01_k».proof.Proof.AdamHeadVal
public import proofs.«01_k».proof.Proof.AdamConvVal
public import proofs.«01_k».proof.Proof.AdamGnormVal
public import proofs.«01_k».proof.Proof.AdamOutVal
public import proofs.«01_k».proof.Proof.AdamUpVal
public import proofs.«01_k».proof.Proof.AdamFconvVal
public import proofs.«01_k».proof.Proof.AdamDownVal
public import Idealize.ShloMosaic.Lib.Claim
public import Idealize.ShloMosaic.Lib.Quiescent

@[expose] public section

set_option maxRecDepth 16384

noncomputable section

open Idealize.ShloMosaic Idealize.ShloMosaic.TcCoe Idealize.SL.Sem

namespace Cert.Proof.AdamNorm

/-- The optimiser's step for a norm weight: the call's results are the reference's. -/
theorem algebraic : Cert.algebraic_AdamNormIdeal_AdamNormRefIdeal := by
  pair_intro
  · run_from Cert.AdamNormIdeal.Value.run_blocks m g
  · hlo_run
    · exact (Cert.AdamNormIdeal.Point.final4 m c).symm
    · exact (Cert.AdamNormIdeal.Point.final5 m c).symm
    · exact (Cert.AdamNormIdeal.Point.final6 m c).symm

/-- The reference runs on the host and keeps its arguments. -/
theorem frame_ref : Cert.quiescent_AdamNormRefIdeal := by
  intro m g _
  exact (θ_run Cert.AdamNormRefIdeal.defs _ _).mono
    (fun r h => ⟨fun c => (h c).2.2.2, Idealize.ShloMosaic.sem_eq_zero_of_no_sems (by decide) r.2⟩)
    (Cert.AdamNormRefIdeal.Value.run (F := Ideal) m g)

end Cert.Proof.AdamNorm

namespace Cert.Proof.AdamIn

/-- The optimiser's step for the input weights, transposed: the call's results are the reference's. -/
theorem algebraic : Cert.algebraic_AdamInIdeal_AdamInRefIdeal := by
  pair_intro
  · run_from Cert.AdamInIdeal.Value.run_blocks m g
  · hlo_run
    · exact (Cert.AdamInIdeal.Point.final4 m c).symm
    · exact (Cert.AdamInIdeal.Point.final5 m c).symm
    · exact (Cert.AdamInIdeal.Point.final6 m c).symm

/-- The reference runs on the host and keeps its arguments. -/
theorem frame_ref : Cert.quiescent_AdamInRefIdeal := by
  intro m g _
  exact (θ_run Cert.AdamInRefIdeal.defs _ _).mono
    (fun r h => ⟨fun c => (h c).2.2.2, Idealize.ShloMosaic.sem_eq_zero_of_no_sems (by decide) r.2⟩)
    (Cert.AdamInRefIdeal.Value.run (F := Ideal) m g)

end Cert.Proof.AdamIn

namespace Cert.Proof.AdamHead

/-- The optimiser's step for a weight of the heads: the call's results are the reference's. -/
theorem algebraic : Cert.algebraic_AdamHeadIdeal_AdamHeadRefIdeal := by
  pair_intro
  · run_from Cert.AdamHeadIdeal.Value.run_blocks m g
  · hlo_run
    · exact (Cert.AdamHeadIdeal.Point.final4 m c).symm
    · exact (Cert.AdamHeadIdeal.Point.final5 m c).symm
    · exact (Cert.AdamHeadIdeal.Point.final6 m c).symm

/-- The reference runs on the host and keeps its arguments. -/
theorem frame_ref : Cert.quiescent_AdamHeadRefIdeal := by
  intro m g _
  exact (θ_run Cert.AdamHeadRefIdeal.defs _ _).mono
    (fun r h => ⟨fun c => (h c).2.2.2, Idealize.ShloMosaic.sem_eq_zero_of_no_sems (by decide) r.2⟩)
    (Cert.AdamHeadRefIdeal.Value.run (F := Ideal) m g)

end Cert.Proof.AdamHead

namespace Cert.Proof.AdamConv

/-- The optimiser's step for the recurrence's convolution weights: the call's results are the reference's. -/
theorem algebraic : Cert.algebraic_AdamConvIdeal_AdamConvRefIdeal := by
  pair_intro
  · run_from Cert.AdamConvIdeal.Value.run_blocks m g
  · hlo_run
    · exact (Cert.AdamConvIdeal.Point.final4 m c).symm
    · exact (Cert.AdamConvIdeal.Point.final5 m c).symm
    · exact (Cert.AdamConvIdeal.Point.final6 m c).symm

/-- The reference runs on the host and keeps its arguments. -/
theorem frame_ref : Cert.quiescent_AdamConvRefIdeal := by
  intro m g _
  exact (θ_run Cert.AdamConvRefIdeal.defs _ _).mono
    (fun r h => ⟨fun c => (h c).2.2.2, Idealize.ShloMosaic.sem_eq_zero_of_no_sems (by decide) r.2⟩)
    (Cert.AdamConvRefIdeal.Value.run (F := Ideal) m g)

end Cert.Proof.AdamConv

namespace Cert.Proof.AdamGnorm

/-- The optimiser's step for the recurrence's norm weight: the call's results are the reference's. -/
theorem algebraic : Cert.algebraic_AdamGnormIdeal_AdamGnormRefIdeal := by
  pair_intro
  · run_from Cert.AdamGnormIdeal.Value.run_blocks m g
  · hlo_run
    · exact (Cert.AdamGnormIdeal.Point.final4 m c).symm
    · exact (Cert.AdamGnormIdeal.Point.final5 m c).symm
    · exact (Cert.AdamGnormIdeal.Point.final6 m c).symm

/-- The reference runs on the host and keeps its arguments. -/
theorem frame_ref : Cert.quiescent_AdamGnormRefIdeal := by
  intro m g _
  exact (θ_run Cert.AdamGnormRefIdeal.defs _ _).mono
    (fun r h => ⟨fun c => (h c).2.2.2, Idealize.ShloMosaic.sem_eq_zero_of_no_sems (by decide) r.2⟩)
    (Cert.AdamGnormRefIdeal.Value.run (F := Ideal) m g)

end Cert.Proof.AdamGnorm

namespace Cert.Proof.AdamOut

/-- The optimiser's step for a square output weight: the call's results are the reference's. -/
theorem algebraic : Cert.algebraic_AdamOutIdeal_AdamOutRefIdeal := by
  pair_intro
  · run_from Cert.AdamOutIdeal.Value.run_blocks m g
  · hlo_run
    · exact (Cert.AdamOutIdeal.Point.final4 m c).symm
    · exact (Cert.AdamOutIdeal.Point.final5 m c).symm
    · exact (Cert.AdamOutIdeal.Point.final6 m c).symm

/-- The reference runs on the host and keeps its arguments. -/
theorem frame_ref : Cert.quiescent_AdamOutRefIdeal := by
  intro m g _
  exact (θ_run Cert.AdamOutRefIdeal.defs _ _).mono
    (fun r h => ⟨fun c => (h c).2.2.2, Idealize.ShloMosaic.sem_eq_zero_of_no_sems (by decide) r.2⟩)
    (Cert.AdamOutRefIdeal.Value.run (F := Ideal) m g)

end Cert.Proof.AdamOut

namespace Cert.Proof.AdamUp

/-- The optimiser's step for the up weights: the call's results are the reference's. -/
theorem algebraic : Cert.algebraic_AdamUpIdeal_AdamUpRefIdeal := by
  pair_intro
  · run_from Cert.AdamUpIdeal.Value.run_blocks m g
  · hlo_run
    · exact (Cert.AdamUpIdeal.Point.final4 m c).symm
    · exact (Cert.AdamUpIdeal.Point.final5 m c).symm
    · exact (Cert.AdamUpIdeal.Point.final6 m c).symm

/-- The reference runs on the host and keeps its arguments. -/
theorem frame_ref : Cert.quiescent_AdamUpRefIdeal := by
  intro m g _
  exact (θ_run Cert.AdamUpRefIdeal.defs _ _).mono
    (fun r h => ⟨fun c => (h c).2.2.2, Idealize.ShloMosaic.sem_eq_zero_of_no_sems (by decide) r.2⟩)
    (Cert.AdamUpRefIdeal.Value.run (F := Ideal) m g)

end Cert.Proof.AdamUp

namespace Cert.Proof.AdamFconv

/-- The optimiser's step for the feed-forward's convolution weights: the call's results are the reference's. -/
theorem algebraic : Cert.algebraic_AdamFconvIdeal_AdamFconvRefIdeal := by
  pair_intro
  · run_from Cert.AdamFconvIdeal.Value.run_blocks m g
  · hlo_run
    · exact (Cert.AdamFconvIdeal.Point.final4 m c).symm
    · exact (Cert.AdamFconvIdeal.Point.final5 m c).symm
    · exact (Cert.AdamFconvIdeal.Point.final6 m c).symm

/-- The reference runs on the host and keeps its arguments. -/
theorem frame_ref : Cert.quiescent_AdamFconvRefIdeal := by
  intro m g _
  exact (θ_run Cert.AdamFconvRefIdeal.defs _ _).mono
    (fun r h => ⟨fun c => (h c).2.2.2, Idealize.ShloMosaic.sem_eq_zero_of_no_sems (by decide) r.2⟩)
    (Cert.AdamFconvRefIdeal.Value.run (F := Ideal) m g)

end Cert.Proof.AdamFconv

namespace Cert.Proof.AdamDown

/-- The optimiser's step for the down weights: the call's results are the reference's. -/
theorem algebraic : Cert.algebraic_AdamDownIdeal_AdamDownRefIdeal := by
  pair_intro
  · run_from Cert.AdamDownIdeal.Value.run_blocks m g
  · hlo_run
    · exact (Cert.AdamDownIdeal.Point.final4 m c).symm
    · exact (Cert.AdamDownIdeal.Point.final5 m c).symm
    · exact (Cert.AdamDownIdeal.Point.final6 m c).symm

/-- The reference runs on the host and keeps its arguments. -/
theorem frame_ref : Cert.quiescent_AdamDownRefIdeal := by
  intro m g _
  exact (θ_run Cert.AdamDownRefIdeal.defs _ _).mono
    (fun r h => ⟨fun c => (h c).2.2.2, Idealize.ShloMosaic.sem_eq_zero_of_no_sems (by decide) r.2⟩)
    (Cert.AdamDownRefIdeal.Value.run (F := Ideal) m g)

end Cert.Proof.AdamDown

end
-- ==== Proof.NormMath.lean ====
/-
  The derivative of a row's normalisation over the extended reals: the form the call computes and
  the plain derivative are equal, at infinite operands too.
-/
module

public import Idealize.ShloMosaic.Lib.ValueIdx
public import Idealize.ShloMosaic.Lib.IdealHost

@[expose] public section

noncomputable section

namespace Cert.NormMath

open Idealize.ShloMosaic

/-- The row length. -/
theorem len_eq : Ideal.ofBits FTy.f32 1149239296#32 = ((1024 : ℝ) : EReal) := by
  simp [Ideal.ofBits, Ideal.ieee]
  rw [← EReal.coe_mul]; norm_num

/-- The derivative's factor. -/
theorem half_eq : Ideal.ofBits FTy.f32 0xBF000000#32 = ((-(1/2) : ℝ) : EReal) := by
  simp [Ideal.ofBits, Ideal.ieee]
  rw [← EReal.coe_mul]; norm_num

/-- The loss's factor on an error, as the plain derivative and as the call have it. -/
theorem scale (e : EReal) : Ideal.div (Ideal.ofBits FTy.f32 0x3F000000#32) (Ideal.ofBits FTy.f32 0x44800000#32)
    * (Ideal.ofBits FTy.f32 0x40000000#32 * e) = e * Ideal.ofBits FTy.f32 0x3A800000#32 := by
  have h1 : Ideal.ofBits FTy.f32 0x3F000000#32 = ((1/2 : ℝ) : EReal) := by
    simp [Ideal.ofBits, Ideal.ieee]
    rw [← EReal.coe_mul]; norm_num
  have h3 : Ideal.ofBits FTy.f32 0x40000000#32 = ((2 : ℝ) : EReal) := by
    simp [Ideal.ofBits, Ideal.ieee]
    rw [← EReal.coe_mul]; norm_num
  have h4 : Ideal.ofBits FTy.f32 0x3A800000#32 = ((1/1024 : ℝ) : EReal) := by
    simp [Ideal.ofBits, Ideal.ieee]
    rw [← EReal.coe_mul]; norm_num
  rw [h1, h3, h4, len_eq, Ideal.div_coe (by norm_num), ← mul_assoc, ← EReal.coe_mul, ← EReal.coe_mul, mul_comm]
  norm_num

/-- The shift is a positive real. -/
theorem eps_pos : ∃ e : ℝ, 0 < e ∧ Ideal.ofBits FTy.f32 897988541#32 = (e : EReal) := by
  simp [Ideal.ofBits, Ideal.ieee]
  exact ⟨8796093 * (2 ^ 43)⁻¹, by positivity, by rw [EReal.coe_mul]⟩

/-- A nonnegative real factor distributes over a sum. -/
theorem mul_add_real (r : ℝ) (hr : 0 ≤ r) (y z : EReal) : (r : EReal) * (y + z) = r * y + r * z :=
  EReal.left_distrib_of_nonneg_of_ne_top (EReal.coe_nonneg.mpr hr) (EReal.coe_ne_top _) y z

/-- A nonnegative real factor distributes over a finite sum. -/
theorem mul_sum_real {ι : Type} (u : Finset ι) (f : ι → EReal) (r : ℝ) (hr : 0 ≤ r) :
    ∑ i ∈ u, f i * (r : EReal) = (∑ i ∈ u, f i) * (r : EReal) := by
  classical
  induction u using Finset.induction_on with
  | empty => simp
  | insert a u ha ih =>
    rw [Finset.sum_insert ha, Finset.sum_insert ha, ih, mul_comm (f a + _), mul_add_real _ hr,
      mul_comm (f a), mul_comm (Finset.sum _ _)]

/-- Twice a negative multiple. -/
theorem two_neg (P : EReal) (c κ : ℝ) (hc : 0 < c) (h : c = -2 * κ) : -(P * (c : EReal)) = P * (κ : EReal) + P * (κ : EReal) := by
  have hk : κ < 0 := by linarith
  induction P with
  | bot => rw [EReal.bot_mul_coe_of_pos hc, EReal.bot_mul_coe_of_neg hk]; simp
  | top => rw [EReal.top_mul_coe_of_pos hc, EReal.top_mul_coe_of_neg hk]; simp
  | coe p =>
    rw [← EReal.coe_mul, ← EReal.coe_mul, ← EReal.coe_neg, ← EReal.coe_add]
    congr 1; rw [h]; ring

/-- The two forms of a row's derivative, at a positive or infinite mean square. -/
theorem core (a d x S y : EReal) (hy : 0 < y) :
    a + Ideal.rsqrt y * (d - x * Ideal.rsqrt y * (S * Ideal.rsqrt y * ((1 / 1024 : ℝ) : EReal)))
      = a + (d * Ideal.rsqrt y + x * (S * (((-(1/2) : ℝ) : EReal) * Ideal.div (Ideal.rsqrt y) y) * ((1 / 1024 : ℝ) : EReal))
        + S * (((-(1/2) : ℝ) : EReal) * Ideal.div (Ideal.rsqrt y) y) * ((1 / 1024 : ℝ) : EReal) * x) := by
  congr 1
  induction y with
  | bot => simp at hy
  | top => simp [Ideal.div]
  | coe y =>
    have h0 : 0 < y := by exact_mod_cast hy
    have hr : Ideal.rsqrt (y : EReal) = (((Real.sqrt y)⁻¹ : ℝ) : EReal) := by
      rw [Ideal.rsqrt_coe, if_neg (not_lt.mpr h0.le), if_neg h0.ne']
    have hs : 0 < Real.sqrt y := Real.sqrt_pos.mpr h0
    rw [hr, Ideal.div_coe h0.ne']
    generalize hR : (Real.sqrt y)⁻¹ = r
    have hrp : 0 < r := hR ▸ inv_pos.mpr hs
    have hry : 1 / y = r * r := by
      rw [← hR, ← mul_inv, Real.mul_self_sqrt h0.le, one_div]
    rw [hry, sub_eq_add_neg, mul_add_real _ hrp.le, mul_comm (r : EReal) d, add_assoc]
    congr 1
    rw [mul_neg]
    have e1 : (r : EReal) * (x * r * (S * r * ((1 / 1024 : ℝ) : EReal))) = (x * S) * ((r * r * r * (1 / 1024) : ℝ) : EReal) := by
      simp only [EReal.coe_mul]; ac_rfl
    have e2 : x * (S * (((-(1/2) : ℝ) : EReal) * ((r : EReal) * ((r * r : ℝ) : EReal))) * ((1 / 1024 : ℝ) : EReal))
        = (x * S) * ((-(1/2) * (r * (r * r)) * (1 / 1024) : ℝ) : EReal) := by
      simp only [EReal.coe_mul]; ac_rfl
    have e3 : S * (((-(1/2) : ℝ) : EReal) * ((r : EReal) * ((r * r : ℝ) : EReal))) * ((1 / 1024 : ℝ) : EReal) * x
        = (x * S) * ((-(1/2) * (r * (r * r)) * (1 / 1024) : ℝ) : EReal) := by
      simp only [EReal.coe_mul]; ac_rfl
    rw [e1, e2, e3]
    exact two_neg _ _ _ (by positivity) (by ring)

/-- A row's mean square, shifted. -/
abbrev ms (X : Fin 1024 → EReal) : EReal :=
  Ideal.div (∑ k, X k * X k) (Ideal.ofBits FTy.f32 1149239296#32) + Ideal.ofBits FTy.f32 897988541#32

/-- It is positive. -/
theorem ms_pos (X : Fin 1024 → EReal) : 0 < ms X := by
  obtain ⟨e, he, h⟩ := eps_pos
  rw [ms, h, len_eq, Ideal.div_coe (by norm_num)]
  have h1 : 0 ≤ ∑ k, X k * X k := Finset.sum_nonneg fun k _ => by
    rcases le_total 0 (X k) with h | h
    · exact mul_nonneg h h
    · exact EReal.mul_nonneg_iff.mpr (Or.inr ⟨h, h⟩)
  have h2 : 0 ≤ (∑ k, X k * X k) * ((1 / 1024 : ℝ) : EReal) := mul_nonneg h1 (by exact_mod_cast (by norm_num : (0:ℝ) ≤ 1 / 1024))
  calc (0 : EReal) < (e : EReal) := by exact_mod_cast he
    _ = 0 + e := (zero_add _).symm
    _ ≤ _ := add_le_add_left h2 _

/-- The reciprocal root of a positive or infinite value is a nonnegative real. -/
theorem rsqrt_real (y : EReal) (hy : 0 < y) : ∃ r : ℝ, 0 ≤ r ∧ Ideal.rsqrt y = (r : EReal) := by
  induction y with
  | bot => simp at hy
  | top => exact ⟨0, le_refl _, by simp⟩
  | coe y =>
    have h0 : 0 < y := by exact_mod_cast hy
    exact ⟨(Real.sqrt y)⁻¹, by positivity, by rw [Ideal.rsqrt_coe, if_neg (not_lt.mpr h0.le), if_neg h0.ne']⟩

/-- What the derivative of the reciprocal root adds to a row. -/
abbrev cc (X E : Fin 1024 → EReal) : EReal :=
  Ideal.div ((∑ k, X k * E k) * (Ideal.ofBits FTy.f32 3204448256#32 * Ideal.div (Ideal.rsqrt (ms X)) (ms X)))
    (Ideal.ofBits FTy.f32 1149239296#32)

/-- An entry of the plain derivative of a row: `a` is added to it, `d` and `x` are the row's cotangent and value at
    the entry, `E` and `X` the whole rows. -/
def dx (a d x : EReal) (X E : Fin 1024 → EReal) : EReal :=
  a + (d * Ideal.rsqrt (ms X) + x * cc X E + cc X E * x)

/-- The call's form of the entry. -/
theorem row (a d x : EReal) (X E : Fin 1024 → EReal) :
    a + Ideal.rsqrt (ms X) * (d - x * Ideal.rsqrt (ms X)
      * Ideal.div (∑ k, E k * (X k * Ideal.rsqrt (ms X))) (Ideal.ofBits FTy.f32 1149239296#32)) = dx a d x X E := by
  obtain ⟨r, hr, h⟩ := rsqrt_real _ (ms_pos X)
  have hs : ∑ k, E k * (X k * Ideal.rsqrt (ms X)) = (∑ k, X k * E k) * Ideal.rsqrt (ms X) := by
    rw [h, ← mul_sum_real _ _ r hr]
    exact Finset.sum_congr rfl fun k _ => by rw [← mul_assoc, mul_comm (E k)]
  rw [hs, dx, cc, len_eq, half_eq, Ideal.div_coe (by norm_num), Ideal.div_coe (by norm_num)]
  exact core a d x _ _ (ms_pos X)

end Cert.NormMath

end
-- ==== Proof.GradXVal.lean ====
/-
  The gradient of the step's input: the last product of the mixer's backward pass with the
  normalisation's derivative. What the call leaves in its two result arrays is the plain derivative.
-/
module

public import proofs.«01_k».proof.Proof.Gen.GradXIdeal.Value
public import proofs.«01_k».proof.Proof.Gen.GradXRefIdeal.Run
public import Idealize.ShloMosaic.Lib.Pipeline.ValueKit
public import Idealize.ShloMosaic.Lib.Claim
public import Idealize.ShloMosaic.Lib.Pipeline.ReadBack
public import proofs.«01_k».proof.Proof.NormMath

@[expose] public section

set_option maxRecDepth 16384

noncomputable section

open Idealize.ShloMosaic Idealize.ShloMosaic.TcCoe Idealize.SL.Sem
open Idealize.ShloMosaic.Pipeline (Dat)

namespace Cert.GradXIdeal.Point

open Cert.GradXIdeal Cert.GradXIdeal.Gen

variable (m : (ℓ : Loc nD τ sig) → Buf (Elt Ideal) ℓ)

/-- The cotangent of the normalised input. -/
abbrev refDy (x0 : FVec Ideal S8192x128 .bf16) (x1 : FVec Ideal S128x1024 .bf16) (x2 : FVec Ideal S8192x1024 .f32) : FVec Ideal S8192x1024 .f32 :=
  addf x2 (Host.dotGeneral Cert.GradXRefIdeal.dot_S8192x128_S128x1024_S8192x1024_1_0_0_1_n_n none (extf .f32 x0 Cert.GradXRefIdeal.Gen.bitsLt_bf16_f32) (extf .f32 x1 Cert.GradXRefIdeal.Gen.bitsLt_bf16_f32))

/-- The mean square of a row, shifted. -/
abbrev refY (x3 : FVec Ideal S8192x1024 .f32) : FVec Ideal Cert.GradXRefIdeal.S8192x1 .f32 :=
  addf (Host.divf (broadcastInDim Cert.GradXRefIdeal.S8192x1 ![0] Cert.GradXRefIdeal.Gen.bcast_S8192_S8192x1_0 (Host.reduceAdd (mulf x3 x3) (constant Cert.GradXRefIdeal.S_ .f32 0x00000000#32) Cert.GradXRefIdeal.Gen.reducesTo_S8192x1024_S8192_d1 Cert.GradXRefIdeal.Gen.h_S_)) (broadcastInDim Cert.GradXRefIdeal.S8192x1 ![] Cert.GradXRefIdeal.Gen.bcast_S_S8192x1 (constant Cert.GradXRefIdeal.S_ .f32 0x44800000#32))) (broadcastInDim Cert.GradXRefIdeal.S8192x1 ![] Cert.GradXRefIdeal.Gen.bcast_S_S8192x1 (constant Cert.GradXRefIdeal.S_ .f32 0x358637BD#32))

/-- What the derivative of the reciprocal root adds, spread over a row. -/
abbrev refC (x0 : FVec Ideal S8192x128 .bf16) (x1 : FVec Ideal S128x1024 .bf16) (x2 x3 : FVec Ideal S8192x1024 .f32) (x4 : FVec Ideal S1x1024 .f32) : FVec Ideal S8192x1024 .f32 :=
  broadcastInDim Cert.GradXRefIdeal.S8192x1024 ![0] Cert.GradXRefIdeal.Gen.bcast_S8192_S8192x1024_0 (Host.reduceAdd (Host.divf (mulf (shapeCast _ (Host.reduceAdd (mulf x3 (mulf (refDy x0 x1 x2) (broadcastInDim Cert.GradXRefIdeal.S8192x1024 ![0, 1] Cert.GradXRefIdeal.Gen.bcast_S1x1024_S8192x1024_0_1 x4))) (constant Cert.GradXRefIdeal.S_ .f32 0x00000000#32) Cert.GradXRefIdeal.Gen.reducesTo_S8192x1024_S8192_d1 Cert.GradXRefIdeal.Gen.h_S_) Cert.GradXRefIdeal.Gen.shapeCasts_S8192_S8192x1) (mulf (broadcastInDim Cert.GradXRefIdeal.S8192x1 ![] Cert.GradXRefIdeal.Gen.bcast_S_S8192x1 (constant Cert.GradXRefIdeal.S_ .f32 0xBF000000#32)) (Host.divf (Host.rsqrt (refY x3)) (refY x3)))) (broadcastInDim Cert.GradXRefIdeal.S8192x1 ![] Cert.GradXRefIdeal.Gen.bcast_S_S8192x1 (constant Cert.GradXRefIdeal.S_ .f32 0x44800000#32))) (constant Cert.GradXRefIdeal.S_ .f32 0x00000000#32) Cert.GradXRefIdeal.Gen.reducesTo_S8192x1_S8192_d1 Cert.GradXRefIdeal.Gen.h_S_)

/-- The gradient of the input, as the reference has it. -/
abbrev ref6 (x0 : FVec Ideal S8192x128 .bf16) (x1 : FVec Ideal S128x1024 .bf16) (x2 x3 : FVec Ideal S8192x1024 .f32) (x4 : FVec Ideal S1x1024 .f32) (x5 : FVec Ideal S8192x1024 .f32) : FVec Ideal S8192x1024 .f32 :=
  addf x5 (addf (addf (mulf (mulf (refDy x0 x1 x2) (broadcastInDim Cert.GradXRefIdeal.S8192x1024 ![0, 1] Cert.GradXRefIdeal.Gen.bcast_S1x1024_S8192x1024_0_1 x4)) (broadcastInDim Cert.GradXRefIdeal.S8192x1024 ![0, 1] Cert.GradXRefIdeal.Gen.bcast_S8192x1_S8192x1024_0_1 (Host.rsqrt (refY x3)))) (mulf x3 (refC x0 x1 x2 x3 x4))) (mulf (refC x0 x1 x2 x3 x4) x3))

/-- The gradient of the norm weight, as the reference has it. -/
abbrev ref7 (x0 : FVec Ideal S8192x128 .bf16) (x1 : FVec Ideal S128x1024 .bf16) (x2 x3 : FVec Ideal S8192x1024 .f32) : FVec Ideal S1x1024 .f32 :=
  shapeCast _ (Host.reduceAdd (mulf (mulf x3 (broadcastInDim Cert.GradXRefIdeal.S8192x1024 ![0, 1] Cert.GradXRefIdeal.Gen.bcast_S8192x1_S8192x1024_0_1 (Host.rsqrt (refY x3)))) (refDy x0 x1 x2)) (constant Cert.GradXRefIdeal.S_ .f32 0x00000000#32) Cert.GradXRefIdeal.Gen.reducesTo_S8192x1024_S1024_d0 Cert.GradXRefIdeal.Gen.h_S_) Cert.GradXRefIdeal.Gen.shapeCasts_S1024_S1x1024

/-- The reference's gradient of the input, index by index. -/
theorem href6 (x0 : FVec Ideal S8192x128 .bf16) (x1 : FVec Ideal S128x1024 .bf16) (x2 x3 : FVec Ideal S8192x1024 .f32) (x4 : FVec Ideal S1x1024 .f32) (x5 : FVec Ideal S8192x1024 .f32) (j) :
    ref6 x0 x1 x2 x3 x4 x5 j = NormMath.dx (x5 j) ((x2 j + ∑ k, x0 (ix2 (j 0) k) * x1 (ix2 k (j 1))) * x4 (ix2 0 (j 1))) (x3 j)
      (fun k => x3 (ix2 (j 0) k)) (fun k => (x2 (ix2 (j 0) k) + ∑ l, x0 (ix2 (j 0) l) * x1 (ix2 l k)) * x4 (ix2 0 k)) := by
  pointwise [ref6, refC, refY, refDy]
  simp only [Fin.sum_univ_one, Fin.sum_const, one_smul]
  rfl

/-- The reference's gradient of the norm weight, index by index. -/
theorem href7 (x0 : FVec Ideal S8192x128 .bf16) (x1 : FVec Ideal S128x1024 .bf16) (x2 x3 : FVec Ideal S8192x1024 .f32) (j) :
    ref7 x0 x1 x2 x3 j = ∑ x : Fin 8192, (x3 (ix2 x (j 1)) * Ideal.rsqrt (NormMath.ms fun k => x3 (ix2 x k)))
      * (x2 (ix2 x (j 1)) + ∑ k, x0 (ix2 x k) * x1 (ix2 k (j 1))) := by
  pointwise [ref7, refY, refDy]

/-- What a point stores of the gradient of the input. -/
theorem hpay6 (x0 : Vec Ideal S512x128 .bf16) (x1 : Vec Ideal S128x1024 .bf16) (x2 x3 : Vec Ideal S512x1024 .f32) (g : Vec Ideal S1x1024 .f32) (dres : Vec Ideal S512x1024 .f32) (j : S512x1024.Idx) :
    k0_pay1 (k0_pay4 x3) (k0_pay5 x3) (k0_pay7 x0 x1 x2 g) dres (k0_pay8 x0 x1 x2 x3 g) j
      = NormMath.dx (dres j) ((x2 j + ∑ k, x0 (ix2 (j 0) k) * x1 (ix2 k (j 1))) * g (ix2 0 (j 1))) (x3 j)
      (fun k => x3 (ix2 (j 0) k)) (fun k => (x2 (ix2 (j 0) k) + ∑ l, x0 (ix2 (j 0) l) * x1 (ix2 l k)) * g (ix2 0 k)) := by
  rw [← NormMath.row]
  pointwise [k0_pay1, k0_pay2, k0_pay4, k0_pay5, k0_pay7, k0_pay8]
  simp only [add_comm _ (x2 _)]

/-- The gradient of the norm weight starts at zero. -/
theorem hzero (j : S1x1024.Idx) : k0_pay3 (F := Ideal) j = 0 := by pointwise [k0_pay3]

/-- A point adds its rows to the gradient of the norm weight. -/
theorem hpay7 (x0 : Vec Ideal S512x128 .bf16) (x1 : Vec Ideal S128x1024 .bf16) (x2 x3 : Vec Ideal S512x1024 .f32) (acc : Vec Ideal S1x1024 .f32) (j : S1x1024.Idx) :
    k0_pay6 x0 x1 x2 x3 acc j = acc j + ∑ x : Fin 512, (x3 (ix2 x (j 1)) * Ideal.rsqrt (NormMath.ms fun k => x3 (ix2 x k)))
      * (x2 (ix2 x (j 1)) + ∑ k, x0 (ix2 x k) * x1 (ix2 k (j 1))) := by
  pointwise [k0_pay2, k0_pay4, k0_pay5, k0_pay6]
  simp only [add_comm _ (x2 _)]
  congr 1
  exact Finset.sum_congr rfl fun _ _ => mul_comm _ _

/-- The blocks a point of the grid stages. -/
theorem idx : ∀ t : Fin cfg0.N, win0_0.index t = ![t.val, 0]
    ∧ win0_1.index t = ![0, 0]
    ∧ win0_2.index t = ![t.val, 0]
    ∧ win0_3.index t = ![t.val, 0]
    ∧ win0_4.index t = ![t.val, 0]
    ∧ win0_5.index t = ![0, 0]
    ∧ win0_6.index t = ![t.val, 0]
    ∧ win0_7.index t = ![0, 0] :=
  (by decide +kernel : ∀ t : Fin grid0.N, _)

/-- The stored block of the gradient of the input, at every point. -/
theorem stored6 (c : Dev nD) (t : Fin cfg0.N) :
    (outsAt0 m c t.val t.isLt).1 = k0_pay1 (k0_pay4 (iblk m c 3 t)) (k0_pay5 (iblk m c 3 t))
      (k0_pay7 (iblk m c 0 t) (iblk m c 1 t) (iblk m c 2 t) (iblk m c 5 t)) (iblk m c 4 t)
      (k0_pay8 (iblk m c 0 t) (iblk m c 1 t) (iblk m c 2 t) (iblk m c 3 t) (iblk m c 5 t)) := by
  funext y
  by_cases h : t.val % 16 = 0
  · rw [outsAt0_A m c t h]; frame_out
  · rw [outsAt0_B m c t h]; frame_out

/-- The gradient of the input after the call. -/
theorem final6 (c : Dev nD) : (dats m 0 c).arrAt 6 cfg0.N
    = ref6 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 6 _ (by decide +kernel) fun t _ y => ?_
  blk_simp
  rw [after0_6, stored6, hpay6, href6]
  unfold NormMath.dx
  blk_point [iblk, V, idx t]

/-- The gradient of the norm weight after the call. -/
theorem final7 (c : Dev nD) : (dats m 0 c).arrAt 7 cfg0.N
    = ref7 (m ((c : Thread nD τ).loc main_arg0)) (m ((c : Thread nD τ).loc main_arg1)) (m ((c : Thread nD τ).loc main_arg2)) (m ((c : Thread nD τ).loc main_arg3)) := by
  refine (dats m 0 c).arrAt_eq_of_covers 7 _ (by decide +kernel) fun t hf y => ?_
  blk_simp
  rw [after0_7]
  rw [Pipeline.eq_sum_fin_of_reset_step_apply_of_flush (fun n h => (outsAt0 m c n h).2) 16 (fun _ => 0) _
    (fun t h j => by rw [outsAt0_A m c t h]; frame_out; rw [hpay7, hzero])
    (fun t h j => by
      rw [outsAt0_B m c t h]; frame_out; rw [hpay7])
    t ((flush0_7 t).mp hf) _, zero_add, href7]
  refine Fin.sum_mul_add_congr fun s k hl => ?_
  blk_point [iblk, V, idx t, idx ⟨_, Pipeline.run_point_lt_of_flush t ((flush0_7 t).mp hf) s⟩]

end Cert.GradXIdeal.Point

end
-- ==== Proof.DH1Val.lean ====
/-
  The gradient of the feed-forward's input: the last product of the feed-forward's backward pass with
  the normalisation's derivative. What the call leaves in its three result arrays is the plain derivative.
-/
module

public import proofs.«01_k».proof.Proof.Gen.DH1Ideal.Value
public import proofs.«01_k».proof.Proof.Gen.DH1RefIdeal.Run
public import Idealize.ShloMosaic.Lib.Pipeline.ValueKit
public import Idealize.ShloMosaic.Lib.Claim
public import Idealize.ShloMosaic.Lib.Pipeline.ReadBack
public import proofs.«01_k».proof.Proof.NormMath

@[expose] public section

set_option maxRecDepth 16384

noncomputable section

open Idealize.ShloMosaic Idealize.ShloMosaic.TcCoe Idealize.SL.Sem
open Idealize.ShloMosaic.Pipeline (Dat)

namespace Cert.DH1Ideal.Point

open Cert.DH1Ideal Cert.DH1Ideal.Gen

variable (m : (ℓ : Loc nD τ sig) → Buf (Elt Ideal) ℓ)

/-- The cotangent of the normalised input. -/
abbrev refDy (x0 : FVec Ideal S8192x2816 .bf16) (x1 : FVec Ideal S1024x2816 .bf16) (x2 : FVec Ideal S8192x1024 .f32) : FVec Ideal S8192x1024 .f32 :=
  addf x2 (Host.dotGeneral Cert.DH1RefIdeal.dot_S8192x2816_S1024x2816_S8192x1024_1_1_0_0_n_n none (extf .f32 x0 Cert.DH1RefIdeal.Gen.bitsLt_bf16_f32) (extf .f32 x1 Cert.DH1RefIdeal.Gen.bitsLt_bf16_f32))

/-- The mean square of a row, shifted. -/
abbrev refY (x3 : FVec Ideal S8192x1024 .f32) : FVec Ideal Cert.DH1RefIdeal.S8192x1 .f32 :=
  addf (Host.divf (broadcastInDim Cert.DH1RefIdeal.S8192x1 ![0] Cert.DH1RefIdeal.Gen.bcast_S8192_S8192x1_0 (Host.reduceAdd (mulf x3 x3) (constant Cert.DH1RefIdeal.S_ .f32 0x00000000#32) Cert.DH1RefIdeal.Gen.reducesTo_S8192x1024_S8192_d1 Cert.DH1RefIdeal.Gen.h_S_)) (broadcastInDim Cert.DH1RefIdeal.S8192x1 ![] Cert.DH1RefIdeal.Gen.bcast_S_S8192x1 (constant Cert.DH1RefIdeal.S_ .f32 0x44800000#32))) (broadcastInDim Cert.DH1RefIdeal.S8192x1 ![] Cert.DH1RefIdeal.Gen.bcast_S_S8192x1 (constant Cert.DH1RefIdeal.S_ .f32 0x358637BD#32))

/-- What the derivative of the reciprocal root adds, spread over a row. -/
abbrev refC (x0 : FVec Ideal S8192x2816 .bf16) (x1 : FVec Ideal S1024x2816 .bf16) (x2 x3 : FVec Ideal S8192x1024 .f32) (x4 : FVec Ideal S1x1024 .f32) : FVec Ideal S8192x1024 .f32 :=
  broadcastInDim Cert.DH1RefIdeal.S8192x1024 ![0] Cert.DH1RefIdeal.Gen.bcast_S8192_S8192x1024_0 (Host.reduceAdd (Host.divf (mulf (shapeCast _ (Host.reduceAdd (mulf x3 (mulf (refDy x0 x1 x2) (broadcastInDim Cert.DH1RefIdeal.S8192x1024 ![0, 1] Cert.DH1RefIdeal.Gen.bcast_S1x1024_S8192x1024_0_1 x4))) (constant Cert.DH1RefIdeal.S_ .f32 0x00000000#32) Cert.DH1RefIdeal.Gen.reducesTo_S8192x1024_S8192_d1 Cert.DH1RefIdeal.Gen.h_S_) Cert.DH1RefIdeal.Gen.shapeCasts_S8192_S8192x1) (mulf (broadcastInDim Cert.DH1RefIdeal.S8192x1 ![] Cert.DH1RefIdeal.Gen.bcast_S_S8192x1 (constant Cert.DH1RefIdeal.S_ .f32 0xBF000000#32)) (Host.divf (Host.rsqrt (refY x3)) (refY x3)))) (broadcastInDim Cert.DH1RefIdeal.S8192x1 ![] Cert.DH1RefIdeal.Gen.bcast_S_S8192x1 (constant Cert.DH1RefIdeal.S_ .f32 0x44800000#32))) (constant Cert.DH1RefIdeal.S_ .f32 0x00000000#32) Cert.DH1RefIdeal.Gen.reducesTo_S8192x1_S8192_d1 Cert.DH1RefIdeal.Gen.h_S_)

/-- The gradient of the input, as the reference has it. -/
abbrev ref6 (x0 : FVec Ideal S8192x2816 .bf16) (x1 : FVec Ideal S1024x2816 .bf16) (x2 x3 : FVec Ideal S8192x1024 .f32) (x4 : FVec Ideal S1x1024 .f32) (x5 : FVec Ideal S8192x1024 .f32) : FVec Ideal S8192x1024 .f32 :=
  addf x5 (addf (addf (mulf (mulf (refDy x0 x1 x2) (broadcastInDim Cert.DH1RefIdeal.S8192x1024 ![0, 1] Cert.DH1RefIdeal.Gen.bcast_S1x1024_S8192x1024_0_1 x4)) (broadcastInDim Cert.DH1RefIdeal.S8192x1024 ![0, 1] Cert.DH1RefIdeal.Gen.bcast_S8192x1_S8192x1024_0_1 (Host.rsqrt (refY x3)))) (mulf x3 (refC x0 x1 x2 x3 x4))) (mulf (refC x0 x1 x2 x3 x4) x3))

/-- The gradient of the input rounded, as the reference has it. -/
abbrev ref7 (x0 : FVec Ideal S8192x2816 .bf16) (x1 : FVec Ideal S1024x2816 .bf16) (x2 x3 : FVec Ideal S8192x1024 .f32) (x4 : FVec Ideal S1x1024 .f32) (x5 : FVec Ideal S8192x1024 .f32) : FVec Ideal S8192x1024 .bf16 :=
  truncf .bf16 (ref6 x0 x1 x2 x3 x4 x5) Cert.DH1RefIdeal.Gen.bitsLt_bf16_f32

/-- The gradient of the norm weight, as the reference has it. -/
abbrev ref8 (x0 : FVec Ideal S8192x2816 .bf16) (x1 : FVec Ideal S1024x2816 .bf16) (x2 x3 : FVec Ideal S8192x1024 .f32) : FVec Ideal S1x1024 .f32 :=
  shapeCast _ (Host.reduceAdd (mulf (mulf x3 (broadcastInDim Cert.DH1RefIdeal.S8192x1024 ![0, 1] Cert.DH1RefIdeal.Gen.bcast_S8192x1_S8192x1024_0_1 (Host.rsqrt (refY x3)))) (refDy x0 x1 x2)) (constant Cert.DH1RefIdeal.S_ .f32 0x00000000#32) Cert.DH1RefIdeal.Gen.reducesTo_S8192x1024_S1024_d0 Cert.DH1RefIdeal.Gen.h_S_) Cert.DH1RefIdeal.Gen.shapeCasts_S1024_S1x1024

/-- The reference's gradient of the input, index by index. -/
theorem href6 (x0 : FVec Ideal S8192x2816 .bf16) (x1 : FVec Ideal S1024x2816 .bf16) (x2 x3 : FVec Ideal S8192x1024 .f32) (x4 : FVec Ideal S1x1024 .f32) (x5 : FVec Ideal S8192x1024 .f32) (j) :
    ref6 x0 x1 x2 x3 x4 x5 j = NormMath.dx (x5 j) ((x2 j + ∑ k, x0 (ix2 (j 0) k) * x1 (ix2 (j 1) k)) * x4 (ix2 0 (j 1))) (x3 j)
      (fun k => x3 (ix2 (j 0) k)) (fun k => (x2 (ix2 (j 0) k) + ∑ l, x0 (ix2 (j 0) l) * x1 (ix2 k l)) * x4 (ix2 0 k)) := by
  pointwise [ref6, refC, refY, refDy]
  simp only [Fin.sum_univ_one, Fin.sum_const, one_smul]
  rfl

/-- The reference's gradient of the norm weight, index by index. -/
theorem href8 (x0 : FVec Ideal S8192x2816 .bf16) (x1 : FVec Ideal S1024x2816 .bf16) (x2 x3 : FVec Ideal S8192x1024 .f32) (j) :
    ref8 x0 x1 x2 x3 j = ∑ x : Fin 8192, (x3 (ix2 x (j 1)) * Ideal.rsqrt (NormMath.ms fun k => x3 (ix2 x k)))
      * (x2 (ix2 x (j 1)) + ∑ k, x0 (ix2 x k) * x1 (ix2 (j 1) k)) := by
  pointwise [ref8, refY, refDy]

/-- What a point stores of the gradient of the input. -/
theorem hpay6 (x0 : Vec Ideal S512x2816 .bf16) (x1 : Vec Ideal S1024x2816 .bf16) (x2 x3 : Vec Ideal S512x1024 .f32) (g : Vec Ideal S1x1024 .f32) (dres : Vec Ideal S512x1024 .f32) (j : S512x1024.Idx) :
    k0_pay1 (k0_pay5 x3) (k0_pay6 x3) (k0_pay8 x0 x1 x2 g) dres (k0_pay9 x0 x1 x2 x3 g) j
      = NormMath.dx (dres j) ((x2 j + ∑ k, x0 (ix2 (j 0) k) * x1 (ix2 (j 1) k)) * g (ix2 0 (j 1))) (x3 j)
      (fun k => x3 (ix2 (j 0) k)) (fun k => (x2 (ix2 (j 0) k) + ∑ l, x0 (ix2 (j 0) l) * x1 (ix2 k l)) * g (ix2 0 k)) := by
  rw [← NormMath.row]
  pointwise [k0_pay1, k0_pay3, k0_pay5, k0_pay6, k0_pay8, k0_pay9]
  simp only [add_comm _ (x2 _)]

/-- The gradient of the norm weight starts at zero. -/
theorem hzero (j : S1x1024.Idx) : k0_pay4 (F := Ideal) j = 0 := by pointwise [k0_pay4]

/-- A point adds its rows to the gradient of the norm weight. -/
theorem hpay8 (x0 : Vec Ideal S512x2816 .bf16) (x1 : Vec Ideal S1024x2816 .bf16) (x2 x3 : Vec Ideal S512x1024 .f32) (acc : Vec Ideal S1x1024 .f32) (j : S1x1024.Idx) :
    k0_pay7 x0 x1 x2 x3 acc j = acc j + ∑ x : Fin 512, (x3 (ix2 x (j 1)) * Ideal.rsqrt (NormMath.ms fun k => x3 (ix2 x k)))
      * (x2 (ix2 x (j 1)) + ∑ k, x0 (ix2 x k) * x1 (ix2 (j 1) k)) := by
  pointwise [k0_pay3, k0_pay5, k0_pay6, k0_pay7]
  simp only [add_comm _ (x2 _)]
  congr 1
  exact Finset.sum_congr rfl fun _ _ => mul_comm _ _

/-- The blocks a point of the grid stages. -/
theorem idx : ∀ t : Fin cfg0.N, win0_0.index t = ![t.val, 0]
    ∧ win0_1.index t = ![0, 0]
    ∧ win0_2.index t = ![t.val, 0]
    ∧ win0_3.index t = ![t.val, 0]
    ∧ win0_4.index t = ![t.val, 0]
    ∧ win0_5.index t = ![0, 0]
    ∧ win0_6.index t = ![t.val, 0]
    ∧ win0_7.index t = ![t.val, 0]
    ∧ win0_8.index t = ![0, 0] :=
  (by decide +kernel : ∀ t : Fin grid0.N, _)

/-- The stored block of the gradient of the input, at every point. -/
theorem stored6 (c : Dev nD) (t : Fin cfg0.N) :
    (outsAt0 m c t.val t.isLt).1 = k0_pay1 (k0_pay5 (iblk m c 3 t)) (k0_pay6 (iblk m c 3 t))
      (k0_pay8 (iblk m c 0 t) (iblk m c 1 t) (iblk m c 2 t) (iblk m c 5 t)) (iblk m c 4 t)
      (k0_pay9 (iblk m c 0 t) (iblk m c 1 t) (iblk m c 2 t) (iblk m c 3 t) (iblk m c 5 t)) := by
  funext y
  by_cases h : t.val % 16 = 0
  · rw [outsAt0_A m c t h]; frame_out
  · rw [outsAt0_B m c t h]; frame_out

/-- The stored block of the gradient of the input rounded, at every point. -/
theorem stored7 (c : Dev nD) (t : Fin cfg0.N) :
    (outsAt0 m c t.val t.isLt).2.1 = k0_pay2 (k0_pay5 (iblk m c 3 t)) (k0_pay6 (iblk m c 3 t))
      (k0_pay8 (iblk m c 0 t) (iblk m c 1 t) (iblk m c 2 t) (iblk m c 5 t)) (iblk m c 4 t)
      (k0_pay9 (iblk m c 0 t) (iblk m c 1 t) (iblk m c 2 t) (iblk m c 3 t) (iblk m c 5 t)) := by
  funext y
  by_cases h : t.val % 16 = 0
  · rw [outsAt0_A m c t h]; frame_out
  · rw [outsAt0_B m c t h]; frame_out

/-- The gradient of the input after the call. -/
theorem final6 (c : Dev nD) : (dats m 0 c).arrAt 6 cfg0.N
    = ref6 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 6 _ (by decide +kernel) fun t _ y => ?_
  blk_simp
  rw [after0_6, stored6, hpay6, href6]
  unfold NormMath.dx
  blk_point [iblk, V, idx t]

/-- The gradient of the input rounded, after the call. -/
theorem final7 (c : Dev nD) : (dats m 0 c).arrAt 7 cfg0.N
    = ref7 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 7 _ (by decide +kernel) fun t _ y => ?_
  blk_simp
  rw [after0_7, stored7]
  change k0_pay1 _ _ _ _ _ _ = ref6 _ _ _ _ _ _ _
  rw [hpay6, href6]
  unfold NormMath.dx
  blk_point [iblk, V, idx t]

/-- The gradient of the norm weight after the call. -/
theorem final8 (c : Dev nD) : (dats m 0 c).arrAt 8 cfg0.N
    = ref8 (m ((c : Thread nD τ).loc main_arg0)) (m ((c : Thread nD τ).loc main_arg1)) (m ((c : Thread nD τ).loc main_arg2)) (m ((c : Thread nD τ).loc main_arg3)) := by
  refine (dats m 0 c).arrAt_eq_of_covers 8 _ (by decide +kernel) fun t hf y => ?_
  blk_simp
  rw [after0_8]
  rw [Pipeline.eq_sum_fin_of_reset_step_apply_of_flush (fun n h => (outsAt0 m c n h).2.2) 16 (fun _ => 0) _
    (fun t h j => by rw [outsAt0_A m c t h]; frame_out; rw [hpay8, hzero])
    (fun t h j => by
      rw [outsAt0_B m c t h]; frame_out; rw [hpay8])
    t ((flush0_8 t).mp hf) _, zero_add, href8]
  refine Fin.sum_mul_add_congr fun s k hl => ?_
  blk_point [iblk, V, idx t, idx ⟨_, Pipeline.run_point_lt_of_flush t ((flush0_8 t).mp hf) s⟩]

end Cert.DH1Ideal.Point

end
-- ==== Proof.DwSmallVal.lean ====
/-
  The gradient of the small projection's weights: what the call leaves in its result array is
  the plain product.
-/
module

public import proofs.«01_k».proof.Proof.Gen.DwSmallIdeal.Value
public import proofs.«01_k».proof.Proof.Gen.DwSmallRefIdeal.Run
public import Idealize.ShloMosaic.Lib.Pipeline.ValueKit
public import Idealize.ShloMosaic.Lib.Claim
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.DwSmallIdeal.Point

open Cert.DwSmallIdeal Cert.DwSmallIdeal.Gen

variable (m : (ℓ : Loc nD τ sig) → Buf (Elt Ideal) ℓ)

/-- What the reference computes. -/
abbrev ref (x0 : FVec Ideal S8192x128 .bf16) (x1 : FVec Ideal S8192x1024 .bf16) : FVec Ideal S128x1024 .f32 :=
  Host.dotGeneral Cert.DwSmallRefIdeal.dot_S8192x128_S8192x1024_S128x1024_0_0_1_1_n_n none (extf .f32 x0 Cert.DwSmallRefIdeal.Gen.bitsLt_bf16_f32) (extf .f32 x1 Cert.DwSmallRefIdeal.Gen.bitsLt_bf16_f32)

/-- The blocks a point of the grid stages. -/
theorem idx : ∀ t : Fin cfg0.N, win0_0.index t = ![t.val % 2, 0]
    ∧ win0_1.index t = ![t.val % 2, 0]
    ∧ win0_2.index t = ![0, 0] :=
  (by decide +kernel : ∀ t : Fin grid0.N, _)

/-- The running sum starts at zero. -/
theorem hzero (j : S128x1024.Idx) : k0_pay1 (F := Ideal) j = 0 := by pointwise [k0_pay1]

/-- A point adds its part of the contraction to the running sum. -/
theorem hpay (x0 : Vec Ideal S4096x128 .bf16) (x1 : Vec Ideal S4096x1024 .bf16) (acc : Vec Ideal S128x1024 .f32) (j : S128x1024.Idx) :
    k0_pay2 x0 x1 acc j = acc j + ∑ k : Fin 4096, x0 (ix2 k (j 0)) * x1 (ix2 k (j 1)) := by pointwise [k0_pay2]

/-- The reference, index by index. -/
theorem href (x0 : FVec Ideal S8192x128 .bf16) (x1 : FVec Ideal S8192x1024 .bf16) (j) :
    ref x0 x1 j = ∑ l : Fin 8192, x0 (ix2 l (j 0)) * x1 (ix2 l (j 1)) := by
  pointwise [ref]

/-- At the last point of a run the stored block is the running sum. -/
theorem stored (c : Dev nD) (t : Fin cfg0.N) (h : t.val % 2 = 1) (j) :
    (outsAt0 m c t.val t.isLt).1 j = (outsAt0 m c t.val t.isLt).2 j := by
  rw [outsAt0_B m c t (by omega) h]; frame_out

/-- The result array after the call. -/
theorem final (c : Dev nD) : (dats m 0 c).arrAt 2 cfg0.N
    = ref (m ((c : Thread nD τ).loc main_arg0)) (m ((c : Thread nD τ).loc main_arg1)) := by
  refine (dats m 0 c).arrAt_eq_of_covers 2 _ (by decide +kernel) fun t hf y => ?_
  blk_simp
  rw [after0_2, stored m c t ((flush0_2 t).mp hf)]
  rw [Pipeline.eq_sum_fin_of_reset_step_apply_of_flush (fun n h => (outsAt0 m c n h).2) 2 (fun _ => 0) _
    (fun t h j => by rw [outsAt0_A m c t h (by omega)]; frame_out; rw [hpay, hzero])
    (fun t h j => by
      rw [outsAt0_B m c t h (by omega)]; frame_out; rw [hpay, read_unread_whole])
    t ((flush0_2 t).mp hf) _, zero_add, href]
  refine Fin.sum_mul_add_congr fun s k hl => ?_
  blk_point [iblk, V, idx t, idx ⟨_, Pipeline.run_point_lt_of_flush t ((flush0_2 t).mp hf) s⟩]

end Cert.DwSmallIdeal.Point

end
-- ==== Proof.DownVal.lean ====
/-
  The feed-forward's down product with the loss head in its epilogue: the gradient of the loss with
  respect to the output before the last normalisation, its rounded copy, the squared errors' column
  sums and the gradient of the last norm weight. What the call leaves is the plain loss's derivative.
-/
module

public import proofs.«01_k».proof.Proof.Gen.DownIdeal.Value
public import proofs.«01_k».proof.Proof.Gen.DownRefIdeal.Run
public import Idealize.ShloMosaic.Lib.Pipeline.ValueKit
public import Idealize.ShloMosaic.Lib.Claim
public import Idealize.ShloMosaic.Lib.Pipeline.ReadBack
public import proofs.«01_k».proof.Proof.NormMath

@[expose] public section

set_option maxRecDepth 16384

noncomputable section

open Idealize.ShloMosaic Idealize.ShloMosaic.TcCoe Idealize.SL.Sem
open Idealize.ShloMosaic.Pipeline (Dat)

namespace Cert.DownIdeal.Point

open Cert.DownIdeal Cert.DownIdeal.Gen

variable (m : (ℓ : Loc nD τ sig) → Buf (Elt Ideal) ℓ)

/-- The feed-forward's output with the residual. -/
abbrev refH (x0 : FVec Ideal S8192x2816 .bf16) (x1 : FVec Ideal S2816x1024 .bf16) (x2 : FVec Ideal S8192x1024 .f32) : FVec Ideal S8192x1024 .f32 :=
  addf x2 (Host.dotGeneral Cert.DownRefIdeal.dot_S8192x2816_S2816x1024_S8192x1024_1_0_0_1_n_n none (extf .f32 x0 Cert.DownRefIdeal.Gen.bitsLt_bf16_f32) (extf .f32 x1 Cert.DownRefIdeal.Gen.bitsLt_bf16_f32))

/-- The mean square of a row, shifted. -/
abbrev refY (x0 : FVec Ideal S8192x2816 .bf16) (x1 : FVec Ideal S2816x1024 .bf16) (x2 : FVec Ideal S8192x1024 .f32) : FVec Ideal Cert.DownRefIdeal.S8192x1 .f32 :=
  addf (Host.divf (broadcastInDim Cert.DownRefIdeal.S8192x1 ![0] Cert.DownRefIdeal.Gen.bcast_S8192_S8192x1_0 (Host.reduceAdd (mulf (refH x0 x1 x2) (refH x0 x1 x2)) (constant Cert.DownRefIdeal.S_ .f32 0x00000000#32) Cert.DownRefIdeal.Gen.reducesTo_S8192x1024_S8192_d1 Cert.DownRefIdeal.Gen.h_S_)) (broadcastInDim Cert.DownRefIdeal.S8192x1 ![] Cert.DownRefIdeal.Gen.bcast_S_S8192x1 (constant Cert.DownRefIdeal.S_ .f32 0x44800000#32))) (broadcastInDim Cert.DownRefIdeal.S8192x1 ![] Cert.DownRefIdeal.Gen.bcast_S_S8192x1 (constant Cert.DownRefIdeal.S_ .f32 0x358637BD#32))

/-- The error. -/
abbrev refE (x0 : FVec Ideal S8192x2816 .bf16) (x1 : FVec Ideal S2816x1024 .bf16) (x2 : FVec Ideal S8192x1024 .f32) (x3 : FVec Ideal S1x1024 .f32) (x4 : FVec Ideal S8192x1024 .f32) : FVec Ideal S8192x1024 .f32 :=
  subf (mulf (mulf (refH x0 x1 x2) (broadcastInDim S8192x1024 ![0, 1] Cert.DownRefIdeal.Gen.bcast_S8192x1_S8192x1024_0_1 (Host.rsqrt (refY x0 x1 x2)))) (broadcastInDim S8192x1024 ![0, 1] Cert.DownRefIdeal.Gen.bcast_S1x1024_S8192x1024_0_1 x3)) x4

/-- The cotangent of the normalised output. -/
abbrev refDy (x0 : FVec Ideal S8192x2816 .bf16) (x1 : FVec Ideal S2816x1024 .bf16) (x2 : FVec Ideal S8192x1024 .f32) (x3 : FVec Ideal S1x1024 .f32) (x4 : FVec Ideal S8192x1024 .f32) : FVec Ideal S8192x1024 .f32 :=
  mulf (broadcastInDim S8192x1024 ![0] Cert.DownRefIdeal.Gen.bcast_S8192_S8192x1024_0 (Host.divf (broadcastInDim Cert.DownRefIdeal.S8192 ![] Cert.DownRefIdeal.Gen.bcast_S_S8192 (mulf (constant Cert.DownRefIdeal.S_ .f32 0x3F000000#32) (constant Cert.DownRefIdeal.S_ .f32 0x3F800000#32))) (broadcastInDim Cert.DownRefIdeal.S8192 ![] Cert.DownRefIdeal.Gen.bcast_S_S8192 (constant Cert.DownRefIdeal.S_ .f32 0x44800000#32)))) (mulf (broadcastInDim S8192x1024 ![] Cert.DownRefIdeal.Gen.bcast_S_S8192x1024 (constant Cert.DownRefIdeal.S_ .f32 0x40000000#32)) (refE x0 x1 x2 x3 x4))

/-- What the derivative of the reciprocal root adds, spread over a row. -/
abbrev refC (x0 : FVec Ideal S8192x2816 .bf16) (x1 : FVec Ideal S2816x1024 .bf16) (x2 : FVec Ideal S8192x1024 .f32) (x3 : FVec Ideal S1x1024 .f32) (x4 : FVec Ideal S8192x1024 .f32) : FVec Ideal S8192x1024 .f32 :=
  broadcastInDim S8192x1024 ![0] Cert.DownRefIdeal.Gen.bcast_S8192_S8192x1024_0 (Host.reduceAdd (Host.divf (mulf (shapeCast _ (Host.reduceAdd (mulf (refH x0 x1 x2) (mulf (refDy x0 x1 x2 x3 x4) (broadcastInDim S8192x1024 ![0, 1] Cert.DownRefIdeal.Gen.bcast_S1x1024_S8192x1024_0_1 x3))) (constant Cert.DownRefIdeal.S_ .f32 0x00000000#32) Cert.DownRefIdeal.Gen.reducesTo_S8192x1024_S8192_d1 Cert.DownRefIdeal.Gen.h_S_) Cert.DownRefIdeal.Gen.shapeCasts_S8192_S8192x1) (mulf (broadcastInDim Cert.DownRefIdeal.S8192x1 ![] Cert.DownRefIdeal.Gen.bcast_S_S8192x1 (constant Cert.DownRefIdeal.S_ .f32 0xBF000000#32)) (Host.divf (Host.rsqrt (refY x0 x1 x2)) (refY x0 x1 x2)))) (broadcastInDim Cert.DownRefIdeal.S8192x1 ![] Cert.DownRefIdeal.Gen.bcast_S_S8192x1 (constant Cert.DownRefIdeal.S_ .f32 0x44800000#32))) (constant Cert.DownRefIdeal.S_ .f32 0x00000000#32) Cert.DownRefIdeal.Gen.reducesTo_S8192x1_S8192_d1 Cert.DownRefIdeal.Gen.h_S_)

/-- The gradient of the output, as the reference has it. -/
abbrev ref5 (x0 : FVec Ideal S8192x2816 .bf16) (x1 : FVec Ideal S2816x1024 .bf16) (x2 : FVec Ideal S8192x1024 .f32) (x3 : FVec Ideal S1x1024 .f32) (x4 : FVec Ideal S8192x1024 .f32) : FVec Ideal S8192x1024 .f32 :=
  addf (addf (mulf (mulf (refDy x0 x1 x2 x3 x4) (broadcastInDim S8192x1024 ![0, 1] Cert.DownRefIdeal.Gen.bcast_S1x1024_S8192x1024_0_1 x3)) (broadcastInDim S8192x1024 ![0, 1] Cert.DownRefIdeal.Gen.bcast_S8192x1_S8192x1024_0_1 (Host.rsqrt (refY x0 x1 x2)))) (mulf (refH x0 x1 x2) (refC x0 x1 x2 x3 x4))) (mulf (refC x0 x1 x2 x3 x4) (refH x0 x1 x2))

/-- The gradient of the output rounded, as the reference has it. -/
abbrev ref6 (x0 : FVec Ideal S8192x2816 .bf16) (x1 : FVec Ideal S2816x1024 .bf16) (x2 : FVec Ideal S8192x1024 .f32) (x3 : FVec Ideal S1x1024 .f32) (x4 : FVec Ideal S8192x1024 .f32) : FVec Ideal S8192x1024 .bf16 :=
  truncf .bf16 (ref5 x0 x1 x2 x3 x4) Cert.DownRefIdeal.Gen.bitsLt_bf16_f32

/-- The squared errors' column sums, as the reference has them. -/
abbrev ref7 (x0 : FVec Ideal S8192x2816 .bf16) (x1 : FVec Ideal S2816x1024 .bf16) (x2 : FVec Ideal S8192x1024 .f32) (x3 : FVec Ideal S1x1024 .f32) (x4 : FVec Ideal S8192x1024 .f32) : FVec Ideal S1x1024 .f32 :=
  broadcastInDim S1x1024 ![1] Cert.DownRefIdeal.Gen.bcast_S1024_S1x1024_1 (Host.reduceAdd (mulf (refE x0 x1 x2 x3 x4) (refE x0 x1 x2 x3 x4)) (constant Cert.DownRefIdeal.S_ .f32 0x00000000#32) Cert.DownRefIdeal.Gen.reducesTo_S8192x1024_S1024_d0 Cert.DownRefIdeal.Gen.h_S_)

/-- The gradient of the norm weight, as the reference has it. -/
abbrev ref8 (x0 : FVec Ideal S8192x2816 .bf16) (x1 : FVec Ideal S2816x1024 .bf16) (x2 : FVec Ideal S8192x1024 .f32) (x3 : FVec Ideal S1x1024 .f32) (x4 : FVec Ideal S8192x1024 .f32) : FVec Ideal S1x1024 .f32 :=
  shapeCast _ (Host.reduceAdd (mulf (mulf (refH x0 x1 x2) (broadcastInDim S8192x1024 ![0, 1] Cert.DownRefIdeal.Gen.bcast_S8192x1_S8192x1024_0_1 (Host.rsqrt (refY x0 x1 x2)))) (refDy x0 x1 x2 x3 x4)) (constant Cert.DownRefIdeal.S_ .f32 0x00000000#32) Cert.DownRefIdeal.Gen.reducesTo_S8192x1024_S1024_d0 Cert.DownRefIdeal.Gen.h_S_) Cert.DownRefIdeal.Gen.shapeCasts_S1024_S1x1024

/-- The error of one entry: `X` is its row before the normalisation. -/
def err (x g t : EReal) (X : Fin 1024 → EReal) : EReal := x * Ideal.rsqrt (NormMath.ms X) * g - t

/-- The reference's gradient of the output, index by index. -/
theorem href5 (x0 : FVec Ideal S8192x2816 .bf16) (x1 : FVec Ideal S2816x1024 .bf16) (x2 : FVec Ideal S8192x1024 .f32) (x3 : FVec Ideal S1x1024 .f32) (x4 : FVec Ideal S8192x1024 .f32) (j) :
    ref5 x0 x1 x2 x3 x4 j = NormMath.dx 0 (err (x2 j + ∑ l, x0 (ix2 (j 0) l) * x1 (ix2 l (j 1))) (x3 (ix2 0 (j 1))) (x4 j) (fun k => x2 (ix2 (j 0) k) + ∑ l, x0 (ix2 (j 0) l) * x1 (ix2 l k)) * Ideal.ofBits FTy.f32 0x3A800000#32 * x3 (ix2 0 (j 1))) (x2 j + ∑ l, x0 (ix2 (j 0) l) * x1 (ix2 l (j 1)))
      (fun k => x2 (ix2 (j 0) k) + ∑ l, x0 (ix2 (j 0) l) * x1 (ix2 l k)) (fun k => err (x2 (ix2 (j 0) k) + ∑ l, x0 (ix2 (j 0) l) * x1 (ix2 l k)) (x3 (ix2 0 k)) (x4 (ix2 (j 0) k)) (fun k => x2 (ix2 (j 0) k) + ∑ l, x0 (ix2 (j 0) l) * x1 (ix2 l k)) * Ideal.ofBits FTy.f32 0x3A800000#32 * x3 (ix2 0 k)) := by
  unfold err
  pointwise [ref5, refC, refDy, refE, refY, refH]
  simp only [Fin.sum_univ_one, Fin.sum_const, one_smul, NormMath.scale]
  exact (zero_add _).symm

/-- The reference's column sums, index by index. -/
theorem href7 (x0 : FVec Ideal S8192x2816 .bf16) (x1 : FVec Ideal S2816x1024 .bf16) (x2 : FVec Ideal S8192x1024 .f32) (x3 : FVec Ideal S1x1024 .f32) (x4 : FVec Ideal S8192x1024 .f32) (j) :
    ref7 x0 x1 x2 x3 x4 j = ∑ x : Fin 8192, (err (x2 (ix2 x (j 1)) + ∑ l, x0 (ix2 x l) * x1 (ix2 l (j 1))) (x3 (ix2 0 (j 1))) (x4 (ix2 x (j 1))) (fun k => x2 (ix2 x k) + ∑ l, x0 (ix2 x l) * x1 (ix2 l k)) * err (x2 (ix2 x (j 1)) + ∑ l, x0 (ix2 x l) * x1 (ix2 l (j 1))) (x3 (ix2 0 (j 1))) (x4 (ix2 x (j 1))) (fun k => x2 (ix2 x k) + ∑ l, x0 (ix2 x l) * x1 (ix2 l k))) := by
  unfold err
  pointwise [ref7, refE, refY, refH]

/-- The reference's gradient of the norm weight, index by index. -/
theorem href8 (x0 : FVec Ideal S8192x2816 .bf16) (x1 : FVec Ideal S2816x1024 .bf16) (x2 : FVec Ideal S8192x1024 .f32) (x3 : FVec Ideal S1x1024 .f32) (x4 : FVec Ideal S8192x1024 .f32) (j) :
    ref8 x0 x1 x2 x3 x4 j = ∑ x : Fin 8192, ((x2 (ix2 x (j 1)) + ∑ l, x0 (ix2 x l) * x1 (ix2 l (j 1))) * Ideal.rsqrt (NormMath.ms (fun k => x2 (ix2 x k) + ∑ l, x0 (ix2 x l) * x1 (ix2 l k)))) * (err (x2 (ix2 x (j 1)) + ∑ l, x0 (ix2 x l) * x1 (ix2 l (j 1))) (x3 (ix2 0 (j 1))) (x4 (ix2 x (j 1))) (fun k => x2 (ix2 x k) + ∑ l, x0 (ix2 x l) * x1 (ix2 l k)) * Ideal.ofBits FTy.f32 0x3A800000#32) := by
  unfold err
  pointwise [ref8, refDy, refE, refY, refH]
  simp only [NormMath.scale]

/-- What a point stores of the gradient of the output. -/
theorem hpay5 (x0 : Vec Ideal S512x2816 .bf16) (x1 : Vec Ideal S2816x1024 .bf16) (x2 : Vec Ideal S512x1024 .f32) (x3 : Vec Ideal S1x1024 .f32) (x4 : Vec Ideal S512x1024 .f32) (j : S512x1024.Idx) :
    k0_pay2 (k0_pay7 x0 x1 x2) (k0_pay8 x0 x1 x2) x3 (k0_pay11 x0 x1 x2 x3 x4) j
      = NormMath.dx 0 (err (x2 j + ∑ l, x0 (ix2 (j 0) l) * x1 (ix2 l (j 1))) (x3 (ix2 0 (j 1))) (x4 j) (fun k => x2 (ix2 (j 0) k) + ∑ l, x0 (ix2 (j 0) l) * x1 (ix2 l k)) * Ideal.ofBits FTy.f32 0x3A800000#32 * x3 (ix2 0 (j 1))) (x2 j + ∑ l, x0 (ix2 (j 0) l) * x1 (ix2 l (j 1)))
      (fun k => x2 (ix2 (j 0) k) + ∑ l, x0 (ix2 (j 0) l) * x1 (ix2 l k)) (fun k => err (x2 (ix2 (j 0) k) + ∑ l, x0 (ix2 (j 0) l) * x1 (ix2 l k)) (x3 (ix2 0 k)) (x4 (ix2 (j 0) k)) (fun k => x2 (ix2 (j 0) k) + ∑ l, x0 (ix2 (j 0) l) * x1 (ix2 l k)) * Ideal.ofBits FTy.f32 0x3A800000#32 * x3 (ix2 0 k)) := by
  rw [← NormMath.row]
  refine Eq.trans ?_ (zero_add _).symm
  unfold err
  pointwise [k0_pay2, k0_pay4, k0_pay7, k0_pay8, k0_pay9, k0_pay11]
  simp only [add_comm _ (x2 _)]

/-- The column sums start at zero. -/
theorem hzero7 (j : S1x1024.Idx) : k0_pay5 (F := Ideal) j = 0 := by pointwise [k0_pay5]

/-- The gradient of the norm weight starts at zero. -/
theorem hzero8 (j : S1x1024.Idx) : k0_pay6 (F := Ideal) j = 0 := by pointwise [k0_pay6]

/-- A point adds its rows to the column sums. -/
theorem hpay7 (x0 : Vec Ideal S512x2816 .bf16) (x1 : Vec Ideal S2816x1024 .bf16) (x2 : Vec Ideal S512x1024 .f32) (x3 : Vec Ideal S1x1024 .f32) (x4 : Vec Ideal S512x1024 .f32) (acc : Vec Ideal S1x1024 .f32) (j : S1x1024.Idx) :
    k0_pay10 x0 x1 x2 x3 x4 acc j = acc j + ∑ x : Fin 512, (err (x2 (ix2 x (j 1)) + ∑ l, x0 (ix2 x l) * x1 (ix2 l (j 1))) (x3 (ix2 0 (j 1))) (x4 (ix2 x (j 1))) (fun k => x2 (ix2 x k) + ∑ l, x0 (ix2 x l) * x1 (ix2 l k)) * err (x2 (ix2 x (j 1)) + ∑ l, x0 (ix2 x l) * x1 (ix2 l (j 1))) (x3 (ix2 0 (j 1))) (x4 (ix2 x (j 1))) (fun k => x2 (ix2 x k) + ∑ l, x0 (ix2 x l) * x1 (ix2 l k))) := by
  unfold err
  pointwise [k0_pay4, k0_pay7, k0_pay8, k0_pay9, k0_pay10]
  simp only [add_comm _ (x2 _)]

/-- A point adds its rows to the gradient of the norm weight. -/
theorem hpay8 (x0 : Vec Ideal S512x2816 .bf16) (x1 : Vec Ideal S2816x1024 .bf16) (x2 : Vec Ideal S512x1024 .f32) (x3 : Vec Ideal S1x1024 .f32) (x4 : Vec Ideal S512x1024 .f32) (acc : Vec Ideal S1x1024 .f32) (j : S1x1024.Idx) :
    k0_pay1 (k0_pay8 x0 x1 x2) (k0_pay11 x0 x1 x2 x3 x4) acc j = acc j + ∑ x : Fin 512, ((x2 (ix2 x (j 1)) + ∑ l, x0 (ix2 x l) * x1 (ix2 l (j 1))) * Ideal.rsqrt (NormMath.ms (fun k => x2 (ix2 x k) + ∑ l, x0 (ix2 x l) * x1 (ix2 l k)))) * (err (x2 (ix2 x (j 1)) + ∑ l, x0 (ix2 x l) * x1 (ix2 l (j 1))) (x3 (ix2 0 (j 1))) (x4 (ix2 x (j 1))) (fun k => x2 (ix2 x k) + ∑ l, x0 (ix2 x l) * x1 (ix2 l k)) * Ideal.ofBits FTy.f32 0x3A800000#32) := by
  unfold err
  pointwise [k0_pay1, k0_pay4, k0_pay7, k0_pay8, k0_pay9, k0_pay11]
  simp only [add_comm _ (x2 _)]
  congr 1
  exact Finset.sum_congr rfl fun _ _ => mul_comm _ _

/-- The blocks a point of the grid stages. -/
theorem idx : ∀ t : Fin cfg0.N, win0_0.index t = ![t.val, 0]
    ∧ win0_1.index t = ![0, 0]
    ∧ win0_2.index t = ![t.val, 0]
    ∧ win0_3.index t = ![t.val, 0]
    ∧ win0_4.index t = ![0, 0]
    ∧ win0_5.index t = ![t.val, 0]
    ∧ win0_6.index t = ![t.val, 0]
    ∧ win0_7.index t = ![0, 0]
    ∧ win0_8.index t = ![0, 0] :=
  (by decide +kernel : ∀ t : Fin grid0.N, _)

/-- The stored block of window 5, at every point. -/
theorem stored5 (c : Dev nD) (t : Fin cfg0.N) :
    (outsAt0 m c t.val t.isLt).1 = k0_pay2 (k0_pay7 (iblk m c 0 t) (iblk m c 1 t) (iblk m c 2 t)) (k0_pay8 (iblk m c 0 t) (iblk m c 1 t) (iblk m c 2 t)) (iblk m c 4 t) (k0_pay11 (iblk m c 0 t) (iblk m c 1 t) (iblk m c 2 t) (iblk m c 4 t) (iblk m c 3 t)) := by
  funext y
  by_cases h : t.val % 16 = 0
  · rw [outsAt0_A m c t h]; frame_out
  · rw [outsAt0_B m c t h]; frame_out

/-- The stored block of window 6, at every point. -/
theorem stored6 (c : Dev nD) (t : Fin cfg0.N) :
    (outsAt0 m c t.val t.isLt).2.1 = k0_pay3 (k0_pay7 (iblk m c 0 t) (iblk m c 1 t) (iblk m c 2 t)) (k0_pay8 (iblk m c 0 t) (iblk m c 1 t) (iblk m c 2 t)) (iblk m c 4 t) (k0_pay11 (iblk m c 0 t) (iblk m c 1 t) (iblk m c 2 t) (iblk m c 4 t) (iblk m c 3 t)) := by
  funext y
  by_cases h : t.val % 16 = 0
  · rw [outsAt0_A m c t h]; frame_out
  · rw [outsAt0_B m c t h]; frame_out

/-- The gradient of the output after the call. -/
theorem final5 (c : Dev nD) : (dats m 0 c).arrAt 5 cfg0.N
    = ref5 (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 5 _ (by decide +kernel) fun t _ y => ?_
  blk_simp
  rw [after0_5, stored5, hpay5, href5]
  unfold NormMath.dx err
  blk_point [iblk, V, idx t]

/-- The gradient of the output rounded, after the call. -/
theorem final6 (c : Dev nD) : (dats m 0 c).arrAt 6 cfg0.N
    = ref6 (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t _ y => ?_
  blk_simp
  rw [after0_6, stored6]
  change k0_pay2 _ _ _ _ _ = ref5 _ _ _ _ _ _
  rw [hpay5, href5]
  unfold NormMath.dx err
  blk_point [iblk, V, idx t]

/-- The squared errors' column sums after the call. -/
theorem final7 (c : Dev nD) : (dats m 0 c).arrAt 7 cfg0.N
    = ref7 (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 7 _ (by decide +kernel) fun t hf y => ?_
  blk_simp
  rw [after0_7]
  rw [Pipeline.eq_sum_fin_of_reset_step_apply_of_flush (fun n h => (outsAt0 m c n h).2.2.1) 16 (fun _ => 0) _
    (fun t h j => by rw [outsAt0_A m c t h]; frame_out; rw [hpay7, hzero7])
    (fun t h j => by
      rw [outsAt0_B m c t h]; frame_out; rw [hpay7])
    t ((flush0_7 t).mp hf) _, zero_add, href7]
  refine Fin.sum_mul_add_congr fun s k hl => ?_
  unfold err
  blk_point [iblk, V, idx t, idx ⟨_, Pipeline.run_point_lt_of_flush t ((flush0_7 t).mp hf) s⟩]

/-- The gradient of the norm weight after the call. -/
theorem final8 (c : Dev nD) : (dats m 0 c).arrAt 8 cfg0.N
    = ref8 (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 8 _ (by decide +kernel) fun t hf y => ?_
  blk_simp
  rw [after0_8]
  rw [Pipeline.eq_sum_fin_of_reset_step_apply_of_flush (fun n h => (outsAt0 m c n h).2.2.2) 16 (fun _ => 0) _
    (fun t h j => by rw [outsAt0_A m c t h]; frame_out; rw [hpay8, hzero8])
    (fun t h j => by
      rw [outsAt0_B m c t h]; frame_out; rw [hpay8])
    t ((flush0_8 t).mp hf) _, zero_add, href8]
  refine Fin.sum_mul_add_congr fun s k hl => ?_
  unfold err
  blk_point [iblk, V, idx t, idx ⟨_, Pipeline.run_point_lt_of_flush t ((flush0_8 t).mp hf) s⟩]

end Cert.DownIdeal.Point

end
-- ==== Proof.OutProjVal.lean ====
/-
  The mixer's output product with the residual, and the normalised copy of the sum: what the call leaves
  in its two result arrays is what the plain formulas give.
-/
module

public import proofs.«01_k».proof.Proof.Gen.OutProjIdeal.Value
public import proofs.«01_k».proof.Proof.Gen.OutProjRefIdeal.Run
public import Idealize.ShloMosaic.Lib.Pipeline.ValueKit
public import Idealize.ShloMosaic.Lib.Claim
public import proofs.«01_k».proof.Proof.NormMath

@[expose] public section

set_option maxRecDepth 16384

noncomputable section

open Idealize.ShloMosaic Idealize.ShloMosaic.TcCoe Idealize.SL.Sem
open Idealize.ShloMosaic.Pipeline (Dat)

namespace Cert.OutProjIdeal.Point

open Cert.OutProjIdeal Cert.OutProjIdeal.Gen

variable (m : (ℓ : Loc nD τ sig) → Buf (Elt Ideal) ℓ)

/-- The sum, as the reference has it. -/
abbrev ref4 (x0 : FVec Ideal S8192x1024 .bf16) (x1 : FVec Ideal S1024x1024 .bf16) (x2 : FVec Ideal S8192x1024 .f32) (x3 : FVec Ideal S1x1024 .f32) : FVec Ideal S8192x1024 .f32 :=
  addf x2 (Host.dotGeneral Cert.OutProjRefIdeal.dot_S8192x1024_S1024x1024_S8192x1024_1_0_0_1_n_n none (extf .f32 x0 Cert.OutProjRefIdeal.Gen.bitsLt_bf16_f32) (extf .f32 x1 Cert.OutProjRefIdeal.Gen.bitsLt_bf16_f32))

/-- The normalised sum, as the reference has it. -/
abbrev ref5 (x0 : FVec Ideal S8192x1024 .bf16) (x1 : FVec Ideal S1024x1024 .bf16) (x2 : FVec Ideal S8192x1024 .f32) (x3 : FVec Ideal S1x1024 .f32) : FVec Ideal S8192x1024 .bf16 :=
  truncf .bf16 (mulf (mulf (addf x2 (Host.dotGeneral Cert.OutProjRefIdeal.dot_S8192x1024_S1024x1024_S8192x1024_1_0_0_1_n_n none (extf .f32 x0 Cert.OutProjRefIdeal.Gen.bitsLt_bf16_f32) (extf .f32 x1 Cert.OutProjRefIdeal.Gen.bitsLt_bf16_f32))) (broadcastInDim S8192x1024 ![0, 1] Cert.OutProjRefIdeal.Gen.bcast_S8192x1_S8192x1024_0_1 (Host.rsqrt (addf (Host.divf (broadcastInDim Cert.OutProjRefIdeal.S8192x1 ![0] Cert.OutProjRefIdeal.Gen.bcast_S8192_S8192x1_0 (Host.reduceAdd (mulf (addf x2 (Host.dotGeneral Cert.OutProjRefIdeal.dot_S8192x1024_S1024x1024_S8192x1024_1_0_0_1_n_n none (extf .f32 x0 Cert.OutProjRefIdeal.Gen.bitsLt_bf16_f32) (extf .f32 x1 Cert.OutProjRefIdeal.Gen.bitsLt_bf16_f32))) (addf x2 (Host.dotGeneral Cert.OutProjRefIdeal.dot_S8192x1024_S1024x1024_S8192x1024_1_0_0_1_n_n none (extf .f32 x0 Cert.OutProjRefIdeal.Gen.bitsLt_bf16_f32) (extf .f32 x1 Cert.OutProjRefIdeal.Gen.bitsLt_bf16_f32)))) (constant Cert.OutProjRefIdeal.S_ .f32 0x00000000#32) Cert.OutProjRefIdeal.Gen.reducesTo_S8192x1024_S8192_d1 Cert.OutProjRefIdeal.Gen.h_S_)) (broadcastInDim Cert.OutProjRefIdeal.S8192x1 ![] Cert.OutProjRefIdeal.Gen.bcast_S_S8192x1 (constant Cert.OutProjRefIdeal.S_ .f32 0x44800000#32))) (broadcastInDim Cert.OutProjRefIdeal.S8192x1 ![] Cert.OutProjRefIdeal.Gen.bcast_S_S8192x1 (constant Cert.OutProjRefIdeal.S_ .f32 0x358637BD#32)))))) (broadcastInDim S8192x1024 ![0, 1] Cert.OutProjRefIdeal.Gen.bcast_S1x1024_S8192x1024_0_1 x3)) Cert.OutProjRefIdeal.Gen.bitsLt_bf16_f32

/-- The blocks a point of the grid stages. -/
theorem idx : ∀ t : Fin cfg0.N, win0_0.index t = ![t.val, 0]
    ∧ win0_1.index t = ![0, 0]
    ∧ win0_2.index t = ![t.val, 0]
    ∧ win0_3.index t = ![0, 0]
    ∧ win0_4.index t = ![t.val, 0]
    ∧ win0_5.index t = ![t.val, 0] :=
  (by decide +kernel : ∀ t : Fin grid0.N, _)

/-- The sum, after the call. -/
theorem final4 (c : Dev nD) : (dats m 0 c).arrAt 4 cfg0.N
    = ref4 (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp
  rw [after0_4]; frame_out
  unfold_payloads
  pointwise
  rw [add_comm]
  blk_point [iblk, V, idx t]

/-- What a point stores of the normalised sum. -/
theorem hpay5 (x0 : Vec Ideal S512x1024 .bf16) (x1 : Vec Ideal S1024x1024 .bf16) (x2 : Vec Ideal S512x1024 .f32) (x3 : Vec Ideal S1x1024 .f32) (j : S512x1024.Idx) :
    k0_pay2 x0 x1 x2 x3 j = (x2 j + ∑ k, x0 (ix2 (j 0) k) * x1 (ix2 k (j 1)))
      * Ideal.rsqrt (NormMath.ms fun k => x2 (ix2 (j 0) k) + ∑ l, x0 (ix2 (j 0) l) * x1 (ix2 l k)) * x3 (ix2 0 (j 1)) := by
  pointwise [k0_pay1, k0_pay2]
  simp only [add_comm _ (x2 _)]

/-- The normalised sum, after the call. -/
theorem final5 (c : Dev nD) : (dats m 0 c).arrAt 5 cfg0.N
    = ref5 (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t _ y => ?_
  blk_simp
  rw [after0_5]; frame_out
  rw [hpay5]
  unfold NormMath.ms
  pointwise
  blk_point [iblk, V, idx t]

end Cert.OutProjIdeal.Point

end
-- ==== Proof.BranchMergeVal.lean ====
/-
  The recurrent branch's output product and the gated merge of the two branches: what the call leaves in
  its two result arrays is what the plain formulas give.
-/
module

public import proofs.«01_k».proof.Proof.Gen.BranchMergeIdeal.Value
public import proofs.«01_k».proof.Proof.Gen.BranchMergeRefIdeal.Run
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.BranchMergeIdeal.Point

open Cert.BranchMergeIdeal Cert.BranchMergeIdeal.Gen

variable (m : (ℓ : Loc nD τ sig) → Buf (Elt Ideal) ℓ)

/-- The branch, as the reference has it. -/
abbrev ref5 (x0 : FVec Ideal S8192x1024 .bf16) (x1 : FVec Ideal S1024x1024 .bf16) (x2 : FVec Ideal S8192x2048 .f32) (x3 : FVec Ideal S8192x1024 .f32) : FVec Ideal S8192x1024 .f32 :=
  Host.dotGeneral Cert.BranchMergeRefIdeal.dot_S8192x1024_S1024x1024_S8192x1024_1_0_0_1_n_n none (extf .f32 x0 Cert.BranchMergeRefIdeal.Gen.bitsLt_bf16_f32) (extf .f32 x1 Cert.BranchMergeRefIdeal.Gen.bitsLt_bf16_f32)

/-- The merged branches, as the reference has it. -/
abbrev ref6 (x0 : FVec Ideal S8192x1024 .bf16) (x1 : FVec Ideal S1024x1024 .bf16) (x2 : FVec Ideal S8192x2048 .f32) (x3 : FVec Ideal S8192x1024 .f32) : FVec Ideal S8192x1024 .bf16 :=
  truncf .bf16 (addf (mulf (Host.divf (broadcastInDim S8192x1024 ![] Cert.BranchMergeRefIdeal.Gen.bcast_S_S8192x1024 (constant Cert.BranchMergeRefIdeal.S_ .f32 0x3F800000#32)) (addf (broadcastInDim S8192x1024 ![] Cert.BranchMergeRefIdeal.Gen.bcast_S_S8192x1024 (constant Cert.BranchMergeRefIdeal.S_ .f32 0x3F800000#32)) (Host.exp (Host.negf (extractStridedSlice S8192x1024 ![0, 0] x2 Cert.BranchMergeRefIdeal.Gen.slices_S8192x2048_S8192x1024_0_0))))) x3) (mulf (Host.divf (broadcastInDim S8192x1024 ![] Cert.BranchMergeRefIdeal.Gen.bcast_S_S8192x1024 (constant Cert.BranchMergeRefIdeal.S_ .f32 0x3F800000#32)) (addf (broadcastInDim S8192x1024 ![] Cert.BranchMergeRefIdeal.Gen.bcast_S_S8192x1024 (constant Cert.BranchMergeRefIdeal.S_ .f32 0x3F800000#32)) (Host.exp (Host.negf (extractStridedSlice S8192x1024 ![0, 1024] x2 Cert.BranchMergeRefIdeal.Gen.slices_S8192x2048_S8192x1024_0_1024))))) (Host.dotGeneral Cert.BranchMergeRefIdeal.dot_S8192x1024_S1024x1024_S8192x1024_1_0_0_1_n_n none (extf .f32 x0 Cert.BranchMergeRefIdeal.Gen.bitsLt_bf16_f32) (extf .f32 x1 Cert.BranchMergeRefIdeal.Gen.bitsLt_bf16_f32)))) Cert.BranchMergeRefIdeal.Gen.bitsLt_bf16_f32

/-- The blocks a point of the grid stages. -/
theorem idx : ∀ t : Fin cfg0.N, win0_0.index t = ![t.val, 0]
    ∧ win0_1.index t = ![0, 0]
    ∧ win0_2.index t = ![t.val, 0]
    ∧ win0_3.index t = ![t.val, 1]
    ∧ win0_4.index t = ![t.val, 0]
    ∧ win0_5.index t = ![t.val, 0]
    ∧ win0_6.index t = ![t.val, 0] :=
  (by decide +kernel : ∀ t : Fin grid0.N, _)

/-- The branch, after the call. -/
theorem final5 (c : Dev nD) : (dats m 0 c).arrAt 5 cfg0.N
    = ref5 (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t _ y => ?_
  blk_simp
  rw [after0_5]; frame_out
  unfold_payloads
  pointwise
  blk_point [iblk, V, idx t]

/-- The merged branches, after the call. -/
theorem final6 (c : Dev nD) : (dats m 0 c).arrAt 6 cfg0.N
    = ref6 (m ((c : Thread nD τ).loc main_arg0)) (m ((c : Thread nD τ).loc main_arg1)) (m ((c : Thread nD τ).loc main_arg2)) (m ((c : Thread nD τ).loc main_arg3)) := by
  refine (dats m 0 c).arrAt_eq_of_covers 6 _ (by decide +kernel) fun t _ y => ?_
  blk_simp
  rw [after0_6]; frame_out
  unfold_payloads
  pointwise
  simp only [zero_sub]
  blk_point [iblk, V, idx t]

end Cert.BranchMergeIdeal.Point

end
-- ==== Proof.ProjSmallVal.lean ====
/-
  The small projection (gates per head): what the call leaves in its result array is the plain product.
-/
module

public import proofs.«01_k».proof.Proof.Gen.ProjSmallIdeal.Value
public import proofs.«01_k».proof.Proof.Gen.ProjSmallRefIdeal.Run
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.ProjSmallIdeal.Point

open Cert.ProjSmallIdeal Cert.ProjSmallIdeal.Gen

variable (m : (ℓ : Loc nD τ sig) → Buf (Elt Ideal) ℓ)

/-- The projection, as the reference has it. -/
abbrev ref (x0 : FVec Ideal S8192x1024 .bf16) (x1 : FVec Ideal S128x1024 .bf16) : FVec Ideal S8192x128 .f32 :=
  Host.dotGeneral Cert.ProjSmallRefIdeal.dot_S8192x1024_S128x1024_S8192x128_1_1_0_0_n_n none (extf .f32 x0 Cert.ProjSmallRefIdeal.Gen.bitsLt_bf16_f32) (extf .f32 x1 Cert.ProjSmallRefIdeal.Gen.bitsLt_bf16_f32)

/-- The blocks a point of the grid stages. -/
theorem idx : ∀ t : Fin cfg0.N, win0_0.index t = ![t.val, 0]
    ∧ win0_1.index t = ![0, 0]
    ∧ win0_2.index t = ![t.val, 0] :=
  (by decide +kernel : ∀ t : Fin grid0.N, _)

/-- The projection, after the call. -/
theorem final (c : Dev nD) : (dats m 0 c).arrAt 2 cfg0.N
    = ref (m ((c : Thread nD τ).loc main_arg0)) (m ((c : Thread nD τ).loc main_arg1)) := by
  refine (dats m 0 c).arrAt_eq_of_covers 2 _ (by decide +kernel) fun t _ y => ?_
  blk_simp
  rw [after0_2]; frame_out
  unfold_payloads
  pointwise
  blk_point [iblk, V, idx t]

end Cert.ProjSmallIdeal.Point

end
-- ==== Proof.NormMixVal.lean ====
/-
  The first normalisation, rounded: what the call leaves in its result array is the plain formula's.
-/
module

public import proofs.«01_k».proof.Proof.Gen.NormMixIdeal.Value
public import proofs.«01_k».proof.Proof.Gen.NormMixRefIdeal.Run
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.NormMixIdeal.Point

open Cert.NormMixIdeal Cert.NormMixIdeal.Gen

variable (m : (ℓ : Loc nD τ sig) → Buf (Elt Ideal) ℓ)

/-- The normalised input, as the reference has it. -/
abbrev ref (x0 : FVec Ideal S8192x1024 .f32) (x1 : FVec Ideal S1x1024 .f32) : FVec Ideal S8192x1024 .bf16 :=
  truncf .bf16 (mulf (mulf x0 (broadcastInDim S8192x1024 ![0, 1] Cert.NormMixRefIdeal.Gen.bcast_S8192x1_S8192x1024_0_1 (Host.rsqrt (addf (Host.divf (broadcastInDim Cert.NormMixRefIdeal.S8192x1 ![0] Cert.NormMixRefIdeal.Gen.bcast_S8192_S8192x1_0 (Host.reduceAdd (mulf x0 x0) (constant Cert.NormMixRefIdeal.S_ .f32 0x00000000#32) Cert.NormMixRefIdeal.Gen.reducesTo_S8192x1024_S8192_d1 Cert.NormMixRefIdeal.Gen.h_S_)) (broadcastInDim Cert.NormMixRefIdeal.S8192x1 ![] Cert.NormMixRefIdeal.Gen.bcast_S_S8192x1 (constant Cert.NormMixRefIdeal.S_ .f32 0x44800000#32))) (broadcastInDim Cert.NormMixRefIdeal.S8192x1 ![] Cert.NormMixRefIdeal.Gen.bcast_S_S8192x1 (constant Cert.NormMixRefIdeal.S_ .f32 0x358637BD#32)))))) (broadcastInDim S8192x1024 ![0, 1] Cert.NormMixRefIdeal.Gen.bcast_S1x1024_S8192x1024_0_1 x1)) Cert.NormMixRefIdeal.Gen.bitsLt_bf16_f32

/-- The blocks a point of the grid stages. -/
theorem idx : ∀ t : Fin cfg0.N, win0_0.index t = ![t.val, 0]
    ∧ win0_1.index t = ![0, 0]
    ∧ win0_2.index t = ![t.val, 0] :=
  (by decide +kernel : ∀ t : Fin grid0.N, _)

/-- The normalised input, after the call. -/
theorem final (c : Dev nD) : (dats m 0 c).arrAt 2 cfg0.N
    = ref (m ((c : Thread nD τ).loc main_arg0)) (m ((c : Thread nD τ).loc main_arg1)) := by
  refine (dats m 0 c).arrAt_eq_of_covers 2 _ (by decide +kernel) fun t _ y => ?_
  blk_simp
  rw [after0_2]; frame_out
  unfold_payloads
  pointwise
  blk_point [iblk, V, idx t]

end Cert.NormMixIdeal.Point

end
-- ==== Proof.GateVal.lean ====
/-
  The feed-forward gate: what the call leaves in its result array is what the plain formulas give.
-/
module

public import proofs.«01_k».proof.Proof.Gen.GateIdeal.Value
public import proofs.«01_k».proof.Proof.Gen.GateRefIdeal.Run
public import Idealize.ShloMosaic.Lib.Pipeline.ValueKit
public import Idealize.ShloMosaic.Lib.KernelVsHost
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.GateIdeal.Point

open Cert.GateIdeal Cert.GateIdeal.Gen

variable (m : (ℓ : Loc nD τ sig) → Buf (Elt Ideal) ℓ)

/-- The convolution along the sequence, as the reference has it. -/
def conv (x : FVec Ideal S8192x2816 .f32) (w : FVec Ideal S3x2816 .f32) : FVec Ideal Cert.GateRefIdeal.S4x2048x2816 .f32 :=
  (addf (addf (addf (broadcastInDim Cert.GateRefIdeal.S4x2048x2816 ![] Cert.GateRefIdeal.Gen.bcast_S_S4x2048x2816 (constant Cert.GateRefIdeal.S_ .f32 0x00000000#32)) (mulf (extractStridedSlice Cert.GateRefIdeal.S4x2048x2816 ![0, 0, 0] (pad Cert.GateRefIdeal.S4x2050x2816 ![0, 2, 0] ![0, 0, 0] ![0, 0, 0] (shapeCast _ x Cert.GateRefIdeal.Gen.shapeCasts_S8192x2816_S4x2048x2816) (sitofp .f32 (constantI Cert.GateRefIdeal.S_ 32 0#32)) Cert.GateRefIdeal.Gen.pads_S4x2048x2816_S4x2050x2816_000_200_000 Cert.GateRefIdeal.Gen.h_S_) Cert.GateRefIdeal.Gen.slices_S4x2050x2816_S4x2048x2816_0_0_0) (broadcastInDim Cert.GateRefIdeal.S4x2048x2816 ![0, 1, 2] Cert.GateRefIdeal.Gen.bcast_S1x1x2816_S4x2048x2816_0_1_2 (broadcastInDim Cert.GateRefIdeal.S1x1x2816 ![2] Cert.GateRefIdeal.Gen.bcast_S2816_S1x1x2816_2 (shapeCast _ (extractStridedSlice Cert.GateRefIdeal.S1x2816 ![0, 0] w Cert.GateRefIdeal.Gen.slices_S3x2816_S1x2816_0_0) Cert.GateRefIdeal.Gen.shapeCasts_S1x2816_S2816))))) (mulf (extractStridedSlice Cert.GateRefIdeal.S4x2048x2816 ![0, 1, 0] (pad Cert.GateRefIdeal.S4x2050x2816 ![0, 2, 0] ![0, 0, 0] ![0, 0, 0] (shapeCast _ x Cert.GateRefIdeal.Gen.shapeCasts_S8192x2816_S4x2048x2816) (sitofp .f32 (constantI Cert.GateRefIdeal.S_ 32 0#32)) Cert.GateRefIdeal.Gen.pads_S4x2048x2816_S4x2050x2816_000_200_000 Cert.GateRefIdeal.Gen.h_S_) Cert.GateRefIdeal.Gen.slices_S4x2050x2816_S4x2048x2816_0_1_0) (broadcastInDim Cert.GateRefIdeal.S4x2048x2816 ![0, 1, 2] Cert.GateRefIdeal.Gen.bcast_S1x1x2816_S4x2048x2816_0_1_2 (broadcastInDim Cert.GateRefIdeal.S1x1x2816 ![2] Cert.GateRefIdeal.Gen.bcast_S2816_S1x1x2816_2 (shapeCast _ (extractStridedSlice Cert.GateRefIdeal.S1x2816 ![1, 0] w Cert.GateRefIdeal.Gen.slices_S3x2816_S1x2816_1_0) Cert.GateRefIdeal.Gen.shapeCasts_S1x2816_S2816))))) (mulf (extractStridedSlice Cert.GateRefIdeal.S4x2048x2816 ![0, 2, 0] (pad Cert.GateRefIdeal.S4x2050x2816 ![0, 2, 0] ![0, 0, 0] ![0, 0, 0] (shapeCast _ x Cert.GateRefIdeal.Gen.shapeCasts_S8192x2816_S4x2048x2816) (sitofp .f32 (constantI Cert.GateRefIdeal.S_ 32 0#32)) Cert.GateRefIdeal.Gen.pads_S4x2048x2816_S4x2050x2816_000_200_000 Cert.GateRefIdeal.Gen.h_S_) Cert.GateRefIdeal.Gen.slices_S4x2050x2816_S4x2048x2816_0_2_0) (broadcastInDim Cert.GateRefIdeal.S4x2048x2816 ![0, 1, 2] Cert.GateRefIdeal.Gen.bcast_S1x1x2816_S4x2048x2816_0_1_2 (broadcastInDim Cert.GateRefIdeal.S1x1x2816 ![2] Cert.GateRefIdeal.Gen.bcast_S2816_S1x1x2816_2 (shapeCast _ (extractStridedSlice Cert.GateRefIdeal.S1x2816 ![2, 0] w Cert.GateRefIdeal.Gen.slices_S3x2816_S1x2816_2_0) Cert.GateRefIdeal.Gen.shapeCasts_S1x2816_S2816)))))

/-- What the reference computes. -/
abbrev ref (x0 : FVec Ideal S8192x2816 .f32) (x1 : FVec Ideal S8192x2816 .f32) (x2 : FVec Ideal S3x2816 .f32) (x3 : FVec Ideal S3x2816 .f32) : FVec Ideal S8192x2816 .bf16 :=
  shapeCast _ (truncf .bf16 (mulf (mulf (conv x0 x2) (Host.divf (broadcastInDim Cert.GateRefIdeal.S4x2048x2816 ![] Cert.GateRefIdeal.Gen.bcast_S_S4x2048x2816 (constant Cert.GateRefIdeal.S_ .f32 0x3F800000#32)) (addf (broadcastInDim Cert.GateRefIdeal.S4x2048x2816 ![] Cert.GateRefIdeal.Gen.bcast_S_S4x2048x2816 (constant Cert.GateRefIdeal.S_ .f32 0x3F800000#32)) (Host.exp (Host.negf (conv x0 x2)))))) (conv x1 x3)) Cert.GateRefIdeal.Gen.bitsLt_bf16_f32) Cert.GateRefIdeal.Gen.shapeCasts_S4x2048x2816_S8192x2816

/-- The blocks a point of the grid stages. -/
theorem idx : ∀ t : Fin cfg0.N, win0_0.index t = ![t.val / 11, t.val % 11]
    ∧ win0_1.index t = ![t.val / 11, t.val % 11]
    ∧ win0_2.index t = ![0, t.val % 11]
    ∧ win0_3.index t = ![0, t.val % 11]
    ∧ win0_4.index t = ![t.val / 11, t.val % 11] :=
  (by decide +kernel : ∀ t : Fin grid0.N, _)

/-- A row's mask. -/
theorem mask (k r : ℕ) (hk : k < 2048) (hr : r < 2048) (a : EReal) :
    Scalar.select (IntOp.cmpi CmpIPredicate.sge (BitVec.ofNat 32 r) (BitVec.ofNat 32 k)) a 0 = if k ≤ r then a else 0 := by
  have h1 : (BitVec.ofNat 32 r).toInt = r := by rw [BitVec.toInt_ofNat']; simp only [Int.bmod]; omega
  have h2 : (BitVec.ofNat 32 k).toInt = k := by rw [BitVec.toInt_ofNat']; simp only [Int.bmod]; omega
  unfold IntOp.cmpi
  simp only [Scalar.select_ofBool, BitVec.sle, h1, h2, decide_eq_true_eq, Nat.cast_le]

/-- Three taps over a block are the reference's convolution there. -/
theorem taps (x : FVec Ideal S8192x2816 .f32) (w : FVec Ideal S3x2816 .f32) (X : Vec Ideal S2048x256 .f32) (W : Vec Ideal S3x256 .f32)
    (b q : ℕ) (hb : b < 4) (hq : q < 11)
    (hX : ∀ z : S2048x256.Idx, X z = x (ix2 ⟨b * 2048 + (z 0).val, by have : (z 0).val < 2048 := (z 0).isLt; omega⟩ ⟨q * 256 + (z 1).val, by have : (z 1).val < 256 := (z 1).isLt; omega⟩))
    (hW : ∀ z : S3x256.Idx, W z = w (ix2 (z 0) ⟨q * 256 + (z 1).val, by have : (z 1).val < 256 := (z 1).isLt; omega⟩))
    (y : S2048x256.Idx) (i : Cert.GateRefIdeal.S4x2048x2816.Idx) (h0 : (i 0).val = b) (h1 : (i 1).val = (y 0).val) (h2 : (i 2).val = q * 256 + (y 1).val) :
    X y * W (ix2 2 (y 1)) + Scalar.select (IntOp.cmpi CmpIPredicate.sge (BitVec.ofNat 32 (y 0).val) 2#32)
          (X (ix2 ⟨((y 0).val + 2048 - 2) % 2048, Nat.mod_lt _ (by decide)⟩ (y 1)) * W (ix2 0 (y 1))) 0
        + Scalar.select (IntOp.cmpi CmpIPredicate.sge (BitVec.ofNat 32 (y 0).val) 1#32)
          (X (ix2 ⟨((y 0).val + 2048 - 1) % 2048, Nat.mod_lt _ (by decide)⟩ (y 1)) * W (ix2 1 (y 1))) 0 = conv x w i := by
  have hy0 : (y 0).val < 2048 := (y 0).isLt
  have hy1 : (y 1).val < 256 := (y 1).isLt
  have hz : (FloatOps.sitofp .f32 (0#32) : Ideal .f32) = 0 := sitofp_zero
  rw [show (2#32) = BitVec.ofNat 32 2 from rfl, show (1#32) = BitVec.ofNat 32 1 from rfl, mask 2 _ (by decide) hy0, mask 1 _ (by decide) hy0]
  have xe : ∀ (a : Fin 8192) (z : S2048x256.Idx), a.val = b * 2048 + (z 0).val → (z 1).val = (y 1).val → x (ix2 a (i 2)) = X z := by
    intro a z ha hz1
    rw [hX z]
    refine congrArg x (funext fun d => Fin.ext ?_)
    fin_cases d
    · exact ha
    · show (i 2).val = q * 256 + (z 1).val
      omega
  have we : ∀ p : Fin 3, w (ix2 p (i 2)) = W (ix2 p (y 1)) := by
    intro p
    rw [hW]
    refine congrArg w (funext fun d => Fin.ext ?_)
    fin_cases d
    · rfl
    · exact h2
  pointwise [conv]
  rw [hz, we 0, we 1, we 2]
  refine Eq.trans ?_ (add_comm _ _)
  rw [add_assoc]
  refine congrArg₂ _ (congrArg (· * _) (xe _ y (by show (i 0).val * 2048 + (i 1).val = _; omega) rfl).symm) (congrArg₂ _ ?_ ?_)
  · by_cases g : 2 ≤ (y 0).val
    · rw [if_pos g, dif_pos (by omega)]
      refine (congrArg (· * _) (xe _ (ix2 ⟨((y 0).val + 2048 - 2) % 2048, Nat.mod_lt _ (by decide)⟩ (y 1)) ?_ rfl)).symm
      show (i 0).val * 2048 + ((i 1).val - 2) = b * 2048 + ((y 0).val + 2048 - 2) % 2048
      omega
    · rw [if_neg g, dif_neg (by omega), zero_mul]
  · by_cases g : 1 ≤ (y 0).val
    · rw [if_pos g, dif_pos (by omega)]
      refine (congrArg (· * _) (xe _ (ix2 ⟨((y 0).val + 2048 - 1) % 2048, Nat.mod_lt _ (by decide)⟩ (y 1)) ?_ rfl)).symm
      show (i 0).val * 2048 + (1 + (i 1).val - 2) = b * 2048 + ((y 0).val + 2048 - 1) % 2048
      omega
    · rw [if_neg g, dif_neg (by omega), zero_mul]

/-- The result array after the call. -/
theorem final (c : Dev nD) : (dats m 0 c).arrAt 4 cfg0.N
    = ref (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp
  rw [after0_4]; frame_out
  unfold_payloads
  pointwise
  have ht : t.val < 44 := t.isLt
  have hy0 : (y 0).val < 2048 := (y 0).isLt
  have e0 : (((View.whole main_v0).slice (win0_4.rect t)).emb y 0).val = t.val / 11 * 2048 + (y 0).val := by
    blk_point [idx t]
  have e1 : (((View.whole main_v0).slice (win0_4.rect t)).emb y 1).val = t.val % 11 * 256 + (y 1).val := by
    blk_point [idx t]
  have T0 := taps (m ((c : Thread nD τ).loc main_arg0)) (m ((c : Thread nD τ).loc main_arg2)) (iblk m c 0 t) (iblk m c 2 t) (t.val / 11) (t.val % 11) (by omega) (by omega)
    (fun z => by blk_point [iblk, V, idx t]) (fun z => by blk_point [iblk, V, idx t]) y
  have T1 := taps (m ((c : Thread nD τ).loc main_arg1)) (m ((c : Thread nD τ).loc main_arg3)) (iblk m c 1 t) (iblk m c 3 t) (t.val / 11) (t.val % 11) (by omega) (by omega)
    (fun z => by blk_point [iblk, V, idx t]) (fun z => by blk_point [iblk, V, idx t]) y
  rw [zero_sub, ← T0, ← T1]
  · show (((View.whole main_v0).slice (win0_4.rect t)).emb y 0).val / 2048 = _
    omega
  · show (((View.whole main_v0).slice (win0_4.rect t)).emb y 0).val % 2048 = _
    omega
  · exact e1
  · show (((View.whole main_v0).slice (win0_4.rect t)).emb y 0).val / 2048 = _
    omega
  · show (((View.whole main_v0).slice (win0_4.rect t)).emb y 0).val % 2048 = _
    omega
  · exact e1

end Cert.GateIdeal.Point

end
-- ==== Proof.Norms.lean ====
/-
  The calls with an epilogue, and the small products and the first normalisation: for each the claim
  that its results are the reference's, and the frame of the reference.
-/
module

public import proofs.«01_k».proof.Defs
public import proofs.«01_k».proof.Proof.GradXVal
public import proofs.«01_k».proof.Proof.DH1Val
public import proofs.«01_k».proof.Proof.DwSmallVal
public import proofs.«01_k».proof.Proof.DownVal
public import proofs.«01_k».proof.Proof.OutProjVal
public import proofs.«01_k».proof.Proof.BranchMergeVal
public import proofs.«01_k».proof.Proof.ProjSmallVal
public import proofs.«01_k».proof.Proof.NormMixVal
public import proofs.«01_k».proof.Proof.GateVal
public import Idealize.ShloMosaic.Lib.Claim
public import Idealize.ShloMosaic.Lib.Quiescent

@[expose] public section

set_option maxRecDepth 16384

noncomputable section

open Idealize.ShloMosaic Idealize.ShloMosaic.TcCoe Idealize.SL.Sem

namespace Cert.Proof.GradX

/-- The gradients of the input and of the norm weight: the call's results are the reference's. -/
theorem algebraic : Cert.algebraic_GradXIdeal_GradXRefIdeal := by
  pair_intro
  · run_from Cert.GradXIdeal.Value.run_blocks m g
  · hlo_run
    · exact (Cert.GradXIdeal.Point.final6 m c).symm
    · exact (Cert.GradXIdeal.Point.final7 m c).symm

/-- The reference runs on the host and keeps its arguments. -/
theorem frame_ref : Cert.quiescent_GradXRefIdeal := by
  intro m g _
  exact (θ_run Cert.GradXRefIdeal.defs _ _).mono
    (fun r h => ⟨fun c => (h c).2.2, Idealize.ShloMosaic.sem_eq_zero_of_no_sems (by decide) r.2⟩)
    (Cert.GradXRefIdeal.Value.run (F := Ideal) m g)

end Cert.Proof.GradX

namespace Cert.Proof.DH1

/-- The feed-forward input's gradient, its rounded copy and the norm weight's gradient: the call's results are the reference's. -/
theorem algebraic : Cert.algebraic_DH1Ideal_DH1RefIdeal := by
  pair_intro
  · run_from Cert.DH1Ideal.Value.run_blocks m g
  · hlo_run
    · exact (Cert.DH1Ideal.Point.final6 m c).symm
    · exact (Cert.DH1Ideal.Point.final7 m c).symm
    · exact (Cert.DH1Ideal.Point.final8 m c).symm

/-- The reference runs on the host and keeps its arguments. -/
theorem frame_ref : Cert.quiescent_DH1RefIdeal := by
  intro m g _
  exact (θ_run Cert.DH1RefIdeal.defs _ _).mono
    (fun r h => ⟨fun c => (h c).2.2.2, Idealize.ShloMosaic.sem_eq_zero_of_no_sems (by decide) r.2⟩)
    (Cert.DH1RefIdeal.Value.run (F := Ideal) m g)

end Cert.Proof.DH1

namespace Cert.Proof.DwSmall

/-- The gradient of the small projection's weights: the call's results are the reference's. -/
theorem algebraic : Cert.algebraic_DwSmallIdeal_DwSmallRefIdeal := by
  pair_intro
  · run_from Cert.DwSmallIdeal.Value.run_blocks m g
  · hlo_run
    exact (Cert.DwSmallIdeal.Point.final m c).symm

/-- The reference runs on the host and keeps its arguments. -/
theorem frame_ref : Cert.quiescent_DwSmallRefIdeal := by
  intro m g _
  exact (θ_run Cert.DwSmallRefIdeal.defs _ _).mono
    (fun r h => ⟨fun c => (h c).2, Idealize.ShloMosaic.sem_eq_zero_of_no_sems (by decide) r.2⟩)
    (Cert.DwSmallRefIdeal.Value.run (F := Ideal) m g)

end Cert.Proof.DwSmall

namespace Cert.Proof.Down

/-- The derivative of the loss and the squared errors' column sums: the call's results are the reference's. -/
theorem algebraic : Cert.algebraic_DownIdeal_DownRefIdeal := by
  pair_intro
  · run_from Cert.DownIdeal.Value.run_blocks m g
  · hlo_run
    · exact (Cert.DownIdeal.Point.final5 m c).symm
    · exact (Cert.DownIdeal.Point.final6 m c).symm
    · exact (Cert.DownIdeal.Point.final7 m c).symm
    · exact (Cert.DownIdeal.Point.final8 m c).symm

/-- The reference runs on the host and keeps its arguments. -/
theorem frame_ref : Cert.quiescent_DownRefIdeal := by
  intro m g _
  exact (θ_run Cert.DownRefIdeal.defs _ _).mono
    (fun r h => ⟨fun c => (h c).2.2.2.2, Idealize.ShloMosaic.sem_eq_zero_of_no_sems (by decide) r.2⟩)
    (Cert.DownRefIdeal.Value.run (F := Ideal) m g)

end Cert.Proof.Down

namespace Cert.Proof.OutProj

/-- The mixer's output with the residual, and its normalised copy: the call's results are the reference's. -/
theorem algebraic : Cert.algebraic_OutProjIdeal_OutProjRefIdeal := by
  pair_intro
  · run_from Cert.OutProjIdeal.Value.run_blocks m g
  · hlo_run
    · exact (Cert.OutProjIdeal.Point.final4 m c).symm
    · exact (Cert.OutProjIdeal.Point.final5 m c).symm

/-- The reference runs on the host and keeps its arguments. -/
theorem frame_ref : Cert.quiescent_OutProjRefIdeal := by
  intro m g _
  exact (θ_run Cert.OutProjRefIdeal.defs _ _).mono
    (fun r h => ⟨fun c => (h c).2.2, Idealize.ShloMosaic.sem_eq_zero_of_no_sems (by decide) r.2⟩)
    (Cert.OutProjRefIdeal.Value.run (F := Ideal) m g)

end Cert.Proof.OutProj

namespace Cert.Proof.BranchMerge

/-- The recurrent branch and the gated merge: the call's results are the reference's. -/
theorem algebraic : Cert.algebraic_BranchMergeIdeal_BranchMergeRefIdeal := by
  pair_intro
  · run_from Cert.BranchMergeIdeal.Value.run_blocks m g
  · hlo_run
    · exact (Cert.BranchMergeIdeal.Point.final5 m c).symm
    · exact (Cert.BranchMergeIdeal.Point.final6 m c).symm

/-- The reference runs on the host and keeps its arguments. -/
theorem frame_ref : Cert.quiescent_BranchMergeRefIdeal := by
  intro m g _
  exact (θ_run Cert.BranchMergeRefIdeal.defs _ _).mono
    (fun r h => ⟨fun c => (h c).2.2, Idealize.ShloMosaic.sem_eq_zero_of_no_sems (by decide) r.2⟩)
    (Cert.BranchMergeRefIdeal.Value.run (F := Ideal) m g)

end Cert.Proof.BranchMerge

namespace Cert.Proof.ProjSmall

/-- The small projection: the call's results are the reference's. -/
theorem algebraic : Cert.algebraic_ProjSmallIdeal_ProjSmallRefIdeal := by
  pair_intro
  · run_from Cert.ProjSmallIdeal.Value.run_blocks m g
  · hlo_run
    exact (Cert.ProjSmallIdeal.Point.final m c).symm

/-- The reference runs on the host and keeps its arguments. -/
theorem frame_ref : Cert.quiescent_ProjSmallRefIdeal := by
  intro m g _
  exact (θ_run Cert.ProjSmallRefIdeal.defs _ _).mono
    (fun r h => ⟨fun c => (h c).2, Idealize.ShloMosaic.sem_eq_zero_of_no_sems (by decide) r.2⟩)
    (Cert.ProjSmallRefIdeal.Value.run (F := Ideal) m g)

end Cert.Proof.ProjSmall

namespace Cert.Proof.NormMix

/-- The first normalisation: the call's results are the reference's. -/
theorem algebraic : Cert.algebraic_NormMixIdeal_NormMixRefIdeal := by
  pair_intro
  · run_from Cert.NormMixIdeal.Value.run_blocks m g
  · hlo_run
    exact (Cert.NormMixIdeal.Point.final m c).symm

/-- The reference runs on the host and keeps its arguments. -/
theorem frame_ref : Cert.quiescent_NormMixRefIdeal := by
  intro m g _
  exact (θ_run Cert.NormMixRefIdeal.defs _ _).mono
    (fun r h => ⟨fun c => (h c).2, Idealize.ShloMosaic.sem_eq_zero_of_no_sems (by decide) r.2⟩)
    (Cert.NormMixRefIdeal.Value.run (F := Ideal) m g)

end Cert.Proof.NormMix

namespace Cert.Proof.Gate

/-- The feed-forward gate: the call's results are the reference's. -/
theorem algebraic : Cert.algebraic_GateIdeal_GateRefIdeal := by
  pair_intro
  · run_from Cert.GateIdeal.Value.run_blocks m g
  · hlo_run
    exact (Cert.GateIdeal.Point.final m c).symm

/-- The reference runs on the host and keeps its arguments. -/
theorem frame_ref : Cert.quiescent_GateRefIdeal := by
  intro m g _
  exact (θ_run Cert.GateRefIdeal.defs _ _).mono
    (fun r h => ⟨fun c => (h c).2, Idealize.ShloMosaic.sem_eq_zero_of_no_sems (by decide) r.2⟩)
    (Cert.GateRefIdeal.Value.run (F := Ideal) m g)

end Cert.Proof.Gate

end
-- ==== Proof.DActVal.lean ====
/-
  The gradient of the feed-forward's activation: the cotangent times the transposed down weights: what the call leaves in its result array is
  the plain product.
-/
module

public import proofs.«01_k».proof.Proof.Gen.DActIdeal.Value
public import proofs.«01_k».proof.Proof.Gen.DActRefIdeal.Run
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.DActIdeal.Point

open Cert.DActIdeal Cert.DActIdeal.Gen

variable (m : (ℓ : Loc nD τ sig) → Buf (Elt Ideal) ℓ)

/-- What the reference computes. -/
abbrev ref (x0 : FVec Ideal S8192x1024 .bf16) (x1 : FVec Ideal S2816x1024 .bf16) : FVec Ideal S8192x2816 .f32 :=
  Host.dotGeneral Cert.DActRefIdeal.dot_S8192x1024_S2816x1024_S8192x2816_1_1_0_0_n_n none (extf .f32 x0 Cert.DActRefIdeal.Gen.bitsLt_bf16_f32) (extf .f32 x1 Cert.DActRefIdeal.Gen.bitsLt_bf16_f32)

/-- The blocks a point of the grid stages. -/
theorem idx : ∀ t : Fin cfg0.N, win0_0.index t = ![t.val % 8, 0]
    ∧ win0_1.index t = ![t.val / 8, 0]
    ∧ win0_2.index t = ![t.val % 8, t.val / 8] :=
  (by decide +kernel : ∀ t : Fin grid0.N, _)

/-- The result array after the call. -/
theorem final (c : Dev nD) : (dats m 0 c).arrAt 2 cfg0.N
    = ref (m ((c : Thread nD τ).loc main_arg0)) (m ((c : Thread nD τ).loc main_arg1)) := by
  refine (dats m 0 c).arrAt_eq_of_covers 2 _ (by decide +kernel) fun t _ y => ?_
  blk_simp
  rw [after0_2]; frame_out
  unfold_payloads
  pointwise
  blk_point [iblk, V, idx t]

end Cert.DActIdeal.Point

end
-- ==== Proof.DHn2Val.lean ====
/-
  The gradient of the feed-forward's input through one of its two halves: what the call leaves in its result array is
  the plain product.
-/
module

public import proofs.«01_k».proof.Proof.Gen.DHn2Ideal.Value
public import proofs.«01_k».proof.Proof.Gen.DHn2RefIdeal.Run
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.DHn2Ideal.Point

open Cert.DHn2Ideal Cert.DHn2Ideal.Gen

variable (m : (ℓ : Loc nD τ sig) → Buf (Elt Ideal) ℓ)

/-- What the reference computes. -/
abbrev ref (x0 : FVec Ideal S8192x2816 .bf16) (x1 : FVec Ideal S1024x2816 .bf16) : FVec Ideal S8192x1024 .f32 :=
  Host.dotGeneral Cert.DHn2RefIdeal.dot_S8192x2816_S1024x2816_S8192x1024_1_1_0_0_n_n none (extf .f32 x0 Cert.DHn2RefIdeal.Gen.bitsLt_bf16_f32) (extf .f32 x1 Cert.DHn2RefIdeal.Gen.bitsLt_bf16_f32)

/-- The blocks a point of the grid stages. -/
theorem idx : ∀ t : Fin cfg0.N, win0_0.index t = ![t.val, 0]
    ∧ win0_1.index t = ![0, 0]
    ∧ win0_2.index t = ![t.val, 0] :=
  (by decide +kernel : ∀ t : Fin grid0.N, _)

/-- The result array after the call. -/
theorem final (c : Dev nD) : (dats m 0 c).arrAt 2 cfg0.N
    = ref (m ((c : Thread nD τ).loc main_arg0)) (m ((c : Thread nD τ).loc main_arg1)) := by
  refine (dats m 0 c).arrAt_eq_of_covers 2 _ (by decide +kernel) fun t _ y => ?_
  blk_simp
  rw [after0_2]; frame_out
  unfold_payloads
  pointwise
  blk_point [iblk, V, idx t]

end Cert.DHn2Ideal.Point

end
-- ==== Proof.DBranchVal.lean ====
/-
  The gradient of a branch's output: the cotangent times the transposed branch weights: what the call leaves in its result array is
  the plain product.
-/
module

public import proofs.«01_k».proof.Proof.Gen.DBranchIdeal.Value
public import proofs.«01_k».proof.Proof.Gen.DBranchRefIdeal.Run
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.DBranchIdeal.Point

open Cert.DBranchIdeal Cert.DBranchIdeal.Gen

variable (m : (ℓ : Loc nD τ sig) → Buf (Elt Ideal) ℓ)

/-- What the reference computes. -/
abbrev ref (x0 : FVec Ideal S8192x1024 .bf16) (x1 : FVec Ideal S1024x1024 .bf16) : FVec Ideal S8192x1024 .f32 :=
  Host.dotGeneral Cert.DBranchRefIdeal.dot_S8192x1024_S1024x1024_S8192x1024_1_1_0_0_n_n none (extf .f32 x0 Cert.DBranchRefIdeal.Gen.bitsLt_bf16_f32) (extf .f32 x1 Cert.DBranchRefIdeal.Gen.bitsLt_bf16_f32)

/-- The blocks a point of the grid stages. -/
theorem idx : ∀ t : Fin cfg0.N, win0_0.index t = ![t.val, 0]
    ∧ win0_1.index t = ![0, 0]
    ∧ win0_2.index t = ![t.val, 0] :=
  (by decide +kernel : ∀ t : Fin grid0.N, _)

/-- The result array after the call. -/
theorem final (c : Dev nD) : (dats m 0 c).arrAt 2 cfg0.N
    = ref (m ((c : Thread nD τ).loc main_arg0)) (m ((c : Thread nD τ).loc main_arg1)) := by
  refine (dats m 0 c).arrAt_eq_of_covers 2 _ (by decide +kernel) fun t _ y => ?_
  blk_simp
  rw [after0_2]; frame_out
  unfold_payloads
  pointwise
  blk_point [iblk, V, idx t]

end Cert.DBranchIdeal.Point

end
-- ==== Proof.DHFoxVal.lean ====
/-
  The gradient of the mixer's input through the attention's projection: what the call leaves in its result array is
  the plain product.
-/
module

public import proofs.«01_k».proof.Proof.Gen.DHFoxIdeal.Value
public import proofs.«01_k».proof.Proof.Gen.DHFoxRefIdeal.Run
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.DHFoxIdeal.Point

open Cert.DHFoxIdeal Cert.DHFoxIdeal.Gen

variable (m : (ℓ : Loc nD τ sig) → Buf (Elt Ideal) ℓ)

/-- What the reference computes. -/
abbrev ref (x0 : FVec Ideal S8192x3072 .bf16) (x1 : FVec Ideal S3072x1024 .bf16) : FVec Ideal S8192x1024 .f32 :=
  Host.dotGeneral Cert.DHFoxRefIdeal.dot_S8192x3072_S3072x1024_S8192x1024_1_0_0_1_n_n none (extf .f32 x0 Cert.DHFoxRefIdeal.Gen.bitsLt_bf16_f32) (extf .f32 x1 Cert.DHFoxRefIdeal.Gen.bitsLt_bf16_f32)

/-- The blocks a point of the grid stages. -/
theorem idx : ∀ t : Fin cfg0.N, win0_0.index t = ![t.val, 0]
    ∧ win0_1.index t = ![0, 0]
    ∧ win0_2.index t = ![t.val, 0] :=
  (by decide +kernel : ∀ t : Fin grid0.N, _)

/-- The result array after the call. -/
theorem final (c : Dev nD) : (dats m 0 c).arrAt 2 cfg0.N
    = ref (m ((c : Thread nD τ).loc main_arg0)) (m ((c : Thread nD τ).loc main_arg1)) := by
  refine (dats m 0 c).arrAt_eq_of_covers 2 _ (by decide +kernel) fun t _ y => ?_
  blk_simp
  rw [after0_2]; frame_out
  unfold_payloads
  pointwise
  blk_point [iblk, V, idx t]

end Cert.DHFoxIdeal.Point

end
-- ==== Proof.DHQkvVal.lean ====
/-
  The gradient of the mixer's input through the recurrence's projection, added to what came before: what the call leaves in its result array is
  the plain product.
-/
module

public import proofs.«01_k».proof.Proof.Gen.DHQkvIdeal.Value
public import proofs.«01_k».proof.Proof.Gen.DHQkvRefIdeal.Run
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.DHQkvIdeal.Point

open Cert.DHQkvIdeal Cert.DHQkvIdeal.Gen

variable (m : (ℓ : Loc nD τ sig) → Buf (Elt Ideal) ℓ)

/-- What the reference computes. -/
abbrev ref (x0 : FVec Ideal S8192x3072 .bf16) (x1 : FVec Ideal S3072x1024 .bf16) (x2 : FVec Ideal S8192x1024 .f32) : FVec Ideal S8192x1024 .f32 :=
  addf x2 (Host.dotGeneral Cert.DHQkvRefIdeal.dot_S8192x3072_S3072x1024_S8192x1024_1_0_0_1_n_n none (extf .f32 x0 Cert.DHQkvRefIdeal.Gen.bitsLt_bf16_f32) (extf .f32 x1 Cert.DHQkvRefIdeal.Gen.bitsLt_bf16_f32))

/-- The blocks a point of the grid stages. -/
theorem idx : ∀ t : Fin cfg0.N, win0_0.index t = ![t.val, 0]
    ∧ win0_1.index t = ![0, 0]
    ∧ win0_2.index t = ![t.val, 0]
    ∧ win0_3.index t = ![t.val, 0] :=
  (by decide +kernel : ∀ t : Fin grid0.N, _)

/-- The result array after the call. -/
theorem final (c : Dev nD) : (dats m 0 c).arrAt 3 cfg0.N
    = ref (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]; frame_out
  unfold_payloads
  pointwise
  rw [add_comm]
  blk_point [iblk, V, idx t]

end Cert.DHQkvIdeal.Point

end
-- ==== Proof.DHGatesVal.lean ====
/-
  The gradient of the mixer's input through the merge gates' projection, added to what came before: what the call leaves in its result array is
  the plain product.
-/
module

public import proofs.«01_k».proof.Proof.Gen.DHGatesIdeal.Value
public import proofs.«01_k».proof.Proof.Gen.DHGatesRefIdeal.Run
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.DHGatesIdeal.Point

open Cert.DHGatesIdeal Cert.DHGatesIdeal.Gen

variable (m : (ℓ : Loc nD τ sig) → Buf (Elt Ideal) ℓ)

/-- What the reference computes. -/
abbrev ref (x0 : FVec Ideal S8192x2048 .bf16) (x1 : FVec Ideal S2048x1024 .bf16) (x2 : FVec Ideal S8192x1024 .f32) : FVec Ideal S8192x1024 .f32 :=
  addf x2 (Host.dotGeneral Cert.DHGatesRefIdeal.dot_S8192x2048_S2048x1024_S8192x1024_1_0_0_1_n_n none (extf .f32 x0 Cert.DHGatesRefIdeal.Gen.bitsLt_bf16_f32) (extf .f32 x1 Cert.DHGatesRefIdeal.Gen.bitsLt_bf16_f32))

/-- The blocks a point of the grid stages. -/
theorem idx : ∀ t : Fin cfg0.N, win0_0.index t = ![t.val, 0]
    ∧ win0_1.index t = ![0, 0]
    ∧ win0_2.index t = ![t.val, 0]
    ∧ win0_3.index t = ![t.val, 0] :=
  (by decide +kernel : ∀ t : Fin grid0.N, _)

/-- The result array after the call. -/
theorem final (c : Dev nD) : (dats m 0 c).arrAt 3 cfg0.N
    = ref (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]; frame_out
  unfold_payloads
  pointwise
  rw [add_comm]
  blk_point [iblk, V, idx t]

end Cert.DHGatesIdeal.Point

end
-- ==== Proof.DHGzVal.lean ====
/-
  The gradient of the mixer's input through the output gate's projection, added to what came before: what the call leaves in its result array is
  the plain product.
-/
module

public import proofs.«01_k».proof.Proof.Gen.DHGzIdeal.Value
public import proofs.«01_k».proof.Proof.Gen.DHGzRefIdeal.Run
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.DHGzIdeal.Point

open Cert.DHGzIdeal Cert.DHGzIdeal.Gen

variable (m : (ℓ : Loc nD τ sig) → Buf (Elt Ideal) ℓ)

/-- What the reference computes. -/
abbrev ref (x0 : FVec Ideal S8192x1024 .bf16) (x1 : FVec Ideal S1024x1024 .bf16) (x2 : FVec Ideal S8192x1024 .f32) : FVec Ideal S8192x1024 .f32 :=
  addf x2 (Host.dotGeneral Cert.DHGzRefIdeal.dot_S8192x1024_S1024x1024_S8192x1024_1_0_0_1_n_n none (extf .f32 x0 Cert.DHGzRefIdeal.Gen.bitsLt_bf16_f32) (extf .f32 x1 Cert.DHGzRefIdeal.Gen.bitsLt_bf16_f32))

/-- The blocks a point of the grid stages. -/
theorem idx : ∀ t : Fin cfg0.N, win0_0.index t = ![t.val, 0]
    ∧ win0_1.index t = ![0, 0]
    ∧ win0_2.index t = ![t.val, 0]
    ∧ win0_3.index t = ![t.val, 0] :=
  (by decide +kernel : ∀ t : Fin grid0.N, _)

/-- The result array after the call. -/
theorem final (c : Dev nD) : (dats m 0 c).arrAt 3 cfg0.N
    = ref (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]; frame_out
  unfold_payloads
  pointwise
  rw [add_comm]
  blk_point [iblk, V, idx t]

end Cert.DHGzIdeal.Point

end
-- ==== Proof.DwDownVal.lean ====
/-
  The gradient of the down weights: what the call leaves in its result array is
  the plain product.
-/
module

public import proofs.«01_k».proof.Proof.Gen.DwDownIdeal.Value
public import proofs.«01_k».proof.Proof.Gen.DwDownRefIdeal.Run
public import Idealize.ShloMosaic.Lib.Pipeline.ValueKit
public import Idealize.ShloMosaic.Lib.Claim
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.DwDownIdeal.Point

open Cert.DwDownIdeal Cert.DwDownIdeal.Gen

variable (m : (ℓ : Loc nD τ sig) → Buf (Elt Ideal) ℓ)

/-- What the reference computes. -/
abbrev ref (x0 : FVec Ideal S8192x2816 .bf16) (x1 : FVec Ideal S8192x1024 .bf16) : FVec Ideal S2816x1024 .f32 :=
  transpose Cert.DwDownRefIdeal.S2816x1024 [1, 0] (Host.dotGeneral Cert.DwDownRefIdeal.dot_S8192x1024_S8192x2816_S1024x2816_0_0_1_1_n_n none (extf .f32 x1 Cert.DwDownRefIdeal.Gen.bitsLt_bf16_f32) (extf .f32 x0 Cert.DwDownRefIdeal.Gen.bitsLt_bf16_f32)) Cert.DwDownRefIdeal.Gen.transposes_S1024x2816_S2816x1024_1_0

/-- The blocks a point of the grid stages. -/
theorem idx : ∀ t : Fin cfg0.N, win0_0.index t = ![t.val % 4, t.val / 4 % 2]
    ∧ win0_1.index t = ![t.val % 4, 0]
    ∧ win0_2.index t = ![t.val / 4 % 2, 0] :=
  (by decide +kernel : ∀ t : Fin grid0.N, _)

/-- The running sum starts at zero. -/
theorem hzero (j : S1408x1024.Idx) : k0_pay1 (F := Ideal) j = 0 := by pointwise [k0_pay1]

/-- A point adds its part of the contraction to the running sum. -/
theorem hpay (x0 : Vec Ideal S2048x1408 .bf16) (x1 : Vec Ideal S2048x1024 .bf16) (acc : Vec Ideal S1408x1024 .f32) (j : S1408x1024.Idx) :
    k0_pay2 x0 x1 acc j = acc j + ∑ k : Fin 2048, x0 (ix2 k (j 0)) * x1 (ix2 k (j 1)) := by pointwise [k0_pay2]

/-- The reference, index by index. -/
theorem href (x0 : FVec Ideal S8192x2816 .bf16) (x1 : FVec Ideal S8192x1024 .bf16) (j) :
    ref x0 x1 j = ∑ l : Fin 8192, x0 (ix2 l (j 0)) * x1 (ix2 l (j 1)) := by
  pointwise [ref]
  exact Finset.sum_congr rfl fun _ _ => mul_comm _ _

/-- At the last point of a run the stored block is the running sum. -/
theorem stored (c : Dev nD) (t : Fin cfg0.N) (h : t.val % 4 = 3) (j) :
    (outsAt0 m c t.val t.isLt).1 j = (outsAt0 m c t.val t.isLt).2 j := by
  rw [outsAt0_C m c t (by omega) h]; frame_out

/-- The result array after the call. -/
theorem final (c : Dev nD) : (dats m 0 c).arrAt 2 cfg0.N
    = ref (m ((c : Thread nD τ).loc main_arg0)) (m ((c : Thread nD τ).loc main_arg1)) := by
  refine (dats m 0 c).arrAt_eq_of_covers 2 _ (by decide +kernel) fun t hf y => ?_
  blk_simp
  rw [after0_2, stored m c t ((flush0_2 t).mp hf)]
  rw [Pipeline.eq_sum_fin_of_reset_step_apply_of_flush (fun n h => (outsAt0 m c n h).2) 4 (fun _ => 0) _
    (fun t h j => by rw [outsAt0_A m c t h (by omega)]; frame_out; rw [hpay, hzero])
    (fun t h j => by
      by_cases h1 : t.val % 4 = 3
      · rw [outsAt0_C m c t h h1]; frame_out; rw [hpay, read_unread_whole]
      · rw [outsAt0_B m c t h h1]; frame_out; rw [hpay, read_unread_whole])
    t ((flush0_2 t).mp hf) _, zero_add, href]
  refine Fin.sum_mul_add_congr fun s k hl => ?_
  blk_point [iblk, V, idx t, idx ⟨_, Pipeline.run_point_lt_of_flush t ((flush0_2 t).mp hf) s⟩]

end Cert.DwDownIdeal.Point

end
-- ==== Proof.DwUpVal.lean ====
/-
  The gradient of one half of the up weights, in blocks for the reduction over the mesh: what the call leaves in its result array is
  the plain product.
-/
module

public import proofs.«01_k».proof.Proof.Gen.DwUpIdeal.Value
public import proofs.«01_k».proof.Proof.Gen.DwUpRefIdeal.Run
public import Idealize.ShloMosaic.Lib.Pipeline.ValueKit
public import Idealize.ShloMosaic.Lib.Claim
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.DwUpIdeal.Point

open Cert.DwUpIdeal Cert.DwUpIdeal.Gen

variable (m : (ℓ : Loc nD τ sig) → Buf (Elt Ideal) ℓ)

/-- What the reference computes. -/
abbrev ref (x0 : FVec Ideal S8192x1024 .bf16) (x1 : FVec Ideal S8192x2816 .bf16) : FVec Ideal S2x2x512x1408 .f32 :=
  transpose Cert.DwUpRefIdeal.S2x2x512x1408 [0, 2, 1, 3] (shapeCast Cert.DwUpRefIdeal.S2x512x2x1408 (transpose Cert.DwUpRefIdeal.S1024x2816 [1, 0] (Host.dotGeneral Cert.DwUpRefIdeal.dot_S8192x2816_S8192x1024_S2816x1024_0_0_1_1_n_n none (extf .f32 x1 Cert.DwUpRefIdeal.Gen.bitsLt_bf16_f32) (extf .f32 x0 Cert.DwUpRefIdeal.Gen.bitsLt_bf16_f32)) Cert.DwUpRefIdeal.Gen.transposes_S2816x1024_S1024x2816_1_0) Cert.DwUpRefIdeal.Gen.shapeCasts_S1024x2816_S2x512x2x1408) Cert.DwUpRefIdeal.Gen.transposes_S2x512x2x1408_S2x2x512x1408_0_2_1_3

/-- The blocks a point of the grid stages. -/
theorem idx : ∀ t : Fin cfg0.N, win0_0.index t = ![t.val % 2, t.val / 2 % 2]
    ∧ win0_1.index t = ![t.val % 2, t.val / 4]
    ∧ win0_2.index t = ![t.val / 2 % 2, t.val / 4, 0, 0] :=
  (by decide +kernel : ∀ t : Fin grid0.N, _)

/-- The running sum starts at zero. -/
theorem hzero (j : S512x1408.Idx) : k0_pay1 (F := Ideal) j = 0 := by pointwise [k0_pay1]

/-- A point adds its part of the contraction to the running sum. -/
theorem hpay (x0 : Vec Ideal S4096x512 .bf16) (x1 : Vec Ideal S4096x1408 .bf16) (acc : Vec Ideal S512x1408 .f32) (j : S512x1408.Idx) :
    k0_pay2 x0 x1 acc j = acc j + ∑ k : Fin 4096, x0 (ix2 k (j 0)) * x1 (ix2 k (j 1)) := by pointwise [k0_pay2]

/-- The reference, index by index. -/
theorem href (x0 : FVec Ideal S8192x1024 .bf16) (x1 : FVec Ideal S8192x2816 .bf16) (j) :
    ref x0 x1 j = ∑ l : Fin 8192, x0 (ix2 l ⟨(j 0).val * 512 + (j 2).val, by have : (j 0).val < 2 := (j 0).isLt; have : (j 2).val < 512 := (j 2).isLt; omega⟩) * x1 (ix2 l ⟨(j 1).val * 1408 + (j 3).val, by have : (j 1).val < 2 := (j 1).isLt; have : (j 3).val < 1408 := (j 3).isLt; omega⟩) := by
  pointwise [ref]
  exact Finset.sum_congr rfl fun _ _ => mul_comm _ _

/-- At the last point of a run the stored block is the running sum. -/
theorem stored (c : Dev nD) (t : Fin cfg0.N) (h : t.val % 2 = 1) (j) :
    (outsAt0 m c t.val t.isLt).1 j = (outsAt0 m c t.val t.isLt).2 (ix2 (j 2) (j 3)) := by
  rw [outsAt0_B m c t (by omega) h]; frame_out
  pointwise [k0_pay3]

/-- The result array after the call. -/
theorem final (c : Dev nD) : (dats m 0 c).arrAt 2 cfg0.N
    = ref (m ((c : Thread nD τ).loc main_arg0)) (m ((c : Thread nD τ).loc main_arg1)) := by
  refine (dats m 0 c).arrAt_eq_of_covers 2 _ (by decide +kernel) fun t hf y => ?_
  blk_simp
  rw [after0_2, stored m c t ((flush0_2 t).mp hf)]
  rw [Pipeline.eq_sum_fin_of_reset_step_apply_of_flush (fun n h => (outsAt0 m c n h).2) 2 (fun _ => 0) _
    (fun t h j => by rw [outsAt0_A m c t h (by omega)]; frame_out; rw [hpay, hzero])
    (fun t h j => by
      rw [outsAt0_B m c t h (by omega)]; frame_out; rw [hpay, read_unread_whole])
    t ((flush0_2 t).mp hf) _, zero_add, href]
  refine Fin.sum_mul_add_congr fun s k hl => ?_
  blk_point [iblk, V, idx t, idx ⟨_, Pipeline.run_point_lt_of_flush t ((flush0_2 t).mp hf) s⟩]

end Cert.DwUpIdeal.Point

end
-- ==== Proof.DwOutVal.lean ====
/-
  The gradient of a square output weight: what the call leaves in its result array is
  the plain product.
-/
module

public import proofs.«01_k».proof.Proof.Gen.DwOutIdeal.Value
public import proofs.«01_k».proof.Proof.Gen.DwOutRefIdeal.Run
public import Idealize.ShloMosaic.Lib.Pipeline.ValueKit
public import Idealize.ShloMosaic.Lib.Claim
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.DwOutIdeal.Point

open Cert.DwOutIdeal Cert.DwOutIdeal.Gen

variable (m : (ℓ : Loc nD τ sig) → Buf (Elt Ideal) ℓ)

/-- What the reference computes. -/
abbrev ref (x0 : FVec Ideal S8192x1024 .bf16) (x1 : FVec Ideal S8192x1024 .bf16) : FVec Ideal S1024x1024 .f32 :=
  transpose Cert.DwOutRefIdeal.S1024x1024 [1, 0] (Host.dotGeneral Cert.DwOutRefIdeal.dot_S8192x1024_S8192x1024_S1024x1024_0_0_1_1_n_n none (extf .f32 x1 Cert.DwOutRefIdeal.Gen.bitsLt_bf16_f32) (extf .f32 x0 Cert.DwOutRefIdeal.Gen.bitsLt_bf16_f32)) Cert.DwOutRefIdeal.Gen.transposes_S1024x1024_S1024x1024_1_0

/-- The blocks a point of the grid stages. -/
theorem idx : ∀ t : Fin cfg0.N, win0_0.index t = ![t.val % 2, 0]
    ∧ win0_1.index t = ![t.val % 2, 0]
    ∧ win0_2.index t = ![0, 0] :=
  (by decide +kernel : ∀ t : Fin grid0.N, _)

/-- The running sum starts at zero. -/
theorem hzero (j : S1024x1024.Idx) : k0_pay1 (F := Ideal) j = 0 := by pointwise [k0_pay1]

/-- A point adds its part of the contraction to the running sum. -/
theorem hpay (x0 : Vec Ideal S4096x1024 .bf16) (x1 : Vec Ideal S4096x1024 .bf16) (acc : Vec Ideal S1024x1024 .f32) (j : S1024x1024.Idx) :
    k0_pay2 x0 x1 acc j = acc j + ∑ k : Fin 4096, x0 (ix2 k (j 0)) * x1 (ix2 k (j 1)) := by pointwise [k0_pay2]

/-- The reference, index by index. -/
theorem href (x0 : FVec Ideal S8192x1024 .bf16) (x1 : FVec Ideal S8192x1024 .bf16) (j) :
    ref x0 x1 j = ∑ l : Fin 8192, x0 (ix2 l (j 0)) * x1 (ix2 l (j 1)) := by
  pointwise [ref]
  exact Finset.sum_congr rfl fun _ _ => mul_comm _ _

/-- At the last point of a run the stored block is the running sum. -/
theorem stored (c : Dev nD) (t : Fin cfg0.N) (h : t.val % 2 = 1) (j) :
    (outsAt0 m c t.val t.isLt).1 j = (outsAt0 m c t.val t.isLt).2 j := by
  rw [outsAt0_B m c t (by omega) h]; frame_out

/-- The result array after the call. -/
theorem final (c : Dev nD) : (dats m 0 c).arrAt 2 cfg0.N
    = ref (m ((c : Thread nD τ).loc main_arg0)) (m ((c : Thread nD τ).loc main_arg1)) := by
  refine (dats m 0 c).arrAt_eq_of_covers 2 _ (by decide +kernel) fun t hf y => ?_
  blk_simp
  rw [after0_2, stored m c t ((flush0_2 t).mp hf)]
  rw [Pipeline.eq_sum_fin_of_reset_step_apply_of_flush (fun n h => (outsAt0 m c n h).2) 2 (fun _ => 0) _
    (fun t h j => by rw [outsAt0_A m c t h (by omega)]; frame_out; rw [hpay, hzero])
    (fun t h j => by
      rw [outsAt0_B m c t h (by omega)]; frame_out; rw [hpay, read_unread_whole])
    t ((flush0_2 t).mp hf) _, zero_add, href]
  refine Fin.sum_mul_add_congr fun s k hl => ?_
  blk_point [iblk, V, idx t, idx ⟨_, Pipeline.run_point_lt_of_flush t ((flush0_2 t).mp hf) s⟩]

end Cert.DwOutIdeal.Point

end
-- ==== Proof.DwQkvVal.lean ====
/-
  The gradient of a three-part projection weight: what the call leaves in its result array is
  the plain product.
-/
module

public import proofs.«01_k».proof.Proof.Gen.DwQkvIdeal.Value
public import proofs.«01_k».proof.Proof.Gen.DwQkvRefIdeal.Run
public import Idealize.ShloMosaic.Lib.Pipeline.ValueKit
public import Idealize.ShloMosaic.Lib.Claim
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.DwQkvIdeal.Point

open Cert.DwQkvIdeal Cert.DwQkvIdeal.Gen

variable (m : (ℓ : Loc nD τ sig) → Buf (Elt Ideal) ℓ)

/-- What the reference computes. -/
abbrev ref (x0 : FVec Ideal S8192x1024 .bf16) (x1 : FVec Ideal S8192x3072 .bf16) : FVec Ideal S3072x1024 .f32 :=
  Host.dotGeneral Cert.DwQkvRefIdeal.dot_S8192x3072_S8192x1024_S3072x1024_0_0_1_1_n_n none (extf .f32 x1 Cert.DwQkvRefIdeal.Gen.bitsLt_bf16_f32) (extf .f32 x0 Cert.DwQkvRefIdeal.Gen.bitsLt_bf16_f32)

/-- The blocks a point of the grid stages. -/
theorem idx : ∀ t : Fin cfg0.N, win0_0.index t = ![t.val % 2, t.val / 2 % 3]
    ∧ win0_1.index t = ![t.val % 2, 0]
    ∧ win0_2.index t = ![t.val / 2 % 3, 0] :=
  (by decide +kernel : ∀ t : Fin grid0.N, _)

/-- The running sum starts at zero. -/
theorem hzero (j : S1024x1024.Idx) : k0_pay1 (F := Ideal) j = 0 := by pointwise [k0_pay1]

/-- A point adds its part of the contraction to the running sum. -/
theorem hpay (x0 : Vec Ideal S4096x1024 .bf16) (x1 : Vec Ideal S4096x1024 .bf16) (acc : Vec Ideal S1024x1024 .f32) (j : S1024x1024.Idx) :
    k0_pay2 x0 x1 acc j = acc j + ∑ k : Fin 4096, x0 (ix2 k (j 0)) * x1 (ix2 k (j 1)) := by pointwise [k0_pay2]

/-- The reference, index by index. -/
theorem href (x0 : FVec Ideal S8192x1024 .bf16) (x1 : FVec Ideal S8192x3072 .bf16) (j) :
    ref x0 x1 j = ∑ l : Fin 8192, x1 (ix2 l (j 0)) * x0 (ix2 l (j 1)) := by
  pointwise [ref]

/-- At the last point of a run the stored block is the running sum. -/
theorem stored (c : Dev nD) (t : Fin cfg0.N) (h : t.val % 2 = 1) (j) :
    (outsAt0 m c t.val t.isLt).1 j = (outsAt0 m c t.val t.isLt).2 j := by
  rw [outsAt0_B m c t (by omega) h]; frame_out

/-- The result array after the call. -/
theorem final (c : Dev nD) : (dats m 0 c).arrAt 2 cfg0.N
    = ref (m ((c : Thread nD τ).loc main_arg0)) (m ((c : Thread nD τ).loc main_arg1)) := by
  refine (dats m 0 c).arrAt_eq_of_covers 2 _ (by decide +kernel) fun t hf y => ?_
  blk_simp
  rw [after0_2, stored m c t ((flush0_2 t).mp hf)]
  rw [Pipeline.eq_sum_fin_of_reset_step_apply_of_flush (fun n h => (outsAt0 m c n h).2) 2 (fun _ => 0) _
    (fun t h j => by rw [outsAt0_A m c t h (by omega)]; frame_out; rw [hpay, hzero])
    (fun t h j => by
      rw [outsAt0_B m c t h (by omega)]; frame_out; rw [hpay, read_unread_whole])
    t ((flush0_2 t).mp hf) _, zero_add, href]
  refine Fin.sum_mul_add_congr fun s k hl => ?_
  blk_point [iblk, V, idx t, idx ⟨_, Pipeline.run_point_lt_of_flush t ((flush0_2 t).mp hf) s⟩]

end Cert.DwQkvIdeal.Point

end
-- ==== Proof.DwGatesVal.lean ====
/-
  The gradient of the merge gates' weights: what the call leaves in its result array is
  the plain product.
-/
module

public import proofs.«01_k».proof.Proof.Gen.DwGatesIdeal.Value
public import proofs.«01_k».proof.Proof.Gen.DwGatesRefIdeal.Run
public import Idealize.ShloMosaic.Lib.Pipeline.ValueKit
public import Idealize.ShloMosaic.Lib.Claim
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.DwGatesIdeal.Point

open Cert.DwGatesIdeal Cert.DwGatesIdeal.Gen

variable (m : (ℓ : Loc nD τ sig) → Buf (Elt Ideal) ℓ)

/-- What the reference computes. -/
abbrev ref (x0 : FVec Ideal S8192x1024 .bf16) (x1 : FVec Ideal S8192x2048 .bf16) : FVec Ideal S2048x1024 .f32 :=
  Host.dotGeneral Cert.DwGatesRefIdeal.dot_S8192x2048_S8192x1024_S2048x1024_0_0_1_1_n_n none (extf .f32 x1 Cert.DwGatesRefIdeal.Gen.bitsLt_bf16_f32) (extf .f32 x0 Cert.DwGatesRefIdeal.Gen.bitsLt_bf16_f32)

/-- The blocks a point of the grid stages. -/
theorem idx : ∀ t : Fin cfg0.N, win0_0.index t = ![t.val % 2, t.val / 2 % 2]
    ∧ win0_1.index t = ![t.val % 2, 0]
    ∧ win0_2.index t = ![t.val / 2 % 2, 0] :=
  (by decide +kernel : ∀ t : Fin grid0.N, _)

/-- The running sum starts at zero. -/
theorem hzero (j : S1024x1024.Idx) : k0_pay1 (F := Ideal) j = 0 := by pointwise [k0_pay1]

/-- A point adds its part of the contraction to the running sum. -/
theorem hpay (x0 : Vec Ideal S4096x1024 .bf16) (x1 : Vec Ideal S4096x1024 .bf16) (acc : Vec Ideal S1024x1024 .f32) (j : S1024x1024.Idx) :
    k0_pay2 x0 x1 acc j = acc j + ∑ k : Fin 4096, x0 (ix2 k (j 0)) * x1 (ix2 k (j 1)) := by pointwise [k0_pay2]

/-- The reference, index by index. -/
theorem href (x0 : FVec Ideal S8192x1024 .bf16) (x1 : FVec Ideal S8192x2048 .bf16) (j) :
    ref x0 x1 j = ∑ l : Fin 8192, x1 (ix2 l (j 0)) * x0 (ix2 l (j 1)) := by
  pointwise [ref]

/-- At the last point of a run the stored block is the running sum. -/
theorem stored (c : Dev nD) (t : Fin cfg0.N) (h : t.val % 2 = 1) (j) :
    (outsAt0 m c t.val t.isLt).1 j = (outsAt0 m c t.val t.isLt).2 j := by
  rw [outsAt0_B m c t (by omega) h]; frame_out

/-- The result array after the call. -/
theorem final (c : Dev nD) : (dats m 0 c).arrAt 2 cfg0.N
    = ref (m ((c : Thread nD τ).loc main_arg0)) (m ((c : Thread nD τ).loc main_arg1)) := by
  refine (dats m 0 c).arrAt_eq_of_covers 2 _ (by decide +kernel) fun t hf y => ?_
  blk_simp
  rw [after0_2, stored m c t ((flush0_2 t).mp hf)]
  rw [Pipeline.eq_sum_fin_of_reset_step_apply_of_flush (fun n h => (outsAt0 m c n h).2) 2 (fun _ => 0) _
    (fun t h j => by rw [outsAt0_A m c t h (by omega)]; frame_out; rw [hpay, hzero])
    (fun t h j => by
      rw [outsAt0_B m c t h (by omega)]; frame_out; rw [hpay, read_unread_whole])
    t ((flush0_2 t).mp hf) _, zero_add, href]
  refine Fin.sum_mul_add_congr fun s k hl => ?_
  blk_point [iblk, V, idx t, idx ⟨_, Pipeline.run_point_lt_of_flush t ((flush0_2 t).mp hf) s⟩]

end Cert.DwGatesIdeal.Point

end
-- ==== Proof.DwGzVal.lean ====
/-
  The gradient of the output gate's weights: what the call leaves in its result array is
  the plain product.
-/
module

public import proofs.«01_k».proof.Proof.Gen.DwGzIdeal.Value
public import proofs.«01_k».proof.Proof.Gen.DwGzRefIdeal.Run
public import Idealize.ShloMosaic.Lib.Pipeline.ValueKit
public import Idealize.ShloMosaic.Lib.Claim
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.DwGzIdeal.Point

open Cert.DwGzIdeal Cert.DwGzIdeal.Gen

variable (m : (ℓ : Loc nD τ sig) → Buf (Elt Ideal) ℓ)

/-- What the reference computes. -/
abbrev ref (x0 : FVec Ideal S8192x1024 .bf16) (x1 : FVec Ideal S8192x1024 .bf16) : FVec Ideal S1024x1024 .f32 :=
  Host.dotGeneral Cert.DwGzRefIdeal.dot_S8192x1024_S8192x1024_S1024x1024_0_0_1_1_n_n none (extf .f32 x1 Cert.DwGzRefIdeal.Gen.bitsLt_bf16_f32) (extf .f32 x0 Cert.DwGzRefIdeal.Gen.bitsLt_bf16_f32)

/-- The blocks a point of the grid stages. -/
theorem idx : ∀ t : Fin cfg0.N, win0_0.index t = ![t.val % 2, 0]
    ∧ win0_1.index t = ![t.val % 2, 0]
    ∧ win0_2.index t = ![0, 0] :=
  (by decide +kernel : ∀ t : Fin grid0.N, _)

/-- The running sum starts at zero. -/
theorem hzero (j : S1024x1024.Idx) : k0_pay1 (F := Ideal) j = 0 := by pointwise [k0_pay1]

/-- A point adds its part of the contraction to the running sum. -/
theorem hpay (x0 : Vec Ideal S4096x1024 .bf16) (x1 : Vec Ideal S4096x1024 .bf16) (acc : Vec Ideal S1024x1024 .f32) (j : S1024x1024.Idx) :
    k0_pay2 x0 x1 acc j = acc j + ∑ k : Fin 4096, x0 (ix2 k (j 0)) * x1 (ix2 k (j 1)) := by pointwise [k0_pay2]

/-- The reference, index by index. -/
theorem href (x0 : FVec Ideal S8192x1024 .bf16) (x1 : FVec Ideal S8192x1024 .bf16) (j) :
    ref x0 x1 j = ∑ l : Fin 8192, x1 (ix2 l (j 0)) * x0 (ix2 l (j 1)) := by
  pointwise [ref]

/-- At the last point of a run the stored block is the running sum. -/
theorem stored (c : Dev nD) (t : Fin cfg0.N) (h : t.val % 2 = 1) (j) :
    (outsAt0 m c t.val t.isLt).1 j = (outsAt0 m c t.val t.isLt).2 j := by
  rw [outsAt0_B m c t (by omega) h]; frame_out

/-- The result array after the call. -/
theorem final (c : Dev nD) : (dats m 0 c).arrAt 2 cfg0.N
    = ref (m ((c : Thread nD τ).loc main_arg0)) (m ((c : Thread nD τ).loc main_arg1)) := by
  refine (dats m 0 c).arrAt_eq_of_covers 2 _ (by decide +kernel) fun t hf y => ?_
  blk_simp
  rw [after0_2, stored m c t ((flush0_2 t).mp hf)]
  rw [Pipeline.eq_sum_fin_of_reset_step_apply_of_flush (fun n h => (outsAt0 m c n h).2) 2 (fun _ => 0) _
    (fun t h j => by rw [outsAt0_A m c t h (by omega)]; frame_out; rw [hpay, hzero])
    (fun t h j => by
      rw [outsAt0_B m c t h (by omega)]; frame_out; rw [hpay, read_unread_whole])
    t ((flush0_2 t).mp hf) _, zero_add, href]
  refine Fin.sum_mul_add_congr fun s k hl => ?_
  blk_point [iblk, V, idx t, idx ⟨_, Pipeline.run_point_lt_of_flush t ((flush0_2 t).mp hf) s⟩]

end Cert.DwGzIdeal.Point

end
-- ==== Proof.ProjFoxVal.lean ====
/-
  The attention's projection, rounded: what the call leaves in its result array is
  the plain product.
-/
module

public import proofs.«01_k».proof.Proof.Gen.ProjFoxIdeal.Value
public import proofs.«01_k».proof.Proof.Gen.ProjFoxRefIdeal.Run
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.ProjFoxIdeal.Point

open Cert.ProjFoxIdeal Cert.ProjFoxIdeal.Gen

variable (m : (ℓ : Loc nD τ sig) → Buf (Elt Ideal) ℓ)

/-- What the reference computes. -/
abbrev ref (x0 : FVec Ideal S8192x1024 .bf16) (x1 : FVec Ideal S3072x1024 .bf16) : FVec Ideal S8192x3072 .bf16 :=
  truncf .bf16 (Host.dotGeneral Cert.ProjFoxRefIdeal.dot_S8192x1024_S3072x1024_S8192x3072_1_1_0_0_n_n none (extf .f32 x0 Cert.ProjFoxRefIdeal.Gen.bitsLt_bf16_f32) (extf .f32 x1 Cert.ProjFoxRefIdeal.Gen.bitsLt_bf16_f32)) Cert.ProjFoxRefIdeal.Gen.bitsLt_bf16_f32

/-- The blocks a point of the grid stages. -/
theorem idx : ∀ t : Fin cfg0.N, win0_0.index t = ![t.val % 8, 0]
    ∧ win0_1.index t = ![t.val / 8, 0]
    ∧ win0_2.index t = ![t.val % 8, t.val / 8] :=
  (by decide +kernel : ∀ t : Fin grid0.N, _)

/-- The result array after the call. -/
theorem final (c : Dev nD) : (dats m 0 c).arrAt 2 cfg0.N
    = ref (m ((c : Thread nD τ).loc main_arg0)) (m ((c : Thread nD τ).loc main_arg1)) := by
  refine (dats m 0 c).arrAt_eq_of_covers 2 _ (by decide +kernel) fun t _ y => ?_
  blk_simp
  rw [after0_2]; frame_out
  unfold_payloads
  pointwise
  blk_point [iblk, V, idx t]

end Cert.ProjFoxIdeal.Point

end
-- ==== Proof.ProjQkvVal.lean ====
/-
  The recurrence's projection: what the call leaves in its result array is
  the plain product.
-/
module

public import proofs.«01_k».proof.Proof.Gen.ProjQkvIdeal.Value
public import proofs.«01_k».proof.Proof.Gen.ProjQkvRefIdeal.Run
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.ProjQkvIdeal.Point

open Cert.ProjQkvIdeal Cert.ProjQkvIdeal.Gen

variable (m : (ℓ : Loc nD τ sig) → Buf (Elt Ideal) ℓ)

/-- What the reference computes. -/
abbrev ref (x0 : FVec Ideal S8192x1024 .bf16) (x1 : FVec Ideal S3072x1024 .bf16) : FVec Ideal S8192x3072 .f32 :=
  Host.dotGeneral Cert.ProjQkvRefIdeal.dot_S8192x1024_S3072x1024_S8192x3072_1_1_0_0_n_n none (extf .f32 x0 Cert.ProjQkvRefIdeal.Gen.bitsLt_bf16_f32) (extf .f32 x1 Cert.ProjQkvRefIdeal.Gen.bitsLt_bf16_f32)

/-- The blocks a point of the grid stages. -/
theorem idx : ∀ t : Fin cfg0.N, win0_0.index t = ![t.val % 8, 0]
    ∧ win0_1.index t = ![t.val / 8, 0]
    ∧ win0_2.index t = ![t.val % 8, t.val / 8] :=
  (by decide +kernel : ∀ t : Fin grid0.N, _)

/-- The result array after the call. -/
theorem final (c : Dev nD) : (dats m 0 c).arrAt 2 cfg0.N
    = ref (m ((c : Thread nD τ).loc main_arg0)) (m ((c : Thread nD τ).loc main_arg1)) := by
  refine (dats m 0 c).arrAt_eq_of_covers 2 _ (by decide +kernel) fun t _ y => ?_
  blk_simp
  rw [after0_2]; frame_out
  unfold_payloads
  pointwise
  blk_point [iblk, V, idx t]

end Cert.ProjQkvIdeal.Point

end
-- ==== Proof.ProjGatesVal.lean ====
/-
  The merge gates' projection: what the call leaves in its result array is
  the plain product.
-/
module

public import proofs.«01_k».proof.Proof.Gen.ProjGatesIdeal.Value
public import proofs.«01_k».proof.Proof.Gen.ProjGatesRefIdeal.Run
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.ProjGatesIdeal.Point

open Cert.ProjGatesIdeal Cert.ProjGatesIdeal.Gen

variable (m : (ℓ : Loc nD τ sig) → Buf (Elt Ideal) ℓ)

/-- What the reference computes. -/
abbrev ref (x0 : FVec Ideal S8192x1024 .bf16) (x1 : FVec Ideal S2048x1024 .bf16) : FVec Ideal S8192x2048 .f32 :=
  Host.dotGeneral Cert.ProjGatesRefIdeal.dot_S8192x1024_S2048x1024_S8192x2048_1_1_0_0_n_n none (extf .f32 x0 Cert.ProjGatesRefIdeal.Gen.bitsLt_bf16_f32) (extf .f32 x1 Cert.ProjGatesRefIdeal.Gen.bitsLt_bf16_f32)

/-- The blocks a point of the grid stages. -/
theorem idx : ∀ t : Fin cfg0.N, win0_0.index t = ![t.val % 8, 0]
    ∧ win0_1.index t = ![t.val / 8, 0]
    ∧ win0_2.index t = ![t.val % 8, t.val / 8] :=
  (by decide +kernel : ∀ t : Fin grid0.N, _)

/-- The result array after the call. -/
theorem final (c : Dev nD) : (dats m 0 c).arrAt 2 cfg0.N
    = ref (m ((c : Thread nD τ).loc main_arg0)) (m ((c : Thread nD τ).loc main_arg1)) := by
  refine (dats m 0 c).arrAt_eq_of_covers 2 _ (by decide +kernel) fun t _ y => ?_
  blk_simp
  rw [after0_2]; frame_out
  unfold_payloads
  pointwise
  blk_point [iblk, V, idx t]

end Cert.ProjGatesIdeal.Point

end
-- ==== Proof.ProjGzVal.lean ====
/-
  The output gate's projection: what the call leaves in its result array is
  the plain product.
-/
module

public import proofs.«01_k».proof.Proof.Gen.ProjGzIdeal.Value
public import proofs.«01_k».proof.Proof.Gen.ProjGzRefIdeal.Run
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.ProjGzIdeal.Point

open Cert.ProjGzIdeal Cert.ProjGzIdeal.Gen

variable (m : (ℓ : Loc nD τ sig) → Buf (Elt Ideal) ℓ)

/-- What the reference computes. -/
abbrev ref (x0 : FVec Ideal S8192x1024 .bf16) (x1 : FVec Ideal S1024x1024 .bf16) : FVec Ideal S8192x1024 .f32 :=
  Host.dotGeneral Cert.ProjGzRefIdeal.dot_S8192x1024_S1024x1024_S8192x1024_1_1_0_0_n_n none (extf .f32 x0 Cert.ProjGzRefIdeal.Gen.bitsLt_bf16_f32) (extf .f32 x1 Cert.ProjGzRefIdeal.Gen.bitsLt_bf16_f32)

/-- The blocks a point of the grid stages. -/
theorem idx : ∀ t : Fin cfg0.N, win0_0.index t = ![t.val, 0]
    ∧ win0_1.index t = ![0, 0]
    ∧ win0_2.index t = ![t.val, 0] :=
  (by decide +kernel : ∀ t : Fin grid0.N, _)

/-- The result array after the call. -/
theorem final (c : Dev nD) : (dats m 0 c).arrAt 2 cfg0.N
    = ref (m ((c : Thread nD τ).loc main_arg0)) (m ((c : Thread nD τ).loc main_arg1)) := by
  refine (dats m 0 c).arrAt_eq_of_covers 2 _ (by decide +kernel) fun t _ y => ?_
  blk_simp
  rw [after0_2]; frame_out
  unfold_payloads
  pointwise
  blk_point [iblk, V, idx t]

end Cert.ProjGzIdeal.Point

end
-- ==== Proof.BranchVal.lean ====
/-
  A branch's output product: what the call leaves in its result array is
  the plain product.
-/
module

public import proofs.«01_k».proof.Proof.Gen.BranchIdeal.Value
public import proofs.«01_k».proof.Proof.Gen.BranchRefIdeal.Run
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.BranchIdeal.Point

open Cert.BranchIdeal Cert.BranchIdeal.Gen

variable (m : (ℓ : Loc nD τ sig) → Buf (Elt Ideal) ℓ)

/-- What the reference computes. -/
abbrev ref (x0 : FVec Ideal S8192x1024 .bf16) (x1 : FVec Ideal S1024x1024 .bf16) : FVec Ideal S8192x1024 .f32 :=
  Host.dotGeneral Cert.BranchRefIdeal.dot_S8192x1024_S1024x1024_S8192x1024_1_0_0_1_n_n none (extf .f32 x0 Cert.BranchRefIdeal.Gen.bitsLt_bf16_f32) (extf .f32 x1 Cert.BranchRefIdeal.Gen.bitsLt_bf16_f32)

/-- The blocks a point of the grid stages. -/
theorem idx : ∀ t : Fin cfg0.N, win0_0.index t = ![t.val, 0]
    ∧ win0_1.index t = ![0, 0]
    ∧ win0_2.index t = ![t.val, 0] :=
  (by decide +kernel : ∀ t : Fin grid0.N, _)

/-- The result array after the call. -/
theorem final (c : Dev nD) : (dats m 0 c).arrAt 2 cfg0.N
    = ref (m ((c : Thread nD τ).loc main_arg0)) (m ((c : Thread nD τ).loc main_arg1)) := by
  refine (dats m 0 c).arrAt_eq_of_covers 2 _ (by decide +kernel) fun t _ y => ?_
  blk_simp
  rw [after0_2]; frame_out
  unfold_payloads
  pointwise
  blk_point [iblk, V, idx t]

end Cert.BranchIdeal.Point

end
-- ==== Proof.UpVal.lean ====
/-
  One half of the feed-forward's up product: what the call leaves in its result array is
  the plain product.
-/
module

public import proofs.«01_k».proof.Proof.Gen.UpIdeal.Value
public import proofs.«01_k».proof.Proof.Gen.UpRefIdeal.Run
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.UpIdeal.Point

open Cert.UpIdeal Cert.UpIdeal.Gen

variable (m : (ℓ : Loc nD τ sig) → Buf (Elt Ideal) ℓ)

/-- What the reference computes. -/
abbrev ref (x0 : FVec Ideal S8192x1024 .bf16) (x1 : FVec Ideal S1024x2816 .bf16) : FVec Ideal S8192x2816 .f32 :=
  Host.dotGeneral Cert.UpRefIdeal.dot_S8192x1024_S1024x2816_S8192x2816_1_0_0_1_n_n none (extf .f32 x0 Cert.UpRefIdeal.Gen.bitsLt_bf16_f32) (extf .f32 x1 Cert.UpRefIdeal.Gen.bitsLt_bf16_f32)

/-- The blocks a point of the grid stages. -/
theorem idx : ∀ t : Fin cfg0.N, win0_0.index t = ![t.val % 8, 0]
    ∧ win0_1.index t = ![0, t.val / 8]
    ∧ win0_2.index t = ![t.val % 8, t.val / 8] :=
  (by decide +kernel : ∀ t : Fin grid0.N, _)

/-- The result array after the call. -/
theorem final (c : Dev nD) : (dats m 0 c).arrAt 2 cfg0.N
    = ref (m ((c : Thread nD τ).loc main_arg0)) (m ((c : Thread nD τ).loc main_arg1)) := by
  refine (dats m 0 c).arrAt_eq_of_covers 2 _ (by decide +kernel) fun t _ y => ?_
  blk_simp
  rw [after0_2]; frame_out
  unfold_payloads
  pointwise
  blk_point [iblk, V, idx t]

end Cert.UpIdeal.Point

end
-- ==== Proof.Products.lean ====
/-
  The products of the step: for each call the claim that its result is the plain product's, and the
  frame of the plain product.
-/
module

public import proofs.«01_k».proof.Defs
public import proofs.«01_k».proof.Proof.DActVal
public import proofs.«01_k».proof.Proof.DHn2Val
public import proofs.«01_k».proof.Proof.DBranchVal
public import proofs.«01_k».proof.Proof.DHFoxVal
public import proofs.«01_k».proof.Proof.DHQkvVal
public import proofs.«01_k».proof.Proof.DHGatesVal
public import proofs.«01_k».proof.Proof.DHGzVal
public import proofs.«01_k».proof.Proof.DwDownVal
public import proofs.«01_k».proof.Proof.DwUpVal
public import proofs.«01_k».proof.Proof.DwOutVal
public import proofs.«01_k».proof.Proof.DwQkvVal
public import proofs.«01_k».proof.Proof.DwGatesVal
public import proofs.«01_k».proof.Proof.DwGzVal
public import proofs.«01_k».proof.Proof.ProjFoxVal
public import proofs.«01_k».proof.Proof.ProjQkvVal
public import proofs.«01_k».proof.Proof.ProjGatesVal
public import proofs.«01_k».proof.Proof.ProjGzVal
public import proofs.«01_k».proof.Proof.BranchVal
public import proofs.«01_k».proof.Proof.UpVal
public import Idealize.ShloMosaic.Lib.Claim
public import Idealize.ShloMosaic.Lib.Quiescent

@[expose] public section

set_option maxRecDepth 16384

noncomputable section

open Idealize.ShloMosaic Idealize.ShloMosaic.TcCoe Idealize.SL.Sem

namespace Cert.Proof.DAct

/-- The gradient of the feed-forward's activation: the cotangent times the transposed down weights: the call's result is the reference's. -/
theorem algebraic : Cert.algebraic_DActIdeal_DActRefIdeal := by
  pair_intro
  · run_from Cert.DActIdeal.Value.run_blocks m g
  · hlo_run
    · exact (Cert.DActIdeal.Point.final m c).symm

/-- The reference runs on the host and keeps its arguments. -/
theorem frame_ref : Cert.quiescent_DActRefIdeal := by
  intro m g _
  exact (θ_run Cert.DActRefIdeal.defs _ _).mono
    (fun r h => ⟨fun c => (h c).2, Idealize.ShloMosaic.sem_eq_zero_of_no_sems (by decide) r.2⟩)
    (Cert.DActRefIdeal.Value.run (F := Ideal) m g)

end Cert.Proof.DAct

namespace Cert.Proof.DHn2

/-- The gradient of the feed-forward's input through one of its two halves: the call's result is the reference's. -/
theorem algebraic : Cert.algebraic_DHn2Ideal_DHn2RefIdeal := by
  pair_intro
  · run_from Cert.DHn2Ideal.Value.run_blocks m g
  · hlo_run
    · exact (Cert.DHn2Ideal.Point.final m c).symm

/-- The reference runs on the host and keeps its arguments. -/
theorem frame_ref : Cert.quiescent_DHn2RefIdeal := by
  intro m g _
  exact (θ_run Cert.DHn2RefIdeal.defs _ _).mono
    (fun r h => ⟨fun c => (h c).2, Idealize.ShloMosaic.sem_eq_zero_of_no_sems (by decide) r.2⟩)
    (Cert.DHn2RefIdeal.Value.run (F := Ideal) m g)

end Cert.Proof.DHn2

namespace Cert.Proof.DBranch

/-- The gradient of a branch's output: the cotangent times the transposed branch weights: the call's result is the reference's. -/
theorem algebraic : Cert.algebraic_DBranchIdeal_DBranchRefIdeal := by
  pair_intro
  · run_from Cert.DBranchIdeal.Value.run_blocks m g
  · hlo_run
    · exact (Cert.DBranchIdeal.Point.final m c).symm

/-- The reference runs on the host and keeps its arguments. -/
theorem frame_ref : Cert.quiescent_DBranchRefIdeal := by
  intro m g _
  exact (θ_run Cert.DBranchRefIdeal.defs _ _).mono
    (fun r h => ⟨fun c => (h c).2, Idealize.ShloMosaic.sem_eq_zero_of_no_sems (by decide) r.2⟩)
    (Cert.DBranchRefIdeal.Value.run (F := Ideal) m g)

end Cert.Proof.DBranch

namespace Cert.Proof.DHFox

/-- The gradient of the mixer's input through the attention's projection: the call's result is the reference's. -/
theorem algebraic : Cert.algebraic_DHFoxIdeal_DHFoxRefIdeal := by
  pair_intro
  · run_from Cert.DHFoxIdeal.Value.run_blocks m g
  · hlo_run
    · exact (Cert.DHFoxIdeal.Point.final m c).symm

/-- The reference runs on the host and keeps its arguments. -/
theorem frame_ref : Cert.quiescent_DHFoxRefIdeal := by
  intro m g _
  exact (θ_run Cert.DHFoxRefIdeal.defs _ _).mono
    (fun r h => ⟨fun c => (h c).2, Idealize.ShloMosaic.sem_eq_zero_of_no_sems (by decide) r.2⟩)
    (Cert.DHFoxRefIdeal.Value.run (F := Ideal) m g)

end Cert.Proof.DHFox

namespace Cert.Proof.DHQkv

/-- The gradient of the mixer's input through the recurrence's projection, added to what came before: the call's result is the reference's. -/
theorem algebraic : Cert.algebraic_DHQkvIdeal_DHQkvRefIdeal := by
  pair_intro
  · run_from Cert.DHQkvIdeal.Value.run_blocks m g
  · hlo_run
    · exact (Cert.DHQkvIdeal.Point.final m c).symm

/-- The reference runs on the host and keeps its arguments. -/
theorem frame_ref : Cert.quiescent_DHQkvRefIdeal := by
  intro m g _
  exact (θ_run Cert.DHQkvRefIdeal.defs _ _).mono
    (fun r h => ⟨fun c => (h c).2, Idealize.ShloMosaic.sem_eq_zero_of_no_sems (by decide) r.2⟩)
    (Cert.DHQkvRefIdeal.Value.run (F := Ideal) m g)

end Cert.Proof.DHQkv

namespace Cert.Proof.DHGates

/-- The gradient of the mixer's input through the merge gates' projection, added to what came before: the call's result is the reference's. -/
theorem algebraic : Cert.algebraic_DHGatesIdeal_DHGatesRefIdeal := by
  pair_intro
  · run_from Cert.DHGatesIdeal.Value.run_blocks m g
  · hlo_run
    · exact (Cert.DHGatesIdeal.Point.final m c).symm

/-- The reference runs on the host and keeps its arguments. -/
theorem frame_ref : Cert.quiescent_DHGatesRefIdeal := by
  intro m g _
  exact (θ_run Cert.DHGatesRefIdeal.defs _ _).mono
    (fun r h => ⟨fun c => (h c).2, Idealize.ShloMosaic.sem_eq_zero_of_no_sems (by decide) r.2⟩)
    (Cert.DHGatesRefIdeal.Value.run (F := Ideal) m g)

end Cert.Proof.DHGates

namespace Cert.Proof.DHGz

/-- The gradient of the mixer's input through the output gate's projection, added to what came before: the call's result is the reference's. -/
theorem algebraic : Cert.algebraic_DHGzIdeal_DHGzRefIdeal := by
  pair_intro
  · run_from Cert.DHGzIdeal.Value.run_blocks m g
  · hlo_run
    · exact (Cert.DHGzIdeal.Point.final m c).symm

/-- The reference runs on the host and keeps its arguments. -/
theorem frame_ref : Cert.quiescent_DHGzRefIdeal := by
  intro m g _
  exact (θ_run Cert.DHGzRefIdeal.defs _ _).mono
    (fun r h => ⟨fun c => (h c).2, Idealize.ShloMosaic.sem_eq_zero_of_no_sems (by decide) r.2⟩)
    (Cert.DHGzRefIdeal.Value.run (F := Ideal) m g)

end Cert.Proof.DHGz

namespace Cert.Proof.DwDown

/-- The gradient of the down weights: the call's result is the reference's. -/
theorem algebraic : Cert.algebraic_DwDownIdeal_DwDownRefIdeal := by
  pair_intro
  · run_from Cert.DwDownIdeal.Value.run_blocks m g
  · hlo_run
    · exact (Cert.DwDownIdeal.Point.final m c).symm

/-- The reference runs on the host and keeps its arguments. -/
theorem frame_ref : Cert.quiescent_DwDownRefIdeal := by
  intro m g _
  exact (θ_run Cert.DwDownRefIdeal.defs _ _).mono
    (fun r h => ⟨fun c => (h c).2, Idealize.ShloMosaic.sem_eq_zero_of_no_sems (by decide) r.2⟩)
    (Cert.DwDownRefIdeal.Value.run (F := Ideal) m g)

end Cert.Proof.DwDown

namespace Cert.Proof.DwUp

/-- The gradient of one half of the up weights, in blocks for the reduction over the mesh: the call's result is the reference's. -/
theorem algebraic : Cert.algebraic_DwUpIdeal_DwUpRefIdeal := by
  pair_intro
  · run_from Cert.DwUpIdeal.Value.run_blocks m g
  · hlo_run
    · exact (Cert.DwUpIdeal.Point.final m c).symm

/-- The reference runs on the host and keeps its arguments. -/
theorem frame_ref : Cert.quiescent_DwUpRefIdeal := by
  intro m g _
  exact (θ_run Cert.DwUpRefIdeal.defs _ _).mono
    (fun r h => ⟨fun c => (h c).2, Idealize.ShloMosaic.sem_eq_zero_of_no_sems (by decide) r.2⟩)
    (Cert.DwUpRefIdeal.Value.run (F := Ideal) m g)

end Cert.Proof.DwUp

namespace Cert.Proof.DwOut

/-- The gradient of a square output weight: the call's result is the reference's. -/
theorem algebraic : Cert.algebraic_DwOutIdeal_DwOutRefIdeal := by
  pair_intro
  · run_from Cert.DwOutIdeal.Value.run_blocks m g
  · hlo_run
    · exact (Cert.DwOutIdeal.Point.final m c).symm

/-- The reference runs on the host and keeps its arguments. -/
theorem frame_ref : Cert.quiescent_DwOutRefIdeal := by
  intro m g _
  exact (θ_run Cert.DwOutRefIdeal.defs _ _).mono
    (fun r h => ⟨fun c => (h c).2, Idealize.ShloMosaic.sem_eq_zero_of_no_sems (by decide) r.2⟩)
    (Cert.DwOutRefIdeal.Value.run (F := Ideal) m g)

end Cert.Proof.DwOut

namespace Cert.Proof.DwQkv

/-- The gradient of a three-part projection weight: the call's result is the reference's. -/
theorem algebraic : Cert.algebraic_DwQkvIdeal_DwQkvRefIdeal := by
  pair_intro
  · run_from Cert.DwQkvIdeal.Value.run_blocks m g
  · hlo_run
    · exact (Cert.DwQkvIdeal.Point.final m c).symm

/-- The reference runs on the host and keeps its arguments. -/
theorem frame_ref : Cert.quiescent_DwQkvRefIdeal := by
  intro m g _
  exact (θ_run Cert.DwQkvRefIdeal.defs _ _).mono
    (fun r h => ⟨fun c => (h c).2, Idealize.ShloMosaic.sem_eq_zero_of_no_sems (by decide) r.2⟩)
    (Cert.DwQkvRefIdeal.Value.run (F := Ideal) m g)

end Cert.Proof.DwQkv

namespace Cert.Proof.DwGates

/-- The gradient of the merge gates' weights: the call's result is the reference's. -/
theorem algebraic : Cert.algebraic_DwGatesIdeal_DwGatesRefIdeal := by
  pair_intro
  · run_from Cert.DwGatesIdeal.Value.run_blocks m g
  · hlo_run
    · exact (Cert.DwGatesIdeal.Point.final m c).symm

/-- The reference runs on the host and keeps its arguments. -/
theorem frame_ref : Cert.quiescent_DwGatesRefIdeal := by
  intro m g _
  exact (θ_run Cert.DwGatesRefIdeal.defs _ _).mono
    (fun r h => ⟨fun c => (h c).2, Idealize.ShloMosaic.sem_eq_zero_of_no_sems (by decide) r.2⟩)
    (Cert.DwGatesRefIdeal.Value.run (F := Ideal) m g)

end Cert.Proof.DwGates

namespace Cert.Proof.DwGz

/-- The gradient of the output gate's weights: the call's result is the reference's. -/
theorem algebraic : Cert.algebraic_DwGzIdeal_DwGzRefIdeal := by
  pair_intro
  · run_from Cert.DwGzIdeal.Value.run_blocks m g
  · hlo_run
    · exact (Cert.DwGzIdeal.Point.final m c).symm

/-- The reference runs on the host and keeps its arguments. -/
theorem frame_ref : Cert.quiescent_DwGzRefIdeal := by
  intro m g _
  exact (θ_run Cert.DwGzRefIdeal.defs _ _).mono
    (fun r h => ⟨fun c => (h c).2, Idealize.ShloMosaic.sem_eq_zero_of_no_sems (by decide) r.2⟩)
    (Cert.DwGzRefIdeal.Value.run (F := Ideal) m g)

end Cert.Proof.DwGz

namespace Cert.Proof.ProjFox

/-- The attention's projection, rounded: the call's result is the reference's. -/
theorem algebraic : Cert.algebraic_ProjFoxIdeal_ProjFoxRefIdeal := by
  pair_intro
  · run_from Cert.ProjFoxIdeal.Value.run_blocks m g
  · hlo_run
    · exact (Cert.ProjFoxIdeal.Point.final m c).symm

/-- The reference runs on the host and keeps its arguments. -/
theorem frame_ref : Cert.quiescent_ProjFoxRefIdeal := by
  intro m g _
  exact (θ_run Cert.ProjFoxRefIdeal.defs _ _).mono
    (fun r h => ⟨fun c => (h c).2, Idealize.ShloMosaic.sem_eq_zero_of_no_sems (by decide) r.2⟩)
    (Cert.ProjFoxRefIdeal.Value.run (F := Ideal) m g)

end Cert.Proof.ProjFox

namespace Cert.Proof.ProjQkv

/-- The recurrence's projection: the call's result is the reference's. -/
theorem algebraic : Cert.algebraic_ProjQkvIdeal_ProjQkvRefIdeal := by
  pair_intro
  · run_from Cert.ProjQkvIdeal.Value.run_blocks m g
  · hlo_run
    · exact (Cert.ProjQkvIdeal.Point.final m c).symm

/-- The reference runs on the host and keeps its arguments. -/
theorem frame_ref : Cert.quiescent_ProjQkvRefIdeal := by
  intro m g _
  exact (θ_run Cert.ProjQkvRefIdeal.defs _ _).mono
    (fun r h => ⟨fun c => (h c).2, Idealize.ShloMosaic.sem_eq_zero_of_no_sems (by decide) r.2⟩)
    (Cert.ProjQkvRefIdeal.Value.run (F := Ideal) m g)

end Cert.Proof.ProjQkv

namespace Cert.Proof.ProjGates

/-- The merge gates' projection: the call's result is the reference's. -/
theorem algebraic : Cert.algebraic_ProjGatesIdeal_ProjGatesRefIdeal := by
  pair_intro
  · run_from Cert.ProjGatesIdeal.Value.run_blocks m g
  · hlo_run
    · exact (Cert.ProjGatesIdeal.Point.final m c).symm

/-- The reference runs on the host and keeps its arguments. -/
theorem frame_ref : Cert.quiescent_ProjGatesRefIdeal := by
  intro m g _
  exact (θ_run Cert.ProjGatesRefIdeal.defs _ _).mono
    (fun r h => ⟨fun c => (h c).2, Idealize.ShloMosaic.sem_eq_zero_of_no_sems (by decide) r.2⟩)
    (Cert.ProjGatesRefIdeal.Value.run (F := Ideal) m g)

end Cert.Proof.ProjGates

namespace Cert.Proof.ProjGz

/-- The output gate's projection: the call's result is the reference's. -/
theorem algebraic : Cert.algebraic_ProjGzIdeal_ProjGzRefIdeal := by
  pair_intro
  · run_from Cert.ProjGzIdeal.Value.run_blocks m g
  · hlo_run
    · exact (Cert.ProjGzIdeal.Point.final m c).symm

/-- The reference runs on the host and keeps its arguments. -/
theorem frame_ref : Cert.quiescent_ProjGzRefIdeal := by
  intro m g _
  exact (θ_run Cert.ProjGzRefIdeal.defs _ _).mono
    (fun r h => ⟨fun c => (h c).2, Idealize.ShloMosaic.sem_eq_zero_of_no_sems (by decide) r.2⟩)
    (Cert.ProjGzRefIdeal.Value.run (F := Ideal) m g)

end Cert.Proof.ProjGz

namespace Cert.Proof.Branch

/-- A branch's output product: the call's result is the reference's. -/
theorem algebraic : Cert.algebraic_BranchIdeal_BranchRefIdeal := by
  pair_intro
  · run_from Cert.BranchIdeal.Value.run_blocks m g
  · hlo_run
    · exact (Cert.BranchIdeal.Point.final m c).symm

/-- The reference runs on the host and keeps its arguments. -/
theorem frame_ref : Cert.quiescent_BranchRefIdeal := by
  intro m g _
  exact (θ_run Cert.BranchRefIdeal.defs _ _).mono
    (fun r h => ⟨fun c => (h c).2, Idealize.ShloMosaic.sem_eq_zero_of_no_sems (by decide) r.2⟩)
    (Cert.BranchRefIdeal.Value.run (F := Ideal) m g)

end Cert.Proof.Branch

namespace Cert.Proof.Up

/-- One half of the feed-forward's up product: the call's result is the reference's. -/
theorem algebraic : Cert.algebraic_UpIdeal_UpRefIdeal := by
  pair_intro
  · run_from Cert.UpIdeal.Value.run_blocks m g
  · hlo_run
    · exact (Cert.UpIdeal.Point.final m c).symm

/-- The reference runs on the host and keeps its arguments. -/
theorem frame_ref : Cert.quiescent_UpRefIdeal := by
  intro m g _
  exact (θ_run Cert.UpRefIdeal.defs _ _).mono
    (fun r h => ⟨fun c => (h c).2, Idealize.ShloMosaic.sem_eq_zero_of_no_sems (by decide) r.2⟩)
    (Cert.UpRefIdeal.Value.run (F := Ideal) m g)

end Cert.Proof.Up

end
-- ==== Proof.FoxBwdIdealLoop.lean ====
/- The outer loop over the key blocks of the attention's backward call: its invariant, by one trip at a symbolic block. -/
module

public import proofs.«01_k».proof.Proof.Gen.FoxBwdIdeal.Loops
public import Idealize.ShloMosaic.Lib.Tactic

@[expose] public section

set_option maxRecDepth 16384
set_option maxHeartbeats 4000000

noncomputable section

namespace Cert.FoxBwdIdeal.Outer

open Cert.FoxBwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄G" => MT nD τ sig Unit (Elt F) ℕ (UR sig nD τ) ℕ

/-- The inner loop's invariant with the parameters its body does not read put at fixed values. -/
@[sl_loop] def inner (𝒱 : Variants) (c : Dev nD) (bd : Option 𝒱.V) (E : Set ℕ) (i : grid0.Coords) (arg2 : Memref sig .tc .vmem S2048x128 .bf16) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S2048x128 .bf16) (harg6 : arg6.IsWhole) (arg7 : Memref sig .tc .vmem S2048x128 .bf16) (harg7 : arg7.IsWhole) (arg8 : Memref sig .tc .vmem S1x2x2048x1 .f32) (harg8 : arg8.IsWhole) (arg9 : Memref sig .tc .vmem S1x2x1x2048 .f32) (harg9 : arg9.IsWhole) (arg10 : Memref sig .tc .vmem S2048x256 .f32) (harg10 : arg10.IsWhole) (arg11 : Memref sig .tc .vmem S1x2x2048x1 .f32) (harg11 : arg11.IsWhole) (arg12 : Memref sig .tc .vmem S2048x256 .f32) (harg12 : arg12.IsWhole) (arg13 : Memref sig .tc .vmem S2048x768 .bf16) (harg13 : arg13.IsWhole) (arg14 : Memref sig .tc .vmem S1x2x2048x1 .f32) (harg14 : arg14.IsWhole) (arg15 : Memref sig .tc .vmem S1x2x1x2048 .f32) (harg15 : arg15.IsWhole) (arg16 : Memref sig .tc .vmem S2x2048x128 .f32) (harg16 : arg16.IsWhole) (arg17 : Memref sig .tc .vmem S2x2048x1 .f32) (harg17 : arg17.IsWhole) (arg18 : Memref sig .tc .vmem S2x2048x1 .f32) (harg18 : arg18.IsWhole) (k0_t2 : Fin k0_t2_loop.trips) (v15 : Vec F S512x128 .bf16) (v17 : Vec F S512x128 .bf16) (v19 : Vec F S512x128 .bf16) (v21 : Vec F S512x128 .bf16) (v24 : FVec F S1x512 .f32) (v27 : FVec F S1x512 .f32) (v145 : BitVec 32) (X_arg2 : BufTy.Contents (Elt F) arg2.view.ty) (X_arg5 : BufTy.Contents (Elt F) arg5.view.ty) (X_arg12 : BufTy.Contents (Elt F) arg12.view.ty) (X_arg17 : BufTy.Contents (Elt F) arg17.view.ty) (X_arg18 : BufTy.Contents (Elt F) arg18.view.ty) (G_arg14 : BufTy.Contents (Elt F) arg14.view.ty) (G_arg16 : BufTy.Contents (Elt F) arg16.view.ty) (init : FVec F S512x128 .f32 × FVec F S512x128 .f32 × FVec F S1x512 .f32 × FVec F S512x128 .f32 × FVec F S512x128 .f32 × FVec F S1x512 .f32) :=
  loopInv_k0_t3 (F := F) 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 k0_t2 (0 : BitVec 32) (0 : BitVec 32) v15 v17 v19 v21 v24 v27 v24 v24 (0 : BitVec 32) (fun _ => Scalar.ofBits .f32 0x00000000#32) (fun _ => Scalar.ofBits .f32 0x00000000#32) (fun _ => Scalar.ofBits .f32 0x00000000#32) (fun _ => Scalar.ofBits .f32 0x00000000#32) (fun _ => Scalar.ofBits .f32 0x00000000#32) (fun _ => Scalar.ofBits .f32 0x00000000#32) v145 X_arg2 X_arg5 X_arg12 X_arg17 X_arg18 G_arg14 G_arg16 init

/-- The remainder loop takes no trip, whatever the key block. -/
theorem tail_trips : ∀ k : Fin k0_t2_loop.trips, (k0_t4_loop k).trips = 0 := by decide +kernel

/-- The remainder loop's invariant: it takes no trip, so the carried value is the one it starts from. -/
@[sl_loop] def tail (𝒱 : Variants) (c : Dev nD) (bd : Option 𝒱.V) (E : Set ℕ) (k : Fin k0_t2_loop.trips) (init : FVec F S512x128 .f32 × FVec F S512x128 .f32 × FVec F S1x512 .f32 × FVec F S512x128 .f32 × FVec F S512x128 .f32 × FVec F S1x512 .f32)
    (body : Fin (k0_t4_loop k).trips → FVec F S512x128 .f32 × FVec F S512x128 .f32 × FVec F S1x512 .f32 × FVec F S512x128 .f32 × FVec F S512x128 .f32 × FVec F S1x512 .f32 → Prog (TpuEff nD τ sig (Elt F) Λ₀ .tc) (FVec F S512x128 .f32 × FVec F S512x128 .f32 × FVec F S1x512 .f32 × FVec F S512x128 .f32 × FVec F S512x128 .f32 × FVec F S1x512 .f32)) :
    LoopInv (M := 𝕄G) frame (wpE (defs₀ (F := F)) 𝒱 (c : Thread nD τ) bd) E
      (k0_t4_loop k).lb (k0_t4_loop k).ub (k0_t4_loop k).st (k0_t4_ok k) init body where
  inv _ acc := iprop(⌜acc = init⌝)
  step j acc := absurd j.isLt (by have h := tail_trips k; unfold Scf.Loop.trips at h; omega)

/-- What one trip touches: the operands it reads at their contents, the four buffers it writes at any. -/
abbrev Trip (c : Dev nD) (arg2 : Memref sig .tc .vmem S2048x128 .bf16) (arg3 : Memref sig .tc .vmem S2048x128 .bf16) (arg4 : Memref sig .tc .vmem S2048x128 .bf16) (arg5 : Memref sig .tc .vmem S2048x128 .bf16) (arg6 : Memref sig .tc .vmem S2048x128 .bf16) (arg7 : Memref sig .tc .vmem S2048x128 .bf16) (arg9 : Memref sig .tc .vmem S1x2x1x2048 .f32) (arg12 : Memref sig .tc .vmem S2048x256 .f32) (arg17 : Memref sig .tc .vmem S2x2048x1 .f32) (arg18 : Memref sig .tc .vmem S2x2048x1 .f32) (arg13 : Memref sig .tc .vmem S2048x768 .bf16) (arg14 : Memref sig .tc .vmem S1x2x2048x1 .f32) (arg15 : Memref sig .tc .vmem S1x2x1x2048 .f32) (arg16 : Memref sig .tc .vmem S2x2048x128 .f32) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg9 : BufTy.Contents (Elt F) arg9.view.ty) (X_arg12 : BufTy.Contents (Elt F) arg12.view.ty) (X_arg17 : BufTy.Contents (Elt F) arg17.view.ty) (X_arg18 : BufTy.Contents (Elt F) arg18.view.ty) (f_arg13 : BufTy.Contents (Elt F) arg13.view.ty) (f_arg14 : BufTy.Contents (Elt F) arg14.view.ty) (f_arg15 : BufTy.Contents (Elt F) arg15.view.ty) (f_arg16 : BufTy.Contents (Elt F) arg16.view.ty) : sProp 𝕄G :=
  iprop((arg2.view.loc (c : Thread nD τ) ↦[arg2.view.set]{fullShare} X_arg2) ∗ (arg3.view.loc (c : Thread nD τ) ↦[arg3.view.set]{fullShare} X_arg3) ∗ (arg4.view.loc (c : Thread nD τ) ↦[arg4.view.set]{fullShare} X_arg4) ∗ (arg5.view.loc (c : Thread nD τ) ↦[arg5.view.set]{fullShare} X_arg5) ∗ (arg6.view.loc (c : Thread nD τ) ↦[arg6.view.set]{fullShare} X_arg6) ∗ (arg7.view.loc (c : Thread nD τ) ↦[arg7.view.set]{fullShare} X_arg7) ∗ (arg9.view.loc (c : Thread nD τ) ↦[arg9.view.set]{fullShare} X_arg9) ∗ (arg12.view.loc (c : Thread nD τ) ↦[arg12.view.set]{fullShare} X_arg12) ∗ (arg17.view.loc (c : Thread nD τ) ↦[arg17.view.set]{fullShare} X_arg17) ∗ (arg18.view.loc (c : Thread nD τ) ↦[arg18.view.set]{fullShare} X_arg18) ∗ (arg13.view.loc (c : Thread nD τ) ↦[arg13.view.set]{fullShare} f_arg13) ∗ (arg14.view.loc (c : Thread nD τ) ↦[arg14.view.set]{fullShare} f_arg14) ∗ (arg15.view.loc (c : Thread nD τ) ↦[arg15.view.set]{fullShare} f_arg15) ∗ (arg16.view.loc (c : Thread nD τ) ↦[arg16.view.set]{fullShare} f_arg16))

/-- One trip at a symbolic key block: the pieces it leaves in the four written buffers, found by the run. -/
@[irreducible] def trip (𝒱 : Variants) (c : Dev nD) (bd : Option 𝒱.V) (i : grid0.Coords) (arg2 : Memref sig .tc .vmem S2048x128 .bf16) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S2048x128 .bf16) (harg6 : arg6.IsWhole) (arg7 : Memref sig .tc .vmem S2048x128 .bf16) (harg7 : arg7.IsWhole) (arg8 : Memref sig .tc .vmem S1x2x2048x1 .f32) (harg8 : arg8.IsWhole) (arg9 : Memref sig .tc .vmem S1x2x1x2048 .f32) (harg9 : arg9.IsWhole) (arg10 : Memref sig .tc .vmem S2048x256 .f32) (harg10 : arg10.IsWhole) (arg11 : Memref sig .tc .vmem S1x2x2048x1 .f32) (harg11 : arg11.IsWhole) (arg12 : Memref sig .tc .vmem S2048x256 .f32) (harg12 : arg12.IsWhole) (arg13 : Memref sig .tc .vmem S2048x768 .bf16) (harg13 : arg13.IsWhole) (arg14 : Memref sig .tc .vmem S1x2x2048x1 .f32) (harg14 : arg14.IsWhole) (arg15 : Memref sig .tc .vmem S1x2x1x2048 .f32) (harg15 : arg15.IsWhole) (arg16 : Memref sig .tc .vmem S2x2048x128 .f32) (harg16 : arg16.IsWhole) (arg17 : Memref sig .tc .vmem S2x2048x1 .f32) (harg17 : arg17.IsWhole) (arg18 : Memref sig .tc .vmem S2x2048x1 .f32) (harg18 : arg18.IsWhole) (v0 : IVec S512x512 32) (v1 : IVec S512x512 32) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg9 : BufTy.Contents (Elt F) arg9.view.ty) (X_arg12 : BufTy.Contents (Elt F) arg12.view.ty) (X_arg17 : BufTy.Contents (Elt F) arg17.view.ty) (X_arg18 : BufTy.Contents (Elt F) arg18.view.ty) (k : Fin k0_t2_loop.trips) (acc : Unit) :
    Σ' (L_arg13 : BufTy.Contents (Elt F) arg14.view.ty → BufTy.Contents (Elt F) arg16.view.ty → List (View.Piece (Elt F) S2048x768 .bf16)) (L_arg14 : BufTy.Contents (Elt F) arg14.view.ty → BufTy.Contents (Elt F) arg16.view.ty → List (View.Piece (Elt F) S1x2x2048x1 .f32)) (L_arg15 : BufTy.Contents (Elt F) arg14.view.ty → BufTy.Contents (Elt F) arg16.view.ty → List (View.Piece (Elt F) S1x2x1x2048 .f32)), { L_arg16 : BufTy.Contents (Elt F) arg14.view.ty → BufTy.Contents (Elt F) arg16.view.ty → List (View.Piece (Elt F) S2x2048x128 .f32) // ∀ (E : Set ℕ) (f_arg13 : BufTy.Contents (Elt F) arg13.view.ty) (f_arg14 : BufTy.Contents (Elt F) arg14.view.ty) (f_arg15 : BufTy.Contents (Elt F) arg15.view.ty) (f_arg16 : BufTy.Contents (Elt F) arg16.view.ty),
      Trip (F := F) c arg2 arg3 arg4 arg5 arg6 arg7 arg9 arg12 arg17 arg18 arg13 arg14 arg15 arg16 X_arg2 X_arg3 X_arg4 X_arg5 X_arg6 X_arg7 X_arg9 X_arg12 X_arg17 X_arg18 f_arg13 f_arg14 f_arg15 f_arg16
      ⊢ wp frame (wpE (defs₀ (F := F)) 𝒱 (c : Thread nD τ) bd) E (k0_t2_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v0 v1 k acc)
          (fun _ => Trip (F := F) c arg2 arg3 arg4 arg5 arg6 arg7 arg9 arg12 arg17 arg18 arg13 arg14 arg15 arg16 X_arg2 X_arg3 X_arg4 X_arg5 X_arg6 X_arg7 X_arg9 X_arg12 X_arg17 X_arg18 (arg13.view.writes (Elt F) f_arg13 (L_arg13 f_arg14 f_arg16)) (arg14.view.writes (Elt F) f_arg14 (L_arg14 f_arg14 f_arg16)) (arg15.view.writes (Elt F) f_arg15 (L_arg15 f_arg14 f_arg16)) (arg16.view.writes (Elt F) f_arg16 (L_arg16 f_arg14 f_arg16))) } := by
  refine ⟨?_, ?_, ?_, ?_, fun E f_arg13 f_arg14 f_arg15 f_arg16 => ?run⟩
  case run =>
    unfold k0_t2_body
    iintro ⟨HR_arg2, HR_arg3, HR_arg4, HR_arg5, HR_arg6, HR_arg7, HR_arg9, HR_arg12, HR_arg17, HR_arg18, HW_arg13, HW_arg14, HW_arg15, HW_arg16⟩
    sl_exec
    sl_step
    sl_close

/-- One more trip's pieces in front of those of the trips before. -/
@[irreducible] def step (𝒱 : Variants) (c : Dev nD) (bd : Option 𝒱.V) (i : grid0.Coords) (arg2 : Memref sig .tc .vmem S2048x128 .bf16) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S2048x128 .bf16) (harg6 : arg6.IsWhole) (arg7 : Memref sig .tc .vmem S2048x128 .bf16) (harg7 : arg7.IsWhole) (arg8 : Memref sig .tc .vmem S1x2x2048x1 .f32) (harg8 : arg8.IsWhole) (arg9 : Memref sig .tc .vmem S1x2x1x2048 .f32) (harg9 : arg9.IsWhole) (arg10 : Memref sig .tc .vmem S2048x256 .f32) (harg10 : arg10.IsWhole) (arg11 : Memref sig .tc .vmem S1x2x2048x1 .f32) (harg11 : arg11.IsWhole) (arg12 : Memref sig .tc .vmem S2048x256 .f32) (harg12 : arg12.IsWhole) (arg13 : Memref sig .tc .vmem S2048x768 .bf16) (harg13 : arg13.IsWhole) (arg14 : Memref sig .tc .vmem S1x2x2048x1 .f32) (harg14 : arg14.IsWhole) (arg15 : Memref sig .tc .vmem S1x2x1x2048 .f32) (harg15 : arg15.IsWhole) (arg16 : Memref sig .tc .vmem S2x2048x128 .f32) (harg16 : arg16.IsWhole) (arg17 : Memref sig .tc .vmem S2x2048x1 .f32) (harg17 : arg17.IsWhole) (arg18 : Memref sig .tc .vmem S2x2048x1 .f32) (harg18 : arg18.IsWhole) (v0 : IVec S512x512 32) (v1 : IVec S512x512 32) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg9 : BufTy.Contents (Elt F) arg9.view.ty) (X_arg12 : BufTy.Contents (Elt F) arg12.view.ty) (X_arg17 : BufTy.Contents (Elt F) arg17.view.ty) (X_arg18 : BufTy.Contents (Elt F) arg18.view.ty) (G_arg13 : BufTy.Contents (Elt F) arg13.view.ty) (G_arg14 : BufTy.Contents (Elt F) arg14.view.ty) (G_arg15 : BufTy.Contents (Elt F) arg15.view.ty) (G_arg16 : BufTy.Contents (Elt F) arg16.view.ty) (k : ℕ) (prev : List (View.Piece (Elt F) S2048x768 .bf16) × List (View.Piece (Elt F) S1x2x2048x1 .f32) × List (View.Piece (Elt F) S1x2x1x2048 .f32) × List (View.Piece (Elt F) S2x2048x128 .f32)) : List (View.Piece (Elt F) S2048x768 .bf16) × List (View.Piece (Elt F) S1x2x2048x1 .f32) × List (View.Piece (Elt F) S1x2x1x2048 .f32) × List (View.Piece (Elt F) S2x2048x128 .f32) :=
  if h : k < k0_t2_loop.trips then ((trip (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v0 v1 X_arg2 X_arg3 X_arg4 X_arg5 X_arg6 X_arg7 X_arg9 X_arg12 X_arg17 X_arg18 ⟨k, h⟩ ()).1 (arg14.view.writes (Elt F) G_arg14 (prev).2.1) (arg16.view.writes (Elt F) G_arg16 (prev).2.2.2) ++ (prev).1, (trip (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v0 v1 X_arg2 X_arg3 X_arg4 X_arg5 X_arg6 X_arg7 X_arg9 X_arg12 X_arg17 X_arg18 ⟨k, h⟩ ()).2.1 (arg14.view.writes (Elt F) G_arg14 (prev).2.1) (arg16.view.writes (Elt F) G_arg16 (prev).2.2.2) ++ (prev).2.1, (trip (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v0 v1 X_arg2 X_arg3 X_arg4 X_arg5 X_arg6 X_arg7 X_arg9 X_arg12 X_arg17 X_arg18 ⟨k, h⟩ ()).2.2.1 (arg14.view.writes (Elt F) G_arg14 (prev).2.1) (arg16.view.writes (Elt F) G_arg16 (prev).2.2.2) ++ (prev).2.2.1, (trip (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v0 v1 X_arg2 X_arg3 X_arg4 X_arg5 X_arg6 X_arg7 X_arg9 X_arg12 X_arg17 X_arg18 ⟨k, h⟩ ()).2.2.2.1 (arg14.view.writes (Elt F) G_arg14 (prev).2.1) (arg16.view.writes (Elt F) G_arg16 (prev).2.2.2) ++ (prev).2.2.2)
  else prev

/-- The pieces of the trips before `k`, last first, from the contents `G_·` at entry. -/
def st (𝒱 : Variants) (c : Dev nD) (bd : Option 𝒱.V) (i : grid0.Coords) (arg2 : Memref sig .tc .vmem S2048x128 .bf16) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S2048x128 .bf16) (harg6 : arg6.IsWhole) (arg7 : Memref sig .tc .vmem S2048x128 .bf16) (harg7 : arg7.IsWhole) (arg8 : Memref sig .tc .vmem S1x2x2048x1 .f32) (harg8 : arg8.IsWhole) (arg9 : Memref sig .tc .vmem S1x2x1x2048 .f32) (harg9 : arg9.IsWhole) (arg10 : Memref sig .tc .vmem S2048x256 .f32) (harg10 : arg10.IsWhole) (arg11 : Memref sig .tc .vmem S1x2x2048x1 .f32) (harg11 : arg11.IsWhole) (arg12 : Memref sig .tc .vmem S2048x256 .f32) (harg12 : arg12.IsWhole) (arg13 : Memref sig .tc .vmem S2048x768 .bf16) (harg13 : arg13.IsWhole) (arg14 : Memref sig .tc .vmem S1x2x2048x1 .f32) (harg14 : arg14.IsWhole) (arg15 : Memref sig .tc .vmem S1x2x1x2048 .f32) (harg15 : arg15.IsWhole) (arg16 : Memref sig .tc .vmem S2x2048x128 .f32) (harg16 : arg16.IsWhole) (arg17 : Memref sig .tc .vmem S2x2048x1 .f32) (harg17 : arg17.IsWhole) (arg18 : Memref sig .tc .vmem S2x2048x1 .f32) (harg18 : arg18.IsWhole) (v0 : IVec S512x512 32) (v1 : IVec S512x512 32) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg9 : BufTy.Contents (Elt F) arg9.view.ty) (X_arg12 : BufTy.Contents (Elt F) arg12.view.ty) (X_arg17 : BufTy.Contents (Elt F) arg17.view.ty) (X_arg18 : BufTy.Contents (Elt F) arg18.view.ty) (G_arg13 : BufTy.Contents (Elt F) arg13.view.ty) (G_arg14 : BufTy.Contents (Elt F) arg14.view.ty) (G_arg15 : BufTy.Contents (Elt F) arg15.view.ty) (G_arg16 : BufTy.Contents (Elt F) arg16.view.ty) : ℕ → List (View.Piece (Elt F) S2048x768 .bf16) × List (View.Piece (Elt F) S1x2x2048x1 .f32) × List (View.Piece (Elt F) S1x2x1x2048 .f32) × List (View.Piece (Elt F) S2x2048x128 .f32)
  | 0 => ([], [], [], [])
  | k + 1 => step (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v0 v1 X_arg2 X_arg3 X_arg4 X_arg5 X_arg6 X_arg7 X_arg9 X_arg12 X_arg17 X_arg18 G_arg13 G_arg14 G_arg15 G_arg16 k (st 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v0 v1 X_arg2 X_arg3 X_arg4 X_arg5 X_arg6 X_arg7 X_arg9 X_arg12 X_arg17 X_arg18 G_arg13 G_arg14 G_arg15 G_arg16 k)

theorem st_succ (𝒱 : Variants) (c : Dev nD) (bd : Option 𝒱.V) (i : grid0.Coords) (arg2 : Memref sig .tc .vmem S2048x128 .bf16) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S2048x128 .bf16) (harg6 : arg6.IsWhole) (arg7 : Memref sig .tc .vmem S2048x128 .bf16) (harg7 : arg7.IsWhole) (arg8 : Memref sig .tc .vmem S1x2x2048x1 .f32) (harg8 : arg8.IsWhole) (arg9 : Memref sig .tc .vmem S1x2x1x2048 .f32) (harg9 : arg9.IsWhole) (arg10 : Memref sig .tc .vmem S2048x256 .f32) (harg10 : arg10.IsWhole) (arg11 : Memref sig .tc .vmem S1x2x2048x1 .f32) (harg11 : arg11.IsWhole) (arg12 : Memref sig .tc .vmem S2048x256 .f32) (harg12 : arg12.IsWhole) (arg13 : Memref sig .tc .vmem S2048x768 .bf16) (harg13 : arg13.IsWhole) (arg14 : Memref sig .tc .vmem S1x2x2048x1 .f32) (harg14 : arg14.IsWhole) (arg15 : Memref sig .tc .vmem S1x2x1x2048 .f32) (harg15 : arg15.IsWhole) (arg16 : Memref sig .tc .vmem S2x2048x128 .f32) (harg16 : arg16.IsWhole) (arg17 : Memref sig .tc .vmem S2x2048x1 .f32) (harg17 : arg17.IsWhole) (arg18 : Memref sig .tc .vmem S2x2048x1 .f32) (harg18 : arg18.IsWhole) (v0 : IVec S512x512 32) (v1 : IVec S512x512 32) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg9 : BufTy.Contents (Elt F) arg9.view.ty) (X_arg12 : BufTy.Contents (Elt F) arg12.view.ty) (X_arg17 : BufTy.Contents (Elt F) arg17.view.ty) (X_arg18 : BufTy.Contents (Elt F) arg18.view.ty) (G_arg13 : BufTy.Contents (Elt F) arg13.view.ty) (G_arg14 : BufTy.Contents (Elt F) arg14.view.ty) (G_arg15 : BufTy.Contents (Elt F) arg15.view.ty) (G_arg16 : BufTy.Contents (Elt F) arg16.view.ty) (k : Fin k0_t2_loop.trips) :
    st (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v0 v1 X_arg2 X_arg3 X_arg4 X_arg5 X_arg6 X_arg7 X_arg9 X_arg12 X_arg17 X_arg18 G_arg13 G_arg14 G_arg15 G_arg16 (k.val + 1) = ((trip (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v0 v1 X_arg2 X_arg3 X_arg4 X_arg5 X_arg6 X_arg7 X_arg9 X_arg12 X_arg17 X_arg18 k ()).1 (arg14.view.writes (Elt F) G_arg14 (st (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v0 v1 X_arg2 X_arg3 X_arg4 X_arg5 X_arg6 X_arg7 X_arg9 X_arg12 X_arg17 X_arg18 G_arg13 G_arg14 G_arg15 G_arg16 k.val).2.1) (arg16.view.writes (Elt F) G_arg16 (st (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v0 v1 X_arg2 X_arg3 X_arg4 X_arg5 X_arg6 X_arg7 X_arg9 X_arg12 X_arg17 X_arg18 G_arg13 G_arg14 G_arg15 G_arg16 k.val).2.2.2) ++ (st (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v0 v1 X_arg2 X_arg3 X_arg4 X_arg5 X_arg6 X_arg7 X_arg9 X_arg12 X_arg17 X_arg18 G_arg13 G_arg14 G_arg15 G_arg16 k.val).1, (trip (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v0 v1 X_arg2 X_arg3 X_arg4 X_arg5 X_arg6 X_arg7 X_arg9 X_arg12 X_arg17 X_arg18 k ()).2.1 (arg14.view.writes (Elt F) G_arg14 (st (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v0 v1 X_arg2 X_arg3 X_arg4 X_arg5 X_arg6 X_arg7 X_arg9 X_arg12 X_arg17 X_arg18 G_arg13 G_arg14 G_arg15 G_arg16 k.val).2.1) (arg16.view.writes (Elt F) G_arg16 (st (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v0 v1 X_arg2 X_arg3 X_arg4 X_arg5 X_arg6 X_arg7 X_arg9 X_arg12 X_arg17 X_arg18 G_arg13 G_arg14 G_arg15 G_arg16 k.val).2.2.2) ++ (st (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v0 v1 X_arg2 X_arg3 X_arg4 X_arg5 X_arg6 X_arg7 X_arg9 X_arg12 X_arg17 X_arg18 G_arg13 G_arg14 G_arg15 G_arg16 k.val).2.1, (trip (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v0 v1 X_arg2 X_arg3 X_arg4 X_arg5 X_arg6 X_arg7 X_arg9 X_arg12 X_arg17 X_arg18 k ()).2.2.1 (arg14.view.writes (Elt F) G_arg14 (st (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v0 v1 X_arg2 X_arg3 X_arg4 X_arg5 X_arg6 X_arg7 X_arg9 X_arg12 X_arg17 X_arg18 G_arg13 G_arg14 G_arg15 G_arg16 k.val).2.1) (arg16.view.writes (Elt F) G_arg16 (st (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v0 v1 X_arg2 X_arg3 X_arg4 X_arg5 X_arg6 X_arg7 X_arg9 X_arg12 X_arg17 X_arg18 G_arg13 G_arg14 G_arg15 G_arg16 k.val).2.2.2) ++ (st (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v0 v1 X_arg2 X_arg3 X_arg4 X_arg5 X_arg6 X_arg7 X_arg9 X_arg12 X_arg17 X_arg18 G_arg13 G_arg14 G_arg15 G_arg16 k.val).2.2.1, (trip (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v0 v1 X_arg2 X_arg3 X_arg4 X_arg5 X_arg6 X_arg7 X_arg9 X_arg12 X_arg17 X_arg18 k ()).2.2.2.1 (arg14.view.writes (Elt F) G_arg14 (st (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v0 v1 X_arg2 X_arg3 X_arg4 X_arg5 X_arg6 X_arg7 X_arg9 X_arg12 X_arg17 X_arg18 G_arg13 G_arg14 G_arg15 G_arg16 k.val).2.1) (arg16.view.writes (Elt F) G_arg16 (st (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v0 v1 X_arg2 X_arg3 X_arg4 X_arg5 X_arg6 X_arg7 X_arg9 X_arg12 X_arg17 X_arg18 G_arg13 G_arg14 G_arg15 G_arg16 k.val).2.2.2) ++ (st (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v0 v1 X_arg2 X_arg3 X_arg4 X_arg5 X_arg6 X_arg7 X_arg9 X_arg12 X_arg17 X_arg18 G_arg13 G_arg14 G_arg15 G_arg16 k.val).2.2.2) := by
  rw [st.eq_2]; unfold step; exact dif_pos k.isLt

/-- The invariant before trip `k`: the read buffers as they are, the written ones at the pieces of the trips before. -/
abbrev inv (𝒱 : Variants) (c : Dev nD) (bd : Option 𝒱.V) (i : grid0.Coords) (arg2 : Memref sig .tc .vmem S2048x128 .bf16) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S2048x128 .bf16) (harg6 : arg6.IsWhole) (arg7 : Memref sig .tc .vmem S2048x128 .bf16) (harg7 : arg7.IsWhole) (arg8 : Memref sig .tc .vmem S1x2x2048x1 .f32) (harg8 : arg8.IsWhole) (arg9 : Memref sig .tc .vmem S1x2x1x2048 .f32) (harg9 : arg9.IsWhole) (arg10 : Memref sig .tc .vmem S2048x256 .f32) (harg10 : arg10.IsWhole) (arg11 : Memref sig .tc .vmem S1x2x2048x1 .f32) (harg11 : arg11.IsWhole) (arg12 : Memref sig .tc .vmem S2048x256 .f32) (harg12 : arg12.IsWhole) (arg13 : Memref sig .tc .vmem S2048x768 .bf16) (harg13 : arg13.IsWhole) (arg14 : Memref sig .tc .vmem S1x2x2048x1 .f32) (harg14 : arg14.IsWhole) (arg15 : Memref sig .tc .vmem S1x2x1x2048 .f32) (harg15 : arg15.IsWhole) (arg16 : Memref sig .tc .vmem S2x2048x128 .f32) (harg16 : arg16.IsWhole) (arg17 : Memref sig .tc .vmem S2x2048x1 .f32) (harg17 : arg17.IsWhole) (arg18 : Memref sig .tc .vmem S2x2048x1 .f32) (harg18 : arg18.IsWhole) (v0 : IVec S512x512 32) (v1 : IVec S512x512 32) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg9 : BufTy.Contents (Elt F) arg9.view.ty) (X_arg12 : BufTy.Contents (Elt F) arg12.view.ty) (X_arg17 : BufTy.Contents (Elt F) arg17.view.ty) (X_arg18 : BufTy.Contents (Elt F) arg18.view.ty) (G_arg13 : BufTy.Contents (Elt F) arg13.view.ty) (G_arg14 : BufTy.Contents (Elt F) arg14.view.ty) (G_arg15 : BufTy.Contents (Elt F) arg15.view.ty) (G_arg16 : BufTy.Contents (Elt F) arg16.view.ty) (k : ℕ) (_acc : Unit) : sProp 𝕄G :=
  iprop((arg2.view.loc (c : Thread nD τ) ↦[arg2.view.set]{fullShare} X_arg2) ∗ (arg3.view.loc (c : Thread nD τ) ↦[arg3.view.set]{fullShare} X_arg3) ∗ (arg4.view.loc (c : Thread nD τ) ↦[arg4.view.set]{fullShare} X_arg4) ∗ (arg5.view.loc (c : Thread nD τ) ↦[arg5.view.set]{fullShare} X_arg5) ∗ (arg6.view.loc (c : Thread nD τ) ↦[arg6.view.set]{fullShare} X_arg6) ∗ (arg7.view.loc (c : Thread nD τ) ↦[arg7.view.set]{fullShare} X_arg7) ∗ (arg9.view.loc (c : Thread nD τ) ↦[arg9.view.set]{fullShare} X_arg9) ∗ (arg12.view.loc (c : Thread nD τ) ↦[arg12.view.set]{fullShare} X_arg12) ∗ (arg17.view.loc (c : Thread nD τ) ↦[arg17.view.set]{fullShare} X_arg17) ∗ (arg18.view.loc (c : Thread nD τ) ↦[arg18.view.set]{fullShare} X_arg18) ∗ (∃ f, (arg13.view.loc (c : Thread nD τ) ↦[arg13.view.set]{fullShare} f) ∗ ⌜f = arg13.view.writes (Elt F) G_arg13 (st (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v0 v1 X_arg2 X_arg3 X_arg4 X_arg5 X_arg6 X_arg7 X_arg9 X_arg12 X_arg17 X_arg18 G_arg13 G_arg14 G_arg15 G_arg16 k).1⌝) ∗ (∃ f, (arg14.view.loc (c : Thread nD τ) ↦[arg14.view.set]{fullShare} f) ∗ ⌜f = arg14.view.writes (Elt F) G_arg14 (st (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v0 v1 X_arg2 X_arg3 X_arg4 X_arg5 X_arg6 X_arg7 X_arg9 X_arg12 X_arg17 X_arg18 G_arg13 G_arg14 G_arg15 G_arg16 k).2.1⌝) ∗ (∃ f, (arg15.view.loc (c : Thread nD τ) ↦[arg15.view.set]{fullShare} f) ∗ ⌜f = arg15.view.writes (Elt F) G_arg15 (st (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v0 v1 X_arg2 X_arg3 X_arg4 X_arg5 X_arg6 X_arg7 X_arg9 X_arg12 X_arg17 X_arg18 G_arg13 G_arg14 G_arg15 G_arg16 k).2.2.1⌝) ∗ (∃ f, (arg16.view.loc (c : Thread nD τ) ↦[arg16.view.set]{fullShare} f) ∗ ⌜f = arg16.view.writes (Elt F) G_arg16 (st (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v0 v1 X_arg2 X_arg3 X_arg4 X_arg5 X_arg6 X_arg7 X_arg9 X_arg12 X_arg17 X_arg18 G_arg13 G_arg14 G_arg15 G_arg16 k).2.2.2⌝))

set_option warn.classDefReducibility false in
/-- The outer loop by its invariant. -/
@[sl_loop] def loopInv (𝒱 : Variants) (c : Dev nD) (bd : Option 𝒱.V) (E : Set ℕ) (i : grid0.Coords) (arg2 : Memref sig .tc .vmem S2048x128 .bf16) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S2048x128 .bf16) (harg6 : arg6.IsWhole) (arg7 : Memref sig .tc .vmem S2048x128 .bf16) (harg7 : arg7.IsWhole) (arg8 : Memref sig .tc .vmem S1x2x2048x1 .f32) (harg8 : arg8.IsWhole) (arg9 : Memref sig .tc .vmem S1x2x1x2048 .f32) (harg9 : arg9.IsWhole) (arg10 : Memref sig .tc .vmem S2048x256 .f32) (harg10 : arg10.IsWhole) (arg11 : Memref sig .tc .vmem S1x2x2048x1 .f32) (harg11 : arg11.IsWhole) (arg12 : Memref sig .tc .vmem S2048x256 .f32) (harg12 : arg12.IsWhole) (arg13 : Memref sig .tc .vmem S2048x768 .bf16) (harg13 : arg13.IsWhole) (arg14 : Memref sig .tc .vmem S1x2x2048x1 .f32) (harg14 : arg14.IsWhole) (arg15 : Memref sig .tc .vmem S1x2x1x2048 .f32) (harg15 : arg15.IsWhole) (arg16 : Memref sig .tc .vmem S2x2048x128 .f32) (harg16 : arg16.IsWhole) (arg17 : Memref sig .tc .vmem S2x2048x1 .f32) (harg17 : arg17.IsWhole) (arg18 : Memref sig .tc .vmem S2x2048x1 .f32) (harg18 : arg18.IsWhole) (v0 : IVec S512x512 32) (v1 : IVec S512x512 32) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg9 : BufTy.Contents (Elt F) arg9.view.ty) (X_arg12 : BufTy.Contents (Elt F) arg12.view.ty) (X_arg17 : BufTy.Contents (Elt F) arg17.view.ty) (X_arg18 : BufTy.Contents (Elt F) arg18.view.ty) (G_arg13 : BufTy.Contents (Elt F) arg13.view.ty) (G_arg14 : BufTy.Contents (Elt F) arg14.view.ty) (G_arg15 : BufTy.Contents (Elt F) arg15.view.ty) (G_arg16 : BufTy.Contents (Elt F) arg16.view.ty) :
    LoopInvTy_k0_t2 (F := F) Unit ℕ (UR sig nD τ) ℕ 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v0 v1 where
  inv := inv (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v0 v1 X_arg2 X_arg3 X_arg4 X_arg5 X_arg6 X_arg7 X_arg9 X_arg12 X_arg17 X_arg18 G_arg13 G_arg14 G_arg15 G_arg16
  step k acc := by
    iintro ⟨HR_arg2, HR_arg3, HR_arg4, HR_arg5, HR_arg6, HR_arg7, HR_arg9, HR_arg12, HR_arg17, HR_arg18, ⟨%f_arg13, HW_arg13, %h_arg13⟩, ⟨%f_arg14, HW_arg14, %h_arg14⟩, ⟨%f_arg15, HW_arg15, %h_arg15⟩, ⟨%f_arg16, HW_arg16, %h_arg16⟩⟩
    iapply (wp_wand_r Idealize.ShloMosaic.frame (wpE (defs₀ (F := F)) 𝒱 (c : Thread nD τ) bd) E)
    isplitl [HR_arg2 HR_arg3 HR_arg4 HR_arg5 HR_arg6 HR_arg7 HR_arg9 HR_arg12 HR_arg17 HR_arg18 HW_arg13 HW_arg14 HW_arg15 HW_arg16]
    · iapply ((trip (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v0 v1 X_arg2 X_arg3 X_arg4 X_arg5 X_arg6 X_arg7 X_arg9 X_arg12 X_arg17 X_arg18 k acc).2.2.2.2 E f_arg13 f_arg14 f_arg15 f_arg16)
      isplitl [HR_arg2]; · iexact HR_arg2
      isplitl [HR_arg3]; · iexact HR_arg3
      isplitl [HR_arg4]; · iexact HR_arg4
      isplitl [HR_arg5]; · iexact HR_arg5
      isplitl [HR_arg6]; · iexact HR_arg6
      isplitl [HR_arg7]; · iexact HR_arg7
      isplitl [HR_arg9]; · iexact HR_arg9
      isplitl [HR_arg12]; · iexact HR_arg12
      isplitl [HR_arg17]; · iexact HR_arg17
      isplitl [HR_arg18]; · iexact HR_arg18
      isplitl [HW_arg13]; · iexact HW_arg13
      isplitl [HW_arg14]; · iexact HW_arg14
      isplitl [HW_arg15]; · iexact HW_arg15
      iexact HW_arg16
    iintro %y ⟨HR_arg2, HR_arg3, HR_arg4, HR_arg5, HR_arg6, HR_arg7, HR_arg9, HR_arg12, HR_arg17, HR_arg18, HW_arg13, HW_arg14, HW_arg15, HW_arg16⟩
    isplitl [HR_arg2]; · iexact HR_arg2
    isplitl [HR_arg3]; · iexact HR_arg3
    isplitl [HR_arg4]; · iexact HR_arg4
    isplitl [HR_arg5]; · iexact HR_arg5
    isplitl [HR_arg6]; · iexact HR_arg6
    isplitl [HR_arg7]; · iexact HR_arg7
    isplitl [HR_arg9]; · iexact HR_arg9
    isplitl [HR_arg12]; · iexact HR_arg12
    isplitl [HR_arg17]; · iexact HR_arg17
    isplitl [HR_arg18]; · iexact HR_arg18
    isplitl [HW_arg13]
    · iexists _; isplitl [HW_arg13]; · iexact HW_arg13
      ipureintro; rw [st_succ, h_arg13, h_arg14, h_arg16, ← View.writes_append]
    isplitl [HW_arg14]
    · iexists _; isplitl [HW_arg14]; · iexact HW_arg14
      ipureintro; rw [st_succ, h_arg14, h_arg16, ← View.writes_append]
    isplitl [HW_arg15]
    · iexists _; isplitl [HW_arg15]; · iexact HW_arg15
      ipureintro; rw [st_succ, h_arg15, h_arg14, h_arg16, ← View.writes_append]
    · iexists _; isplitl [HW_arg16]; · iexact HW_arg16
      ipureintro; rw [st_succ, h_arg14, h_arg16, ← View.writes_append]

end Cert.FoxBwdIdeal.Outer

end
-- ==== Proof.FoxBwdIdealRun.lean ====
/- One grid point of the attention's backward call, run once at any contents. -/
module

public import proofs.«01_k».proof.Proof.FoxBwdIdealLoop

@[expose] public section

set_option maxRecDepth 16384
set_option maxHeartbeats 4000000

noncomputable section

namespace Cert.FoxBwdIdeal.Outer

open Cert.FoxBwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄G" => MT nD τ sig Unit (Elt F) ℕ (UR sig nD τ) ℕ

/-- What the body touches at one grid point: eleven operands as they are, three results and three scratch buffers. -/
abbrev Whole (c : Dev nD) (arg2 : Memref sig .tc .vmem S2048x128 .bf16) (arg3 : Memref sig .tc .vmem S2048x128 .bf16) (arg4 : Memref sig .tc .vmem S2048x128 .bf16) (arg5 : Memref sig .tc .vmem S2048x128 .bf16) (arg6 : Memref sig .tc .vmem S2048x128 .bf16) (arg7 : Memref sig .tc .vmem S2048x128 .bf16) (arg8 : Memref sig .tc .vmem S1x2x2048x1 .f32) (arg9 : Memref sig .tc .vmem S1x2x1x2048 .f32) (arg10 : Memref sig .tc .vmem S2048x256 .f32) (arg11 : Memref sig .tc .vmem S1x2x2048x1 .f32) (arg12 : Memref sig .tc .vmem S2048x256 .f32) (arg13 : Memref sig .tc .vmem S2048x768 .bf16) (arg14 : Memref sig .tc .vmem S1x2x2048x1 .f32) (arg15 : Memref sig .tc .vmem S1x2x1x2048 .f32) (arg16 : Memref sig .tc .vmem S2x2048x128 .f32) (arg17 : Memref sig .tc .vmem S2x2048x1 .f32) (arg18 : Memref sig .tc .vmem S2x2048x1 .f32) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg9 : BufTy.Contents (Elt F) arg9.view.ty) (X_arg10 : BufTy.Contents (Elt F) arg10.view.ty) (X_arg11 : BufTy.Contents (Elt F) arg11.view.ty) (X_arg12 : BufTy.Contents (Elt F) arg12.view.ty) (f_arg13 : BufTy.Contents (Elt F) arg13.view.ty) (f_arg14 : BufTy.Contents (Elt F) arg14.view.ty) (f_arg15 : BufTy.Contents (Elt F) arg15.view.ty) (f_arg16 : BufTy.Contents (Elt F) arg16.view.ty) (f_arg17 : BufTy.Contents (Elt F) arg17.view.ty) (f_arg18 : BufTy.Contents (Elt F) arg18.view.ty) : sProp 𝕄G :=
  iprop((arg2.view.loc (c : Thread nD τ) ↦[arg2.view.set]{fullShare} X_arg2) ∗ (arg3.view.loc (c : Thread nD τ) ↦[arg3.view.set]{fullShare} X_arg3) ∗ (arg4.view.loc (c : Thread nD τ) ↦[arg4.view.set]{fullShare} X_arg4) ∗ (arg5.view.loc (c : Thread nD τ) ↦[arg5.view.set]{fullShare} X_arg5) ∗ (arg6.view.loc (c : Thread nD τ) ↦[arg6.view.set]{fullShare} X_arg6) ∗ (arg7.view.loc (c : Thread nD τ) ↦[arg7.view.set]{fullShare} X_arg7) ∗ (arg8.view.loc (c : Thread nD τ) ↦[arg8.view.set]{fullShare} X_arg8) ∗ (arg9.view.loc (c : Thread nD τ) ↦[arg9.view.set]{fullShare} X_arg9) ∗ (arg10.view.loc (c : Thread nD τ) ↦[arg10.view.set]{fullShare} X_arg10) ∗ (arg11.view.loc (c : Thread nD τ) ↦[arg11.view.set]{fullShare} X_arg11) ∗ (arg12.view.loc (c : Thread nD τ) ↦[arg12.view.set]{fullShare} X_arg12) ∗ (arg13.view.loc (c : Thread nD τ) ↦[arg13.view.set]{fullShare} f_arg13) ∗ (arg14.view.loc (c : Thread nD τ) ↦[arg14.view.set]{fullShare} f_arg14) ∗ (arg15.view.loc (c : Thread nD τ) ↦[arg15.view.set]{fullShare} f_arg15) ∗ (arg16.view.loc (c : Thread nD τ) ↦[arg16.view.set]{fullShare} f_arg16) ∗ (arg17.view.loc (c : Thread nD τ) ↦[arg17.view.set]{fullShare} f_arg17) ∗ (arg18.view.loc (c : Thread nD τ) ↦[arg18.view.set]{fullShare} f_arg18))

/-- The body at one grid point: what it leaves in the written buffers, as functions of what they held. -/
@[irreducible] def run (𝒱 : Variants) (c : Dev nD) (bd : Option 𝒱.V) (i : grid0.Coords) (arg2 : Memref sig .tc .vmem S2048x128 .bf16) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S2048x128 .bf16) (harg6 : arg6.IsWhole) (arg7 : Memref sig .tc .vmem S2048x128 .bf16) (harg7 : arg7.IsWhole) (arg8 : Memref sig .tc .vmem S1x2x2048x1 .f32) (harg8 : arg8.IsWhole) (arg9 : Memref sig .tc .vmem S1x2x1x2048 .f32) (harg9 : arg9.IsWhole) (arg10 : Memref sig .tc .vmem S2048x256 .f32) (harg10 : arg10.IsWhole) (arg11 : Memref sig .tc .vmem S1x2x2048x1 .f32) (harg11 : arg11.IsWhole) (arg12 : Memref sig .tc .vmem S2048x256 .f32) (harg12 : arg12.IsWhole) (arg13 : Memref sig .tc .vmem S2048x768 .bf16) (harg13 : arg13.IsWhole) (arg14 : Memref sig .tc .vmem S1x2x2048x1 .f32) (harg14 : arg14.IsWhole) (arg15 : Memref sig .tc .vmem S1x2x1x2048 .f32) (harg15 : arg15.IsWhole) (arg16 : Memref sig .tc .vmem S2x2048x128 .f32) (harg16 : arg16.IsWhole) (arg17 : Memref sig .tc .vmem S2x2048x1 .f32) (harg17 : arg17.IsWhole) (arg18 : Memref sig .tc .vmem S2x2048x1 .f32) (harg18 : arg18.IsWhole) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg9 : BufTy.Contents (Elt F) arg9.view.ty) (X_arg10 : BufTy.Contents (Elt F) arg10.view.ty) (X_arg11 : BufTy.Contents (Elt F) arg11.view.ty) (X_arg12 : BufTy.Contents (Elt F) arg12.view.ty) :
    Σ' (O_arg13 : BufTy.Contents (Elt F) arg13.view.ty → BufTy.Contents (Elt F) arg14.view.ty → BufTy.Contents (Elt F) arg15.view.ty → BufTy.Contents (Elt F) arg16.view.ty → BufTy.Contents (Elt F) arg17.view.ty → BufTy.Contents (Elt F) arg18.view.ty → BufTy.Contents (Elt F) arg13.view.ty) (O_arg14 : BufTy.Contents (Elt F) arg13.view.ty → BufTy.Contents (Elt F) arg14.view.ty → BufTy.Contents (Elt F) arg15.view.ty → BufTy.Contents (Elt F) arg16.view.ty → BufTy.Contents (Elt F) arg17.view.ty → BufTy.Contents (Elt F) arg18.view.ty → BufTy.Contents (Elt F) arg14.view.ty) (O_arg15 : BufTy.Contents (Elt F) arg13.view.ty → BufTy.Contents (Elt F) arg14.view.ty → BufTy.Contents (Elt F) arg15.view.ty → BufTy.Contents (Elt F) arg16.view.ty → BufTy.Contents (Elt F) arg17.view.ty → BufTy.Contents (Elt F) arg18.view.ty → BufTy.Contents (Elt F) arg15.view.ty) (O_arg16 : BufTy.Contents (Elt F) arg13.view.ty → BufTy.Contents (Elt F) arg14.view.ty → BufTy.Contents (Elt F) arg15.view.ty → BufTy.Contents (Elt F) arg16.view.ty → BufTy.Contents (Elt F) arg17.view.ty → BufTy.Contents (Elt F) arg18.view.ty → BufTy.Contents (Elt F) arg16.view.ty) (O_arg17 : BufTy.Contents (Elt F) arg13.view.ty → BufTy.Contents (Elt F) arg14.view.ty → BufTy.Contents (Elt F) arg15.view.ty → BufTy.Contents (Elt F) arg16.view.ty → BufTy.Contents (Elt F) arg17.view.ty → BufTy.Contents (Elt F) arg18.view.ty → BufTy.Contents (Elt F) arg17.view.ty), { O_arg18 : BufTy.Contents (Elt F) arg13.view.ty → BufTy.Contents (Elt F) arg14.view.ty → BufTy.Contents (Elt F) arg15.view.ty → BufTy.Contents (Elt F) arg16.view.ty → BufTy.Contents (Elt F) arg17.view.ty → BufTy.Contents (Elt F) arg18.view.ty → BufTy.Contents (Elt F) arg18.view.ty // ∀ (E : Set ℕ) (f_arg13 : BufTy.Contents (Elt F) arg13.view.ty) (f_arg14 : BufTy.Contents (Elt F) arg14.view.ty) (f_arg15 : BufTy.Contents (Elt F) arg15.view.ty) (f_arg16 : BufTy.Contents (Elt F) arg16.view.ty) (f_arg17 : BufTy.Contents (Elt F) arg17.view.ty) (f_arg18 : BufTy.Contents (Elt F) arg18.view.ty),
      Whole (F := F) c arg2 arg3 arg4 arg5 arg6 arg7 arg8 arg9 arg10 arg11 arg12 arg13 arg14 arg15 arg16 arg17 arg18 X_arg2 X_arg3 X_arg4 X_arg5 X_arg6 X_arg7 X_arg8 X_arg9 X_arg10 X_arg11 X_arg12 f_arg13 f_arg14 f_arg15 f_arg16 f_arg17 f_arg18
      ⊢ wp frame (wpE (defs₀ (F := F)) 𝒱 (c : Thread nD τ) bd) E (cc0_fox_bwd (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18)
          (fun _ => Whole (F := F) c arg2 arg3 arg4 arg5 arg6 arg7 arg8 arg9 arg10 arg11 arg12 arg13 arg14 arg15 arg16 arg17 arg18 X_arg2 X_arg3 X_arg4 X_arg5 X_arg6 X_arg7 X_arg8 X_arg9 X_arg10 X_arg11 X_arg12 (O_arg13 f_arg13 f_arg14 f_arg15 f_arg16 f_arg17 f_arg18) (O_arg14 f_arg13 f_arg14 f_arg15 f_arg16 f_arg17 f_arg18) (O_arg15 f_arg13 f_arg14 f_arg15 f_arg16 f_arg17 f_arg18) (O_arg16 f_arg13 f_arg14 f_arg15 f_arg16 f_arg17 f_arg18) (O_arg17 f_arg13 f_arg14 f_arg15 f_arg16 f_arg17 f_arg18) (O_arg18 f_arg13 f_arg14 f_arg15 f_arg16 f_arg17 f_arg18)) } := by
  refine ⟨?_, ?_, ?_, ?_, ?_, ?_, fun E f_arg13 f_arg14 f_arg15 f_arg16 f_arg17 f_arg18 => ?run⟩
  case run =>
    simp only [cc0_fox_bwd_eq_skeleton]; unfold cc0_fox_bwd_skel
    iintro ⟨HR_arg2, HR_arg3, HR_arg4, HR_arg5, HR_arg6, HR_arg7, HR_arg8, HR_arg9, HR_arg10, HR_arg11, HR_arg12, HW_arg13, HW_arg14, HW_arg15, HW_arg16, HW_arg17, HW_arg18⟩
    sl_exec
    sl_step
    sl_close

end Cert.FoxBwdIdeal.Outer

end
-- ==== Proof.FoxHead.lean ====
/-
  The attention's backward call at one grid point, over the extended reals: the data of a point, the
  two heads it works on, and what one trip of the inner loop adds.
-/
module

public import proofs.«01_k».proof.Proof.FoxBwdIdealRun
public import Idealize.ShloMosaic.Lib.Pipeline.ValueKit

@[expose] public section

set_option maxRecDepth 16384
set_option maxHeartbeats 4000000

noncomputable section

namespace Cert.FoxBwdIdeal.Outer

open Cert.FoxBwdIdeal Cert.FoxBwdIdeal.Gen
open Idealize.ShloMosaic Idealize.ShloMosaic.TcCoe Idealize.ShloMosaic.Tactic

/-- The operands and buffers of one grid point, and what the operands hold. -/
structure Pt where
  𝒱 : Variants
  c : Dev nD
  bd : Option 𝒱.V
  i : grid0.Coords
  arg2 : Memref sig .tc .vmem S2048x128 .bf16
  harg2 : arg2.IsWhole
  arg3 : Memref sig .tc .vmem S2048x128 .bf16
  harg3 : arg3.IsWhole
  arg4 : Memref sig .tc .vmem S2048x128 .bf16
  harg4 : arg4.IsWhole
  arg5 : Memref sig .tc .vmem S2048x128 .bf16
  harg5 : arg5.IsWhole
  arg6 : Memref sig .tc .vmem S2048x128 .bf16
  harg6 : arg6.IsWhole
  arg7 : Memref sig .tc .vmem S2048x128 .bf16
  harg7 : arg7.IsWhole
  arg8 : Memref sig .tc .vmem S1x2x2048x1 .f32
  harg8 : arg8.IsWhole
  arg9 : Memref sig .tc .vmem S1x2x1x2048 .f32
  harg9 : arg9.IsWhole
  arg10 : Memref sig .tc .vmem S2048x256 .f32
  harg10 : arg10.IsWhole
  arg11 : Memref sig .tc .vmem S1x2x2048x1 .f32
  harg11 : arg11.IsWhole
  arg12 : Memref sig .tc .vmem S2048x256 .f32
  harg12 : arg12.IsWhole
  arg13 : Memref sig .tc .vmem S2048x768 .bf16
  harg13 : arg13.IsWhole
  arg14 : Memref sig .tc .vmem S1x2x2048x1 .f32
  harg14 : arg14.IsWhole
  arg15 : Memref sig .tc .vmem S1x2x1x2048 .f32
  harg15 : arg15.IsWhole
  arg16 : Memref sig .tc .vmem S2x2048x128 .f32
  harg16 : arg16.IsWhole
  arg17 : Memref sig .tc .vmem S2x2048x1 .f32
  harg17 : arg17.IsWhole
  arg18 : Memref sig .tc .vmem S2x2048x1 .f32
  harg18 : arg18.IsWhole
  X_arg2 : BufTy.Contents (Elt Ideal) arg2.view.ty
  X_arg3 : BufTy.Contents (Elt Ideal) arg3.view.ty
  X_arg4 : BufTy.Contents (Elt Ideal) arg4.view.ty
  X_arg5 : BufTy.Contents (Elt Ideal) arg5.view.ty
  X_arg6 : BufTy.Contents (Elt Ideal) arg6.view.ty
  X_arg7 : BufTy.Contents (Elt Ideal) arg7.view.ty
  X_arg8 : BufTy.Contents (Elt Ideal) arg8.view.ty
  X_arg9 : BufTy.Contents (Elt Ideal) arg9.view.ty
  X_arg10 : BufTy.Contents (Elt Ideal) arg10.view.ty
  X_arg11 : BufTy.Contents (Elt Ideal) arg11.view.ty
  X_arg12 : BufTy.Contents (Elt Ideal) arg12.view.ty

/-- One head's data at a point: queries, keys, values, the cotangent, the outputs, and the decays, row by row. -/
structure Head where
  q : Fin 2048 → Fin 128 → EReal
  k : Fin 2048 → Fin 128 → EReal
  v : Fin 2048 → Fin 128 → EReal
  g : Fin 2048 → Fin 128 → EReal
  o : Fin 2048 → Fin 128 → EReal
  cq : Fin 2048 → EReal
  cr : Fin 2048 → EReal
  lse : Fin 2048 → EReal

/-- The first head of a point. -/
def Pt.fst (p : Pt) : Head where
  q s d := p.arg2.view.read (Elt Ideal) p.X_arg2 (ix2 s d)
  k s d := p.arg3.view.read (Elt Ideal) p.X_arg3 (ix2 s d)
  v s d := p.arg4.view.read (Elt Ideal) p.X_arg4 (ix2 s d)
  g s d := p.arg12.view.read (Elt Ideal) p.X_arg12 (ix2 s ⟨d.val, by omega⟩)
  o s d := p.arg10.view.read (Elt Ideal) p.X_arg10 (ix2 s ⟨d.val, by omega⟩)
  cq s := p.arg8.view.read (Elt Ideal) p.X_arg8 (ix4 0 0 s 0)
  cr t := p.arg9.view.read (Elt Ideal) p.X_arg9 (ix4 0 0 0 t)
  lse s := p.arg11.view.read (Elt Ideal) p.X_arg11 (ix4 0 0 s 0)

/-- The second head of a point. -/
def Pt.snd (p : Pt) : Head where
  q s d := p.arg5.view.read (Elt Ideal) p.X_arg5 (ix2 s d)
  k s d := p.arg6.view.read (Elt Ideal) p.X_arg6 (ix2 s d)
  v s d := p.arg7.view.read (Elt Ideal) p.X_arg7 (ix2 s d)
  g s d := p.arg12.view.read (Elt Ideal) p.X_arg12 (ix2 s ⟨128 + d.val, by omega⟩)
  o s d := p.arg10.view.read (Elt Ideal) p.X_arg10 (ix2 s ⟨128 + d.val, by omega⟩)
  cq s := p.arg8.view.read (Elt Ideal) p.X_arg8 (ix4 0 1 s 0)
  cr t := p.arg9.view.read (Elt Ideal) p.X_arg9 (ix4 0 1 0 t)
  lse s := p.arg11.view.read (Elt Ideal) p.X_arg11 (ix4 0 1 s 0)

/-- The head at a place of the pair. -/
def Pt.head (p : Pt) (h : Fin 2) : Head := if h = 0 then p.fst else p.snd

namespace Head

variable (H : Head)

/-- The logits' scale, as it is printed. -/
abbrev sc : EReal := Ideal.ofBits .f32 0x3DB504F3#32

/-- The saved normaliser less the query's decay. -/
def ls (s : Fin 2048) : EReal := H.lse s - H.cq s

/-- The row sum of the cotangent times the output. -/
def dl (s : Fin 2048) : EReal := ∑ d : Fin 128, H.g s d * H.o s d

/-- A logit less the query's decay. -/
def lg (s t : Fin 2048) : EReal := (∑ d : Fin 128, H.q s d * H.k t d) * sc - H.cr t

/-- A weight where the key is visible to the query. -/
def pr (s t : Fin 2048) : EReal := Ideal.exp (H.lg s t - H.ls s)

/-- The cotangent of a weight. -/
def dp (s t : Fin 2048) : EReal := ∑ d : Fin 128, H.g s d * H.v t d

/-- The cotangent of a logit, from the weight. -/
def ds (s t : Fin 2048) : EReal := H.pr s t * (H.dp s t - H.dl s)

/-- A weight, with the keys the query does not see at minus infinity. -/
def pm (s t : Fin 2048) : EReal := Ideal.exp ((if t ≤ s then H.lg s t else ⊥) - H.ls s)

/-- The cotangent of a logit, from the masked weight. -/
def dm (s t : Fin 2048) : EReal := H.pm s t * (H.dp s t - H.dl s)

end Head

/-- Row `r` of block `i`. -/
abbrev row (i : Fin 4) (r : Fin 512) : Fin 2048 := ⟨512 * i.val + r.val, by omega⟩

/-- The block of query rows a trip of the inner loop works on. -/
def nx (j : Fin k0_t2_loop.trips) (k : Fin (k0_t3_loop j).trips) : Fin 4 :=
  ⟨j.val + 1 + k.val, (by decide +kernel : ∀ (j : Fin k0_t2_loop.trips) (k : Fin (k0_t3_loop j).trips), j.val + 1 + k.val < 4) j k⟩

theorem nx_off : ∀ (j : Fin k0_t2_loop.trips) (k : Fin (k0_t3_loop j).trips),
    (Scalar.indexCast (Scalar.muli (Scf.iv (Scalar.addi (Scf.iv 0#32 1#32 j.val) 1#32) 1#32 k.val) 512#32)).toNat
      = 512 * (nx j k).val := by decide +kernel

theorem off25 : ∀ (j : Fin k0_t2_loop.trips) (k : Fin (k0_t3_loop j).trips),
    k0_off25 j k = ![0, 512 * (nx j k).val, 0] := by decide +kernel

theorem off26 : ∀ (j : Fin k0_t2_loop.trips) (k : Fin (k0_t3_loop j).trips),
    k0_off26 j k = ![0, 0, 512 * (nx j k).val, 0] := by decide +kernel

theorem off27 : ∀ (j : Fin k0_t2_loop.trips) (k : Fin (k0_t3_loop j).trips),
    k0_off27 j k = ![1, 512 * (nx j k).val, 0] := by decide +kernel

theorem off28 : ∀ (j : Fin k0_t2_loop.trips) (k : Fin (k0_t3_loop j).trips),
    k0_off28 j k = ![0, 1, 512 * (nx j k).val, 0] := by decide +kernel

/-- One trip of the inner loop, at a point. -/
abbrev Pt.T3 (p : Pt) (X17 : BufTy.Contents (Elt Ideal) p.arg17.view.ty) (X18 : BufTy.Contents (Elt Ideal) p.arg18.view.ty) (j : Fin k0_t2_loop.trips) (arg19 : BitVec 32) (v13 : BitVec 32) (v15 v17 v19 v21 : Vec Ideal S512x128 .bf16) (v24 v27 v29 v30 : FVec Ideal S1x512 .f32) (v32 : BitVec 32) (v78 v84 : FVec Ideal S512x512 .f32) (v89 v92 v94 v96 : FVec Ideal S512x128 .f32) (v145 : BitVec 32) (k : Fin (k0_t3_loop j).trips) :=
  trip_k0_t3 (F := Ideal) p.𝒱 p.c p.bd p.i p.arg2 p.harg2 p.arg3 p.harg3 p.arg4 p.harg4 p.arg5 p.harg5 p.arg6 p.harg6 p.arg7 p.harg7 p.arg8 p.harg8 p.arg9 p.harg9 p.arg10 p.harg10 p.arg11 p.harg11 p.arg12 p.harg12 p.arg13 p.harg13 p.arg14 p.harg14 p.arg15 p.harg15 p.arg16 p.harg16 p.arg17 p.harg17 p.arg18 p.harg18 j arg19 v13 v15 v17 v19 v21 v24 v27 v29 v30 v32 v78 v84 v89 v92 v94 v96 v145 p.X_arg2 p.X_arg5 p.X_arg12 X17 X18 k

/-- The two scratch columns hold the row sums and the normalisers of the two heads. -/
def Prep (p : Pt) (X17 : BufTy.Contents (Elt Ideal) p.arg17.view.ty) (X18 : BufTy.Contents (Elt Ideal) p.arg18.view.ty) : Prop :=
  (∀ s, p.arg17.view.read (Elt Ideal) X17 (ix3 0 s 0) = p.fst.dl s) ∧ (∀ s, p.arg17.view.read (Elt Ideal) X17 (ix3 1 s 0) = p.snd.dl s)
  ∧ (∀ s, p.arg18.view.read (Elt Ideal) X18 (ix3 0 s 0) = p.fst.ls s) ∧ (∀ s, p.arg18.view.read (Elt Ideal) X18 (ix3 1 s 0) = p.snd.ls s)

/-- The loaded blocks are the two heads' keys, values and key decays of block `b`. -/
def Blk (p : Pt) (b : Fin 4) (v15 v17 v19 v21 : Vec Ideal S512x128 .bf16) (v24 v27 : FVec Ideal S1x512 .f32) : Prop :=
  (∀ t d, v15 (ix2 t d) = p.fst.k (row b t) d) ∧ (∀ t d, v17 (ix2 t d) = p.snd.k (row b t) d)
  ∧ (∀ t d, v19 (ix2 t d) = p.fst.v (row b t) d) ∧ (∀ t d, v21 (ix2 t d) = p.snd.v (row b t) d)
  ∧ (∀ t, v24 (ix2 0 t) = p.fst.cr (row b t)) ∧ (∀ t, v27 (ix2 0 t) = p.snd.cr (row b t))

/-- The two heads' queries and cotangents, as the operands hold them. -/
theorem Pt.reads (p : Pt) :
    (∀ s d, p.arg2.view.read (Elt Ideal) p.X_arg2 (ix2 s d) = p.fst.q s d)
    ∧ (∀ s d, p.arg5.view.read (Elt Ideal) p.X_arg5 (ix2 s d) = p.snd.q s d)
    ∧ (∀ s (d : Fin 128) h, p.arg12.view.read (Elt Ideal) p.X_arg12 (ix2 s ⟨d.val, h⟩) = p.fst.g s d)
    ∧ (∀ s (d : Fin 128) h, p.arg12.view.read (Elt Ideal) p.X_arg12 (ix2 s ⟨128 + d.val, h⟩) = p.snd.g s d) :=
  ⟨fun _ _ => rfl, fun _ _ => rfl, fun _ _ _ => rfl, fun _ _ _ => rfl⟩

section inner

variable (p : Pt) (X17 : BufTy.Contents (Elt Ideal) p.arg17.view.ty) (X18 : BufTy.Contents (Elt Ideal) p.arg18.view.ty)
  (j : Fin k0_t2_loop.trips) (arg19 : BitVec 32) (v13 : BitVec 32) (v15 v17 v19 v21 : Vec Ideal S512x128 .bf16)
  (v24 v27 v29 v30 : FVec Ideal S1x512 .f32) (v32 : BitVec 32) (v78 v84 : FVec Ideal S512x512 .f32)
  (v89 v92 v94 v96 : FVec Ideal S512x128 .f32) (v145 : BitVec 32) (k : Fin (k0_t3_loop j).trips) (b : Fin 4)

/-- What a trip adds to the six carried values. -/
theorem T3_acc (hp : Prep p X17 X18) (hb : Blk p b v15 v17 v19 v21 v24 v27) acc f14 f16 (t : Fin 512) :
    (∀ d : Fin 128, ((p.T3 X17 X18 j arg19 v13 v15 v17 v19 v21 v24 v27 v29 v30 v32 v78 v84 v89 v92 v94 v96 v145 k).1 acc f14 f16).1 (ix2 t d)
      = acc.1 (ix2 t d) + ∑ r : Fin 512, p.fst.ds (row (nx j k) r) (row b t) * p.fst.q (row (nx j k) r) d)
    ∧ (∀ d : Fin 128, ((p.T3 X17 X18 j arg19 v13 v15 v17 v19 v21 v24 v27 v29 v30 v32 v78 v84 v89 v92 v94 v96 v145 k).1 acc f14 f16).2.1 (ix2 t d)
      = acc.2.1 (ix2 t d) + ∑ r : Fin 512, p.fst.pr (row (nx j k) r) (row b t) * p.fst.g (row (nx j k) r) d)
    ∧ (((p.T3 X17 X18 j arg19 v13 v15 v17 v19 v21 v24 v27 v29 v30 v32 v78 v84 v89 v92 v94 v96 v145 k).1 acc f14 f16).2.2.1 (ix2 0 t)
      = acc.2.2.1 (ix2 0 t) + ∑ r : Fin 512, p.fst.ds (row (nx j k) r) (row b t))
    ∧ (∀ d : Fin 128, ((p.T3 X17 X18 j arg19 v13 v15 v17 v19 v21 v24 v27 v29 v30 v32 v78 v84 v89 v92 v94 v96 v145 k).1 acc f14 f16).2.2.2.1 (ix2 t d)
      = acc.2.2.2.1 (ix2 t d) + ∑ r : Fin 512, p.snd.ds (row (nx j k) r) (row b t) * p.snd.q (row (nx j k) r) d)
    ∧ (∀ d : Fin 128, ((p.T3 X17 X18 j arg19 v13 v15 v17 v19 v21 v24 v27 v29 v30 v32 v78 v84 v89 v92 v94 v96 v145 k).1 acc f14 f16).2.2.2.2.1 (ix2 t d)
      = acc.2.2.2.2.1 (ix2 t d) + ∑ r : Fin 512, p.snd.pr (row (nx j k) r) (row b t) * p.snd.g (row (nx j k) r) d)
    ∧ (((p.T3 X17 X18 j arg19 v13 v15 v17 v19 v21 v24 v27 v29 v30 v32 v78 v84 v89 v92 v94 v96 v145 k).1 acc f14 f16).2.2.2.2.2 (ix2 0 t)
      = acc.2.2.2.2.2 (ix2 0 t) + ∑ r : Fin 512, p.snd.ds (row (nx j k) r) (row b t)) := by
  obtain ⟨hd0, hd1, hl0, hl1⟩ := hp
  obtain ⟨hk0, hk1, hv0, hv1, hc0, hc1⟩ := hb
  obtain ⟨hq0, hq1, hg0, hg1⟩ := p.reads
  unfold Pt.T3 trip_k0_t3
  dsimp only
  sl_unfold_words
  simp only [View.readAt_eq_ld]
  refine ⟨fun d => ?_, fun d => ?_, ?_, fun d => ?_, fun d => ?_, ?_⟩
  all_goals unfold_payloads
  all_goals pointwise
  all_goals simp only [nx_off, hk0, hv0, hc0, hk1, hv1, hc1, hd0, hd1, hl0, hl1, hq0, hq1, hg0, hg1, Head.ds, Head.pr, Head.lg, Head.dp, Head.sc, row]

/-- What a trip adds to the first head's accumulated query gradient. -/
theorem T3_dq0 (hp : Prep p X17 X18) (hb : Blk p b v15 v17 v19 v21 v24 v27) acc f14 f16 (s : Fin 2048) (d : Fin 128) :
    p.arg16.view.read (Elt Ideal) (p.arg16.view.writes (Elt Ideal) f16 ((p.T3 X17 X18 j arg19 v13 v15 v17 v19 v21 v24 v27 v29 v30 v32 v78 v84 v89 v92 v94 v96 v145 k).2.2.1 acc f14 f16)) (ix3 0 s d)
      = p.arg16.view.read (Elt Ideal) f16 (ix3 0 s d) + (if s.val / 512 = (nx j k).val then (∑ t : Fin 512, p.fst.ds s (row b t) * p.fst.k (row b t) d) * Head.sc else 0) := by
  obtain ⟨hd0, hd1, hl0, hl1⟩ := hp
  obtain ⟨hk0, hk1, hv0, hv1, hc0, hc1⟩ := hb
  obtain ⟨hq0, hq1, hg0, hg1⟩ := p.reads
  unfold Pt.T3 trip_k0_t3
  dsimp only
  rw [View.read_writes_cons_miss_of_axis _ _ _ _ _ 0 1 1 (congrFun (off27 j k) 0) rfl rfl (Or.inl (by show (0 : ℕ) < 1; omega))]
  by_cases hs : s.val / 512 = (nx j k).val
  · have hs' : (⟨512 * (nx j k).val + s.val % 512, by omega⟩ : Fin 2048) = s := Fin.ext (by show 512 * (nx j k).val + s.val % 512 = s.val; omega)
    rw [if_pos hs, View.read_writes_cons_hit_of_coords _ _ _ _ _ (ix3 0 ⟨s.val % 512, by omega⟩ d) _ (fun a => by
      match a with
      | ⟨0, _⟩ => show 0 = k0_off25 j k 0 + 1 * 0; rw [off25]; rfl
      | ⟨1, _⟩ => show s.val = k0_off25 j k 1 + 1 * (s.val % 512); rw [off25]; show s.val = 512 * (nx j k).val + 1 * (s.val % 512); omega
      | ⟨2, _⟩ => show d.val = k0_off25 j k 2 + 1 * d.val; rw [off25]; show d.val = 0 + 1 * d.val; omega)]
    sl_unfold_words
    simp only [View.readAt_eq_ld]
    unfold_payloads
    pointwise
    simp only [nx_off, hs', hk0, hv0, hc0, hk1, hv1, hc1, hd0, hd1, hl0, hl1, hq0, hq1, hg0, hg1, Head.ds, Head.pr, Head.lg, Head.dp, Head.sc, row]
  · rw [if_neg hs, add_zero, View.read_writes_cons_miss_of_axis _ _ _ _ _ 1 (512 * (nx j k).val) 512 (congrFun (off25 j k) 1) rfl rfl (by
      show s.val < _ ∨ _ ≤ s.val; omega)]
    rfl

/-- What a trip adds to the first head's accumulated query decay gradient. -/
theorem T3_dc0 (hp : Prep p X17 X18) (hb : Blk p b v15 v17 v19 v21 v24 v27) acc f14 f16 (s : Fin 2048) :
    p.arg14.view.read (Elt Ideal) (p.arg14.view.writes (Elt Ideal) f14 ((p.T3 X17 X18 j arg19 v13 v15 v17 v19 v21 v24 v27 v29 v30 v32 v78 v84 v89 v92 v94 v96 v145 k).2.1 acc f14 f16)) (ix4 0 0 s 0)
      = p.arg14.view.read (Elt Ideal) f14 (ix4 0 0 s 0) + (if s.val / 512 = (nx j k).val then ∑ t : Fin 512, p.fst.ds s (row b t) else 0) := by
  obtain ⟨hd0, hd1, hl0, hl1⟩ := hp
  obtain ⟨hk0, hk1, hv0, hv1, hc0, hc1⟩ := hb
  obtain ⟨hq0, hq1, hg0, hg1⟩ := p.reads
  unfold Pt.T3 trip_k0_t3
  dsimp only
  rw [View.read_writes_cons_miss_of_axis _ _ _ _ _ 1 1 1 (congrFun (off28 j k) 1) rfl rfl (Or.inl (by show (0 : ℕ) < 1; omega))]
  by_cases hs : s.val / 512 = (nx j k).val
  · have hs' : (⟨512 * (nx j k).val + s.val % 512, by omega⟩ : Fin 2048) = s := Fin.ext (by show 512 * (nx j k).val + s.val % 512 = s.val; omega)
    rw [if_pos hs, View.read_writes_cons_hit_of_coords _ _ _ _ _ (ix4 0 0 ⟨s.val % 512, by omega⟩ 0) _ (fun a => by
      match a with
      | ⟨0, _⟩ => show 0 = k0_off26 j k 0 + 1 * 0; rw [off26]; rfl
      | ⟨1, _⟩ => show 0 = k0_off26 j k 1 + 1 * 0; rw [off26]; rfl
      | ⟨2, _⟩ => show s.val = k0_off26 j k 2 + 1 * (s.val % 512); rw [off26]; show s.val = 512 * (nx j k).val + 1 * (s.val % 512); omega
      | ⟨3, _⟩ => show 0 = k0_off26 j k 3 + 1 * 0; rw [off26]; rfl)]
    sl_unfold_words
    simp only [View.readAt_eq_ld]
    unfold_payloads
    pointwise
    simp only [nx_off, hs', hk0, hv0, hc0, hk1, hv1, hc1, hd0, hd1, hl0, hl1, hq0, hq1, hg0, hg1, Head.ds, Head.pr, Head.lg, Head.dp, Head.sc, row]
  · rw [if_neg hs, add_zero, View.read_writes_cons_miss_of_axis _ _ _ _ _ 2 (512 * (nx j k).val) 512 (congrFun (off26 j k) 2) rfl rfl (by
      show s.val < _ ∨ _ ≤ s.val; omega)]
    rfl

/-- What a trip adds to the second head's accumulated query gradient. -/
theorem T3_dq1 (hp : Prep p X17 X18) (hb : Blk p b v15 v17 v19 v21 v24 v27) acc f14 f16 (s : Fin 2048) (d : Fin 128) :
    p.arg16.view.read (Elt Ideal) (p.arg16.view.writes (Elt Ideal) f16 ((p.T3 X17 X18 j arg19 v13 v15 v17 v19 v21 v24 v27 v29 v30 v32 v78 v84 v89 v92 v94 v96 v145 k).2.2.1 acc f14 f16)) (ix3 1 s d)
      = p.arg16.view.read (Elt Ideal) f16 (ix3 1 s d) + (if s.val / 512 = (nx j k).val then (∑ t : Fin 512, p.snd.ds s (row b t) * p.snd.k (row b t) d) * Head.sc else 0) := by
  obtain ⟨hd0, hd1, hl0, hl1⟩ := hp
  obtain ⟨hk0, hk1, hv0, hv1, hc0, hc1⟩ := hb
  obtain ⟨hq0, hq1, hg0, hg1⟩ := p.reads
  unfold Pt.T3 trip_k0_t3
  dsimp only
  by_cases hs : s.val / 512 = (nx j k).val
  · have hs' : (⟨512 * (nx j k).val + s.val % 512, by omega⟩ : Fin 2048) = s := Fin.ext (by show 512 * (nx j k).val + s.val % 512 = s.val; omega)
    rw [if_pos hs, View.read_writes_cons_hit_of_coords _ _ _ _ _ (ix3 0 ⟨s.val % 512, by omega⟩ d) _ (fun a => by
      match a with
      | ⟨0, _⟩ => show 1 = k0_off27 j k 0 + 1 * 0; rw [off27]; rfl
      | ⟨1, _⟩ => show s.val = k0_off27 j k 1 + 1 * (s.val % 512); rw [off27]; show s.val = 512 * (nx j k).val + 1 * (s.val % 512); omega
      | ⟨2, _⟩ => show d.val = k0_off27 j k 2 + 1 * d.val; rw [off27]; show d.val = 0 + 1 * d.val; omega)]
    sl_unfold_words
    simp only [View.readAt_eq_ld]
    unfold_payloads
    pointwise
    simp only [nx_off, hs', hk0, hv0, hc0, hk1, hv1, hc1, hd0, hd1, hl0, hl1, hq0, hq1, hg0, hg1, Head.ds, Head.pr, Head.lg, Head.dp, Head.sc, row]
  · rw [if_neg hs, add_zero, View.read_writes_cons_miss_of_axis _ _ _ _ _ 1 (512 * (nx j k).val) 512 (congrFun (off27 j k) 1) rfl rfl (by
      show s.val < _ ∨ _ ≤ s.val; omega)]
    rw [View.read_writes_cons_miss_of_axis _ _ _ _ _ 1 (512 * (nx j k).val) 512 (congrFun (off25 j k) 1) rfl rfl (by
      show s.val < _ ∨ _ ≤ s.val; omega)]
    rfl

/-- What a trip adds to the second head's accumulated query decay gradient. -/
theorem T3_dc1 (hp : Prep p X17 X18) (hb : Blk p b v15 v17 v19 v21 v24 v27) acc f14 f16 (s : Fin 2048) :
    p.arg14.view.read (Elt Ideal) (p.arg14.view.writes (Elt Ideal) f14 ((p.T3 X17 X18 j arg19 v13 v15 v17 v19 v21 v24 v27 v29 v30 v32 v78 v84 v89 v92 v94 v96 v145 k).2.1 acc f14 f16)) (ix4 0 1 s 0)
      = p.arg14.view.read (Elt Ideal) f14 (ix4 0 1 s 0) + (if s.val / 512 = (nx j k).val then ∑ t : Fin 512, p.snd.ds s (row b t) else 0) := by
  obtain ⟨hd0, hd1, hl0, hl1⟩ := hp
  obtain ⟨hk0, hk1, hv0, hv1, hc0, hc1⟩ := hb
  obtain ⟨hq0, hq1, hg0, hg1⟩ := p.reads
  unfold Pt.T3 trip_k0_t3
  dsimp only
  by_cases hs : s.val / 512 = (nx j k).val
  · have hs' : (⟨512 * (nx j k).val + s.val % 512, by omega⟩ : Fin 2048) = s := Fin.ext (by show 512 * (nx j k).val + s.val % 512 = s.val; omega)
    rw [if_pos hs, View.read_writes_cons_hit_of_coords _ _ _ _ _ (ix4 0 0 ⟨s.val % 512, by omega⟩ 0) _ (fun a => by
      match a with
      | ⟨0, _⟩ => show 0 = k0_off28 j k 0 + 1 * 0; rw [off28]; rfl
      | ⟨1, _⟩ => show 1 = k0_off28 j k 1 + 1 * 0; rw [off28]; rfl
      | ⟨2, _⟩ => show s.val = k0_off28 j k 2 + 1 * (s.val % 512); rw [off28]; show s.val = 512 * (nx j k).val + 1 * (s.val % 512); omega
      | ⟨3, _⟩ => show 0 = k0_off28 j k 3 + 1 * 0; rw [off28]; rfl)]
    sl_unfold_words
    simp only [View.readAt_eq_ld]
    unfold_payloads
    pointwise
    simp only [nx_off, hs', hk0, hv0, hc0, hk1, hv1, hc1, hd0, hd1, hl0, hl1, hq0, hq1, hg0, hg1, Head.ds, Head.pr, Head.lg, Head.dp, Head.sc, row]
  · rw [if_neg hs, add_zero, View.read_writes_cons_miss_of_axis _ _ _ _ _ 2 (512 * (nx j k).val) 512 (congrFun (off28 j k) 2) rfl rfl (by
      show s.val < _ ∨ _ ≤ s.val; omega)]
    rw [View.read_writes_cons_miss_of_axis _ _ _ _ _ 2 (512 * (nx j k).val) 512 (congrFun (off26 j k) 2) rfl rfl (by
      show s.val < _ ∨ _ ≤ s.val; omega)]
    rfl

end inner

end Cert.FoxBwdIdeal.Outer

end
-- ==== Proof.FoxInner.lean ====
/-
  The inner loop of the attention backward call at one grid point: what its trips add together.
-/
module

public import proofs.«01_k».proof.Proof.FoxHead

@[expose] public section

set_option maxRecDepth 16384
set_option maxHeartbeats 4000000

noncomputable section

namespace Cert.FoxBwdIdeal.Outer

open Cert.FoxBwdIdeal Cert.FoxBwdIdeal.Gen
open Idealize.ShloMosaic Idealize.ShloMosaic.TcCoe Idealize.ShloMosaic.Tactic

/-- A key not past its query has the unmasked weight. -/
theorem Head.pr_eq (H : Head) (s t : Fin 2048) (h : t ≤ s) : H.pr s t = H.pm s t := by
  simp only [Head.pr, Head.pm, if_pos h]

theorem Head.ds_eq (H : Head) (s t : Fin 2048) (h : t ≤ s) : H.ds s t = H.dm s t := by
  simp only [Head.ds, Head.dm, Head.pr_eq H s t h]

/-- A key past its query has no weight. -/
theorem Head.pm_zero (H : Head) (s t : Fin 2048) (h : ¬ t ≤ s) : H.pm s t = 0 := by
  simp only [Head.pm, if_neg h, EReal.bot_sub, Ideal.exp_bot]

theorem Head.dm_zero (H : Head) (s t : Fin 2048) (h : ¬ t ≤ s) : H.dm s t = 0 := by
  simp only [Head.dm, Head.pm_zero H s t h, zero_mul]

/-- The sum over the blocks after `j` that `n` trips have met. -/
def later (f : Fin 4 → EReal) (j n : ℕ) : EReal := ∑ i : Fin 4, if j < i.val ∧ i.val < j + 1 + n then f i else 0

theorem later_zero (f : Fin 4 → EReal) (j : ℕ) : later f j 0 = 0 :=
  Finset.sum_eq_zero fun i _ => if_neg (by omega)

theorem later_succ (f : Fin 4 → EReal) (j n : ℕ) (i₀ : Fin 4) (h : i₀.val = j + 1 + n) :
    later f j (n + 1) = later f j n + f i₀ := by
  have e : ∀ i : Fin 4, (if j < i.val ∧ i.val < j + 1 + (n + 1) then f i else 0)
      = (if j < i.val ∧ i.val < j + 1 + n then f i else 0) + (if i = i₀ then f i else 0) := fun i => by
    by_cases hi : i = i₀
    · subst hi
      rw [if_pos (by omega), if_neg (by omega), if_pos rfl, zero_add]
    · have : i.val ≠ i₀.val := fun e => hi (Fin.ext e)
      rw [if_neg hi, add_zero]
      exact if_congr (by omega) rfl rfl
  unfold later
  rw [Finset.sum_congr rfl fun i _ => e i, Finset.sum_add_distrib, Finset.sum_ite_eq' Finset.univ i₀ f, if_pos (Finset.mem_univ _)]

/-- The block `j` and all later ones make the whole sum when the earlier ones are zero. -/
theorem later_full (f : Fin 4 → EReal) (j : Fin 4) (hz : ∀ i : Fin 4, i.val < j.val → f i = 0) :
    f j + later f j.val (3 - j.val) = ∑ i : Fin 4, f i := by
  have e : ∀ i : Fin 4, f i = (if i = j then f i else 0) + (if j.val < i.val ∧ i.val < j.val + 1 + (3 - j.val) then f i else 0) := fun i => by
    by_cases hi : i = j
    · subst hi
      rw [if_pos rfl, if_neg (by omega), add_zero]
    · have : i.val ≠ j.val := fun e => hi (Fin.ext e)
      rw [if_neg hi, zero_add]
      by_cases hl : i.val < j.val
      · rw [hz i hl]; split <;> rfl
      · rw [if_pos (by omega)]
  unfold later
  rw [Finset.sum_congr rfl fun i _ => e i, Finset.sum_add_distrib, Finset.sum_ite_eq' Finset.univ j f, if_pos (Finset.mem_univ _)]

theorem band_succ (c c' : EReal) (j n b : ℕ) (i : ℕ) (hi : i = j + 1 + n) (hc : b = i → c' = c) :
    (if j < b ∧ b < j + 1 + n then c else 0) + (if b = i then c' else 0) = if j < b ∧ b < j + 1 + (n + 1) then c else 0 := by
  by_cases hb : b = i
  · rw [if_pos hb, hc hb, if_neg (by omega), if_pos (by omega), zero_add]
  · rw [if_neg hb, add_zero]
    exact if_congr (by omega) rfl rfl

/-- The trips of the inner loop before trip `n`, at a point. -/
abbrev Pt.S3 (p : Pt) (X17 : BufTy.Contents (Elt Ideal) p.arg17.view.ty) (X18 : BufTy.Contents (Elt Ideal) p.arg18.view.ty) (j : Fin k0_t2_loop.trips) (arg19 : BitVec 32) (v13 : BitVec 32) (v15 v17 v19 v21 : Vec Ideal S512x128 .bf16) (v24 v27 v29 v30 : FVec Ideal S1x512 .f32) (v32 : BitVec 32) (v78 v84 : FVec Ideal S512x512 .f32) (v89 v92 v94 v96 : FVec Ideal S512x128 .f32) (v145 : BitVec 32) (G14 : BufTy.Contents (Elt Ideal) p.arg14.view.ty) (G16 : BufTy.Contents (Elt Ideal) p.arg16.view.ty) (init : FVec Ideal S512x128 .f32 × FVec Ideal S512x128 .f32 × FVec Ideal S1x512 .f32 × FVec Ideal S512x128 .f32 × FVec Ideal S512x128 .f32 × FVec Ideal S1x512 .f32) (n : ℕ) :=
  st_k0_t3 (F := Ideal) p.𝒱 p.c p.bd p.i p.arg2 p.harg2 p.arg3 p.harg3 p.arg4 p.harg4 p.arg5 p.harg5 p.arg6 p.harg6 p.arg7 p.harg7 p.arg8 p.harg8 p.arg9 p.harg9 p.arg10 p.harg10 p.arg11 p.harg11 p.arg12 p.harg12 p.arg13 p.harg13 p.arg14 p.harg14 p.arg15 p.harg15 p.arg16 p.harg16 p.arg17 p.harg17 p.arg18 p.harg18 j arg19 v13 v15 v17 v19 v21 v24 v27 v29 v30 v32 v78 v84 v89 v92 v94 v96 v145 p.X_arg2 p.X_arg5 p.X_arg12 X17 X18 G14 G16 init n

/-- The block of keys a trip of the outer loop works on. -/
abbrev jb (j : Fin k0_t2_loop.trips) : Fin 4 := ⟨j.val, (by decide +kernel : ∀ j : Fin k0_t2_loop.trips, j.val < 4) j⟩

section inner

variable (p : Pt) (X17 : BufTy.Contents (Elt Ideal) p.arg17.view.ty) (X18 : BufTy.Contents (Elt Ideal) p.arg18.view.ty)
  (j : Fin k0_t2_loop.trips) (arg19 : BitVec 32) (v13 : BitVec 32) (v15 v17 v19 v21 : Vec Ideal S512x128 .bf16)
  (v24 v27 v29 v30 : FVec Ideal S1x512 .f32) (v32 : BitVec 32) (v78 v84 : FVec Ideal S512x512 .f32)
  (v89 v92 v94 v96 : FVec Ideal S512x128 .f32) (v145 : BitVec 32)
  (G14 : BufTy.Contents (Elt Ideal) p.arg14.view.ty) (G16 : BufTy.Contents (Elt Ideal) p.arg16.view.ty) (init : FVec Ideal S512x128 .f32 × FVec Ideal S512x128 .f32 × FVec Ideal S1x512 .f32 × FVec Ideal S512x128 .f32 × FVec Ideal S512x128 .f32 × FVec Ideal S1x512 .f32)

/-- What the first trips add to the six carried values. -/
theorem S3_acc (hp : Prep p X17 X18) (hb : Blk p (jb j) v15 v17 v19 v21 v24 v27) (n : ℕ) (hn : n ≤ (k0_t3_loop j).trips) (t : Fin 512) :
    (∀ d : Fin 128, (p.S3 X17 X18 j arg19 v13 v15 v17 v19 v21 v24 v27 v29 v30 v32 v78 v84 v89 v92 v94 v96 v145 G14 G16 init n).1.1 (ix2 t d)
      = init.1 (ix2 t d) + later (fun i => ∑ r : Fin 512, p.fst.dm (row i r) (row (jb j) t) * p.fst.q (row i r) d) j.val n)
    ∧ (∀ d : Fin 128, (p.S3 X17 X18 j arg19 v13 v15 v17 v19 v21 v24 v27 v29 v30 v32 v78 v84 v89 v92 v94 v96 v145 G14 G16 init n).1.2.1 (ix2 t d)
      = init.2.1 (ix2 t d) + later (fun i => ∑ r : Fin 512, p.fst.pm (row i r) (row (jb j) t) * p.fst.g (row i r) d) j.val n)
    ∧ ((p.S3 X17 X18 j arg19 v13 v15 v17 v19 v21 v24 v27 v29 v30 v32 v78 v84 v89 v92 v94 v96 v145 G14 G16 init n).1.2.2.1 (ix2 0 t)
      = init.2.2.1 (ix2 0 t) + later (fun i => ∑ r : Fin 512, p.fst.dm (row i r) (row (jb j) t)) j.val n)
    ∧ (∀ d : Fin 128, (p.S3 X17 X18 j arg19 v13 v15 v17 v19 v21 v24 v27 v29 v30 v32 v78 v84 v89 v92 v94 v96 v145 G14 G16 init n).1.2.2.2.1 (ix2 t d)
      = init.2.2.2.1 (ix2 t d) + later (fun i => ∑ r : Fin 512, p.snd.dm (row i r) (row (jb j) t) * p.snd.q (row i r) d) j.val n)
    ∧ (∀ d : Fin 128, (p.S3 X17 X18 j arg19 v13 v15 v17 v19 v21 v24 v27 v29 v30 v32 v78 v84 v89 v92 v94 v96 v145 G14 G16 init n).1.2.2.2.2.1 (ix2 t d)
      = init.2.2.2.2.1 (ix2 t d) + later (fun i => ∑ r : Fin 512, p.snd.pm (row i r) (row (jb j) t) * p.snd.g (row i r) d) j.val n)
    ∧ ((p.S3 X17 X18 j arg19 v13 v15 v17 v19 v21 v24 v27 v29 v30 v32 v78 v84 v89 v92 v94 v96 v145 G14 G16 init n).1.2.2.2.2.2 (ix2 0 t)
      = init.2.2.2.2.2 (ix2 0 t) + later (fun i => ∑ r : Fin 512, p.snd.dm (row i r) (row (jb j) t)) j.val n) := by
  induction n with
  | zero =>
    simp only [later_zero, add_zero]
    exact ⟨fun _ => rfl, fun _ => rfl, rfl, fun _ => rfl, fun _ => rfl, rfl⟩
  | succ n ih =>
    obtain ⟨i1, i2, i3, i4, i5, i6⟩ := ih (by omega)
    have hk : n < (k0_t3_loop j).trips := by omega
    have hnx : (nx j ⟨n, hk⟩).val = j.val + 1 + n := rfl
    have hle : ∀ r : Fin 512, row (jb j) t ≤ row (nx j ⟨n, hk⟩) r := fun r => by
      show 512 * j.val + t.val ≤ 512 * (nx j ⟨n, hk⟩).val + r.val
      omega
    have e := st_k0_t3_succ (F := Ideal) p.𝒱 p.c p.bd p.i p.arg2 p.harg2 p.arg3 p.harg3 p.arg4 p.harg4 p.arg5 p.harg5 p.arg6 p.harg6 p.arg7 p.harg7 p.arg8 p.harg8 p.arg9 p.harg9 p.arg10 p.harg10 p.arg11 p.harg11 p.arg12 p.harg12 p.arg13 p.harg13 p.arg14 p.harg14 p.arg15 p.harg15 p.arg16 p.harg16 p.arg17 p.harg17 p.arg18 p.harg18 j arg19 v13 v15 v17 v19 v21 v24 v27 v29 v30 v32 v78 v84 v89 v92 v94 v96 v145 p.X_arg2 p.X_arg5 p.X_arg12 X17 X18 G14 G16 init ⟨n, hk⟩
    have T := T3_acc p X17 X18 j arg19 v13 v15 v17 v19 v21 v24 v27 v29 v30 v32 v78 v84 v89 v92 v94 v96 v145 ⟨n, hk⟩ (jb j) hp hb (p.S3 X17 X18 j arg19 v13 v15 v17 v19 v21 v24 v27 v29 v30 v32 v78 v84 v89 v92 v94 v96 v145 G14 G16 init n).1 (p.arg14.view.writes (Elt Ideal) G14 (p.S3 X17 X18 j arg19 v13 v15 v17 v19 v21 v24 v27 v29 v30 v32 v78 v84 v89 v92 v94 v96 v145 G14 G16 init n).2.1) (p.arg16.view.writes (Elt Ideal) G16 (p.S3 X17 X18 j arg19 v13 v15 v17 v19 v21 v24 v27 v29 v30 v32 v78 v84 v89 v92 v94 v96 v145 G14 G16 init n).2.2) t
    obtain ⟨t1, t2, t3, t4, t5, t6⟩ := T
    rw [show (p.S3 X17 X18 j arg19 v13 v15 v17 v19 v21 v24 v27 v29 v30 v32 v78 v84 v89 v92 v94 v96 v145 G14 G16 init (n + 1)) = _ from e]
    simp only [later_succ _ _ _ _ hnx, ← add_assoc]
    simp only [Head.ds_eq _ _ _ (hle _), Head.pr_eq _ _ _ (hle _)] at t1 t2 t3 t4 t5 t6
    exact ⟨fun d => (t1 d).trans (by rw [i1 d]), fun d => (t2 d).trans (by rw [i2 d]), t3.trans (by rw [i3]),
      fun d => (t4 d).trans (by rw [i4 d]), fun d => (t5 d).trans (by rw [i5 d]), t6.trans (by rw [i6])⟩

/-- What the first trips add to the accumulated gradients of the queries and of their decays. -/
theorem S3_buf (hp : Prep p X17 X18) (hb : Blk p (jb j) v15 v17 v19 v21 v24 v27) (n : ℕ) (hn : n ≤ (k0_t3_loop j).trips) (s : Fin 2048) :
    (∀ d : Fin 128, p.arg16.view.read (Elt Ideal) (p.arg16.view.writes (Elt Ideal) G16 (p.S3 X17 X18 j arg19 v13 v15 v17 v19 v21 v24 v27 v29 v30 v32 v78 v84 v89 v92 v94 v96 v145 G14 G16 init n).2.2) (ix3 0 s d)
      = p.arg16.view.read (Elt Ideal) G16 (ix3 0 s d) + (if j.val < s.val / 512 ∧ s.val / 512 < j.val + 1 + n then (∑ t : Fin 512, p.fst.dm s (row (jb j) t) * p.fst.k (row (jb j) t) d) * Head.sc else 0))
    ∧ (p.arg14.view.read (Elt Ideal) (p.arg14.view.writes (Elt Ideal) G14 (p.S3 X17 X18 j arg19 v13 v15 v17 v19 v21 v24 v27 v29 v30 v32 v78 v84 v89 v92 v94 v96 v145 G14 G16 init n).2.1) (ix4 0 0 s 0)
      = p.arg14.view.read (Elt Ideal) G14 (ix4 0 0 s 0) + (if j.val < s.val / 512 ∧ s.val / 512 < j.val + 1 + n then ∑ t : Fin 512, p.fst.dm s (row (jb j) t) else 0))
    ∧ (∀ d : Fin 128, p.arg16.view.read (Elt Ideal) (p.arg16.view.writes (Elt Ideal) G16 (p.S3 X17 X18 j arg19 v13 v15 v17 v19 v21 v24 v27 v29 v30 v32 v78 v84 v89 v92 v94 v96 v145 G14 G16 init n).2.2) (ix3 1 s d)
      = p.arg16.view.read (Elt Ideal) G16 (ix3 1 s d) + (if j.val < s.val / 512 ∧ s.val / 512 < j.val + 1 + n then (∑ t : Fin 512, p.snd.dm s (row (jb j) t) * p.snd.k (row (jb j) t) d) * Head.sc else 0))
    ∧ (p.arg14.view.read (Elt Ideal) (p.arg14.view.writes (Elt Ideal) G14 (p.S3 X17 X18 j arg19 v13 v15 v17 v19 v21 v24 v27 v29 v30 v32 v78 v84 v89 v92 v94 v96 v145 G14 G16 init n).2.1) (ix4 0 1 s 0)
      = p.arg14.view.read (Elt Ideal) G14 (ix4 0 1 s 0) + (if j.val < s.val / 512 ∧ s.val / 512 < j.val + 1 + n then ∑ t : Fin 512, p.snd.dm s (row (jb j) t) else 0)) := by
  induction n with
  | zero =>
    have h0 : ∀ c : EReal, (if j.val < s.val / 512 ∧ s.val / 512 < j.val + 1 + 0 then c else 0) = 0 := fun c => if_neg (by omega)
    simp only [h0, add_zero]
    exact ⟨fun _ => rfl, rfl, fun _ => rfl, rfl⟩
  | succ n ih =>
    obtain ⟨i1, i2, i3, i4⟩ := ih (by omega)
    have hk : n < (k0_t3_loop j).trips := by omega
    have hnx : (nx j ⟨n, hk⟩).val = j.val + 1 + n := rfl
    have hle : s.val / 512 = (nx j ⟨n, hk⟩).val → ∀ t : Fin 512, row (jb j) t ≤ s := fun h t => by
      show 512 * j.val + t.val ≤ s.val
      omega
    have e := st_k0_t3_succ (F := Ideal) p.𝒱 p.c p.bd p.i p.arg2 p.harg2 p.arg3 p.harg3 p.arg4 p.harg4 p.arg5 p.harg5 p.arg6 p.harg6 p.arg7 p.harg7 p.arg8 p.harg8 p.arg9 p.harg9 p.arg10 p.harg10 p.arg11 p.harg11 p.arg12 p.harg12 p.arg13 p.harg13 p.arg14 p.harg14 p.arg15 p.harg15 p.arg16 p.harg16 p.arg17 p.harg17 p.arg18 p.harg18 j arg19 v13 v15 v17 v19 v21 v24 v27 v29 v30 v32 v78 v84 v89 v92 v94 v96 v145 p.X_arg2 p.X_arg5 p.X_arg12 X17 X18 G14 G16 init ⟨n, hk⟩
    rw [show (p.S3 X17 X18 j arg19 v13 v15 v17 v19 v21 v24 v27 v29 v30 v32 v78 v84 v89 v92 v94 v96 v145 G14 G16 init (n + 1)) = _ from e]
    simp only [View.writes_append]
    refine ⟨fun d => ?_, ?_, fun d => ?_, ?_⟩
    · refine (T3_dq0 p X17 X18 j arg19 v13 v15 v17 v19 v21 v24 v27 v29 v30 v32 v78 v84 v89 v92 v94 v96 v145 ⟨n, hk⟩ (jb j) hp hb (p.S3 X17 X18 j arg19 v13 v15 v17 v19 v21 v24 v27 v29 v30 v32 v78 v84 v89 v92 v94 v96 v145 G14 G16 init n).1 (p.arg14.view.writes (Elt Ideal) G14 (p.S3 X17 X18 j arg19 v13 v15 v17 v19 v21 v24 v27 v29 v30 v32 v78 v84 v89 v92 v94 v96 v145 G14 G16 init n).2.1) (p.arg16.view.writes (Elt Ideal) G16 (p.S3 X17 X18 j arg19 v13 v15 v17 v19 v21 v24 v27 v29 v30 v32 v78 v84 v89 v92 v94 v96 v145 G14 G16 init n).2.2) s d).trans ?_
      rw [i1 d, add_assoc, band_succ _ _ _ _ _ _ hnx fun h => ?_]
      simp only [Head.ds_eq _ _ _ (hle h _)]
    · refine (T3_dc0 p X17 X18 j arg19 v13 v15 v17 v19 v21 v24 v27 v29 v30 v32 v78 v84 v89 v92 v94 v96 v145 ⟨n, hk⟩ (jb j) hp hb (p.S3 X17 X18 j arg19 v13 v15 v17 v19 v21 v24 v27 v29 v30 v32 v78 v84 v89 v92 v94 v96 v145 G14 G16 init n).1 (p.arg14.view.writes (Elt Ideal) G14 (p.S3 X17 X18 j arg19 v13 v15 v17 v19 v21 v24 v27 v29 v30 v32 v78 v84 v89 v92 v94 v96 v145 G14 G16 init n).2.1) (p.arg16.view.writes (Elt Ideal) G16 (p.S3 X17 X18 j arg19 v13 v15 v17 v19 v21 v24 v27 v29 v30 v32 v78 v84 v89 v92 v94 v96 v145 G14 G16 init n).2.2) s).trans ?_
      rw [i2, add_assoc, band_succ _ _ _ _ _ _ hnx fun h => ?_]
      simp only [Head.ds_eq _ _ _ (hle h _)]
    · refine (T3_dq1 p X17 X18 j arg19 v13 v15 v17 v19 v21 v24 v27 v29 v30 v32 v78 v84 v89 v92 v94 v96 v145 ⟨n, hk⟩ (jb j) hp hb (p.S3 X17 X18 j arg19 v13 v15 v17 v19 v21 v24 v27 v29 v30 v32 v78 v84 v89 v92 v94 v96 v145 G14 G16 init n).1 (p.arg14.view.writes (Elt Ideal) G14 (p.S3 X17 X18 j arg19 v13 v15 v17 v19 v21 v24 v27 v29 v30 v32 v78 v84 v89 v92 v94 v96 v145 G14 G16 init n).2.1) (p.arg16.view.writes (Elt Ideal) G16 (p.S3 X17 X18 j arg19 v13 v15 v17 v19 v21 v24 v27 v29 v30 v32 v78 v84 v89 v92 v94 v96 v145 G14 G16 init n).2.2) s d).trans ?_
      rw [i3 d, add_assoc, band_succ _ _ _ _ _ _ hnx fun h => ?_]
      simp only [Head.ds_eq _ _ _ (hle h _)]
    · refine (T3_dc1 p X17 X18 j arg19 v13 v15 v17 v19 v21 v24 v27 v29 v30 v32 v78 v84 v89 v92 v94 v96 v145 ⟨n, hk⟩ (jb j) hp hb (p.S3 X17 X18 j arg19 v13 v15 v17 v19 v21 v24 v27 v29 v30 v32 v78 v84 v89 v92 v94 v96 v145 G14 G16 init n).1 (p.arg14.view.writes (Elt Ideal) G14 (p.S3 X17 X18 j arg19 v13 v15 v17 v19 v21 v24 v27 v29 v30 v32 v78 v84 v89 v92 v94 v96 v145 G14 G16 init n).2.1) (p.arg16.view.writes (Elt Ideal) G16 (p.S3 X17 X18 j arg19 v13 v15 v17 v19 v21 v24 v27 v29 v30 v32 v78 v84 v89 v92 v94 v96 v145 G14 G16 init n).2.2) s).trans ?_
      rw [i4, add_assoc, band_succ _ _ _ _ _ _ hnx fun h => ?_]
      simp only [Head.ds_eq _ _ _ (hle h _)]

end inner

end Cert.FoxBwdIdeal.Outer

end
-- ==== Proof.FoxDiag.lean ====
/-
  One trip of the outer loop of the attention backward call: the block on the diagonal.
-/
module

public import proofs.«01_k».proof.Proof.FoxInner

@[expose] public section

set_option maxRecDepth 16384
set_option maxHeartbeats 4000000

noncomputable section

namespace Cert.FoxBwdIdeal.Outer

open Cert.FoxBwdIdeal Cert.FoxBwdIdeal.Gen
open Idealize.ShloMosaic Idealize.ShloMosaic.TcCoe Idealize.ShloMosaic.Tactic

theorem off16 : ∀ k : Fin k0_t2_loop.trips, k0_off16 k = ![0, 512 * k.val, 0] := by decide +kernel

theorem off18 : ∀ k : Fin k0_t2_loop.trips, k0_off18 k = ![1, 512 * k.val, 0] := by decide +kernel

theorem off17 : ∀ k : Fin k0_t2_loop.trips, k0_off17 k = ![0, 0, 512 * k.val, 0] := by decide +kernel

theorem off19 : ∀ k : Fin k0_t2_loop.trips, k0_off19 k = ![0, 1, 512 * k.val, 0] := by decide +kernel

theorem t2_off : ∀ k : Fin k0_t2_loop.trips,
    (Scalar.indexCast (Scalar.muli (Scf.iv 0#32 1#32 k.val) 512#32)).toNat = 512 * k.val := by decide +kernel

/-- The two planes of row and column numbers within a block. -/
def Planes (v0 v1 : IVec S512x512 32) : Prop :=
  (∀ r c : Fin 512, v0 (ix2 r c) = BitVec.ofNat 32 r.val) ∧ (∀ r c : Fin 512, v1 (ix2 r c) = BitVec.ofNat 32 c.val)

theorem sle_ofNat (a b : Fin 512) : (BitVec.ofNat 32 a.val).sle (BitVec.ofNat 32 b.val) = decide (a ≤ b) := by
  have ha : (BitVec.ofNat 32 a.val).toInt = a.val := by
    rw [BitVec.toInt_eq_toNat_of_lt (by rw [BitVec.toNat_ofNat, Nat.mod_eq_of_lt (by omega)]; omega), BitVec.toNat_ofNat, Nat.mod_eq_of_lt (by omega)]
  have hb : (BitVec.ofNat 32 b.val).toInt = b.val := by
    rw [BitVec.toInt_eq_toNat_of_lt (by rw [BitVec.toNat_ofNat, Nat.mod_eq_of_lt (by omega)]; omega), BitVec.toNat_ofNat, Nat.mod_eq_of_lt (by omega)]
  rw [BitVec.sle_eq_decide, ha, hb]
  exact decide_eq_decide.mpr ⟨fun h => Fin.mk_le_mk.mpr (by omega), fun h => by have := Fin.le_def.mp h; omega⟩

/-- The mask keeps a key not past its query, and puts minus infinity elsewhere. -/
theorem masked (t r : Fin 512) (a : EReal) :
    Scalar.select (IntOp.cmpi .sle (BitVec.ofNat 32 t.val) (BitVec.ofNat 32 r.val)) a (Named.named (F := Ideal) (φ := .f32) κ "masked" 0xF149F2CA#32)
      = if t ≤ r then a else ⊥ := by
  have hm : Named.named (F := Ideal) (φ := .f32) κ "masked" 0xF149F2CA#32 = (⊥ : EReal) := rfl
  rw [hm]
  show (if BitVec.ofBool ((BitVec.ofNat 32 t.val).sle (BitVec.ofNat 32 r.val)) = 1 then a else ⊥) = _
  rw [sle_ofNat]
  by_cases h : t ≤ r
  · rw [if_pos h, decide_eq_true h]; rfl
  · rw [if_neg h, decide_eq_false h]; rfl

/-- Within a block rows compare as their places do. -/
theorem row_le (k : ℕ) (t r : Fin 512) (h1 : 512 * k + t.val < 2048) (h2 : 512 * k + r.val < 2048) :
    ((⟨512 * k + t.val, h1⟩ : Fin 2048) ≤ ⟨512 * k + r.val, h2⟩) = (t ≤ r) :=
  propext ⟨fun h => by have : 512 * k + t.val ≤ 512 * k + r.val := h; exact Fin.le_def.mpr (by omega), fun h => by
    have := Fin.le_def.mp h; show 512 * k + t.val ≤ 512 * k + r.val; omega⟩

/-- The two heads' keys, values and key decays, as the operands hold them. -/
theorem Pt.reads_kv (p : Pt) :
    (∀ s d, p.arg3.view.read (Elt Ideal) p.X_arg3 (ix2 s d) = p.fst.k s d)
    ∧ (∀ s d, p.arg6.view.read (Elt Ideal) p.X_arg6 (ix2 s d) = p.snd.k s d)
    ∧ (∀ s d, p.arg4.view.read (Elt Ideal) p.X_arg4 (ix2 s d) = p.fst.v s d)
    ∧ (∀ s d, p.arg7.view.read (Elt Ideal) p.X_arg7 (ix2 s d) = p.snd.v s d)
    ∧ (∀ s, p.arg9.view.read (Elt Ideal) p.X_arg9 (ix4 0 0 0 s) = p.fst.cr s)
    ∧ (∀ s, p.arg9.view.read (Elt Ideal) p.X_arg9 (ix4 0 1 0 s) = p.snd.cr s) :=
  ⟨fun _ _ => rfl, fun _ _ => rfl, fun _ _ => rfl, fun _ _ => rfl, fun _ => rfl, fun _ => rfl⟩

section diag

variable (p : Pt) (v0 v1 : IVec S512x512 32) (X17 : BufTy.Contents (Elt Ideal) p.arg17.view.ty)
  (X18 : BufTy.Contents (Elt Ideal) p.arg18.view.ty) (k : Fin k0_t2_loop.trips)

/-- The blocks a trip of the outer loop loads. -/
theorem T2_blk : Blk p (jb k) (trip.sl.r p.arg3 p.X_arg3 k) (trip.sl.r_1 p.arg6 p.X_arg6 k) (trip.sl.r_2 p.arg4 p.X_arg4 k) (trip.sl.r_3 p.arg7 p.X_arg7 k) (trip.sl.v24 p.arg9 p.X_arg9 k) (trip.sl.v27 p.arg9 p.X_arg9 k) := by
  unfold Blk
  sl_unfold_words
  simp only [View.readAt_eq_ld]
  refine ⟨fun t d => ?_, fun t d => ?_, fun t d => ?_, fun t d => ?_, fun t => ?_, fun t => ?_⟩
  all_goals pointwise
  all_goals simp only [t2_off]
  all_goals rfl

/-- What the block on the diagonal gives the six carried values. -/
abbrev Pt.I2 : FVec Ideal S512x128 .f32 × FVec Ideal S512x128 .f32 × FVec Ideal S1x512 .f32 × FVec Ideal S512x128 .f32 × FVec Ideal S512x128 .f32 × FVec Ideal S1x512 .f32 :=
  (trip.sl.v94 p.arg2 p.arg3 p.arg4 p.arg9 p.arg12 p.arg17 p.arg18 v0 v1 p.X_arg2 p.X_arg3 p.X_arg4 p.X_arg9 p.X_arg12 X17 X18 k, trip.sl.r_10 p.arg2 p.arg3 p.arg9 p.arg12 p.arg18 v0 v1 p.X_arg2 p.X_arg3 p.X_arg9 p.X_arg12 X18 k, trip.sl.v141 p.arg2 p.arg3 p.arg4 p.arg9 p.arg12 p.arg17 p.arg18 v0 v1 p.X_arg2 p.X_arg3 p.X_arg4 p.X_arg9 p.X_arg12 X17 X18 k, trip.sl.v96 p.arg5 p.arg6 p.arg7 p.arg9 p.arg12 p.arg17 p.arg18 v0 v1 p.X_arg5 p.X_arg6 p.X_arg7 p.X_arg9 p.X_arg12 X17 X18 k, trip.sl.r_11 p.arg5 p.arg6 p.arg9 p.arg12 p.arg18 v0 v1 p.X_arg5 p.X_arg6 p.X_arg9 p.X_arg12 X18 k, trip.sl.v144 p.arg5 p.arg6 p.arg7 p.arg9 p.arg12 p.arg17 p.arg18 v0 v1 p.X_arg5 p.X_arg6 p.X_arg7 p.X_arg9 p.X_arg12 X17 X18 k)

theorem I2_acc (hv : Planes v0 v1) (hp : Prep p X17 X18) (t : Fin 512) :
    (∀ d : Fin 128, (Pt.I2 p v0 v1 X17 X18 k).1 (ix2 t d) = ∑ r : Fin 512, p.fst.dm (row (jb k) r) (row (jb k) t) * p.fst.q (row (jb k) r) d)
    ∧ (∀ d : Fin 128, (Pt.I2 p v0 v1 X17 X18 k).2.1 (ix2 t d) = ∑ r : Fin 512, p.fst.pm (row (jb k) r) (row (jb k) t) * p.fst.g (row (jb k) r) d)
    ∧ ((Pt.I2 p v0 v1 X17 X18 k).2.2.1 (ix2 0 t) = ∑ r : Fin 512, p.fst.dm (row (jb k) r) (row (jb k) t))
    ∧ (∀ d : Fin 128, (Pt.I2 p v0 v1 X17 X18 k).2.2.2.1 (ix2 t d) = ∑ r : Fin 512, p.snd.dm (row (jb k) r) (row (jb k) t) * p.snd.q (row (jb k) r) d)
    ∧ (∀ d : Fin 128, (Pt.I2 p v0 v1 X17 X18 k).2.2.2.2.1 (ix2 t d) = ∑ r : Fin 512, p.snd.pm (row (jb k) r) (row (jb k) t) * p.snd.g (row (jb k) r) d)
    ∧ ((Pt.I2 p v0 v1 X17 X18 k).2.2.2.2.2 (ix2 0 t) = ∑ r : Fin 512, p.snd.dm (row (jb k) r) (row (jb k) t)) := by
  obtain ⟨hv0, hv1⟩ := hv
  obtain ⟨hd0, hd1, hl0, hl1⟩ := hp
  obtain ⟨hq0, hq1, hg0, hg1⟩ := p.reads
  obtain ⟨hk0, hk1, hw0, hw1, hc0, hc1⟩ := p.reads_kv
  unfold Pt.I2
  dsimp only
  sl_unfold_words
  simp only [View.readAt_eq_ld]
  unfold_payloads
  refine ⟨fun d => ?_, fun d => ?_, ?_, fun d => ?_, fun d => ?_, ?_⟩
  all_goals pointwise
  all_goals simp only [t2_off, hv0, hv1, hd0, hd1, hl0, hl1, hq0, hq1, hg0, hg1, hk0, hk1, hw0, hw1, hc0, hc1, masked, Head.dm, Head.pm, Head.lg, Head.dp, Head.sc, row, row_le]

/-- What the diagonal block adds to the first head's query gradient. -/
theorem D2_dq0 (hv : Planes v0 v1) (hp : Prep p X17 X18) (f : BufTy.Contents (Elt Ideal) p.arg16.view.ty) (s : Fin 2048) (d : Fin 128) :
    p.arg16.view.read (Elt Ideal) (p.arg16.view.writes (Elt Ideal) f [⟨Rect.unit (k0_off18 k) ![1, 512, 128] (k0_off18_inb k), trip.sl.v128 p.arg5 p.arg6 p.arg7 p.arg9 p.arg12 p.arg16 p.arg17 p.arg18 v0 v1 p.X_arg5 p.X_arg6 p.X_arg7 p.X_arg9 p.X_arg12 X17 X18 k f⟩, ⟨Rect.unit (k0_off16 k) ![1, 512, 128] (k0_off16_inb k), trip.sl.v107 p.arg2 p.arg3 p.arg4 p.arg9 p.arg12 p.arg16 p.arg17 p.arg18 v0 v1 p.X_arg2 p.X_arg3 p.X_arg4 p.X_arg9 p.X_arg12 X17 X18 k f⟩]) (ix3 0 s d)
      = p.arg16.view.read (Elt Ideal) f (ix3 0 s d) + (if s.val / 512 = k.val then (∑ t : Fin 512, p.fst.dm s (row (jb k) t) * p.fst.k (row (jb k) t) d) * Head.sc else 0) := by
  have hk4 : k.val < 4 := (jb k).isLt
  obtain ⟨hv0, hv1⟩ := hv
  obtain ⟨hd0, hd1, hl0, hl1⟩ := hp
  obtain ⟨hq0, hq1, hg0, hg1⟩ := p.reads
  obtain ⟨hk0, hk1, hw0, hw1, hc0, hc1⟩ := p.reads_kv
  rw [View.read_writes_cons_miss_of_axis _ _ _ _ _ 0 1 1 (congrFun (off18 k) 0) rfl rfl (Or.inl (by show (0 : ℕ) < 1; omega))]
  by_cases hs : s.val / 512 = k.val
  · have hs' : (⟨512 * k.val + s.val % 512, by omega⟩ : Fin 2048) = s := Fin.ext (by show 512 * k.val + s.val % 512 = s.val; omega)
    rw [if_pos hs, View.read_writes_cons_hit_of_coords _ _ _ _ _ (ix3 0 ⟨s.val % 512, by omega⟩ d) _ (fun a => by
      match a with
      | ⟨0, _⟩ => show 0 = k0_off16 k 0 + 1 * 0; rw [off16]; rfl
      | ⟨1, _⟩ => show s.val = k0_off16 k 1 + 1 * (s.val % 512); rw [off16]; show s.val = 512 * k.val + 1 * (s.val % 512); omega
      | ⟨2, _⟩ => show d.val = k0_off16 k 2 + 1 * d.val; rw [off16]; show d.val = 0 + 1 * d.val; omega)]
    sl_unfold_words
    try simp only [View.readAt_eq_ld]
    unfold_payloads
    pointwise
    simp only [t2_off, hv0, hv1, hd0, hd1, hl0, hl1, hq0, hq1, hg0, hg1, hk0, hk1, hw0, hw1, hc0, hc1, masked, Head.dm, Head.pm, Head.lg, Head.dp, Head.sc, row]
    have hrow : ∀ t : Fin 512, (t ≤ (⟨s.val % 512, by omega⟩ : Fin 512)) = ((⟨512 * k.val + t.val, by omega⟩ : Fin 2048) ≤ s) := fun t => by
      rw [← row_le k.val t ⟨s.val % 512, by omega⟩ (by omega) (by show 512 * k.val + s.val % 512 < 2048; omega)]
      simp only [hs']
    have hmask : ∀ (t : Fin 512) (a : EReal), Scalar.select (IntOp.cmpi .sle (BitVec.ofNat 32 t.val) (BitVec.ofNat 32 (s.val % 512))) a (Named.named (F := Ideal) (φ := .f32) κ "masked" 0xF149F2CA#32)
        = if (⟨512 * k.val + t.val, by omega⟩ : Fin 2048) ≤ s then a else ⊥ := fun t a => by
      have := masked t ⟨s.val % 512, by omega⟩ a
      simp only [hrow] at this
      exact this
    simp only [hs', hmask]
  · rw [if_neg hs, add_zero, View.read_writes_cons_miss_of_axis _ _ _ _ _ 1 (512 * k.val) 512 (congrFun (off16 k) 1) rfl rfl (by
      show s.val < _ ∨ _ ≤ s.val; omega)]
    rfl

/-- What the diagonal block adds to the first head's query decay gradient. -/
theorem D2_dc0 (hv : Planes v0 v1) (hp : Prep p X17 X18) (f : BufTy.Contents (Elt Ideal) p.arg14.view.ty) (s : Fin 2048) :
    p.arg14.view.read (Elt Ideal) (p.arg14.view.writes (Elt Ideal) f [⟨Rect.unit (k0_off19 k) ![1, 1, 512, 1] (k0_off19_inb k), trip.sl.v138 p.arg5 p.arg6 p.arg7 p.arg9 p.arg12 p.arg14 p.arg17 p.arg18 v0 v1 p.X_arg5 p.X_arg6 p.X_arg7 p.X_arg9 p.X_arg12 X17 X18 k f⟩, ⟨Rect.unit (k0_off17 k) ![1, 1, 512, 1] (k0_off17_inb k), trip.sl.v117 p.arg2 p.arg3 p.arg4 p.arg9 p.arg12 p.arg14 p.arg17 p.arg18 v0 v1 p.X_arg2 p.X_arg3 p.X_arg4 p.X_arg9 p.X_arg12 X17 X18 k f⟩]) (ix4 0 0 s 0)
      = p.arg14.view.read (Elt Ideal) f (ix4 0 0 s 0) + (if s.val / 512 = k.val then ∑ t : Fin 512, p.fst.dm s (row (jb k) t) else 0) := by
  have hk4 : k.val < 4 := (jb k).isLt
  obtain ⟨hv0, hv1⟩ := hv
  obtain ⟨hd0, hd1, hl0, hl1⟩ := hp
  obtain ⟨hq0, hq1, hg0, hg1⟩ := p.reads
  obtain ⟨hk0, hk1, hw0, hw1, hc0, hc1⟩ := p.reads_kv
  rw [View.read_writes_cons_miss_of_axis _ _ _ _ _ 1 1 1 (congrFun (off19 k) 1) rfl rfl (Or.inl (by show (0 : ℕ) < 1; omega))]
  by_cases hs : s.val / 512 = k.val
  · have hs' : (⟨512 * k.val + s.val % 512, by omega⟩ : Fin 2048) = s := Fin.ext (by show 512 * k.val + s.val % 512 = s.val; omega)
    rw [if_pos hs, View.read_writes_cons_hit_of_coords _ _ _ _ _ (ix4 0 0 ⟨s.val % 512, by omega⟩ 0) _ (fun a => by
      match a with
      | ⟨0, _⟩ => show 0 = k0_off17 k 0 + 1 * 0; rw [off17]; rfl
      | ⟨1, _⟩ => show 0 = k0_off17 k 1 + 1 * 0; rw [off17]; rfl
      | ⟨2, _⟩ => show s.val = k0_off17 k 2 + 1 * (s.val % 512); rw [off17]; show s.val = 512 * k.val + 1 * (s.val % 512); omega
      | ⟨3, _⟩ => show 0 = k0_off17 k 3 + 1 * 0; rw [off17]; rfl)]
    sl_unfold_words
    try simp only [View.readAt_eq_ld]
    unfold_payloads
    pointwise
    simp only [t2_off, hv0, hv1, hd0, hd1, hl0, hl1, hq0, hq1, hg0, hg1, hk0, hk1, hw0, hw1, hc0, hc1, masked, Head.dm, Head.pm, Head.lg, Head.dp, Head.sc, row]
    have hrow : ∀ t : Fin 512, (t ≤ (⟨s.val % 512, by omega⟩ : Fin 512)) = ((⟨512 * k.val + t.val, by omega⟩ : Fin 2048) ≤ s) := fun t => by
      rw [← row_le k.val t ⟨s.val % 512, by omega⟩ (by omega) (by show 512 * k.val + s.val % 512 < 2048; omega)]
      simp only [hs']
    have hmask : ∀ (t : Fin 512) (a : EReal), Scalar.select (IntOp.cmpi .sle (BitVec.ofNat 32 t.val) (BitVec.ofNat 32 (s.val % 512))) a (Named.named (F := Ideal) (φ := .f32) κ "masked" 0xF149F2CA#32)
        = if (⟨512 * k.val + t.val, by omega⟩ : Fin 2048) ≤ s then a else ⊥ := fun t a => by
      have := masked t ⟨s.val % 512, by omega⟩ a
      simp only [hrow] at this
      exact this
    simp only [hs', hmask]
  · rw [if_neg hs, add_zero, View.read_writes_cons_miss_of_axis _ _ _ _ _ 2 (512 * k.val) 512 (congrFun (off17 k) 2) rfl rfl (by
      show s.val < _ ∨ _ ≤ s.val; omega)]
    rfl

/-- What the diagonal block adds to the second head's query gradient. -/
theorem D2_dq1 (hv : Planes v0 v1) (hp : Prep p X17 X18) (f : BufTy.Contents (Elt Ideal) p.arg16.view.ty) (s : Fin 2048) (d : Fin 128) :
    p.arg16.view.read (Elt Ideal) (p.arg16.view.writes (Elt Ideal) f [⟨Rect.unit (k0_off18 k) ![1, 512, 128] (k0_off18_inb k), trip.sl.v128 p.arg5 p.arg6 p.arg7 p.arg9 p.arg12 p.arg16 p.arg17 p.arg18 v0 v1 p.X_arg5 p.X_arg6 p.X_arg7 p.X_arg9 p.X_arg12 X17 X18 k f⟩, ⟨Rect.unit (k0_off16 k) ![1, 512, 128] (k0_off16_inb k), trip.sl.v107 p.arg2 p.arg3 p.arg4 p.arg9 p.arg12 p.arg16 p.arg17 p.arg18 v0 v1 p.X_arg2 p.X_arg3 p.X_arg4 p.X_arg9 p.X_arg12 X17 X18 k f⟩]) (ix3 1 s d)
      = p.arg16.view.read (Elt Ideal) f (ix3 1 s d) + (if s.val / 512 = k.val then (∑ t : Fin 512, p.snd.dm s (row (jb k) t) * p.snd.k (row (jb k) t) d) * Head.sc else 0) := by
  have hk4 : k.val < 4 := (jb k).isLt
  obtain ⟨hv0, hv1⟩ := hv
  obtain ⟨hd0, hd1, hl0, hl1⟩ := hp
  obtain ⟨hq0, hq1, hg0, hg1⟩ := p.reads
  obtain ⟨hk0, hk1, hw0, hw1, hc0, hc1⟩ := p.reads_kv
  by_cases hs : s.val / 512 = k.val
  · have hs' : (⟨512 * k.val + s.val % 512, by omega⟩ : Fin 2048) = s := Fin.ext (by show 512 * k.val + s.val % 512 = s.val; omega)
    rw [if_pos hs, View.read_writes_cons_hit_of_coords _ _ _ _ _ (ix3 0 ⟨s.val % 512, by omega⟩ d) _ (fun a => by
      match a with
      | ⟨0, _⟩ => show 1 = k0_off18 k 0 + 1 * 0; rw [off18]; rfl
      | ⟨1, _⟩ => show s.val = k0_off18 k 1 + 1 * (s.val % 512); rw [off18]; show s.val = 512 * k.val + 1 * (s.val % 512); omega
      | ⟨2, _⟩ => show d.val = k0_off18 k 2 + 1 * d.val; rw [off18]; show d.val = 0 + 1 * d.val; omega)]
    sl_unfold_words
    try simp only [View.readAt_eq_ld]
    unfold_payloads
    pointwise
    simp only [t2_off, hv0, hv1, hd0, hd1, hl0, hl1, hq0, hq1, hg0, hg1, hk0, hk1, hw0, hw1, hc0, hc1, masked, Head.dm, Head.pm, Head.lg, Head.dp, Head.sc, row]
    have hrow : ∀ t : Fin 512, (t ≤ (⟨s.val % 512, by omega⟩ : Fin 512)) = ((⟨512 * k.val + t.val, by omega⟩ : Fin 2048) ≤ s) := fun t => by
      rw [← row_le k.val t ⟨s.val % 512, by omega⟩ (by omega) (by show 512 * k.val + s.val % 512 < 2048; omega)]
      simp only [hs']
    have hmask : ∀ (t : Fin 512) (a : EReal), Scalar.select (IntOp.cmpi .sle (BitVec.ofNat 32 t.val) (BitVec.ofNat 32 (s.val % 512))) a (Named.named (F := Ideal) (φ := .f32) κ "masked" 0xF149F2CA#32)
        = if (⟨512 * k.val + t.val, by omega⟩ : Fin 2048) ≤ s then a else ⊥ := fun t a => by
      have := masked t ⟨s.val % 512, by omega⟩ a
      simp only [hrow] at this
      exact this
    simp only [hs', hmask]
  · rw [if_neg hs, add_zero, View.read_writes_cons_miss_of_axis _ _ _ _ _ 1 (512 * k.val) 512 (congrFun (off18 k) 1) rfl rfl (by
      show s.val < _ ∨ _ ≤ s.val; omega)]
    rw [View.read_writes_cons_miss_of_axis _ _ _ _ _ 1 (512 * k.val) 512 (congrFun (off16 k) 1) rfl rfl (by
      show s.val < _ ∨ _ ≤ s.val; omega)]
    rfl

/-- What the diagonal block adds to the second head's query decay gradient. -/
theorem D2_dc1 (hv : Planes v0 v1) (hp : Prep p X17 X18) (f : BufTy.Contents (Elt Ideal) p.arg14.view.ty) (s : Fin 2048) :
    p.arg14.view.read (Elt Ideal) (p.arg14.view.writes (Elt Ideal) f [⟨Rect.unit (k0_off19 k) ![1, 1, 512, 1] (k0_off19_inb k), trip.sl.v138 p.arg5 p.arg6 p.arg7 p.arg9 p.arg12 p.arg14 p.arg17 p.arg18 v0 v1 p.X_arg5 p.X_arg6 p.X_arg7 p.X_arg9 p.X_arg12 X17 X18 k f⟩, ⟨Rect.unit (k0_off17 k) ![1, 1, 512, 1] (k0_off17_inb k), trip.sl.v117 p.arg2 p.arg3 p.arg4 p.arg9 p.arg12 p.arg14 p.arg17 p.arg18 v0 v1 p.X_arg2 p.X_arg3 p.X_arg4 p.X_arg9 p.X_arg12 X17 X18 k f⟩]) (ix4 0 1 s 0)
      = p.arg14.view.read (Elt Ideal) f (ix4 0 1 s 0) + (if s.val / 512 = k.val then ∑ t : Fin 512, p.snd.dm s (row (jb k) t) else 0) := by
  have hk4 : k.val < 4 := (jb k).isLt
  obtain ⟨hv0, hv1⟩ := hv
  obtain ⟨hd0, hd1, hl0, hl1⟩ := hp
  obtain ⟨hq0, hq1, hg0, hg1⟩ := p.reads
  obtain ⟨hk0, hk1, hw0, hw1, hc0, hc1⟩ := p.reads_kv
  by_cases hs : s.val / 512 = k.val
  · have hs' : (⟨512 * k.val + s.val % 512, by omega⟩ : Fin 2048) = s := Fin.ext (by show 512 * k.val + s.val % 512 = s.val; omega)
    rw [if_pos hs, View.read_writes_cons_hit_of_coords _ _ _ _ _ (ix4 0 0 ⟨s.val % 512, by omega⟩ 0) _ (fun a => by
      match a with
      | ⟨0, _⟩ => show 0 = k0_off19 k 0 + 1 * 0; rw [off19]; rfl
      | ⟨1, _⟩ => show 1 = k0_off19 k 1 + 1 * 0; rw [off19]; rfl
      | ⟨2, _⟩ => show s.val = k0_off19 k 2 + 1 * (s.val % 512); rw [off19]; show s.val = 512 * k.val + 1 * (s.val % 512); omega
      | ⟨3, _⟩ => show 0 = k0_off19 k 3 + 1 * 0; rw [off19]; rfl)]
    sl_unfold_words
    try simp only [View.readAt_eq_ld]
    unfold_payloads
    pointwise
    simp only [t2_off, hv0, hv1, hd0, hd1, hl0, hl1, hq0, hq1, hg0, hg1, hk0, hk1, hw0, hw1, hc0, hc1, masked, Head.dm, Head.pm, Head.lg, Head.dp, Head.sc, row]
    have hrow : ∀ t : Fin 512, (t ≤ (⟨s.val % 512, by omega⟩ : Fin 512)) = ((⟨512 * k.val + t.val, by omega⟩ : Fin 2048) ≤ s) := fun t => by
      rw [← row_le k.val t ⟨s.val % 512, by omega⟩ (by omega) (by show 512 * k.val + s.val % 512 < 2048; omega)]
      simp only [hs']
    have hmask : ∀ (t : Fin 512) (a : EReal), Scalar.select (IntOp.cmpi .sle (BitVec.ofNat 32 t.val) (BitVec.ofNat 32 (s.val % 512))) a (Named.named (F := Ideal) (φ := .f32) κ "masked" 0xF149F2CA#32)
        = if (⟨512 * k.val + t.val, by omega⟩ : Fin 2048) ≤ s then a else ⊥ := fun t a => by
      have := masked t ⟨s.val % 512, by omega⟩ a
      simp only [hrow] at this
      exact this
    simp only [hs', hmask]
  · rw [if_neg hs, add_zero, View.read_writes_cons_miss_of_axis _ _ _ _ _ 2 (512 * k.val) 512 (congrFun (off19 k) 2) rfl rfl (by
      show s.val < _ ∨ _ ≤ s.val; omega)]
    rw [View.read_writes_cons_miss_of_axis _ _ _ _ _ 2 (512 * k.val) 512 (congrFun (off17 k) 2) rfl rfl (by
      show s.val < _ ∨ _ ≤ s.val; omega)]
    rfl

end diag

end Cert.FoxBwdIdeal.Outer

end
-- ==== Proof.FoxTrip.lean ====
/-
  One trip of the outer loop of the attention backward call: what it adds to the gradients.
-/
module

public import proofs.«01_k».proof.Proof.FoxDiag

@[expose] public section

set_option maxRecDepth 16384
set_option maxHeartbeats 4000000

noncomputable section

namespace Cert.FoxBwdIdeal.Outer

open Cert.FoxBwdIdeal Cert.FoxBwdIdeal.Gen
open Idealize.ShloMosaic Idealize.ShloMosaic.TcCoe Idealize.ShloMosaic.Tactic

/-- One trip of the outer loop, at a point. -/
abbrev Pt.T2 (p : Pt) (v0 v1 : IVec S512x512 32) (X17 : BufTy.Contents (Elt Ideal) p.arg17.view.ty) (X18 : BufTy.Contents (Elt Ideal) p.arg18.view.ty) (k : Fin k0_t2_loop.trips) :=
  trip (F := Ideal) p.𝒱 p.c p.bd p.i p.arg2 p.harg2 p.arg3 p.harg3 p.arg4 p.harg4 p.arg5 p.harg5 p.arg6 p.harg6 p.arg7 p.harg7 p.arg8 p.harg8 p.arg9 p.harg9 p.arg10 p.harg10 p.arg11 p.harg11 p.arg12 p.harg12 p.arg13 p.harg13 p.arg14 p.harg14 p.arg15 p.harg15 p.arg16 p.harg16 p.arg17 p.harg17 p.arg18 p.harg18 v0 v1 p.X_arg2 p.X_arg3 p.X_arg4 p.X_arg5 p.X_arg6 p.X_arg7 p.X_arg9 p.X_arg12 X17 X18 k ()

section trip

variable (p : Pt) (v0 v1 : IVec S512x512 32) (X17 : BufTy.Contents (Elt Ideal) p.arg17.view.ty)
  (X18 : BufTy.Contents (Elt Ideal) p.arg18.view.ty) (k : Fin k0_t2_loop.trips)
  (f14 : BufTy.Contents (Elt Ideal) p.arg14.view.ty) (f16 : BufTy.Contents (Elt Ideal) p.arg16.view.ty)

/-- The diagonal block's stores to the query decay gradient, and to the query gradient. -/
abbrev Pt.D14 : List (View.Piece (Elt Ideal) S1x2x2048x1 .f32) :=
  [⟨Rect.unit (k0_off19 k) ![1, 1, 512, 1] (k0_off19_inb k), trip.sl.v138 p.arg5 p.arg6 p.arg7 p.arg9 p.arg12 p.arg14 p.arg17 p.arg18 v0 v1 p.X_arg5 p.X_arg6 p.X_arg7 p.X_arg9 p.X_arg12 X17 X18 k f14⟩, ⟨Rect.unit (k0_off17 k) ![1, 1, 512, 1] (k0_off17_inb k), trip.sl.v117 p.arg2 p.arg3 p.arg4 p.arg9 p.arg12 p.arg14 p.arg17 p.arg18 v0 v1 p.X_arg2 p.X_arg3 p.X_arg4 p.X_arg9 p.X_arg12 X17 X18 k f14⟩]

abbrev Pt.D16 : List (View.Piece (Elt Ideal) S2x2048x128 .f32) :=
  [⟨Rect.unit (k0_off18 k) ![1, 512, 128] (k0_off18_inb k), trip.sl.v128 p.arg5 p.arg6 p.arg7 p.arg9 p.arg12 p.arg16 p.arg17 p.arg18 v0 v1 p.X_arg5 p.X_arg6 p.X_arg7 p.X_arg9 p.X_arg12 X17 X18 k f16⟩, ⟨Rect.unit (k0_off16 k) ![1, 512, 128] (k0_off16_inb k), trip.sl.v107 p.arg2 p.arg3 p.arg4 p.arg9 p.arg12 p.arg16 p.arg17 p.arg18 v0 v1 p.X_arg2 p.X_arg3 p.X_arg4 p.X_arg9 p.X_arg12 X17 X18 k f16⟩]

/-- The inner loop's state before trip `n`, at the trip's own loads. -/
abbrev Pt.En (n : ℕ) := p.S3 X17 X18 k 0 0 (trip.sl.r p.arg3 p.X_arg3 k) (trip.sl.r_1 p.arg6 p.X_arg6 k) (trip.sl.r_2 p.arg4 p.X_arg4 k) (trip.sl.r_3 p.arg7 p.X_arg7 k) (trip.sl.v24 p.arg9 p.X_arg9 k) (trip.sl.v27 p.arg9 p.X_arg9 k) (trip.sl.v24 p.arg9 p.X_arg9 k) (trip.sl.v24 p.arg9 p.X_arg9 k) 0 (fun _ => Scalar.ofBits .f32 0x00000000#32) (fun _ => Scalar.ofBits .f32 0x00000000#32) (fun _ => Scalar.ofBits .f32 0x00000000#32) (fun _ => Scalar.ofBits .f32 0x00000000#32) (fun _ => Scalar.ofBits .f32 0x00000000#32) (fun _ => Scalar.ofBits .f32 0x00000000#32) (trip.sl.v145 k)
  (p.arg14.view.writes (Elt Ideal) f14 (Pt.D14 p v0 v1 X17 X18 k f14)) (p.arg16.view.writes (Elt Ideal) f16 (Pt.D16 p v0 v1 X17 X18 k f16)) (Pt.I2 p v0 v1 X17 X18 k) n

/-- The inner loop's state after its last trip. -/
@[irreducible] def Pt.E2 := Pt.En p v0 v1 X17 X18 k f14 f16 (Scf.trips (Scalar.addi (Scf.iv 0#32 1#32 k.val) 1#32)
  (Scalar.addi (Scalar.addi (Scf.iv 0#32 1#32 k.val) 1#32)
    (Scalar.muli (Scalar.divsi (Scalar.subi 4#32 (Scalar.addi (Scf.iv 0#32 1#32 k.val) 1#32)) 1#32) 1#32)) 1#32)

theorem e2_trips : ∀ k : Fin k0_t2_loop.trips, Scf.trips (Scalar.addi (Scf.iv 0#32 1#32 k.val) 1#32)
  (Scalar.addi (Scalar.addi (Scf.iv 0#32 1#32 k.val) 1#32)
    (Scalar.muli (Scalar.divsi (Scalar.subi 4#32 (Scalar.addi (Scf.iv 0#32 1#32 k.val) 1#32)) 1#32) 1#32)) 1#32 = 3 - k.val := by decide +kernel

theorem T2_14 : (p.T2 v0 v1 X17 X18 k).2.1 f14 f16 = (Pt.E2 p v0 v1 X17 X18 k f14 f16).2.1 ++ Pt.D14 p v0 v1 X17 X18 k f14 := by
  unfold Pt.T2 trip Pt.E2
  rfl

theorem T2_16 : (p.T2 v0 v1 X17 X18 k).2.2.2.1 f14 f16 = (Pt.E2 p v0 v1 X17 X18 k f14 f16).2.2 ++ Pt.D16 p v0 v1 X17 X18 k f16 := by
  unfold Pt.T2 trip Pt.E2
  rfl

theorem off38 : ∀ k : Fin k0_t2_loop.trips, k0_off38 k = ![512 * k.val, 128] := by decide +kernel

theorem off39 : ∀ k : Fin k0_t2_loop.trips, k0_off39 k = ![512 * k.val, 256] := by decide +kernel

theorem off40 : ∀ k : Fin k0_t2_loop.trips, k0_off40 k = ![512 * k.val, 512] := by decide +kernel

theorem off41 : ∀ k : Fin k0_t2_loop.trips, k0_off41 k = ![512 * k.val, 640] := by decide +kernel

theorem off10 : ∀ k : Fin k0_t2_loop.trips, k0_off10 k = ![0, 0, 0, 512 * k.val] := by decide +kernel

theorem off11 : ∀ k : Fin k0_t2_loop.trips, k0_off11 k = ![0, 1, 0, 512 * k.val] := by decide +kernel

theorem T2_13 : (p.T2 v0 v1 X17 X18 k).1 f14 f16
    = [⟨Rect.unit (k0_off41 k) ![512, 128] (k0_off41_inb k), k0_pay7 (Pt.E2 p v0 v1 X17 X18 k f14 f16).1.2.2.2.2.1⟩,
      ⟨Rect.unit (k0_off40 k) ![512, 128] (k0_off40_inb k), k0_pay6 (Pt.E2 p v0 v1 X17 X18 k f14 f16).1.2.2.2.1⟩,
      ⟨Rect.unit (k0_off39 k) ![512, 128] (k0_off39_inb k), k0_pay7 (Pt.E2 p v0 v1 X17 X18 k f14 f16).1.2.1⟩,
      ⟨Rect.unit (k0_off38 k) ![512, 128] (k0_off38_inb k), k0_pay6 (Pt.E2 p v0 v1 X17 X18 k f14 f16).1.1⟩] := by
  unfold Pt.T2 trip Pt.E2
  rfl

theorem T2_15 : (p.T2 v0 v1 X17 X18 k).2.2.1 f14 f16
    = [⟨Rect.unit (k0_off11 k) ![1, 1, 1, 512] (k0_off11_inb k), k0_pay8 (Pt.E2 p v0 v1 X17 X18 k f14 f16).1.2.2.2.2.2⟩,
      ⟨Rect.unit (k0_off10 k) ![1, 1, 1, 512] (k0_off10_inb k), k0_pay8 (Pt.E2 p v0 v1 X17 X18 k f14 f16).1.2.2.1⟩] := by
  unfold Pt.T2 trip Pt.E2
  rfl

theorem t3_trips : ∀ k : Fin k0_t2_loop.trips, (k0_t3_loop k).trips = 3 - k.val := by decide +kernel

/-- The rows of the blocks are all the rows. -/
theorem sum_rows (f : Fin 2048 → EReal) : ∑ i : Fin 4, ∑ r : Fin 512, f (row i r) = ∑ s : Fin 2048, f s := by
  rw [Fin.sum_univ_tiles 4 512 rfl f]
  refine Finset.sum_congr rfl fun i _ => Finset.sum_congr rfl fun r _ => congrArg f (Fin.ext ?_)
  show 512 * i.val + r.val = i.val * 512 + r.val
  omega

/-- The diagonal block and the later ones make the sum over all rows. -/
theorem rows_full (f : Fin 2048 → EReal) (j : Fin 4) (n : ℕ) (hn : n = 3 - j.val) (hz : ∀ (i : Fin 4) (r : Fin 512), i.val < j.val → f (row i r) = 0) :
    (∑ r : Fin 512, f (row j r)) + later (fun i => ∑ r : Fin 512, f (row i r)) j.val n = ∑ s : Fin 2048, f s := by
  subst hn
  rw [later_full (fun i => ∑ r : Fin 512, f (row i r)) j fun i hi => Finset.sum_eq_zero fun r _ => hz i r hi]
  exact sum_rows f

theorem acc_close {a b : EReal} (f : Fin 2048 → EReal) (j : Fin 4) (n : ℕ) (hn : n = 3 - j.val) (hz : ∀ (i : Fin 4) (r : Fin 512), i.val < j.val → f (row i r) = 0)
    (hs : a = b + later (fun i => ∑ r : Fin 512, f (row i r)) j.val n) (hi : b = ∑ r : Fin 512, f (row j r)) : a = ∑ s : Fin 2048, f s := by
  rw [hs, hi]
  exact rows_full f j n hn hz

theorem band_full (c : EReal) (j b : ℕ) (hb : b < 4) (hj : j < 4) (hz : b < j → c = 0) :
    (if b = j then c else 0) + (if j < b ∧ b < j + 1 + (3 - j) then c else 0) = c := by
  rcases lt_trichotomy b j with h | h | h
  · rw [if_neg (by omega), if_neg (by omega), hz h, zero_add]
  · rw [if_pos h, if_neg (by omega), add_zero]
  · rw [if_neg (by omega), if_pos (by omega), zero_add]

/-- The six carried values after the inner loop, as sums over all the rows. -/
theorem En_acc (n : ℕ) (hn : n = 3 - k.val) (hv : Planes v0 v1) (hp : Prep p X17 X18) (t : Fin 512) :
    (∀ d : Fin 128, (Pt.En p v0 v1 X17 X18 k f14 f16 n).1.1 (ix2 t d) = ∑ s : Fin 2048, p.fst.dm s (row (jb k) t) * p.fst.q s d)
    ∧ (∀ d : Fin 128, (Pt.En p v0 v1 X17 X18 k f14 f16 n).1.2.1 (ix2 t d) = ∑ s : Fin 2048, p.fst.pm s (row (jb k) t) * p.fst.g s d)
    ∧ ((Pt.En p v0 v1 X17 X18 k f14 f16 n).1.2.2.1 (ix2 0 t) = ∑ s : Fin 2048, p.fst.dm s (row (jb k) t))
    ∧ (∀ d : Fin 128, (Pt.En p v0 v1 X17 X18 k f14 f16 n).1.2.2.2.1 (ix2 t d) = ∑ s : Fin 2048, p.snd.dm s (row (jb k) t) * p.snd.q s d)
    ∧ (∀ d : Fin 128, (Pt.En p v0 v1 X17 X18 k f14 f16 n).1.2.2.2.2.1 (ix2 t d) = ∑ s : Fin 2048, p.snd.pm s (row (jb k) t) * p.snd.g s d)
    ∧ ((Pt.En p v0 v1 X17 X18 k f14 f16 n).1.2.2.2.2.2 (ix2 0 t) = ∑ s : Fin 2048, p.snd.dm s (row (jb k) t)) := by
  have hlt : ∀ (i : Fin 4) (r : Fin 512), i.val < (jb k).val → ¬ row (jb k) t ≤ row i r := fun i r hi h => by
    have h' : 512 * (jb k).val + t.val ≤ 512 * i.val + r.val := h
    omega
  have S := S3_acc p X17 X18 k 0 0 (trip.sl.r p.arg3 p.X_arg3 k) (trip.sl.r_1 p.arg6 p.X_arg6 k) (trip.sl.r_2 p.arg4 p.X_arg4 k) (trip.sl.r_3 p.arg7 p.X_arg7 k) (trip.sl.v24 p.arg9 p.X_arg9 k) (trip.sl.v27 p.arg9 p.X_arg9 k) (trip.sl.v24 p.arg9 p.X_arg9 k) (trip.sl.v24 p.arg9 p.X_arg9 k) 0 (fun _ => Scalar.ofBits .f32 0x00000000#32) (fun _ => Scalar.ofBits .f32 0x00000000#32) (fun _ => Scalar.ofBits .f32 0x00000000#32) (fun _ => Scalar.ofBits .f32 0x00000000#32) (fun _ => Scalar.ofBits .f32 0x00000000#32) (fun _ => Scalar.ofBits .f32 0x00000000#32) (trip.sl.v145 k)
    (p.arg14.view.writes (Elt Ideal) f14 (Pt.D14 p v0 v1 X17 X18 k f14)) (p.arg16.view.writes (Elt Ideal) f16 (Pt.D16 p v0 v1 X17 X18 k f16)) (Pt.I2 p v0 v1 X17 X18 k) hp (T2_blk p k) n (le_of_eq (hn.trans (t3_trips k).symm)) t
  obtain ⟨s1, s2, s3, s4, s5, s6⟩ := S
  obtain ⟨i1, i2, i3, i4, i5, i6⟩ := I2_acc p v0 v1 X17 X18 k hv hp t
  refine ⟨fun d => acc_close (fun s => p.fst.dm s (row (jb k) t) * p.fst.q s d) (jb k) _ hn (fun i r hi => by rw [Head.dm_zero _ _ _ (hlt i r hi), zero_mul]) (s1 d) (i1 d),
    fun d => acc_close (fun s => p.fst.pm s (row (jb k) t) * p.fst.g s d) (jb k) _ hn (fun i r hi => by rw [Head.pm_zero _ _ _ (hlt i r hi), zero_mul]) (s2 d) (i2 d),
    acc_close (fun s => p.fst.dm s (row (jb k) t)) (jb k) _ hn (fun i r hi => Head.dm_zero _ _ _ (hlt i r hi)) (s3) (i3),
    fun d => acc_close (fun s => p.snd.dm s (row (jb k) t) * p.snd.q s d) (jb k) _ hn (fun i r hi => by rw [Head.dm_zero _ _ _ (hlt i r hi), zero_mul]) (s4 d) (i4 d),
    fun d => acc_close (fun s => p.snd.pm s (row (jb k) t) * p.snd.g s d) (jb k) _ hn (fun i r hi => by rw [Head.pm_zero _ _ _ (hlt i r hi), zero_mul]) (s5 d) (i5 d),
    acc_close (fun s => p.snd.dm s (row (jb k) t)) (jb k) _ hn (fun i r hi => Head.dm_zero _ _ _ (hlt i r hi)) (s6) (i6)⟩

theorem E2_acc (hv : Planes v0 v1) (hp : Prep p X17 X18) (t : Fin 512) :
    (∀ d : Fin 128, (Pt.E2 p v0 v1 X17 X18 k f14 f16).1.1 (ix2 t d) = ∑ s : Fin 2048, p.fst.dm s (row (jb k) t) * p.fst.q s d)
    ∧ (∀ d : Fin 128, (Pt.E2 p v0 v1 X17 X18 k f14 f16).1.2.1 (ix2 t d) = ∑ s : Fin 2048, p.fst.pm s (row (jb k) t) * p.fst.g s d)
    ∧ ((Pt.E2 p v0 v1 X17 X18 k f14 f16).1.2.2.1 (ix2 0 t) = ∑ s : Fin 2048, p.fst.dm s (row (jb k) t))
    ∧ (∀ d : Fin 128, (Pt.E2 p v0 v1 X17 X18 k f14 f16).1.2.2.2.1 (ix2 t d) = ∑ s : Fin 2048, p.snd.dm s (row (jb k) t) * p.snd.q s d)
    ∧ (∀ d : Fin 128, (Pt.E2 p v0 v1 X17 X18 k f14 f16).1.2.2.2.2.1 (ix2 t d) = ∑ s : Fin 2048, p.snd.pm s (row (jb k) t) * p.snd.g s d)
    ∧ ((Pt.E2 p v0 v1 X17 X18 k f14 f16).1.2.2.2.2.2 (ix2 0 t) = ∑ s : Fin 2048, p.snd.dm s (row (jb k) t)) := by
  unfold Pt.E2
  exact En_acc p v0 v1 X17 X18 k f14 f16 _ (e2_trips k) hv hp t

/-- What a trip of the outer loop adds to the accumulated gradients of the queries and of their decays. -/
theorem En_buf (n : ℕ) (hn : n = 3 - k.val) (hv : Planes v0 v1) (hp : Prep p X17 X18) (s : Fin 2048) :
    (∀ d : Fin 128, p.arg16.view.read (Elt Ideal) (p.arg16.view.writes (Elt Ideal) f16 ((Pt.En p v0 v1 X17 X18 k f14 f16 n).2.2 ++ Pt.D16 p v0 v1 X17 X18 k f16)) (ix3 0 s d)
      = p.arg16.view.read (Elt Ideal) f16 (ix3 0 s d) + (∑ t : Fin 512, p.fst.dm s (row (jb k) t) * p.fst.k (row (jb k) t) d) * Head.sc)
    ∧ (p.arg14.view.read (Elt Ideal) (p.arg14.view.writes (Elt Ideal) f14 ((Pt.En p v0 v1 X17 X18 k f14 f16 n).2.1 ++ Pt.D14 p v0 v1 X17 X18 k f14)) (ix4 0 0 s 0)
      = p.arg14.view.read (Elt Ideal) f14 (ix4 0 0 s 0) + ∑ t : Fin 512, p.fst.dm s (row (jb k) t))
    ∧ (∀ d : Fin 128, p.arg16.view.read (Elt Ideal) (p.arg16.view.writes (Elt Ideal) f16 ((Pt.En p v0 v1 X17 X18 k f14 f16 n).2.2 ++ Pt.D16 p v0 v1 X17 X18 k f16)) (ix3 1 s d)
      = p.arg16.view.read (Elt Ideal) f16 (ix3 1 s d) + (∑ t : Fin 512, p.snd.dm s (row (jb k) t) * p.snd.k (row (jb k) t) d) * Head.sc)
    ∧ (p.arg14.view.read (Elt Ideal) (p.arg14.view.writes (Elt Ideal) f14 ((Pt.En p v0 v1 X17 X18 k f14 f16 n).2.1 ++ Pt.D14 p v0 v1 X17 X18 k f14)) (ix4 0 1 s 0)
      = p.arg14.view.read (Elt Ideal) f14 (ix4 0 1 s 0) + ∑ t : Fin 512, p.snd.dm s (row (jb k) t)) := by
  have hk4 : k.val < 4 := (jb k).isLt
  have hlt : s.val / 512 < k.val → ∀ t : Fin 512, ¬ row (jb k) t ≤ s := fun hs t h => by
    have h' : 512 * k.val + t.val ≤ s.val := h
    omega
  have S := S3_buf p X17 X18 k 0 0 (trip.sl.r p.arg3 p.X_arg3 k) (trip.sl.r_1 p.arg6 p.X_arg6 k) (trip.sl.r_2 p.arg4 p.X_arg4 k) (trip.sl.r_3 p.arg7 p.X_arg7 k) (trip.sl.v24 p.arg9 p.X_arg9 k) (trip.sl.v27 p.arg9 p.X_arg9 k) (trip.sl.v24 p.arg9 p.X_arg9 k) (trip.sl.v24 p.arg9 p.X_arg9 k) 0 (fun _ => Scalar.ofBits .f32 0x00000000#32) (fun _ => Scalar.ofBits .f32 0x00000000#32) (fun _ => Scalar.ofBits .f32 0x00000000#32) (fun _ => Scalar.ofBits .f32 0x00000000#32) (fun _ => Scalar.ofBits .f32 0x00000000#32) (fun _ => Scalar.ofBits .f32 0x00000000#32) (trip.sl.v145 k)
    (p.arg14.view.writes (Elt Ideal) f14 (Pt.D14 p v0 v1 X17 X18 k f14)) (p.arg16.view.writes (Elt Ideal) f16 (Pt.D16 p v0 v1 X17 X18 k f16)) (Pt.I2 p v0 v1 X17 X18 k) hp (T2_blk p k) n (le_of_eq (hn.trans (t3_trips k).symm)) s
  obtain ⟨s1, s2, s3, s4⟩ := S
  simp only [View.writes_append]
  refine ⟨fun d => ?_, ?_, fun d => ?_, ?_⟩
  · refine (s1 d).trans ?_
    rw [D2_dq0 p v0 v1 X17 X18 k hv hp f16 s d, hn, add_assoc, band_full _ _ _ (by omega) hk4 fun h => ?_]
    rw [Finset.sum_eq_zero fun t _ => by rw [Head.dm_zero _ _ _ (hlt h t), zero_mul], zero_mul]
  · refine s2.trans ?_
    rw [D2_dc0 p v0 v1 X17 X18 k hv hp f14 s, hn, add_assoc, band_full _ _ _ (by omega) hk4 fun h => ?_]
    exact Finset.sum_eq_zero fun t _ => Head.dm_zero _ _ _ (hlt h t)
  · refine (s3 d).trans ?_
    rw [D2_dq1 p v0 v1 X17 X18 k hv hp f16 s d, hn, add_assoc, band_full _ _ _ (by omega) hk4 fun h => ?_]
    rw [Finset.sum_eq_zero fun t _ => by rw [Head.dm_zero _ _ _ (hlt h t), zero_mul], zero_mul]
  · refine s4.trans ?_
    rw [D2_dc1 p v0 v1 X17 X18 k hv hp f14 s, hn, add_assoc, band_full _ _ _ (by omega) hk4 fun h => ?_]
    exact Finset.sum_eq_zero fun t _ => Head.dm_zero _ _ _ (hlt h t)

theorem T2_buf (hv : Planes v0 v1) (hp : Prep p X17 X18) (s : Fin 2048) :
    (∀ d : Fin 128, p.arg16.view.read (Elt Ideal) (p.arg16.view.writes (Elt Ideal) f16 ((p.T2 v0 v1 X17 X18 k).2.2.2.1 f14 f16)) (ix3 0 s d)
      = p.arg16.view.read (Elt Ideal) f16 (ix3 0 s d) + (∑ t : Fin 512, p.fst.dm s (row (jb k) t) * p.fst.k (row (jb k) t) d) * Head.sc)
    ∧ (p.arg14.view.read (Elt Ideal) (p.arg14.view.writes (Elt Ideal) f14 ((p.T2 v0 v1 X17 X18 k).2.1 f14 f16)) (ix4 0 0 s 0)
      = p.arg14.view.read (Elt Ideal) f14 (ix4 0 0 s 0) + ∑ t : Fin 512, p.fst.dm s (row (jb k) t))
    ∧ (∀ d : Fin 128, p.arg16.view.read (Elt Ideal) (p.arg16.view.writes (Elt Ideal) f16 ((p.T2 v0 v1 X17 X18 k).2.2.2.1 f14 f16)) (ix3 1 s d)
      = p.arg16.view.read (Elt Ideal) f16 (ix3 1 s d) + (∑ t : Fin 512, p.snd.dm s (row (jb k) t) * p.snd.k (row (jb k) t) d) * Head.sc)
    ∧ (p.arg14.view.read (Elt Ideal) (p.arg14.view.writes (Elt Ideal) f14 ((p.T2 v0 v1 X17 X18 k).2.1 f14 f16)) (ix4 0 1 s 0)
      = p.arg14.view.read (Elt Ideal) f14 (ix4 0 1 s 0) + ∑ t : Fin 512, p.snd.dm s (row (jb k) t)) := by
  rw [T2_16, T2_14]
  unfold Pt.E2
  exact En_buf p v0 v1 X17 X18 k f14 f16 _ (e2_trips k) hv hp s

/-- What a trip leaves in the first head's key gradient. -/
theorem T2_dk0 (hv : Planes v0 v1) (hp : Prep p X17 X18) (f : BufTy.Contents (Elt Ideal) p.arg13.view.ty) (t : Fin 2048) (d : Fin 128) :
    p.arg13.view.read (Elt Ideal) (p.arg13.view.writes (Elt Ideal) f ((p.T2 v0 v1 X17 X18 k).1 f14 f16)) (ix2 t ⟨128 + d.val, by omega⟩)
      = if t.val / 512 = k.val then (∑ s : Fin 2048, p.fst.dm s t * p.fst.q s d) * Head.sc else p.arg13.view.read (Elt Ideal) f (ix2 t ⟨128 + d.val, by omega⟩) := by
  have hk4 : k.val < 4 := (jb k).isLt
  rw [T2_13]
  rw [View.read_writes_cons_miss_of_axis _ _ _ _ _ 1 640 128 (congrFun (off41 k) 1) rfl rfl (by show 128 + d.val < 640 ∨ 640 + 128 ≤ 128 + d.val; omega)]
  rw [View.read_writes_cons_miss_of_axis _ _ _ _ _ 1 512 128 (congrFun (off40 k) 1) rfl rfl (by show 128 + d.val < 512 ∨ 512 + 128 ≤ 128 + d.val; omega)]
  rw [View.read_writes_cons_miss_of_axis _ _ _ _ _ 1 256 128 (congrFun (off39 k) 1) rfl rfl (by show 128 + d.val < 256 ∨ 256 + 128 ≤ 128 + d.val; omega)]
  by_cases ht : t.val / 512 = k.val
  · have ht' : row (jb k) ⟨t.val % 512, by omega⟩ = t := Fin.ext (by show 512 * k.val + t.val % 512 = t.val; omega)
    obtain ⟨a1, a2, a3, a4, a5, a6⟩ := E2_acc p v0 v1 X17 X18 k f14 f16 hv hp ⟨t.val % 512, by omega⟩
    rw [ht'] at a1 a2 a3 a4 a5 a6
    rw [if_pos ht, View.read_writes_cons_hit_of_coords _ _ _ _ _ (ix2 ⟨t.val % 512, by omega⟩ d) _ (fun a => by
      match a with
      | ⟨0, _⟩ => show t.val = k0_off38 k 0 + 1 * (t.val % 512); rw [off38]; show t.val = 512 * k.val + 1 * (t.val % 512); omega
      | ⟨1, _⟩ => show 128 + d.val = k0_off38 k 1 + 1 * d.val; rw [off38]; show 128 + d.val = 128 + 1 * d.val; omega)]
    exact congrArg (· * Head.sc) (a1 d)
  · rw [if_neg ht]
    rw [View.read_writes_cons_miss_of_axis _ _ _ _ _ 0 (512 * k.val) 512 (congrFun (off38 k) 0) rfl rfl (by show t.val < _ ∨ _ ≤ t.val; omega)]
    rfl

/-- What a trip leaves in the first head's value gradient. -/
theorem T2_dv0 (hv : Planes v0 v1) (hp : Prep p X17 X18) (f : BufTy.Contents (Elt Ideal) p.arg13.view.ty) (t : Fin 2048) (d : Fin 128) :
    p.arg13.view.read (Elt Ideal) (p.arg13.view.writes (Elt Ideal) f ((p.T2 v0 v1 X17 X18 k).1 f14 f16)) (ix2 t ⟨256 + d.val, by omega⟩)
      = if t.val / 512 = k.val then ∑ s : Fin 2048, p.fst.pm s t * p.fst.g s d else p.arg13.view.read (Elt Ideal) f (ix2 t ⟨256 + d.val, by omega⟩) := by
  have hk4 : k.val < 4 := (jb k).isLt
  rw [T2_13]
  rw [View.read_writes_cons_miss_of_axis _ _ _ _ _ 1 640 128 (congrFun (off41 k) 1) rfl rfl (by show 256 + d.val < 640 ∨ 640 + 128 ≤ 256 + d.val; omega)]
  rw [View.read_writes_cons_miss_of_axis _ _ _ _ _ 1 512 128 (congrFun (off40 k) 1) rfl rfl (by show 256 + d.val < 512 ∨ 512 + 128 ≤ 256 + d.val; omega)]
  by_cases ht : t.val / 512 = k.val
  · have ht' : row (jb k) ⟨t.val % 512, by omega⟩ = t := Fin.ext (by show 512 * k.val + t.val % 512 = t.val; omega)
    obtain ⟨a1, a2, a3, a4, a5, a6⟩ := E2_acc p v0 v1 X17 X18 k f14 f16 hv hp ⟨t.val % 512, by omega⟩
    rw [ht'] at a1 a2 a3 a4 a5 a6
    rw [if_pos ht, View.read_writes_cons_hit_of_coords _ _ _ _ _ (ix2 ⟨t.val % 512, by omega⟩ d) _ (fun a => by
      match a with
      | ⟨0, _⟩ => show t.val = k0_off39 k 0 + 1 * (t.val % 512); rw [off39]; show t.val = 512 * k.val + 1 * (t.val % 512); omega
      | ⟨1, _⟩ => show 256 + d.val = k0_off39 k 1 + 1 * d.val; rw [off39]; show 256 + d.val = 256 + 1 * d.val; omega)]
    exact a2 d
  · rw [if_neg ht]
    rw [View.read_writes_cons_miss_of_axis _ _ _ _ _ 0 (512 * k.val) 512 (congrFun (off39 k) 0) rfl rfl (by show t.val < _ ∨ _ ≤ t.val; omega)]
    rw [View.read_writes_cons_miss_of_axis _ _ _ _ _ 0 (512 * k.val) 512 (congrFun (off38 k) 0) rfl rfl (by show t.val < _ ∨ _ ≤ t.val; omega)]
    rfl

/-- What a trip leaves in the second head's key gradient. -/
theorem T2_dk1 (hv : Planes v0 v1) (hp : Prep p X17 X18) (f : BufTy.Contents (Elt Ideal) p.arg13.view.ty) (t : Fin 2048) (d : Fin 128) :
    p.arg13.view.read (Elt Ideal) (p.arg13.view.writes (Elt Ideal) f ((p.T2 v0 v1 X17 X18 k).1 f14 f16)) (ix2 t ⟨512 + d.val, by omega⟩)
      = if t.val / 512 = k.val then (∑ s : Fin 2048, p.snd.dm s t * p.snd.q s d) * Head.sc else p.arg13.view.read (Elt Ideal) f (ix2 t ⟨512 + d.val, by omega⟩) := by
  have hk4 : k.val < 4 := (jb k).isLt
  rw [T2_13]
  rw [View.read_writes_cons_miss_of_axis _ _ _ _ _ 1 640 128 (congrFun (off41 k) 1) rfl rfl (by show 512 + d.val < 640 ∨ 640 + 128 ≤ 512 + d.val; omega)]
  by_cases ht : t.val / 512 = k.val
  · have ht' : row (jb k) ⟨t.val % 512, by omega⟩ = t := Fin.ext (by show 512 * k.val + t.val % 512 = t.val; omega)
    obtain ⟨a1, a2, a3, a4, a5, a6⟩ := E2_acc p v0 v1 X17 X18 k f14 f16 hv hp ⟨t.val % 512, by omega⟩
    rw [ht'] at a1 a2 a3 a4 a5 a6
    rw [if_pos ht, View.read_writes_cons_hit_of_coords _ _ _ _ _ (ix2 ⟨t.val % 512, by omega⟩ d) _ (fun a => by
      match a with
      | ⟨0, _⟩ => show t.val = k0_off40 k 0 + 1 * (t.val % 512); rw [off40]; show t.val = 512 * k.val + 1 * (t.val % 512); omega
      | ⟨1, _⟩ => show 512 + d.val = k0_off40 k 1 + 1 * d.val; rw [off40]; show 512 + d.val = 512 + 1 * d.val; omega)]
    exact congrArg (· * Head.sc) (a4 d)
  · rw [if_neg ht]
    rw [View.read_writes_cons_miss_of_axis _ _ _ _ _ 0 (512 * k.val) 512 (congrFun (off40 k) 0) rfl rfl (by show t.val < _ ∨ _ ≤ t.val; omega)]
    rw [View.read_writes_cons_miss_of_axis _ _ _ _ _ 0 (512 * k.val) 512 (congrFun (off39 k) 0) rfl rfl (by show t.val < _ ∨ _ ≤ t.val; omega)]
    rw [View.read_writes_cons_miss_of_axis _ _ _ _ _ 0 (512 * k.val) 512 (congrFun (off38 k) 0) rfl rfl (by show t.val < _ ∨ _ ≤ t.val; omega)]
    rfl

/-- What a trip leaves in the second head's value gradient. -/
theorem T2_dv1 (hv : Planes v0 v1) (hp : Prep p X17 X18) (f : BufTy.Contents (Elt Ideal) p.arg13.view.ty) (t : Fin 2048) (d : Fin 128) :
    p.arg13.view.read (Elt Ideal) (p.arg13.view.writes (Elt Ideal) f ((p.T2 v0 v1 X17 X18 k).1 f14 f16)) (ix2 t ⟨640 + d.val, by omega⟩)
      = if t.val / 512 = k.val then ∑ s : Fin 2048, p.snd.pm s t * p.snd.g s d else p.arg13.view.read (Elt Ideal) f (ix2 t ⟨640 + d.val, by omega⟩) := by
  have hk4 : k.val < 4 := (jb k).isLt
  rw [T2_13]
  by_cases ht : t.val / 512 = k.val
  · have ht' : row (jb k) ⟨t.val % 512, by omega⟩ = t := Fin.ext (by show 512 * k.val + t.val % 512 = t.val; omega)
    obtain ⟨a1, a2, a3, a4, a5, a6⟩ := E2_acc p v0 v1 X17 X18 k f14 f16 hv hp ⟨t.val % 512, by omega⟩
    rw [ht'] at a1 a2 a3 a4 a5 a6
    rw [if_pos ht, View.read_writes_cons_hit_of_coords _ _ _ _ _ (ix2 ⟨t.val % 512, by omega⟩ d) _ (fun a => by
      match a with
      | ⟨0, _⟩ => show t.val = k0_off41 k 0 + 1 * (t.val % 512); rw [off41]; show t.val = 512 * k.val + 1 * (t.val % 512); omega
      | ⟨1, _⟩ => show 640 + d.val = k0_off41 k 1 + 1 * d.val; rw [off41]; show 640 + d.val = 640 + 1 * d.val; omega)]
    exact a5 d
  · rw [if_neg ht]
    rw [View.read_writes_cons_miss_of_axis _ _ _ _ _ 0 (512 * k.val) 512 (congrFun (off41 k) 0) rfl rfl (by show t.val < _ ∨ _ ≤ t.val; omega)]
    rw [View.read_writes_cons_miss_of_axis _ _ _ _ _ 0 (512 * k.val) 512 (congrFun (off40 k) 0) rfl rfl (by show t.val < _ ∨ _ ≤ t.val; omega)]
    rw [View.read_writes_cons_miss_of_axis _ _ _ _ _ 0 (512 * k.val) 512 (congrFun (off39 k) 0) rfl rfl (by show t.val < _ ∨ _ ≤ t.val; omega)]
    rw [View.read_writes_cons_miss_of_axis _ _ _ _ _ 0 (512 * k.val) 512 (congrFun (off38 k) 0) rfl rfl (by show t.val < _ ∨ _ ≤ t.val; omega)]
    rfl

/-- What a trip leaves in the first head's key decay gradient. -/
theorem T2_dr0 (hv : Planes v0 v1) (hp : Prep p X17 X18) (f : BufTy.Contents (Elt Ideal) p.arg15.view.ty) (t : Fin 2048) :
    p.arg15.view.read (Elt Ideal) (p.arg15.view.writes (Elt Ideal) f ((p.T2 v0 v1 X17 X18 k).2.2.1 f14 f16)) (ix4 0 0 0 t)
      = if t.val / 512 = k.val then -(∑ s : Fin 2048, p.fst.dm s t) else p.arg15.view.read (Elt Ideal) f (ix4 0 0 0 t) := by
  have hk4 : k.val < 4 := (jb k).isLt
  rw [T2_15]
  rw [View.read_writes_cons_miss_of_axis _ _ _ _ _ 1 1 1 (congrFun (off11 k) 1) rfl rfl (Or.inl (by show (0 : ℕ) < 1; omega))]
  by_cases ht : t.val / 512 = k.val
  · have ht' : row (jb k) ⟨t.val % 512, by omega⟩ = t := Fin.ext (by show 512 * k.val + t.val % 512 = t.val; omega)
    obtain ⟨a1, a2, a3, a4, a5, a6⟩ := E2_acc p v0 v1 X17 X18 k f14 f16 hv hp ⟨t.val % 512, by omega⟩
    rw [ht'] at a1 a2 a3 a4 a5 a6
    rw [if_pos ht, View.read_writes_cons_hit_of_coords _ _ _ _ _ (ix4 0 0 0 ⟨t.val % 512, by omega⟩) _ (fun a => by
      match a with
      | ⟨0, _⟩ => show 0 = k0_off10 k 0 + 1 * 0; rw [off10]; rfl
      | ⟨1, _⟩ => show 0 = k0_off10 k 1 + 1 * 0; rw [off10]; rfl
      | ⟨2, _⟩ => show 0 = k0_off10 k 2 + 1 * 0; rw [off10]; rfl
      | ⟨3, _⟩ => show t.val = k0_off10 k 3 + 1 * (t.val % 512); rw [off10]; show t.val = 512 * k.val + 1 * (t.val % 512); omega)]
    unfold_payloads
    pointwise
    refine (congrArg (fun x : EReal => 0 - x) a3).trans ?_
    rw [zero_sub]
  · rw [if_neg ht, View.read_writes_cons_miss_of_axis _ _ _ _ _ 3 (512 * k.val) 512 (congrFun (off10 k) 3) rfl rfl (by show t.val < _ ∨ _ ≤ t.val; omega)]
    rfl

/-- What a trip leaves in the second head's key decay gradient. -/
theorem T2_dr1 (hv : Planes v0 v1) (hp : Prep p X17 X18) (f : BufTy.Contents (Elt Ideal) p.arg15.view.ty) (t : Fin 2048) :
    p.arg15.view.read (Elt Ideal) (p.arg15.view.writes (Elt Ideal) f ((p.T2 v0 v1 X17 X18 k).2.2.1 f14 f16)) (ix4 0 1 0 t)
      = if t.val / 512 = k.val then -(∑ s : Fin 2048, p.snd.dm s t) else p.arg15.view.read (Elt Ideal) f (ix4 0 1 0 t) := by
  have hk4 : k.val < 4 := (jb k).isLt
  rw [T2_15]
  by_cases ht : t.val / 512 = k.val
  · have ht' : row (jb k) ⟨t.val % 512, by omega⟩ = t := Fin.ext (by show 512 * k.val + t.val % 512 = t.val; omega)
    obtain ⟨a1, a2, a3, a4, a5, a6⟩ := E2_acc p v0 v1 X17 X18 k f14 f16 hv hp ⟨t.val % 512, by omega⟩
    rw [ht'] at a1 a2 a3 a4 a5 a6
    rw [if_pos ht, View.read_writes_cons_hit_of_coords _ _ _ _ _ (ix4 0 0 0 ⟨t.val % 512, by omega⟩) _ (fun a => by
      match a with
      | ⟨0, _⟩ => show 0 = k0_off11 k 0 + 1 * 0; rw [off11]; rfl
      | ⟨1, _⟩ => show 1 = k0_off11 k 1 + 1 * 0; rw [off11]; rfl
      | ⟨2, _⟩ => show 0 = k0_off11 k 2 + 1 * 0; rw [off11]; rfl
      | ⟨3, _⟩ => show t.val = k0_off11 k 3 + 1 * (t.val % 512); rw [off11]; show t.val = 512 * k.val + 1 * (t.val % 512); omega)]
    unfold_payloads
    pointwise
    refine (congrArg (fun x : EReal => 0 - x) a6).trans ?_
    rw [zero_sub]
  · rw [if_neg ht, View.read_writes_cons_miss_of_axis _ _ _ _ _ 3 (512 * k.val) 512 (congrFun (off11 k) 3) rfl rfl (by show t.val < _ ∨ _ ≤ t.val; omega)]
    rw [View.read_writes_cons_miss_of_axis _ _ _ _ _ 3 (512 * k.val) 512 (congrFun (off10 k) 3) rfl rfl (by show t.val < _ ∨ _ ≤ t.val; omega)]
    rfl

end trip

end Cert.FoxBwdIdeal.Outer

end
-- ==== Proof.FoxMath.lean ====
/-
  The attention's derivative over the reals: on finite operands, what the call computes from the
  saved outputs and normalisers is the derivative of the softmax written plainly.
-/
module

public import proofs.«01_k».proof.Proof.FoxTrip

@[expose] public section

set_option maxRecDepth 16384
set_option maxHeartbeats 1000000

noncomputable section

namespace Cert.FoxBwdIdeal.Outer

open Cert.FoxBwdIdeal Cert.FoxBwdIdeal.Gen
open Idealize.ShloMosaic Idealize.ShloMosaic.TcCoe

/-- A finite sum of reals, read as an extended real. -/
theorem coe_sum_real {ι : Type} (u : Finset ι) (f : ι → ℝ) : ∑ i ∈ u, (f i : EReal) = ((∑ i ∈ u, f i : ℝ) : EReal) := by
  classical
  induction u using Finset.induction_on with
  | empty => simp
  | insert a u ha ih => rw [Finset.sum_insert ha, Finset.sum_insert ha, ih, EReal.coe_add]

/-- The logits' scale is a real number. -/
theorem sc_real : ∃ σ : ℝ, Head.sc = (σ : EReal) := by
  refine ⟨Head.sc.toReal, (EReal.coe_toReal ?_ ?_).symm⟩ <;> simp [Head.sc, Ideal.ofBits, Ideal.ieee]
  · exact fun h => EReal.coe_ne_top _ ((EReal.coe_mul _ _).trans h)
  · exact fun h => EReal.coe_ne_bot _ ((EReal.coe_mul _ _).trans h)

namespace Head

variable (H : Head)

/-- A masked logit, as the reference writes it. -/
def lo (s t : Fin 2048) : EReal := if t ≤ s then (∑ d : Fin 128, H.q s d * H.k t d) * sc + (H.cq s - H.cr t) else ⊥
/-- The largest logit. -/
def mx (s : Fin 2048) : EReal := Finset.univ.sup fun t => H.lo s t
/-- An exponential. -/
def e (s t : Fin 2048) : EReal := Ideal.exp (H.lo s t - H.mx s)
/-- The sum of the exponentials. -/
def l (s : Fin 2048) : EReal := ∑ t : Fin 2048, H.e s t
/-- A weight of the attention. -/
def p (s t : Fin 2048) : EReal := Ideal.div (H.e s t) (H.l s)
/-- What the normalisation takes off. -/
def dlr (s : Fin 2048) : EReal := -∑ t : Fin 2048, H.dp s t * Ideal.div 1 (H.l s * H.l s) * H.e s t
/-- The derivative by a logit, as the reference writes it. -/
def dsr (s t : Fin 2048) : EReal := if t ≤ s then (Ideal.div (H.dp s t) (H.l s) + H.dlr s) * H.e s t else 0

/-- A head whose operands are finite, with the outputs and normalisers of its own attention. -/
structure Fine where
  q : Fin 2048 → Fin 128 → ℝ
  k : Fin 2048 → Fin 128 → ℝ
  v : Fin 2048 → Fin 128 → ℝ
  g : Fin 2048 → Fin 128 → ℝ
  c : Fin 2048 → ℝ
  hq : ∀ s d, H.q s d = q s d
  hk : ∀ s d, H.k s d = k s d
  hv : ∀ s d, H.v s d = v s d
  hg : ∀ s d, H.g s d = g s d
  hcq : ∀ s, H.cq s = c s
  hcr : ∀ s, H.cr s = c s
  ho : ∀ s d, H.o s d = ∑ t : Fin 2048, H.p s t * H.v t d
  hlse : ∀ s, H.lse s = H.mx s + Ideal.log (H.l s)

namespace Fine

variable {H} (F : H.Fine) (σ : ℝ)

/-- The real product of a query and a key. -/
def qk (s t : Fin 2048) : ℝ := (∑ d : Fin 128, F.q s d * F.k t d) * σ
/-- The real logit. -/
def L (s t : Fin 2048) : ℝ := F.qk σ s t + (F.c s - F.c t)
/-- The real cotangent of a weight. -/
def DP (s t : Fin 2048) : ℝ := ∑ d : Fin 128, F.g s d * F.v t d

variable {σ} (hσ : sc = (σ : EReal))
include F hσ

theorem qk_eq (s t : Fin 2048) : (∑ d : Fin 128, H.q s d * H.k t d) * sc = (F.qk σ s t : EReal) := by
  unfold qk
  rw [hσ, EReal.coe_mul, ← coe_sum_real]
  congr 1
  exact Finset.sum_congr rfl fun d _ => by rw [F.hq, F.hk, EReal.coe_mul]

omit hσ in
theorem dp_eq (s t : Fin 2048) : H.dp s t = (F.DP s t : EReal) := by
  unfold DP dp
  rw [← coe_sum_real]
  exact Finset.sum_congr rfl fun d _ => by rw [F.hg, F.hv, EReal.coe_mul]

theorem lo_eq (s t : Fin 2048) : H.lo s t = if t ≤ s then (F.L σ s t : EReal) else ⊥ := by
  unfold lo L
  rw [F.qk_eq hσ, F.hcq, F.hcr, EReal.coe_add, EReal.coe_sub]

theorem mx_real (s : Fin 2048) : ∃ M : ℝ, H.mx s = (M : EReal) := by
  obtain ⟨t, _, ht⟩ := Finset.exists_mem_eq_sup (Finset.univ : Finset (Fin 2048)) ⟨s, Finset.mem_univ s⟩ (fun t => H.lo s t)
  have hs : H.lo s s ≤ H.lo s t := ht ▸ Finset.le_sup (f := fun t => H.lo s t) (Finset.mem_univ s)
  rw [F.lo_eq hσ s s, if_pos le_rfl, F.lo_eq hσ s t] at hs
  by_cases h : t ≤ s
  · exact ⟨F.L σ s t, by unfold mx; rw [ht, F.lo_eq hσ, if_pos h]⟩
  · rw [if_neg h] at hs
    exact absurd (le_bot_iff.mp hs) (EReal.coe_ne_bot _)

/-- Every exponential is a real number, positive on the keys a query sees and zero elsewhere. -/
theorem soft (s : Fin 2048) : ∃ (M Λ : ℝ), H.mx s = (M : EReal) ∧ 0 < Λ ∧ H.l s = (Λ : EReal)
    ∧ (∀ t, H.e s t = ((if t ≤ s then Real.exp (F.L σ s t - M) else 0 : ℝ) : EReal))
    ∧ Λ = ∑ t : Fin 2048, (if t ≤ s then Real.exp (F.L σ s t - M) else 0 : ℝ) := by
  obtain ⟨M, hM⟩ := F.mx_real hσ s
  have he : ∀ t, H.e s t = ((if t ≤ s then Real.exp (F.L σ s t - M) else 0 : ℝ) : EReal) := by
    intro t
    unfold e
    rw [hM, F.lo_eq hσ]
    by_cases h : t ≤ s
    · rw [if_pos h, if_pos h, ← EReal.coe_sub, Ideal.exp_coe]
    · rw [if_neg h, if_neg h, EReal.bot_sub, Ideal.exp_bot, EReal.coe_zero]
  refine ⟨M, _, hM, ?_, ?_, he, rfl⟩
  · refine Finset.sum_pos' (fun t _ => ?_) ⟨s, Finset.mem_univ s, ?_⟩
    · split_ifs
      · exact (Real.exp_pos _).le
      · exact le_rfl
    · rw [if_pos le_rfl]; exact Real.exp_pos _
  · unfold l
    rw [← coe_sum_real]
    exact Finset.sum_congr rfl fun t _ => he t

/-- The weight the call forms from the saved normaliser is the softmax's. -/
theorem weights (s : Fin 2048) : ∃ (Λ : ℝ) (E : Fin 2048 → ℝ), Λ ≠ 0 ∧ H.l s = (Λ : EReal) ∧ (∀ t, H.e s t = (E t : EReal))
    ∧ (∀ t, ¬ t ≤ s → E t = 0) ∧ (∀ t, H.pm s t = ((E t / Λ : ℝ) : EReal)) ∧ (∀ t, H.p s t = ((E t / Λ : ℝ) : EReal)) := by
  obtain ⟨M, Λ, hM, hΛ, hl, he, -⟩ := F.soft hσ s
  refine ⟨Λ, fun t => if t ≤ s then Real.exp (F.L σ s t - M) else 0, hΛ.ne', hl, he, fun t h => if_neg h, fun t => ?_, fun t => ?_⟩
  · unfold pm lg ls
    rw [F.hlse, hM, hl, Ideal.log_coe, if_neg (not_le.mpr hΛ), F.hcq, F.hcr, F.qk_eq hσ]
    by_cases h : t ≤ s
    · rw [if_pos h]
      simp only [if_pos h]
      rw [← EReal.coe_sub, ← EReal.coe_add, ← EReal.coe_sub, ← EReal.coe_sub, Ideal.exp_coe]
      congr 1
      rw [← Real.exp_log hΛ, ← Real.exp_sub, Real.exp_log hΛ]
      congr 1
      unfold L
      ring
    · rw [if_neg h]
      simp only [if_neg h]
      rw [← EReal.coe_add, ← EReal.coe_sub, EReal.bot_sub, Ideal.exp_bot, zero_div, EReal.coe_zero]
  · unfold p
    rw [he, hl, Ideal.div_coe hΛ.ne', ← EReal.coe_mul]
    congr 1
    ring

/-- The derivative by a logit that the call forms is the reference's, and is a real number. -/
theorem dm_eq (s t : Fin 2048) : H.dm s t = H.dsr s t ∧ ∃ D : ℝ, H.dsr s t = (D : EReal) := by
  obtain ⟨Λ, E, hΛ, hl, he, h0, hpm, hp⟩ := F.weights hσ s
  have hdl : H.dl s = ((∑ t : Fin 2048, E t / Λ * F.DP s t : ℝ) : EReal) := by
    unfold dl
    have h1 : ∀ d, H.g s d * H.o s d = ((F.g s d * ∑ t : Fin 2048, E t / Λ * F.v t d : ℝ) : EReal) := by
      intro d
      rw [F.hg, F.ho, EReal.coe_mul, ← coe_sum_real]
      refine congrArg (fun x : EReal => (F.g s d : EReal) * x) ?_
      exact Finset.sum_congr rfl fun t _ => by rw [hp, F.hv, EReal.coe_mul]
    rw [Finset.sum_congr rfl fun d _ => h1 d, coe_sum_real]
    congr 1
    simp only [Finset.mul_sum, DP]
    rw [Finset.sum_comm]
    exact Finset.sum_congr rfl fun t _ => Finset.sum_congr rfl fun d _ => by ring
  have hdlr : H.dlr s = ((-∑ t : Fin 2048, F.DP s t * (1 / (Λ * Λ)) * E t : ℝ) : EReal) := by
    unfold dlr
    rw [hl, ← EReal.coe_mul, Ideal.div_coe (mul_ne_zero hΛ hΛ), one_mul, EReal.coe_neg, ← coe_sum_real]
    refine congrArg (fun x : EReal => -x) ?_
    exact Finset.sum_congr rfl fun t _ => by rw [F.dp_eq, he, EReal.coe_mul, EReal.coe_mul]
  have hd : H.dsr s t = (((F.DP s t * (1 / Λ) + -∑ t : Fin 2048, F.DP s t * (1 / (Λ * Λ)) * E t) * E t : ℝ) : EReal) := by
    unfold dsr
    by_cases h : t ≤ s
    · rw [if_pos h, hdlr, he, hl, Ideal.div_coe hΛ, F.dp_eq, ← EReal.coe_mul, ← EReal.coe_add, ← EReal.coe_mul]
    · rw [if_neg h, h0 t h, mul_zero, EReal.coe_zero]
  refine ⟨?_, _, hd⟩
  rw [hd]
  unfold dm
  rw [hpm, F.dp_eq, hdl, ← EReal.coe_sub, ← EReal.coe_mul]
  congr 1
  have h2 : ∑ t : Fin 2048, F.DP s t * (1 / (Λ * Λ)) * E t = (∑ t : Fin 2048, E t / Λ * F.DP s t) / Λ := by
    rw [Finset.sum_div]
    exact Finset.sum_congr rfl fun t _ => by field_simp
  rw [h2]
  field_simp
  ring

theorem pm_eq (s t : Fin 2048) : H.pm s t = H.p s t := by
  obtain ⟨Λ, E, hΛ, hl, he, h0, hpm, hp⟩ := F.weights hσ s
  rw [hpm, hp]

end Fine

variable {H} (F : H.Fine)
include F

theorem ds_of (s t : Fin 2048) : H.dm s t = H.dsr s t := by
  obtain ⟨σ, hσ⟩ := sc_real
  exact (F.dm_eq hσ s t).1

theorem p_of (s t : Fin 2048) : H.pm s t = H.p s t := by
  obtain ⟨σ, hσ⟩ := sc_real
  exact F.pm_eq hσ s t

/-- A scaled sum of real products, with the scale on the outside or on each term. -/
theorem scaled (f : Fin 2048 → EReal) (x : Fin 2048 → EReal) (hf : ∀ s, ∃ D : ℝ, f s = (D : EReal)) (hx : ∀ s, ∃ D : ℝ, x s = (D : EReal)) :
    (∑ s : Fin 2048, f s * x s) * sc = ∑ s : Fin 2048, f s * sc * x s := by
  obtain ⟨σ, hσ⟩ := sc_real
  choose D hD using hf
  choose X hX using hx
  simp only [hD, hX, hσ, ← EReal.coe_mul, coe_sum_real]
  congr 1
  rw [Finset.sum_mul]
  exact Finset.sum_congr rfl fun s _ => by ring

/-- The keys' gradient. -/
theorem dk_of (t : Fin 2048) (d : Fin 128) : (∑ s : Fin 2048, H.dm s t * H.q s d) * sc = ∑ s : Fin 2048, H.dsr s t * sc * H.q s d := by
  obtain ⟨σ, hσ⟩ := sc_real
  simp only [ds_of F]
  exact scaled F _ _ (fun s => (F.dm_eq hσ s t).2) (fun s => ⟨_, F.hq s d⟩)

/-- The queries' gradient. -/
theorem dq_of (s : Fin 2048) (d : Fin 128) :
    ∑ j : Fin 4, (∑ t : Fin 512, H.dm s (row j t) * H.k (row j t) d) * sc = ∑ t : Fin 2048, H.dsr s t * sc * H.k t d := by
  obtain ⟨σ, hσ⟩ := sc_real
  rw [← scaled F _ _ (fun t => (F.dm_eq hσ s t).2) (fun t => ⟨_, F.hk t d⟩), ← sum_rows]
  simp only [ds_of F]
  have hf : ∀ t, ∃ D : ℝ, H.dsr s t * H.k t d = (D : EReal) := fun t => by
    obtain ⟨D, hD⟩ := (F.dm_eq hσ s t).2
    exact ⟨D * F.k t d, by rw [hD, F.hk, EReal.coe_mul]⟩
  choose D hD using hf
  simp only [hD, hσ, ← EReal.coe_mul, coe_sum_real]
  congr 1
  rw [Finset.sum_mul]

/-- The values' gradient. -/
theorem dv_of (t : Fin 2048) (d : Fin 128) : ∑ s : Fin 2048, H.pm s t * H.g s d = ∑ s : Fin 2048, H.g s d * H.p s t :=
  Finset.sum_congr rfl fun s _ => by rw [p_of F, mul_comm]

/-- The offset's gradient by its queries. -/
theorem dcq_of (s : Fin 2048) : ∑ t : Fin 2048, H.dm s t = ∑ t : Fin 2048, H.dsr s t :=
  Finset.sum_congr rfl fun t _ => ds_of F s t

/-- The offset's gradient by its keys. -/
theorem dcr_of (t : Fin 2048) : -(∑ s : Fin 2048, H.dm s t) = ∑ s : Fin 2048, -H.dsr s t := by
  obtain ⟨σ, hσ⟩ := sc_real
  simp only [ds_of F]
  have hf := fun s => (F.dm_eq hσ s t).2
  choose D hD using hf
  simp only [hD, coe_sum_real, ← EReal.coe_neg]
  rw [Finset.sum_neg_distrib]

end Head

end Cert.FoxBwdIdeal.Outer
-- ==== Proof.FoxPrep.lean ====
/-
  The first loop of the attention backward call at one grid point: row sums, normalisers and zeros.
-/
module

public import proofs.«01_k».proof.Proof.FoxInner

@[expose] public section

set_option maxRecDepth 16384
set_option maxHeartbeats 4000000

noncomputable section

namespace Cert.FoxBwdIdeal.Outer

open Cert.FoxBwdIdeal Cert.FoxBwdIdeal.Gen
open Idealize.ShloMosaic Idealize.ShloMosaic.TcCoe Idealize.ShloMosaic.Tactic

theorem off2 : ∀ k : Fin k0_t1_loop.trips, k0_off2 k = ![0, 512 * k.val, 0] := by decide +kernel

theorem off6 : ∀ k : Fin k0_t1_loop.trips, k0_off6 k = ![1, 512 * k.val, 0] := by decide +kernel

theorem off4 : ∀ k : Fin k0_t1_loop.trips, k0_off4 k = ![0, 512 * k.val, 0] := by decide +kernel

theorem off8 : ∀ k : Fin k0_t1_loop.trips, k0_off8 k = ![1, 512 * k.val, 0] := by decide +kernel

theorem off3 : ∀ k : Fin k0_t1_loop.trips, k0_off3 k = ![0, 0, 512 * k.val, 0] := by decide +kernel

theorem off7 : ∀ k : Fin k0_t1_loop.trips, k0_off7 k = ![0, 1, 512 * k.val, 0] := by decide +kernel

theorem t1_lt : ∀ k : Fin k0_t1_loop.trips, k.val < 4 := by decide +kernel

theorem t1_off : ∀ k : Fin k0_t1_loop.trips,
    (Scalar.indexCast (Scalar.muli (Scf.iv 0#32 1#32 k.val) 512#32)).toNat = 512 * k.val := by decide +kernel

/-- The scratch and result columns as the first loop leaves them, for the rows below block `n`. -/
abbrev Pt.L1 (p : Pt) (k : Fin k0_t1_loop.trips) := tripL_k0_t1 (F := Ideal) p.𝒱 p.c p.bd p.i p.arg2 p.harg2 p.arg3 p.harg3 p.arg4 p.harg4 p.arg5 p.harg5 p.arg6 p.harg6 p.arg7 p.harg7 p.arg8 p.harg8 p.arg9 p.harg9 p.arg10 p.harg10 p.arg11 p.harg11 p.arg12 p.harg12 p.arg13 p.harg13 p.arg14 p.harg14 p.arg15 p.harg15 p.arg16 p.harg16 p.arg17 p.harg17 p.arg18 p.harg18 p.X_arg8 p.X_arg10 p.X_arg11 p.X_arg12 k

section prep

variable (p : Pt) (k : Fin k0_t1_loop.trips)

/-- What a trip leaves in the first head's row sums. -/
theorem L1_dl0  (f : BufTy.Contents (Elt Ideal) p.arg17.view.ty) (s : Fin 2048) :
    p.arg17.view.read (Elt Ideal) (p.arg17.view.writes (Elt Ideal) f (p.L1 k).2.2.1) (ix3 0 s 0)
      = if s.val / 512 = k.val then p.fst.dl s else p.arg17.view.read (Elt Ideal) f (ix3 0 s 0) := by
  have hk4 := t1_lt k
  obtain ⟨hq0, hq1, hg0, hg1⟩ := p.reads
  unfold Pt.L1 tripL_k0_t1 trip_k0_t1
  dsimp only
  rw [View.read_writes_cons_miss_of_axis _ _ _ _ _ 0 1 1 (congrFun (off6 k) 0) rfl rfl (Or.inl (by show (0 : ℕ) < 1; omega))]
  by_cases hs : s.val / 512 = k.val
  · have hs' : (⟨512 * k.val + s.val % 512, by omega⟩ : Fin 2048) = s := Fin.ext (by show 512 * k.val + s.val % 512 = s.val; omega)
    rw [if_pos hs, View.read_writes_cons_hit_of_coords _ _ _ _ _ (ix3 0 ⟨s.val % 512, by omega⟩ 0) _ (fun a => by
      match a with
      | ⟨0, _⟩ => show 0 = k0_off2 k 0 + 1 * 0; rw [off2]; rfl
      | ⟨1, _⟩ => show s.val = k0_off2 k 1 + 1 * (s.val % 512); rw [off2]; show s.val = 512 * k.val + 1 * (s.val % 512); omega
      | ⟨2, _⟩ => show 0 = k0_off2 k 2 + 1 * 0; rw [off2]; rfl)]
    sl_unfold_words
    try simp only [View.readAt_eq_ld]
    unfold_payloads
    pointwise
    try simp only [t1_off, hs', hg0, hg1, Head.dl, Head.ls]
    try rfl
  · rw [if_neg hs, View.read_writes_cons_miss_of_axis _ _ _ _ _ 1 (512 * k.val) 512 (congrFun (off2 k) 1) rfl rfl (by
      show s.val < _ ∨ _ ≤ s.val; omega)]
    rfl

/-- What a trip leaves in the first head's normalisers. -/
theorem L1_ls0  (f : BufTy.Contents (Elt Ideal) p.arg18.view.ty) (s : Fin 2048) :
    p.arg18.view.read (Elt Ideal) (p.arg18.view.writes (Elt Ideal) f (p.L1 k).2.2.2) (ix3 0 s 0)
      = if s.val / 512 = k.val then p.fst.ls s else p.arg18.view.read (Elt Ideal) f (ix3 0 s 0) := by
  have hk4 := t1_lt k
  obtain ⟨hq0, hq1, hg0, hg1⟩ := p.reads
  unfold Pt.L1 tripL_k0_t1 trip_k0_t1
  dsimp only
  rw [View.read_writes_cons_miss_of_axis _ _ _ _ _ 0 1 1 (congrFun (off6 k) 0) rfl rfl (Or.inl (by show (0 : ℕ) < 1; omega))]
  by_cases hs : s.val / 512 = k.val
  · have hs' : (⟨512 * k.val + s.val % 512, by omega⟩ : Fin 2048) = s := Fin.ext (by show 512 * k.val + s.val % 512 = s.val; omega)
    rw [if_pos hs, View.read_writes_cons_hit_of_coords _ _ _ _ _ (ix3 0 ⟨s.val % 512, by omega⟩ 0) _ (fun a => by
      match a with
      | ⟨0, _⟩ => show 0 = k0_off2 k 0 + 1 * 0; rw [off2]; rfl
      | ⟨1, _⟩ => show s.val = k0_off2 k 1 + 1 * (s.val % 512); rw [off2]; show s.val = 512 * k.val + 1 * (s.val % 512); omega
      | ⟨2, _⟩ => show 0 = k0_off2 k 2 + 1 * 0; rw [off2]; rfl)]
    sl_unfold_words
    try simp only [View.readAt_eq_ld]
    unfold_payloads
    pointwise
    try simp only [t1_off, hs', hg0, hg1, Head.dl, Head.ls]
    try rfl
  · rw [if_neg hs, View.read_writes_cons_miss_of_axis _ _ _ _ _ 1 (512 * k.val) 512 (congrFun (off2 k) 1) rfl rfl (by
      show s.val < _ ∨ _ ≤ s.val; omega)]
    rfl

/-- What a trip leaves in the first head's query gradients. -/
theorem L1_dq0  (f : BufTy.Contents (Elt Ideal) p.arg16.view.ty) (s : Fin 2048) (d : Fin 128) :
    p.arg16.view.read (Elt Ideal) (p.arg16.view.writes (Elt Ideal) f (p.L1 k).2.1) (ix3 0 s d)
      = if s.val / 512 = k.val then 0 else p.arg16.view.read (Elt Ideal) f (ix3 0 s d) := by
  have hk4 := t1_lt k
  obtain ⟨hq0, hq1, hg0, hg1⟩ := p.reads
  unfold Pt.L1 tripL_k0_t1 trip_k0_t1
  dsimp only
  rw [View.read_writes_cons_miss_of_axis _ _ _ _ _ 0 1 1 (congrFun (off8 k) 0) rfl rfl (Or.inl (by show (0 : ℕ) < 1; omega))]
  by_cases hs : s.val / 512 = k.val
  · have hs' : (⟨512 * k.val + s.val % 512, by omega⟩ : Fin 2048) = s := Fin.ext (by show 512 * k.val + s.val % 512 = s.val; omega)
    rw [if_pos hs, View.read_writes_cons_hit_of_coords _ _ _ _ _ (ix3 0 ⟨s.val % 512, by omega⟩ d) _ (fun a => by
      match a with
      | ⟨0, _⟩ => show 0 = k0_off4 k 0 + 1 * 0; rw [off4]; rfl
      | ⟨1, _⟩ => show s.val = k0_off4 k 1 + 1 * (s.val % 512); rw [off4]; show s.val = 512 * k.val + 1 * (s.val % 512); omega
      | ⟨2, _⟩ => show d.val = k0_off4 k 2 + 1 * d.val; rw [off4]; show d.val = 0 + 1 * d.val; omega)]
    sl_unfold_words
    try simp only [View.readAt_eq_ld]
    unfold_payloads
    pointwise
    try simp only [t1_off, hs', hg0, hg1, Head.dl, Head.ls]
    try rfl
  · rw [if_neg hs, View.read_writes_cons_miss_of_axis _ _ _ _ _ 1 (512 * k.val) 512 (congrFun (off4 k) 1) rfl rfl (by
      show s.val < _ ∨ _ ≤ s.val; omega)]
    rfl

/-- What a trip leaves in the first head's decay gradients. -/
theorem L1_dc0  (f : BufTy.Contents (Elt Ideal) p.arg14.view.ty) (s : Fin 2048) :
    p.arg14.view.read (Elt Ideal) (p.arg14.view.writes (Elt Ideal) f (p.L1 k).1) (ix4 0 0 s 0)
      = if s.val / 512 = k.val then 0 else p.arg14.view.read (Elt Ideal) f (ix4 0 0 s 0) := by
  have hk4 := t1_lt k
  obtain ⟨hq0, hq1, hg0, hg1⟩ := p.reads
  unfold Pt.L1 tripL_k0_t1 trip_k0_t1
  dsimp only
  rw [View.read_writes_cons_miss_of_axis _ _ _ _ _ 1 1 1 (congrFun (off7 k) 1) rfl rfl (Or.inl (by show (0 : ℕ) < 1; omega))]
  by_cases hs : s.val / 512 = k.val
  · have hs' : (⟨512 * k.val + s.val % 512, by omega⟩ : Fin 2048) = s := Fin.ext (by show 512 * k.val + s.val % 512 = s.val; omega)
    rw [if_pos hs, View.read_writes_cons_hit_of_coords _ _ _ _ _ (ix4 0 0 ⟨s.val % 512, by omega⟩ 0) _ (fun a => by
      match a with
      | ⟨0, _⟩ => show 0 = k0_off3 k 0 + 1 * 0; rw [off3]; rfl
      | ⟨1, _⟩ => show 0 = k0_off3 k 1 + 1 * 0; rw [off3]; rfl
      | ⟨2, _⟩ => show s.val = k0_off3 k 2 + 1 * (s.val % 512); rw [off3]; show s.val = 512 * k.val + 1 * (s.val % 512); omega
      | ⟨3, _⟩ => show 0 = k0_off3 k 3 + 1 * 0; rw [off3]; rfl)]
    sl_unfold_words
    try simp only [View.readAt_eq_ld]
    unfold_payloads
    pointwise
    try simp only [t1_off, hs', hg0, hg1, Head.dl, Head.ls]
    try rfl
  · rw [if_neg hs, View.read_writes_cons_miss_of_axis _ _ _ _ _ 2 (512 * k.val) 512 (congrFun (off3 k) 2) rfl rfl (by
      show s.val < _ ∨ _ ≤ s.val; omega)]
    rfl

/-- What a trip leaves in the second head's row sums. -/
theorem L1_dl1  (f : BufTy.Contents (Elt Ideal) p.arg17.view.ty) (s : Fin 2048) :
    p.arg17.view.read (Elt Ideal) (p.arg17.view.writes (Elt Ideal) f (p.L1 k).2.2.1) (ix3 1 s 0)
      = if s.val / 512 = k.val then p.snd.dl s else p.arg17.view.read (Elt Ideal) f (ix3 1 s 0) := by
  have hk4 := t1_lt k
  obtain ⟨hq0, hq1, hg0, hg1⟩ := p.reads
  unfold Pt.L1 tripL_k0_t1 trip_k0_t1
  dsimp only
  by_cases hs : s.val / 512 = k.val
  · have hs' : (⟨512 * k.val + s.val % 512, by omega⟩ : Fin 2048) = s := Fin.ext (by show 512 * k.val + s.val % 512 = s.val; omega)
    rw [if_pos hs, View.read_writes_cons_hit_of_coords _ _ _ _ _ (ix3 0 ⟨s.val % 512, by omega⟩ 0) _ (fun a => by
      match a with
      | ⟨0, _⟩ => show 1 = k0_off6 k 0 + 1 * 0; rw [off6]; rfl
      | ⟨1, _⟩ => show s.val = k0_off6 k 1 + 1 * (s.val % 512); rw [off6]; show s.val = 512 * k.val + 1 * (s.val % 512); omega
      | ⟨2, _⟩ => show 0 = k0_off6 k 2 + 1 * 0; rw [off6]; rfl)]
    sl_unfold_words
    try simp only [View.readAt_eq_ld]
    unfold_payloads
    pointwise
    try simp only [t1_off, hs', hg0, hg1, Head.dl, Head.ls]
    try rfl
  · rw [if_neg hs, View.read_writes_cons_miss_of_axis _ _ _ _ _ 1 (512 * k.val) 512 (congrFun (off6 k) 1) rfl rfl (by
      show s.val < _ ∨ _ ≤ s.val; omega)]
    rw [View.read_writes_cons_miss_of_axis _ _ _ _ _ 1 (512 * k.val) 512 (congrFun (off2 k) 1) rfl rfl (by
      show s.val < _ ∨ _ ≤ s.val; omega)]
    rfl

/-- What a trip leaves in the second head's normalisers. -/
theorem L1_ls1  (f : BufTy.Contents (Elt Ideal) p.arg18.view.ty) (s : Fin 2048) :
    p.arg18.view.read (Elt Ideal) (p.arg18.view.writes (Elt Ideal) f (p.L1 k).2.2.2) (ix3 1 s 0)
      = if s.val / 512 = k.val then p.snd.ls s else p.arg18.view.read (Elt Ideal) f (ix3 1 s 0) := by
  have hk4 := t1_lt k
  obtain ⟨hq0, hq1, hg0, hg1⟩ := p.reads
  unfold Pt.L1 tripL_k0_t1 trip_k0_t1
  dsimp only
  by_cases hs : s.val / 512 = k.val
  · have hs' : (⟨512 * k.val + s.val % 512, by omega⟩ : Fin 2048) = s := Fin.ext (by show 512 * k.val + s.val % 512 = s.val; omega)
    rw [if_pos hs, View.read_writes_cons_hit_of_coords _ _ _ _ _ (ix3 0 ⟨s.val % 512, by omega⟩ 0) _ (fun a => by
      match a with
      | ⟨0, _⟩ => show 1 = k0_off6 k 0 + 1 * 0; rw [off6]; rfl
      | ⟨1, _⟩ => show s.val = k0_off6 k 1 + 1 * (s.val % 512); rw [off6]; show s.val = 512 * k.val + 1 * (s.val % 512); omega
      | ⟨2, _⟩ => show 0 = k0_off6 k 2 + 1 * 0; rw [off6]; rfl)]
    sl_unfold_words
    try simp only [View.readAt_eq_ld]
    unfold_payloads
    pointwise
    try simp only [t1_off, hs', hg0, hg1, Head.dl, Head.ls]
    try rfl
  · rw [if_neg hs, View.read_writes_cons_miss_of_axis _ _ _ _ _ 1 (512 * k.val) 512 (congrFun (off6 k) 1) rfl rfl (by
      show s.val < _ ∨ _ ≤ s.val; omega)]
    rw [View.read_writes_cons_miss_of_axis _ _ _ _ _ 1 (512 * k.val) 512 (congrFun (off2 k) 1) rfl rfl (by
      show s.val < _ ∨ _ ≤ s.val; omega)]
    rfl

/-- What a trip leaves in the second head's query gradients. -/
theorem L1_dq1  (f : BufTy.Contents (Elt Ideal) p.arg16.view.ty) (s : Fin 2048) (d : Fin 128) :
    p.arg16.view.read (Elt Ideal) (p.arg16.view.writes (Elt Ideal) f (p.L1 k).2.1) (ix3 1 s d)
      = if s.val / 512 = k.val then 0 else p.arg16.view.read (Elt Ideal) f (ix3 1 s d) := by
  have hk4 := t1_lt k
  obtain ⟨hq0, hq1, hg0, hg1⟩ := p.reads
  unfold Pt.L1 tripL_k0_t1 trip_k0_t1
  dsimp only
  by_cases hs : s.val / 512 = k.val
  · have hs' : (⟨512 * k.val + s.val % 512, by omega⟩ : Fin 2048) = s := Fin.ext (by show 512 * k.val + s.val % 512 = s.val; omega)
    rw [if_pos hs, View.read_writes_cons_hit_of_coords _ _ _ _ _ (ix3 0 ⟨s.val % 512, by omega⟩ d) _ (fun a => by
      match a with
      | ⟨0, _⟩ => show 1 = k0_off8 k 0 + 1 * 0; rw [off8]; rfl
      | ⟨1, _⟩ => show s.val = k0_off8 k 1 + 1 * (s.val % 512); rw [off8]; show s.val = 512 * k.val + 1 * (s.val % 512); omega
      | ⟨2, _⟩ => show d.val = k0_off8 k 2 + 1 * d.val; rw [off8]; show d.val = 0 + 1 * d.val; omega)]
    sl_unfold_words
    try simp only [View.readAt_eq_ld]
    unfold_payloads
    pointwise
    try simp only [t1_off, hs', hg0, hg1, Head.dl, Head.ls]
    try rfl
  · rw [if_neg hs, View.read_writes_cons_miss_of_axis _ _ _ _ _ 1 (512 * k.val) 512 (congrFun (off8 k) 1) rfl rfl (by
      show s.val < _ ∨ _ ≤ s.val; omega)]
    rw [View.read_writes_cons_miss_of_axis _ _ _ _ _ 1 (512 * k.val) 512 (congrFun (off4 k) 1) rfl rfl (by
      show s.val < _ ∨ _ ≤ s.val; omega)]
    rfl

/-- What a trip leaves in the second head's decay gradients. -/
theorem L1_dc1  (f : BufTy.Contents (Elt Ideal) p.arg14.view.ty) (s : Fin 2048) :
    p.arg14.view.read (Elt Ideal) (p.arg14.view.writes (Elt Ideal) f (p.L1 k).1) (ix4 0 1 s 0)
      = if s.val / 512 = k.val then 0 else p.arg14.view.read (Elt Ideal) f (ix4 0 1 s 0) := by
  have hk4 := t1_lt k
  obtain ⟨hq0, hq1, hg0, hg1⟩ := p.reads
  unfold Pt.L1 tripL_k0_t1 trip_k0_t1
  dsimp only
  by_cases hs : s.val / 512 = k.val
  · have hs' : (⟨512 * k.val + s.val % 512, by omega⟩ : Fin 2048) = s := Fin.ext (by show 512 * k.val + s.val % 512 = s.val; omega)
    rw [if_pos hs, View.read_writes_cons_hit_of_coords _ _ _ _ _ (ix4 0 0 ⟨s.val % 512, by omega⟩ 0) _ (fun a => by
      match a with
      | ⟨0, _⟩ => show 0 = k0_off7 k 0 + 1 * 0; rw [off7]; rfl
      | ⟨1, _⟩ => show 1 = k0_off7 k 1 + 1 * 0; rw [off7]; rfl
      | ⟨2, _⟩ => show s.val = k0_off7 k 2 + 1 * (s.val % 512); rw [off7]; show s.val = 512 * k.val + 1 * (s.val % 512); omega
      | ⟨3, _⟩ => show 0 = k0_off7 k 3 + 1 * 0; rw [off7]; rfl)]
    sl_unfold_words
    try simp only [View.readAt_eq_ld]
    unfold_payloads
    pointwise
    try simp only [t1_off, hs', hg0, hg1, Head.dl, Head.ls]
    try rfl
  · rw [if_neg hs, View.read_writes_cons_miss_of_axis _ _ _ _ _ 2 (512 * k.val) 512 (congrFun (off7 k) 2) rfl rfl (by
      show s.val < _ ∨ _ ≤ s.val; omega)]
    rw [View.read_writes_cons_miss_of_axis _ _ _ _ _ 2 (512 * k.val) 512 (congrFun (off3 k) 2) rfl rfl (by
      show s.val < _ ∨ _ ≤ s.val; omega)]
    rfl

end prep

/-- The first loop's trips before trip `n`. -/
abbrev Pt.B1 (p : Pt) (n : ℕ) := pb_k0_t1 (F := Ideal) p.𝒱 p.c p.bd p.i p.arg2 p.harg2 p.arg3 p.harg3 p.arg4 p.harg4 p.arg5 p.harg5 p.arg6 p.harg6 p.arg7 p.harg7 p.arg8 p.harg8 p.arg9 p.harg9 p.arg10 p.harg10 p.arg11 p.harg11 p.arg12 p.harg12 p.arg13 p.harg13 p.arg14 p.harg14 p.arg15 p.harg15 p.arg16 p.harg16 p.arg17 p.harg17 p.arg18 p.harg18 p.X_arg8 p.X_arg10 p.X_arg11 p.X_arg12 n

/-- The rows of the blocks met so far hold the row sums, the normalisers, and zeros. -/
theorem B1_out (p : Pt) (n : ℕ) (hn : n ≤ k0_t1_loop.trips) (f14 : BufTy.Contents (Elt Ideal) p.arg14.view.ty)
    (f16 : BufTy.Contents (Elt Ideal) p.arg16.view.ty) (f17 : BufTy.Contents (Elt Ideal) p.arg17.view.ty)
    (f18 : BufTy.Contents (Elt Ideal) p.arg18.view.ty) (s : Fin 2048) (hs : s.val / 512 < n) :
    p.arg17.view.read (Elt Ideal) (p.arg17.view.writes (Elt Ideal) f17 (p.B1 n).2.2.1) (ix3 0 s 0) = p.fst.dl s
    ∧ p.arg18.view.read (Elt Ideal) (p.arg18.view.writes (Elt Ideal) f18 (p.B1 n).2.2.2) (ix3 0 s 0) = p.fst.ls s
    ∧ (∀ d : Fin 128, p.arg16.view.read (Elt Ideal) (p.arg16.view.writes (Elt Ideal) f16 (p.B1 n).2.1) (ix3 0 s d) = 0)
    ∧ p.arg14.view.read (Elt Ideal) (p.arg14.view.writes (Elt Ideal) f14 (p.B1 n).1) (ix4 0 0 s 0) = 0
    ∧ p.arg17.view.read (Elt Ideal) (p.arg17.view.writes (Elt Ideal) f17 (p.B1 n).2.2.1) (ix3 1 s 0) = p.snd.dl s
    ∧ p.arg18.view.read (Elt Ideal) (p.arg18.view.writes (Elt Ideal) f18 (p.B1 n).2.2.2) (ix3 1 s 0) = p.snd.ls s
    ∧ (∀ d : Fin 128, p.arg16.view.read (Elt Ideal) (p.arg16.view.writes (Elt Ideal) f16 (p.B1 n).2.1) (ix3 1 s d) = 0)
    ∧ p.arg14.view.read (Elt Ideal) (p.arg14.view.writes (Elt Ideal) f14 (p.B1 n).1) (ix4 0 1 s 0) = 0 := by
  induction n with
  | zero => exact absurd hs (by omega)
  | succ n ih =>
    have ih := ih (by omega)
    have hn' : n < k0_t1_loop.trips := by omega
    have e := pb_k0_t1_succ (F := Ideal) p.𝒱 p.c p.bd p.i p.arg2 p.harg2 p.arg3 p.harg3 p.arg4 p.harg4 p.arg5 p.harg5 p.arg6 p.harg6 p.arg7 p.harg7 p.arg8 p.harg8 p.arg9 p.harg9 p.arg10 p.harg10 p.arg11 p.harg11 p.arg12 p.harg12 p.arg13 p.harg13 p.arg14 p.harg14 p.arg15 p.harg15 p.arg16 p.harg16 p.arg17 p.harg17 p.arg18 p.harg18 p.X_arg8 p.X_arg10 p.X_arg11 p.X_arg12 ⟨n, hn'⟩
    rw [show p.B1 (n + 1) = _ from e]
    simp only [View.writes_append]
    have hlt : ¬ s.val / 512 = n → s.val / 512 < n := fun h => by omega
    refine ⟨?_, ?_, ?_, ?_, ?_, ?_, ?_, ?_⟩
    · exact (L1_dl0 p ⟨n, hn'⟩ _ s).trans (by by_cases hb : s.val / 512 = n; exact if_pos hb; exact (if_neg hb).trans ((ih (hlt hb)).1))
    · exact (L1_ls0 p ⟨n, hn'⟩ _ s).trans (by by_cases hb : s.val / 512 = n; exact if_pos hb; exact (if_neg hb).trans ((ih (hlt hb)).2.1))
    · exact fun d => (L1_dq0 p ⟨n, hn'⟩ _ s d).trans (by by_cases hb : s.val / 512 = n; exact if_pos hb; exact (if_neg hb).trans ((ih (hlt hb)).2.2.1 d))
    · exact (L1_dc0 p ⟨n, hn'⟩ _ s).trans (by by_cases hb : s.val / 512 = n; exact if_pos hb; exact (if_neg hb).trans ((ih (hlt hb)).2.2.2.1))
    · exact (L1_dl1 p ⟨n, hn'⟩ _ s).trans (by by_cases hb : s.val / 512 = n; exact if_pos hb; exact (if_neg hb).trans ((ih (hlt hb)).2.2.2.2.1))
    · exact (L1_ls1 p ⟨n, hn'⟩ _ s).trans (by by_cases hb : s.val / 512 = n; exact if_pos hb; exact (if_neg hb).trans ((ih (hlt hb)).2.2.2.2.2.1))
    · exact fun d => (L1_dq1 p ⟨n, hn'⟩ _ s d).trans (by by_cases hb : s.val / 512 = n; exact if_pos hb; exact (if_neg hb).trans ((ih (hlt hb)).2.2.2.2.2.2.1 d))
    · exact (L1_dc1 p ⟨n, hn'⟩ _ s).trans (by by_cases hb : s.val / 512 = n; exact if_pos hb; exact (if_neg hb).trans ((ih (hlt hb)).2.2.2.2.2.2.2))

/-- After the first loop the scratch columns hold the row sums and the normalisers. -/
theorem B1_prep (p : Pt) (f17 : BufTy.Contents (Elt Ideal) p.arg17.view.ty) (f18 : BufTy.Contents (Elt Ideal) p.arg18.view.ty)
    (f14 : BufTy.Contents (Elt Ideal) p.arg14.view.ty) (f16 : BufTy.Contents (Elt Ideal) p.arg16.view.ty) :
    Prep p (p.arg17.view.writes (Elt Ideal) f17 (p.B1 k0_t1_loop.trips).2.2.1) (p.arg18.view.writes (Elt Ideal) f18 (p.B1 k0_t1_loop.trips).2.2.2) := by
  have h := fun s : Fin 2048 => B1_out p k0_t1_loop.trips le_rfl f14 f16 f17 f18 s (lt_of_lt_of_le (by omega : s.val / 512 < 4) (by decide +kernel))
  exact ⟨fun s => (h s).1, fun s => (h s).2.2.2.2.1, fun s => (h s).2.1, fun s => (h s).2.2.2.2.2.1⟩

end Cert.FoxBwdIdeal.Outer

end
-- ==== Proof.FoxState.lean ====
/-
  The outer loop of the attention backward call: after it, the gradients of keys and values stand in
  their columns, and those of the queries in their buffers.
-/
module

public import proofs.«01_k».proof.Proof.FoxTrip
public import proofs.«01_k».proof.Proof.FoxPrep

@[expose] public section

set_option maxRecDepth 16384
set_option maxHeartbeats 1000000

noncomputable section

namespace Cert.FoxBwdIdeal.Outer

open Cert.FoxBwdIdeal Cert.FoxBwdIdeal.Gen
open Idealize.ShloMosaic Idealize.ShloMosaic.TcCoe Idealize.ShloMosaic.Tactic

/-- The sum of a quantity over the key blocks before block `n`. -/
def upto (F : Fin 4 → EReal) (n : ℕ) : EReal := ∑ j : Fin 4, if j.val < n then F j else 0

theorem upto_zero (F : Fin 4 → EReal) : upto F 0 = 0 := by simp [upto]

theorem upto_succ (F : Fin 4 → EReal) (j : Fin 4) : upto F (j.val + 1) = upto F j.val + F j := by
  fin_cases j <;> simp [upto, Fin.sum_univ_four]

theorem upto_full (F : Fin 4 → EReal) : upto F 4 = ∑ j : Fin 4, F j :=
  Finset.sum_congr rfl fun j _ => if_pos j.isLt

/-- The outer loop's pieces before trip `n`, at a point. -/
abbrev Pt.St (p : Pt) (v0 v1 : IVec S512x512 32) (X17 : BufTy.Contents (Elt Ideal) p.arg17.view.ty) (X18 : BufTy.Contents (Elt Ideal) p.arg18.view.ty)
    (G13 : BufTy.Contents (Elt Ideal) p.arg13.view.ty) (G14 : BufTy.Contents (Elt Ideal) p.arg14.view.ty)
    (G15 : BufTy.Contents (Elt Ideal) p.arg15.view.ty) (G16 : BufTy.Contents (Elt Ideal) p.arg16.view.ty) (n : ℕ) :=
  st (F := Ideal) p.𝒱 p.c p.bd p.i p.arg2 p.harg2 p.arg3 p.harg3 p.arg4 p.harg4 p.arg5 p.harg5 p.arg6 p.harg6 p.arg7 p.harg7 p.arg8 p.harg8 p.arg9 p.harg9 p.arg10 p.harg10 p.arg11 p.harg11 p.arg12 p.harg12 p.arg13 p.harg13 p.arg14 p.harg14 p.arg15 p.harg15 p.arg16 p.harg16 p.arg17 p.harg17 p.arg18 p.harg18 v0 v1 p.X_arg2 p.X_arg3 p.X_arg4 p.X_arg5 p.X_arg6 p.X_arg7 p.X_arg9 p.X_arg12 X17 X18 G13 G14 G15 G16 n

section state

variable (p : Pt) (v0 v1 : IVec S512x512 32) (X17 : BufTy.Contents (Elt Ideal) p.arg17.view.ty)
  (X18 : BufTy.Contents (Elt Ideal) p.arg18.view.ty)
  (G13 : BufTy.Contents (Elt Ideal) p.arg13.view.ty) (G14 : BufTy.Contents (Elt Ideal) p.arg14.view.ty)
  (G15 : BufTy.Contents (Elt Ideal) p.arg15.view.ty) (G16 : BufTy.Contents (Elt Ideal) p.arg16.view.ty)

theorem St_succ (k : Fin k0_t2_loop.trips) : p.St v0 v1 X17 X18 G13 G14 G15 G16 (k.val + 1)
    = ((p.T2 v0 v1 X17 X18 k).1 (p.arg14.view.writes (Elt Ideal) G14 (p.St v0 v1 X17 X18 G13 G14 G15 G16 k.val).2.1) (p.arg16.view.writes (Elt Ideal) G16 (p.St v0 v1 X17 X18 G13 G14 G15 G16 k.val).2.2.2) ++ (p.St v0 v1 X17 X18 G13 G14 G15 G16 k.val).1,
      (p.T2 v0 v1 X17 X18 k).2.1 (p.arg14.view.writes (Elt Ideal) G14 (p.St v0 v1 X17 X18 G13 G14 G15 G16 k.val).2.1) (p.arg16.view.writes (Elt Ideal) G16 (p.St v0 v1 X17 X18 G13 G14 G15 G16 k.val).2.2.2) ++ (p.St v0 v1 X17 X18 G13 G14 G15 G16 k.val).2.1,
      (p.T2 v0 v1 X17 X18 k).2.2.1 (p.arg14.view.writes (Elt Ideal) G14 (p.St v0 v1 X17 X18 G13 G14 G15 G16 k.val).2.1) (p.arg16.view.writes (Elt Ideal) G16 (p.St v0 v1 X17 X18 G13 G14 G15 G16 k.val).2.2.2) ++ (p.St v0 v1 X17 X18 G13 G14 G15 G16 k.val).2.2.1,
      (p.T2 v0 v1 X17 X18 k).2.2.2.1 (p.arg14.view.writes (Elt Ideal) G14 (p.St v0 v1 X17 X18 G13 G14 G15 G16 k.val).2.1) (p.arg16.view.writes (Elt Ideal) G16 (p.St v0 v1 X17 X18 G13 G14 G15 G16 k.val).2.2.2) ++ (p.St v0 v1 X17 X18 G13 G14 G15 G16 k.val).2.2.2) :=
  st_succ (F := Ideal) p.𝒱 p.c p.bd p.i p.arg2 p.harg2 p.arg3 p.harg3 p.arg4 p.harg4 p.arg5 p.harg5 p.arg6 p.harg6 p.arg7 p.harg7 p.arg8 p.harg8 p.arg9 p.harg9 p.arg10 p.harg10 p.arg11 p.harg11 p.arg12 p.harg12 p.arg13 p.harg13 p.arg14 p.harg14 p.arg15 p.harg15 p.arg16 p.harg16 p.arg17 p.harg17 p.arg18 p.harg18 v0 v1 p.X_arg2 p.X_arg3 p.X_arg4 p.X_arg5 p.X_arg6 p.X_arg7 p.X_arg9 p.X_arg12 X17 X18 G13 G14 G15 G16 k

/-- What the outer loop leaves for a key. -/
theorem St_key (hv : Planes v0 v1) (hp : Prep p X17 X18) (f13 : BufTy.Contents (Elt Ideal) p.arg13.view.ty)
    (f15 : BufTy.Contents (Elt Ideal) p.arg15.view.ty) (n : ℕ) (hn : n ≤ k0_t2_loop.trips) (t : Fin 2048) (ht : t.val / 512 < n) :
    (∀ d : Fin 128, p.arg13.view.read (Elt Ideal) (p.arg13.view.writes (Elt Ideal) f13 (p.St v0 v1 X17 X18 G13 G14 G15 G16 n).1) (ix2 t ⟨128 + d.val, by omega⟩) = (∑ s : Fin 2048, p.fst.dm s t * p.fst.q s d) * Head.sc)
    ∧ (∀ d : Fin 128, p.arg13.view.read (Elt Ideal) (p.arg13.view.writes (Elt Ideal) f13 (p.St v0 v1 X17 X18 G13 G14 G15 G16 n).1) (ix2 t ⟨256 + d.val, by omega⟩) = ∑ s : Fin 2048, p.fst.pm s t * p.fst.g s d)
    ∧ p.arg15.view.read (Elt Ideal) (p.arg15.view.writes (Elt Ideal) f15 (p.St v0 v1 X17 X18 G13 G14 G15 G16 n).2.2.1) (ix4 0 0 0 t) = -(∑ s : Fin 2048, p.fst.dm s t)
    ∧ (∀ d : Fin 128, p.arg13.view.read (Elt Ideal) (p.arg13.view.writes (Elt Ideal) f13 (p.St v0 v1 X17 X18 G13 G14 G15 G16 n).1) (ix2 t ⟨512 + d.val, by omega⟩) = (∑ s : Fin 2048, p.snd.dm s t * p.snd.q s d) * Head.sc)
    ∧ (∀ d : Fin 128, p.arg13.view.read (Elt Ideal) (p.arg13.view.writes (Elt Ideal) f13 (p.St v0 v1 X17 X18 G13 G14 G15 G16 n).1) (ix2 t ⟨640 + d.val, by omega⟩) = ∑ s : Fin 2048, p.snd.pm s t * p.snd.g s d)
    ∧ p.arg15.view.read (Elt Ideal) (p.arg15.view.writes (Elt Ideal) f15 (p.St v0 v1 X17 X18 G13 G14 G15 G16 n).2.2.1) (ix4 0 1 0 t) = -(∑ s : Fin 2048, p.snd.dm s t) := by
  induction n with
  | zero => exact absurd ht (by omega)
  | succ n ih =>
    have ih := ih (by omega)
    have e := St_succ p v0 v1 X17 X18 G13 G14 G15 G16 ⟨n, hn⟩
    dsimp only at e
    rw [e]
    dsimp only
    by_cases h : t.val / 512 = n
    · refine ⟨?_, ?_, ?_, ?_, ?_, ?_⟩
      · intro d; rw [View.writes_append, T2_dk0 p v0 v1 X17 X18 ⟨n, hn⟩ _ _ hv hp, if_pos h]
      · intro d; rw [View.writes_append, T2_dv0 p v0 v1 X17 X18 ⟨n, hn⟩ _ _ hv hp, if_pos h]
      · rw [View.writes_append, T2_dr0 p v0 v1 X17 X18 ⟨n, hn⟩ _ _ hv hp, if_pos h]
      · intro d; rw [View.writes_append, T2_dk1 p v0 v1 X17 X18 ⟨n, hn⟩ _ _ hv hp, if_pos h]
      · intro d; rw [View.writes_append, T2_dv1 p v0 v1 X17 X18 ⟨n, hn⟩ _ _ hv hp, if_pos h]
      · rw [View.writes_append, T2_dr1 p v0 v1 X17 X18 ⟨n, hn⟩ _ _ hv hp, if_pos h]
    · obtain ⟨i1, i2, i3, i4, i5, i6⟩ := ih (by omega)
      refine ⟨?_, ?_, ?_, ?_, ?_, ?_⟩
      · intro d; rw [View.writes_append, T2_dk0 p v0 v1 X17 X18 ⟨n, hn⟩ _ _ hv hp, if_neg h]; exact i1 d
      · intro d; rw [View.writes_append, T2_dv0 p v0 v1 X17 X18 ⟨n, hn⟩ _ _ hv hp, if_neg h]; exact i2 d
      · rw [View.writes_append, T2_dr0 p v0 v1 X17 X18 ⟨n, hn⟩ _ _ hv hp, if_neg h]; exact i3
      · intro d; rw [View.writes_append, T2_dk1 p v0 v1 X17 X18 ⟨n, hn⟩ _ _ hv hp, if_neg h]; exact i4 d
      · intro d; rw [View.writes_append, T2_dv1 p v0 v1 X17 X18 ⟨n, hn⟩ _ _ hv hp, if_neg h]; exact i5 d
      · rw [View.writes_append, T2_dr1 p v0 v1 X17 X18 ⟨n, hn⟩ _ _ hv hp, if_neg h]; exact i6

/-- What the outer loop leaves for a query. -/
theorem St_query (hv : Planes v0 v1) (hp : Prep p X17 X18) (n : ℕ) (hn : n ≤ k0_t2_loop.trips) (s : Fin 2048) :
    (∀ d : Fin 128, p.arg16.view.read (Elt Ideal) (p.arg16.view.writes (Elt Ideal) G16 (p.St v0 v1 X17 X18 G13 G14 G15 G16 n).2.2.2) (ix3 0 s d)
      = p.arg16.view.read (Elt Ideal) G16 (ix3 0 s d) + upto (fun j => (∑ t : Fin 512, p.fst.dm s (row j t) * p.fst.k (row j t) d) * Head.sc) n)
    ∧ (p.arg14.view.read (Elt Ideal) (p.arg14.view.writes (Elt Ideal) G14 (p.St v0 v1 X17 X18 G13 G14 G15 G16 n).2.1) (ix4 0 0 s 0)
      = p.arg14.view.read (Elt Ideal) G14 (ix4 0 0 s 0) + upto (fun j => ∑ t : Fin 512, p.fst.dm s (row j t)) n)
    ∧ (∀ d : Fin 128, p.arg16.view.read (Elt Ideal) (p.arg16.view.writes (Elt Ideal) G16 (p.St v0 v1 X17 X18 G13 G14 G15 G16 n).2.2.2) (ix3 1 s d)
      = p.arg16.view.read (Elt Ideal) G16 (ix3 1 s d) + upto (fun j => (∑ t : Fin 512, p.snd.dm s (row j t) * p.snd.k (row j t) d) * Head.sc) n)
    ∧ (p.arg14.view.read (Elt Ideal) (p.arg14.view.writes (Elt Ideal) G14 (p.St v0 v1 X17 X18 G13 G14 G15 G16 n).2.1) (ix4 0 1 s 0)
      = p.arg14.view.read (Elt Ideal) G14 (ix4 0 1 s 0) + upto (fun j => ∑ t : Fin 512, p.snd.dm s (row j t)) n) := by
  induction n with
  | zero =>
    simp only [upto_zero, add_zero]
    exact ⟨fun _ => rfl, rfl, fun _ => rfl, rfl⟩
  | succ n ih =>
    obtain ⟨i1, i2, i3, i4⟩ := ih (by omega)
    have e := St_succ p v0 v1 X17 X18 G13 G14 G15 G16 ⟨n, hn⟩
    dsimp only at e
    rw [e]
    dsimp only
    obtain ⟨b1, b2, b3, b4⟩ := T2_buf p v0 v1 X17 X18 ⟨n, hn⟩ (p.arg14.view.writes (Elt Ideal) G14 (p.St v0 v1 X17 X18 G13 G14 G15 G16 n).2.1) (p.arg16.view.writes (Elt Ideal) G16 (p.St v0 v1 X17 X18 G13 G14 G15 G16 n).2.2.2) hv hp s
    rw [View.writes_append, View.writes_append]
    refine ⟨fun d => ?_, ?_, fun d => ?_, ?_⟩
    · rw [b1 d, i1 d, add_assoc]; exact congrArg _ (upto_succ _ (jb ⟨n, hn⟩)).symm
    · rw [b2, i2, add_assoc]; exact congrArg _ (upto_succ _ (jb ⟨n, hn⟩)).symm
    · rw [b3 d, i3 d, add_assoc]; exact congrArg _ (upto_succ _ (jb ⟨n, hn⟩)).symm
    · rw [b4, i4, add_assoc]; exact congrArg _ (upto_succ _ (jb ⟨n, hn⟩)).symm

end state

end Cert.FoxBwdIdeal.Outer

end
-- ==== Proof.FoxRun.lean ====
/-
  One grid point of the attention backward call: what it leaves in the three results' blocks.
-/
module

public import proofs.«01_k».proof.Proof.FoxState

@[expose] public section

set_option maxRecDepth 16384
set_option maxHeartbeats 600000

noncomputable section

namespace Cert.FoxBwdIdeal.Outer

open Cert.FoxBwdIdeal Cert.FoxBwdIdeal.Gen
open Idealize.ShloMosaic Idealize.ShloMosaic.TcCoe Idealize.ShloMosaic.Tactic

/-- The body at a point. -/
abbrev Pt.Out (p : Pt) :=
  run (F := Ideal) p.𝒱 p.c p.bd p.i p.arg2 p.harg2 p.arg3 p.harg3 p.arg4 p.harg4 p.arg5 p.harg5 p.arg6 p.harg6 p.arg7 p.harg7 p.arg8 p.harg8 p.arg9 p.harg9 p.arg10 p.harg10 p.arg11 p.harg11 p.arg12 p.harg12 p.arg13 p.harg13 p.arg14 p.harg14 p.arg15 p.harg15 p.arg16 p.harg16 p.arg17 p.harg17 p.arg18 p.harg18 p.X_arg2 p.X_arg3 p.X_arg4 p.X_arg5 p.X_arg6 p.X_arg7 p.X_arg8 p.X_arg9 p.X_arg10 p.X_arg11 p.X_arg12

theorem planes : Planes run.sl.v0 run.sl.v1 := by
  constructor <;> intro r c <;> unfold_payloads <;> sl_unfold_words <;> simp only [run.sl.v0, run.sl.v1] <;> pointwise

section point

variable (p : Pt) (f13 : BufTy.Contents (Elt Ideal) p.arg13.view.ty) (f14 : BufTy.Contents (Elt Ideal) p.arg14.view.ty)
  (f15 : BufTy.Contents (Elt Ideal) p.arg15.view.ty) (f16 : BufTy.Contents (Elt Ideal) p.arg16.view.ty)
  (f17 : BufTy.Contents (Elt Ideal) p.arg17.view.ty) (f18 : BufTy.Contents (Elt Ideal) p.arg18.view.ty)

/-- The outer loop's pieces at the end of the loop, started on what the preparation leaves. -/
abbrev Pt.Se := p.St run.sl.v0 run.sl.v1 (p.arg17.view.writes (Elt Ideal) f17 (p.B1 k0_t1_loop.trips).2.2.1) (p.arg18.view.writes (Elt Ideal) f18 (p.B1 k0_t1_loop.trips).2.2.2)
  f13 (p.arg14.view.writes (Elt Ideal) f14 (p.B1 k0_t1_loop.trips).1) f15 (p.arg16.view.writes (Elt Ideal) f16 (p.B1 k0_t1_loop.trips).2.1) (Scf.trips 0#32 4#32 1#32)

theorem Out_14 : p.Out.2.1 f13 f14 f15 f16 f17 f18 = p.arg14.view.writes (Elt Ideal) f14 ((Pt.Se p f13 f14 f15 f16 f17 f18).2.1 ++ (p.B1 k0_t1_loop.trips).1) := by
  unfold Pt.Out run
  rfl

theorem Out_15 : p.Out.2.2.1 f13 f14 f15 f16 f17 f18 = p.arg15.view.writes (Elt Ideal) f15 (Pt.Se p f13 f14 f15 f16 f17 f18).2.2.1 := by
  unfold Pt.Out run
  rfl

theorem Out_13 : p.Out.1 f13 f14 f15 f16 f17 f18 = p.arg13.view.writes (Elt Ideal) f13
    (⟨Rect.unit (s := S2048x768) ![0, 384] S2048x128.size inb_S2048x768_S2048x128_0_384, k0_pay10 (F := Ideal) (p.arg16.view.readAt (Elt Ideal) (Rect.unit (s := S2x2048x128) ![1, 0, 0] S1x2048x128.size inb_S2x2048x128_S1x2048x128_1_0_0).toLoadRect (p.arg16.view.writes (Elt Ideal) f16 ((Pt.Se p f13 f14 f15 f16 f17 f18).2.2.2 ++ (p.B1 k0_t1_loop.trips).2.1)))⟩
      :: ⟨Rect.unit (s := S2048x768) ![0, 0] S2048x128.size inb_S2048x768_S2048x128_0_0, k0_pay9 (F := Ideal) (p.arg16.view.readAt (Elt Ideal) (Rect.unit (s := S2x2048x128) ![0, 0, 0] S1x2048x128.size inb_S2x2048x128_S1x2048x128_0_0_0).toLoadRect (p.arg16.view.writes (Elt Ideal) f16 ((Pt.Se p f13 f14 f15 f16 f17 f18).2.2.2 ++ (p.B1 k0_t1_loop.trips).2.1)))⟩
      :: (Pt.Se p f13 f14 f15 f16 f17 f18).1) := by
  unfold Pt.Out run
  rfl

/-- The keys' and values' gradients in a point's block, and the key decay's. -/
theorem Out_key (t : Fin 2048) :
    (∀ d : Fin 128, p.arg13.view.read (Elt Ideal) (p.Out.1 f13 f14 f15 f16 f17 f18) (ix2 t ⟨128 + d.val, by omega⟩) = (∑ s : Fin 2048, p.fst.dm s t * p.fst.q s d) * Head.sc)
    ∧ (∀ d : Fin 128, p.arg13.view.read (Elt Ideal) (p.Out.1 f13 f14 f15 f16 f17 f18) (ix2 t ⟨256 + d.val, by omega⟩) = ∑ s : Fin 2048, p.fst.pm s t * p.fst.g s d)
    ∧ p.arg15.view.read (Elt Ideal) (p.Out.2.2.1 f13 f14 f15 f16 f17 f18) (ix4 0 0 0 t) = -(∑ s : Fin 2048, p.fst.dm s t)
    ∧ (∀ d : Fin 128, p.arg13.view.read (Elt Ideal) (p.Out.1 f13 f14 f15 f16 f17 f18) (ix2 t ⟨512 + d.val, by omega⟩) = (∑ s : Fin 2048, p.snd.dm s t * p.snd.q s d) * Head.sc)
    ∧ (∀ d : Fin 128, p.arg13.view.read (Elt Ideal) (p.Out.1 f13 f14 f15 f16 f17 f18) (ix2 t ⟨640 + d.val, by omega⟩) = ∑ s : Fin 2048, p.snd.pm s t * p.snd.g s d)
    ∧ p.arg15.view.read (Elt Ideal) (p.Out.2.2.1 f13 f14 f15 f16 f17 f18) (ix4 0 1 0 t) = -(∑ s : Fin 2048, p.snd.dm s t) := by
  have hp := B1_prep p f17 f18 f14 f16
  have K := St_key p run.sl.v0 run.sl.v1 _ _ f13 (p.arg14.view.writes (Elt Ideal) f14 (p.B1 k0_t1_loop.trips).1) f15 (p.arg16.view.writes (Elt Ideal) f16 (p.B1 k0_t1_loop.trips).2.1) planes hp f13 f15 4 (by decide +kernel) t (by omega)
  obtain ⟨i1, i2, i3, i4, i5, i6⟩ := K
  rw [Out_13, Out_15]
  refine ⟨fun d => ?_, fun d => ?_, ?_, fun d => ?_, fun d => ?_, ?_⟩
  · rw [View.read_writes_cons_miss_of_axis _ _ _ _ _ 1 384 128 rfl rfl rfl (by show 128 + d.val < 384 ∨ 384 + 128 ≤ 128 + d.val; omega),
      View.read_writes_cons_miss_of_axis _ _ _ _ _ 1 0 128 rfl rfl rfl (by show 128 + d.val < 0 ∨ 0 + 128 ≤ 128 + d.val; omega)]
    exact i1 d
  · rw [View.read_writes_cons_miss_of_axis _ _ _ _ _ 1 384 128 rfl rfl rfl (by show 256 + d.val < 384 ∨ 384 + 128 ≤ 256 + d.val; omega),
      View.read_writes_cons_miss_of_axis _ _ _ _ _ 1 0 128 rfl rfl rfl (by show 256 + d.val < 0 ∨ 0 + 128 ≤ 256 + d.val; omega)]
    exact i2 d
  · exact i3
  · rw [View.read_writes_cons_miss_of_axis _ _ _ _ _ 1 384 128 rfl rfl rfl (by show 512 + d.val < 384 ∨ 384 + 128 ≤ 512 + d.val; omega),
      View.read_writes_cons_miss_of_axis _ _ _ _ _ 1 0 128 rfl rfl rfl (by show 512 + d.val < 0 ∨ 0 + 128 ≤ 512 + d.val; omega)]
    exact i4 d
  · rw [View.read_writes_cons_miss_of_axis _ _ _ _ _ 1 384 128 rfl rfl rfl (by show 640 + d.val < 384 ∨ 384 + 128 ≤ 640 + d.val; omega),
      View.read_writes_cons_miss_of_axis _ _ _ _ _ 1 0 128 rfl rfl rfl (by show 640 + d.val < 0 ∨ 0 + 128 ≤ 640 + d.val; omega)]
    exact i5 d
  · exact i6

/-- The queries' gradients in a point's block, and the query decay's. -/
theorem Out_query (s : Fin 2048) :
    (∀ d : Fin 128, p.arg13.view.read (Elt Ideal) (p.Out.1 f13 f14 f15 f16 f17 f18) (ix2 s ⟨d.val, by omega⟩) = ∑ j : Fin 4, (∑ t : Fin 512, p.fst.dm s (row j t) * p.fst.k (row j t) d) * Head.sc)
    ∧ p.arg14.view.read (Elt Ideal) (p.Out.2.1 f13 f14 f15 f16 f17 f18) (ix4 0 0 s 0) = ∑ t : Fin 2048, p.fst.dm s t
    ∧ (∀ d : Fin 128, p.arg13.view.read (Elt Ideal) (p.Out.1 f13 f14 f15 f16 f17 f18) (ix2 s ⟨384 + d.val, by omega⟩) = ∑ j : Fin 4, (∑ t : Fin 512, p.snd.dm s (row j t) * p.snd.k (row j t) d) * Head.sc)
    ∧ p.arg14.view.read (Elt Ideal) (p.Out.2.1 f13 f14 f15 f16 f17 f18) (ix4 0 1 s 0) = ∑ t : Fin 2048, p.snd.dm s t := by
  have hp := B1_prep p f17 f18 f14 f16
  have K := St_query p run.sl.v0 run.sl.v1 _ _ f13 (p.arg14.view.writes (Elt Ideal) f14 (p.B1 k0_t1_loop.trips).1) f15 (p.arg16.view.writes (Elt Ideal) f16 (p.B1 k0_t1_loop.trips).2.1) planes hp 4 (by decide +kernel) s
  have h := B1_out p k0_t1_loop.trips le_rfl f14 f16 f17 f18 s (lt_of_lt_of_le (by omega : s.val / 512 < 4) (by decide +kernel))
  obtain ⟨i1, i2, i3, i4⟩ := K
  rw [Out_13, Out_14, View.writes_append _ f16, View.writes_append _ f14]
  refine ⟨fun d => ?_, ?_, fun d => ?_, ?_⟩
  · rw [View.read_writes_cons_miss_of_axis _ _ _ _ _ 1 384 128 rfl rfl rfl (by show d.val < 384 ∨ 384 + 128 ≤ d.val; omega),
      View.read_writes_cons_hit_of_coords _ _ _ _ _ (ix2 s d) _ (fun a => by
      match a with
      | ⟨0, _⟩ => show s.val = 0 + 1 * s.val; omega
      | ⟨1, _⟩ => show d.val = 0 + 1 * d.val; omega)]
    try simp only [View.readAt_eq_ld]
    unfold_payloads
    pointwise
    refine (i1 d).trans ?_
    rw [h.2.2.1 d, zero_add, upto_full]
  · refine i2.trans ?_
    rw [h.2.2.2.1, zero_add, upto_full]
    exact sum_rows (fun t => p.fst.dm s t)
  · rw [View.read_writes_cons_hit_of_coords _ _ _ _ _ (ix2 s d) _ (fun a => by
      match a with
      | ⟨0, _⟩ => show s.val = 0 + 1 * s.val; omega
      | ⟨1, _⟩ => show 384 + d.val = 384 + 1 * d.val; omega)]
    try simp only [View.readAt_eq_ld]
    unfold_payloads
    pointwise
    refine (i3 d).trans ?_
    rw [h.2.2.2.2.2.2.1 d, zero_add, upto_full]
  · refine i4.trans ?_
    rw [h.2.2.2.2.2.2.2, zero_add, upto_full]
    exact sum_rows (fun t => p.snd.dm s t)

end point

end Cert.FoxBwdIdeal.Outer

end
-- ==== Proof.FoxKerArr.lean ====
module

public import proofs.«01_k».proof.Proof.Gen.FoxBwdIdeal.Frame
public import Idealize.ShloMosaic.Lib.Pipeline.ValueKit
public import Idealize.ShloMosaic.Lib.Claim

/-! The arrays the host computes before the call, by index. -/

@[expose] public section
set_option maxRecDepth 16384
set_option maxHeartbeats 1000000
noncomputable section
open Idealize.ShloMosaic Idealize.ShloMosaic.TcCoe Idealize.SL.Sem

namespace Cert.FoxBwdIdeal.Arr
open Cert.FoxBwdIdeal.Gen
open Cert.FoxBwdIdeal

/-- The queries of every head. -/
def q (A0 : FVec Ideal S8192x3072 .bf16) : FVec Ideal S4x8x2048x128 .f32 :=
  shapeCast _ (extractStridedSlice S1x4x8x2048x128 ![0, 0, 0, 0, 0] (transpose S3x4x8x2048x128 [3, 0, 2, 1, 4] (shapeCast _ (extf .f32 A0 bitsLt_bf16_f32) shapeCasts_S8192x3072_S4x2048x8x3x128) transposes_S4x2048x8x3x128_S3x4x8x2048x128_3_0_2_1_4) slices_S3x4x8x2048x128_S1x4x8x2048x128_0_0_0_0_0) shapeCasts_S1x4x8x2048x128_S4x8x2048x128
/-- The keys of every head. -/
def k (A0 : FVec Ideal S8192x3072 .bf16) : FVec Ideal S4x8x2048x128 .f32 :=
  shapeCast _ (extractStridedSlice S1x4x8x2048x128 ![1, 0, 0, 0, 0] (transpose S3x4x8x2048x128 [3, 0, 2, 1, 4] (shapeCast _ (extf .f32 A0 bitsLt_bf16_f32) shapeCasts_S8192x3072_S4x2048x8x3x128) transposes_S4x2048x8x3x128_S3x4x8x2048x128_3_0_2_1_4) slices_S3x4x8x2048x128_S1x4x8x2048x128_1_0_0_0_0) shapeCasts_S1x4x8x2048x128_S4x8x2048x128
/-- The values of every head. -/
def v (A0 : FVec Ideal S8192x3072 .bf16) : FVec Ideal S4x8x2048x128 .f32 :=
  shapeCast _ (extractStridedSlice S1x4x8x2048x128 ![2, 0, 0, 0, 0] (transpose S3x4x8x2048x128 [3, 0, 2, 1, 4] (shapeCast _ (extf .f32 A0 bitsLt_bf16_f32) shapeCasts_S8192x3072_S4x2048x8x3x128) transposes_S4x2048x8x3x128_S3x4x8x2048x128_3_0_2_1_4) slices_S3x4x8x2048x128_S1x4x8x2048x128_2_0_0_0_0) shapeCasts_S1x4x8x2048x128_S4x8x2048x128
/-- The masked logits. -/
def lo (A0 : FVec Ideal S8192x3072 .bf16) (A1 : FVec Ideal S4x8x2048 .f32) : FVec Ideal S4x8x2048x2048 .f32 :=
  select (broadcastInDim S4x8x2048x2048 ![2, 3] bcast_S2048x2048_S4x8x2048x2048_2_3 (cmpi .sle (iotaInDim S2048x2048 32 1) (iotaInDim S2048x2048 32 0))) (addf (mulf (Host.dotGeneral dot_S4x8x2048x128_S4x8x2048x128_S4x8x2048x2048_3_3_2_2_01_01 none (q A0) (k A0)) (broadcastInDim S4x8x2048x2048 ![] bcast_S_S4x8x2048x2048 (constant S_ .f32 0x3DB504F3#32))) (subf (broadcastInDim S4x8x2048x2048 ![0, 1, 2, 3] bcast_S4x8x2048x1_S4x8x2048x2048_0_1_2_3 (broadcastInDim S4x8x2048x1 ![0, 1, 2] bcast_S4x8x2048_S4x8x2048x1_0_1_2 A1)) (broadcastInDim S4x8x2048x2048 ![0, 1, 2, 3] bcast_S4x8x1x2048_S4x8x2048x2048_0_1_2_3 (broadcastInDim S4x8x1x2048 ![0, 1, 3] bcast_S4x8x2048_S4x8x1x2048_0_1_3 A1)))) (broadcastInDim S4x8x2048x2048 ![] bcast_S_S4x8x2048x2048 (id (constant S_ .f32 0xFF800000#32)))
/-- The largest logit of every query. -/
def mx (A0 : FVec Ideal S8192x3072 .bf16) (A1 : FVec Ideal S4x8x2048 .f32) : FVec Ideal S4x8x2048 .f32 :=
  Host.reduce FloatOps.maximumf (lo A0 A1) (constant S_ .f32 0xFF800000#32) reducesTo_S4x8x2048x2048_S4x8x2048_d3 h_S_
/-- The exponentials. -/
def e (A0 : FVec Ideal S8192x3072 .bf16) (A1 : FVec Ideal S4x8x2048 .f32) : FVec Ideal S4x8x2048x2048 .f32 :=
  Host.exp (subf (lo A0 A1) (broadcastInDim S4x8x2048x2048 ![0, 1, 2, 3] bcast_S4x8x2048x1_S4x8x2048x2048_0_1_2_3 (broadcastInDim S4x8x2048x1 ![0, 1, 2] bcast_S4x8x2048_S4x8x2048x1_0_1_2 (mx A0 A1))))
/-- Their sums over the keys. -/
def l (A0 : FVec Ideal S8192x3072 .bf16) (A1 : FVec Ideal S4x8x2048 .f32) : FVec Ideal S4x8x2048x1 .f32 :=
  broadcastInDim S4x8x2048x1 ![0, 1, 2] bcast_S4x8x2048_S4x8x2048x1_0_1_2 (Host.reduceAdd (e A0 A1) (constant S_ .f32 0x00000000#32) reducesTo_S4x8x2048x2048_S4x8x2048_d3 h_S_)
/-- The weights of the attention. -/
def p (A0 : FVec Ideal S8192x3072 .bf16) (A1 : FVec Ideal S4x8x2048 .f32) : FVec Ideal S4x8x2048x2048 .f32 :=
  Host.divf (e A0 A1) (broadcastInDim S4x8x2048x2048 ![0, 1, 2, 3] bcast_S4x8x2048x1_S4x8x2048x2048_0_1_2_3 (l A0 A1))

theorem q_apply (A0 : FVec Ideal S8192x3072 .bf16) (b : Fin 4) (h : Fin 8) (s : Fin 2048) (d : Fin 128) :
    q A0 (ix4 b h s d) = A0 (ix2 ⟨2048 * b.val + s.val, by omega⟩ ⟨384 * h.val + d.val, by omega⟩) := by
  unfold q; pointwise; blk_point []
theorem k_apply (A0 : FVec Ideal S8192x3072 .bf16) (b : Fin 4) (h : Fin 8) (s : Fin 2048) (d : Fin 128) :
    k A0 (ix4 b h s d) = A0 (ix2 ⟨2048 * b.val + s.val, by omega⟩ ⟨384 * h.val + 128 + d.val, by omega⟩) := by
  unfold k; pointwise; blk_point []
theorem v_apply (A0 : FVec Ideal S8192x3072 .bf16) (b : Fin 4) (h : Fin 8) (s : Fin 2048) (d : Fin 128) :
    v A0 (ix4 b h s d) = A0 (ix2 ⟨2048 * b.val + s.val, by omega⟩ ⟨384 * h.val + 256 + d.val, by omega⟩) := by
  unfold v; pointwise; blk_point []
theorem mask_eq (t s : Fin 2048) (x z y : EReal) (hz : z = y) :
    Scalar.select (IntOp.cmpi .sle (BitVec.ofNat 32 t.val) (BitVec.ofNat 32 s.val)) x z = if t ≤ s then x else y := by
  subst hz
  have h1 : (BitVec.ofNat 32 t.val).toInt = t.val := by
    rw [BitVec.toInt_eq_toNat_of_lt (by rw [BitVec.toNat_ofNat, Nat.mod_eq_of_lt (by omega)]; omega), BitVec.toNat_ofNat, Nat.mod_eq_of_lt (by omega)]
  have h2 : (BitVec.ofNat 32 s.val).toInt = s.val := by
    rw [BitVec.toInt_eq_toNat_of_lt (by rw [BitVec.toNat_ofNat, Nat.mod_eq_of_lt (by omega)]; omega), BitVec.toNat_ofNat, Nat.mod_eq_of_lt (by omega)]
  have e : BitVec.sle (BitVec.ofNat 32 t.val) (BitVec.ofNat 32 s.val) = decide (t ≤ s) := by
    rw [BitVec.sle_eq_decide, h1, h2]
    exact decide_eq_decide.mpr (by rw [Fin.le_def]; omega)
  show (if BitVec.ofBool ((BitVec.ofNat 32 t.val).sle (BitVec.ofNat 32 s.val)) = 1 then x else z) = _
  rw [e]
  by_cases h : t ≤ s
  · rw [if_pos h, decide_eq_true h]; rfl
  · rw [if_neg h, decide_eq_false h]; rfl
theorem lo_apply (A0 : FVec Ideal S8192x3072 .bf16) (A1 : FVec Ideal S4x8x2048 .f32) (b : Fin 4) (h : Fin 8) (s t : Fin 2048) :
    lo A0 A1 (ix4 b h s t) = if t ≤ s then (∑ d : Fin 128, q A0 (ix4 b h s d) * k A0 (ix4 b h t d)) * Ideal.ofBits .f32 0x3DB504F3#32 + (A1 (ix3 b h s) - A1 (ix3 b h t)) else ⊥ := by
  unfold lo; pointwise
  exact mask_eq t s _ _ ⊥ (by show Ideal.ofBits .f32 0xFF800000#32 = ⊥; simp [Ideal.ofBits, Ideal.ieee])
theorem mx_apply (A0 : FVec Ideal S8192x3072 .bf16) (A1 : FVec Ideal S4x8x2048 .f32) (b : Fin 4) (h : Fin 8) (s : Fin 2048) :
    mx A0 A1 (ix3 b h s) = Finset.univ.sup fun t : Fin 2048 => lo A0 A1 (ix4 b h s t) := by
  have hb : Ideal.ofBits .f32 0xFF800000#32 = ⊥ := by simp [Ideal.ofBits, Ideal.ieee]
  unfold mx; pointwise
  simp only [hb, bot_sup_eq, max_bot_left]
  rfl
theorem e_apply (A0 : FVec Ideal S8192x3072 .bf16) (A1 : FVec Ideal S4x8x2048 .f32) (b : Fin 4) (h : Fin 8) (s t : Fin 2048) :
    e A0 A1 (ix4 b h s t) = Ideal.exp (lo A0 A1 (ix4 b h s t) - mx A0 A1 (ix3 b h s)) := by
  unfold e; pointwise
theorem l_apply (A0 : FVec Ideal S8192x3072 .bf16) (A1 : FVec Ideal S4x8x2048 .f32) (b : Fin 4) (h : Fin 8) (s : Fin 2048) :
    l A0 A1 (ix4 b h s 0) = ∑ t : Fin 2048, e A0 A1 (ix4 b h s t) := by
  unfold l; pointwise
theorem p_apply (A0 : FVec Ideal S8192x3072 .bf16) (A1 : FVec Ideal S4x8x2048 .f32) (b : Fin 4) (h : Fin 8) (s t : Fin 2048) :
    p A0 A1 (ix4 b h s t) = Ideal.div (e A0 A1 (ix4 b h s t)) (l A0 A1 (ix4 b h s 0)) := by
  unfold p; pointwise

/-- The outputs of the attention, as rows of all heads. -/
def o (A0 : FVec Ideal S8192x3072 .bf16) (A1 : FVec Ideal S4x8x2048 .f32) : FVec Ideal S8192x1024 .f32 :=
  shapeCast _ (transpose S4x2048x8x128 [0, 2, 1, 3] (Host.dotGeneral dot_S4x8x2048x2048_S4x8x2048x128_S4x8x2048x128_3_2_2_3_01_01 none (p A0 A1) (v A0)) transposes_S4x8x2048x128_S4x2048x8x128_0_2_1_3) shapeCasts_S4x2048x8x128_S8192x1024
/-- The logarithms of the sums. -/
def lse (A0 : FVec Ideal S8192x3072 .bf16) (A1 : FVec Ideal S4x8x2048 .f32) : FVec Ideal S4x8x2048x1 .f32 :=
  addf (broadcastInDim S4x8x2048x1 ![0, 1, 2] bcast_S4x8x2048_S4x8x2048x1_0_1_2 (mx A0 A1)) (Host.log (l A0 A1))
/-- The offsets as a column and as a row. -/
def cq (A1 : FVec Ideal S4x8x2048 .f32) : FVec Ideal S4x8x2048x1 .f32 := broadcastInDim S4x8x2048x1 ![0, 1, 2] bcast_S4x8x2048_S4x8x2048x1_0_1_2 A1
def cr (A1 : FVec Ideal S4x8x2048 .f32) : FVec Ideal S4x8x1x2048 .f32 := broadcastInDim S4x8x1x2048 ![0, 1, 3] bcast_S4x8x2048_S4x8x1x2048_0_1_3 A1
theorem o_apply (A0 : FVec Ideal S8192x3072 .bf16) (A1 : FVec Ideal S4x8x2048 .f32) (b : Fin 4) (h : Fin 8) (s : Fin 2048) (d : Fin 128) :
    o A0 A1 (ix2 ⟨2048 * b.val + s.val, by omega⟩ ⟨128 * h.val + d.val, by omega⟩) = ∑ t : Fin 2048, p A0 A1 (ix4 b h s t) * v A0 (ix4 b h t d) := by
  unfold o; pointwise
theorem lse_of (M : FVec Ideal S4x8x2048 .f32) (L : FVec Ideal S4x8x2048x1 .f32) (b : Fin 4) (h : Fin 8) (s : Fin 2048) :
    (addf (broadcastInDim S4x8x2048x1 ![0, 1, 2] bcast_S4x8x2048_S4x8x2048x1_0_1_2 M) (Host.log L) : FVec Ideal S4x8x2048x1 .f32) (ix4 b h s 0) = M (ix3 b h s) + Ideal.log (L (ix4 b h s 0)) := by
  pointwise
theorem lse_apply (A0 : FVec Ideal S8192x3072 .bf16) (A1 : FVec Ideal S4x8x2048 .f32) (b : Fin 4) (h : Fin 8) (s : Fin 2048) :
    lse A0 A1 (ix4 b h s 0) = mx A0 A1 (ix3 b h s) + Ideal.log (l A0 A1 (ix4 b h s 0)) := by
  exact lse_of (mx A0 A1) (l A0 A1) b h s
theorem cq_apply (A1 : FVec Ideal S4x8x2048 .f32) (b : Fin 4) (h : Fin 8) (s : Fin 2048) : cq A1 (ix4 b h s 0) = A1 (ix3 b h s) := by
  unfold cq; pointwise
theorem cr_apply (A1 : FVec Ideal S4x8x2048 .f32) (b : Fin 4) (h : Fin 8) (s : Fin 2048) : cr A1 (ix4 b h 0 s) = A1 (ix3 b h s) := by
  unfold cr; pointwise

end Cert.FoxBwdIdeal.Arr
-- ==== Proof.FoxKerHost.lean ====
module

public import proofs.«01_k».proof.Proof.FoxKerArr

/-! What the host operations before the call leave in the call's operand arrays. -/

@[expose] public section
set_option maxRecDepth 16384
set_option maxHeartbeats 1000000
noncomputable section
open Idealize.ShloMosaic Idealize.ShloMosaic.TcCoe Idealize.SL.Sem

namespace Cert.FoxBwdIdeal.Arr
open Cert.FoxBwdIdeal Cert.FoxBwdIdeal.Gen
theorem V_o (m : (ℓ : Loc nD τ sig) → Buf (Elt Ideal) ℓ) (c : Dev nD) : V m c main_v33 = o (m ((c : Thread nD τ).loc main_arg0)) (m ((c : Thread nD τ).loc main_arg1)) := by
  unfold V
  simp only [hostOps0, hostOps0_1, hostOps0_2, List.flatten_cons, List.flatten_nil, List.append_nil, List.cons_append, List.nil_append]
  after_results
  rfl
theorem V_lse (m : (ℓ : Loc nD τ sig) → Buf (Elt Ideal) ℓ) (c : Dev nD) : V m c main_v37 = lse (m ((c : Thread nD τ).loc main_arg0)) (m ((c : Thread nD τ).loc main_arg1)) := by
  unfold V
  simp only [hostOps0, hostOps0_1, hostOps0_2, List.flatten_cons, List.flatten_nil, List.append_nil, List.cons_append, List.nil_append]
  after_results
  rfl
theorem V_cq (m : (ℓ : Loc nD τ sig) → Buf (Elt Ideal) ℓ) (c : Dev nD) : V m c main_v34 = cq (m ((c : Thread nD τ).loc main_arg1)) := by
  unfold V
  simp only [hostOps0, hostOps0_1, hostOps0_2, List.flatten_cons, List.flatten_nil, List.append_nil, List.cons_append, List.nil_append]
  after_results
  rfl
theorem V_cr (m : (ℓ : Loc nD τ sig) → Buf (Elt Ideal) ℓ) (c : Dev nD) : V m c main_v35 = cr (m ((c : Thread nD τ).loc main_arg1)) := by
  unfold V
  simp only [hostOps0, hostOps0_1, hostOps0_2, List.flatten_cons, List.flatten_nil, List.append_nil, List.cons_append, List.nil_append]
  after_results
  rfl

end Cert.FoxBwdIdeal.Arr
-- ==== Proof.FoxWin.lean ====
/-
  The attention's backward call: which part of each array a grid point works on, and the two heads
  of a point as heads of the arrays.
-/
module

public import proofs.«01_k».proof.Proof.FoxMath
public import proofs.«01_k».proof.Proof.FoxRun
public import proofs.«01_k».proof.Proof.FoxKerHost

@[expose] public section

set_option maxRecDepth 16384
set_option maxHeartbeats 1000000

noncomputable section

namespace Cert.FoxBwdIdeal.Outer

open Cert.FoxBwdIdeal Cert.FoxBwdIdeal.Gen
open Idealize.ShloMosaic Idealize.ShloMosaic.TcCoe

/-- The batch entry of a grid point. -/
def bt (t : Fin cfg0.N) : Fin 4 := ⟨t.val / 4, (by decide +kernel : ∀ t : Fin grid0.N, t.val / 4 < 4) t⟩
/-- The pair of heads of a grid point. -/
def pt (t : Fin cfg0.N) : Fin 4 := ⟨t.val % 4, by omega⟩
/-- The first head of a pair. -/
def h0 (r : Fin 4) : Fin 8 := ⟨2 * r.val, by omega⟩
/-- The second head of a pair. -/
def h1 (r : Fin 4) : Fin 8 := ⟨2 * r.val + 1, by omega⟩

theorem idxs : ∀ t : Fin cfg0.N,
    win0_0.index t = ![(bt t).val, 6 * (pt t).val + 0]
    ∧ win0_1.index t = ![(bt t).val, 6 * (pt t).val + 1]
    ∧ win0_2.index t = ![(bt t).val, 6 * (pt t).val + 2]
    ∧ win0_3.index t = ![(bt t).val, 6 * (pt t).val + 3]
    ∧ win0_4.index t = ![(bt t).val, 6 * (pt t).val + 4]
    ∧ win0_5.index t = ![(bt t).val, 6 * (pt t).val + 5]
    ∧ win0_6.index t = ![(bt t).val, (pt t).val, 0, 0]
    ∧ win0_7.index t = ![(bt t).val, (pt t).val, 0, 0]
    ∧ win0_8.index t = ![(bt t).val, (pt t).val]
    ∧ win0_9.index t = ![(bt t).val, (pt t).val, 0, 0]
    ∧ win0_10.index t = ![(bt t).val, (pt t).val]
    ∧ win0_11.index t = ![(bt t).val, (pt t).val]
    ∧ win0_12.index t = ![(bt t).val, (pt t).val, 0, 0]
    ∧ win0_13.index t = ![(bt t).val, (pt t).val, 0, 0] :=
  (by decide +kernel : ∀ t : Fin grid0.N, _)
theorem idx0 (t : Fin cfg0.N) : win0_0.index t = ![(bt t).val, 6 * (pt t).val + 0] := (idxs t).1
theorem idx1 (t : Fin cfg0.N) : win0_1.index t = ![(bt t).val, 6 * (pt t).val + 1] := (idxs t).2.1
theorem idx2 (t : Fin cfg0.N) : win0_2.index t = ![(bt t).val, 6 * (pt t).val + 2] := (idxs t).2.2.1
theorem idx3 (t : Fin cfg0.N) : win0_3.index t = ![(bt t).val, 6 * (pt t).val + 3] := (idxs t).2.2.2.1
theorem idx4 (t : Fin cfg0.N) : win0_4.index t = ![(bt t).val, 6 * (pt t).val + 4] := (idxs t).2.2.2.2.1
theorem idx5 (t : Fin cfg0.N) : win0_5.index t = ![(bt t).val, 6 * (pt t).val + 5] := (idxs t).2.2.2.2.2.1
theorem idx6 (t : Fin cfg0.N) : win0_6.index t = ![(bt t).val, (pt t).val, 0, 0] := (idxs t).2.2.2.2.2.2.1
theorem idx7 (t : Fin cfg0.N) : win0_7.index t = ![(bt t).val, (pt t).val, 0, 0] := (idxs t).2.2.2.2.2.2.2.1
theorem idx8 (t : Fin cfg0.N) : win0_8.index t = ![(bt t).val, (pt t).val] := (idxs t).2.2.2.2.2.2.2.2.1
theorem idx9 (t : Fin cfg0.N) : win0_9.index t = ![(bt t).val, (pt t).val, 0, 0] := (idxs t).2.2.2.2.2.2.2.2.2.1
theorem idx10 (t : Fin cfg0.N) : win0_10.index t = ![(bt t).val, (pt t).val] := (idxs t).2.2.2.2.2.2.2.2.2.2.1
theorem idx11 (t : Fin cfg0.N) : win0_11.index t = ![(bt t).val, (pt t).val] := (idxs t).2.2.2.2.2.2.2.2.2.2.2.1
theorem idx12 (t : Fin cfg0.N) : win0_12.index t = ![(bt t).val, (pt t).val, 0, 0] := (idxs t).2.2.2.2.2.2.2.2.2.2.2.2.1
theorem idx13 (t : Fin cfg0.N) : win0_13.index t = ![(bt t).val, (pt t).val, 0, 0] := (idxs t).2.2.2.2.2.2.2.2.2.2.2.2.2

variable (m : (ℓ : Loc nD τ sig) → Buf (Elt Ideal) ℓ) (c : Dev nD)

/-- The first argument. -/
abbrev A0 : FVec Ideal S8192x3072 .bf16 := m ((c : Thread nD τ).loc main_arg0)
/-- The second argument. -/
abbrev A1 : FVec Ideal S4x8x2048 .f32 := m ((c : Thread nD τ).loc main_arg1)
/-- The third argument. -/
abbrev A2 : FVec Ideal S8192x1024 .f32 := m ((c : Thread nD τ).loc main_arg2)

theorem blk0 (X : FVec Ideal S8192x3072 .bf16) (t : Fin cfg0.N) (s : Fin 2048) (d : Fin 128) :
    (win0_0.blk t).view.read (Elt Ideal) X (ix2 s d) = X (ix2 ⟨2048 * (bt t).val + s.val, by omega⟩ ⟨384 * (h0 (pt t)).val + d.val, by omega⟩) := by
  blk_point [idx0 t, h0, h1]
theorem iblk0 (t : Fin cfg0.N) (s : Fin 2048) (d : Fin 128) : iblk m c 0 t (ix2 s d) = A0 m c (ix2 ⟨2048 * (bt t).val + s.val, by omega⟩ ⟨384 * (h0 (pt t)).val + d.val, by omega⟩) := by
  unfold iblk
  show (win0_0.blk t).view.read (Elt Ideal) (V m c main_arg0) (ix2 s d) = _
  rw [V_main_arg0]
  exact blk0 _ t s d
theorem blk1 (X : FVec Ideal S8192x3072 .bf16) (t : Fin cfg0.N) (s : Fin 2048) (d : Fin 128) :
    (win0_1.blk t).view.read (Elt Ideal) X (ix2 s d) = X (ix2 ⟨2048 * (bt t).val + s.val, by omega⟩ ⟨384 * (h0 (pt t)).val + 128 + d.val, by omega⟩) := by
  blk_point [idx1 t, h0, h1]
theorem iblk1 (t : Fin cfg0.N) (s : Fin 2048) (d : Fin 128) : iblk m c 1 t (ix2 s d) = A0 m c (ix2 ⟨2048 * (bt t).val + s.val, by omega⟩ ⟨384 * (h0 (pt t)).val + 128 + d.val, by omega⟩) := by
  unfold iblk
  show (win0_1.blk t).view.read (Elt Ideal) (V m c main_arg0) (ix2 s d) = _
  rw [V_main_arg0]
  exact blk1 _ t s d
theorem blk2 (X : FVec Ideal S8192x3072 .bf16) (t : Fin cfg0.N) (s : Fin 2048) (d : Fin 128) :
    (win0_2.blk t).view.read (Elt Ideal) X (ix2 s d) = X (ix2 ⟨2048 * (bt t).val + s.val, by omega⟩ ⟨384 * (h0 (pt t)).val + 256 + d.val, by omega⟩) := by
  blk_point [idx2 t, h0, h1]
theorem iblk2 (t : Fin cfg0.N) (s : Fin 2048) (d : Fin 128) : iblk m c 2 t (ix2 s d) = A0 m c (ix2 ⟨2048 * (bt t).val + s.val, by omega⟩ ⟨384 * (h0 (pt t)).val + 256 + d.val, by omega⟩) := by
  unfold iblk
  show (win0_2.blk t).view.read (Elt Ideal) (V m c main_arg0) (ix2 s d) = _
  rw [V_main_arg0]
  exact blk2 _ t s d
theorem blk3 (X : FVec Ideal S8192x3072 .bf16) (t : Fin cfg0.N) (s : Fin 2048) (d : Fin 128) :
    (win0_3.blk t).view.read (Elt Ideal) X (ix2 s d) = X (ix2 ⟨2048 * (bt t).val + s.val, by omega⟩ ⟨384 * (h1 (pt t)).val + d.val, by omega⟩) := by
  blk_point [idx3 t, h0, h1]
theorem iblk3 (t : Fin cfg0.N) (s : Fin 2048) (d : Fin 128) : iblk m c 3 t (ix2 s d) = A0 m c (ix2 ⟨2048 * (bt t).val + s.val, by omega⟩ ⟨384 * (h1 (pt t)).val + d.val, by omega⟩) := by
  unfold iblk
  show (win0_3.blk t).view.read (Elt Ideal) (V m c main_arg0) (ix2 s d) = _
  rw [V_main_arg0]
  exact blk3 _ t s d
theorem blk4 (X : FVec Ideal S8192x3072 .bf16) (t : Fin cfg0.N) (s : Fin 2048) (d : Fin 128) :
    (win0_4.blk t).view.read (Elt Ideal) X (ix2 s d) = X (ix2 ⟨2048 * (bt t).val + s.val, by omega⟩ ⟨384 * (h1 (pt t)).val + 128 + d.val, by omega⟩) := by
  blk_point [idx4 t, h0, h1]
theorem iblk4 (t : Fin cfg0.N) (s : Fin 2048) (d : Fin 128) : iblk m c 4 t (ix2 s d) = A0 m c (ix2 ⟨2048 * (bt t).val + s.val, by omega⟩ ⟨384 * (h1 (pt t)).val + 128 + d.val, by omega⟩) := by
  unfold iblk
  show (win0_4.blk t).view.read (Elt Ideal) (V m c main_arg0) (ix2 s d) = _
  rw [V_main_arg0]
  exact blk4 _ t s d
theorem blk5 (X : FVec Ideal S8192x3072 .bf16) (t : Fin cfg0.N) (s : Fin 2048) (d : Fin 128) :
    (win0_5.blk t).view.read (Elt Ideal) X (ix2 s d) = X (ix2 ⟨2048 * (bt t).val + s.val, by omega⟩ ⟨384 * (h1 (pt t)).val + 256 + d.val, by omega⟩) := by
  blk_point [idx5 t, h0, h1]
theorem iblk5 (t : Fin cfg0.N) (s : Fin 2048) (d : Fin 128) : iblk m c 5 t (ix2 s d) = A0 m c (ix2 ⟨2048 * (bt t).val + s.val, by omega⟩ ⟨384 * (h1 (pt t)).val + 256 + d.val, by omega⟩) := by
  unfold iblk
  show (win0_5.blk t).view.read (Elt Ideal) (V m c main_arg0) (ix2 s d) = _
  rw [V_main_arg0]
  exact blk5 _ t s d
theorem blk6a (X : FVec Ideal S4x8x2048x1 .f32) (t : Fin cfg0.N) (s : Fin 2048) :
    (win0_6.blk t).view.read (Elt Ideal) X (ix4 0 0 s 0) = X (ix4 (bt t) (h0 (pt t)) s 0) := by
  blk_point [idx6 t, h0, h1]
theorem iblk6a (t : Fin cfg0.N) (s : Fin 2048) : iblk m c 6 t (ix4 0 0 s 0) = Arr.cq (A1 m c) (ix4 (bt t) (h0 (pt t)) s 0) := by
  unfold iblk
  show (win0_6.blk t).view.read (Elt Ideal) (V m c main_v34) (ix4 0 0 s 0) = _
  rw [Arr.V_cq]
  exact blk6a _ t s
theorem blk7a (X : FVec Ideal S4x8x1x2048 .f32) (t : Fin cfg0.N) (s : Fin 2048) :
    (win0_7.blk t).view.read (Elt Ideal) X (ix4 0 0 0 s) = X (ix4 (bt t) (h0 (pt t)) 0 s) := by
  blk_point [idx7 t, h0, h1]
theorem iblk7a (t : Fin cfg0.N) (s : Fin 2048) : iblk m c 7 t (ix4 0 0 0 s) = Arr.cr (A1 m c) (ix4 (bt t) (h0 (pt t)) 0 s) := by
  unfold iblk
  show (win0_7.blk t).view.read (Elt Ideal) (V m c main_v35) (ix4 0 0 0 s) = _
  rw [Arr.V_cr]
  exact blk7a _ t s
theorem blk9a (X : FVec Ideal S4x8x2048x1 .f32) (t : Fin cfg0.N) (s : Fin 2048) :
    (win0_9.blk t).view.read (Elt Ideal) X (ix4 0 0 s 0) = X (ix4 (bt t) (h0 (pt t)) s 0) := by
  blk_point [idx9 t, h0, h1]
theorem iblk9a (t : Fin cfg0.N) (s : Fin 2048) : iblk m c 9 t (ix4 0 0 s 0) = Arr.lse (A0 m c) (A1 m c) (ix4 (bt t) (h0 (pt t)) s 0) := by
  unfold iblk
  show (win0_9.blk t).view.read (Elt Ideal) (V m c main_v37) (ix4 0 0 s 0) = _
  rw [Arr.V_lse]
  exact blk9a _ t s
theorem blk8a (X : FVec Ideal S8192x1024 .f32) (t : Fin cfg0.N) (s : Fin 2048) (d : Fin 128) :
    (win0_8.blk t).view.read (Elt Ideal) X (ix2 s ⟨d.val, by omega⟩) = X (ix2 ⟨2048 * (bt t).val + s.val, by omega⟩ ⟨128 * (h0 (pt t)).val + d.val, by omega⟩) := by
  blk_point [idx8 t, h0, h1]
theorem iblk8a (t : Fin cfg0.N) (s : Fin 2048) (d : Fin 128) : iblk m c 8 t (ix2 s ⟨d.val, by omega⟩) = Arr.o (A0 m c) (A1 m c) (ix2 ⟨2048 * (bt t).val + s.val, by omega⟩ ⟨128 * (h0 (pt t)).val + d.val, by omega⟩) := by
  unfold iblk
  show (win0_8.blk t).view.read (Elt Ideal) (V m c main_v33) (ix2 s ⟨d.val, by omega⟩) = _
  rw [Arr.V_o]
  exact blk8a _ t s d
theorem blk10a (X : FVec Ideal S8192x1024 .f32) (t : Fin cfg0.N) (s : Fin 2048) (d : Fin 128) :
    (win0_10.blk t).view.read (Elt Ideal) X (ix2 s ⟨d.val, by omega⟩) = X (ix2 ⟨2048 * (bt t).val + s.val, by omega⟩ ⟨128 * (h0 (pt t)).val + d.val, by omega⟩) := by
  blk_point [idx10 t, h0, h1]
theorem iblk10a (t : Fin cfg0.N) (s : Fin 2048) (d : Fin 128) : iblk m c 10 t (ix2 s ⟨d.val, by omega⟩) = A2 m c (ix2 ⟨2048 * (bt t).val + s.val, by omega⟩ ⟨128 * (h0 (pt t)).val + d.val, by omega⟩) := by
  unfold iblk
  show (win0_10.blk t).view.read (Elt Ideal) (V m c main_arg2) (ix2 s ⟨d.val, by omega⟩) = _
  rw [V_main_arg2]
  exact blk10a _ t s d
theorem blk6b (X : FVec Ideal S4x8x2048x1 .f32) (t : Fin cfg0.N) (s : Fin 2048) :
    (win0_6.blk t).view.read (Elt Ideal) X (ix4 0 1 s 0) = X (ix4 (bt t) (h1 (pt t)) s 0) := by
  blk_point [idx6 t, h0, h1]
theorem iblk6b (t : Fin cfg0.N) (s : Fin 2048) : iblk m c 6 t (ix4 0 1 s 0) = Arr.cq (A1 m c) (ix4 (bt t) (h1 (pt t)) s 0) := by
  unfold iblk
  show (win0_6.blk t).view.read (Elt Ideal) (V m c main_v34) (ix4 0 1 s 0) = _
  rw [Arr.V_cq]
  exact blk6b _ t s
theorem blk7b (X : FVec Ideal S4x8x1x2048 .f32) (t : Fin cfg0.N) (s : Fin 2048) :
    (win0_7.blk t).view.read (Elt Ideal) X (ix4 0 1 0 s) = X (ix4 (bt t) (h1 (pt t)) 0 s) := by
  blk_point [idx7 t, h0, h1]
theorem iblk7b (t : Fin cfg0.N) (s : Fin 2048) : iblk m c 7 t (ix4 0 1 0 s) = Arr.cr (A1 m c) (ix4 (bt t) (h1 (pt t)) 0 s) := by
  unfold iblk
  show (win0_7.blk t).view.read (Elt Ideal) (V m c main_v35) (ix4 0 1 0 s) = _
  rw [Arr.V_cr]
  exact blk7b _ t s
theorem blk9b (X : FVec Ideal S4x8x2048x1 .f32) (t : Fin cfg0.N) (s : Fin 2048) :
    (win0_9.blk t).view.read (Elt Ideal) X (ix4 0 1 s 0) = X (ix4 (bt t) (h1 (pt t)) s 0) := by
  blk_point [idx9 t, h0, h1]
theorem iblk9b (t : Fin cfg0.N) (s : Fin 2048) : iblk m c 9 t (ix4 0 1 s 0) = Arr.lse (A0 m c) (A1 m c) (ix4 (bt t) (h1 (pt t)) s 0) := by
  unfold iblk
  show (win0_9.blk t).view.read (Elt Ideal) (V m c main_v37) (ix4 0 1 s 0) = _
  rw [Arr.V_lse]
  exact blk9b _ t s
theorem blk8b (X : FVec Ideal S8192x1024 .f32) (t : Fin cfg0.N) (s : Fin 2048) (d : Fin 128) :
    (win0_8.blk t).view.read (Elt Ideal) X (ix2 s ⟨128 + d.val, by omega⟩) = X (ix2 ⟨2048 * (bt t).val + s.val, by omega⟩ ⟨128 * (h1 (pt t)).val + d.val, by omega⟩) := by
  blk_point [idx8 t, h0, h1]
theorem iblk8b (t : Fin cfg0.N) (s : Fin 2048) (d : Fin 128) : iblk m c 8 t (ix2 s ⟨128 + d.val, by omega⟩) = Arr.o (A0 m c) (A1 m c) (ix2 ⟨2048 * (bt t).val + s.val, by omega⟩ ⟨128 * (h1 (pt t)).val + d.val, by omega⟩) := by
  unfold iblk
  show (win0_8.blk t).view.read (Elt Ideal) (V m c main_v33) (ix2 s ⟨128 + d.val, by omega⟩) = _
  rw [Arr.V_o]
  exact blk8b _ t s d
theorem blk10b (X : FVec Ideal S8192x1024 .f32) (t : Fin cfg0.N) (s : Fin 2048) (d : Fin 128) :
    (win0_10.blk t).view.read (Elt Ideal) X (ix2 s ⟨128 + d.val, by omega⟩) = X (ix2 ⟨2048 * (bt t).val + s.val, by omega⟩ ⟨128 * (h1 (pt t)).val + d.val, by omega⟩) := by
  blk_point [idx10 t, h0, h1]
theorem iblk10b (t : Fin cfg0.N) (s : Fin 2048) (d : Fin 128) : iblk m c 10 t (ix2 s ⟨128 + d.val, by omega⟩) = A2 m c (ix2 ⟨2048 * (bt t).val + s.val, by omega⟩ ⟨128 * (h1 (pt t)).val + d.val, by omega⟩) := by
  unfold iblk
  show (win0_10.blk t).view.read (Elt Ideal) (V m c main_arg2) (ix2 s ⟨128 + d.val, by omega⟩) = _
  rw [V_main_arg2]
  exact blk10b _ t s d

theorem emb11 (X : FVec Ideal S8192x3072 .bf16) (t : Fin cfg0.N) (s : Fin 2048) (d : Fin 768) :
    (win0_11.blk t).view.read (Elt Ideal) X (ix2 s d) = X (ix2 ⟨2048 * (bt t).val + s.val, by omega⟩ ⟨768 * (pt t).val + d.val, by omega⟩) := by
  blk_point [idx11 t, h0, h1]
theorem emb12 (X : FVec Ideal S4x8x2048x1 .f32) (t : Fin cfg0.N) (h : Fin 2) (s : Fin 2048) :
    (win0_12.blk t).view.read (Elt Ideal) X (ix4 0 h s 0) = X (ix4 (bt t) ⟨2 * (pt t).val + h.val, by omega⟩ s 0) := by
  blk_point [idx12 t, h0, h1]
theorem emb13 (X : FVec Ideal S4x8x1x2048 .f32) (t : Fin cfg0.N) (h : Fin 2) (s : Fin 2048) :
    (win0_13.blk t).view.read (Elt Ideal) X (ix4 0 h 0 s) = X (ix4 (bt t) ⟨2 * (pt t).val + h.val, by omega⟩ 0 s) := by
  blk_point [idx13 t, h0, h1]

/-- A head of the arrays. -/
def hd (A0 : FVec Ideal S8192x3072 .bf16) (A1 : FVec Ideal S4x8x2048 .f32) (A2 : FVec Ideal S8192x1024 .f32) (b : Fin 4) (h : Fin 8) : Head where
  q s d := A0 (ix2 ⟨2048 * b.val + s.val, by omega⟩ ⟨384 * h.val + d.val, by omega⟩)
  k s d := A0 (ix2 ⟨2048 * b.val + s.val, by omega⟩ ⟨384 * h.val + 128 + d.val, by omega⟩)
  v s d := A0 (ix2 ⟨2048 * b.val + s.val, by omega⟩ ⟨384 * h.val + 256 + d.val, by omega⟩)
  g s d := A2 (ix2 ⟨2048 * b.val + s.val, by omega⟩ ⟨128 * h.val + d.val, by omega⟩)
  o s d := Arr.o A0 A1 (ix2 ⟨2048 * b.val + s.val, by omega⟩ ⟨128 * h.val + d.val, by omega⟩)
  cq s := A1 (ix3 b h s)
  cr s := A1 (ix3 b h s)
  lse s := Arr.lse A0 A1 (ix4 b h s 0)

/-- Heads with equal fields are equal. -/
theorem Head.eq_of (H K : Head) (hq : ∀ s d, H.q s d = K.q s d) (hk : ∀ s d, H.k s d = K.k s d) (hv : ∀ s d, H.v s d = K.v s d)
    (hg : ∀ s d, H.g s d = K.g s d) (ho : ∀ s d, H.o s d = K.o s d) (hcq : ∀ s, H.cq s = K.cq s) (hcr : ∀ s, H.cr s = K.cr s)
    (hl : ∀ s, H.lse s = K.lse s) : H = K := by
  obtain ⟨q, k, v, g, o, cq, cr, l⟩ := H
  obtain ⟨q', k', v', g', o', cq', cr', l'⟩ := K
  obtain rfl : q = q' := funext fun s => funext fun d => hq s d
  obtain rfl : k = k' := funext fun s => funext fun d => hk s d
  obtain rfl : v = v' := funext fun s => funext fun d => hv s d
  obtain rfl : g = g' := funext fun s => funext fun d => hg s d
  obtain rfl : o = o' := funext fun s => funext fun d => ho s d
  obtain rfl : cq = cq' := funext fun s => hcq s
  obtain rfl : cr = cr' := funext fun s => hcr s
  obtain rfl : l = l' := funext fun s => hl s
  rfl

section logits
variable (A0 : FVec Ideal S8192x3072 .bf16) (A1 : FVec Ideal S4x8x2048 .f32) (A2 : FVec Ideal S8192x1024 .f32) (b : Fin 4) (h : Fin 8)

theorem lo_hd (s t : Fin 2048) : Arr.lo A0 A1 (ix4 b h s t) = (hd A0 A1 A2 b h).lo s t := by
  rw [Arr.lo_apply]
  simp only [Arr.q_apply, Arr.k_apply]
  rfl
theorem mx_hd (s : Fin 2048) : Arr.mx A0 A1 (ix3 b h s) = (hd A0 A1 A2 b h).mx s := by
  rw [Arr.mx_apply]
  simp only [lo_hd A0 A1 A2]
  rfl
theorem e_hd (s t : Fin 2048) : Arr.e A0 A1 (ix4 b h s t) = (hd A0 A1 A2 b h).e s t := by
  rw [Arr.e_apply, lo_hd A0 A1 A2, mx_hd A0 A1 A2]
  rfl
theorem l_hd (s : Fin 2048) : Arr.l A0 A1 (ix4 b h s 0) = (hd A0 A1 A2 b h).l s := by
  rw [Arr.l_apply]
  simp only [e_hd A0 A1 A2]
  rfl
theorem p_hd (s t : Fin 2048) : Arr.p A0 A1 (ix4 b h s t) = (hd A0 A1 A2 b h).p s t := by
  rw [Arr.p_apply, e_hd A0 A1 A2, l_hd A0 A1 A2]
  rfl

/-- A head of finite arrays is a head of reals with its own attention's outputs and normalisers. -/
def hd_fine (f0 : ∀ i, A0 i ≠ ⊤ ∧ A0 i ≠ ⊥) (f1 : ∀ i, A1 i ≠ ⊤ ∧ A1 i ≠ ⊥) (f2 : ∀ i, A2 i ≠ ⊤ ∧ A2 i ≠ ⊥) : (hd A0 A1 A2 b h).Fine where
  q s d := EReal.toReal ((hd A0 A1 A2 b h).q s d)
  k s d := EReal.toReal ((hd A0 A1 A2 b h).k s d)
  v s d := EReal.toReal ((hd A0 A1 A2 b h).v s d)
  g s d := EReal.toReal ((hd A0 A1 A2 b h).g s d)
  c s := EReal.toReal ((hd A0 A1 A2 b h).cq s)
  hq s d := (EReal.coe_toReal (f0 _).1 (f0 _).2).symm
  hk s d := (EReal.coe_toReal (f0 _).1 (f0 _).2).symm
  hv s d := (EReal.coe_toReal (f0 _).1 (f0 _).2).symm
  hg s d := (EReal.coe_toReal (f2 _).1 (f2 _).2).symm
  hcq s := (EReal.coe_toReal (f1 _).1 (f1 _).2).symm
  hcr s := (EReal.coe_toReal (f1 _).1 (f1 _).2).symm
  ho s d := by
    show Arr.o A0 A1 _ = _
    rw [Arr.o_apply]
    simp only [p_hd A0 A1 A2, Arr.v_apply]
    rfl
  hlse s := by
    show Arr.lse A0 A1 _ = _
    rw [Arr.lse_apply, mx_hd A0 A1 A2, l_hd A0 A1 A2]
end logits

end Cert.FoxBwdIdeal.Outer
-- ==== Proof.FoxRefArr.lean ====
module

public import proofs.«01_k».proof.Proof.Gen.FoxRefIdeal.Run
public import Idealize.ShloMosaic.Lib.Pipeline.ValueKit
public import Idealize.ShloMosaic.Lib.Claim

/-! The reference's arrays by index: logits, weights and the three results. -/

@[expose] public section
set_option maxRecDepth 16384
set_option maxHeartbeats 1000000
noncomputable section
open Idealize.ShloMosaic Idealize.ShloMosaic.TcCoe Idealize.SL.Sem

namespace Cert.FoxRefIdeal.Arr
open Cert.FoxRefIdeal.Gen Cert.FoxRefIdeal.Value
open Cert.FoxRefIdeal

/-- The queries of every head. -/
def q (A0 : FVec Ideal S8192x3072 .bf16) : FVec Ideal S4x8x2048x128 .f32 :=
  shapeCast _ (extractStridedSlice S1x4x8x2048x128 ![0, 0, 0, 0, 0] (transpose S3x4x8x2048x128 [3, 0, 2, 1, 4] (shapeCast _ (extf .f32 A0 bitsLt_bf16_f32) shapeCasts_S8192x3072_S4x2048x8x3x128) transposes_S4x2048x8x3x128_S3x4x8x2048x128_3_0_2_1_4) slices_S3x4x8x2048x128_S1x4x8x2048x128_0_0_0_0_0) shapeCasts_S1x4x8x2048x128_S4x8x2048x128
/-- The keys of every head. -/
def k (A0 : FVec Ideal S8192x3072 .bf16) : FVec Ideal S4x8x2048x128 .f32 :=
  shapeCast _ (extractStridedSlice S1x4x8x2048x128 ![1, 0, 0, 0, 0] (transpose S3x4x8x2048x128 [3, 0, 2, 1, 4] (shapeCast _ (extf .f32 A0 bitsLt_bf16_f32) shapeCasts_S8192x3072_S4x2048x8x3x128) transposes_S4x2048x8x3x128_S3x4x8x2048x128_3_0_2_1_4) slices_S3x4x8x2048x128_S1x4x8x2048x128_1_0_0_0_0) shapeCasts_S1x4x8x2048x128_S4x8x2048x128
/-- The values of every head. -/
def v (A0 : FVec Ideal S8192x3072 .bf16) : FVec Ideal S4x8x2048x128 .f32 :=
  shapeCast _ (extractStridedSlice S1x4x8x2048x128 ![2, 0, 0, 0, 0] (transpose S3x4x8x2048x128 [3, 0, 2, 1, 4] (shapeCast _ (extf .f32 A0 bitsLt_bf16_f32) shapeCasts_S8192x3072_S4x2048x8x3x128) transposes_S4x2048x8x3x128_S3x4x8x2048x128_3_0_2_1_4) slices_S3x4x8x2048x128_S1x4x8x2048x128_2_0_0_0_0) shapeCasts_S1x4x8x2048x128_S4x8x2048x128
/-- The masked logits. -/
def lo (A0 : FVec Ideal S8192x3072 .bf16) (A1 : FVec Ideal S4x8x2048 .f32) : FVec Ideal S4x8x2048x2048 .f32 :=
  select (broadcastInDim S4x8x2048x2048 ![2, 3] bcast_S2048x2048_S4x8x2048x2048_2_3 (cmpi .sle (iotaInDim S2048x2048 32 1) (iotaInDim S2048x2048 32 0))) (addf (mulf (Host.dotGeneral dot_S4x8x2048x128_S4x8x2048x128_S4x8x2048x2048_3_3_2_2_01_01 none (q A0) (k A0)) (broadcastInDim S4x8x2048x2048 ![] bcast_S_S4x8x2048x2048 (constant S_ .f32 0x3DB504F3#32))) (subf (broadcastInDim S4x8x2048x2048 ![0, 1, 2, 3] bcast_S4x8x2048x1_S4x8x2048x2048_0_1_2_3 (broadcastInDim S4x8x2048x1 ![0, 1, 2] bcast_S4x8x2048_S4x8x2048x1_0_1_2 A1)) (broadcastInDim S4x8x2048x2048 ![0, 1, 2, 3] bcast_S4x8x1x2048_S4x8x2048x2048_0_1_2_3 (broadcastInDim S4x8x1x2048 ![0, 1, 3] bcast_S4x8x2048_S4x8x1x2048_0_1_3 A1)))) (broadcastInDim S4x8x2048x2048 ![] bcast_S_S4x8x2048x2048 (id (constant S_ .f32 0xFF800000#32)))
/-- The largest logit of every query, from below. -/
def mx0 (A0 : FVec Ideal S8192x3072 .bf16) (A1 : FVec Ideal S4x8x2048 .f32) : FVec Ideal S4x8x2048 .f32 :=
  Host.reduce FloatOps.maximumf (lo A0 A1) (constant S_ .f32 0xFF800000#32) reducesTo_S4x8x2048x2048_S4x8x2048_d3 h_S_
/-- The largest logit of every query. -/
def mx (A0 : FVec Ideal S8192x3072 .bf16) (A1 : FVec Ideal S4x8x2048 .f32) : FVec Ideal S4x8x2048 .f32 :=
  maximumf (broadcastInDim S4x8x2048 ![] bcast_S_S4x8x2048 (constant S_ .f32 0xFF800000#32)) (mx0 A0 A1)
/-- The exponentials. -/
def e (A0 : FVec Ideal S8192x3072 .bf16) (A1 : FVec Ideal S4x8x2048 .f32) : FVec Ideal S4x8x2048x2048 .f32 :=
  Host.exp (subf (lo A0 A1) (broadcastInDim S4x8x2048x2048 ![0, 1, 2, 3] bcast_S4x8x2048x1_S4x8x2048x2048_0_1_2_3 (broadcastInDim S4x8x2048x1 ![0, 1, 2] bcast_S4x8x2048_S4x8x2048x1_0_1_2 (mx A0 A1))))
/-- Their sums over the keys. -/
def l (A0 : FVec Ideal S8192x3072 .bf16) (A1 : FVec Ideal S4x8x2048 .f32) : FVec Ideal S4x8x2048x1 .f32 :=
  broadcastInDim S4x8x2048x1 ![0, 1, 2] bcast_S4x8x2048_S4x8x2048x1_0_1_2 (Host.reduceAdd (e A0 A1) (constant S_ .f32 0x00000000#32) reducesTo_S4x8x2048x2048_S4x8x2048_d3 h_S_)
/-- The weights of the attention. -/
def p (A0 : FVec Ideal S8192x3072 .bf16) (A1 : FVec Ideal S4x8x2048 .f32) : FVec Ideal S4x8x2048x2048 .f32 :=
  Host.divf (e A0 A1) (broadcastInDim S4x8x2048x2048 ![0, 1, 2, 3] bcast_S4x8x2048x1_S4x8x2048x2048_0_1_2_3 (l A0 A1))

theorem q_apply (A0 : FVec Ideal S8192x3072 .bf16) (b : Fin 4) (h : Fin 8) (s : Fin 2048) (d : Fin 128) :
    q A0 (ix4 b h s d) = A0 (ix2 ⟨2048 * b.val + s.val, by omega⟩ ⟨384 * h.val + d.val, by omega⟩) := by
  unfold q; pointwise; blk_point []
theorem k_apply (A0 : FVec Ideal S8192x3072 .bf16) (b : Fin 4) (h : Fin 8) (s : Fin 2048) (d : Fin 128) :
    k A0 (ix4 b h s d) = A0 (ix2 ⟨2048 * b.val + s.val, by omega⟩ ⟨384 * h.val + 128 + d.val, by omega⟩) := by
  unfold k; pointwise; blk_point []
theorem v_apply (A0 : FVec Ideal S8192x3072 .bf16) (b : Fin 4) (h : Fin 8) (s : Fin 2048) (d : Fin 128) :
    v A0 (ix4 b h s d) = A0 (ix2 ⟨2048 * b.val + s.val, by omega⟩ ⟨384 * h.val + 256 + d.val, by omega⟩) := by
  unfold v; pointwise; blk_point []
theorem mask_eq (t s : Fin 2048) (x z y : EReal) (hz : z = y) :
    Scalar.select (IntOp.cmpi .sle (BitVec.ofNat 32 t.val) (BitVec.ofNat 32 s.val)) x z = if t ≤ s then x else y := by
  subst hz
  have h1 : (BitVec.ofNat 32 t.val).toInt = t.val := by
    rw [BitVec.toInt_eq_toNat_of_lt (by rw [BitVec.toNat_ofNat, Nat.mod_eq_of_lt (by omega)]; omega), BitVec.toNat_ofNat, Nat.mod_eq_of_lt (by omega)]
  have h2 : (BitVec.ofNat 32 s.val).toInt = s.val := by
    rw [BitVec.toInt_eq_toNat_of_lt (by rw [BitVec.toNat_ofNat, Nat.mod_eq_of_lt (by omega)]; omega), BitVec.toNat_ofNat, Nat.mod_eq_of_lt (by omega)]
  have e : BitVec.sle (BitVec.ofNat 32 t.val) (BitVec.ofNat 32 s.val) = decide (t ≤ s) := by
    rw [BitVec.sle_eq_decide, h1, h2]
    exact decide_eq_decide.mpr (by rw [Fin.le_def]; omega)
  show (if BitVec.ofBool ((BitVec.ofNat 32 t.val).sle (BitVec.ofNat 32 s.val)) = 1 then x else z) = _
  rw [e]
  by_cases h : t ≤ s
  · rw [if_pos h, decide_eq_true h]; rfl
  · rw [if_neg h, decide_eq_false h]; rfl
theorem lo_apply (A0 : FVec Ideal S8192x3072 .bf16) (A1 : FVec Ideal S4x8x2048 .f32) (b : Fin 4) (h : Fin 8) (s t : Fin 2048) :
    lo A0 A1 (ix4 b h s t) = if t ≤ s then (∑ d : Fin 128, q A0 (ix4 b h s d) * k A0 (ix4 b h t d)) * Ideal.ofBits .f32 0x3DB504F3#32 + (A1 (ix3 b h s) - A1 (ix3 b h t)) else ⊥ := by
  unfold lo; pointwise
  exact mask_eq t s _ _ ⊥ (by show Ideal.ofBits .f32 0xFF800000#32 = ⊥; simp [Ideal.ofBits, Ideal.ieee])
theorem mx0_apply (A0 : FVec Ideal S8192x3072 .bf16) (A1 : FVec Ideal S4x8x2048 .f32) (b : Fin 4) (h : Fin 8) (s : Fin 2048) :
    mx0 A0 A1 (ix3 b h s) = Finset.univ.sup fun t : Fin 2048 => lo A0 A1 (ix4 b h s t) := by
  have hb : Ideal.ofBits .f32 0xFF800000#32 = ⊥ := by simp [Ideal.ofBits, Ideal.ieee]
  unfold mx0; pointwise
  simp only [hb, bot_sup_eq, max_bot_left]
  rfl
theorem lse_of (M : FVec Ideal S4x8x2048 .f32) (b : Fin 4) (h : Fin 8) (s : Fin 2048) :
    (maximumf (broadcastInDim S4x8x2048 ![] bcast_S_S4x8x2048 (constant S_ .f32 0xFF800000#32)) M : FVec Ideal S4x8x2048 .f32) (ix3 b h s) = M (ix3 b h s) := by
  have hb : Ideal.ofBits .f32 0xFF800000#32 = ⊥ := by simp [Ideal.ofBits, Ideal.ieee]
  pointwise
  rw [hb]
  exact bot_sup_eq _
theorem mx_apply (A0 : FVec Ideal S8192x3072 .bf16) (A1 : FVec Ideal S4x8x2048 .f32) (b : Fin 4) (h : Fin 8) (s : Fin 2048) :
    mx A0 A1 (ix3 b h s) = Finset.univ.sup fun t : Fin 2048 => lo A0 A1 (ix4 b h s t) :=
  (lse_of (mx0 A0 A1) b h s).trans (mx0_apply A0 A1 b h s)
theorem e_apply (A0 : FVec Ideal S8192x3072 .bf16) (A1 : FVec Ideal S4x8x2048 .f32) (b : Fin 4) (h : Fin 8) (s t : Fin 2048) :
    e A0 A1 (ix4 b h s t) = Ideal.exp (lo A0 A1 (ix4 b h s t) - mx A0 A1 (ix3 b h s)) := by
  unfold e; pointwise
theorem l_apply (A0 : FVec Ideal S8192x3072 .bf16) (A1 : FVec Ideal S4x8x2048 .f32) (b : Fin 4) (h : Fin 8) (s : Fin 2048) :
    l A0 A1 (ix4 b h s 0) = ∑ t : Fin 2048, e A0 A1 (ix4 b h s t) := by
  unfold l; pointwise
theorem p_apply (A0 : FVec Ideal S8192x3072 .bf16) (A1 : FVec Ideal S4x8x2048 .f32) (b : Fin 4) (h : Fin 8) (s t : Fin 2048) :
    p A0 A1 (ix4 b h s t) = Ideal.div (e A0 A1 (ix4 b h s t)) (l A0 A1 (ix4 b h s 0)) := by
  unfold p; pointwise

/-- The incoming gradient of every head. -/
def g (A2 : FVec Ideal S8192x1024 .f32) : FVec Ideal S4x8x2048x128 .f32 :=
  transpose S4x8x2048x128 [0, 2, 1, 3] (shapeCast _ A2 shapeCasts_S8192x1024_S4x2048x8x128) transposes_S4x2048x8x128_S4x8x2048x128_0_2_1_3
/-- The gradient of the weights. -/
def dp (A0 : FVec Ideal S8192x3072 .bf16) (A2 : FVec Ideal S8192x1024 .f32) : FVec Ideal S4x8x2048x2048 .f32 :=
  Host.dotGeneral dot_S4x8x2048x128_S4x8x2048x128_S4x8x2048x2048_3_3_2_2_01_01 none (g A2) (v A0)
/-- What the normalisation takes off. -/
def dl (A0 : FVec Ideal S8192x3072 .bf16) (A1 : FVec Ideal S4x8x2048 .f32) (A2 : FVec Ideal S8192x1024 .f32) : FVec Ideal S4x8x2048 .f32 :=
  Host.reduceAdd (Host.negf (shapeCast _ (Host.reduceAdd (mulf (mulf (dp A0 A2) (broadcastInDim S4x8x2048x2048 ![0, 1, 2, 3] bcast_S4x8x2048x1_S4x8x2048x2048_0_1_2_3 (Host.divf (broadcastInDim S4x8x2048x1 ![] bcast_S_S4x8x2048x1 (constant S_ .f32 0x3F800000#32)) (mulf (l A0 A1) (l A0 A1))))) (e A0 A1)) (constant S_ .f32 0x00000000#32) reducesTo_S4x8x2048x2048_S4x8x2048_d3 h_S_) shapeCasts_S4x8x2048_S4x8x2048x1)) (constant S_ .f32 0x00000000#32) reducesTo_S4x8x2048x1_S4x8x2048_d3 h_S_
/-- The gradient of the logits. -/
def ds (A0 : FVec Ideal S8192x3072 .bf16) (A1 : FVec Ideal S4x8x2048 .f32) (A2 : FVec Ideal S8192x1024 .f32) : FVec Ideal S4x8x2048x2048 .f32 :=
  select (broadcastInDim S4x8x2048x2048 ![2, 3] bcast_S2048x2048_S4x8x2048x2048_2_3 (cmpi .sle (iotaInDim S2048x2048 32 1) (iotaInDim S2048x2048 32 0))) (mulf (addf (Host.divf (dp A0 A2) (broadcastInDim S4x8x2048x2048 ![0, 1, 2, 3] bcast_S4x8x2048x1_S4x8x2048x2048_0_1_2_3 (l A0 A1))) (broadcastInDim S4x8x2048x2048 ![0, 1, 2] bcast_S4x8x2048_S4x8x2048x2048_0_1_2 (dl A0 A1 A2))) (e A0 A1)) (broadcastInDim S4x8x2048x2048 ![] bcast_S_S4x8x2048x2048 (constant S_ .f32 0x00000000#32))
/-- The gradient of the queries. -/
def dq (A0 : FVec Ideal S8192x3072 .bf16) (A1 : FVec Ideal S4x8x2048 .f32) (A2 : FVec Ideal S8192x1024 .f32) : FVec Ideal S4x8x2048x128 .f32 :=
  Host.dotGeneral dot_S4x8x2048x2048_S4x8x2048x128_S4x8x2048x128_3_2_2_3_01_01 none (mulf (ds A0 A1 A2) (broadcastInDim S4x8x2048x2048 ![] bcast_S_S4x8x2048x2048 (constant S_ .f32 0x3DB504F3#32))) (k A0)
/-- The gradient of the keys. -/
def dk (A0 : FVec Ideal S8192x3072 .bf16) (A1 : FVec Ideal S4x8x2048 .f32) (A2 : FVec Ideal S8192x1024 .f32) : FVec Ideal S4x8x2048x128 .f32 :=
  Host.dotGeneral dot_S4x8x2048x2048_S4x8x2048x128_S4x8x2048x128_2_2_3_3_01_01 none (mulf (ds A0 A1 A2) (broadcastInDim S4x8x2048x2048 ![] bcast_S_S4x8x2048x2048 (constant S_ .f32 0x3DB504F3#32))) (q A0)
/-- The gradient of the values. -/
def dv (A0 : FVec Ideal S8192x3072 .bf16) (A1 : FVec Ideal S4x8x2048 .f32) (A2 : FVec Ideal S8192x1024 .f32) : FVec Ideal S4x8x2048x128 .f32 :=
  transpose S4x8x2048x128 [0, 1, 3, 2] (Host.dotGeneral dot_S4x8x2048x128_S4x8x2048x2048_S4x8x128x2048_2_2_3_3_01_01 none (g A2) (p A0 A1)) transposes_S4x8x128x2048_S4x8x2048x128_0_1_3_2
/-- The first result. -/
def r0 (A0 : FVec Ideal S8192x3072 .bf16) (A1 : FVec Ideal S4x8x2048 .f32) (A2 : FVec Ideal S8192x1024 .f32) : FVec Ideal S8192x3072 .bf16 :=
  truncf .bf16 (shapeCast _ (transpose S4x2048x8x3x128 [0, 2, 1, 3, 4] (concatenate S4x8x2048x3x128 3 [⟨S4x8x2048x1x128, (broadcastInDim S4x8x2048x1x128 ![0, 1, 2, 4] bcast_S4x8x2048x128_S4x8x2048x1x128_0_1_2_4 (dq A0 A1 A2) : FVec Ideal S4x8x2048x1x128 .f32)⟩, ⟨S4x8x2048x1x128, (broadcastInDim S4x8x2048x1x128 ![0, 1, 2, 4] bcast_S4x8x2048x128_S4x8x2048x1x128_0_1_2_4 (dk A0 A1 A2) : FVec Ideal S4x8x2048x1x128 .f32)⟩, ⟨S4x8x2048x1x128, (broadcastInDim S4x8x2048x1x128 ![0, 1, 2, 4] bcast_S4x8x2048x128_S4x8x2048x1x128_0_1_2_4 (dv A0 A1 A2) : FVec Ideal S4x8x2048x1x128 .f32)⟩] concatenates_S4x8x2048x1x128_S4x8x2048x1x128_S4x8x2048x1x128_S4x8x2048x3x128_d3) transposes_S4x8x2048x3x128_S4x2048x8x3x128_0_2_1_3_4) shapeCasts_S4x2048x8x3x128_S8192x3072) bitsLt_bf16_f32
/-- The second result. -/
def r1 (A0 : FVec Ideal S8192x3072 .bf16) (A1 : FVec Ideal S4x8x2048 .f32) (A2 : FVec Ideal S8192x1024 .f32) : FVec Ideal S4x8x2048x1 .f32 :=
  broadcastInDim S4x8x2048x1 ![0, 1, 2] bcast_S4x8x2048_S4x8x2048x1_0_1_2 (Host.reduceAdd (shapeCast _ (Host.reduceAdd (ds A0 A1 A2) (constant S_ .f32 0x00000000#32) reducesTo_S4x8x2048x2048_S4x8x2048_d3 h_S_) shapeCasts_S4x8x2048_S4x8x2048x1 : FVec Ideal S4x8x2048x1 .f32) (constant S_ .f32 0x00000000#32) reducesTo_S4x8x2048x1_S4x8x2048_d3 h_S_)
/-- The third result. -/
def r2 (A0 : FVec Ideal S8192x3072 .bf16) (A1 : FVec Ideal S4x8x2048 .f32) (A2 : FVec Ideal S8192x1024 .f32) : FVec Ideal S4x8x1x2048 .f32 :=
  broadcastInDim S4x8x1x2048 ![0, 1, 3] bcast_S4x8x2048_S4x8x1x2048_0_1_3 (Host.reduceAdd (shapeCast _ (Host.reduceAdd (Host.negf (ds A0 A1 A2)) (constant S_ .f32 0x00000000#32) reducesTo_S4x8x2048x2048_S4x8x2048_d2 h_S_) shapeCasts_S4x8x2048_S4x8x1x2048 : FVec Ideal S4x8x1x2048 .f32) (constant S_ .f32 0x00000000#32) reducesTo_S4x8x1x2048_S4x8x2048_d2 h_S_)

theorem g_apply (A2 : FVec Ideal S8192x1024 .f32) (b : Fin 4) (h : Fin 8) (s : Fin 2048) (d : Fin 128) :
    g A2 (ix4 b h s d) = A2 (ix2 ⟨2048 * b.val + s.val, by omega⟩ ⟨128 * h.val + d.val, by omega⟩) := by
  unfold g; pointwise; blk_point []
theorem dp_apply (A0 : FVec Ideal S8192x3072 .bf16) (A2 : FVec Ideal S8192x1024 .f32) (b : Fin 4) (h : Fin 8) (s t : Fin 2048) :
    dp A0 A2 (ix4 b h s t) = ∑ d : Fin 128, g A2 (ix4 b h s d) * v A0 (ix4 b h t d) := by
  unfold dp; pointwise
theorem dl_apply (A0 : FVec Ideal S8192x3072 .bf16) (A1 : FVec Ideal S4x8x2048 .f32) (A2 : FVec Ideal S8192x1024 .f32) (b : Fin 4) (h : Fin 8) (s : Fin 2048) :
    dl A0 A1 A2 (ix3 b h s) = -∑ t : Fin 2048, dp A0 A2 (ix4 b h s t) * Ideal.div 1 (l A0 A1 (ix4 b h s 0) * l A0 A1 (ix4 b h s 0)) * e A0 A1 (ix4 b h s t) := by
  unfold dl; pointwise
  exact Fin.sum_univ_one _
theorem ds_apply (A0 : FVec Ideal S8192x3072 .bf16) (A1 : FVec Ideal S4x8x2048 .f32) (A2 : FVec Ideal S8192x1024 .f32) (b : Fin 4) (h : Fin 8) (s t : Fin 2048) :
    ds A0 A1 A2 (ix4 b h s t) = if t ≤ s then (Ideal.div (dp A0 A2 (ix4 b h s t)) (l A0 A1 (ix4 b h s 0)) + dl A0 A1 A2 (ix3 b h s)) * e A0 A1 (ix4 b h s t) else 0 := by
  unfold ds; pointwise
  exact mask_eq t s _ _ 0 (by simp [Ideal.ofBits, Ideal.ieee])
theorem dq_apply (A0 : FVec Ideal S8192x3072 .bf16) (A1 : FVec Ideal S4x8x2048 .f32) (A2 : FVec Ideal S8192x1024 .f32) (b : Fin 4) (h : Fin 8) (s : Fin 2048) (d : Fin 128) :
    dq A0 A1 A2 (ix4 b h s d) = ∑ t : Fin 2048, ds A0 A1 A2 (ix4 b h s t) * Ideal.ofBits .f32 0x3DB504F3#32 * k A0 (ix4 b h t d) := by
  unfold dq; pointwise
theorem dk_apply (A0 : FVec Ideal S8192x3072 .bf16) (A1 : FVec Ideal S4x8x2048 .f32) (A2 : FVec Ideal S8192x1024 .f32) (b : Fin 4) (h : Fin 8) (t : Fin 2048) (d : Fin 128) :
    dk A0 A1 A2 (ix4 b h t d) = ∑ s : Fin 2048, ds A0 A1 A2 (ix4 b h s t) * Ideal.ofBits .f32 0x3DB504F3#32 * q A0 (ix4 b h s d) := by
  unfold dk; pointwise
theorem dv_apply (A0 : FVec Ideal S8192x3072 .bf16) (A1 : FVec Ideal S4x8x2048 .f32) (A2 : FVec Ideal S8192x1024 .f32) (b : Fin 4) (h : Fin 8) (t : Fin 2048) (d : Fin 128) :
    dv A0 A1 A2 (ix4 b h t d) = ∑ s : Fin 2048, g A2 (ix4 b h s d) * p A0 A1 (ix4 b h s t) := by
  unfold dv; pointwise
theorem r0_q (A0 : FVec Ideal S8192x3072 .bf16) (A1 : FVec Ideal S4x8x2048 .f32) (A2 : FVec Ideal S8192x1024 .f32) (b : Fin 4) (h : Fin 8) (s : Fin 2048) (d : Fin 128) :
    r0 A0 A1 A2 (ix2 ⟨2048 * b.val + s.val, by omega⟩ ⟨384 * h.val + d.val, by omega⟩) = dq A0 A1 A2 (ix4 b h s d) := by
  unfold r0; pointwise
  rw [dif_pos (by omega)]
theorem r0_k (A0 : FVec Ideal S8192x3072 .bf16) (A1 : FVec Ideal S4x8x2048 .f32) (A2 : FVec Ideal S8192x1024 .f32) (b : Fin 4) (h : Fin 8) (s : Fin 2048) (d : Fin 128) :
    r0 A0 A1 A2 (ix2 ⟨2048 * b.val + s.val, by omega⟩ ⟨384 * h.val + 128 + d.val, by omega⟩) = dk A0 A1 A2 (ix4 b h s d) := by
  unfold r0; pointwise
  rw [dif_neg (by omega), dif_pos (by omega)]
theorem r0_v (A0 : FVec Ideal S8192x3072 .bf16) (A1 : FVec Ideal S4x8x2048 .f32) (A2 : FVec Ideal S8192x1024 .f32) (b : Fin 4) (h : Fin 8) (s : Fin 2048) (d : Fin 128) :
    r0 A0 A1 A2 (ix2 ⟨2048 * b.val + s.val, by omega⟩ ⟨384 * h.val + 256 + d.val, by omega⟩) = dv A0 A1 A2 (ix4 b h s d) := by
  unfold r0; pointwise
  rw [dif_neg (by omega), dif_neg (by omega)]
theorem r1_apply (A0 : FVec Ideal S8192x3072 .bf16) (A1 : FVec Ideal S4x8x2048 .f32) (A2 : FVec Ideal S8192x1024 .f32) (b : Fin 4) (h : Fin 8) (s : Fin 2048) :
    r1 A0 A1 A2 (ix4 b h s 0) = ∑ t : Fin 2048, ds A0 A1 A2 (ix4 b h s t) := by
  unfold r1; pointwise
  exact Fin.sum_univ_one _
theorem r2_apply (A0 : FVec Ideal S8192x3072 .bf16) (A1 : FVec Ideal S4x8x2048 .f32) (A2 : FVec Ideal S8192x1024 .f32) (b : Fin 4) (h : Fin 8) (t : Fin 2048) :
    r2 A0 A1 A2 (ix4 b h 0 t) = ∑ s : Fin 2048, -ds A0 A1 A2 (ix4 b h s t) := by
  unfold r2; pointwise
  exact Fin.sum_univ_one _
theorem res0 (m : (ℓ : Loc nD τ sig) → Buf (Elt Ideal) ℓ) (c : Dev nD) : Value.res_main_v88 (F := Ideal) m c
    = r0 (m ((c : Thread nD τ).loc main_arg0)) (m ((c : Thread nD τ).loc main_arg1)) (m ((c : Thread nD τ).loc main_arg2)) := rfl
theorem res1 (m : (ℓ : Loc nD τ sig) → Buf (Elt Ideal) ℓ) (c : Dev nD) : Value.res_main_v89 (F := Ideal) m c
    = r1 (m ((c : Thread nD τ).loc main_arg0)) (m ((c : Thread nD τ).loc main_arg1)) (m ((c : Thread nD τ).loc main_arg2)) := rfl
theorem res2 (m : (ℓ : Loc nD τ sig) → Buf (Elt Ideal) ℓ) (c : Dev nD) : Value.res_main_v90 (F := Ideal) m c
    = r2 (m ((c : Thread nD τ).loc main_arg0)) (m ((c : Thread nD τ).loc main_arg1)) (m ((c : Thread nD τ).loc main_arg2)) := rfl

end Cert.FoxRefIdeal.Arr
-- ==== Proof.FoxBwdIdealPoint.lean ====
/- The attention's backward call at every grid point: its proof data, held to what one run of the body leaves, and the frame. -/
module

public import proofs.«01_k».proof.Proof.FoxBwdIdealRun
public import proofs.«01_k».proof.Proof.Gen.FoxBwdIdeal.Frame
public import Idealize.ShloMosaic.Lib.Pipeline.DatRel

@[expose] public section

set_option maxRecDepth 16384
set_option maxHeartbeats 2000000

noncomputable section

namespace Cert.FoxBwdIdeal.Outer

open Cert.FoxBwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligationRel)

variable {F : FTy → Type} [FloatOps F] [Named F]

local notation "𝕄G" => MT nD τ sig Unit (Elt F) ℕ (UR sig nD τ) ℕ

variable (m : (ℓ : Loc nD τ sig) → Buf (Elt F) ℓ) (ρ : Dev nD → PrngReg)

/-- What one run of the body at point `t` may leave in result window 11. -/
def Left11 (c : Dev nD) (t : Fin cfg0.N) (X : (cfg0.win 11).block.Idx → Elt F (cfg0.win 11).elt) : Prop :=
  ∃ (X_arg2 : BufTy.Contents (Elt F) (st0_0 t).view.ty) (X_arg3 : BufTy.Contents (Elt F) (st0_1 t).view.ty) (X_arg4 : BufTy.Contents (Elt F) (st0_2 t).view.ty) (X_arg5 : BufTy.Contents (Elt F) (st0_3 t).view.ty) (X_arg6 : BufTy.Contents (Elt F) (st0_4 t).view.ty) (X_arg7 : BufTy.Contents (Elt F) (st0_5 t).view.ty) (X_arg8 : BufTy.Contents (Elt F) (st0_6 t).view.ty) (X_arg9 : BufTy.Contents (Elt F) (st0_7 t).view.ty) (X_arg10 : BufTy.Contents (Elt F) (st0_8 t).view.ty) (X_arg11 : BufTy.Contents (Elt F) (st0_9 t).view.ty) (X_arg12 : BufTy.Contents (Elt F) (st0_10 t).view.ty) (f_arg13 : BufTy.Contents (Elt F) (st0_11 t).view.ty) (f_arg14 : BufTy.Contents (Elt F) (st0_12 t).view.ty) (f_arg15 : BufTy.Contents (Elt F) (st0_13 t).view.ty) (f_arg16 : BufTy.Contents (Elt F) (Memref.whole cc0_scratch0).view.ty) (f_arg17 : BufTy.Contents (Elt F) (Memref.whole cc0_scratch1).view.ty) (f_arg18 : BufTy.Contents (Elt F) (Memref.whole cc0_scratch2).view.ty),
    (st0_0 t).view.read (Elt F) X_arg2 = iblk m c 0 t ∧ (st0_1 t).view.read (Elt F) X_arg3 = iblk m c 1 t ∧ (st0_2 t).view.read (Elt F) X_arg4 = iblk m c 2 t ∧ (st0_3 t).view.read (Elt F) X_arg5 = iblk m c 3 t ∧ (st0_4 t).view.read (Elt F) X_arg6 = iblk m c 4 t ∧ (st0_5 t).view.read (Elt F) X_arg7 = iblk m c 5 t ∧ (st0_6 t).view.read (Elt F) X_arg8 = iblk m c 6 t ∧ (st0_7 t).view.read (Elt F) X_arg9 = iblk m c 7 t ∧ (st0_8 t).view.read (Elt F) X_arg10 = iblk m c 8 t ∧ (st0_9 t).view.read (Elt F) X_arg11 = iblk m c 9 t ∧ (st0_10 t).view.read (Elt F) X_arg12 = iblk m c 10 t ∧ X = (st0_11 t).view.read (Elt F) ((run (F := F) Variants.none c none (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (st0_10 t) (hstage0_10 ((cfg0.slots t 10).cast nbuf0_10)) (st0_11 t) (hstage0_11 ((cfg0.slots t 11).cast nbuf0_11)) (st0_12 t) (hstage0_12 ((cfg0.slots t 12).cast nbuf0_12)) (st0_13 t) (hstage0_13 ((cfg0.slots t 13).cast nbuf0_13)) (Memref.whole cc0_scratch0) (Memref.isWhole_whole _) (Memref.whole cc0_scratch1) (Memref.isWhole_whole _) (Memref.whole cc0_scratch2) (Memref.isWhole_whole _) X_arg2 X_arg3 X_arg4 X_arg5 X_arg6 X_arg7 X_arg8 X_arg9 X_arg10 X_arg11 X_arg12).1 f_arg13 f_arg14 f_arg15 f_arg16 f_arg17 f_arg18)

/-- What one run of the body at point `t` may leave in result window 12. -/
def Left12 (c : Dev nD) (t : Fin cfg0.N) (X : (cfg0.win 12).block.Idx → Elt F (cfg0.win 12).elt) : Prop :=
  ∃ (X_arg2 : BufTy.Contents (Elt F) (st0_0 t).view.ty) (X_arg3 : BufTy.Contents (Elt F) (st0_1 t).view.ty) (X_arg4 : BufTy.Contents (Elt F) (st0_2 t).view.ty) (X_arg5 : BufTy.Contents (Elt F) (st0_3 t).view.ty) (X_arg6 : BufTy.Contents (Elt F) (st0_4 t).view.ty) (X_arg7 : BufTy.Contents (Elt F) (st0_5 t).view.ty) (X_arg8 : BufTy.Contents (Elt F) (st0_6 t).view.ty) (X_arg9 : BufTy.Contents (Elt F) (st0_7 t).view.ty) (X_arg10 : BufTy.Contents (Elt F) (st0_8 t).view.ty) (X_arg11 : BufTy.Contents (Elt F) (st0_9 t).view.ty) (X_arg12 : BufTy.Contents (Elt F) (st0_10 t).view.ty) (f_arg13 : BufTy.Contents (Elt F) (st0_11 t).view.ty) (f_arg14 : BufTy.Contents (Elt F) (st0_12 t).view.ty) (f_arg15 : BufTy.Contents (Elt F) (st0_13 t).view.ty) (f_arg16 : BufTy.Contents (Elt F) (Memref.whole cc0_scratch0).view.ty) (f_arg17 : BufTy.Contents (Elt F) (Memref.whole cc0_scratch1).view.ty) (f_arg18 : BufTy.Contents (Elt F) (Memref.whole cc0_scratch2).view.ty),
    (st0_0 t).view.read (Elt F) X_arg2 = iblk m c 0 t ∧ (st0_1 t).view.read (Elt F) X_arg3 = iblk m c 1 t ∧ (st0_2 t).view.read (Elt F) X_arg4 = iblk m c 2 t ∧ (st0_3 t).view.read (Elt F) X_arg5 = iblk m c 3 t ∧ (st0_4 t).view.read (Elt F) X_arg6 = iblk m c 4 t ∧ (st0_5 t).view.read (Elt F) X_arg7 = iblk m c 5 t ∧ (st0_6 t).view.read (Elt F) X_arg8 = iblk m c 6 t ∧ (st0_7 t).view.read (Elt F) X_arg9 = iblk m c 7 t ∧ (st0_8 t).view.read (Elt F) X_arg10 = iblk m c 8 t ∧ (st0_9 t).view.read (Elt F) X_arg11 = iblk m c 9 t ∧ (st0_10 t).view.read (Elt F) X_arg12 = iblk m c 10 t ∧ X = (st0_12 t).view.read (Elt F) ((run (F := F) Variants.none c none (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (st0_10 t) (hstage0_10 ((cfg0.slots t 10).cast nbuf0_10)) (st0_11 t) (hstage0_11 ((cfg0.slots t 11).cast nbuf0_11)) (st0_12 t) (hstage0_12 ((cfg0.slots t 12).cast nbuf0_12)) (st0_13 t) (hstage0_13 ((cfg0.slots t 13).cast nbuf0_13)) (Memref.whole cc0_scratch0) (Memref.isWhole_whole _) (Memref.whole cc0_scratch1) (Memref.isWhole_whole _) (Memref.whole cc0_scratch2) (Memref.isWhole_whole _) X_arg2 X_arg3 X_arg4 X_arg5 X_arg6 X_arg7 X_arg8 X_arg9 X_arg10 X_arg11 X_arg12).2.1 f_arg13 f_arg14 f_arg15 f_arg16 f_arg17 f_arg18)

/-- What one run of the body at point `t` may leave in result window 13. -/
def Left13 (c : Dev nD) (t : Fin cfg0.N) (X : (cfg0.win 13).block.Idx → Elt F (cfg0.win 13).elt) : Prop :=
  ∃ (X_arg2 : BufTy.Contents (Elt F) (st0_0 t).view.ty) (X_arg3 : BufTy.Contents (Elt F) (st0_1 t).view.ty) (X_arg4 : BufTy.Contents (Elt F) (st0_2 t).view.ty) (X_arg5 : BufTy.Contents (Elt F) (st0_3 t).view.ty) (X_arg6 : BufTy.Contents (Elt F) (st0_4 t).view.ty) (X_arg7 : BufTy.Contents (Elt F) (st0_5 t).view.ty) (X_arg8 : BufTy.Contents (Elt F) (st0_6 t).view.ty) (X_arg9 : BufTy.Contents (Elt F) (st0_7 t).view.ty) (X_arg10 : BufTy.Contents (Elt F) (st0_8 t).view.ty) (X_arg11 : BufTy.Contents (Elt F) (st0_9 t).view.ty) (X_arg12 : BufTy.Contents (Elt F) (st0_10 t).view.ty) (f_arg13 : BufTy.Contents (Elt F) (st0_11 t).view.ty) (f_arg14 : BufTy.Contents (Elt F) (st0_12 t).view.ty) (f_arg15 : BufTy.Contents (Elt F) (st0_13 t).view.ty) (f_arg16 : BufTy.Contents (Elt F) (Memref.whole cc0_scratch0).view.ty) (f_arg17 : BufTy.Contents (Elt F) (Memref.whole cc0_scratch1).view.ty) (f_arg18 : BufTy.Contents (Elt F) (Memref.whole cc0_scratch2).view.ty),
    (st0_0 t).view.read (Elt F) X_arg2 = iblk m c 0 t ∧ (st0_1 t).view.read (Elt F) X_arg3 = iblk m c 1 t ∧ (st0_2 t).view.read (Elt F) X_arg4 = iblk m c 2 t ∧ (st0_3 t).view.read (Elt F) X_arg5 = iblk m c 3 t ∧ (st0_4 t).view.read (Elt F) X_arg6 = iblk m c 4 t ∧ (st0_5 t).view.read (Elt F) X_arg7 = iblk m c 5 t ∧ (st0_6 t).view.read (Elt F) X_arg8 = iblk m c 6 t ∧ (st0_7 t).view.read (Elt F) X_arg9 = iblk m c 7 t ∧ (st0_8 t).view.read (Elt F) X_arg10 = iblk m c 8 t ∧ (st0_9 t).view.read (Elt F) X_arg11 = iblk m c 9 t ∧ (st0_10 t).view.read (Elt F) X_arg12 = iblk m c 10 t ∧ X = (st0_13 t).view.read (Elt F) ((run (F := F) Variants.none c none (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (st0_10 t) (hstage0_10 ((cfg0.slots t 10).cast nbuf0_10)) (st0_11 t) (hstage0_11 ((cfg0.slots t 11).cast nbuf0_11)) (st0_12 t) (hstage0_12 ((cfg0.slots t 12).cast nbuf0_12)) (st0_13 t) (hstage0_13 ((cfg0.slots t 13).cast nbuf0_13)) (Memref.whole cc0_scratch0) (Memref.isWhole_whole _) (Memref.whole cc0_scratch1) (Memref.isWhole_whole _) (Memref.whole cc0_scratch2) (Memref.isWhole_whole _) X_arg2 X_arg3 X_arg4 X_arg5 X_arg6 X_arg7 X_arg8 X_arg9 X_arg10 X_arg11 X_arg12).2.2.1 f_arg13 f_arg14 f_arg15 f_arg16 f_arg17 f_arg18)

/-- The three result windows. -/
def marked : Fin cfg0.W → Bool := fun w => match w with
  | ⟨11, _⟩ => true
  | ⟨12, _⟩ => true
  | ⟨13, _⟩ => true
  | _ => false

/-- What is said of each result window after the body. -/
def Left (c : Dev nD) : (w : Fin cfg0.W) → Fin cfg0.N → ((cfg0.win w).block.Idx → Elt F (cfg0.win w).elt) → Prop := fun w t => match w with
  | ⟨11, _⟩ => Left11 m c t
  | ⟨12, _⟩ => Left12 m c t
  | ⟨13, _⟩ => Left13 m c t
  | _ => fun _ => True

/-- The proof data: the operands' blocks stay, the result windows are only related to what a run leaves. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => Pipeline.Dat.unnamed (cfg := cfg0) 11 t
    | ⟨12, _⟩ => Pipeline.Dat.unnamed (cfg := cfg0) 12 t
    | ⟨13, _⟩ => Pipeline.Dat.unnamed (cfg := cfg0) 13 t
  Φ _ := Pipeline.ΦA spec0 c
  q w := Pipeline.shareOf spec0 w
  owed _ := 0

theorem A_eq (c : Dev nD) (w : Fin cfg0.W) : (dats m 0 c).A w = V m c (Pipeline.arrRef spec0 w) := by dsimp only [dats]

theorem after0 (c : Dev nD) (t : Fin cfg0.N) : (dats m 0 c).after 0 t = iblk m c 0 t := by dsimp only [dats]
theorem before0 (c : Dev nD) (t : Fin cfg0.N) (d) : (dats m 0 c).before 0 t d = iblk m c 0 t :=
  before0_0_of m (dats m 0 c) (A_eq m c 0) (after0 m c) t d
theorem after1 (c : Dev nD) (t : Fin cfg0.N) : (dats m 0 c).after 1 t = iblk m c 1 t := by dsimp only [dats]
theorem before1 (c : Dev nD) (t : Fin cfg0.N) (d) : (dats m 0 c).before 1 t d = iblk m c 1 t :=
  before0_1_of m (dats m 0 c) (A_eq m c 1) (after1 m c) t d
theorem after2 (c : Dev nD) (t : Fin cfg0.N) : (dats m 0 c).after 2 t = iblk m c 2 t := by dsimp only [dats]
theorem before2 (c : Dev nD) (t : Fin cfg0.N) (d) : (dats m 0 c).before 2 t d = iblk m c 2 t :=
  before0_2_of m (dats m 0 c) (A_eq m c 2) (after2 m c) t d
theorem after3 (c : Dev nD) (t : Fin cfg0.N) : (dats m 0 c).after 3 t = iblk m c 3 t := by dsimp only [dats]
theorem before3 (c : Dev nD) (t : Fin cfg0.N) (d) : (dats m 0 c).before 3 t d = iblk m c 3 t :=
  before0_3_of m (dats m 0 c) (A_eq m c 3) (after3 m c) t d
theorem after4 (c : Dev nD) (t : Fin cfg0.N) : (dats m 0 c).after 4 t = iblk m c 4 t := by dsimp only [dats]
theorem before4 (c : Dev nD) (t : Fin cfg0.N) (d) : (dats m 0 c).before 4 t d = iblk m c 4 t :=
  before0_4_of m (dats m 0 c) (A_eq m c 4) (after4 m c) t d
theorem after5 (c : Dev nD) (t : Fin cfg0.N) : (dats m 0 c).after 5 t = iblk m c 5 t := by dsimp only [dats]
theorem before5 (c : Dev nD) (t : Fin cfg0.N) (d) : (dats m 0 c).before 5 t d = iblk m c 5 t :=
  before0_5_of m (dats m 0 c) (A_eq m c 5) (after5 m c) t d
theorem after6 (c : Dev nD) (t : Fin cfg0.N) : (dats m 0 c).after 6 t = iblk m c 6 t := by dsimp only [dats]
theorem before6 (c : Dev nD) (t : Fin cfg0.N) (d) : (dats m 0 c).before 6 t d = iblk m c 6 t :=
  before0_6_of m (dats m 0 c) (A_eq m c 6) (after6 m c) t d
theorem after7 (c : Dev nD) (t : Fin cfg0.N) : (dats m 0 c).after 7 t = iblk m c 7 t := by dsimp only [dats]
theorem before7 (c : Dev nD) (t : Fin cfg0.N) (d) : (dats m 0 c).before 7 t d = iblk m c 7 t :=
  before0_7_of m (dats m 0 c) (A_eq m c 7) (after7 m c) t d
theorem after8 (c : Dev nD) (t : Fin cfg0.N) : (dats m 0 c).after 8 t = iblk m c 8 t := by dsimp only [dats]
theorem before8 (c : Dev nD) (t : Fin cfg0.N) (d) : (dats m 0 c).before 8 t d = iblk m c 8 t :=
  before0_8_of m (dats m 0 c) (A_eq m c 8) (after8 m c) t d
theorem after9 (c : Dev nD) (t : Fin cfg0.N) : (dats m 0 c).after 9 t = iblk m c 9 t := by dsimp only [dats]
theorem before9 (c : Dev nD) (t : Fin cfg0.N) (d) : (dats m 0 c).before 9 t d = iblk m c 9 t :=
  before0_9_of m (dats m 0 c) (A_eq m c 9) (after9 m c) t d
theorem after10 (c : Dev nD) (t : Fin cfg0.N) : (dats m 0 c).after 10 t = iblk m c 10 t := by dsimp only [dats]
theorem before10 (c : Dev nD) (t : Fin cfg0.N) (d) : (dats m 0 c).before 10 t d = iblk m c 10 t :=
  before0_10_of m (dats m 0 c) (A_eq m c 10) (after10 m c) t d

/-- The class's invariant: the three scratch buffers at some contents and the generator register. -/
theorem phi_eq (c : Dev nD) : (Pipeline.ΦA spec0 c : sProp 𝕄G)
    = iprop(iprop((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d)) ∗ (∃ r, prngReg c r)) := by
  unfold Pipeline.ΦA; rw [scopedRest0_eq]; simp only [owns_whole]; try rfl

/-- What the body is called with at point `t`, -/
def bodyPre (c : Dev nD) (t : Fin cfg0.N) : sProp 𝕄G :=
  iprop((dats m 0 c).Φ t.castSucc ∗ (dats m 0 c).owesAt () t.castSucc ∗ (∃ d, owns (c : Thread nD τ) (st0_0 t) fullShare ((dats m 0 c).before 0 t d)) ∗ (∃ d, owns (c : Thread nD τ) (st0_1 t) fullShare ((dats m 0 c).before 1 t d)) ∗ (∃ d, owns (c : Thread nD τ) (st0_2 t) fullShare ((dats m 0 c).before 2 t d)) ∗ (∃ d, owns (c : Thread nD τ) (st0_3 t) fullShare ((dats m 0 c).before 3 t d)) ∗ (∃ d, owns (c : Thread nD τ) (st0_4 t) fullShare ((dats m 0 c).before 4 t d)) ∗ (∃ d, owns (c : Thread nD τ) (st0_5 t) fullShare ((dats m 0 c).before 5 t d)) ∗ (∃ d, owns (c : Thread nD τ) (st0_6 t) fullShare ((dats m 0 c).before 6 t d)) ∗ (∃ d, owns (c : Thread nD τ) (st0_7 t) fullShare ((dats m 0 c).before 7 t d)) ∗ (∃ d, owns (c : Thread nD τ) (st0_8 t) fullShare ((dats m 0 c).before 8 t d)) ∗ (∃ d, owns (c : Thread nD τ) (st0_9 t) fullShare ((dats m 0 c).before 9 t d)) ∗ (∃ d, owns (c : Thread nD τ) (st0_10 t) fullShare ((dats m 0 c).before 10 t d)) ∗ (∃ Y, ⌜((dats m 0 c).toRRel marked (Left m c)).Finds 11 t Y⌝ ∗ owns (c : Thread nD τ) (st0_11 t) fullShare Y) ∗ (∃ Y, ⌜((dats m 0 c).toRRel marked (Left m c)).Finds 12 t Y⌝ ∗ owns (c : Thread nD τ) (st0_12 t) fullShare Y) ∗ (∃ Y, ⌜((dats m 0 c).toRRel marked (Left m c)).Finds 13 t Y⌝ ∗ owns (c : Thread nD τ) (st0_13 t) fullShare Y))

/-- and what it returns. -/
def bodyPost (c : Dev nD) (t : Fin cfg0.N) : sProp 𝕄G :=
  iprop((dats m 0 c).Φ t.succ ∗ (dats m 0 c).owesAt () t.succ ∗ owns (c : Thread nD τ) (st0_0 t) fullShare ((dats m 0 c).after 0 t) ∗ owns (c : Thread nD τ) (st0_1 t) fullShare ((dats m 0 c).after 1 t) ∗ owns (c : Thread nD τ) (st0_2 t) fullShare ((dats m 0 c).after 2 t) ∗ owns (c : Thread nD τ) (st0_3 t) fullShare ((dats m 0 c).after 3 t) ∗ owns (c : Thread nD τ) (st0_4 t) fullShare ((dats m 0 c).after 4 t) ∗ owns (c : Thread nD τ) (st0_5 t) fullShare ((dats m 0 c).after 5 t) ∗ owns (c : Thread nD τ) (st0_6 t) fullShare ((dats m 0 c).after 6 t) ∗ owns (c : Thread nD τ) (st0_7 t) fullShare ((dats m 0 c).after 7 t) ∗ owns (c : Thread nD τ) (st0_8 t) fullShare ((dats m 0 c).after 8 t) ∗ owns (c : Thread nD τ) (st0_9 t) fullShare ((dats m 0 c).after 9 t) ∗ owns (c : Thread nD τ) (st0_10 t) fullShare ((dats m 0 c).after 10 t) ∗ (∃ X, ⌜Left m c 11 t X⌝ ∗ owns (c : Thread nD τ) (st0_11 t) fullShare X) ∗ (∃ X, ⌜Left m c 12 t X⌝ ∗ owns (c : Thread nD τ) (st0_12 t) fullShare X) ∗ (∃ X, ⌜Left m c 13 t X⌝ ∗ owns (c : Thread nD τ) (st0_13 t) fullShare X))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8, before9, before10]
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl, phi_eq, after0, after1, after2, after3, after4, after5, after6, after7, after8, after9, after10]
  unfold owns
  iintro ⟨⟨⟨⟨%s0, %g16, -, S0⟩, ⟨%s1, %g17, -, S1⟩, ⟨%s2, %g18, -, S2⟩⟩, Hg⟩, Ho, ⟨%d0, %x0, %e0, H0⟩, ⟨%d1, %x1, %e1, H1⟩, ⟨%d2, %x2, %e2, H2⟩, ⟨%d3, %x3, %e3, H3⟩, ⟨%d4, %x4, %e4, H4⟩, ⟨%d5, %x5, %e5, H5⟩, ⟨%d6, %x6, %e6, H6⟩, ⟨%d7, %x7, %e7, H7⟩, ⟨%d8, %x8, %e8, H8⟩, ⟨%d9, %x9, %e9, H9⟩, ⟨%d10, %x10, %e10, H10⟩, ⟨%d11, -, %g13, -, H11⟩, ⟨%d12, -, %g14, -, H12⟩, ⟨%d13, -, %g15, -, H13⟩⟩
  iapply (wp_wand_r frame (wpE (defs₀ (F := F)) Variants.none (c : Thread nD τ) none) Set.univ)
  isplitl [H0 H1 H2 H3 H4 H5 H6 H7 H8 H9 H10 H11 H12 H13 S0 S1 S2]
  · iapply ((run (F := F) Variants.none c none (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (st0_10 t) (hstage0_10 ((cfg0.slots t 10).cast nbuf0_10)) (st0_11 t) (hstage0_11 ((cfg0.slots t 11).cast nbuf0_11)) (st0_12 t) (hstage0_12 ((cfg0.slots t 12).cast nbuf0_12)) (st0_13 t) (hstage0_13 ((cfg0.slots t 13).cast nbuf0_13)) (Memref.whole cc0_scratch0) (Memref.isWhole_whole _) (Memref.whole cc0_scratch1) (Memref.isWhole_whole _) (Memref.whole cc0_scratch2) (Memref.isWhole_whole _) x0 x1 x2 x3 x4 x5 x6 x7 x8 x9 x10).2.2.2.2.2.2 Set.univ g13 g14 g15 g16 g17 g18)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [S0]; · iexact S0
    isplitl [S1]; · iexact S1
    iexact S2
  · iintro %y ⟨H0, H1, H2, H3, H4, H5, H6, H7, H8, H9, H10, H11, H12, H13, S0, S1, S2⟩
    isplitl [S0 S1 S2 Hg]
    · isplitl [S0 S1 S2]
      · isplitl [S0]
        · iexists _, _; isplitr; swap; · iexact S0
          ipureintro; rfl
        isplitl [S1]
        · iexists _, _; isplitr; swap; · iexact S1
          ipureintro; rfl
        iexists _, _; isplitr; swap; · iexact S2
        ipureintro; rfl
      iexact Hg
    isplitl [Ho]; · iexact Ho
    isplitl [H0]
    · iexists _; isplitr; swap; · iexact H0
      ipureintro; exact e0
    isplitl [H1]
    · iexists _; isplitr; swap; · iexact H1
      ipureintro; exact e1
    isplitl [H2]
    · iexists _; isplitr; swap; · iexact H2
      ipureintro; exact e2
    isplitl [H3]
    · iexists _; isplitr; swap; · iexact H3
      ipureintro; exact e3
    isplitl [H4]
    · iexists _; isplitr; swap; · iexact H4
      ipureintro; exact e4
    isplitl [H5]
    · iexists _; isplitr; swap; · iexact H5
      ipureintro; exact e5
    isplitl [H6]
    · iexists _; isplitr; swap; · iexact H6
      ipureintro; exact e6
    isplitl [H7]
    · iexists _; isplitr; swap; · iexact H7
      ipureintro; exact e7
    isplitl [H8]
    · iexists _; isplitr; swap; · iexact H8
      ipureintro; exact e8
    isplitl [H9]
    · iexists _; isplitr; swap; · iexact H9
      ipureintro; exact e9
    isplitl [H10]
    · iexists _; isplitr; swap; · iexact H10
      ipureintro; exact e10
    isplitl [H11]
    · iexists ((st0_11 t).view.read (Elt F) ((run (F := F) Variants.none c none (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (st0_10 t) (hstage0_10 ((cfg0.slots t 10).cast nbuf0_10)) (st0_11 t) (hstage0_11 ((cfg0.slots t 11).cast nbuf0_11)) (st0_12 t) (hstage0_12 ((cfg0.slots t 12).cast nbuf0_12)) (st0_13 t) (hstage0_13 ((cfg0.slots t 13).cast nbuf0_13)) (Memref.whole cc0_scratch0) (Memref.isWhole_whole _) (Memref.whole cc0_scratch1) (Memref.isWhole_whole _) (Memref.whole cc0_scratch2) (Memref.isWhole_whole _) x0 x1 x2 x3 x4 x5 x6 x7 x8 x9 x10).1 g13 g14 g15 g16 g17 g18)); isplitr
      · ipureintro; exact ⟨_, _, _, _, _, _, _, _, _, _, _, g13, g14, g15, g16, g17, g18, e0, e1, e2, e3, e4, e5, e6, e7, e8, e9, e10, rfl⟩
      iexists _; isplitr; swap; · iexact H11
      ipureintro; rfl
    isplitl [H12]
    · iexists ((st0_12 t).view.read (Elt F) ((run (F := F) Variants.none c none (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (st0_10 t) (hstage0_10 ((cfg0.slots t 10).cast nbuf0_10)) (st0_11 t) (hstage0_11 ((cfg0.slots t 11).cast nbuf0_11)) (st0_12 t) (hstage0_12 ((cfg0.slots t 12).cast nbuf0_12)) (st0_13 t) (hstage0_13 ((cfg0.slots t 13).cast nbuf0_13)) (Memref.whole cc0_scratch0) (Memref.isWhole_whole _) (Memref.whole cc0_scratch1) (Memref.isWhole_whole _) (Memref.whole cc0_scratch2) (Memref.isWhole_whole _) x0 x1 x2 x3 x4 x5 x6 x7 x8 x9 x10).2.1 g13 g14 g15 g16 g17 g18)); isplitr
      · ipureintro; exact ⟨_, _, _, _, _, _, _, _, _, _, _, g13, g14, g15, g16, g17, g18, e0, e1, e2, e3, e4, e5, e6, e7, e8, e9, e10, rfl⟩
      iexists _; isplitr; swap; · iexact H12
      ipureintro; rfl
    iexists ((st0_13 t).view.read (Elt F) ((run (F := F) Variants.none c none (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (st0_10 t) (hstage0_10 ((cfg0.slots t 10).cast nbuf0_10)) (st0_11 t) (hstage0_11 ((cfg0.slots t 11).cast nbuf0_11)) (st0_12 t) (hstage0_12 ((cfg0.slots t 12).cast nbuf0_12)) (st0_13 t) (hstage0_13 ((cfg0.slots t 13).cast nbuf0_13)) (Memref.whole cc0_scratch0) (Memref.isWhole_whole _) (Memref.whole cc0_scratch1) (Memref.isWhole_whole _) (Memref.whole cc0_scratch2) (Memref.isWhole_whole _) x0 x1 x2 x3 x4 x5 x6 x7 x8 x9 x10).2.2.1 g13 g14 g15 g16 g17 g18)); isplitr
    · ipureintro; exact ⟨_, _, _, _, _, _, _, _, _, _, _, g13, g14, g15, g16, g17, g18, e0, e1, e2, e3, e4, e5, e6, e7, e8, e9, e10, rfl⟩
    iexists _; isplitr; swap; · iexact H13
    ipureintro; rfl

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligationRel (dats (F := F) m 0 c) (defs₀ (F := F)) Variants.none () Set.univ marked (Left m c) := fun t => by
  rw [bigSep_W0, bigSep_W0, defs₀_row]
  exact triple_restated (sound_body m c t) rfl .rfl fun _ => .rfl

set_option backward.isDefEq.respectTransparency.types false in
/-- The launch: every execution ends, the operands as they were, each result array built of blocks a run may leave. -/
theorem run_main : θ_run defs (onTc (τ := τ) (main (F := F))) (s₀ m ρ)
    (fun r => Pipeline.RDat.FramePost (cfgs 0) (fun c => (dats m 0 c).toRRel marked (Left m c)) (V m) r ∧ r.2.sem = fun _ => 0) :=
  Pipeline.RDat.θ_run_frame_track_shared (Q' := _) cfgs (0 : Fin 1) launch₀0 defs₀ Variants.none (fun c => (dats m 0 c).toRRel marked (Left m c)) m ρ main
    (hbody := fun c => (body_obligation m c).toRRel) (hq := fun _ _ _ => rfl)
    (howed := fun _ _ => rfl) (V := V m) (hmain := hmain m Variants.none) (hA := fun c w => A_eq m c w) (hin := fun _ => .rfl) (hout := fun _ => .rfl)

/-- The frame: the three arguments end as they began. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨(h.1.arr_in c 5 rfl).trans ((A_eq m c 5).trans (V_main_arg0 m c)),
      ((h.1 c).2 main_arg1 (Pipeline.mem_restRefs_of main_arg1 (by decide) (by decide))).trans (V_main_arg1 m c),
      (h.1.arr_in c 10 rfl).trans ((A_eq m c 10).trans (V_main_arg2 m c))⟩) (run_main m ρ)

/-- The frame, and every semaphore counter at zero at the end. -/
theorem frame_quiet : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0) :=
  (θ_run defs _ _).mono (fun r h => ⟨fun c => ⟨(h.1.arr_in c 5 rfl).trans ((A_eq m c 5).trans (V_main_arg0 m c)),
      ((h.1 c).2 main_arg1 (Pipeline.mem_restRefs_of main_arg1 (by decide) (by decide))).trans (V_main_arg1 m c),
      (h.1.arr_in c 10 rfl).trans ((A_eq m c 10).trans (V_main_arg2 m c))⟩, h.2⟩) (run_main m ρ)

end Cert.FoxBwdIdeal.Outer

end
-- ==== Proof.FoxVal.lean ====
/-
  The attention's backward call: what it leaves in its three result arrays is the derivative that
  the reference computes, when the arguments are finite.
-/
module

public import proofs.«01_k».proof.Proof.FoxWin
public import proofs.«01_k».proof.Proof.FoxRefArr
public import proofs.«01_k».proof.Proof.FoxBwdIdealPoint
public import Idealize.ShloMosaic.Lib.Pipeline.ArrRel

@[expose] public section

set_option maxRecDepth 16384
set_option maxHeartbeats 1000000

noncomputable section

namespace Cert.FoxBwdIdeal.Outer

open Cert.FoxBwdIdeal Cert.FoxBwdIdeal.Gen
open Idealize.ShloMosaic Idealize.ShloMosaic.TcCoe Idealize.SL.Sem
open Idealize.ShloMosaic.Pipeline (Dat RDat)

section reference
variable (A0 : FVec Ideal S8192x3072 .bf16) (A1 : FVec Ideal S4x8x2048 .f32) (A2 : FVec Ideal S8192x1024 .f32) (b : Fin 4) (h : Fin 8)

open Cert.FoxRefIdeal.Arr in
theorem lo_ref (s t : Fin 2048) : lo A0 A1 (ix4 b h s t) = (hd A0 A1 A2 b h).lo s t := by
  rw [lo_apply]
  simp only [q_apply, k_apply]
  rfl
open Cert.FoxRefIdeal.Arr in
theorem mx_ref (s : Fin 2048) : mx A0 A1 (ix3 b h s) = (hd A0 A1 A2 b h).mx s := by
  rw [mx_apply]
  simp only [lo_ref A0 A1 A2]
  rfl
open Cert.FoxRefIdeal.Arr in
theorem e_ref (s t : Fin 2048) : e A0 A1 (ix4 b h s t) = (hd A0 A1 A2 b h).e s t := by
  rw [e_apply, lo_ref A0 A1 A2, mx_ref A0 A1 A2]
  rfl
open Cert.FoxRefIdeal.Arr in
theorem l_ref (s : Fin 2048) : l A0 A1 (ix4 b h s 0) = (hd A0 A1 A2 b h).l s := by
  rw [l_apply]
  simp only [e_ref A0 A1 A2]
  rfl
open Cert.FoxRefIdeal.Arr in
theorem p_ref (s t : Fin 2048) : p A0 A1 (ix4 b h s t) = (hd A0 A1 A2 b h).p s t := by
  rw [p_apply, e_ref A0 A1 A2, l_ref A0 A1 A2]
  rfl
open Cert.FoxRefIdeal.Arr in
theorem dp_ref (s t : Fin 2048) : dp A0 A2 (ix4 b h s t) = (hd A0 A1 A2 b h).dp s t := by
  rw [dp_apply]
  simp only [g_apply, v_apply]
  rfl
open Cert.FoxRefIdeal.Arr in
theorem dl_ref (s : Fin 2048) : dl A0 A1 A2 (ix3 b h s) = (hd A0 A1 A2 b h).dlr s := by
  rw [dl_apply]
  simp only [dp_ref A0 A1 A2, e_ref A0 A1 A2, l_ref A0 A1 A2]
  rfl
open Cert.FoxRefIdeal.Arr in
theorem ds_ref (s t : Fin 2048) : ds A0 A1 A2 (ix4 b h s t) = (hd A0 A1 A2 b h).dsr s t := by
  rw [ds_apply, dp_ref A0 A1 A2, e_ref A0 A1 A2, l_ref A0 A1 A2, dl_ref A0 A1 A2]
  rfl
open Cert.FoxRefIdeal.Arr in
theorem dq_ref (s : Fin 2048) (d : Fin 128) : dq A0 A1 A2 (ix4 b h s d)
    = ∑ t : Fin 2048, (hd A0 A1 A2 b h).dsr s t * Head.sc * (hd A0 A1 A2 b h).k t d := by
  rw [dq_apply]
  simp only [ds_ref A0 A1 A2, k_apply]
  rfl
open Cert.FoxRefIdeal.Arr in
theorem dk_ref (t : Fin 2048) (d : Fin 128) : dk A0 A1 A2 (ix4 b h t d)
    = ∑ s : Fin 2048, (hd A0 A1 A2 b h).dsr s t * Head.sc * (hd A0 A1 A2 b h).q s d := by
  rw [dk_apply]
  simp only [ds_ref A0 A1 A2, q_apply]
  rfl
open Cert.FoxRefIdeal.Arr in
theorem dv_ref (t : Fin 2048) (d : Fin 128) : dv A0 A1 A2 (ix4 b h t d)
    = ∑ s : Fin 2048, (hd A0 A1 A2 b h).g s d * (hd A0 A1 A2 b h).p s t := by
  rw [dv_apply]
  simp only [p_ref A0 A1 A2, g_apply]
  rfl
open Cert.FoxRefIdeal.Arr in
theorem r1_ref (s : Fin 2048) : r1 A0 A1 A2 (ix4 b h s 0) = ∑ t : Fin 2048, (hd A0 A1 A2 b h).dsr s t := by
  rw [r1_apply]
  simp only [ds_ref A0 A1 A2]
open Cert.FoxRefIdeal.Arr in
theorem r2_ref (t : Fin 2048) : r2 A0 A1 A2 (ix4 b h 0 t) = ∑ s : Fin 2048, -(hd A0 A1 A2 b h).dsr s t := by
  rw [r2_apply]
  simp only [ds_ref A0 A1 A2]
end reference

variable (m : (ℓ : Loc nD τ sig) → Buf (Elt Ideal) ℓ) (c : Dev nD)

/-- What a run may leave in result window 11, as a run on the two heads of its point. -/
theorem left11 (t : Fin cfg0.N) (X : (cfg0.win 11).block.Idx → Elt Ideal (cfg0.win 11).elt) (hX : Left11 m c t X) :
    ∃ p : Pt, p.fst = hd (A0 m c) (A1 m c) (A2 m c) (bt t) (h0 (pt t)) ∧ p.snd = hd (A0 m c) (A1 m c) (A2 m c) (bt t) (h1 (pt t))
      ∧ ∃ f13 f14 f15 f16 f17 f18, X = p.arg13.view.read (Elt Ideal) (p.Out.1 f13 f14 f15 f16 f17 f18) := by
  obtain ⟨X2, X3, X4, X5, X6, X7, X8, X9, X10, X11, X12, f13, f14, f15, f16, f17, f18, h2, h3, h4, h5, h6, h7, h8, h9, h10, h11, h12, rfl⟩ := hX
  refine ⟨⟨Variants.none, c, none, grid0.coords t, st0_0 t, hstage0_0 ((cfg0.slots t 0).cast nbuf0_0), st0_1 t, hstage0_1 ((cfg0.slots t 1).cast nbuf0_1), st0_2 t, hstage0_2 ((cfg0.slots t 2).cast nbuf0_2), st0_3 t, hstage0_3 ((cfg0.slots t 3).cast nbuf0_3), st0_4 t, hstage0_4 ((cfg0.slots t 4).cast nbuf0_4), st0_5 t, hstage0_5 ((cfg0.slots t 5).cast nbuf0_5), st0_6 t, hstage0_6 ((cfg0.slots t 6).cast nbuf0_6), st0_7 t, hstage0_7 ((cfg0.slots t 7).cast nbuf0_7), st0_8 t, hstage0_8 ((cfg0.slots t 8).cast nbuf0_8), st0_9 t, hstage0_9 ((cfg0.slots t 9).cast nbuf0_9), st0_10 t, hstage0_10 ((cfg0.slots t 10).cast nbuf0_10), st0_11 t, hstage0_11 ((cfg0.slots t 11).cast nbuf0_11), st0_12 t, hstage0_12 ((cfg0.slots t 12).cast nbuf0_12), st0_13 t, hstage0_13 ((cfg0.slots t 13).cast nbuf0_13), Memref.whole cc0_scratch0, Memref.isWhole_whole _, Memref.whole cc0_scratch1, Memref.isWhole_whole _, Memref.whole cc0_scratch2, Memref.isWhole_whole _, X2, X3, X4, X5, X6, X7, X8, X9, X10, X11, X12⟩, ?_, ?_, f13, f14, f15, f16, f17, f18, rfl⟩
  · exact Head.eq_of _ _ (fun s d => (congrFun h2 (ix2 s d)).trans (iblk0 m c t s d))
      (fun s d => (congrFun h3 (ix2 s d)).trans (iblk1 m c t s d))
      (fun s d => (congrFun h4 (ix2 s d)).trans (iblk2 m c t s d))
      (fun s d => (congrFun h12 (ix2 s ⟨d.val, by omega⟩)).trans (iblk10a m c t s d))
      (fun s d => (congrFun h10 (ix2 s ⟨d.val, by omega⟩)).trans (iblk8a m c t s d))
      (fun s => ((congrFun h8 (ix4 0 0 s 0)).trans (iblk6a m c t s)).trans (Arr.cq_apply _ _ _ _))
      (fun s => ((congrFun h9 (ix4 0 0 0 s)).trans (iblk7a m c t s)).trans (Arr.cr_apply _ _ _ _))
      (fun s => (congrFun h11 (ix4 0 0 s 0)).trans (iblk9a m c t s))
  · exact Head.eq_of _ _ (fun s d => (congrFun h5 (ix2 s d)).trans (iblk3 m c t s d))
      (fun s d => (congrFun h6 (ix2 s d)).trans (iblk4 m c t s d))
      (fun s d => (congrFun h7 (ix2 s d)).trans (iblk5 m c t s d))
      (fun s d => (congrFun h12 (ix2 s ⟨128 + d.val, by omega⟩)).trans (iblk10b m c t s d))
      (fun s d => (congrFun h10 (ix2 s ⟨128 + d.val, by omega⟩)).trans (iblk8b m c t s d))
      (fun s => ((congrFun h8 (ix4 0 1 s 0)).trans (iblk6b m c t s)).trans (Arr.cq_apply _ _ _ _))
      (fun s => ((congrFun h9 (ix4 0 1 0 s)).trans (iblk7b m c t s)).trans (Arr.cr_apply _ _ _ _))
      (fun s => (congrFun h11 (ix4 0 1 s 0)).trans (iblk9b m c t s))

/-- What a run may leave in result window 12, as a run on the two heads of its point. -/
theorem left12 (t : Fin cfg0.N) (X : (cfg0.win 12).block.Idx → Elt Ideal (cfg0.win 12).elt) (hX : Left12 m c t X) :
    ∃ p : Pt, p.fst = hd (A0 m c) (A1 m c) (A2 m c) (bt t) (h0 (pt t)) ∧ p.snd = hd (A0 m c) (A1 m c) (A2 m c) (bt t) (h1 (pt t))
      ∧ ∃ f13 f14 f15 f16 f17 f18, X = p.arg14.view.read (Elt Ideal) (p.Out.2.1 f13 f14 f15 f16 f17 f18) := by
  obtain ⟨X2, X3, X4, X5, X6, X7, X8, X9, X10, X11, X12, f13, f14, f15, f16, f17, f18, h2, h3, h4, h5, h6, h7, h8, h9, h10, h11, h12, rfl⟩ := hX
  refine ⟨⟨Variants.none, c, none, grid0.coords t, st0_0 t, hstage0_0 ((cfg0.slots t 0).cast nbuf0_0), st0_1 t, hstage0_1 ((cfg0.slots t 1).cast nbuf0_1), st0_2 t, hstage0_2 ((cfg0.slots t 2).cast nbuf0_2), st0_3 t, hstage0_3 ((cfg0.slots t 3).cast nbuf0_3), st0_4 t, hstage0_4 ((cfg0.slots t 4).cast nbuf0_4), st0_5 t, hstage0_5 ((cfg0.slots t 5).cast nbuf0_5), st0_6 t, hstage0_6 ((cfg0.slots t 6).cast nbuf0_6), st0_7 t, hstage0_7 ((cfg0.slots t 7).cast nbuf0_7), st0_8 t, hstage0_8 ((cfg0.slots t 8).cast nbuf0_8), st0_9 t, hstage0_9 ((cfg0.slots t 9).cast nbuf0_9), st0_10 t, hstage0_10 ((cfg0.slots t 10).cast nbuf0_10), st0_11 t, hstage0_11 ((cfg0.slots t 11).cast nbuf0_11), st0_12 t, hstage0_12 ((cfg0.slots t 12).cast nbuf0_12), st0_13 t, hstage0_13 ((cfg0.slots t 13).cast nbuf0_13), Memref.whole cc0_scratch0, Memref.isWhole_whole _, Memref.whole cc0_scratch1, Memref.isWhole_whole _, Memref.whole cc0_scratch2, Memref.isWhole_whole _, X2, X3, X4, X5, X6, X7, X8, X9, X10, X11, X12⟩, ?_, ?_, f13, f14, f15, f16, f17, f18, rfl⟩
  · exact Head.eq_of _ _ (fun s d => (congrFun h2 (ix2 s d)).trans (iblk0 m c t s d))
      (fun s d => (congrFun h3 (ix2 s d)).trans (iblk1 m c t s d))
      (fun s d => (congrFun h4 (ix2 s d)).trans (iblk2 m c t s d))
      (fun s d => (congrFun h12 (ix2 s ⟨d.val, by omega⟩)).trans (iblk10a m c t s d))
      (fun s d => (congrFun h10 (ix2 s ⟨d.val, by omega⟩)).trans (iblk8a m c t s d))
      (fun s => ((congrFun h8 (ix4 0 0 s 0)).trans (iblk6a m c t s)).trans (Arr.cq_apply _ _ _ _))
      (fun s => ((congrFun h9 (ix4 0 0 0 s)).trans (iblk7a m c t s)).trans (Arr.cr_apply _ _ _ _))
      (fun s => (congrFun h11 (ix4 0 0 s 0)).trans (iblk9a m c t s))
  · exact Head.eq_of _ _ (fun s d => (congrFun h5 (ix2 s d)).trans (iblk3 m c t s d))
      (fun s d => (congrFun h6 (ix2 s d)).trans (iblk4 m c t s d))
      (fun s d => (congrFun h7 (ix2 s d)).trans (iblk5 m c t s d))
      (fun s d => (congrFun h12 (ix2 s ⟨128 + d.val, by omega⟩)).trans (iblk10b m c t s d))
      (fun s d => (congrFun h10 (ix2 s ⟨128 + d.val, by omega⟩)).trans (iblk8b m c t s d))
      (fun s => ((congrFun h8 (ix4 0 1 s 0)).trans (iblk6b m c t s)).trans (Arr.cq_apply _ _ _ _))
      (fun s => ((congrFun h9 (ix4 0 1 0 s)).trans (iblk7b m c t s)).trans (Arr.cr_apply _ _ _ _))
      (fun s => (congrFun h11 (ix4 0 1 s 0)).trans (iblk9b m c t s))

/-- What a run may leave in result window 13, as a run on the two heads of its point. -/
theorem left13 (t : Fin cfg0.N) (X : (cfg0.win 13).block.Idx → Elt Ideal (cfg0.win 13).elt) (hX : Left13 m c t X) :
    ∃ p : Pt, p.fst = hd (A0 m c) (A1 m c) (A2 m c) (bt t) (h0 (pt t)) ∧ p.snd = hd (A0 m c) (A1 m c) (A2 m c) (bt t) (h1 (pt t))
      ∧ ∃ f13 f14 f15 f16 f17 f18, X = p.arg15.view.read (Elt Ideal) (p.Out.2.2.1 f13 f14 f15 f16 f17 f18) := by
  obtain ⟨X2, X3, X4, X5, X6, X7, X8, X9, X10, X11, X12, f13, f14, f15, f16, f17, f18, h2, h3, h4, h5, h6, h7, h8, h9, h10, h11, h12, rfl⟩ := hX
  refine ⟨⟨Variants.none, c, none, grid0.coords t, st0_0 t, hstage0_0 ((cfg0.slots t 0).cast nbuf0_0), st0_1 t, hstage0_1 ((cfg0.slots t 1).cast nbuf0_1), st0_2 t, hstage0_2 ((cfg0.slots t 2).cast nbuf0_2), st0_3 t, hstage0_3 ((cfg0.slots t 3).cast nbuf0_3), st0_4 t, hstage0_4 ((cfg0.slots t 4).cast nbuf0_4), st0_5 t, hstage0_5 ((cfg0.slots t 5).cast nbuf0_5), st0_6 t, hstage0_6 ((cfg0.slots t 6).cast nbuf0_6), st0_7 t, hstage0_7 ((cfg0.slots t 7).cast nbuf0_7), st0_8 t, hstage0_8 ((cfg0.slots t 8).cast nbuf0_8), st0_9 t, hstage0_9 ((cfg0.slots t 9).cast nbuf0_9), st0_10 t, hstage0_10 ((cfg0.slots t 10).cast nbuf0_10), st0_11 t, hstage0_11 ((cfg0.slots t 11).cast nbuf0_11), st0_12 t, hstage0_12 ((cfg0.slots t 12).cast nbuf0_12), st0_13 t, hstage0_13 ((cfg0.slots t 13).cast nbuf0_13), Memref.whole cc0_scratch0, Memref.isWhole_whole _, Memref.whole cc0_scratch1, Memref.isWhole_whole _, Memref.whole cc0_scratch2, Memref.isWhole_whole _, X2, X3, X4, X5, X6, X7, X8, X9, X10, X11, X12⟩, ?_, ?_, f13, f14, f15, f16, f17, f18, rfl⟩
  · exact Head.eq_of _ _ (fun s d => (congrFun h2 (ix2 s d)).trans (iblk0 m c t s d))
      (fun s d => (congrFun h3 (ix2 s d)).trans (iblk1 m c t s d))
      (fun s d => (congrFun h4 (ix2 s d)).trans (iblk2 m c t s d))
      (fun s d => (congrFun h12 (ix2 s ⟨d.val, by omega⟩)).trans (iblk10a m c t s d))
      (fun s d => (congrFun h10 (ix2 s ⟨d.val, by omega⟩)).trans (iblk8a m c t s d))
      (fun s => ((congrFun h8 (ix4 0 0 s 0)).trans (iblk6a m c t s)).trans (Arr.cq_apply _ _ _ _))
      (fun s => ((congrFun h9 (ix4 0 0 0 s)).trans (iblk7a m c t s)).trans (Arr.cr_apply _ _ _ _))
      (fun s => (congrFun h11 (ix4 0 0 s 0)).trans (iblk9a m c t s))
  · exact Head.eq_of _ _ (fun s d => (congrFun h5 (ix2 s d)).trans (iblk3 m c t s d))
      (fun s d => (congrFun h6 (ix2 s d)).trans (iblk4 m c t s d))
      (fun s d => (congrFun h7 (ix2 s d)).trans (iblk5 m c t s d))
      (fun s d => (congrFun h12 (ix2 s ⟨128 + d.val, by omega⟩)).trans (iblk10b m c t s d))
      (fun s d => (congrFun h10 (ix2 s ⟨128 + d.val, by omega⟩)).trans (iblk8b m c t s d))
      (fun s => ((congrFun h8 (ix4 0 1 s 0)).trans (iblk6b m c t s)).trans (Arr.cq_apply _ _ _ _))
      (fun s => ((congrFun h9 (ix4 0 1 0 s)).trans (iblk7b m c t s)).trans (Arr.cr_apply _ _ _ _))
      (fun s => (congrFun h11 (ix4 0 1 s 0)).trans (iblk9b m c t s))

section values
variable (f0 : ∀ i, A0 m c i ≠ ⊤ ∧ A0 m c i ≠ ⊥) (f1 : ∀ i, A1 m c i ≠ ⊤ ∧ A1 m c i ≠ ⊥) (f2 : ∀ i, A2 m c i ≠ ⊤ ∧ A2 m c i ≠ ⊥)
include f0 f1 f2

theorem value11 (t : Fin cfg0.N) (X : (cfg0.win 11).block.Idx → Elt Ideal (cfg0.win 11).elt) (hX : Left11 m c t X) (s : Fin 2048) (col : Fin 768) :
    X (ix2 s col) = Cert.FoxRefIdeal.Arr.r0 (A0 m c) (A1 m c) (A2 m c) (ix2 ⟨2048 * (bt t).val + s.val, by omega⟩ ⟨768 * (pt t).val + col.val, by omega⟩) := by
  obtain ⟨p, e0, e1, f13, f14, f15, f16, f17, f18, rfl⟩ := left11 m c t X hX
  have hc : col.val < 128 ∨ (128 ≤ col.val ∧ col.val < 256) ∨ (256 ≤ col.val ∧ col.val < 384) ∨ (384 ≤ col.val ∧ col.val < 512) ∨ (512 ≤ col.val ∧ col.val < 640) ∨ 640 ≤ col.val := by omega
  rcases hc with hc | hc | hc | hc | hc | hc
  · obtain ⟨d, hd⟩ : ∃ d : Fin 128, col.val = d.val := ⟨⟨col.val - 0, by omega⟩, by show col.val = (col.val - 0); omega⟩
    rw [show col = ⟨d.val, by omega⟩ from Fin.ext hd]
    refine ((Out_query p f13 f14 f15 f16 f17 f18 s).1 d).trans ?_
    rw [e0, Head.dq_of (hd_fine _ _ _ _ _ f0 f1 f2), ← dq_ref (A0 m c) (A1 m c) (A2 m c), ← Cert.FoxRefIdeal.Arr.r0_q]
    exact congrArg (fun x => Cert.FoxRefIdeal.Arr.r0 (A0 m c) (A1 m c) (A2 m c) (ix2 _ x)) (Fin.ext (by show 384 * (2 * (pt t).val) + d.val = 768 * (pt t).val + d.val; omega))
  · obtain ⟨d, hd⟩ : ∃ d : Fin 128, col.val = 128 + d.val := ⟨⟨col.val - 128, by omega⟩, by show col.val = 128 + (col.val - 128); omega⟩
    rw [show col = ⟨128 + d.val, by omega⟩ from Fin.ext hd]
    refine ((Out_key p f13 f14 f15 f16 f17 f18 s).1 d).trans ?_
    rw [e0, Head.dk_of (hd_fine _ _ _ _ _ f0 f1 f2), ← dk_ref (A0 m c) (A1 m c) (A2 m c), ← Cert.FoxRefIdeal.Arr.r0_k]
    exact congrArg (fun x => Cert.FoxRefIdeal.Arr.r0 (A0 m c) (A1 m c) (A2 m c) (ix2 _ x)) (Fin.ext (by show 384 * (2 * (pt t).val) + 128 + d.val = 768 * (pt t).val + (128 + d.val); omega))
  · obtain ⟨d, hd⟩ : ∃ d : Fin 128, col.val = 256 + d.val := ⟨⟨col.val - 256, by omega⟩, by show col.val = 256 + (col.val - 256); omega⟩
    rw [show col = ⟨256 + d.val, by omega⟩ from Fin.ext hd]
    refine ((Out_key p f13 f14 f15 f16 f17 f18 s).2.1 d).trans ?_
    rw [e0, Head.dv_of (hd_fine _ _ _ _ _ f0 f1 f2), ← dv_ref (A0 m c) (A1 m c) (A2 m c), ← Cert.FoxRefIdeal.Arr.r0_v]
    exact congrArg (fun x => Cert.FoxRefIdeal.Arr.r0 (A0 m c) (A1 m c) (A2 m c) (ix2 _ x)) (Fin.ext (by show 384 * (2 * (pt t).val) + 256 + d.val = 768 * (pt t).val + (256 + d.val); omega))
  · obtain ⟨d, hd⟩ : ∃ d : Fin 128, col.val = 384 + d.val := ⟨⟨col.val - 384, by omega⟩, by show col.val = 384 + (col.val - 384); omega⟩
    rw [show col = ⟨384 + d.val, by omega⟩ from Fin.ext hd]
    refine ((Out_query p f13 f14 f15 f16 f17 f18 s).2.2.1 d).trans ?_
    rw [e1, Head.dq_of (hd_fine _ _ _ _ _ f0 f1 f2), ← dq_ref (A0 m c) (A1 m c) (A2 m c), ← Cert.FoxRefIdeal.Arr.r0_q]
    exact congrArg (fun x => Cert.FoxRefIdeal.Arr.r0 (A0 m c) (A1 m c) (A2 m c) (ix2 _ x)) (Fin.ext (by show 384 * (2 * (pt t).val + 1) + d.val = 768 * (pt t).val + (384 + d.val); omega))
  · obtain ⟨d, hd⟩ : ∃ d : Fin 128, col.val = 512 + d.val := ⟨⟨col.val - 512, by omega⟩, by show col.val = 512 + (col.val - 512); omega⟩
    rw [show col = ⟨512 + d.val, by omega⟩ from Fin.ext hd]
    refine ((Out_key p f13 f14 f15 f16 f17 f18 s).2.2.2.1 d).trans ?_
    rw [e1, Head.dk_of (hd_fine _ _ _ _ _ f0 f1 f2), ← dk_ref (A0 m c) (A1 m c) (A2 m c), ← Cert.FoxRefIdeal.Arr.r0_k]
    exact congrArg (fun x => Cert.FoxRefIdeal.Arr.r0 (A0 m c) (A1 m c) (A2 m c) (ix2 _ x)) (Fin.ext (by show 384 * (2 * (pt t).val + 1) + 128 + d.val = 768 * (pt t).val + (512 + d.val); omega))
  · obtain ⟨d, hd⟩ : ∃ d : Fin 128, col.val = 640 + d.val := ⟨⟨col.val - 640, by omega⟩, by show col.val = 640 + (col.val - 640); omega⟩
    rw [show col = ⟨640 + d.val, by omega⟩ from Fin.ext hd]
    refine ((Out_key p f13 f14 f15 f16 f17 f18 s).2.2.2.2.1 d).trans ?_
    rw [e1, Head.dv_of (hd_fine _ _ _ _ _ f0 f1 f2), ← dv_ref (A0 m c) (A1 m c) (A2 m c), ← Cert.FoxRefIdeal.Arr.r0_v]
    exact congrArg (fun x => Cert.FoxRefIdeal.Arr.r0 (A0 m c) (A1 m c) (A2 m c) (ix2 _ x)) (Fin.ext (by show 384 * (2 * (pt t).val + 1) + 256 + d.val = 768 * (pt t).val + (640 + d.val); omega))

theorem value12 (t : Fin cfg0.N) (X : (cfg0.win 12).block.Idx → Elt Ideal (cfg0.win 12).elt) (hX : Left12 m c t X) (h : Fin 2) (s : Fin 2048) :
    X (ix4 0 h s 0) = Cert.FoxRefIdeal.Arr.r1 (A0 m c) (A1 m c) (A2 m c) (ix4 (bt t) ⟨2 * (pt t).val + h.val, by omega⟩ s 0) := by
  obtain ⟨p, e0, e1, f13, f14, f15, f16, f17, f18, rfl⟩ := left12 m c t X hX
  match h with
  | ⟨0, _⟩ =>
    refine ((Out_query p f13 f14 f15 f16 f17 f18 s).2.1).trans ?_
    rw [e0, Head.dcq_of (hd_fine _ _ _ _ _ f0 f1 f2), ← r1_ref (A0 m c) (A1 m c) (A2 m c)]
    rfl
  | ⟨1, _⟩ =>
    refine ((Out_query p f13 f14 f15 f16 f17 f18 s).2.2.2).trans ?_
    rw [e1, Head.dcq_of (hd_fine _ _ _ _ _ f0 f1 f2), ← r1_ref (A0 m c) (A1 m c) (A2 m c)]
    rfl

theorem value13 (t : Fin cfg0.N) (X : (cfg0.win 13).block.Idx → Elt Ideal (cfg0.win 13).elt) (hX : Left13 m c t X) (h : Fin 2) (s : Fin 2048) :
    X (ix4 0 h 0 s) = Cert.FoxRefIdeal.Arr.r2 (A0 m c) (A1 m c) (A2 m c) (ix4 (bt t) ⟨2 * (pt t).val + h.val, by omega⟩ 0 s) := by
  obtain ⟨p, e0, e1, f13, f14, f15, f16, f17, f18, rfl⟩ := left13 m c t X hX
  match h with
  | ⟨0, _⟩ =>
    refine ((Out_key p f13 f14 f15 f16 f17 f18 s).2.2.1).trans ?_
    rw [e0, Head.dcr_of (hd_fine _ _ _ _ _ f0 f1 f2), ← r2_ref (A0 m c) (A1 m c) (A2 m c)]
    rfl
  | ⟨1, _⟩ =>
    refine ((Out_key p f13 f14 f15 f16 f17 f18 s).2.2.2.2.2).trans ?_
    rw [e1, Head.dcr_of (hd_fine _ _ _ _ _ f0 f1 f2), ← r2_ref (A0 m c) (A1 m c) (A2 m c)]
    rfl

/-- Exact data of which each result block is something a run may leave give the reference's arrays. -/
theorem array11 (D : Dat τ (Elt Ideal) Unit ℕ (UR sig nD τ) ℕ cfg0 c) (hD : ∀ t, (cfg0.win 11).flush t = true → Left11 m c t (D.after 11 t)) :
    D.arrAt 11 cfg0.N = Cert.FoxRefIdeal.Arr.r0 (A0 m c) (A1 m c) (A2 m c) := by
  refine D.arrAt_eq_of_covers 11 _ (by decide +kernel) fun t hf y => ?_
  have hv := value11 m c f0 f1 f2 t (D.after 11 t) (hD t hf)
  blk_simp
  show D.after 11 t y = _
  have key : ∀ y : S2048x768.Idx, D.after 11 t y = (win0_11.blk t).view.read (Elt Ideal) (Cert.FoxRefIdeal.Arr.r0 (A0 m c) (A1 m c) (A2 m c)) y := by
    intro y
    rw [eq_ix2 y]
    exact (hv (y 0) (y 1)).trans (emb11 _ t (y 0) (y 1)).symm
  exact key y
theorem array12 (D : Dat τ (Elt Ideal) Unit ℕ (UR sig nD τ) ℕ cfg0 c) (hD : ∀ t, (cfg0.win 12).flush t = true → Left12 m c t (D.after 12 t)) :
    D.arrAt 12 cfg0.N = Cert.FoxRefIdeal.Arr.r1 (A0 m c) (A1 m c) (A2 m c) := by
  refine D.arrAt_eq_of_covers 12 _ (by decide +kernel) fun t hf y => ?_
  have hv := value12 m c f0 f1 f2 t (D.after 12 t) (hD t hf)
  blk_simp
  have key : ∀ y : S1x2x2048x1.Idx, D.after 12 t y = (win0_12.blk t).view.read (Elt Ideal) (Cert.FoxRefIdeal.Arr.r1 (A0 m c) (A1 m c) (A2 m c)) y := by
    intro y
    have y0 : y 0 = (0 : Fin 1) := Subsingleton.elim (α := Fin 1) _ _
    have yz : y 3 = (0 : Fin 1) := Subsingleton.elim (α := Fin 1) _ _
    rw [eq_ix4 y, y0, yz]
    exact (hv (y 1) (y 2)).trans (emb12 _ t (y 1) (y 2)).symm
  exact key y
theorem array13 (D : Dat τ (Elt Ideal) Unit ℕ (UR sig nD τ) ℕ cfg0 c) (hD : ∀ t, (cfg0.win 13).flush t = true → Left13 m c t (D.after 13 t)) :
    D.arrAt 13 cfg0.N = Cert.FoxRefIdeal.Arr.r2 (A0 m c) (A1 m c) (A2 m c) := by
  refine D.arrAt_eq_of_covers 13 _ (by decide +kernel) fun t hf y => ?_
  have hv := value13 m c f0 f1 f2 t (D.after 13 t) (hD t hf)
  blk_simp
  have key : ∀ y : S1x2x1x2048.Idx, D.after 13 t y = (win0_13.blk t).view.read (Elt Ideal) (Cert.FoxRefIdeal.Arr.r2 (A0 m c) (A1 m c) (A2 m c)) y := by
    intro y
    have y0 : y 0 = (0 : Fin 1) := Subsingleton.elim (α := Fin 1) _ _
    have yz : y 2 = (0 : Fin 1) := Subsingleton.elim (α := Fin 1) _ _
    rw [eq_ix4 y, y0, yz]
    exact (hv (y 1) (y 3)).trans (emb13 _ t (y 1) (y 3)).symm
  exact key y
end values

end Cert.FoxBwdIdeal.Outer
-- ==== Proof.FoxClaim.lean ====
/-
  The attention's backward call against the reference's derivative, for finite arguments.
-/
module

public import proofs.«01_k».proof.Defs
public import proofs.«01_k».proof.Proof.FoxVal
public import Idealize.ShloMosaic.Lib.ReduceAll
public import Idealize.ShloMosaic.Lib.Claim

@[expose] public section

set_option maxRecDepth 16384
set_option maxHeartbeats 1000000

noncomputable section

namespace Cert.Pre_fox_finite.Proof

open Idealize.ShloMosaic Cert.Pre_fox_finite

/-- The shape relations the predicate's operations take. -/
theorem facts : Cert.Pre_fox_finite.Facts where
  bitsLt_bf16_f32 := by decide
  bcast_S_S8192x3072 := by decide
  reducesTo_S8192x3072_S_d0_1 := by decide
  h_S_ := by decide
  bcast_S_S4x8x2048 := by decide
  reducesTo_S4x8x2048_S_d0_1_2 := by decide
  bcast_S_S8192x1024 := by decide
  reducesTo_S8192x1024_S_d0_1 := by decide

/-- A number whose size lies below infinity is neither infinity. -/
theorem finite_of {x : Ideal .f32} (h : FloatOps.cmpf .olt (FloatOps.absf x) (Scalar.ofBits .f32 0x7F800000#32 : Ideal .f32) = 1#1) :
    x ≠ ⊤ ∧ x ≠ ⊥ := by
  have htop : Ideal.ofBits .f32 0x7F800000#32 = ⊤ := by simp [Ideal.ofBits, Ideal.ieee]
  have h : Ideal.cmp .olt (max (x : EReal) (-(x : EReal))) (Ideal.ofBits .f32 0x7F800000#32) = 1#1 := h
  rw [htop] at h
  constructor
  · rintro rfl
    simp [Ideal.cmp] at h
  · rintro rfl
    simp [Ideal.cmp] at h

variable [Facts] (A0 : FVec Ideal S8192x3072 .bf16) (A1 : FVec Ideal S4x8x2048 .f32) (A2 : FVec Ideal S8192x1024 .f32)

/-- The predicate says that every element of the three arguments is finite. -/
theorem all (h : fn (F := Ideal) A0 A1 A2 = fun _ => 1#1) :
    (∀ i, A0 i ≠ ⊤ ∧ A0 i ≠ ⊥) ∧ (∀ i, A1 i ≠ ⊤ ∧ A1 i ≠ ⊥) ∧ (∀ i, A2 i ≠ ⊤ ∧ A2 i ≠ ⊥) := by
  have h := congrFun h ix0
  unfold fn at h
  dsimp only at h
  obtain ⟨h01, h2⟩ := IntOp.andi_eq_one.mp h
  obtain ⟨h0, h1⟩ := IntOp.andi_eq_one.mp h01
  refine ⟨fun i => ?_, fun i => ?_, fun i => ?_⟩
  · exact finite_of (Host.reduce_andi_all _ _ _ _ _ h0 i)
  · exact finite_of (Host.reduce_andi_all _ _ _ _ _ h1 i)
  · exact finite_of (Host.reduce_andi_all _ _ _ _ _ h2 i)

end Cert.Pre_fox_finite.Proof

namespace Cert.FoxBwdIdeal.Outer

open Cert.FoxBwdIdeal Cert.FoxBwdIdeal.Gen
open Idealize.ShloMosaic Idealize.ShloMosaic.TcCoe Idealize.SL.Sem
open Idealize.ShloMosaic.Pipeline (Dat RDat)

variable (m : (ℓ : Loc nD τ sig) → Buf (Elt Ideal) ℓ) (ρ : Dev nD → PrngReg)

/-- The call's run on finite arguments: three results, each the reference's array; arguments kept. -/
theorem run_value (f0 : ∀ c i, A0 m c i ≠ ⊤ ∧ A0 m c i ≠ ⊥) (f1 : ∀ c i, A1 m c i ≠ ⊤ ∧ A1 m c i ≠ ⊥) (f2 : ∀ c i, A2 m c i ≠ ⊤ ∧ A2 m c i ≠ ⊥) :
    θ_run defs (onTc (τ := τ) (main (F := Ideal))) ⟨m, fun _ => 0, ρ⟩ (fun r => ∀ c : Dev nD,
      r.2.mem ((c.tc : Thread nD τ).loc main_v38_0) = Cert.FoxRefIdeal.Arr.r0 (A0 m c) (A1 m c) (A2 m c)
      ∧ r.2.mem ((c.tc : Thread nD τ).loc main_v38_1) = Cert.FoxRefIdeal.Arr.r1 (A0 m c) (A1 m c) (A2 m c)
      ∧ r.2.mem ((c.tc : Thread nD τ).loc main_v38_2) = Cert.FoxRefIdeal.Arr.r2 (A0 m c) (A1 m c) (A2 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => by
    obtain ⟨after, hL, hA⟩ := h.1.exists_exact c
    refine ⟨(hA 11).trans (array11 m c (f0 c) (f1 c) (f2 c) _ fun t ht => ?_),
      (hA 12).trans (array12 m c (f0 c) (f1 c) (f2 c) _ fun t ht => ?_),
      (hA 13).trans (array13 m c (f0 c) (f1 c) (f2 c) _ fun t ht => ?_),
      (h.1.arr_in c 5 rfl).trans ((A_eq m c 5).trans (V_main_arg0 m c)),
      ((h.1 c).2 main_arg1 (Pipeline.mem_restRefs_of main_arg1 (by decide) (by decide))).trans (V_main_arg1 m c),
      (h.1.arr_in c 10 rfl).trans ((A_eq m c 10).trans (V_main_arg2 m c))⟩
    · exact ((dats m 0 c).toRRel_leaves (fgt := marked) (Rl := Left m c) (w := 11) rfl) (hL 11 t ht)
    · exact ((dats m 0 c).toRRel_leaves (fgt := marked) (Rl := Left m c) (w := 12) rfl) (hL 12 t ht)
    · exact ((dats m 0 c).toRRel_leaves (fgt := marked) (Rl := Left m c) (w := 13) rfl) (hL 13 t ht)) (run_main m ρ)

end Cert.FoxBwdIdeal.Outer

namespace Cert.Proof.Fox

open Idealize.ShloMosaic Idealize.SL.Sem

/-- The gradient of the attention call, as the reference's derivative computes it. -/
theorem algebraic [Cert.Pre_fox_finite.Facts] : Cert.algebraic_FoxBwdIdeal_FoxRefIdeal_pre_fox_finite := by
  intro m g m' g' hpre hagree
  have hf := fun c => Cert.Pre_fox_finite.Proof.all _ _ _ (hpre c)
  refine ⟨_, _, _, Cert.FoxBwdIdeal.Outer.run_value m g (fun c => (hf c).1) (fun c => (hf c).2.1) (fun c => (hf c).2.2), ?_⟩
  refine (θ_run Cert.FoxRefIdeal.defs _ _).mono (fun r h c => ?_) (Cert.FoxRefIdeal.Value.run (F := Ideal) m' g')
  have hr := h c
  obtain ⟨a0, a1, a2⟩ := hagree c
  refine ⟨hr.1.trans ?_, hr.2.1.trans ?_, hr.2.2.1.trans ?_, hr.2.2.2⟩
  · rw [Cert.FoxRefIdeal.Arr.res0, a0, a1, a2]
  · rw [Cert.FoxRefIdeal.Arr.res1, a0, a1, a2]
  · rw [Cert.FoxRefIdeal.Arr.res2, a0, a1, a2]

end Cert.Proof.Fox

end
-- ==== Proof.lean ====
module

public import proofs.«01_k».proof.Defs
public import proofs.«01_k».proof.Proof.Gen.MergeBwd
public import proofs.«01_k».proof.Proof.Gen.MergeBwd.Skeleton
public import proofs.«01_k».proof.Proof.Gen.MergeBwd.Launch
public import proofs.«01_k».proof.Proof.Gen.MergeBwd.Points
public import proofs.«01_k».proof.Proof.Gen.MergeBwd.Frame
public import proofs.«01_k».proof.Proof.Gen.MergeBwdIdeal
public import proofs.«01_k».proof.Proof.Gen.MergeBwdIdeal.Skeleton
public import proofs.«01_k».proof.Proof.Gen.MergeBwdIdeal.Launch
public import proofs.«01_k».proof.Proof.Gen.MergeBwdIdeal.Points
public import proofs.«01_k».proof.Proof.Gen.MergeBwdIdeal.Frame
public import proofs.«01_k».proof.Proof.Gen.MergeBwdIdeal.Value
public import proofs.«01_k».proof.Proof.Gen.MergeRefIdeal.Run
public import proofs.«01_k».proof.Proof.Gen.MergeRefIdeal
public import proofs.«01_k».proof.Proof.Gen.FoxBwd
public import proofs.«01_k».proof.Proof.Gen.FoxBwd.Skeleton
public import proofs.«01_k».proof.Proof.Gen.FoxBwd.Loops
public import proofs.«01_k».proof.Proof.Gen.FoxBwd.Launch
public import proofs.«01_k».proof.Proof.Gen.FoxBwd.Points
public import proofs.«01_k».proof.Proof.Gen.FoxBwd.Frame
public import proofs.«01_k».proof.Proof.Gen.FoxBwdIdeal
public import proofs.«01_k».proof.Proof.Gen.FoxBwdIdeal.Skeleton
public import proofs.«01_k».proof.Proof.Gen.FoxBwdIdeal.Loops
public import proofs.«01_k».proof.Proof.Gen.FoxBwdIdeal.Launch
public import proofs.«01_k».proof.Proof.Gen.FoxBwdIdeal.Points
public import proofs.«01_k».proof.Proof.Gen.FoxBwdIdeal.Frame
public import proofs.«01_k».proof.Proof.Gen.FoxRefIdeal
public import proofs.«01_k».proof.Proof.Gen.FoxRefIdeal.Run
public import proofs.«01_k».proof.Proof.Gen.DAct
public import proofs.«01_k».proof.Proof.Gen.DAct.Skeleton
public import proofs.«01_k».proof.Proof.Gen.DAct.Launch
public import proofs.«01_k».proof.Proof.Gen.DAct.Points
public import proofs.«01_k».proof.Proof.Gen.DAct.Frame
public import proofs.«01_k».proof.Proof.Gen.DActIdeal
public import proofs.«01_k».proof.Proof.Gen.DActIdeal.Skeleton
public import proofs.«01_k».proof.Proof.Gen.DActIdeal.Launch
public import proofs.«01_k».proof.Proof.Gen.DActIdeal.Points
public import proofs.«01_k».proof.Proof.Gen.DActIdeal.Frame
public import proofs.«01_k».proof.Proof.Gen.DActIdeal.Value
public import proofs.«01_k».proof.Proof.Gen.DActRefIdeal
public import proofs.«01_k».proof.Proof.Gen.DActRefIdeal.Run
public import proofs.«01_k».proof.Proof.Gen.DHn2
public import proofs.«01_k».proof.Proof.Gen.DHn2.Skeleton
public import proofs.«01_k».proof.Proof.Gen.DHn2.Launch
public import proofs.«01_k».proof.Proof.Gen.DHn2.Points
public import proofs.«01_k».proof.Proof.Gen.DHn2.Frame
public import proofs.«01_k».proof.Proof.Gen.DHn2Ideal
public import proofs.«01_k».proof.Proof.Gen.DHn2Ideal.Skeleton
public import proofs.«01_k».proof.Proof.Gen.DHn2Ideal.Launch
public import proofs.«01_k».proof.Proof.Gen.DHn2Ideal.Points
public import proofs.«01_k».proof.Proof.Gen.DHn2Ideal.Frame
public import proofs.«01_k».proof.Proof.Gen.DHn2Ideal.Value
public import proofs.«01_k».proof.Proof.Gen.DHn2RefIdeal
public import proofs.«01_k».proof.Proof.Gen.DHn2RefIdeal.Run
public import proofs.«01_k».proof.Proof.Gen.DBranch
public import proofs.«01_k».proof.Proof.Gen.DBranch.Skeleton
public import proofs.«01_k».proof.Proof.Gen.DBranch.Launch
public import proofs.«01_k».proof.Proof.Gen.DBranch.Points
public import proofs.«01_k».proof.Proof.Gen.DBranch.Frame
public import proofs.«01_k».proof.Proof.Gen.DBranchIdeal
public import proofs.«01_k».proof.Proof.Gen.DBranchIdeal.Skeleton
public import proofs.«01_k».proof.Proof.Gen.DBranchIdeal.Launch
public import proofs.«01_k».proof.Proof.Gen.DBranchIdeal.Points
public import proofs.«01_k».proof.Proof.Gen.DBranchIdeal.Frame
public import proofs.«01_k».proof.Proof.Gen.DBranchIdeal.Value
public import proofs.«01_k».proof.Proof.Gen.DBranchRefIdeal
public import proofs.«01_k».proof.Proof.Gen.DBranchRefIdeal.Run
public import proofs.«01_k».proof.Proof.Gen.DHFox
public import proofs.«01_k».proof.Proof.Gen.DHFox.Skeleton
public import proofs.«01_k».proof.Proof.Gen.DHFox.Launch
public import proofs.«01_k».proof.Proof.Gen.DHFox.Points
public import proofs.«01_k».proof.Proof.Gen.DHFox.Frame
public import proofs.«01_k».proof.Proof.Gen.DHFoxIdeal
public import proofs.«01_k».proof.Proof.Gen.DHFoxIdeal.Skeleton
public import proofs.«01_k».proof.Proof.Gen.DHFoxIdeal.Launch
public import proofs.«01_k».proof.Proof.Gen.DHFoxIdeal.Points
public import proofs.«01_k».proof.Proof.Gen.DHFoxIdeal.Frame
public import proofs.«01_k».proof.Proof.Gen.DHFoxIdeal.Value
public import proofs.«01_k».proof.Proof.Gen.DHFoxRefIdeal
public import proofs.«01_k».proof.Proof.Gen.DHFoxRefIdeal.Run
public import proofs.«01_k».proof.Proof.Gen.DHQkv
public import proofs.«01_k».proof.Proof.Gen.DHQkv.Skeleton
public import proofs.«01_k».proof.Proof.Gen.DHQkv.Launch
public import proofs.«01_k».proof.Proof.Gen.DHQkv.Points
public import proofs.«01_k».proof.Proof.Gen.DHQkv.Frame
public import proofs.«01_k».proof.Proof.Gen.DHQkvIdeal
public import proofs.«01_k».proof.Proof.Gen.DHQkvIdeal.Skeleton
public import proofs.«01_k».proof.Proof.Gen.DHQkvIdeal.Launch
public import proofs.«01_k».proof.Proof.Gen.DHQkvIdeal.Points
public import proofs.«01_k».proof.Proof.Gen.DHQkvIdeal.Frame
public import proofs.«01_k».proof.Proof.Gen.DHQkvIdeal.Value
public import proofs.«01_k».proof.Proof.Gen.DHQkvRefIdeal
public import proofs.«01_k».proof.Proof.Gen.DHQkvRefIdeal.Run
public import proofs.«01_k».proof.Proof.Gen.DHGates
public import proofs.«01_k».proof.Proof.Gen.DHGates.Skeleton
public import proofs.«01_k».proof.Proof.Gen.DHGates.Launch
public import proofs.«01_k».proof.Proof.Gen.DHGates.Points
public import proofs.«01_k».proof.Proof.Gen.DHGates.Frame
public import proofs.«01_k».proof.Proof.Gen.DHGatesIdeal
public import proofs.«01_k».proof.Proof.Gen.DHGatesIdeal.Skeleton
public import proofs.«01_k».proof.Proof.Gen.DHGatesIdeal.Launch
public import proofs.«01_k».proof.Proof.Gen.DHGatesIdeal.Points
public import proofs.«01_k».proof.Proof.Gen.DHGatesIdeal.Frame
public import proofs.«01_k».proof.Proof.Gen.DHGatesIdeal.Value
public import proofs.«01_k».proof.Proof.Gen.DHGatesRefIdeal
public import proofs.«01_k».proof.Proof.Gen.DHGatesRefIdeal.Run
public import proofs.«01_k».proof.Proof.Gen.DHGz
public import proofs.«01_k».proof.Proof.Gen.DHGz.Skeleton
public import proofs.«01_k».proof.Proof.Gen.DHGz.Launch
public import proofs.«01_k».proof.Proof.Gen.DHGz.Points
public import proofs.«01_k».proof.Proof.Gen.DHGz.Frame
public import proofs.«01_k».proof.Proof.Gen.DHGzIdeal
public import proofs.«01_k».proof.Proof.Gen.DHGzIdeal.Skeleton
public import proofs.«01_k».proof.Proof.Gen.DHGzIdeal.Launch
public import proofs.«01_k».proof.Proof.Gen.DHGzIdeal.Points
public import proofs.«01_k».proof.Proof.Gen.DHGzIdeal.Frame
public import proofs.«01_k».proof.Proof.Gen.DHGzIdeal.Value
public import proofs.«01_k».proof.Proof.Gen.DHGzRefIdeal
public import proofs.«01_k».proof.Proof.Gen.DHGzRefIdeal.Run
public import proofs.«01_k».proof.Proof.Gen.DwDown
public import proofs.«01_k».proof.Proof.Gen.DwDown.Skeleton
public import proofs.«01_k».proof.Proof.Gen.DwDown.Launch
public import proofs.«01_k».proof.Proof.Gen.DwDown.Points
public import proofs.«01_k».proof.Proof.Gen.DwDown.Frame
public import proofs.«01_k».proof.Proof.Gen.DwDownIdeal
public import proofs.«01_k».proof.Proof.Gen.DwDownIdeal.Skeleton
public import proofs.«01_k».proof.Proof.Gen.DwDownIdeal.Launch
public import proofs.«01_k».proof.Proof.Gen.DwDownIdeal.Points
public import proofs.«01_k».proof.Proof.Gen.DwDownIdeal.Frame
public import proofs.«01_k».proof.Proof.Gen.DwDownIdeal.Value
public import proofs.«01_k».proof.Proof.Gen.DwDownRefIdeal
public import proofs.«01_k».proof.Proof.Gen.DwDownRefIdeal.Run
public import proofs.«01_k».proof.Proof.Gen.DwUp
public import proofs.«01_k».proof.Proof.Gen.DwUp.Skeleton
public import proofs.«01_k».proof.Proof.Gen.DwUp.Launch
public import proofs.«01_k».proof.Proof.Gen.DwUp.Points
public import proofs.«01_k».proof.Proof.Gen.DwUp.Frame
public import proofs.«01_k».proof.Proof.Gen.DwUpIdeal
public import proofs.«01_k».proof.Proof.Gen.DwUpIdeal.Skeleton
public import proofs.«01_k».proof.Proof.Gen.DwUpIdeal.Launch
public import proofs.«01_k».proof.Proof.Gen.DwUpIdeal.Points
public import proofs.«01_k».proof.Proof.Gen.DwUpIdeal.Frame
public import proofs.«01_k».proof.Proof.Gen.DwUpIdeal.Value
public import proofs.«01_k».proof.Proof.Gen.DwUpRefIdeal
public import proofs.«01_k».proof.Proof.Gen.DwUpRefIdeal.Run
public import proofs.«01_k».proof.Proof.Gen.DwOut
public import proofs.«01_k».proof.Proof.Gen.DwOut.Skeleton
public import proofs.«01_k».proof.Proof.Gen.DwOut.Launch
public import proofs.«01_k».proof.Proof.Gen.DwOut.Points
public import proofs.«01_k».proof.Proof.Gen.DwOut.Frame
public import proofs.«01_k».proof.Proof.Gen.DwOutIdeal
public import proofs.«01_k».proof.Proof.Gen.DwOutIdeal.Skeleton
public import proofs.«01_k».proof.Proof.Gen.DwOutIdeal.Launch
public import proofs.«01_k».proof.Proof.Gen.DwOutIdeal.Points
public import proofs.«01_k».proof.Proof.Gen.DwOutIdeal.Frame
public import proofs.«01_k».proof.Proof.Gen.DwOutIdeal.Value
public import proofs.«01_k».proof.Proof.Gen.DwOutRefIdeal
public import proofs.«01_k».proof.Proof.Gen.DwOutRefIdeal.Run
public import proofs.«01_k».proof.Proof.Gen.DwQkv
public import proofs.«01_k».proof.Proof.Gen.DwQkv.Skeleton
public import proofs.«01_k».proof.Proof.Gen.DwQkv.Launch
public import proofs.«01_k».proof.Proof.Gen.DwQkv.Points
public import proofs.«01_k».proof.Proof.Gen.DwQkv.Frame
public import proofs.«01_k».proof.Proof.Gen.DwQkvIdeal
public import proofs.«01_k».proof.Proof.Gen.DwQkvIdeal.Skeleton
public import proofs.«01_k».proof.Proof.Gen.DwQkvIdeal.Launch
public import proofs.«01_k».proof.Proof.Gen.DwQkvIdeal.Points
public import proofs.«01_k».proof.Proof.Gen.DwQkvIdeal.Frame
public import proofs.«01_k».proof.Proof.Gen.DwQkvIdeal.Value
public import proofs.«01_k».proof.Proof.Gen.DwQkvRefIdeal
public import proofs.«01_k».proof.Proof.Gen.DwQkvRefIdeal.Run
public import proofs.«01_k».proof.Proof.Gen.DwGates
public import proofs.«01_k».proof.Proof.Gen.DwGates.Skeleton
public import proofs.«01_k».proof.Proof.Gen.DwGates.Launch
public import proofs.«01_k».proof.Proof.Gen.DwGates.Points
public import proofs.«01_k».proof.Proof.Gen.DwGates.Frame
public import proofs.«01_k».proof.Proof.Gen.DwGatesIdeal
public import proofs.«01_k».proof.Proof.Gen.DwGatesIdeal.Skeleton
public import proofs.«01_k».proof.Proof.Gen.DwGatesIdeal.Launch
public import proofs.«01_k».proof.Proof.Gen.DwGatesIdeal.Points
public import proofs.«01_k».proof.Proof.Gen.DwGatesIdeal.Frame
public import proofs.«01_k».proof.Proof.Gen.DwGatesIdeal.Value
public import proofs.«01_k».proof.Proof.Gen.DwGatesRefIdeal
public import proofs.«01_k».proof.Proof.Gen.DwGatesRefIdeal.Run
public import proofs.«01_k».proof.Proof.Gen.DwGz
public import proofs.«01_k».proof.Proof.Gen.DwGz.Skeleton
public import proofs.«01_k».proof.Proof.Gen.DwGz.Launch
public import proofs.«01_k».proof.Proof.Gen.DwGz.Points
public import proofs.«01_k».proof.Proof.Gen.DwGz.Frame
public import proofs.«01_k».proof.Proof.Gen.DwGzIdeal
public import proofs.«01_k».proof.Proof.Gen.DwGzIdeal.Skeleton
public import proofs.«01_k».proof.Proof.Gen.DwGzIdeal.Launch
public import proofs.«01_k».proof.Proof.Gen.DwGzIdeal.Points
public import proofs.«01_k».proof.Proof.Gen.DwGzIdeal.Frame
public import proofs.«01_k».proof.Proof.Gen.DwGzIdeal.Value
public import proofs.«01_k».proof.Proof.Gen.DwGzRefIdeal
public import proofs.«01_k».proof.Proof.Gen.DwGzRefIdeal.Run
public import proofs.«01_k».proof.Proof.Gen.ProjFox
public import proofs.«01_k».proof.Proof.Gen.ProjFox.Skeleton
public import proofs.«01_k».proof.Proof.Gen.ProjFox.Launch
public import proofs.«01_k».proof.Proof.Gen.ProjFox.Points
public import proofs.«01_k».proof.Proof.Gen.ProjFox.Frame
public import proofs.«01_k».proof.Proof.Gen.ProjFoxIdeal
public import proofs.«01_k».proof.Proof.Gen.ProjFoxIdeal.Skeleton
public import proofs.«01_k».proof.Proof.Gen.ProjFoxIdeal.Launch
public import proofs.«01_k».proof.Proof.Gen.ProjFoxIdeal.Points
public import proofs.«01_k».proof.Proof.Gen.ProjFoxIdeal.Frame
public import proofs.«01_k».proof.Proof.Gen.ProjFoxIdeal.Value
public import proofs.«01_k».proof.Proof.Gen.ProjFoxRefIdeal
public import proofs.«01_k».proof.Proof.Gen.ProjFoxRefIdeal.Run
public import proofs.«01_k».proof.Proof.Gen.ProjQkv
public import proofs.«01_k».proof.Proof.Gen.ProjQkv.Skeleton
public import proofs.«01_k».proof.Proof.Gen.ProjQkv.Launch
public import proofs.«01_k».proof.Proof.Gen.ProjQkv.Points
public import proofs.«01_k».proof.Proof.Gen.ProjQkv.Frame
public import proofs.«01_k».proof.Proof.Gen.ProjQkvIdeal
public import proofs.«01_k».proof.Proof.Gen.ProjQkvIdeal.Skeleton
public import proofs.«01_k».proof.Proof.Gen.ProjQkvIdeal.Launch
public import proofs.«01_k».proof.Proof.Gen.ProjQkvIdeal.Points
public import proofs.«01_k».proof.Proof.Gen.ProjQkvIdeal.Frame
public import proofs.«01_k».proof.Proof.Gen.ProjQkvIdeal.Value
public import proofs.«01_k».proof.Proof.Gen.ProjQkvRefIdeal
public import proofs.«01_k».proof.Proof.Gen.ProjQkvRefIdeal.Run
public import proofs.«01_k».proof.Proof.Gen.ProjGates
public import proofs.«01_k».proof.Proof.Gen.ProjGates.Skeleton
public import proofs.«01_k».proof.Proof.Gen.ProjGates.Launch
public import proofs.«01_k».proof.Proof.Gen.ProjGates.Points
public import proofs.«01_k».proof.Proof.Gen.ProjGates.Frame
public import proofs.«01_k».proof.Proof.Gen.ProjGatesIdeal
public import proofs.«01_k».proof.Proof.Gen.ProjGatesIdeal.Skeleton
public import proofs.«01_k».proof.Proof.Gen.ProjGatesIdeal.Launch
public import proofs.«01_k».proof.Proof.Gen.ProjGatesIdeal.Points
public import proofs.«01_k».proof.Proof.Gen.ProjGatesIdeal.Frame
public import proofs.«01_k».proof.Proof.Gen.ProjGatesIdeal.Value
public import proofs.«01_k».proof.Proof.Gen.ProjGatesRefIdeal
public import proofs.«01_k».proof.Proof.Gen.ProjGatesRefIdeal.Run
public import proofs.«01_k».proof.Proof.Gen.ProjGz
public import proofs.«01_k».proof.Proof.Gen.ProjGz.Skeleton
public import proofs.«01_k».proof.Proof.Gen.ProjGz.Launch
public import proofs.«01_k».proof.Proof.Gen.ProjGz.Points
public import proofs.«01_k».proof.Proof.Gen.ProjGz.Frame
public import proofs.«01_k».proof.Proof.Gen.ProjGzIdeal
public import proofs.«01_k».proof.Proof.Gen.ProjGzIdeal.Skeleton
public import proofs.«01_k».proof.Proof.Gen.ProjGzIdeal.Launch
public import proofs.«01_k».proof.Proof.Gen.ProjGzIdeal.Points
public import proofs.«01_k».proof.Proof.Gen.ProjGzIdeal.Frame
public import proofs.«01_k».proof.Proof.Gen.ProjGzIdeal.Value
public import proofs.«01_k».proof.Proof.Gen.ProjGzRefIdeal
public import proofs.«01_k».proof.Proof.Gen.ProjGzRefIdeal.Run
public import proofs.«01_k».proof.Proof.Gen.Branch
public import proofs.«01_k».proof.Proof.Gen.Branch.Skeleton
public import proofs.«01_k».proof.Proof.Gen.Branch.Launch
public import proofs.«01_k».proof.Proof.Gen.Branch.Points
public import proofs.«01_k».proof.Proof.Gen.Branch.Frame
public import proofs.«01_k».proof.Proof.Gen.BranchIdeal
public import proofs.«01_k».proof.Proof.Gen.BranchIdeal.Skeleton
public import proofs.«01_k».proof.Proof.Gen.BranchIdeal.Launch
public import proofs.«01_k».proof.Proof.Gen.BranchIdeal.Points
public import proofs.«01_k».proof.Proof.Gen.BranchIdeal.Frame
public import proofs.«01_k».proof.Proof.Gen.BranchIdeal.Value
public import proofs.«01_k».proof.Proof.Gen.BranchRefIdeal
public import proofs.«01_k».proof.Proof.Gen.BranchRefIdeal.Run
public import proofs.«01_k».proof.Proof.Gen.Up
public import proofs.«01_k».proof.Proof.Gen.Up.Skeleton
public import proofs.«01_k».proof.Proof.Gen.Up.Launch
public import proofs.«01_k».proof.Proof.Gen.Up.Points
public import proofs.«01_k».proof.Proof.Gen.Up.Frame
public import proofs.«01_k».proof.Proof.Gen.UpIdeal
public import proofs.«01_k».proof.Proof.Gen.UpIdeal.Skeleton
public import proofs.«01_k».proof.Proof.Gen.UpIdeal.Launch
public import proofs.«01_k».proof.Proof.Gen.UpIdeal.Points
public import proofs.«01_k».proof.Proof.Gen.UpIdeal.Frame
public import proofs.«01_k».proof.Proof.Gen.UpIdeal.Value
public import proofs.«01_k».proof.Proof.Gen.UpRefIdeal
public import proofs.«01_k».proof.Proof.Gen.UpRefIdeal.Run
public import proofs.«01_k».proof.Proof.Gen.AdamNorm
public import proofs.«01_k».proof.Proof.Gen.AdamNorm.Skeleton
public import proofs.«01_k».proof.Proof.Gen.AdamNorm.Launch
public import proofs.«01_k».proof.Proof.Gen.AdamNorm.Points
public import proofs.«01_k».proof.Proof.Gen.AdamNorm.Frame
public import proofs.«01_k».proof.Proof.Gen.AdamNormIdeal
public import proofs.«01_k».proof.Proof.Gen.AdamNormIdeal.Skeleton
public import proofs.«01_k».proof.Proof.Gen.AdamNormIdeal.Launch
public import proofs.«01_k».proof.Proof.Gen.AdamNormIdeal.Points
public import proofs.«01_k».proof.Proof.Gen.AdamNormIdeal.Frame
public import proofs.«01_k».proof.Proof.Gen.AdamNormIdeal.Value
public import proofs.«01_k».proof.Proof.Gen.AdamNormRefIdeal
public import proofs.«01_k».proof.Proof.Gen.AdamNormRefIdeal.Run
public import proofs.«01_k».proof.Proof.Gen.AdamIn
public import proofs.«01_k».proof.Proof.Gen.AdamIn.Skeleton
public import proofs.«01_k».proof.Proof.Gen.AdamIn.Launch
public import proofs.«01_k».proof.Proof.Gen.AdamIn.Points
public import proofs.«01_k».proof.Proof.Gen.AdamIn.Frame
public import proofs.«01_k».proof.Proof.Gen.AdamInIdeal
public import proofs.«01_k».proof.Proof.Gen.AdamInIdeal.Skeleton
public import proofs.«01_k».proof.Proof.Gen.AdamInIdeal.Launch
public import proofs.«01_k».proof.Proof.Gen.AdamInIdeal.Points
public import proofs.«01_k».proof.Proof.Gen.AdamInIdeal.Frame
public import proofs.«01_k».proof.Proof.Gen.AdamInIdeal.Value
public import proofs.«01_k».proof.Proof.Gen.AdamInRefIdeal
public import proofs.«01_k».proof.Proof.Gen.AdamInRefIdeal.Run
public import proofs.«01_k».proof.Proof.Gen.AdamHead
public import proofs.«01_k».proof.Proof.Gen.AdamHead.Skeleton
public import proofs.«01_k».proof.Proof.Gen.AdamHead.Launch
public import proofs.«01_k».proof.Proof.Gen.AdamHead.Points
public import proofs.«01_k».proof.Proof.Gen.AdamHead.Frame
public import proofs.«01_k».proof.Proof.Gen.AdamHeadIdeal
public import proofs.«01_k».proof.Proof.Gen.AdamHeadIdeal.Skeleton
public import proofs.«01_k».proof.Proof.Gen.AdamHeadIdeal.Launch
public import proofs.«01_k».proof.Proof.Gen.AdamHeadIdeal.Points
public import proofs.«01_k».proof.Proof.Gen.AdamHeadIdeal.Frame
public import proofs.«01_k».proof.Proof.Gen.AdamHeadIdeal.Value
public import proofs.«01_k».proof.Proof.Gen.AdamHeadRefIdeal
public import proofs.«01_k».proof.Proof.Gen.AdamHeadRefIdeal.Run
public import proofs.«01_k».proof.Proof.Gen.AdamConv
public import proofs.«01_k».proof.Proof.Gen.AdamConv.Skeleton
public import proofs.«01_k».proof.Proof.Gen.AdamConv.Launch
public import proofs.«01_k».proof.Proof.Gen.AdamConv.Points
public import proofs.«01_k».proof.Proof.Gen.AdamConv.Frame
public import proofs.«01_k».proof.Proof.Gen.AdamConvIdeal
public import proofs.«01_k».proof.Proof.Gen.AdamConvIdeal.Skeleton
public import proofs.«01_k».proof.Proof.Gen.AdamConvIdeal.Launch
public import proofs.«01_k».proof.Proof.Gen.AdamConvIdeal.Points
public import proofs.«01_k».proof.Proof.Gen.AdamConvIdeal.Frame
public import proofs.«01_k».proof.Proof.Gen.AdamConvIdeal.Value
public import proofs.«01_k».proof.Proof.Gen.AdamConvRefIdeal
public import proofs.«01_k».proof.Proof.Gen.AdamConvRefIdeal.Run
public import proofs.«01_k».proof.Proof.Gen.AdamGnorm
public import proofs.«01_k».proof.Proof.Gen.AdamGnorm.Skeleton
public import proofs.«01_k».proof.Proof.Gen.AdamGnorm.Launch
public import proofs.«01_k».proof.Proof.Gen.AdamGnorm.Points
public import proofs.«01_k».proof.Proof.Gen.AdamGnorm.Frame
public import proofs.«01_k».proof.Proof.Gen.AdamGnormIdeal
public import proofs.«01_k».proof.Proof.Gen.AdamGnormIdeal.Skeleton
public import proofs.«01_k».proof.Proof.Gen.AdamGnormIdeal.Launch
public import proofs.«01_k».proof.Proof.Gen.AdamGnormIdeal.Points
public import proofs.«01_k».proof.Proof.Gen.AdamGnormIdeal.Frame
public import proofs.«01_k».proof.Proof.Gen.AdamGnormIdeal.Value
public import proofs.«01_k».proof.Proof.Gen.AdamGnormRefIdeal
public import proofs.«01_k».proof.Proof.Gen.AdamGnormRefIdeal.Run
public import proofs.«01_k».proof.Proof.Gen.AdamOut
public import proofs.«01_k».proof.Proof.Gen.AdamOut.Skeleton
public import proofs.«01_k».proof.Proof.Gen.AdamOut.Launch
public import proofs.«01_k».proof.Proof.Gen.AdamOut.Points
public import proofs.«01_k».proof.Proof.Gen.AdamOut.Frame
public import proofs.«01_k».proof.Proof.Gen.AdamOutIdeal
public import proofs.«01_k».proof.Proof.Gen.AdamOutIdeal.Skeleton
public import proofs.«01_k».proof.Proof.Gen.AdamOutIdeal.Launch
public import proofs.«01_k».proof.Proof.Gen.AdamOutIdeal.Points
public import proofs.«01_k».proof.Proof.Gen.AdamOutIdeal.Frame
public import proofs.«01_k».proof.Proof.Gen.AdamOutIdeal.Value
public import proofs.«01_k».proof.Proof.Gen.AdamOutRefIdeal
public import proofs.«01_k».proof.Proof.Gen.AdamOutRefIdeal.Run
public import proofs.«01_k».proof.Proof.Gen.AdamUp
public import proofs.«01_k».proof.Proof.Gen.AdamUp.Skeleton
public import proofs.«01_k».proof.Proof.Gen.AdamUp.Launch
public import proofs.«01_k».proof.Proof.Gen.AdamUp.Points
public import proofs.«01_k».proof.Proof.Gen.AdamUp.Frame
public import proofs.«01_k».proof.Proof.Gen.AdamUpIdeal
public import proofs.«01_k».proof.Proof.Gen.AdamUpIdeal.Skeleton
public import proofs.«01_k».proof.Proof.Gen.AdamUpIdeal.Launch
public import proofs.«01_k».proof.Proof.Gen.AdamUpIdeal.Points
public import proofs.«01_k».proof.Proof.Gen.AdamUpIdeal.Frame
public import proofs.«01_k».proof.Proof.Gen.AdamUpIdeal.Value
public import proofs.«01_k».proof.Proof.Gen.AdamUpRefIdeal
public import proofs.«01_k».proof.Proof.Gen.AdamUpRefIdeal.Run
public import proofs.«01_k».proof.Proof.Gen.AdamFconv
public import proofs.«01_k».proof.Proof.Gen.AdamFconv.Skeleton
public import proofs.«01_k».proof.Proof.Gen.AdamFconv.Launch
public import proofs.«01_k».proof.Proof.Gen.AdamFconv.Points
public import proofs.«01_k».proof.Proof.Gen.AdamFconv.Frame
public import proofs.«01_k».proof.Proof.Gen.AdamFconvIdeal
public import proofs.«01_k».proof.Proof.Gen.AdamFconvIdeal.Skeleton
public import proofs.«01_k».proof.Proof.Gen.AdamFconvIdeal.Launch
public import proofs.«01_k».proof.Proof.Gen.AdamFconvIdeal.Points
public import proofs.«01_k».proof.Proof.Gen.AdamFconvIdeal.Frame
public import proofs.«01_k».proof.Proof.Gen.AdamFconvIdeal.Value
public import proofs.«01_k».proof.Proof.Gen.AdamFconvRefIdeal
public import proofs.«01_k».proof.Proof.Gen.AdamFconvRefIdeal.Run
public import proofs.«01_k».proof.Proof.Gen.AdamDown
public import proofs.«01_k».proof.Proof.Gen.AdamDown.Skeleton
public import proofs.«01_k».proof.Proof.Gen.AdamDown.Launch
public import proofs.«01_k».proof.Proof.Gen.AdamDown.Points
public import proofs.«01_k».proof.Proof.Gen.AdamDown.Frame
public import proofs.«01_k».proof.Proof.Gen.AdamDownIdeal
public import proofs.«01_k».proof.Proof.Gen.AdamDownIdeal.Skeleton
public import proofs.«01_k».proof.Proof.Gen.AdamDownIdeal.Launch
public import proofs.«01_k».proof.Proof.Gen.AdamDownIdeal.Points
public import proofs.«01_k».proof.Proof.Gen.AdamDownIdeal.Frame
public import proofs.«01_k».proof.Proof.Gen.AdamDownIdeal.Value
public import proofs.«01_k».proof.Proof.Gen.AdamDownRefIdeal
public import proofs.«01_k».proof.Proof.Gen.AdamDownRefIdeal.Run
public import proofs.«01_k».proof.Proof.Merge
public import proofs.«01_k».proof.Proof.Gen.GradX
public import proofs.«01_k».proof.Proof.Gen.GradX.Skeleton
public import proofs.«01_k».proof.Proof.Gen.GradX.Launch
public import proofs.«01_k».proof.Proof.Gen.GradX.Points
public import proofs.«01_k».proof.Proof.Gen.GradX.Frame
public import proofs.«01_k».proof.Proof.Gen.GradXIdeal
public import proofs.«01_k».proof.Proof.Gen.GradXIdeal.Skeleton
public import proofs.«01_k».proof.Proof.Gen.GradXIdeal.Launch
public import proofs.«01_k».proof.Proof.Gen.GradXIdeal.Points
public import proofs.«01_k».proof.Proof.Gen.GradXIdeal.Frame
public import proofs.«01_k».proof.Proof.Gen.GradXIdeal.Value
public import proofs.«01_k».proof.Proof.Gen.GradXRefIdeal
public import proofs.«01_k».proof.Proof.Gen.GradXRefIdeal.Run
public import proofs.«01_k».proof.Proof.Gen.DH1
public import proofs.«01_k».proof.Proof.Gen.DH1.Skeleton
public import proofs.«01_k».proof.Proof.Gen.DH1.Launch
public import proofs.«01_k».proof.Proof.Gen.DH1.Points
public import proofs.«01_k».proof.Proof.Gen.DH1.Frame
public import proofs.«01_k».proof.Proof.Gen.DH1Ideal
public import proofs.«01_k».proof.Proof.Gen.DH1Ideal.Skeleton
public import proofs.«01_k».proof.Proof.Gen.DH1Ideal.Launch
public import proofs.«01_k».proof.Proof.Gen.DH1Ideal.Points
public import proofs.«01_k».proof.Proof.Gen.DH1Ideal.Frame
public import proofs.«01_k».proof.Proof.Gen.DH1Ideal.Value
public import proofs.«01_k».proof.Proof.Gen.DH1RefIdeal
public import proofs.«01_k».proof.Proof.Gen.DH1RefIdeal.Run
public import proofs.«01_k».proof.Proof.Gen.DwSmall
public import proofs.«01_k».proof.Proof.Gen.DwSmall.Skeleton
public import proofs.«01_k».proof.Proof.Gen.DwSmall.Launch
public import proofs.«01_k».proof.Proof.Gen.DwSmall.Points
public import proofs.«01_k».proof.Proof.Gen.DwSmall.Frame
public import proofs.«01_k».proof.Proof.Gen.DwSmallIdeal
public import proofs.«01_k».proof.Proof.Gen.DwSmallIdeal.Skeleton
public import proofs.«01_k».proof.Proof.Gen.DwSmallIdeal.Launch
public import proofs.«01_k».proof.Proof.Gen.DwSmallIdeal.Points
public import proofs.«01_k».proof.Proof.Gen.DwSmallIdeal.Frame
public import proofs.«01_k».proof.Proof.Gen.DwSmallIdeal.Value
public import proofs.«01_k».proof.Proof.Gen.DwSmallRefIdeal
public import proofs.«01_k».proof.Proof.Gen.DwSmallRefIdeal.Run
public import proofs.«01_k».proof.Proof.Gen.Down
public import proofs.«01_k».proof.Proof.Gen.Down.Skeleton
public import proofs.«01_k».proof.Proof.Gen.Down.Launch
public import proofs.«01_k».proof.Proof.Gen.Down.Points
public import proofs.«01_k».proof.Proof.Gen.Down.Frame
public import proofs.«01_k».proof.Proof.Gen.DownIdeal
public import proofs.«01_k».proof.Proof.Gen.DownIdeal.Skeleton
public import proofs.«01_k».proof.Proof.Gen.DownIdeal.Launch
public import proofs.«01_k».proof.Proof.Gen.DownIdeal.Points
public import proofs.«01_k».proof.Proof.Gen.DownIdeal.Frame
public import proofs.«01_k».proof.Proof.Gen.DownIdeal.Value
public import proofs.«01_k».proof.Proof.Gen.DownRefIdeal
public import proofs.«01_k».proof.Proof.Gen.DownRefIdeal.Run
public import proofs.«01_k».proof.Proof.Gen.OutProj
public import proofs.«01_k».proof.Proof.Gen.OutProj.Skeleton
public import proofs.«01_k».proof.Proof.Gen.OutProj.Launch
public import proofs.«01_k».proof.Proof.Gen.OutProj.Points
public import proofs.«01_k».proof.Proof.Gen.OutProj.Frame
public import proofs.«01_k».proof.Proof.Gen.OutProjIdeal
public import proofs.«01_k».proof.Proof.Gen.OutProjIdeal.Skeleton
public import proofs.«01_k».proof.Proof.Gen.OutProjIdeal.Launch
public import proofs.«01_k».proof.Proof.Gen.OutProjIdeal.Points
public import proofs.«01_k».proof.Proof.Gen.OutProjIdeal.Frame
public import proofs.«01_k».proof.Proof.Gen.OutProjIdeal.Value
public import proofs.«01_k».proof.Proof.Gen.OutProjRefIdeal
public import proofs.«01_k».proof.Proof.Gen.OutProjRefIdeal.Run
public import proofs.«01_k».proof.Proof.Gen.BranchMerge
public import proofs.«01_k».proof.Proof.Gen.BranchMerge.Skeleton
public import proofs.«01_k».proof.Proof.Gen.BranchMerge.Launch
public import proofs.«01_k».proof.Proof.Gen.BranchMerge.Points
public import proofs.«01_k».proof.Proof.Gen.BranchMerge.Frame
public import proofs.«01_k».proof.Proof.Gen.BranchMergeIdeal
public import proofs.«01_k».proof.Proof.Gen.BranchMergeIdeal.Skeleton
public import proofs.«01_k».proof.Proof.Gen.BranchMergeIdeal.Launch
public import proofs.«01_k».proof.Proof.Gen.BranchMergeIdeal.Points
public import proofs.«01_k».proof.Proof.Gen.BranchMergeIdeal.Frame
public import proofs.«01_k».proof.Proof.Gen.BranchMergeIdeal.Value
public import proofs.«01_k».proof.Proof.Gen.BranchMergeRefIdeal
public import proofs.«01_k».proof.Proof.Gen.BranchMergeRefIdeal.Run
public import proofs.«01_k».proof.Proof.Gen.ProjSmall
public import proofs.«01_k».proof.Proof.Gen.ProjSmall.Skeleton
public import proofs.«01_k».proof.Proof.Gen.ProjSmall.Launch
public import proofs.«01_k».proof.Proof.Gen.ProjSmall.Points
public import proofs.«01_k».proof.Proof.Gen.ProjSmall.Frame
public import proofs.«01_k».proof.Proof.Gen.ProjSmallIdeal
public import proofs.«01_k».proof.Proof.Gen.ProjSmallIdeal.Skeleton
public import proofs.«01_k».proof.Proof.Gen.ProjSmallIdeal.Launch
public import proofs.«01_k».proof.Proof.Gen.ProjSmallIdeal.Points
public import proofs.«01_k».proof.Proof.Gen.ProjSmallIdeal.Frame
public import proofs.«01_k».proof.Proof.Gen.ProjSmallIdeal.Value
public import proofs.«01_k».proof.Proof.Gen.ProjSmallRefIdeal
public import proofs.«01_k».proof.Proof.Gen.ProjSmallRefIdeal.Run
public import proofs.«01_k».proof.Proof.Gen.NormMix
public import proofs.«01_k».proof.Proof.Gen.NormMix.Skeleton
public import proofs.«01_k».proof.Proof.Gen.NormMix.Launch
public import proofs.«01_k».proof.Proof.Gen.NormMix.Points
public import proofs.«01_k».proof.Proof.Gen.NormMix.Frame
public import proofs.«01_k».proof.Proof.Gen.NormMixIdeal
public import proofs.«01_k».proof.Proof.Gen.NormMixIdeal.Skeleton
public import proofs.«01_k».proof.Proof.Gen.NormMixIdeal.Launch
public import proofs.«01_k».proof.Proof.Gen.NormMixIdeal.Points
public import proofs.«01_k».proof.Proof.Gen.NormMixIdeal.Frame
public import proofs.«01_k».proof.Proof.Gen.NormMixIdeal.Value
public import proofs.«01_k».proof.Proof.Gen.NormMixRefIdeal
public import proofs.«01_k».proof.Proof.Gen.NormMixRefIdeal.Run
public import proofs.«01_k».proof.Proof.Gen.Gate
public import proofs.«01_k».proof.Proof.Gen.Gate.Skeleton
public import proofs.«01_k».proof.Proof.Gen.Gate.Launch
public import proofs.«01_k».proof.Proof.Gen.Gate.Points
public import proofs.«01_k».proof.Proof.Gen.Gate.Frame
public import proofs.«01_k».proof.Proof.Gen.GateIdeal
public import proofs.«01_k».proof.Proof.Gen.GateIdeal.Skeleton
public import proofs.«01_k».proof.Proof.Gen.GateIdeal.Launch
public import proofs.«01_k».proof.Proof.Gen.GateIdeal.Points
public import proofs.«01_k».proof.Proof.Gen.GateIdeal.Frame
public import proofs.«01_k».proof.Proof.Gen.GateIdeal.Value
public import proofs.«01_k».proof.Proof.Gen.GateRefIdeal
public import proofs.«01_k».proof.Proof.Gen.GateRefIdeal.Run
public import proofs.«01_k».proof.Proof.Optimiser
public import proofs.«01_k».proof.Proof.Norms
public import proofs.«01_k».proof.Proof.Products
public import proofs.«01_k».proof.Proof.FoxBwdPoint
public import proofs.«01_k».proof.Proof.FoxClaim
public import Idealize.ShloMosaic.Lib.Quiescent
public import Idealize.ShloMosaic.Adequacy
public import Idealize.ShloMosaic.Init

@[expose] public section

noncomputable section

namespace Cert.Proof

open Idealize.ShloMosaic Idealize.SL.Sem Cert.MergeBwd

/-- The reference declares no semaphore; its run leaves the arguments unchanged. -/
theorem frame_mergeRef : Cert.quiescent_MergeRefIdeal := by
  intro m g _
  exact (θ_run Cert.MergeRefIdeal.defs _ _).mono
    (fun r h => ⟨fun c => (h c).2.2.2, Idealize.ShloMosaic.sem_eq_zero_of_no_sems (by decide) r.2⟩)
    (Cert.MergeRefIdeal.Value.run (F := Ideal) m g)

/-- The attention call as the version has it: it runs, keeps its arguments, and is quiescent at the end. -/
theorem frame_fox : Cert.quiescent_FoxBwd := fun m g _ =>
  Cert.FoxBwd.Outer.frame_quiet m g

/-- The same of its idealization. -/
theorem frame_foxIdeal : Cert.quiescent_FoxBwdIdeal := fun m g _ => Cert.FoxBwdIdeal.Outer.frame_quiet m g

/-- The attention's reference runs on the host and keeps its arguments. -/
theorem frame_foxRef : Cert.quiescent_FoxRefIdeal := by
  intro m g _
  exact (θ_run Cert.FoxRefIdeal.defs _ _).mono
    (fun r h => ⟨fun c => (h c).2.2.2, Idealize.ShloMosaic.sem_eq_zero_of_no_sems (by decide) r.2⟩)
    (Cert.FoxRefIdeal.Value.run (F := Ideal) m g)

theorem claim : Cert.Claim :=
  haveI hp : Cert.Pre_fox_finite.Facts := Cert.Pre_fox_finite.Proof.facts
  ⟨Cert.FoxBwd.Gen.facts, Cert.FoxBwdIdeal.Gen.facts, Cert.FoxRefIdeal.Gen.facts,
    Cert.MergeBwd.Gen.facts, Cert.MergeBwdIdeal.Gen.facts, Cert.MergeRefIdeal.Gen.facts,
    Cert.DAct.Gen.facts, Cert.DActIdeal.Gen.facts, Cert.DActRefIdeal.Gen.facts,
    Cert.DHn2.Gen.facts, Cert.DHn2Ideal.Gen.facts, Cert.DHn2RefIdeal.Gen.facts,
    Cert.DBranch.Gen.facts, Cert.DBranchIdeal.Gen.facts, Cert.DBranchRefIdeal.Gen.facts,
    Cert.DHFox.Gen.facts, Cert.DHFoxIdeal.Gen.facts, Cert.DHFoxRefIdeal.Gen.facts,
    Cert.DHQkv.Gen.facts, Cert.DHQkvIdeal.Gen.facts, Cert.DHQkvRefIdeal.Gen.facts,
    Cert.DHGates.Gen.facts, Cert.DHGatesIdeal.Gen.facts, Cert.DHGatesRefIdeal.Gen.facts,
    Cert.DHGz.Gen.facts, Cert.DHGzIdeal.Gen.facts, Cert.DHGzRefIdeal.Gen.facts,
    Cert.DwDown.Gen.facts, Cert.DwDownIdeal.Gen.facts, Cert.DwDownRefIdeal.Gen.facts,
    Cert.DwUp.Gen.facts, Cert.DwUpIdeal.Gen.facts, Cert.DwUpRefIdeal.Gen.facts,
    Cert.DwOut.Gen.facts, Cert.DwOutIdeal.Gen.facts, Cert.DwOutRefIdeal.Gen.facts,
    Cert.DwQkv.Gen.facts, Cert.DwQkvIdeal.Gen.facts, Cert.DwQkvRefIdeal.Gen.facts,
    Cert.DwGates.Gen.facts, Cert.DwGatesIdeal.Gen.facts, Cert.DwGatesRefIdeal.Gen.facts,
    Cert.DwGz.Gen.facts, Cert.DwGzIdeal.Gen.facts, Cert.DwGzRefIdeal.Gen.facts,
    Cert.ProjFox.Gen.facts, Cert.ProjFoxIdeal.Gen.facts, Cert.ProjFoxRefIdeal.Gen.facts,
    Cert.ProjQkv.Gen.facts, Cert.ProjQkvIdeal.Gen.facts, Cert.ProjQkvRefIdeal.Gen.facts,
    Cert.ProjGates.Gen.facts, Cert.ProjGatesIdeal.Gen.facts, Cert.ProjGatesRefIdeal.Gen.facts,
    Cert.ProjGz.Gen.facts, Cert.ProjGzIdeal.Gen.facts, Cert.ProjGzRefIdeal.Gen.facts,
    Cert.Branch.Gen.facts, Cert.BranchIdeal.Gen.facts, Cert.BranchRefIdeal.Gen.facts,
    Cert.Up.Gen.facts, Cert.UpIdeal.Gen.facts, Cert.UpRefIdeal.Gen.facts,
    Cert.AdamNorm.Gen.facts, Cert.AdamNormIdeal.Gen.facts, Cert.AdamNormRefIdeal.Gen.facts,
    Cert.AdamIn.Gen.facts, Cert.AdamInIdeal.Gen.facts, Cert.AdamInRefIdeal.Gen.facts,
    Cert.AdamHead.Gen.facts, Cert.AdamHeadIdeal.Gen.facts, Cert.AdamHeadRefIdeal.Gen.facts,
    Cert.AdamConv.Gen.facts, Cert.AdamConvIdeal.Gen.facts, Cert.AdamConvRefIdeal.Gen.facts,
    Cert.AdamGnorm.Gen.facts, Cert.AdamGnormIdeal.Gen.facts, Cert.AdamGnormRefIdeal.Gen.facts,
    Cert.AdamOut.Gen.facts, Cert.AdamOutIdeal.Gen.facts, Cert.AdamOutRefIdeal.Gen.facts,
    Cert.AdamUp.Gen.facts, Cert.AdamUpIdeal.Gen.facts, Cert.AdamUpRefIdeal.Gen.facts,
    Cert.AdamFconv.Gen.facts, Cert.AdamFconvIdeal.Gen.facts, Cert.AdamFconvRefIdeal.Gen.facts,
    Cert.AdamDown.Gen.facts, Cert.AdamDownIdeal.Gen.facts, Cert.AdamDownRefIdeal.Gen.facts,
    Cert.GradX.Gen.facts, Cert.GradXIdeal.Gen.facts, Cert.GradXRefIdeal.Gen.facts,
    Cert.DH1.Gen.facts, Cert.DH1Ideal.Gen.facts, Cert.DH1RefIdeal.Gen.facts,
    Cert.DwSmall.Gen.facts, Cert.DwSmallIdeal.Gen.facts, Cert.DwSmallRefIdeal.Gen.facts,
    Cert.Down.Gen.facts, Cert.DownIdeal.Gen.facts, Cert.DownRefIdeal.Gen.facts,
    Cert.OutProj.Gen.facts, Cert.OutProjIdeal.Gen.facts, Cert.OutProjRefIdeal.Gen.facts,
    Cert.BranchMerge.Gen.facts, Cert.BranchMergeIdeal.Gen.facts, Cert.BranchMergeRefIdeal.Gen.facts,
    Cert.ProjSmall.Gen.facts, Cert.ProjSmallIdeal.Gen.facts, Cert.ProjSmallRefIdeal.Gen.facts,
    Cert.NormMix.Gen.facts, Cert.NormMixIdeal.Gen.facts, Cert.NormMixRefIdeal.Gen.facts,
    Cert.Gate.Gen.facts, Cert.GateIdeal.Gen.facts, Cert.GateRefIdeal.Gen.facts,
    hp,
    frame_fox, frame_foxIdeal, fun m g _ => frame_foxIdeal m g trivial, frame_foxRef, fun m g _ => frame_foxRef m g trivial,
    fun m ρ _ => Cert.MergeBwd.Gen.frame m ρ, fun m ρ _ => Cert.MergeBwdIdeal.Gen.frame m ρ, frame_mergeRef,
    fun m ρ _ => Cert.DAct.Gen.frame m ρ, fun m ρ _ => Cert.DActIdeal.Gen.frame m ρ, Cert.Proof.DAct.frame_ref,
    fun m ρ _ => Cert.DHn2.Gen.frame m ρ, fun m ρ _ => Cert.DHn2Ideal.Gen.frame m ρ, Cert.Proof.DHn2.frame_ref,
    fun m ρ _ => Cert.DBranch.Gen.frame m ρ, fun m ρ _ => Cert.DBranchIdeal.Gen.frame m ρ, Cert.Proof.DBranch.frame_ref,
    fun m ρ _ => Cert.DHFox.Gen.frame m ρ, fun m ρ _ => Cert.DHFoxIdeal.Gen.frame m ρ, Cert.Proof.DHFox.frame_ref,
    fun m ρ _ => Cert.DHQkv.Gen.frame m ρ, fun m ρ _ => Cert.DHQkvIdeal.Gen.frame m ρ, Cert.Proof.DHQkv.frame_ref,
    fun m ρ _ => Cert.DHGates.Gen.frame m ρ, fun m ρ _ => Cert.DHGatesIdeal.Gen.frame m ρ, Cert.Proof.DHGates.frame_ref,
    fun m ρ _ => Cert.DHGz.Gen.frame m ρ, fun m ρ _ => Cert.DHGzIdeal.Gen.frame m ρ, Cert.Proof.DHGz.frame_ref,
    fun m ρ _ => Cert.DwDown.Gen.frame m ρ, fun m ρ _ => Cert.DwDownIdeal.Gen.frame m ρ, Cert.Proof.DwDown.frame_ref,
    fun m ρ _ => Cert.DwUp.Gen.frame m ρ, fun m ρ _ => Cert.DwUpIdeal.Gen.frame m ρ, Cert.Proof.DwUp.frame_ref,
    fun m ρ _ => Cert.DwOut.Gen.frame m ρ, fun m ρ _ => Cert.DwOutIdeal.Gen.frame m ρ, Cert.Proof.DwOut.frame_ref,
    fun m ρ _ => Cert.DwQkv.Gen.frame m ρ, fun m ρ _ => Cert.DwQkvIdeal.Gen.frame m ρ, Cert.Proof.DwQkv.frame_ref,
    fun m ρ _ => Cert.DwGates.Gen.frame m ρ, fun m ρ _ => Cert.DwGatesIdeal.Gen.frame m ρ, Cert.Proof.DwGates.frame_ref,
    fun m ρ _ => Cert.DwGz.Gen.frame m ρ, fun m ρ _ => Cert.DwGzIdeal.Gen.frame m ρ, Cert.Proof.DwGz.frame_ref,
    fun m ρ _ => Cert.ProjFox.Gen.frame m ρ, fun m ρ _ => Cert.ProjFoxIdeal.Gen.frame m ρ, Cert.Proof.ProjFox.frame_ref,
    fun m ρ _ => Cert.ProjQkv.Gen.frame m ρ, fun m ρ _ => Cert.ProjQkvIdeal.Gen.frame m ρ, Cert.Proof.ProjQkv.frame_ref,
    fun m ρ _ => Cert.ProjGates.Gen.frame m ρ, fun m ρ _ => Cert.ProjGatesIdeal.Gen.frame m ρ, Cert.Proof.ProjGates.frame_ref,
    fun m ρ _ => Cert.ProjGz.Gen.frame m ρ, fun m ρ _ => Cert.ProjGzIdeal.Gen.frame m ρ, Cert.Proof.ProjGz.frame_ref,
    fun m ρ _ => Cert.Branch.Gen.frame m ρ, fun m ρ _ => Cert.BranchIdeal.Gen.frame m ρ, Cert.Proof.Branch.frame_ref,
    fun m ρ _ => Cert.Up.Gen.frame m ρ, fun m ρ _ => Cert.UpIdeal.Gen.frame m ρ, Cert.Proof.Up.frame_ref,
    fun m ρ _ => Cert.AdamNorm.Gen.frame m ρ, fun m ρ _ => Cert.AdamNormIdeal.Gen.frame m ρ, Cert.Proof.AdamNorm.frame_ref,
    fun m ρ _ => Cert.AdamIn.Gen.frame m ρ, fun m ρ _ => Cert.AdamInIdeal.Gen.frame m ρ, Cert.Proof.AdamIn.frame_ref,
    fun m ρ _ => Cert.AdamHead.Gen.frame m ρ, fun m ρ _ => Cert.AdamHeadIdeal.Gen.frame m ρ, Cert.Proof.AdamHead.frame_ref,
    fun m ρ _ => Cert.AdamConv.Gen.frame m ρ, fun m ρ _ => Cert.AdamConvIdeal.Gen.frame m ρ, Cert.Proof.AdamConv.frame_ref,
    fun m ρ _ => Cert.AdamGnorm.Gen.frame m ρ, fun m ρ _ => Cert.AdamGnormIdeal.Gen.frame m ρ, Cert.Proof.AdamGnorm.frame_ref,
    fun m ρ _ => Cert.AdamOut.Gen.frame m ρ, fun m ρ _ => Cert.AdamOutIdeal.Gen.frame m ρ, Cert.Proof.AdamOut.frame_ref,
    fun m ρ _ => Cert.AdamUp.Gen.frame m ρ, fun m ρ _ => Cert.AdamUpIdeal.Gen.frame m ρ, Cert.Proof.AdamUp.frame_ref,
    fun m ρ _ => Cert.AdamFconv.Gen.frame m ρ, fun m ρ _ => Cert.AdamFconvIdeal.Gen.frame m ρ, Cert.Proof.AdamFconv.frame_ref,
    fun m ρ _ => Cert.AdamDown.Gen.frame m ρ, fun m ρ _ => Cert.AdamDownIdeal.Gen.frame m ρ, Cert.Proof.AdamDown.frame_ref,
    fun m ρ _ => Cert.GradX.Gen.frame m ρ, fun m ρ _ => Cert.GradXIdeal.Gen.frame m ρ, Cert.Proof.GradX.frame_ref,
    fun m ρ _ => Cert.DH1.Gen.frame m ρ, fun m ρ _ => Cert.DH1Ideal.Gen.frame m ρ, Cert.Proof.DH1.frame_ref,
    fun m ρ _ => Cert.DwSmall.Gen.frame m ρ, fun m ρ _ => Cert.DwSmallIdeal.Gen.frame m ρ, Cert.Proof.DwSmall.frame_ref,
    fun m ρ _ => Cert.Down.Gen.frame m ρ, fun m ρ _ => Cert.DownIdeal.Gen.frame m ρ, Cert.Proof.Down.frame_ref,
    fun m ρ _ => Cert.OutProj.Gen.frame m ρ, fun m ρ _ => Cert.OutProjIdeal.Gen.frame m ρ, Cert.Proof.OutProj.frame_ref,
    fun m ρ _ => Cert.BranchMerge.Gen.frame m ρ, fun m ρ _ => Cert.BranchMergeIdeal.Gen.frame m ρ, Cert.Proof.BranchMerge.frame_ref,
    fun m ρ _ => Cert.ProjSmall.Gen.frame m ρ, fun m ρ _ => Cert.ProjSmallIdeal.Gen.frame m ρ, Cert.Proof.ProjSmall.frame_ref,
    fun m ρ _ => Cert.NormMix.Gen.frame m ρ, fun m ρ _ => Cert.NormMixIdeal.Gen.frame m ρ, Cert.Proof.NormMix.frame_ref,
    fun m ρ _ => Cert.Gate.Gen.frame m ρ, fun m ρ _ => Cert.GateIdeal.Gen.frame m ρ, Cert.Proof.Gate.frame_ref,
    Idealize.ShloMosaic.IdealRules.named_const.statement Cert.FoxBwdIdeal.κ "masked" .f32 0xF149F2CA#32 ⊥ rfl, Cert.Proof.Fox.algebraic, trivial, Cert.Proof.Merge.algebraic,
    trivial, Cert.Proof.DAct.algebraic,
    trivial, Cert.Proof.DHn2.algebraic,
    trivial, Cert.Proof.DBranch.algebraic,
    trivial, Cert.Proof.DHFox.algebraic,
    trivial, Cert.Proof.DHQkv.algebraic,
    trivial, Cert.Proof.DHGates.algebraic,
    trivial, Cert.Proof.DHGz.algebraic,
    trivial, Cert.Proof.DwDown.algebraic,
    trivial, Cert.Proof.DwUp.algebraic,
    trivial, Cert.Proof.DwOut.algebraic,
    trivial, Cert.Proof.DwQkv.algebraic,
    trivial, Cert.Proof.DwGates.algebraic,
    trivial, Cert.Proof.DwGz.algebraic,
    trivial, Cert.Proof.ProjFox.algebraic,
    trivial, Cert.Proof.ProjQkv.algebraic,
    trivial, Cert.Proof.ProjGates.algebraic,
    trivial, Cert.Proof.ProjGz.algebraic,
    trivial, Cert.Proof.Branch.algebraic,
    trivial, Cert.Proof.Up.algebraic,
    trivial, Cert.Proof.AdamNorm.algebraic,
    trivial, Cert.Proof.AdamIn.algebraic,
    trivial, Cert.Proof.AdamHead.algebraic,
    trivial, Cert.Proof.AdamConv.algebraic,
    trivial, Cert.Proof.AdamGnorm.algebraic,
    trivial, Cert.Proof.AdamOut.algebraic,
    trivial, Cert.Proof.AdamUp.algebraic,
    trivial, Cert.Proof.AdamFconv.algebraic,
    trivial, Cert.Proof.AdamDown.algebraic,
    trivial, Cert.Proof.GradX.algebraic,
    trivial, Cert.Proof.DH1.algebraic,
    trivial, Cert.Proof.DwSmall.algebraic,
    trivial, Cert.Proof.Down.algebraic,
    trivial, Cert.Proof.OutProj.algebraic,
    trivial, Cert.Proof.BranchMerge.algebraic,
    trivial, Cert.Proof.ProjSmall.algebraic,
    trivial, Cert.Proof.NormMix.algebraic,
    trivial, Cert.Proof.Gate.algebraic⟩

end Cert.Proof

end
